-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.1 = (fun _ => 1#1)
    ∧ (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.1 = (fun _ => 1#1)
    ∧ (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))).2.2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ln1Kernel (m : (ℓ : Loc Cert.Ln1Kernel.nD Cert.Ln1Kernel.τ Cert.Ln1Kernel.sig) → Buf (Elt Bits) ℓ) : Prop :=
  True

def Pre_Ln1KernelIdeal (m : (ℓ : Loc Cert.Ln1KernelIdeal.nD Cert.Ln1KernelIdeal.τ Cert.Ln1KernelIdeal.sig) → Buf (Elt Ideal) ℓ) : Prop :=
  True

def Pre_Ln1KernelIdeal_finite_ln1 [hPre_finite_ln1 : Cert.Pre_finite_ln1.Facts] (m : (ℓ : Loc Cert.Ln1KernelIdeal.nD Cert.Ln1KernelIdeal.τ Cert.Ln1KernelIdeal.sig) → Buf (Elt Ideal) ℓ) : Prop :=
  ∀ c : Dev Cert.Ln1KernelIdeal.nD,
    (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))).1 = (fun _ => 1#1)
    ∧ (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))).2.1 = (fun _ => 1#1)
    ∧ (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))).2.2.1 = (fun _ => 1#1)
    ∧ (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))).2.2.2.1 = (fun _ => 1#1)
    ∧ (Cert.Pre_finite_ln1.fn (F := Ideal) (m ((c.tc : Thread Cert.Ln1KernelIdeal.nD Cert.Ln1KernelIdeal.τ).loc Cert.Ln1KernelIdeal.main_arg0)) (m ((c.tc : Thread Cert.Ln1KernelIdeal.nD Cert.Ln1KernelIdeal.τ).loc Cert.Ln1KernelIdeal.main_arg1)) (m ((c.tc : Thread Cert.Ln1KernelIdeal.nD Cert.Ln1KernelIdeal.τ).loc Cert.Ln1KernelIdeal.main_arg2)) (m ((c.tc : Thread Cert.Ln1KernelIdeal.nD Cert.Ln1KernelIdeal.τ).loc Cert.Ln1KernelIdeal.main_arg3)) (m ((c.tc : Thread Cert.Ln1KernelIdeal.nD Cert.Ln1KernelIdeal.τ).loc Cert.Ln1KernelIdeal.main_arg4)) (m ((c.tc : Thread Cert.Ln1KernelIdeal.nD Cert.Ln1KernelIdeal.τ).loc Cert.Ln1KernelIdeal.main_arg5))).2.2.2.2 = (fun _ => 1#1)

def Pre_Ln1ReferenceIdeal (m : (ℓ : Loc Cert.Ln1ReferenceIdeal.nD Cert.Ln1ReferenceIdeal.τ Cert.Ln1ReferenceIdeal.sig) → Buf (Elt Ideal) ℓ) : Prop :=
  True

def Pre_Ln1ReferenceIdeal_finite_ln1 [hPre_finite_ln1 : Cert.Pre_finite_ln1.Facts] (m : (ℓ : Loc Cert.Ln1ReferenceIdeal.nD Cert.Ln1ReferenceIdeal.τ Cert.Ln1ReferenceIdeal.sig) → Buf (Elt Ideal) ℓ) : Prop :=
  ∀ c : Dev Cert.Ln1ReferenceIdeal.nD,
    (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))).1 = (fun _ => 1#1)
    ∧ (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))).2.1 = (fun _ => 1#1)
    ∧ (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))).2.2.1 = (fun _ => 1#1)
    ∧ (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))).2.2.2.1 = (fun _ => 1#1)
    ∧ (Cert.Pre_finite_ln1.fn (F := Ideal) (m ((c.tc : Thread Cert.Ln1ReferenceIdeal.nD Cert.Ln1ReferenceIdeal.τ).loc Cert.Ln1ReferenceIdeal.main_arg0)) (m ((c.tc : Thread Cert.Ln1ReferenceIdeal.nD Cert.Ln1ReferenceIdeal.τ).loc Cert.Ln1ReferenceIdeal.main_arg1)) (m ((c.tc : Thread Cert.Ln1ReferenceIdeal.nD Cert.Ln1ReferenceIdeal.τ).loc Cert.Ln1ReferenceIdeal.main_arg2)) (m ((c.tc : Thread Cert.Ln1ReferenceIdeal.nD Cert.Ln1ReferenceIdeal.τ).loc Cert.Ln1ReferenceIdeal.main_arg3)) (m ((c.tc : Thread Cert.Ln1ReferenceIdeal.nD Cert.Ln1ReferenceIdeal.τ).loc Cert.Ln1ReferenceIdeal.main_arg4)) (m ((c.tc : Thread Cert.Ln1ReferenceIdeal.nD Cert.Ln1ReferenceIdeal.τ).loc Cert.Ln1ReferenceIdeal.main_arg5))).2.2.2.2 = (fun _ => 1#1)

def Pre_Ln2Kernel (m : (ℓ : Loc Cert.Ln2Kernel.nD Cert.Ln2Kernel.τ Cert.Ln2Kernel.sig) → Buf (Elt Bits) ℓ) : Prop :=
  True

def Pre_Ln2KernelIdeal (m : (ℓ : Loc Cert.Ln2KernelIdeal.nD Cert.Ln2KernelIdeal.τ Cert.Ln2KernelIdeal.sig) → Buf (Elt Ideal) ℓ) : Prop :=
  True

def Pre_Ln2KernelIdeal_finite_ln2 [hPre_finite_ln2 : Cert.Pre_finite_ln2.Facts] (m : (ℓ : Loc Cert.Ln2KernelIdeal.nD Cert.Ln2KernelIdeal.τ Cert.Ln2KernelIdeal.sig) → Buf (Elt Ideal) ℓ) : Prop :=
  ∀ c : Dev Cert.Ln2KernelIdeal.nD,
    (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4)) (m ((c.tc : Thread Cert.Ln2KernelIdeal.nD Cert.Ln2KernelIdeal.τ).loc Cert.Ln2KernelIdeal.main_arg5))).1 = (fun _ => 1#1)
    ∧ (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4)) (m ((c.tc : Thread Cert.Ln2KernelIdeal.nD Cert.Ln2KernelIdeal.τ).loc Cert.Ln2KernelIdeal.main_arg5))).2.1 = (fun _ => 1#1)
    ∧ (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4)) (m ((c.tc : Thread Cert.Ln2KernelIdeal.nD Cert.Ln2KernelIdeal.τ).loc Cert.Ln2KernelIdeal.main_arg5))).2.2.1 = (fun _ => 1#1)
    ∧ (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4)) (m ((c.tc : Thread Cert.Ln2KernelIdeal.nD Cert.Ln2KernelIdeal.τ).loc Cert.Ln2KernelIdeal.main_arg5))).2.2.2.1 = (fun _ => 1#1)
    ∧ (Cert.Pre_finite_ln2.fn (F := Ideal) (m ((c.tc : Thread Cert.Ln2KernelIdeal.nD Cert.Ln2KernelIdeal.τ).loc Cert.Ln2KernelIdeal.main_arg0)) (m ((c.tc : Thread Cert.Ln2KernelIdeal.nD Cert.Ln2KernelIdeal.τ).loc Cert.Ln2KernelIdeal.main_arg1)) (m ((c.tc : Thread Cert.Ln2KernelIdeal.nD Cert.Ln2KernelIdeal.τ).loc Cert.Ln2KernelIdeal.main_arg2)) (m ((c.tc : Thread Cert.Ln2KernelIdeal.nD Cert.Ln2KernelIdeal.τ).loc Cert.Ln2KernelIdeal.main_arg3)) (m ((c.tc : Thread Cert.Ln2KernelIdeal.nD Cert.Ln2KernelIdeal.τ).loc Cert.Ln2KernelIdeal.main_arg4)) (m ((c.tc : Thread Cert.Ln2KernelIdeal.nD Cert.Ln2KernelIdeal.τ).loc Cert.Ln2KernelIdeal.main_arg5))).2.2.2.2 = (fun _ => 1#1)

def Pre_Ln2ReferenceIdeal (m : (ℓ : Loc Cert.Ln2ReferenceIdeal.nD Cert.Ln2ReferenceIdeal.τ Cert.Ln2ReferenceIdeal.sig) → Buf (Elt Ideal) ℓ) : Prop :=
  True

def Pre_Ln2ReferenceIdeal_finite_ln2 [hPre_finite_ln2 : Cert.Pre_finite_ln2.Facts] (m : (ℓ : Loc Cert.Ln2ReferenceIdeal.nD Cert.Ln2ReferenceIdeal.τ Cert.Ln2ReferenceIdeal.sig) → Buf (Elt Ideal) ℓ) : Prop :=
  ∀ c : Dev Cert.Ln2ReferenceIdeal.nD,
    (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4)) (m ((c.tc : Thread Cert.Ln2ReferenceIdeal.nD Cert.Ln2ReferenceIdeal.τ).loc Cert.Ln2ReferenceIdeal.main_arg5))).1 = (fun _ => 1#1)
    ∧ (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4)) (m ((c.tc : Thread Cert.Ln2ReferenceIdeal.nD Cert.Ln2ReferenceIdeal.τ).loc Cert.Ln2ReferenceIdeal.main_arg5))).2.1 = (fun _ => 1#1)
    ∧ (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4)) (m ((c.tc : Thread Cert.Ln2ReferenceIdeal.nD Cert.Ln2ReferenceIdeal.τ).loc Cert.Ln2ReferenceIdeal.main_arg5))).2.2.1 = (fun _ => 1#1)
    ∧ (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4)) (m ((c.tc : Thread Cert.Ln2ReferenceIdeal.nD Cert.Ln2ReferenceIdeal.τ).loc Cert.Ln2ReferenceIdeal.main_arg5))).2.2.2.1 = (fun _ => 1#1)
    ∧ (Cert.Pre_finite_ln2.fn (F := Ideal) (m ((c.tc : Thread Cert.Ln2ReferenceIdeal.nD Cert.Ln2ReferenceIdeal.τ).loc Cert.Ln2ReferenceIdeal.main_arg0)) (m ((c.tc : Thread Cert.Ln2ReferenceIdeal.nD Cert.Ln2ReferenceIdeal.τ).loc Cert.Ln2ReferenceIdeal.main_arg1)) (m ((c.tc : Thread Cert.Ln2ReferenceIdeal.nD Cert.Ln2ReferenceIdeal.τ).loc Cert.Ln2ReferenceIdeal.main_arg2)) (m ((c.tc : Thread Cert.Ln2ReferenceIdeal.nD Cert.Ln2ReferenceIdeal.τ).loc Cert.Ln2ReferenceIdeal.main_arg3)) (m ((c.tc : Thread Cert.Ln2ReferenceIdeal.nD Cert.Ln2ReferenceIdeal.τ).loc Cert.Ln2ReferenceIdeal.main_arg4)) (m ((c.tc : Thread Cert.Ln2ReferenceIdeal.nD Cert.Ln2ReferenceIdeal.τ).loc Cert.Ln2ReferenceIdeal.main_arg5))).2.2.2.2 = (fun _ => 1#1)

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfReferenceIdeal (m : (ℓ : Loc Cert.AttnfReferenceIdeal.nD Cert.AttnfReferenceIdeal.τ Cert.AttnfReferenceIdeal.sig) → Buf (Elt Ideal) ℓ) : Prop :=
  True

def Pre_LbKernel (m : (ℓ : Loc Cert.LbKernel.nD Cert.LbKernel.τ Cert.LbKernel.sig) → Buf (Elt Bits) ℓ) : Prop :=
  True

def Pre_LbKernelIdeal (m : (ℓ : Loc Cert.LbKernelIdeal.nD Cert.LbKernelIdeal.τ Cert.LbKernelIdeal.sig) → Buf (Elt Ideal) ℓ) : Prop :=
  True

def Pre_LbKernelIdeal_finite_lb [hPre_finite_lb : Cert.Pre_finite_lb.Facts] (m : (ℓ : Loc Cert.LbKernelIdeal.nD Cert.LbKernelIdeal.τ Cert.LbKernelIdeal.sig) → Buf (Elt Ideal) ℓ) : Prop :=
  ∀ c : Dev Cert.LbKernelIdeal.nD,
    (Cert.Pre_finite_lb.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).1 = (fun _ => 1#1)
    ∧ (Cert.Pre_finite_lb.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).2 = (fun _ => 1#1)

def Pre_LbReferenceIdeal (m : (ℓ : Loc Cert.LbReferenceIdeal.nD Cert.LbReferenceIdeal.τ Cert.LbReferenceIdeal.sig) → Buf (Elt Ideal) ℓ) : Prop :=
  True

def Pre_LbReferenceIdeal_finite_lb [hPre_finite_lb : Cert.Pre_finite_lb.Facts] (m : (ℓ : Loc Cert.LbReferenceIdeal.nD Cert.LbReferenceIdeal.τ Cert.LbReferenceIdeal.sig) → Buf (Elt Ideal) ℓ) : Prop :=
  ∀ c : Dev Cert.LbReferenceIdeal.nD,
    (Cert.Pre_finite_lb.fn (F := Ideal) (m ((c.tc : Thread Cert.LbReferenceIdeal.nD Cert.LbReferenceIdeal.τ).loc Cert.LbReferenceIdeal.main_arg0)) (m ((c.tc : Thread Cert.LbReferenceIdeal.nD Cert.LbReferenceIdeal.τ).loc Cert.LbReferenceIdeal.main_arg1))).1 = (fun _ => 1#1)
    ∧ (Cert.Pre_finite_lb.fn (F := Ideal) (m ((c.tc : Thread Cert.LbReferenceIdeal.nD Cert.LbReferenceIdeal.τ).loc Cert.LbReferenceIdeal.main_arg0)) (m ((c.tc : Thread Cert.LbReferenceIdeal.nD Cert.LbReferenceIdeal.τ).loc Cert.LbReferenceIdeal.main_arg1))).2 = (fun _ => 1#1)

def Pre_WolnKernel (m : (ℓ : Loc Cert.WolnKernel.nD Cert.WolnKernel.τ Cert.WolnKernel.sig) → Buf (Elt Bits) ℓ) : Prop :=
  True

def Pre_WolnKernelIdeal (m : (ℓ : Loc Cert.WolnKernelIdeal.nD Cert.WolnKernelIdeal.τ Cert.WolnKernelIdeal.sig) → Buf (Elt Ideal) ℓ) : Prop :=
  True

def Pre_WolnReferenceIdeal (m : (ℓ : Loc Cert.WolnReferenceIdeal.nD Cert.WolnReferenceIdeal.τ Cert.WolnReferenceIdeal.sig) → Buf (Elt Ideal) ℓ) : Prop :=
  True

def Pre_DownlnKernel (m : (ℓ : Loc Cert.DownlnKernel.nD Cert.DownlnKernel.τ Cert.DownlnKernel.sig) → Buf (Elt Bits) ℓ) : Prop :=
  True

def Pre_DownlnKernelIdeal (m : (ℓ : Loc Cert.DownlnKernelIdeal.nD Cert.DownlnKernelIdeal.τ Cert.DownlnKernelIdeal.sig) → Buf (Elt Ideal) ℓ) : Prop :=
  True

def Pre_DownlnReferenceIdeal (m : (ℓ : Loc Cert.DownlnReferenceIdeal.nD Cert.DownlnReferenceIdeal.τ Cert.DownlnReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_MergefKernel (m : (ℓ : Loc Cert.MergefKernel.nD Cert.MergefKernel.τ Cert.MergefKernel.sig) → Buf (Elt Bits) ℓ) : Prop :=
  True

def Pre_MergefKernelIdeal (m : (ℓ : Loc Cert.MergefKernelIdeal.nD Cert.MergefKernelIdeal.τ Cert.MergefKernelIdeal.sig) → Buf (Elt Ideal) ℓ) : Prop :=
  True

def Pre_MergefReferenceIdeal (m : (ℓ : Loc Cert.MergefReferenceIdeal.nD Cert.MergefReferenceIdeal.τ Cert.MergefReferenceIdeal.sig) → Buf (Elt Ideal) ℓ) : Prop :=
  True

def Pre_LbfKernel (m : (ℓ : Loc Cert.LbfKernel.nD Cert.LbfKernel.τ Cert.LbfKernel.sig) → Buf (Elt Bits) ℓ) : Prop :=
  True

def Pre_LbfKernelIdeal (m : (ℓ : Loc Cert.LbfKernelIdeal.nD Cert.LbfKernelIdeal.τ Cert.LbfKernelIdeal.sig) → Buf (Elt Ideal) ℓ) : Prop :=
  True

def Pre_LbfReferenceIdeal (m : (ℓ : Loc Cert.LbfReferenceIdeal.nD Cert.LbfReferenceIdeal.τ Cert.LbfReferenceIdeal.sig) → Buf (Elt Ideal) ℓ) : Prop :=
  True

def Pre_InbKernel (m : (ℓ : Loc Cert.InbKernel.nD Cert.InbKernel.τ Cert.InbKernel.sig) → Buf (Elt Bits) ℓ) : Prop :=
  True

def Pre_InbKernelIdeal (m : (ℓ : Loc Cert.InbKernelIdeal.nD Cert.InbKernelIdeal.τ Cert.InbKernelIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_GupKernel (m : (ℓ : Loc Cert.GupKernel.nD Cert.GupKernel.τ Cert.GupKernel.sig) → Buf (Elt Bits) ℓ) : Prop :=
  True

def Pre_GupKernelIdeal (m : (ℓ : Loc Cert.GupKernelIdeal.nD Cert.GupKernelIdeal.τ Cert.GupKernelIdeal.sig) → Buf (Elt Ideal) ℓ) : Prop :=
  True

def Pre_GupReferenceIdeal (m : (ℓ : Loc Cert.GupReferenceIdeal.nD Cert.GupReferenceIdeal.τ Cert.GupReferenceIdeal.sig) → Buf (Elt Ideal) ℓ) : Prop :=
  True

def Pre_MemkvKernel (m : (ℓ : Loc Cert.MemkvKernel.nD Cert.MemkvKernel.τ Cert.MemkvKernel.sig) → Buf (Elt Bits) ℓ) : Prop :=
  True

def Pre_MemkvKernelIdeal (m : (ℓ : Loc Cert.MemkvKernelIdeal.nD Cert.MemkvKernelIdeal.τ Cert.MemkvKernelIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_AdamsKernel (m : (ℓ : Loc Cert.AdamsKernel.nD Cert.AdamsKernel.τ Cert.AdamsKernel.sig) → Buf (Elt Bits) ℓ) : Prop :=
  True

def Pre_AdamsKernelIdeal (m : (ℓ : Loc Cert.AdamsKernelIdeal.nD Cert.AdamsKernelIdeal.τ Cert.AdamsKernelIdeal.sig) → Buf (Elt Ideal) ℓ) : Prop :=
  True

def Pre_AdamsReferenceIdeal (m : (ℓ : Loc Cert.AdamsReferenceIdeal.nD Cert.AdamsReferenceIdeal.τ Cert.AdamsReferenceIdeal.sig) → Buf (Elt Ideal) ℓ) : Prop :=
  True

def Pre_AdamcKernel (m : (ℓ : Loc Cert.AdamcKernel.nD Cert.AdamcKernel.τ Cert.AdamcKernel.sig) → Buf (Elt Bits) ℓ) : Prop :=
  True

def Pre_AdamcKernelIdeal (m : (ℓ : Loc Cert.AdamcKernelIdeal.nD Cert.AdamcKernelIdeal.τ Cert.AdamcKernelIdeal.sig) → Buf (Elt Ideal) ℓ) : Prop :=
  True

def Pre_AdamcReferenceIdeal (m : (ℓ : Loc Cert.AdamcReferenceIdeal.nD Cert.AdamcReferenceIdeal.τ Cert.AdamcReferenceIdeal.sig) → Buf (Elt Ideal) ℓ) : Prop :=
  True

def Pre_AdamgKernel (m : (ℓ : Loc Cert.AdamgKernel.nD Cert.AdamgKernel.τ Cert.AdamgKernel.sig) → Buf (Elt Bits) ℓ) : Prop :=
  True

def Pre_AdamgKernelIdeal (m : (ℓ : Loc Cert.AdamgKernelIdeal.nD Cert.AdamgKernelIdeal.τ Cert.AdamgKernelIdeal.sig) → Buf (Elt Ideal) ℓ) : Prop :=
  True

def Pre_AdamgReferenceIdeal (m : (ℓ : Loc Cert.AdamgReferenceIdeal.nD Cert.AdamgReferenceIdeal.τ Cert.AdamgReferenceIdeal.sig) → Buf (Elt Ideal) ℓ) : Prop :=
  True

def Pre_AdamlKernel (m : (ℓ : Loc Cert.AdamlKernel.nD Cert.AdamlKernel.τ Cert.AdamlKernel.sig) → Buf (Elt Bits) ℓ) : Prop :=
  True

def Pre_AdamlKernelIdeal (m : (ℓ : Loc Cert.AdamlKernelIdeal.nD Cert.AdamlKernelIdeal.τ Cert.AdamlKernelIdeal.sig) → Buf (Elt Ideal) ℓ) : Prop :=
  True

def Pre_AdamlReferenceIdeal (m : (ℓ : Loc Cert.AdamlReferenceIdeal.nD Cert.AdamlReferenceIdeal.τ Cert.AdamlReferenceIdeal.sig) → Buf (Elt Ideal) ℓ) : Prop :=
  True

def Pre_AdamwKernel (m : (ℓ : Loc Cert.AdamwKernel.nD Cert.AdamwKernel.τ Cert.AdamwKernel.sig) → Buf (Elt Bits) ℓ) : Prop :=
  True

def Pre_AdamwKernelIdeal (m : (ℓ : Loc Cert.AdamwKernelIdeal.nD Cert.AdamwKernelIdeal.τ Cert.AdamwKernelIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def Pre_AdamuKernel (m : (ℓ : Loc Cert.AdamuKernel.nD Cert.AdamuKernel.τ Cert.AdamuKernel.sig) → Buf (Elt Bits) ℓ) : Prop :=
  True

def Pre_AdamuKernelIdeal (m : (ℓ : Loc Cert.AdamuKernelIdeal.nD Cert.AdamuKernelIdeal.τ Cert.AdamuKernelIdeal.sig) → Buf (Elt Ideal) ℓ) : Prop :=
  True

def Pre_AdamuReferenceIdeal (m : (ℓ : Loc Cert.AdamuReferenceIdeal.nD Cert.AdamuReferenceIdeal.τ Cert.AdamuReferenceIdeal.sig) → Buf (Elt Ideal) ℓ) : Prop :=
  True

def Pre_AdambKernel (m : (ℓ : Loc Cert.AdambKernel.nD Cert.AdambKernel.τ Cert.AdambKernel.sig) → Buf (Elt Bits) ℓ) : Prop :=
  True

def Pre_AdambKernelIdeal (m : (ℓ : Loc Cert.AdambKernelIdeal.nD Cert.AdambKernelIdeal.τ Cert.AdambKernelIdeal.sig) → Buf (Elt Ideal) ℓ) : Prop :=
  True

def Pre_AdambReferenceIdeal (m : (ℓ : Loc Cert.AdambReferenceIdeal.nD Cert.AdambReferenceIdeal.τ Cert.AdambReferenceIdeal.sig) → Buf (Elt Ideal) ℓ) : Prop :=
  True

def Pre_SumdKernel (m : (ℓ : Loc Cert.SumdKernel.nD Cert.SumdKernel.τ Cert.SumdKernel.sig) → Buf (Elt Bits) ℓ) : Prop :=
  True

def Pre_SumdKernelIdeal (m : (ℓ : Loc Cert.SumdKernelIdeal.nD Cert.SumdKernelIdeal.τ Cert.SumdKernelIdeal.sig) → Buf (Elt Ideal) ℓ) : Prop :=
  True

def Pre_SumdReferenceIdeal (m : (ℓ : Loc Cert.SumdReferenceIdeal.nD Cert.SumdReferenceIdeal.τ Cert.SumdReferenceIdeal.sig) → Buf (Elt Ideal) ℓ) : Prop :=
  True

def Pre_HgrnbKernel (m : (ℓ : Loc Cert.HgrnbKernel.nD Cert.HgrnbKernel.τ Cert.HgrnbKernel.sig) → Buf (Elt Bits) ℓ) : Prop :=
  True

def Pre_HgrnbKernelIdeal (m : (ℓ : Loc Cert.HgrnbKernelIdeal.nD Cert.HgrnbKernelIdeal.τ Cert.HgrnbKernelIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Ln1Kernel [hLn1Kernel : Cert.Ln1Kernel.Facts] : Prop :=
  ∀ (m : (ℓ : Loc Cert.Ln1Kernel.nD Cert.Ln1Kernel.τ Cert.Ln1Kernel.sig) → Buf (Elt Bits) ℓ) (g : Dev Cert.Ln1Kernel.nD → PrngReg), Pre_Ln1Kernel m →
    θ_run (Cert.Ln1Kernel.defs (F := Bits)) (onTc (τ := Cert.Ln1Kernel.τ) (Cert.Ln1Kernel.main (F := Bits))) ⟨m, fun _ => 0, g⟩ (fun r => (∀ c : Dev Cert.Ln1Kernel.nD,
      r.2.mem ((c.tc : Thread Cert.Ln1Kernel.nD Cert.Ln1Kernel.τ).loc Cert.Ln1Kernel.main_arg0) = m ((c.tc : Thread Cert.Ln1Kernel.nD Cert.Ln1Kernel.τ).loc Cert.Ln1Kernel.main_arg0)
      ∧ r.2.mem ((c.tc : Thread Cert.Ln1Kernel.nD Cert.Ln1Kernel.τ).loc Cert.Ln1Kernel.main_arg1) = m ((c.tc : Thread Cert.Ln1Kernel.nD Cert.Ln1Kernel.τ).loc Cert.Ln1Kernel.main_arg1)
      ∧ r.2.mem ((c.tc : Thread Cert.Ln1Kernel.nD Cert.Ln1Kernel.τ).loc Cert.Ln1Kernel.main_arg2) = m ((c.tc : Thread Cert.Ln1Kernel.nD Cert.Ln1Kernel.τ).loc Cert.Ln1Kernel.main_arg2)
      ∧ r.2.mem ((c.tc : Thread Cert.Ln1Kernel.nD Cert.Ln1Kernel.τ).loc Cert.Ln1Kernel.main_arg3) = m ((c.tc : Thread Cert.Ln1Kernel.nD Cert.Ln1Kernel.τ).loc Cert.Ln1Kernel.main_arg3)
      ∧ r.2.mem ((c.tc : Thread Cert.Ln1Kernel.nD Cert.Ln1Kernel.τ).loc Cert.Ln1Kernel.main_arg4) = m ((c.tc : Thread Cert.Ln1Kernel.nD Cert.Ln1Kernel.τ).loc Cert.Ln1Kernel.main_arg4)
      ∧ r.2.mem ((c.tc : Thread Cert.Ln1Kernel.nD Cert.Ln1Kernel.τ).loc Cert.Ln1Kernel.main_arg5) = m ((c.tc : Thread Cert.Ln1Kernel.nD Cert.Ln1Kernel.τ).loc Cert.Ln1Kernel.main_arg5))
      ∧ r.2.sem = fun _ => 0)

def quiescent_Ln1KernelIdeal [hLn1KernelIdeal : Cert.Ln1KernelIdeal.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg), Pre_Ln1KernelIdeal m →
    θ_run (Cert.Ln1KernelIdeal.defs (F := Ideal)) (onTc (τ := Cert.Ln1KernelIdeal.τ) (Cert.Ln1KernelIdeal.main (F := Ideal))) ⟨m, fun _ => 0, g⟩ (fun r => (∀ c : Dev Cert.Ln1KernelIdeal.nD,
      r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
      ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
      ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
      ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
      ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
      ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ r.2.sem = fun _ => 0)

def quiescent_Ln1KernelIdeal_pre_finite_ln1 [hLn1KernelIdeal : Cert.Ln1KernelIdeal.Facts] [hPre_finite_ln1 : Cert.Pre_finite_ln1.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg), Pre_Ln1KernelIdeal_finite_ln1 m →
    θ_run (Cert.Ln1KernelIdeal.defs (F := Ideal)) (onTc (τ := Cert.Ln1KernelIdeal.τ) (Cert.Ln1KernelIdeal.main (F := Ideal))) ⟨m, fun _ => 0, g⟩ (fun r => (∀ c : Dev Cert.Ln1KernelIdeal.nD,
      r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
      ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
      ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
      ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
      ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
      ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ r.2.sem = fun _ => 0)

def quiescent_Ln1ReferenceIdeal [hLn1ReferenceIdeal : Cert.Ln1ReferenceIdeal.Facts] : Prop :=
  ∀ (m : (ℓ : Loc Cert.Ln1ReferenceIdeal.nD Cert.Ln1ReferenceIdeal.τ Cert.Ln1ReferenceIdeal.sig) → Buf (Elt Ideal) ℓ) (g : Dev Cert.Ln1ReferenceIdeal.nD → PrngReg), Pre_Ln1ReferenceIdeal m →
    θ_run (Cert.Ln1ReferenceIdeal.defs (F := Ideal)) (onTc (τ := Cert.Ln1ReferenceIdeal.τ) (Cert.Ln1ReferenceIdeal.main (F := Ideal))) ⟨m, fun _ => 0, g⟩ (fun r => (∀ c : Dev Cert.Ln1ReferenceIdeal.nD,
      r.2.mem ((c.tc : Thread Cert.Ln1ReferenceIdeal.nD Cert.Ln1ReferenceIdeal.τ).loc Cert.Ln1ReferenceIdeal.main_arg0) = m ((c.tc : Thread Cert.Ln1ReferenceIdeal.nD Cert.Ln1ReferenceIdeal.τ).loc Cert.Ln1ReferenceIdeal.main_arg0)
      ∧ r.2.mem ((c.tc : Thread Cert.Ln1ReferenceIdeal.nD Cert.Ln1ReferenceIdeal.τ).loc Cert.Ln1ReferenceIdeal.main_arg1) = m ((c.tc : Thread Cert.Ln1ReferenceIdeal.nD Cert.Ln1ReferenceIdeal.τ).loc Cert.Ln1ReferenceIdeal.main_arg1)
      ∧ r.2.mem ((c.tc : Thread Cert.Ln1ReferenceIdeal.nD Cert.Ln1ReferenceIdeal.τ).loc Cert.Ln1ReferenceIdeal.main_arg2) = m ((c.tc : Thread Cert.Ln1ReferenceIdeal.nD Cert.Ln1ReferenceIdeal.τ).loc Cert.Ln1ReferenceIdeal.main_arg2)
      ∧ r.2.mem ((c.tc : Thread Cert.Ln1ReferenceIdeal.nD Cert.Ln1ReferenceIdeal.τ).loc Cert.Ln1ReferenceIdeal.main_arg3) = m ((c.tc : Thread Cert.Ln1ReferenceIdeal.nD Cert.Ln1ReferenceIdeal.τ).loc Cert.Ln1ReferenceIdeal.main_arg3)
      ∧ r.2.mem ((c.tc : Thread Cert.Ln1ReferenceIdeal.nD Cert.Ln1ReferenceIdeal.τ).loc Cert.Ln1ReferenceIdeal.main_arg4) = m ((c.tc : Thread Cert.Ln1ReferenceIdeal.nD Cert.Ln1ReferenceIdeal.τ).loc Cert.Ln1ReferenceIdeal.main_arg4)
      ∧ r.2.mem ((c.tc : Thread Cert.Ln1ReferenceIdeal.nD Cert.Ln1ReferenceIdeal.τ).loc Cert.Ln1ReferenceIdeal.main_arg5) = m ((c.tc : Thread Cert.Ln1ReferenceIdeal.nD Cert.Ln1ReferenceIdeal.τ).loc Cert.Ln1ReferenceIdeal.main_arg5))
      ∧ r.2.sem = fun _ => 0)

def quiescent_Ln1ReferenceIdeal_pre_finite_ln1 [hLn1ReferenceIdeal : Cert.Ln1ReferenceIdeal.Facts] [hPre_finite_ln1 : Cert.Pre_finite_ln1.Facts] : Prop :=
  ∀ (m : (ℓ : Loc Cert.Ln1ReferenceIdeal.nD Cert.Ln1ReferenceIdeal.τ Cert.Ln1ReferenceIdeal.sig) → Buf (Elt Ideal) ℓ) (g : Dev Cert.Ln1ReferenceIdeal.nD → PrngReg), Pre_Ln1ReferenceIdeal_finite_ln1 m →
    θ_run (Cert.Ln1ReferenceIdeal.defs (F := Ideal)) (onTc (τ := Cert.Ln1ReferenceIdeal.τ) (Cert.Ln1ReferenceIdeal.main (F := Ideal))) ⟨m, fun _ => 0, g⟩ (fun r => (∀ c : Dev Cert.Ln1ReferenceIdeal.nD,
      r.2.mem ((c.tc : Thread Cert.Ln1ReferenceIdeal.nD Cert.Ln1ReferenceIdeal.τ).loc Cert.Ln1ReferenceIdeal.main_arg0) = m ((c.tc : Thread Cert.Ln1ReferenceIdeal.nD Cert.Ln1ReferenceIdeal.τ).loc Cert.Ln1ReferenceIdeal.main_arg0)
      ∧ r.2.mem ((c.tc : Thread Cert.Ln1ReferenceIdeal.nD Cert.Ln1ReferenceIdeal.τ).loc Cert.Ln1ReferenceIdeal.main_arg1) = m ((c.tc : Thread Cert.Ln1ReferenceIdeal.nD Cert.Ln1ReferenceIdeal.τ).loc Cert.Ln1ReferenceIdeal.main_arg1)
      ∧ r.2.mem ((c.tc : Thread Cert.Ln1ReferenceIdeal.nD Cert.Ln1ReferenceIdeal.τ).loc Cert.Ln1ReferenceIdeal.main_arg2) = m ((c.tc : Thread Cert.Ln1ReferenceIdeal.nD Cert.Ln1ReferenceIdeal.τ).loc Cert.Ln1ReferenceIdeal.main_arg2)
      ∧ r.2.mem ((c.tc : Thread Cert.Ln1ReferenceIdeal.nD Cert.Ln1ReferenceIdeal.τ).loc Cert.Ln1ReferenceIdeal.main_arg3) = m ((c.tc : Thread Cert.Ln1ReferenceIdeal.nD Cert.Ln1ReferenceIdeal.τ).loc Cert.Ln1ReferenceIdeal.main_arg3)
      ∧ r.2.mem ((c.tc : Thread Cert.Ln1ReferenceIdeal.nD Cert.Ln1ReferenceIdeal.τ).loc Cert.Ln1ReferenceIdeal.main_arg4) = m ((c.tc : Thread Cert.Ln1ReferenceIdeal.nD Cert.Ln1ReferenceIdeal.τ).loc Cert.Ln1ReferenceIdeal.main_arg4)
      ∧ r.2.mem ((c.tc : Thread Cert.Ln1ReferenceIdeal.nD Cert.Ln1ReferenceIdeal.τ).loc Cert.Ln1ReferenceIdeal.main_arg5) = m ((c.tc : Thread Cert.Ln1ReferenceIdeal.nD Cert.Ln1ReferenceIdeal.τ).loc Cert.Ln1ReferenceIdeal.main_arg5))
      ∧ r.2.sem = fun _ => 0)

def quiescent_Ln2Kernel [hLn2Kernel : Cert.Ln2Kernel.Facts] : Prop :=
  ∀ (m : (ℓ : Loc Cert.Ln2Kernel.nD Cert.Ln2Kernel.τ Cert.Ln2Kernel.sig) → Buf (Elt Bits) ℓ) (g : Dev Cert.Ln2Kernel.nD → PrngReg), Pre_Ln2Kernel m →
    θ_run (Cert.Ln2Kernel.defs (F := Bits)) (onTc (τ := Cert.Ln2Kernel.τ) (Cert.Ln2Kernel.main (F := Bits))) ⟨m, fun _ => 0, g⟩ (fun r => (∀ c : Dev Cert.Ln2Kernel.nD,
      r.2.mem ((c.tc : Thread Cert.Ln2Kernel.nD Cert.Ln2Kernel.τ).loc Cert.Ln2Kernel.main_arg0) = m ((c.tc : Thread Cert.Ln2Kernel.nD Cert.Ln2Kernel.τ).loc Cert.Ln2Kernel.main_arg0)
      ∧ r.2.mem ((c.tc : Thread Cert.Ln2Kernel.nD Cert.Ln2Kernel.τ).loc Cert.Ln2Kernel.main_arg1) = m ((c.tc : Thread Cert.Ln2Kernel.nD Cert.Ln2Kernel.τ).loc Cert.Ln2Kernel.main_arg1)
      ∧ r.2.mem ((c.tc : Thread Cert.Ln2Kernel.nD Cert.Ln2Kernel.τ).loc Cert.Ln2Kernel.main_arg2) = m ((c.tc : Thread Cert.Ln2Kernel.nD Cert.Ln2Kernel.τ).loc Cert.Ln2Kernel.main_arg2)
      ∧ r.2.mem ((c.tc : Thread Cert.Ln2Kernel.nD Cert.Ln2Kernel.τ).loc Cert.Ln2Kernel.main_arg3) = m ((c.tc : Thread Cert.Ln2Kernel.nD Cert.Ln2Kernel.τ).loc Cert.Ln2Kernel.main_arg3)
      ∧ r.2.mem ((c.tc : Thread Cert.Ln2Kernel.nD Cert.Ln2Kernel.τ).loc Cert.Ln2Kernel.main_arg4) = m ((c.tc : Thread Cert.Ln2Kernel.nD Cert.Ln2Kernel.τ).loc Cert.Ln2Kernel.main_arg4)
      ∧ r.2.mem ((c.tc : Thread Cert.Ln2Kernel.nD Cert.Ln2Kernel.τ).loc Cert.Ln2Kernel.main_arg5) = m ((c.tc : Thread Cert.Ln2Kernel.nD Cert.Ln2Kernel.τ).loc Cert.Ln2Kernel.main_arg5))
      ∧ r.2.sem = fun _ => 0)

def quiescent_Ln2KernelIdeal [hLn2KernelIdeal : Cert.Ln2KernelIdeal.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg), Pre_Ln2KernelIdeal m →
    θ_run (Cert.Ln2KernelIdeal.defs (F := Ideal)) (onTc (τ := Cert.Ln2KernelIdeal.τ) (Cert.Ln2KernelIdeal.main (F := Ideal))) ⟨m, fun _ => 0, g⟩ (fun r => (∀ c : Dev Cert.Ln2KernelIdeal.nD,
      r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
      ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
      ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
      ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
      ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4)
      ∧ r.2.mem ((c.tc : Thread Cert.Ln2KernelIdeal.nD Cert.Ln2KernelIdeal.τ).loc Cert.Ln2KernelIdeal.main_arg5) = m ((c.tc : Thread Cert.Ln2KernelIdeal.nD Cert.Ln2KernelIdeal.τ).loc Cert.Ln2KernelIdeal.main_arg5))
      ∧ r.2.sem = fun _ => 0)

def quiescent_Ln2KernelIdeal_pre_finite_ln2 [hLn2KernelIdeal : Cert.Ln2KernelIdeal.Facts] [hPre_finite_ln2 : Cert.Pre_finite_ln2.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg), Pre_Ln2KernelIdeal_finite_ln2 m →
    θ_run (Cert.Ln2KernelIdeal.defs (F := Ideal)) (onTc (τ := Cert.Ln2KernelIdeal.τ) (Cert.Ln2KernelIdeal.main (F := Ideal))) ⟨m, fun _ => 0, g⟩ (fun r => (∀ c : Dev Cert.Ln2KernelIdeal.nD,
      r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
      ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
      ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
      ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
      ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4)
      ∧ r.2.mem ((c.tc : Thread Cert.Ln2KernelIdeal.nD Cert.Ln2KernelIdeal.τ).loc Cert.Ln2KernelIdeal.main_arg5) = m ((c.tc : Thread Cert.Ln2KernelIdeal.nD Cert.Ln2KernelIdeal.τ).loc Cert.Ln2KernelIdeal.main_arg5))
      ∧ r.2.sem = fun _ => 0)

def quiescent_Ln2ReferenceIdeal [hLn2ReferenceIdeal : Cert.Ln2ReferenceIdeal.Facts] : Prop :=
  ∀ (m : (ℓ : Loc Cert.Ln2ReferenceIdeal.nD Cert.Ln2ReferenceIdeal.τ Cert.Ln2ReferenceIdeal.sig) → Buf (Elt Ideal) ℓ) (g : Dev Cert.Ln2ReferenceIdeal.nD → PrngReg), Pre_Ln2ReferenceIdeal m →
    θ_run (Cert.Ln2ReferenceIdeal.defs (F := Ideal)) (onTc (τ := Cert.Ln2ReferenceIdeal.τ) (Cert.Ln2ReferenceIdeal.main (F := Ideal))) ⟨m, fun _ => 0, g⟩ (fun r => (∀ c : Dev Cert.Ln2ReferenceIdeal.nD,
      r.2.mem ((c.tc : Thread Cert.Ln2ReferenceIdeal.nD Cert.Ln2ReferenceIdeal.τ).loc Cert.Ln2ReferenceIdeal.main_arg0) = m ((c.tc : Thread Cert.Ln2ReferenceIdeal.nD Cert.Ln2ReferenceIdeal.τ).loc Cert.Ln2ReferenceIdeal.main_arg0)
      ∧ r.2.mem ((c.tc : Thread Cert.Ln2ReferenceIdeal.nD Cert.Ln2ReferenceIdeal.τ).loc Cert.Ln2ReferenceIdeal.main_arg1) = m ((c.tc : Thread Cert.Ln2ReferenceIdeal.nD Cert.Ln2ReferenceIdeal.τ).loc Cert.Ln2ReferenceIdeal.main_arg1)
      ∧ r.2.mem ((c.tc : Thread Cert.Ln2ReferenceIdeal.nD Cert.Ln2ReferenceIdeal.τ).loc Cert.Ln2ReferenceIdeal.main_arg2) = m ((c.tc : Thread Cert.Ln2ReferenceIdeal.nD Cert.Ln2ReferenceIdeal.τ).loc Cert.Ln2ReferenceIdeal.main_arg2)
      ∧ r.2.mem ((c.tc : Thread Cert.Ln2ReferenceIdeal.nD Cert.Ln2ReferenceIdeal.τ).loc Cert.Ln2ReferenceIdeal.main_arg3) = m ((c.tc : Thread Cert.Ln2ReferenceIdeal.nD Cert.Ln2ReferenceIdeal.τ).loc Cert.Ln2ReferenceIdeal.main_arg3)
      ∧ r.2.mem ((c.tc : Thread Cert.Ln2ReferenceIdeal.nD Cert.Ln2ReferenceIdeal.τ).loc Cert.Ln2ReferenceIdeal.main_arg4) = m ((c.tc : Thread Cert.Ln2ReferenceIdeal.nD Cert.Ln2ReferenceIdeal.τ).loc Cert.Ln2ReferenceIdeal.main_arg4)
      ∧ r.2.mem ((c.tc : Thread Cert.Ln2ReferenceIdeal.nD Cert.Ln2ReferenceIdeal.τ).loc Cert.Ln2ReferenceIdeal.main_arg5) = m ((c.tc : Thread Cert.Ln2ReferenceIdeal.nD Cert.Ln2ReferenceIdeal.τ).loc Cert.Ln2ReferenceIdeal.main_arg5))
      ∧ r.2.sem = fun _ => 0)

def quiescent_Ln2ReferenceIdeal_pre_finite_ln2 [hLn2ReferenceIdeal : Cert.Ln2ReferenceIdeal.Facts] [hPre_finite_ln2 : Cert.Pre_finite_ln2.Facts] : Prop :=
  ∀ (m : (ℓ : Loc Cert.Ln2ReferenceIdeal.nD Cert.Ln2ReferenceIdeal.τ Cert.Ln2ReferenceIdeal.sig) → Buf (Elt Ideal) ℓ) (g : Dev Cert.Ln2ReferenceIdeal.nD → PrngReg), Pre_Ln2ReferenceIdeal_finite_ln2 m →
    θ_run (Cert.Ln2ReferenceIdeal.defs (F := Ideal)) (onTc (τ := Cert.Ln2ReferenceIdeal.τ) (Cert.Ln2ReferenceIdeal.main (F := Ideal))) ⟨m, fun _ => 0, g⟩ (fun r => (∀ c : Dev Cert.Ln2ReferenceIdeal.nD,
      r.2.mem ((c.tc : Thread Cert.Ln2ReferenceIdeal.nD Cert.Ln2ReferenceIdeal.τ).loc Cert.Ln2ReferenceIdeal.main_arg0) = m ((c.tc : Thread Cert.Ln2ReferenceIdeal.nD Cert.Ln2ReferenceIdeal.τ).loc Cert.Ln2ReferenceIdeal.main_arg0)
      ∧ r.2.mem ((c.tc : Thread Cert.Ln2ReferenceIdeal.nD Cert.Ln2ReferenceIdeal.τ).loc Cert.Ln2ReferenceIdeal.main_arg1) = m ((c.tc : Thread Cert.Ln2ReferenceIdeal.nD Cert.Ln2ReferenceIdeal.τ).loc Cert.Ln2ReferenceIdeal.main_arg1)
      ∧ r.2.mem ((c.tc : Thread Cert.Ln2ReferenceIdeal.nD Cert.Ln2ReferenceIdeal.τ).loc Cert.Ln2ReferenceIdeal.main_arg2) = m ((c.tc : Thread Cert.Ln2ReferenceIdeal.nD Cert.Ln2ReferenceIdeal.τ).loc Cert.Ln2ReferenceIdeal.main_arg2)
      ∧ r.2.mem ((c.tc : Thread Cert.Ln2ReferenceIdeal.nD Cert.Ln2ReferenceIdeal.τ).loc Cert.Ln2ReferenceIdeal.main_arg3) = m ((c.tc : Thread Cert.Ln2ReferenceIdeal.nD Cert.Ln2ReferenceIdeal.τ).loc Cert.Ln2ReferenceIdeal.main_arg3)
      ∧ r.2.mem ((c.tc : Thread Cert.Ln2ReferenceIdeal.nD Cert.Ln2ReferenceIdeal.τ).loc Cert.Ln2ReferenceIdeal.main_arg4) = m ((c.tc : Thread Cert.Ln2ReferenceIdeal.nD Cert.Ln2ReferenceIdeal.τ).loc Cert.Ln2ReferenceIdeal.main_arg4)
      ∧ r.2.mem ((c.tc : Thread Cert.Ln2ReferenceIdeal.nD Cert.Ln2ReferenceIdeal.τ).loc Cert.Ln2ReferenceIdeal.main_arg5) = m ((c.tc : Thread Cert.Ln2ReferenceIdeal.nD Cert.Ln2ReferenceIdeal.τ).loc Cert.Ln2ReferenceIdeal.main_arg5))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2))
      ∧ r.2.sem = fun _ => 0)

def quiescent_LbKernel [hLbKernel : Cert.LbKernel.Facts] : Prop :=
  ∀ (m : (ℓ : Loc Cert.LbKernel.nD Cert.LbKernel.τ Cert.LbKernel.sig) → Buf (Elt Bits) ℓ) (g : Dev Cert.LbKernel.nD → PrngReg), Pre_LbKernel m →
    θ_run (Cert.LbKernel.defs (F := Bits)) (onTc (τ := Cert.LbKernel.τ) (Cert.LbKernel.main (F := Bits))) ⟨m, fun _ => 0, g⟩ (fun r => (∀ c : Dev Cert.LbKernel.nD,
      r.2.mem ((c.tc : Thread Cert.LbKernel.nD Cert.LbKernel.τ).loc Cert.LbKernel.main_arg0) = m ((c.tc : Thread Cert.LbKernel.nD Cert.LbKernel.τ).loc Cert.LbKernel.main_arg0)
      ∧ r.2.mem ((c.tc : Thread Cert.LbKernel.nD Cert.LbKernel.τ).loc Cert.LbKernel.main_arg1) = m ((c.tc : Thread Cert.LbKernel.nD Cert.LbKernel.τ).loc Cert.LbKernel.main_arg1))
      ∧ r.2.sem = fun _ => 0)

def quiescent_LbKernelIdeal [hLbKernelIdeal : Cert.LbKernelIdeal.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbKernelIdeal_pre_finite_lb [hLbKernelIdeal : Cert.LbKernelIdeal.Facts] [hPre_finite_lb : Cert.Pre_finite_lb.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal_finite_lb m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbReferenceIdeal [hLbReferenceIdeal : Cert.LbReferenceIdeal.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_LbReferenceIdeal_pre_finite_lb [hLbReferenceIdeal : Cert.LbReferenceIdeal.Facts] [hPre_finite_lb : Cert.Pre_finite_lb.Facts] : Prop :=
  ∀ (m : (ℓ : Loc Cert.LbReferenceIdeal.nD Cert.LbReferenceIdeal.τ Cert.LbReferenceIdeal.sig) → Buf (Elt Ideal) ℓ) (g : Dev Cert.LbReferenceIdeal.nD → PrngReg), Pre_LbReferenceIdeal_finite_lb m →
    θ_run (Cert.LbReferenceIdeal.defs (F := Ideal)) (onTc (τ := Cert.LbReferenceIdeal.τ) (Cert.LbReferenceIdeal.main (F := Ideal))) ⟨m, fun _ => 0, g⟩ (fun r => (∀ c : Dev Cert.LbReferenceIdeal.nD,
      r.2.mem ((c.tc : Thread Cert.LbReferenceIdeal.nD Cert.LbReferenceIdeal.τ).loc Cert.LbReferenceIdeal.main_arg0) = m ((c.tc : Thread Cert.LbReferenceIdeal.nD Cert.LbReferenceIdeal.τ).loc Cert.LbReferenceIdeal.main_arg0)
      ∧ r.2.mem ((c.tc : Thread Cert.LbReferenceIdeal.nD Cert.LbReferenceIdeal.τ).loc Cert.LbReferenceIdeal.main_arg1) = m ((c.tc : Thread Cert.LbReferenceIdeal.nD Cert.LbReferenceIdeal.τ).loc Cert.LbReferenceIdeal.main_arg1))
      ∧ r.2.sem = fun _ => 0)

def quiescent_WolnKernel [hWolnKernel : Cert.WolnKernel.Facts] : Prop :=
  ∀ (m : (ℓ : Loc Cert.WolnKernel.nD Cert.WolnKernel.τ Cert.WolnKernel.sig) → Buf (Elt Bits) ℓ) (g : Dev Cert.WolnKernel.nD → PrngReg), Pre_WolnKernel m →
    θ_run (Cert.WolnKernel.defs (F := Bits)) (onTc (τ := Cert.WolnKernel.τ) (Cert.WolnKernel.main (F := Bits))) ⟨m, fun _ => 0, g⟩ (fun r => (∀ c : Dev Cert.WolnKernel.nD,
      r.2.mem ((c.tc : Thread Cert.WolnKernel.nD Cert.WolnKernel.τ).loc Cert.WolnKernel.main_arg0) = m ((c.tc : Thread Cert.WolnKernel.nD Cert.WolnKernel.τ).loc Cert.WolnKernel.main_arg0)
      ∧ r.2.mem ((c.tc : Thread Cert.WolnKernel.nD Cert.WolnKernel.τ).loc Cert.WolnKernel.main_arg1) = m ((c.tc : Thread Cert.WolnKernel.nD Cert.WolnKernel.τ).loc Cert.WolnKernel.main_arg1)
      ∧ r.2.mem ((c.tc : Thread Cert.WolnKernel.nD Cert.WolnKernel.τ).loc Cert.WolnKernel.main_arg2) = m ((c.tc : Thread Cert.WolnKernel.nD Cert.WolnKernel.τ).loc Cert.WolnKernel.main_arg2)
      ∧ r.2.mem ((c.tc : Thread Cert.WolnKernel.nD Cert.WolnKernel.τ).loc Cert.WolnKernel.main_arg3) = m ((c.tc : Thread Cert.WolnKernel.nD Cert.WolnKernel.τ).loc Cert.WolnKernel.main_arg3)
      ∧ r.2.mem ((c.tc : Thread Cert.WolnKernel.nD Cert.WolnKernel.τ).loc Cert.WolnKernel.main_arg4) = m ((c.tc : Thread Cert.WolnKernel.nD Cert.WolnKernel.τ).loc Cert.WolnKernel.main_arg4))
      ∧ r.2.sem = fun _ => 0)

def quiescent_WolnKernelIdeal [hWolnKernelIdeal : Cert.WolnKernelIdeal.Facts] : Prop :=
  ∀ (m : (ℓ : Loc Cert.WolnKernelIdeal.nD Cert.WolnKernelIdeal.τ Cert.WolnKernelIdeal.sig) → Buf (Elt Ideal) ℓ) (g : Dev Cert.WolnKernelIdeal.nD → PrngReg), Pre_WolnKernelIdeal m →
    θ_run (Cert.WolnKernelIdeal.defs (F := Ideal)) (onTc (τ := Cert.WolnKernelIdeal.τ) (Cert.WolnKernelIdeal.main (F := Ideal))) ⟨m, fun _ => 0, g⟩ (fun r => (∀ c : Dev Cert.WolnKernelIdeal.nD,
      r.2.mem ((c.tc : Thread Cert.WolnKernelIdeal.nD Cert.WolnKernelIdeal.τ).loc Cert.WolnKernelIdeal.main_arg0) = m ((c.tc : Thread Cert.WolnKernelIdeal.nD Cert.WolnKernelIdeal.τ).loc Cert.WolnKernelIdeal.main_arg0)
      ∧ r.2.mem ((c.tc : Thread Cert.WolnKernelIdeal.nD Cert.WolnKernelIdeal.τ).loc Cert.WolnKernelIdeal.main_arg1) = m ((c.tc : Thread Cert.WolnKernelIdeal.nD Cert.WolnKernelIdeal.τ).loc Cert.WolnKernelIdeal.main_arg1)
      ∧ r.2.mem ((c.tc : Thread Cert.WolnKernelIdeal.nD Cert.WolnKernelIdeal.τ).loc Cert.WolnKernelIdeal.main_arg2) = m ((c.tc : Thread Cert.WolnKernelIdeal.nD Cert.WolnKernelIdeal.τ).loc Cert.WolnKernelIdeal.main_arg2)
      ∧ r.2.mem ((c.tc : Thread Cert.WolnKernelIdeal.nD Cert.WolnKernelIdeal.τ).loc Cert.WolnKernelIdeal.main_arg3) = m ((c.tc : Thread Cert.WolnKernelIdeal.nD Cert.WolnKernelIdeal.τ).loc Cert.WolnKernelIdeal.main_arg3)
      ∧ r.2.mem ((c.tc : Thread Cert.WolnKernelIdeal.nD Cert.WolnKernelIdeal.τ).loc Cert.WolnKernelIdeal.main_arg4) = m ((c.tc : Thread Cert.WolnKernelIdeal.nD Cert.WolnKernelIdeal.τ).loc Cert.WolnKernelIdeal.main_arg4))
      ∧ r.2.sem = fun _ => 0)

def quiescent_WolnReferenceIdeal [hWolnReferenceIdeal : Cert.WolnReferenceIdeal.Facts] : Prop :=
  ∀ (m : (ℓ : Loc Cert.WolnReferenceIdeal.nD Cert.WolnReferenceIdeal.τ Cert.WolnReferenceIdeal.sig) → Buf (Elt Ideal) ℓ) (g : Dev Cert.WolnReferenceIdeal.nD → PrngReg), Pre_WolnReferenceIdeal m →
    θ_run (Cert.WolnReferenceIdeal.defs (F := Ideal)) (onTc (τ := Cert.WolnReferenceIdeal.τ) (Cert.WolnReferenceIdeal.main (F := Ideal))) ⟨m, fun _ => 0, g⟩ (fun r => (∀ c : Dev Cert.WolnReferenceIdeal.nD,
      r.2.mem ((c.tc : Thread Cert.WolnReferenceIdeal.nD Cert.WolnReferenceIdeal.τ).loc Cert.WolnReferenceIdeal.main_arg0) = m ((c.tc : Thread Cert.WolnReferenceIdeal.nD Cert.WolnReferenceIdeal.τ).loc Cert.WolnReferenceIdeal.main_arg0)
      ∧ r.2.mem ((c.tc : Thread Cert.WolnReferenceIdeal.nD Cert.WolnReferenceIdeal.τ).loc Cert.WolnReferenceIdeal.main_arg1) = m ((c.tc : Thread Cert.WolnReferenceIdeal.nD Cert.WolnReferenceIdeal.τ).loc Cert.WolnReferenceIdeal.main_arg1)
      ∧ r.2.mem ((c.tc : Thread Cert.WolnReferenceIdeal.nD Cert.WolnReferenceIdeal.τ).loc Cert.WolnReferenceIdeal.main_arg2) = m ((c.tc : Thread Cert.WolnReferenceIdeal.nD Cert.WolnReferenceIdeal.τ).loc Cert.WolnReferenceIdeal.main_arg2)
      ∧ r.2.mem ((c.tc : Thread Cert.WolnReferenceIdeal.nD Cert.WolnReferenceIdeal.τ).loc Cert.WolnReferenceIdeal.main_arg3) = m ((c.tc : Thread Cert.WolnReferenceIdeal.nD Cert.WolnReferenceIdeal.τ).loc Cert.WolnReferenceIdeal.main_arg3)
      ∧ r.2.mem ((c.tc : Thread Cert.WolnReferenceIdeal.nD Cert.WolnReferenceIdeal.τ).loc Cert.WolnReferenceIdeal.main_arg4) = m ((c.tc : Thread Cert.WolnReferenceIdeal.nD Cert.WolnReferenceIdeal.τ).loc Cert.WolnReferenceIdeal.main_arg4))
      ∧ r.2.sem = fun _ => 0)

def quiescent_DownlnKernel [hDownlnKernel : Cert.DownlnKernel.Facts] : Prop :=
  ∀ (m : (ℓ : Loc Cert.DownlnKernel.nD Cert.DownlnKernel.τ Cert.DownlnKernel.sig) → Buf (Elt Bits) ℓ) (g : Dev Cert.DownlnKernel.nD → PrngReg), Pre_DownlnKernel m →
    θ_run (Cert.DownlnKernel.defs (F := Bits)) (onTc (τ := Cert.DownlnKernel.τ) (Cert.DownlnKernel.main (F := Bits))) ⟨m, fun _ => 0, g⟩ (fun r => (∀ c : Dev Cert.DownlnKernel.nD,
      r.2.mem ((c.tc : Thread Cert.DownlnKernel.nD Cert.DownlnKernel.τ).loc Cert.DownlnKernel.main_arg0) = m ((c.tc : Thread Cert.DownlnKernel.nD Cert.DownlnKernel.τ).loc Cert.DownlnKernel.main_arg0)
      ∧ r.2.mem ((c.tc : Thread Cert.DownlnKernel.nD Cert.DownlnKernel.τ).loc Cert.DownlnKernel.main_arg1) = m ((c.tc : Thread Cert.DownlnKernel.nD Cert.DownlnKernel.τ).loc Cert.DownlnKernel.main_arg1)
      ∧ r.2.mem ((c.tc : Thread Cert.DownlnKernel.nD Cert.DownlnKernel.τ).loc Cert.DownlnKernel.main_arg2) = m ((c.tc : Thread Cert.DownlnKernel.nD Cert.DownlnKernel.τ).loc Cert.DownlnKernel.main_arg2)
      ∧ r.2.mem ((c.tc : Thread Cert.DownlnKernel.nD Cert.DownlnKernel.τ).loc Cert.DownlnKernel.main_arg3) = m ((c.tc : Thread Cert.DownlnKernel.nD Cert.DownlnKernel.τ).loc Cert.DownlnKernel.main_arg3)
      ∧ r.2.mem ((c.tc : Thread Cert.DownlnKernel.nD Cert.DownlnKernel.τ).loc Cert.DownlnKernel.main_arg4) = m ((c.tc : Thread Cert.DownlnKernel.nD Cert.DownlnKernel.τ).loc Cert.DownlnKernel.main_arg4))
      ∧ r.2.sem = fun _ => 0)

def quiescent_DownlnKernelIdeal [hDownlnKernelIdeal : Cert.DownlnKernelIdeal.Facts] : Prop :=
  ∀ (m : (ℓ : Loc Cert.DownlnKernelIdeal.nD Cert.DownlnKernelIdeal.τ Cert.DownlnKernelIdeal.sig) → Buf (Elt Ideal) ℓ) (g : Dev Cert.DownlnKernelIdeal.nD → PrngReg), Pre_DownlnKernelIdeal m →
    θ_run (Cert.DownlnKernelIdeal.defs (F := Ideal)) (onTc (τ := Cert.DownlnKernelIdeal.τ) (Cert.DownlnKernelIdeal.main (F := Ideal))) ⟨m, fun _ => 0, g⟩ (fun r => (∀ c : Dev Cert.DownlnKernelIdeal.nD,
      r.2.mem ((c.tc : Thread Cert.DownlnKernelIdeal.nD Cert.DownlnKernelIdeal.τ).loc Cert.DownlnKernelIdeal.main_arg0) = m ((c.tc : Thread Cert.DownlnKernelIdeal.nD Cert.DownlnKernelIdeal.τ).loc Cert.DownlnKernelIdeal.main_arg0)
      ∧ r.2.mem ((c.tc : Thread Cert.DownlnKernelIdeal.nD Cert.DownlnKernelIdeal.τ).loc Cert.DownlnKernelIdeal.main_arg1) = m ((c.tc : Thread Cert.DownlnKernelIdeal.nD Cert.DownlnKernelIdeal.τ).loc Cert.DownlnKernelIdeal.main_arg1)
      ∧ r.2.mem ((c.tc : Thread Cert.DownlnKernelIdeal.nD Cert.DownlnKernelIdeal.τ).loc Cert.DownlnKernelIdeal.main_arg2) = m ((c.tc : Thread Cert.DownlnKernelIdeal.nD Cert.DownlnKernelIdeal.τ).loc Cert.DownlnKernelIdeal.main_arg2)
      ∧ r.2.mem ((c.tc : Thread Cert.DownlnKernelIdeal.nD Cert.DownlnKernelIdeal.τ).loc Cert.DownlnKernelIdeal.main_arg3) = m ((c.tc : Thread Cert.DownlnKernelIdeal.nD Cert.DownlnKernelIdeal.τ).loc Cert.DownlnKernelIdeal.main_arg3)
      ∧ r.2.mem ((c.tc : Thread Cert.DownlnKernelIdeal.nD Cert.DownlnKernelIdeal.τ).loc Cert.DownlnKernelIdeal.main_arg4) = m ((c.tc : Thread Cert.DownlnKernelIdeal.nD Cert.DownlnKernelIdeal.τ).loc Cert.DownlnKernelIdeal.main_arg4))
      ∧ r.2.sem = fun _ => 0)

def quiescent_DownlnReferenceIdeal [hDownlnReferenceIdeal : Cert.DownlnReferenceIdeal.Facts] : Prop :=
  ∀ (m : (ℓ : Loc Cert.DownlnReferenceIdeal.nD Cert.DownlnReferenceIdeal.τ Cert.DownlnReferenceIdeal.sig) → Buf (Elt Ideal) ℓ) (g : Dev Cert.DownlnReferenceIdeal.nD → PrngReg), Pre_DownlnReferenceIdeal m →
    θ_run (Cert.DownlnReferenceIdeal.defs (F := Ideal)) (onTc (τ := Cert.DownlnReferenceIdeal.τ) (Cert.DownlnReferenceIdeal.main (F := Ideal))) ⟨m, fun _ => 0, g⟩ (fun r => (∀ c : Dev Cert.DownlnReferenceIdeal.nD,
      r.2.mem ((c.tc : Thread Cert.DownlnReferenceIdeal.nD Cert.DownlnReferenceIdeal.τ).loc Cert.DownlnReferenceIdeal.main_arg0) = m ((c.tc : Thread Cert.DownlnReferenceIdeal.nD Cert.DownlnReferenceIdeal.τ).loc Cert.DownlnReferenceIdeal.main_arg0)
      ∧ r.2.mem ((c.tc : Thread Cert.DownlnReferenceIdeal.nD Cert.DownlnReferenceIdeal.τ).loc Cert.DownlnReferenceIdeal.main_arg1) = m ((c.tc : Thread Cert.DownlnReferenceIdeal.nD Cert.DownlnReferenceIdeal.τ).loc Cert.DownlnReferenceIdeal.main_arg1)
      ∧ r.2.mem ((c.tc : Thread Cert.DownlnReferenceIdeal.nD Cert.DownlnReferenceIdeal.τ).loc Cert.DownlnReferenceIdeal.main_arg2) = m ((c.tc : Thread Cert.DownlnReferenceIdeal.nD Cert.DownlnReferenceIdeal.τ).loc Cert.DownlnReferenceIdeal.main_arg2)
      ∧ r.2.mem ((c.tc : Thread Cert.DownlnReferenceIdeal.nD Cert.DownlnReferenceIdeal.τ).loc Cert.DownlnReferenceIdeal.main_arg3) = m ((c.tc : Thread Cert.DownlnReferenceIdeal.nD Cert.DownlnReferenceIdeal.τ).loc Cert.DownlnReferenceIdeal.main_arg3)
      ∧ r.2.mem ((c.tc : Thread Cert.DownlnReferenceIdeal.nD Cert.DownlnReferenceIdeal.τ).loc Cert.DownlnReferenceIdeal.main_arg4) = m ((c.tc : Thread Cert.DownlnReferenceIdeal.nD Cert.DownlnReferenceIdeal.τ).loc Cert.DownlnReferenceIdeal.main_arg4))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_MergefKernel [hMergefKernel : Cert.MergefKernel.Facts] : Prop :=
  ∀ (m : (ℓ : Loc Cert.MergefKernel.nD Cert.MergefKernel.τ Cert.MergefKernel.sig) → Buf (Elt Bits) ℓ) (g : Dev Cert.MergefKernel.nD → PrngReg), Pre_MergefKernel m →
    θ_run (Cert.MergefKernel.defs (F := Bits)) (onTc (τ := Cert.MergefKernel.τ) (Cert.MergefKernel.main (F := Bits))) ⟨m, fun _ => 0, g⟩ (fun r => (∀ c : Dev Cert.MergefKernel.nD,
      r.2.mem ((c.tc : Thread Cert.MergefKernel.nD Cert.MergefKernel.τ).loc Cert.MergefKernel.main_arg0) = m ((c.tc : Thread Cert.MergefKernel.nD Cert.MergefKernel.τ).loc Cert.MergefKernel.main_arg0)
      ∧ r.2.mem ((c.tc : Thread Cert.MergefKernel.nD Cert.MergefKernel.τ).loc Cert.MergefKernel.main_arg1) = m ((c.tc : Thread Cert.MergefKernel.nD Cert.MergefKernel.τ).loc Cert.MergefKernel.main_arg1)
      ∧ r.2.mem ((c.tc : Thread Cert.MergefKernel.nD Cert.MergefKernel.τ).loc Cert.MergefKernel.main_arg2) = m ((c.tc : Thread Cert.MergefKernel.nD Cert.MergefKernel.τ).loc Cert.MergefKernel.main_arg2)
      ∧ r.2.mem ((c.tc : Thread Cert.MergefKernel.nD Cert.MergefKernel.τ).loc Cert.MergefKernel.main_arg3) = m ((c.tc : Thread Cert.MergefKernel.nD Cert.MergefKernel.τ).loc Cert.MergefKernel.main_arg3)
      ∧ r.2.mem ((c.tc : Thread Cert.MergefKernel.nD Cert.MergefKernel.τ).loc Cert.MergefKernel.main_arg4) = m ((c.tc : Thread Cert.MergefKernel.nD Cert.MergefKernel.τ).loc Cert.MergefKernel.main_arg4)
      ∧ r.2.mem ((c.tc : Thread Cert.MergefKernel.nD Cert.MergefKernel.τ).loc Cert.MergefKernel.main_arg5) = m ((c.tc : Thread Cert.MergefKernel.nD Cert.MergefKernel.τ).loc Cert.MergefKernel.main_arg5))
      ∧ r.2.sem = fun _ => 0)

def quiescent_MergefKernelIdeal [hMergefKernelIdeal : Cert.MergefKernelIdeal.Facts] : Prop :=
  ∀ (m : (ℓ : Loc Cert.MergefKernelIdeal.nD Cert.MergefKernelIdeal.τ Cert.MergefKernelIdeal.sig) → Buf (Elt Ideal) ℓ) (g : Dev Cert.MergefKernelIdeal.nD → PrngReg), Pre_MergefKernelIdeal m →
    θ_run (Cert.MergefKernelIdeal.defs (F := Ideal)) (onTc (τ := Cert.MergefKernelIdeal.τ) (Cert.MergefKernelIdeal.main (F := Ideal))) ⟨m, fun _ => 0, g⟩ (fun r => (∀ c : Dev Cert.MergefKernelIdeal.nD,
      r.2.mem ((c.tc : Thread Cert.MergefKernelIdeal.nD Cert.MergefKernelIdeal.τ).loc Cert.MergefKernelIdeal.main_arg0) = m ((c.tc : Thread Cert.MergefKernelIdeal.nD Cert.MergefKernelIdeal.τ).loc Cert.MergefKernelIdeal.main_arg0)
      ∧ r.2.mem ((c.tc : Thread Cert.MergefKernelIdeal.nD Cert.MergefKernelIdeal.τ).loc Cert.MergefKernelIdeal.main_arg1) = m ((c.tc : Thread Cert.MergefKernelIdeal.nD Cert.MergefKernelIdeal.τ).loc Cert.MergefKernelIdeal.main_arg1)
      ∧ r.2.mem ((c.tc : Thread Cert.MergefKernelIdeal.nD Cert.MergefKernelIdeal.τ).loc Cert.MergefKernelIdeal.main_arg2) = m ((c.tc : Thread Cert.MergefKernelIdeal.nD Cert.MergefKernelIdeal.τ).loc Cert.MergefKernelIdeal.main_arg2)
      ∧ r.2.mem ((c.tc : Thread Cert.MergefKernelIdeal.nD Cert.MergefKernelIdeal.τ).loc Cert.MergefKernelIdeal.main_arg3) = m ((c.tc : Thread Cert.MergefKernelIdeal.nD Cert.MergefKernelIdeal.τ).loc Cert.MergefKernelIdeal.main_arg3)
      ∧ r.2.mem ((c.tc : Thread Cert.MergefKernelIdeal.nD Cert.MergefKernelIdeal.τ).loc Cert.MergefKernelIdeal.main_arg4) = m ((c.tc : Thread Cert.MergefKernelIdeal.nD Cert.MergefKernelIdeal.τ).loc Cert.MergefKernelIdeal.main_arg4)
      ∧ r.2.mem ((c.tc : Thread Cert.MergefKernelIdeal.nD Cert.MergefKernelIdeal.τ).loc Cert.MergefKernelIdeal.main_arg5) = m ((c.tc : Thread Cert.MergefKernelIdeal.nD Cert.MergefKernelIdeal.τ).loc Cert.MergefKernelIdeal.main_arg5))
      ∧ r.2.sem = fun _ => 0)

def quiescent_MergefReferenceIdeal [hMergefReferenceIdeal : Cert.MergefReferenceIdeal.Facts] : Prop :=
  ∀ (m : (ℓ : Loc Cert.MergefReferenceIdeal.nD Cert.MergefReferenceIdeal.τ Cert.MergefReferenceIdeal.sig) → Buf (Elt Ideal) ℓ) (g : Dev Cert.MergefReferenceIdeal.nD → PrngReg), Pre_MergefReferenceIdeal m →
    θ_run (Cert.MergefReferenceIdeal.defs (F := Ideal)) (onTc (τ := Cert.MergefReferenceIdeal.τ) (Cert.MergefReferenceIdeal.main (F := Ideal))) ⟨m, fun _ => 0, g⟩ (fun r => (∀ c : Dev Cert.MergefReferenceIdeal.nD,
      r.2.mem ((c.tc : Thread Cert.MergefReferenceIdeal.nD Cert.MergefReferenceIdeal.τ).loc Cert.MergefReferenceIdeal.main_arg0) = m ((c.tc : Thread Cert.MergefReferenceIdeal.nD Cert.MergefReferenceIdeal.τ).loc Cert.MergefReferenceIdeal.main_arg0)
      ∧ r.2.mem ((c.tc : Thread Cert.MergefReferenceIdeal.nD Cert.MergefReferenceIdeal.τ).loc Cert.MergefReferenceIdeal.main_arg1) = m ((c.tc : Thread Cert.MergefReferenceIdeal.nD Cert.MergefReferenceIdeal.τ).loc Cert.MergefReferenceIdeal.main_arg1)
      ∧ r.2.mem ((c.tc : Thread Cert.MergefReferenceIdeal.nD Cert.MergefReferenceIdeal.τ).loc Cert.MergefReferenceIdeal.main_arg2) = m ((c.tc : Thread Cert.MergefReferenceIdeal.nD Cert.MergefReferenceIdeal.τ).loc Cert.MergefReferenceIdeal.main_arg2)
      ∧ r.2.mem ((c.tc : Thread Cert.MergefReferenceIdeal.nD Cert.MergefReferenceIdeal.τ).loc Cert.MergefReferenceIdeal.main_arg3) = m ((c.tc : Thread Cert.MergefReferenceIdeal.nD Cert.MergefReferenceIdeal.τ).loc Cert.MergefReferenceIdeal.main_arg3)
      ∧ r.2.mem ((c.tc : Thread Cert.MergefReferenceIdeal.nD Cert.MergefReferenceIdeal.τ).loc Cert.MergefReferenceIdeal.main_arg4) = m ((c.tc : Thread Cert.MergefReferenceIdeal.nD Cert.MergefReferenceIdeal.τ).loc Cert.MergefReferenceIdeal.main_arg4)
      ∧ r.2.mem ((c.tc : Thread Cert.MergefReferenceIdeal.nD Cert.MergefReferenceIdeal.τ).loc Cert.MergefReferenceIdeal.main_arg5) = m ((c.tc : Thread Cert.MergefReferenceIdeal.nD Cert.MergefReferenceIdeal.τ).loc Cert.MergefReferenceIdeal.main_arg5))
      ∧ r.2.sem = fun _ => 0)

def quiescent_LbfKernel [hLbfKernel : Cert.LbfKernel.Facts] : Prop :=
  ∀ (m : (ℓ : Loc Cert.LbfKernel.nD Cert.LbfKernel.τ Cert.LbfKernel.sig) → Buf (Elt Bits) ℓ) (g : Dev Cert.LbfKernel.nD → PrngReg), Pre_LbfKernel m →
    θ_run (Cert.LbfKernel.defs (F := Bits)) (onTc (τ := Cert.LbfKernel.τ) (Cert.LbfKernel.main (F := Bits))) ⟨m, fun _ => 0, g⟩ (fun r => (∀ c : Dev Cert.LbfKernel.nD,
      r.2.mem ((c.tc : Thread Cert.LbfKernel.nD Cert.LbfKernel.τ).loc Cert.LbfKernel.main_arg0) = m ((c.tc : Thread Cert.LbfKernel.nD Cert.LbfKernel.τ).loc Cert.LbfKernel.main_arg0))
      ∧ r.2.sem = fun _ => 0)

def quiescent_LbfKernelIdeal [hLbfKernelIdeal : Cert.LbfKernelIdeal.Facts] : Prop :=
  ∀ (m : (ℓ : Loc Cert.LbfKernelIdeal.nD Cert.LbfKernelIdeal.τ Cert.LbfKernelIdeal.sig) → Buf (Elt Ideal) ℓ) (g : Dev Cert.LbfKernelIdeal.nD → PrngReg), Pre_LbfKernelIdeal m →
    θ_run (Cert.LbfKernelIdeal.defs (F := Ideal)) (onTc (τ := Cert.LbfKernelIdeal.τ) (Cert.LbfKernelIdeal.main (F := Ideal))) ⟨m, fun _ => 0, g⟩ (fun r => (∀ c : Dev Cert.LbfKernelIdeal.nD,
      r.2.mem ((c.tc : Thread Cert.LbfKernelIdeal.nD Cert.LbfKernelIdeal.τ).loc Cert.LbfKernelIdeal.main_arg0) = m ((c.tc : Thread Cert.LbfKernelIdeal.nD Cert.LbfKernelIdeal.τ).loc Cert.LbfKernelIdeal.main_arg0))
      ∧ r.2.sem = fun _ => 0)

def quiescent_LbfReferenceIdeal [hLbfReferenceIdeal : Cert.LbfReferenceIdeal.Facts] : Prop :=
  ∀ (m : (ℓ : Loc Cert.LbfReferenceIdeal.nD Cert.LbfReferenceIdeal.τ Cert.LbfReferenceIdeal.sig) → Buf (Elt Ideal) ℓ) (g : Dev Cert.LbfReferenceIdeal.nD → PrngReg), Pre_LbfReferenceIdeal m →
    θ_run (Cert.LbfReferenceIdeal.defs (F := Ideal)) (onTc (τ := Cert.LbfReferenceIdeal.τ) (Cert.LbfReferenceIdeal.main (F := Ideal))) ⟨m, fun _ => 0, g⟩ (fun r => (∀ c : Dev Cert.LbfReferenceIdeal.nD,
      r.2.mem ((c.tc : Thread Cert.LbfReferenceIdeal.nD Cert.LbfReferenceIdeal.τ).loc Cert.LbfReferenceIdeal.main_arg0) = m ((c.tc : Thread Cert.LbfReferenceIdeal.nD Cert.LbfReferenceIdeal.τ).loc Cert.LbfReferenceIdeal.main_arg0))
      ∧ r.2.sem = fun _ => 0)

def quiescent_InbKernel [hInbKernel : Cert.InbKernel.Facts] : Prop :=
  ∀ (m : (ℓ : Loc Cert.InbKernel.nD Cert.InbKernel.τ Cert.InbKernel.sig) → Buf (Elt Bits) ℓ) (g : Dev Cert.InbKernel.nD → PrngReg), Pre_InbKernel m →
    θ_run (Cert.InbKernel.defs (F := Bits)) (onTc (τ := Cert.InbKernel.τ) (Cert.InbKernel.main (F := Bits))) ⟨m, fun _ => 0, g⟩ (fun r => (∀ c : Dev Cert.InbKernel.nD,
      r.2.mem ((c.tc : Thread Cert.InbKernel.nD Cert.InbKernel.τ).loc Cert.InbKernel.main_arg0) = m ((c.tc : Thread Cert.InbKernel.nD Cert.InbKernel.τ).loc Cert.InbKernel.main_arg0)
      ∧ r.2.mem ((c.tc : Thread Cert.InbKernel.nD Cert.InbKernel.τ).loc Cert.InbKernel.main_arg1) = m ((c.tc : Thread Cert.InbKernel.nD Cert.InbKernel.τ).loc Cert.InbKernel.main_arg1)
      ∧ r.2.mem ((c.tc : Thread Cert.InbKernel.nD Cert.InbKernel.τ).loc Cert.InbKernel.main_arg2) = m ((c.tc : Thread Cert.InbKernel.nD Cert.InbKernel.τ).loc Cert.InbKernel.main_arg2)
      ∧ r.2.mem ((c.tc : Thread Cert.InbKernel.nD Cert.InbKernel.τ).loc Cert.InbKernel.main_arg3) = m ((c.tc : Thread Cert.InbKernel.nD Cert.InbKernel.τ).loc Cert.InbKernel.main_arg3)
      ∧ r.2.mem ((c.tc : Thread Cert.InbKernel.nD Cert.InbKernel.τ).loc Cert.InbKernel.main_arg4) = m ((c.tc : Thread Cert.InbKernel.nD Cert.InbKernel.τ).loc Cert.InbKernel.main_arg4)
      ∧ r.2.mem ((c.tc : Thread Cert.InbKernel.nD Cert.InbKernel.τ).loc Cert.InbKernel.main_arg5) = m ((c.tc : Thread Cert.InbKernel.nD Cert.InbKernel.τ).loc Cert.InbKernel.main_arg5))
      ∧ r.2.sem = fun _ => 0)

def quiescent_InbKernelIdeal [hInbKernelIdeal : Cert.InbKernelIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
      ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
      ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
      ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2)
      ∧ r.2.mem ((c.tc : Thread Cert.InbReferenceIdeal.nD Cert.InbReferenceIdeal.τ).loc Cert.InbReferenceIdeal.main_arg3) = m ((c.tc : Thread Cert.InbReferenceIdeal.nD Cert.InbReferenceIdeal.τ).loc Cert.InbReferenceIdeal.main_arg3)
      ∧ r.2.mem ((c.tc : Thread Cert.InbReferenceIdeal.nD Cert.InbReferenceIdeal.τ).loc Cert.InbReferenceIdeal.main_arg4) = m ((c.tc : Thread Cert.InbReferenceIdeal.nD Cert.InbReferenceIdeal.τ).loc Cert.InbReferenceIdeal.main_arg4)
      ∧ r.2.mem ((c.tc : Thread Cert.InbReferenceIdeal.nD Cert.InbReferenceIdeal.τ).loc Cert.InbReferenceIdeal.main_arg5) = m ((c.tc : Thread Cert.InbReferenceIdeal.nD Cert.InbReferenceIdeal.τ).loc Cert.InbReferenceIdeal.main_arg5))
      ∧ r.2.sem = fun _ => 0)

def quiescent_GupKernel [hGupKernel : Cert.GupKernel.Facts] : Prop :=
  ∀ (m : (ℓ : Loc Cert.GupKernel.nD Cert.GupKernel.τ Cert.GupKernel.sig) → Buf (Elt Bits) ℓ) (g : Dev Cert.GupKernel.nD → PrngReg), Pre_GupKernel m →
    θ_run (Cert.GupKernel.defs (F := Bits)) (onTc (τ := Cert.GupKernel.τ) (Cert.GupKernel.main (F := Bits))) ⟨m, fun _ => 0, g⟩ (fun r => (∀ c : Dev Cert.GupKernel.nD,
      r.2.mem ((c.tc : Thread Cert.GupKernel.nD Cert.GupKernel.τ).loc Cert.GupKernel.main_arg0) = m ((c.tc : Thread Cert.GupKernel.nD Cert.GupKernel.τ).loc Cert.GupKernel.main_arg0)
      ∧ r.2.mem ((c.tc : Thread Cert.GupKernel.nD Cert.GupKernel.τ).loc Cert.GupKernel.main_arg1) = m ((c.tc : Thread Cert.GupKernel.nD Cert.GupKernel.τ).loc Cert.GupKernel.main_arg1))
      ∧ r.2.sem = fun _ => 0)

def quiescent_GupKernelIdeal [hGupKernelIdeal : Cert.GupKernelIdeal.Facts] : Prop :=
  ∀ (m : (ℓ : Loc Cert.GupKernelIdeal.nD Cert.GupKernelIdeal.τ Cert.GupKernelIdeal.sig) → Buf (Elt Ideal) ℓ) (g : Dev Cert.GupKernelIdeal.nD → PrngReg), Pre_GupKernelIdeal m →
    θ_run (Cert.GupKernelIdeal.defs (F := Ideal)) (onTc (τ := Cert.GupKernelIdeal.τ) (Cert.GupKernelIdeal.main (F := Ideal))) ⟨m, fun _ => 0, g⟩ (fun r => (∀ c : Dev Cert.GupKernelIdeal.nD,
      r.2.mem ((c.tc : Thread Cert.GupKernelIdeal.nD Cert.GupKernelIdeal.τ).loc Cert.GupKernelIdeal.main_arg0) = m ((c.tc : Thread Cert.GupKernelIdeal.nD Cert.GupKernelIdeal.τ).loc Cert.GupKernelIdeal.main_arg0)
      ∧ r.2.mem ((c.tc : Thread Cert.GupKernelIdeal.nD Cert.GupKernelIdeal.τ).loc Cert.GupKernelIdeal.main_arg1) = m ((c.tc : Thread Cert.GupKernelIdeal.nD Cert.GupKernelIdeal.τ).loc Cert.GupKernelIdeal.main_arg1))
      ∧ r.2.sem = fun _ => 0)

def quiescent_GupReferenceIdeal [hGupReferenceIdeal : Cert.GupReferenceIdeal.Facts] : Prop :=
  ∀ (m : (ℓ : Loc Cert.GupReferenceIdeal.nD Cert.GupReferenceIdeal.τ Cert.GupReferenceIdeal.sig) → Buf (Elt Ideal) ℓ) (g : Dev Cert.GupReferenceIdeal.nD → PrngReg), Pre_GupReferenceIdeal m →
    θ_run (Cert.GupReferenceIdeal.defs (F := Ideal)) (onTc (τ := Cert.GupReferenceIdeal.τ) (Cert.GupReferenceIdeal.main (F := Ideal))) ⟨m, fun _ => 0, g⟩ (fun r => (∀ c : Dev Cert.GupReferenceIdeal.nD,
      r.2.mem ((c.tc : Thread Cert.GupReferenceIdeal.nD Cert.GupReferenceIdeal.τ).loc Cert.GupReferenceIdeal.main_arg0) = m ((c.tc : Thread Cert.GupReferenceIdeal.nD Cert.GupReferenceIdeal.τ).loc Cert.GupReferenceIdeal.main_arg0)
      ∧ r.2.mem ((c.tc : Thread Cert.GupReferenceIdeal.nD Cert.GupReferenceIdeal.τ).loc Cert.GupReferenceIdeal.main_arg1) = m ((c.tc : Thread Cert.GupReferenceIdeal.nD Cert.GupReferenceIdeal.τ).loc Cert.GupReferenceIdeal.main_arg1))
      ∧ r.2.sem = fun _ => 0)

def quiescent_MemkvKernel [hMemkvKernel : Cert.MemkvKernel.Facts] : Prop :=
  ∀ (m : (ℓ : Loc Cert.MemkvKernel.nD Cert.MemkvKernel.τ Cert.MemkvKernel.sig) → Buf (Elt Bits) ℓ) (g : Dev Cert.MemkvKernel.nD → PrngReg), Pre_MemkvKernel m →
    θ_run (Cert.MemkvKernel.defs (F := Bits)) (onTc (τ := Cert.MemkvKernel.τ) (Cert.MemkvKernel.main (F := Bits))) ⟨m, fun _ => 0, g⟩ (fun r => (∀ c : Dev Cert.MemkvKernel.nD,
      r.2.mem ((c.tc : Thread Cert.MemkvKernel.nD Cert.MemkvKernel.τ).loc Cert.MemkvKernel.main_arg0) = m ((c.tc : Thread Cert.MemkvKernel.nD Cert.MemkvKernel.τ).loc Cert.MemkvKernel.main_arg0)
      ∧ r.2.mem ((c.tc : Thread Cert.MemkvKernel.nD Cert.MemkvKernel.τ).loc Cert.MemkvKernel.main_arg1) = m ((c.tc : Thread Cert.MemkvKernel.nD Cert.MemkvKernel.τ).loc Cert.MemkvKernel.main_arg1)
      ∧ r.2.mem ((c.tc : Thread Cert.MemkvKernel.nD Cert.MemkvKernel.τ).loc Cert.MemkvKernel.main_arg2) = m ((c.tc : Thread Cert.MemkvKernel.nD Cert.MemkvKernel.τ).loc Cert.MemkvKernel.main_arg2))
      ∧ r.2.sem = fun _ => 0)

def quiescent_MemkvKernelIdeal [hMemkvKernelIdeal : Cert.MemkvKernelIdeal.Facts] : Prop :=
  ∀ (m : (ℓ : Loc Cert.MemkvKernelIdeal.nD Cert.MemkvKernelIdeal.τ Cert.MemkvKernelIdeal.sig) → Buf (Elt Ideal) ℓ) (g : Dev Cert.MemkvKernelIdeal.nD → PrngReg), Pre_MemkvKernelIdeal m →
    θ_run (Cert.MemkvKernelIdeal.defs (F := Ideal)) (onTc (τ := Cert.MemkvKernelIdeal.τ) (Cert.MemkvKernelIdeal.main (F := Ideal))) ⟨m, fun _ => 0, g⟩ (fun r => (∀ c : Dev Cert.MemkvKernelIdeal.nD,
      r.2.mem ((c.tc : Thread Cert.MemkvKernelIdeal.nD Cert.MemkvKernelIdeal.τ).loc Cert.MemkvKernelIdeal.main_arg0) = m ((c.tc : Thread Cert.MemkvKernelIdeal.nD Cert.MemkvKernelIdeal.τ).loc Cert.MemkvKernelIdeal.main_arg0)
      ∧ r.2.mem ((c.tc : Thread Cert.MemkvKernelIdeal.nD Cert.MemkvKernelIdeal.τ).loc Cert.MemkvKernelIdeal.main_arg1) = m ((c.tc : Thread Cert.MemkvKernelIdeal.nD Cert.MemkvKernelIdeal.τ).loc Cert.MemkvKernelIdeal.main_arg1)
      ∧ r.2.mem ((c.tc : Thread Cert.MemkvKernelIdeal.nD Cert.MemkvKernelIdeal.τ).loc Cert.MemkvKernelIdeal.main_arg2) = m ((c.tc : Thread Cert.MemkvKernelIdeal.nD Cert.MemkvKernelIdeal.τ).loc Cert.MemkvKernelIdeal.main_arg2))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2))
      ∧ r.2.sem = fun _ => 0)

def quiescent_AdamsKernel [hAdamsKernel : Cert.AdamsKernel.Facts] : Prop :=
  ∀ (m : (ℓ : Loc Cert.AdamsKernel.nD Cert.AdamsKernel.τ Cert.AdamsKernel.sig) → Buf (Elt Bits) ℓ) (g : Dev Cert.AdamsKernel.nD → PrngReg), Pre_AdamsKernel m →
    θ_run (Cert.AdamsKernel.defs (F := Bits)) (onTc (τ := Cert.AdamsKernel.τ) (Cert.AdamsKernel.main (F := Bits))) ⟨m, fun _ => 0, g⟩ (fun r => (∀ c : Dev Cert.AdamsKernel.nD,
      r.2.mem ((c.tc : Thread Cert.AdamsKernel.nD Cert.AdamsKernel.τ).loc Cert.AdamsKernel.main_arg0) = m ((c.tc : Thread Cert.AdamsKernel.nD Cert.AdamsKernel.τ).loc Cert.AdamsKernel.main_arg0)
      ∧ r.2.mem ((c.tc : Thread Cert.AdamsKernel.nD Cert.AdamsKernel.τ).loc Cert.AdamsKernel.main_arg1) = m ((c.tc : Thread Cert.AdamsKernel.nD Cert.AdamsKernel.τ).loc Cert.AdamsKernel.main_arg1)
      ∧ r.2.mem ((c.tc : Thread Cert.AdamsKernel.nD Cert.AdamsKernel.τ).loc Cert.AdamsKernel.main_arg2) = m ((c.tc : Thread Cert.AdamsKernel.nD Cert.AdamsKernel.τ).loc Cert.AdamsKernel.main_arg2)
      ∧ r.2.mem ((c.tc : Thread Cert.AdamsKernel.nD Cert.AdamsKernel.τ).loc Cert.AdamsKernel.main_arg3) = m ((c.tc : Thread Cert.AdamsKernel.nD Cert.AdamsKernel.τ).loc Cert.AdamsKernel.main_arg3))
      ∧ r.2.sem = fun _ => 0)

def quiescent_AdamsKernelIdeal [hAdamsKernelIdeal : Cert.AdamsKernelIdeal.Facts] : Prop :=
  ∀ (m : (ℓ : Loc Cert.AdamsKernelIdeal.nD Cert.AdamsKernelIdeal.τ Cert.AdamsKernelIdeal.sig) → Buf (Elt Ideal) ℓ) (g : Dev Cert.AdamsKernelIdeal.nD → PrngReg), Pre_AdamsKernelIdeal m →
    θ_run (Cert.AdamsKernelIdeal.defs (F := Ideal)) (onTc (τ := Cert.AdamsKernelIdeal.τ) (Cert.AdamsKernelIdeal.main (F := Ideal))) ⟨m, fun _ => 0, g⟩ (fun r => (∀ c : Dev Cert.AdamsKernelIdeal.nD,
      r.2.mem ((c.tc : Thread Cert.AdamsKernelIdeal.nD Cert.AdamsKernelIdeal.τ).loc Cert.AdamsKernelIdeal.main_arg0) = m ((c.tc : Thread Cert.AdamsKernelIdeal.nD Cert.AdamsKernelIdeal.τ).loc Cert.AdamsKernelIdeal.main_arg0)
      ∧ r.2.mem ((c.tc : Thread Cert.AdamsKernelIdeal.nD Cert.AdamsKernelIdeal.τ).loc Cert.AdamsKernelIdeal.main_arg1) = m ((c.tc : Thread Cert.AdamsKernelIdeal.nD Cert.AdamsKernelIdeal.τ).loc Cert.AdamsKernelIdeal.main_arg1)
      ∧ r.2.mem ((c.tc : Thread Cert.AdamsKernelIdeal.nD Cert.AdamsKernelIdeal.τ).loc Cert.AdamsKernelIdeal.main_arg2) = m ((c.tc : Thread Cert.AdamsKernelIdeal.nD Cert.AdamsKernelIdeal.τ).loc Cert.AdamsKernelIdeal.main_arg2)
      ∧ r.2.mem ((c.tc : Thread Cert.AdamsKernelIdeal.nD Cert.AdamsKernelIdeal.τ).loc Cert.AdamsKernelIdeal.main_arg3) = m ((c.tc : Thread Cert.AdamsKernelIdeal.nD Cert.AdamsKernelIdeal.τ).loc Cert.AdamsKernelIdeal.main_arg3))
      ∧ r.2.sem = fun _ => 0)

def quiescent_AdamsReferenceIdeal [hAdamsReferenceIdeal : Cert.AdamsReferenceIdeal.Facts] : Prop :=
  ∀ (m : (ℓ : Loc Cert.AdamsReferenceIdeal.nD Cert.AdamsReferenceIdeal.τ Cert.AdamsReferenceIdeal.sig) → Buf (Elt Ideal) ℓ) (g : Dev Cert.AdamsReferenceIdeal.nD → PrngReg), Pre_AdamsReferenceIdeal m →
    θ_run (Cert.AdamsReferenceIdeal.defs (F := Ideal)) (onTc (τ := Cert.AdamsReferenceIdeal.τ) (Cert.AdamsReferenceIdeal.main (F := Ideal))) ⟨m, fun _ => 0, g⟩ (fun r => (∀ c : Dev Cert.AdamsReferenceIdeal.nD,
      r.2.mem ((c.tc : Thread Cert.AdamsReferenceIdeal.nD Cert.AdamsReferenceIdeal.τ).loc Cert.AdamsReferenceIdeal.main_arg0) = m ((c.tc : Thread Cert.AdamsReferenceIdeal.nD Cert.AdamsReferenceIdeal.τ).loc Cert.AdamsReferenceIdeal.main_arg0)
      ∧ r.2.mem ((c.tc : Thread Cert.AdamsReferenceIdeal.nD Cert.AdamsReferenceIdeal.τ).loc Cert.AdamsReferenceIdeal.main_arg1) = m ((c.tc : Thread Cert.AdamsReferenceIdeal.nD Cert.AdamsReferenceIdeal.τ).loc Cert.AdamsReferenceIdeal.main_arg1)
      ∧ r.2.mem ((c.tc : Thread Cert.AdamsReferenceIdeal.nD Cert.AdamsReferenceIdeal.τ).loc Cert.AdamsReferenceIdeal.main_arg2) = m ((c.tc : Thread Cert.AdamsReferenceIdeal.nD Cert.AdamsReferenceIdeal.τ).loc Cert.AdamsReferenceIdeal.main_arg2)
      ∧ r.2.mem ((c.tc : Thread Cert.AdamsReferenceIdeal.nD Cert.AdamsReferenceIdeal.τ).loc Cert.AdamsReferenceIdeal.main_arg3) = m ((c.tc : Thread Cert.AdamsReferenceIdeal.nD Cert.AdamsReferenceIdeal.τ).loc Cert.AdamsReferenceIdeal.main_arg3))
      ∧ r.2.sem = fun _ => 0)

def quiescent_AdamcKernel [hAdamcKernel : Cert.AdamcKernel.Facts] : Prop :=
  ∀ (m : (ℓ : Loc Cert.AdamcKernel.nD Cert.AdamcKernel.τ Cert.AdamcKernel.sig) → Buf (Elt Bits) ℓ) (g : Dev Cert.AdamcKernel.nD → PrngReg), Pre_AdamcKernel m →
    θ_run (Cert.AdamcKernel.defs (F := Bits)) (onTc (τ := Cert.AdamcKernel.τ) (Cert.AdamcKernel.main (F := Bits))) ⟨m, fun _ => 0, g⟩ (fun r => (∀ c : Dev Cert.AdamcKernel.nD,
      r.2.mem ((c.tc : Thread Cert.AdamcKernel.nD Cert.AdamcKernel.τ).loc Cert.AdamcKernel.main_arg0) = m ((c.tc : Thread Cert.AdamcKernel.nD Cert.AdamcKernel.τ).loc Cert.AdamcKernel.main_arg0)
      ∧ r.2.mem ((c.tc : Thread Cert.AdamcKernel.nD Cert.AdamcKernel.τ).loc Cert.AdamcKernel.main_arg1) = m ((c.tc : Thread Cert.AdamcKernel.nD Cert.AdamcKernel.τ).loc Cert.AdamcKernel.main_arg1)
      ∧ r.2.mem ((c.tc : Thread Cert.AdamcKernel.nD Cert.AdamcKernel.τ).loc Cert.AdamcKernel.main_arg2) = m ((c.tc : Thread Cert.AdamcKernel.nD Cert.AdamcKernel.τ).loc Cert.AdamcKernel.main_arg2)
      ∧ r.2.mem ((c.tc : Thread Cert.AdamcKernel.nD Cert.AdamcKernel.τ).loc Cert.AdamcKernel.main_arg3) = m ((c.tc : Thread Cert.AdamcKernel.nD Cert.AdamcKernel.τ).loc Cert.AdamcKernel.main_arg3))
      ∧ r.2.sem = fun _ => 0)

def quiescent_AdamcKernelIdeal [hAdamcKernelIdeal : Cert.AdamcKernelIdeal.Facts] : Prop :=
  ∀ (m : (ℓ : Loc Cert.AdamcKernelIdeal.nD Cert.AdamcKernelIdeal.τ Cert.AdamcKernelIdeal.sig) → Buf (Elt Ideal) ℓ) (g : Dev Cert.AdamcKernelIdeal.nD → PrngReg), Pre_AdamcKernelIdeal m →
    θ_run (Cert.AdamcKernelIdeal.defs (F := Ideal)) (onTc (τ := Cert.AdamcKernelIdeal.τ) (Cert.AdamcKernelIdeal.main (F := Ideal))) ⟨m, fun _ => 0, g⟩ (fun r => (∀ c : Dev Cert.AdamcKernelIdeal.nD,
      r.2.mem ((c.tc : Thread Cert.AdamcKernelIdeal.nD Cert.AdamcKernelIdeal.τ).loc Cert.AdamcKernelIdeal.main_arg0) = m ((c.tc : Thread Cert.AdamcKernelIdeal.nD Cert.AdamcKernelIdeal.τ).loc Cert.AdamcKernelIdeal.main_arg0)
      ∧ r.2.mem ((c.tc : Thread Cert.AdamcKernelIdeal.nD Cert.AdamcKernelIdeal.τ).loc Cert.AdamcKernelIdeal.main_arg1) = m ((c.tc : Thread Cert.AdamcKernelIdeal.nD Cert.AdamcKernelIdeal.τ).loc Cert.AdamcKernelIdeal.main_arg1)
      ∧ r.2.mem ((c.tc : Thread Cert.AdamcKernelIdeal.nD Cert.AdamcKernelIdeal.τ).loc Cert.AdamcKernelIdeal.main_arg2) = m ((c.tc : Thread Cert.AdamcKernelIdeal.nD Cert.AdamcKernelIdeal.τ).loc Cert.AdamcKernelIdeal.main_arg2)
      ∧ r.2.mem ((c.tc : Thread Cert.AdamcKernelIdeal.nD Cert.AdamcKernelIdeal.τ).loc Cert.AdamcKernelIdeal.main_arg3) = m ((c.tc : Thread Cert.AdamcKernelIdeal.nD Cert.AdamcKernelIdeal.τ).loc Cert.AdamcKernelIdeal.main_arg3))
      ∧ r.2.sem = fun _ => 0)

def quiescent_AdamcReferenceIdeal [hAdamcReferenceIdeal : Cert.AdamcReferenceIdeal.Facts] : Prop :=
  ∀ (m : (ℓ : Loc Cert.AdamcReferenceIdeal.nD Cert.AdamcReferenceIdeal.τ Cert.AdamcReferenceIdeal.sig) → Buf (Elt Ideal) ℓ) (g : Dev Cert.AdamcReferenceIdeal.nD → PrngReg), Pre_AdamcReferenceIdeal m →
    θ_run (Cert.AdamcReferenceIdeal.defs (F := Ideal)) (onTc (τ := Cert.AdamcReferenceIdeal.τ) (Cert.AdamcReferenceIdeal.main (F := Ideal))) ⟨m, fun _ => 0, g⟩ (fun r => (∀ c : Dev Cert.AdamcReferenceIdeal.nD,
      r.2.mem ((c.tc : Thread Cert.AdamcReferenceIdeal.nD Cert.AdamcReferenceIdeal.τ).loc Cert.AdamcReferenceIdeal.main_arg0) = m ((c.tc : Thread Cert.AdamcReferenceIdeal.nD Cert.AdamcReferenceIdeal.τ).loc Cert.AdamcReferenceIdeal.main_arg0)
      ∧ r.2.mem ((c.tc : Thread Cert.AdamcReferenceIdeal.nD Cert.AdamcReferenceIdeal.τ).loc Cert.AdamcReferenceIdeal.main_arg1) = m ((c.tc : Thread Cert.AdamcReferenceIdeal.nD Cert.AdamcReferenceIdeal.τ).loc Cert.AdamcReferenceIdeal.main_arg1)
      ∧ r.2.mem ((c.tc : Thread Cert.AdamcReferenceIdeal.nD Cert.AdamcReferenceIdeal.τ).loc Cert.AdamcReferenceIdeal.main_arg2) = m ((c.tc : Thread Cert.AdamcReferenceIdeal.nD Cert.AdamcReferenceIdeal.τ).loc Cert.AdamcReferenceIdeal.main_arg2)
      ∧ r.2.mem ((c.tc : Thread Cert.AdamcReferenceIdeal.nD Cert.AdamcReferenceIdeal.τ).loc Cert.AdamcReferenceIdeal.main_arg3) = m ((c.tc : Thread Cert.AdamcReferenceIdeal.nD Cert.AdamcReferenceIdeal.τ).loc Cert.AdamcReferenceIdeal.main_arg3))
      ∧ r.2.sem = fun _ => 0)

def quiescent_AdamgKernel [hAdamgKernel : Cert.AdamgKernel.Facts] : Prop :=
  ∀ (m : (ℓ : Loc Cert.AdamgKernel.nD Cert.AdamgKernel.τ Cert.AdamgKernel.sig) → Buf (Elt Bits) ℓ) (g : Dev Cert.AdamgKernel.nD → PrngReg), Pre_AdamgKernel m →
    θ_run (Cert.AdamgKernel.defs (F := Bits)) (onTc (τ := Cert.AdamgKernel.τ) (Cert.AdamgKernel.main (F := Bits))) ⟨m, fun _ => 0, g⟩ (fun r => (∀ c : Dev Cert.AdamgKernel.nD,
      r.2.mem ((c.tc : Thread Cert.AdamgKernel.nD Cert.AdamgKernel.τ).loc Cert.AdamgKernel.main_arg0) = m ((c.tc : Thread Cert.AdamgKernel.nD Cert.AdamgKernel.τ).loc Cert.AdamgKernel.main_arg0)
      ∧ r.2.mem ((c.tc : Thread Cert.AdamgKernel.nD Cert.AdamgKernel.τ).loc Cert.AdamgKernel.main_arg1) = m ((c.tc : Thread Cert.AdamgKernel.nD Cert.AdamgKernel.τ).loc Cert.AdamgKernel.main_arg1)
      ∧ r.2.mem ((c.tc : Thread Cert.AdamgKernel.nD Cert.AdamgKernel.τ).loc Cert.AdamgKernel.main_arg2) = m ((c.tc : Thread Cert.AdamgKernel.nD Cert.AdamgKernel.τ).loc Cert.AdamgKernel.main_arg2)
      ∧ r.2.mem ((c.tc : Thread Cert.AdamgKernel.nD Cert.AdamgKernel.τ).loc Cert.AdamgKernel.main_arg3) = m ((c.tc : Thread Cert.AdamgKernel.nD Cert.AdamgKernel.τ).loc Cert.AdamgKernel.main_arg3))
      ∧ r.2.sem = fun _ => 0)

def quiescent_AdamgKernelIdeal [hAdamgKernelIdeal : Cert.AdamgKernelIdeal.Facts] : Prop :=
  ∀ (m : (ℓ : Loc Cert.AdamgKernelIdeal.nD Cert.AdamgKernelIdeal.τ Cert.AdamgKernelIdeal.sig) → Buf (Elt Ideal) ℓ) (g : Dev Cert.AdamgKernelIdeal.nD → PrngReg), Pre_AdamgKernelIdeal m →
    θ_run (Cert.AdamgKernelIdeal.defs (F := Ideal)) (onTc (τ := Cert.AdamgKernelIdeal.τ) (Cert.AdamgKernelIdeal.main (F := Ideal))) ⟨m, fun _ => 0, g⟩ (fun r => (∀ c : Dev Cert.AdamgKernelIdeal.nD,
      r.2.mem ((c.tc : Thread Cert.AdamgKernelIdeal.nD Cert.AdamgKernelIdeal.τ).loc Cert.AdamgKernelIdeal.main_arg0) = m ((c.tc : Thread Cert.AdamgKernelIdeal.nD Cert.AdamgKernelIdeal.τ).loc Cert.AdamgKernelIdeal.main_arg0)
      ∧ r.2.mem ((c.tc : Thread Cert.AdamgKernelIdeal.nD Cert.AdamgKernelIdeal.τ).loc Cert.AdamgKernelIdeal.main_arg1) = m ((c.tc : Thread Cert.AdamgKernelIdeal.nD Cert.AdamgKernelIdeal.τ).loc Cert.AdamgKernelIdeal.main_arg1)
      ∧ r.2.mem ((c.tc : Thread Cert.AdamgKernelIdeal.nD Cert.AdamgKernelIdeal.τ).loc Cert.AdamgKernelIdeal.main_arg2) = m ((c.tc : Thread Cert.AdamgKernelIdeal.nD Cert.AdamgKernelIdeal.τ).loc Cert.AdamgKernelIdeal.main_arg2)
      ∧ r.2.mem ((c.tc : Thread Cert.AdamgKernelIdeal.nD Cert.AdamgKernelIdeal.τ).loc Cert.AdamgKernelIdeal.main_arg3) = m ((c.tc : Thread Cert.AdamgKernelIdeal.nD Cert.AdamgKernelIdeal.τ).loc Cert.AdamgKernelIdeal.main_arg3))
      ∧ r.2.sem = fun _ => 0)

def quiescent_AdamgReferenceIdeal [hAdamgReferenceIdeal : Cert.AdamgReferenceIdeal.Facts] : Prop :=
  ∀ (m : (ℓ : Loc Cert.AdamgReferenceIdeal.nD Cert.AdamgReferenceIdeal.τ Cert.AdamgReferenceIdeal.sig) → Buf (Elt Ideal) ℓ) (g : Dev Cert.AdamgReferenceIdeal.nD → PrngReg), Pre_AdamgReferenceIdeal m →
    θ_run (Cert.AdamgReferenceIdeal.defs (F := Ideal)) (onTc (τ := Cert.AdamgReferenceIdeal.τ) (Cert.AdamgReferenceIdeal.main (F := Ideal))) ⟨m, fun _ => 0, g⟩ (fun r => (∀ c : Dev Cert.AdamgReferenceIdeal.nD,
      r.2.mem ((c.tc : Thread Cert.AdamgReferenceIdeal.nD Cert.AdamgReferenceIdeal.τ).loc Cert.AdamgReferenceIdeal.main_arg0) = m ((c.tc : Thread Cert.AdamgReferenceIdeal.nD Cert.AdamgReferenceIdeal.τ).loc Cert.AdamgReferenceIdeal.main_arg0)
      ∧ r.2.mem ((c.tc : Thread Cert.AdamgReferenceIdeal.nD Cert.AdamgReferenceIdeal.τ).loc Cert.AdamgReferenceIdeal.main_arg1) = m ((c.tc : Thread Cert.AdamgReferenceIdeal.nD Cert.AdamgReferenceIdeal.τ).loc Cert.AdamgReferenceIdeal.main_arg1)
      ∧ r.2.mem ((c.tc : Thread Cert.AdamgReferenceIdeal.nD Cert.AdamgReferenceIdeal.τ).loc Cert.AdamgReferenceIdeal.main_arg2) = m ((c.tc : Thread Cert.AdamgReferenceIdeal.nD Cert.AdamgReferenceIdeal.τ).loc Cert.AdamgReferenceIdeal.main_arg2)
      ∧ r.2.mem ((c.tc : Thread Cert.AdamgReferenceIdeal.nD Cert.AdamgReferenceIdeal.τ).loc Cert.AdamgReferenceIdeal.main_arg3) = m ((c.tc : Thread Cert.AdamgReferenceIdeal.nD Cert.AdamgReferenceIdeal.τ).loc Cert.AdamgReferenceIdeal.main_arg3))
      ∧ r.2.sem = fun _ => 0)

def quiescent_AdamlKernel [hAdamlKernel : Cert.AdamlKernel.Facts] : Prop :=
  ∀ (m : (ℓ : Loc Cert.AdamlKernel.nD Cert.AdamlKernel.τ Cert.AdamlKernel.sig) → Buf (Elt Bits) ℓ) (g : Dev Cert.AdamlKernel.nD → PrngReg), Pre_AdamlKernel m →
    θ_run (Cert.AdamlKernel.defs (F := Bits)) (onTc (τ := Cert.AdamlKernel.τ) (Cert.AdamlKernel.main (F := Bits))) ⟨m, fun _ => 0, g⟩ (fun r => (∀ c : Dev Cert.AdamlKernel.nD,
      r.2.mem ((c.tc : Thread Cert.AdamlKernel.nD Cert.AdamlKernel.τ).loc Cert.AdamlKernel.main_arg0) = m ((c.tc : Thread Cert.AdamlKernel.nD Cert.AdamlKernel.τ).loc Cert.AdamlKernel.main_arg0)
      ∧ r.2.mem ((c.tc : Thread Cert.AdamlKernel.nD Cert.AdamlKernel.τ).loc Cert.AdamlKernel.main_arg1) = m ((c.tc : Thread Cert.AdamlKernel.nD Cert.AdamlKernel.τ).loc Cert.AdamlKernel.main_arg1)
      ∧ r.2.mem ((c.tc : Thread Cert.AdamlKernel.nD Cert.AdamlKernel.τ).loc Cert.AdamlKernel.main_arg2) = m ((c.tc : Thread Cert.AdamlKernel.nD Cert.AdamlKernel.τ).loc Cert.AdamlKernel.main_arg2)
      ∧ r.2.mem ((c.tc : Thread Cert.AdamlKernel.nD Cert.AdamlKernel.τ).loc Cert.AdamlKernel.main_arg3) = m ((c.tc : Thread Cert.AdamlKernel.nD Cert.AdamlKernel.τ).loc Cert.AdamlKernel.main_arg3))
      ∧ r.2.sem = fun _ => 0)

def quiescent_AdamlKernelIdeal [hAdamlKernelIdeal : Cert.AdamlKernelIdeal.Facts] : Prop :=
  ∀ (m : (ℓ : Loc Cert.AdamlKernelIdeal.nD Cert.AdamlKernelIdeal.τ Cert.AdamlKernelIdeal.sig) → Buf (Elt Ideal) ℓ) (g : Dev Cert.AdamlKernelIdeal.nD → PrngReg), Pre_AdamlKernelIdeal m →
    θ_run (Cert.AdamlKernelIdeal.defs (F := Ideal)) (onTc (τ := Cert.AdamlKernelIdeal.τ) (Cert.AdamlKernelIdeal.main (F := Ideal))) ⟨m, fun _ => 0, g⟩ (fun r => (∀ c : Dev Cert.AdamlKernelIdeal.nD,
      r.2.mem ((c.tc : Thread Cert.AdamlKernelIdeal.nD Cert.AdamlKernelIdeal.τ).loc Cert.AdamlKernelIdeal.main_arg0) = m ((c.tc : Thread Cert.AdamlKernelIdeal.nD Cert.AdamlKernelIdeal.τ).loc Cert.AdamlKernelIdeal.main_arg0)
      ∧ r.2.mem ((c.tc : Thread Cert.AdamlKernelIdeal.nD Cert.AdamlKernelIdeal.τ).loc Cert.AdamlKernelIdeal.main_arg1) = m ((c.tc : Thread Cert.AdamlKernelIdeal.nD Cert.AdamlKernelIdeal.τ).loc Cert.AdamlKernelIdeal.main_arg1)
      ∧ r.2.mem ((c.tc : Thread Cert.AdamlKernelIdeal.nD Cert.AdamlKernelIdeal.τ).loc Cert.AdamlKernelIdeal.main_arg2) = m ((c.tc : Thread Cert.AdamlKernelIdeal.nD Cert.AdamlKernelIdeal.τ).loc Cert.AdamlKernelIdeal.main_arg2)
      ∧ r.2.mem ((c.tc : Thread Cert.AdamlKernelIdeal.nD Cert.AdamlKernelIdeal.τ).loc Cert.AdamlKernelIdeal.main_arg3) = m ((c.tc : Thread Cert.AdamlKernelIdeal.nD Cert.AdamlKernelIdeal.τ).loc Cert.AdamlKernelIdeal.main_arg3))
      ∧ r.2.sem = fun _ => 0)

def quiescent_AdamlReferenceIdeal [hAdamlReferenceIdeal : Cert.AdamlReferenceIdeal.Facts] : Prop :=
  ∀ (m : (ℓ : Loc Cert.AdamlReferenceIdeal.nD Cert.AdamlReferenceIdeal.τ Cert.AdamlReferenceIdeal.sig) → Buf (Elt Ideal) ℓ) (g : Dev Cert.AdamlReferenceIdeal.nD → PrngReg), Pre_AdamlReferenceIdeal m →
    θ_run (Cert.AdamlReferenceIdeal.defs (F := Ideal)) (onTc (τ := Cert.AdamlReferenceIdeal.τ) (Cert.AdamlReferenceIdeal.main (F := Ideal))) ⟨m, fun _ => 0, g⟩ (fun r => (∀ c : Dev Cert.AdamlReferenceIdeal.nD,
      r.2.mem ((c.tc : Thread Cert.AdamlReferenceIdeal.nD Cert.AdamlReferenceIdeal.τ).loc Cert.AdamlReferenceIdeal.main_arg0) = m ((c.tc : Thread Cert.AdamlReferenceIdeal.nD Cert.AdamlReferenceIdeal.τ).loc Cert.AdamlReferenceIdeal.main_arg0)
      ∧ r.2.mem ((c.tc : Thread Cert.AdamlReferenceIdeal.nD Cert.AdamlReferenceIdeal.τ).loc Cert.AdamlReferenceIdeal.main_arg1) = m ((c.tc : Thread Cert.AdamlReferenceIdeal.nD Cert.AdamlReferenceIdeal.τ).loc Cert.AdamlReferenceIdeal.main_arg1)
      ∧ r.2.mem ((c.tc : Thread Cert.AdamlReferenceIdeal.nD Cert.AdamlReferenceIdeal.τ).loc Cert.AdamlReferenceIdeal.main_arg2) = m ((c.tc : Thread Cert.AdamlReferenceIdeal.nD Cert.AdamlReferenceIdeal.τ).loc Cert.AdamlReferenceIdeal.main_arg2)
      ∧ r.2.mem ((c.tc : Thread Cert.AdamlReferenceIdeal.nD Cert.AdamlReferenceIdeal.τ).loc Cert.AdamlReferenceIdeal.main_arg3) = m ((c.tc : Thread Cert.AdamlReferenceIdeal.nD Cert.AdamlReferenceIdeal.τ).loc Cert.AdamlReferenceIdeal.main_arg3))
      ∧ r.2.sem = fun _ => 0)

def quiescent_AdamwKernel [hAdamwKernel : Cert.AdamwKernel.Facts] : Prop :=
  ∀ (m : (ℓ : Loc Cert.AdamwKernel.nD Cert.AdamwKernel.τ Cert.AdamwKernel.sig) → Buf (Elt Bits) ℓ) (g : Dev Cert.AdamwKernel.nD → PrngReg), Pre_AdamwKernel m →
    θ_run (Cert.AdamwKernel.defs (F := Bits)) (onTc (τ := Cert.AdamwKernel.τ) (Cert.AdamwKernel.main (F := Bits))) ⟨m, fun _ => 0, g⟩ (fun r => (∀ c : Dev Cert.AdamwKernel.nD,
      r.2.mem ((c.tc : Thread Cert.AdamwKernel.nD Cert.AdamwKernel.τ).loc Cert.AdamwKernel.main_arg0) = m ((c.tc : Thread Cert.AdamwKernel.nD Cert.AdamwKernel.τ).loc Cert.AdamwKernel.main_arg0)
      ∧ r.2.mem ((c.tc : Thread Cert.AdamwKernel.nD Cert.AdamwKernel.τ).loc Cert.AdamwKernel.main_arg1) = m ((c.tc : Thread Cert.AdamwKernel.nD Cert.AdamwKernel.τ).loc Cert.AdamwKernel.main_arg1)
      ∧ r.2.mem ((c.tc : Thread Cert.AdamwKernel.nD Cert.AdamwKernel.τ).loc Cert.AdamwKernel.main_arg2) = m ((c.tc : Thread Cert.AdamwKernel.nD Cert.AdamwKernel.τ).loc Cert.AdamwKernel.main_arg2)
      ∧ r.2.mem ((c.tc : Thread Cert.AdamwKernel.nD Cert.AdamwKernel.τ).loc Cert.AdamwKernel.main_arg3) = m ((c.tc : Thread Cert.AdamwKernel.nD Cert.AdamwKernel.τ).loc Cert.AdamwKernel.main_arg3)
      ∧ r.2.mem ((c.tc : Thread Cert.AdamwKernel.nD Cert.AdamwKernel.τ).loc Cert.AdamwKernel.main_arg4) = m ((c.tc : Thread Cert.AdamwKernel.nD Cert.AdamwKernel.τ).loc Cert.AdamwKernel.main_arg4)
      ∧ r.2.mem ((c.tc : Thread Cert.AdamwKernel.nD Cert.AdamwKernel.τ).loc Cert.AdamwKernel.main_arg5) = m ((c.tc : Thread Cert.AdamwKernel.nD Cert.AdamwKernel.τ).loc Cert.AdamwKernel.main_arg5)
      ∧ r.2.mem ((c.tc : Thread Cert.AdamwKernel.nD Cert.AdamwKernel.τ).loc Cert.AdamwKernel.main_arg6) = m ((c.tc : Thread Cert.AdamwKernel.nD Cert.AdamwKernel.τ).loc Cert.AdamwKernel.main_arg6))
      ∧ r.2.sem = fun _ => 0)

def quiescent_AdamwKernelIdeal [hAdamwKernelIdeal : Cert.AdamwKernelIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg), Pre_AdamwKernelIdeal m →
    θ_run (Cert.AdamwKernelIdeal.defs (F := Ideal)) (onTc (τ := Cert.AdamwKernelIdeal.τ) (Cert.AdamwKernelIdeal.main (F := Ideal))) ⟨m, fun _ => 0, g⟩ (fun r => (∀ c : Dev Cert.AdamwKernelIdeal.nD,
      r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
      ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
      ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
      ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3)
      ∧ r.2.mem ((c.tc : Thread Cert.AdamwKernelIdeal.nD Cert.AdamwKernelIdeal.τ).loc Cert.AdamwKernelIdeal.main_arg4) = m ((c.tc : Thread Cert.AdamwKernelIdeal.nD Cert.AdamwKernelIdeal.τ).loc Cert.AdamwKernelIdeal.main_arg4)
      ∧ r.2.mem ((c.tc : Thread Cert.AdamwKernelIdeal.nD Cert.AdamwKernelIdeal.τ).loc Cert.AdamwKernelIdeal.main_arg5) = m ((c.tc : Thread Cert.AdamwKernelIdeal.nD Cert.AdamwKernelIdeal.τ).loc Cert.AdamwKernelIdeal.main_arg5)
      ∧ r.2.mem ((c.tc : Thread Cert.AdamwKernelIdeal.nD Cert.AdamwKernelIdeal.τ).loc Cert.AdamwKernelIdeal.main_arg6) = m ((c.tc : Thread Cert.AdamwKernelIdeal.nD Cert.AdamwKernelIdeal.τ).loc Cert.AdamwKernelIdeal.main_arg6))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3)
      ∧ r.2.mem ((c.tc : Thread Cert.AdamwReferenceIdeal.nD Cert.AdamwReferenceIdeal.τ).loc Cert.AdamwReferenceIdeal.main_arg4) = m ((c.tc : Thread Cert.AdamwReferenceIdeal.nD Cert.AdamwReferenceIdeal.τ).loc Cert.AdamwReferenceIdeal.main_arg4)
      ∧ r.2.mem ((c.tc : Thread Cert.AdamwReferenceIdeal.nD Cert.AdamwReferenceIdeal.τ).loc Cert.AdamwReferenceIdeal.main_arg5) = m ((c.tc : Thread Cert.AdamwReferenceIdeal.nD Cert.AdamwReferenceIdeal.τ).loc Cert.AdamwReferenceIdeal.main_arg5)
      ∧ r.2.mem ((c.tc : Thread Cert.AdamwReferenceIdeal.nD Cert.AdamwReferenceIdeal.τ).loc Cert.AdamwReferenceIdeal.main_arg6) = m ((c.tc : Thread Cert.AdamwReferenceIdeal.nD Cert.AdamwReferenceIdeal.τ).loc Cert.AdamwReferenceIdeal.main_arg6))
      ∧ r.2.sem = fun _ => 0)

def quiescent_AdamuKernel [hAdamuKernel : Cert.AdamuKernel.Facts] : Prop :=
  ∀ (m : (ℓ : Loc Cert.AdamuKernel.nD Cert.AdamuKernel.τ Cert.AdamuKernel.sig) → Buf (Elt Bits) ℓ) (g : Dev Cert.AdamuKernel.nD → PrngReg), Pre_AdamuKernel m →
    θ_run (Cert.AdamuKernel.defs (F := Bits)) (onTc (τ := Cert.AdamuKernel.τ) (Cert.AdamuKernel.main (F := Bits))) ⟨m, fun _ => 0, g⟩ (fun r => (∀ c : Dev Cert.AdamuKernel.nD,
      r.2.mem ((c.tc : Thread Cert.AdamuKernel.nD Cert.AdamuKernel.τ).loc Cert.AdamuKernel.main_arg0) = m ((c.tc : Thread Cert.AdamuKernel.nD Cert.AdamuKernel.τ).loc Cert.AdamuKernel.main_arg0)
      ∧ r.2.mem ((c.tc : Thread Cert.AdamuKernel.nD Cert.AdamuKernel.τ).loc Cert.AdamuKernel.main_arg1) = m ((c.tc : Thread Cert.AdamuKernel.nD Cert.AdamuKernel.τ).loc Cert.AdamuKernel.main_arg1)
      ∧ r.2.mem ((c.tc : Thread Cert.AdamuKernel.nD Cert.AdamuKernel.τ).loc Cert.AdamuKernel.main_arg2) = m ((c.tc : Thread Cert.AdamuKernel.nD Cert.AdamuKernel.τ).loc Cert.AdamuKernel.main_arg2)
      ∧ r.2.mem ((c.tc : Thread Cert.AdamuKernel.nD Cert.AdamuKernel.τ).loc Cert.AdamuKernel.main_arg3) = m ((c.tc : Thread Cert.AdamuKernel.nD Cert.AdamuKernel.τ).loc Cert.AdamuKernel.main_arg3)
      ∧ r.2.mem ((c.tc : Thread Cert.AdamuKernel.nD Cert.AdamuKernel.τ).loc Cert.AdamuKernel.main_arg4) = m ((c.tc : Thread Cert.AdamuKernel.nD Cert.AdamuKernel.τ).loc Cert.AdamuKernel.main_arg4)
      ∧ r.2.mem ((c.tc : Thread Cert.AdamuKernel.nD Cert.AdamuKernel.τ).loc Cert.AdamuKernel.main_arg5) = m ((c.tc : Thread Cert.AdamuKernel.nD Cert.AdamuKernel.τ).loc Cert.AdamuKernel.main_arg5)
      ∧ r.2.mem ((c.tc : Thread Cert.AdamuKernel.nD Cert.AdamuKernel.τ).loc Cert.AdamuKernel.main_arg6) = m ((c.tc : Thread Cert.AdamuKernel.nD Cert.AdamuKernel.τ).loc Cert.AdamuKernel.main_arg6))
      ∧ r.2.sem = fun _ => 0)

def quiescent_AdamuKernelIdeal [hAdamuKernelIdeal : Cert.AdamuKernelIdeal.Facts] : Prop :=
  ∀ (m : (ℓ : Loc Cert.AdamuKernelIdeal.nD Cert.AdamuKernelIdeal.τ Cert.AdamuKernelIdeal.sig) → Buf (Elt Ideal) ℓ) (g : Dev Cert.AdamuKernelIdeal.nD → PrngReg), Pre_AdamuKernelIdeal m →
    θ_run (Cert.AdamuKernelIdeal.defs (F := Ideal)) (onTc (τ := Cert.AdamuKernelIdeal.τ) (Cert.AdamuKernelIdeal.main (F := Ideal))) ⟨m, fun _ => 0, g⟩ (fun r => (∀ c : Dev Cert.AdamuKernelIdeal.nD,
      r.2.mem ((c.tc : Thread Cert.AdamuKernelIdeal.nD Cert.AdamuKernelIdeal.τ).loc Cert.AdamuKernelIdeal.main_arg0) = m ((c.tc : Thread Cert.AdamuKernelIdeal.nD Cert.AdamuKernelIdeal.τ).loc Cert.AdamuKernelIdeal.main_arg0)
      ∧ r.2.mem ((c.tc : Thread Cert.AdamuKernelIdeal.nD Cert.AdamuKernelIdeal.τ).loc Cert.AdamuKernelIdeal.main_arg1) = m ((c.tc : Thread Cert.AdamuKernelIdeal.nD Cert.AdamuKernelIdeal.τ).loc Cert.AdamuKernelIdeal.main_arg1)
      ∧ r.2.mem ((c.tc : Thread Cert.AdamuKernelIdeal.nD Cert.AdamuKernelIdeal.τ).loc Cert.AdamuKernelIdeal.main_arg2) = m ((c.tc : Thread Cert.AdamuKernelIdeal.nD Cert.AdamuKernelIdeal.τ).loc Cert.AdamuKernelIdeal.main_arg2)
      ∧ r.2.mem ((c.tc : Thread Cert.AdamuKernelIdeal.nD Cert.AdamuKernelIdeal.τ).loc Cert.AdamuKernelIdeal.main_arg3) = m ((c.tc : Thread Cert.AdamuKernelIdeal.nD Cert.AdamuKernelIdeal.τ).loc Cert.AdamuKernelIdeal.main_arg3)
      ∧ r.2.mem ((c.tc : Thread Cert.AdamuKernelIdeal.nD Cert.AdamuKernelIdeal.τ).loc Cert.AdamuKernelIdeal.main_arg4) = m ((c.tc : Thread Cert.AdamuKernelIdeal.nD Cert.AdamuKernelIdeal.τ).loc Cert.AdamuKernelIdeal.main_arg4)
      ∧ r.2.mem ((c.tc : Thread Cert.AdamuKernelIdeal.nD Cert.AdamuKernelIdeal.τ).loc Cert.AdamuKernelIdeal.main_arg5) = m ((c.tc : Thread Cert.AdamuKernelIdeal.nD Cert.AdamuKernelIdeal.τ).loc Cert.AdamuKernelIdeal.main_arg5)
      ∧ r.2.mem ((c.tc : Thread Cert.AdamuKernelIdeal.nD Cert.AdamuKernelIdeal.τ).loc Cert.AdamuKernelIdeal.main_arg6) = m ((c.tc : Thread Cert.AdamuKernelIdeal.nD Cert.AdamuKernelIdeal.τ).loc Cert.AdamuKernelIdeal.main_arg6))
      ∧ r.2.sem = fun _ => 0)

def quiescent_AdamuReferenceIdeal [hAdamuReferenceIdeal : Cert.AdamuReferenceIdeal.Facts] : Prop :=
  ∀ (m : (ℓ : Loc Cert.AdamuReferenceIdeal.nD Cert.AdamuReferenceIdeal.τ Cert.AdamuReferenceIdeal.sig) → Buf (Elt Ideal) ℓ) (g : Dev Cert.AdamuReferenceIdeal.nD → PrngReg), Pre_AdamuReferenceIdeal m →
    θ_run (Cert.AdamuReferenceIdeal.defs (F := Ideal)) (onTc (τ := Cert.AdamuReferenceIdeal.τ) (Cert.AdamuReferenceIdeal.main (F := Ideal))) ⟨m, fun _ => 0, g⟩ (fun r => (∀ c : Dev Cert.AdamuReferenceIdeal.nD,
      r.2.mem ((c.tc : Thread Cert.AdamuReferenceIdeal.nD Cert.AdamuReferenceIdeal.τ).loc Cert.AdamuReferenceIdeal.main_arg0) = m ((c.tc : Thread Cert.AdamuReferenceIdeal.nD Cert.AdamuReferenceIdeal.τ).loc Cert.AdamuReferenceIdeal.main_arg0)
      ∧ r.2.mem ((c.tc : Thread Cert.AdamuReferenceIdeal.nD Cert.AdamuReferenceIdeal.τ).loc Cert.AdamuReferenceIdeal.main_arg1) = m ((c.tc : Thread Cert.AdamuReferenceIdeal.nD Cert.AdamuReferenceIdeal.τ).loc Cert.AdamuReferenceIdeal.main_arg1)
      ∧ r.2.mem ((c.tc : Thread Cert.AdamuReferenceIdeal.nD Cert.AdamuReferenceIdeal.τ).loc Cert.AdamuReferenceIdeal.main_arg2) = m ((c.tc : Thread Cert.AdamuReferenceIdeal.nD Cert.AdamuReferenceIdeal.τ).loc Cert.AdamuReferenceIdeal.main_arg2)
      ∧ r.2.mem ((c.tc : Thread Cert.AdamuReferenceIdeal.nD Cert.AdamuReferenceIdeal.τ).loc Cert.AdamuReferenceIdeal.main_arg3) = m ((c.tc : Thread Cert.AdamuReferenceIdeal.nD Cert.AdamuReferenceIdeal.τ).loc Cert.AdamuReferenceIdeal.main_arg3)
      ∧ r.2.mem ((c.tc : Thread Cert.AdamuReferenceIdeal.nD Cert.AdamuReferenceIdeal.τ).loc Cert.AdamuReferenceIdeal.main_arg4) = m ((c.tc : Thread Cert.AdamuReferenceIdeal.nD Cert.AdamuReferenceIdeal.τ).loc Cert.AdamuReferenceIdeal.main_arg4)
      ∧ r.2.mem ((c.tc : Thread Cert.AdamuReferenceIdeal.nD Cert.AdamuReferenceIdeal.τ).loc Cert.AdamuReferenceIdeal.main_arg5) = m ((c.tc : Thread Cert.AdamuReferenceIdeal.nD Cert.AdamuReferenceIdeal.τ).loc Cert.AdamuReferenceIdeal.main_arg5)
      ∧ r.2.mem ((c.tc : Thread Cert.AdamuReferenceIdeal.nD Cert.AdamuReferenceIdeal.τ).loc Cert.AdamuReferenceIdeal.main_arg6) = m ((c.tc : Thread Cert.AdamuReferenceIdeal.nD Cert.AdamuReferenceIdeal.τ).loc Cert.AdamuReferenceIdeal.main_arg6))
      ∧ r.2.sem = fun _ => 0)

def quiescent_AdambKernel [hAdambKernel : Cert.AdambKernel.Facts] : Prop :=
  ∀ (m : (ℓ : Loc Cert.AdambKernel.nD Cert.AdambKernel.τ Cert.AdambKernel.sig) → Buf (Elt Bits) ℓ) (g : Dev Cert.AdambKernel.nD → PrngReg), Pre_AdambKernel m →
    θ_run (Cert.AdambKernel.defs (F := Bits)) (onTc (τ := Cert.AdambKernel.τ) (Cert.AdambKernel.main (F := Bits))) ⟨m, fun _ => 0, g⟩ (fun r => (∀ c : Dev Cert.AdambKernel.nD,
      r.2.mem ((c.tc : Thread Cert.AdambKernel.nD Cert.AdambKernel.τ).loc Cert.AdambKernel.main_arg0) = m ((c.tc : Thread Cert.AdambKernel.nD Cert.AdambKernel.τ).loc Cert.AdambKernel.main_arg0)
      ∧ r.2.mem ((c.tc : Thread Cert.AdambKernel.nD Cert.AdambKernel.τ).loc Cert.AdambKernel.main_arg1) = m ((c.tc : Thread Cert.AdambKernel.nD Cert.AdambKernel.τ).loc Cert.AdambKernel.main_arg1)
      ∧ r.2.mem ((c.tc : Thread Cert.AdambKernel.nD Cert.AdambKernel.τ).loc Cert.AdambKernel.main_arg2) = m ((c.tc : Thread Cert.AdambKernel.nD Cert.AdambKernel.τ).loc Cert.AdambKernel.main_arg2)
      ∧ r.2.mem ((c.tc : Thread Cert.AdambKernel.nD Cert.AdambKernel.τ).loc Cert.AdambKernel.main_arg3) = m ((c.tc : Thread Cert.AdambKernel.nD Cert.AdambKernel.τ).loc Cert.AdambKernel.main_arg3)
      ∧ r.2.mem ((c.tc : Thread Cert.AdambKernel.nD Cert.AdambKernel.τ).loc Cert.AdambKernel.main_arg4) = m ((c.tc : Thread Cert.AdambKernel.nD Cert.AdambKernel.τ).loc Cert.AdambKernel.main_arg4)
      ∧ r.2.mem ((c.tc : Thread Cert.AdambKernel.nD Cert.AdambKernel.τ).loc Cert.AdambKernel.main_arg5) = m ((c.tc : Thread Cert.AdambKernel.nD Cert.AdambKernel.τ).loc Cert.AdambKernel.main_arg5)
      ∧ r.2.mem ((c.tc : Thread Cert.AdambKernel.nD Cert.AdambKernel.τ).loc Cert.AdambKernel.main_arg6) = m ((c.tc : Thread Cert.AdambKernel.nD Cert.AdambKernel.τ).loc Cert.AdambKernel.main_arg6))
      ∧ r.2.sem = fun _ => 0)

def quiescent_AdambKernelIdeal [hAdambKernelIdeal : Cert.AdambKernelIdeal.Facts] : Prop :=
  ∀ (m : (ℓ : Loc Cert.AdambKernelIdeal.nD Cert.AdambKernelIdeal.τ Cert.AdambKernelIdeal.sig) → Buf (Elt Ideal) ℓ) (g : Dev Cert.AdambKernelIdeal.nD → PrngReg), Pre_AdambKernelIdeal m →
    θ_run (Cert.AdambKernelIdeal.defs (F := Ideal)) (onTc (τ := Cert.AdambKernelIdeal.τ) (Cert.AdambKernelIdeal.main (F := Ideal))) ⟨m, fun _ => 0, g⟩ (fun r => (∀ c : Dev Cert.AdambKernelIdeal.nD,
      r.2.mem ((c.tc : Thread Cert.AdambKernelIdeal.nD Cert.AdambKernelIdeal.τ).loc Cert.AdambKernelIdeal.main_arg0) = m ((c.tc : Thread Cert.AdambKernelIdeal.nD Cert.AdambKernelIdeal.τ).loc Cert.AdambKernelIdeal.main_arg0)
      ∧ r.2.mem ((c.tc : Thread Cert.AdambKernelIdeal.nD Cert.AdambKernelIdeal.τ).loc Cert.AdambKernelIdeal.main_arg1) = m ((c.tc : Thread Cert.AdambKernelIdeal.nD Cert.AdambKernelIdeal.τ).loc Cert.AdambKernelIdeal.main_arg1)
      ∧ r.2.mem ((c.tc : Thread Cert.AdambKernelIdeal.nD Cert.AdambKernelIdeal.τ).loc Cert.AdambKernelIdeal.main_arg2) = m ((c.tc : Thread Cert.AdambKernelIdeal.nD Cert.AdambKernelIdeal.τ).loc Cert.AdambKernelIdeal.main_arg2)
      ∧ r.2.mem ((c.tc : Thread Cert.AdambKernelIdeal.nD Cert.AdambKernelIdeal.τ).loc Cert.AdambKernelIdeal.main_arg3) = m ((c.tc : Thread Cert.AdambKernelIdeal.nD Cert.AdambKernelIdeal.τ).loc Cert.AdambKernelIdeal.main_arg3)
      ∧ r.2.mem ((c.tc : Thread Cert.AdambKernelIdeal.nD Cert.AdambKernelIdeal.τ).loc Cert.AdambKernelIdeal.main_arg4) = m ((c.tc : Thread Cert.AdambKernelIdeal.nD Cert.AdambKernelIdeal.τ).loc Cert.AdambKernelIdeal.main_arg4)
      ∧ r.2.mem ((c.tc : Thread Cert.AdambKernelIdeal.nD Cert.AdambKernelIdeal.τ).loc Cert.AdambKernelIdeal.main_arg5) = m ((c.tc : Thread Cert.AdambKernelIdeal.nD Cert.AdambKernelIdeal.τ).loc Cert.AdambKernelIdeal.main_arg5)
      ∧ r.2.mem ((c.tc : Thread Cert.AdambKernelIdeal.nD Cert.AdambKernelIdeal.τ).loc Cert.AdambKernelIdeal.main_arg6) = m ((c.tc : Thread Cert.AdambKernelIdeal.nD Cert.AdambKernelIdeal.τ).loc Cert.AdambKernelIdeal.main_arg6))
      ∧ r.2.sem = fun _ => 0)

def quiescent_AdambReferenceIdeal [hAdambReferenceIdeal : Cert.AdambReferenceIdeal.Facts] : Prop :=
  ∀ (m : (ℓ : Loc Cert.AdambReferenceIdeal.nD Cert.AdambReferenceIdeal.τ Cert.AdambReferenceIdeal.sig) → Buf (Elt Ideal) ℓ) (g : Dev Cert.AdambReferenceIdeal.nD → PrngReg), Pre_AdambReferenceIdeal m →
    θ_run (Cert.AdambReferenceIdeal.defs (F := Ideal)) (onTc (τ := Cert.AdambReferenceIdeal.τ) (Cert.AdambReferenceIdeal.main (F := Ideal))) ⟨m, fun _ => 0, g⟩ (fun r => (∀ c : Dev Cert.AdambReferenceIdeal.nD,
      r.2.mem ((c.tc : Thread Cert.AdambReferenceIdeal.nD Cert.AdambReferenceIdeal.τ).loc Cert.AdambReferenceIdeal.main_arg0) = m ((c.tc : Thread Cert.AdambReferenceIdeal.nD Cert.AdambReferenceIdeal.τ).loc Cert.AdambReferenceIdeal.main_arg0)
      ∧ r.2.mem ((c.tc : Thread Cert.AdambReferenceIdeal.nD Cert.AdambReferenceIdeal.τ).loc Cert.AdambReferenceIdeal.main_arg1) = m ((c.tc : Thread Cert.AdambReferenceIdeal.nD Cert.AdambReferenceIdeal.τ).loc Cert.AdambReferenceIdeal.main_arg1)
      ∧ r.2.mem ((c.tc : Thread Cert.AdambReferenceIdeal.nD Cert.AdambReferenceIdeal.τ).loc Cert.AdambReferenceIdeal.main_arg2) = m ((c.tc : Thread Cert.AdambReferenceIdeal.nD Cert.AdambReferenceIdeal.τ).loc Cert.AdambReferenceIdeal.main_arg2)
      ∧ r.2.mem ((c.tc : Thread Cert.AdambReferenceIdeal.nD Cert.AdambReferenceIdeal.τ).loc Cert.AdambReferenceIdeal.main_arg3) = m ((c.tc : Thread Cert.AdambReferenceIdeal.nD Cert.AdambReferenceIdeal.τ).loc Cert.AdambReferenceIdeal.main_arg3)
      ∧ r.2.mem ((c.tc : Thread Cert.AdambReferenceIdeal.nD Cert.AdambReferenceIdeal.τ).loc Cert.AdambReferenceIdeal.main_arg4) = m ((c.tc : Thread Cert.AdambReferenceIdeal.nD Cert.AdambReferenceIdeal.τ).loc Cert.AdambReferenceIdeal.main_arg4)
      ∧ r.2.mem ((c.tc : Thread Cert.AdambReferenceIdeal.nD Cert.AdambReferenceIdeal.τ).loc Cert.AdambReferenceIdeal.main_arg5) = m ((c.tc : Thread Cert.AdambReferenceIdeal.nD Cert.AdambReferenceIdeal.τ).loc Cert.AdambReferenceIdeal.main_arg5)
      ∧ r.2.mem ((c.tc : Thread Cert.AdambReferenceIdeal.nD Cert.AdambReferenceIdeal.τ).loc Cert.AdambReferenceIdeal.main_arg6) = m ((c.tc : Thread Cert.AdambReferenceIdeal.nD Cert.AdambReferenceIdeal.τ).loc Cert.AdambReferenceIdeal.main_arg6))
      ∧ r.2.sem = fun _ => 0)

def quiescent_SumdKernel [hSumdKernel : Cert.SumdKernel.Facts] : Prop :=
  ∀ (m : (ℓ : Loc Cert.SumdKernel.nD Cert.SumdKernel.τ Cert.SumdKernel.sig) → Buf (Elt Bits) ℓ) (g : Dev Cert.SumdKernel.nD → PrngReg), Pre_SumdKernel m →
    θ_run (Cert.SumdKernel.defs (F := Bits)) (onTc (τ := Cert.SumdKernel.τ) (Cert.SumdKernel.main (F := Bits))) ⟨m, fun _ => 0, g⟩ (fun r => (∀ c : Dev Cert.SumdKernel.nD,
      r.2.mem ((c.tc : Thread Cert.SumdKernel.nD Cert.SumdKernel.τ).loc Cert.SumdKernel.main_arg0) = m ((c.tc : Thread Cert.SumdKernel.nD Cert.SumdKernel.τ).loc Cert.SumdKernel.main_arg0))
      ∧ r.2.sem = fun _ => 0)

def quiescent_SumdKernelIdeal [hSumdKernelIdeal : Cert.SumdKernelIdeal.Facts] : Prop :=
  ∀ (m : (ℓ : Loc Cert.SumdKernelIdeal.nD Cert.SumdKernelIdeal.τ Cert.SumdKernelIdeal.sig) → Buf (Elt Ideal) ℓ) (g : Dev Cert.SumdKernelIdeal.nD → PrngReg), Pre_SumdKernelIdeal m →
    θ_run (Cert.SumdKernelIdeal.defs (F := Ideal)) (onTc (τ := Cert.SumdKernelIdeal.τ) (Cert.SumdKernelIdeal.main (F := Ideal))) ⟨m, fun _ => 0, g⟩ (fun r => (∀ c : Dev Cert.SumdKernelIdeal.nD,
      r.2.mem ((c.tc : Thread Cert.SumdKernelIdeal.nD Cert.SumdKernelIdeal.τ).loc Cert.SumdKernelIdeal.main_arg0) = m ((c.tc : Thread Cert.SumdKernelIdeal.nD Cert.SumdKernelIdeal.τ).loc Cert.SumdKernelIdeal.main_arg0))
      ∧ r.2.sem = fun _ => 0)

def quiescent_SumdReferenceIdeal [hSumdReferenceIdeal : Cert.SumdReferenceIdeal.Facts] : Prop :=
  ∀ (m : (ℓ : Loc Cert.SumdReferenceIdeal.nD Cert.SumdReferenceIdeal.τ Cert.SumdReferenceIdeal.sig) → Buf (Elt Ideal) ℓ) (g : Dev Cert.SumdReferenceIdeal.nD → PrngReg), Pre_SumdReferenceIdeal m →
    θ_run (Cert.SumdReferenceIdeal.defs (F := Ideal)) (onTc (τ := Cert.SumdReferenceIdeal.τ) (Cert.SumdReferenceIdeal.main (F := Ideal))) ⟨m, fun _ => 0, g⟩ (fun r => (∀ c : Dev Cert.SumdReferenceIdeal.nD,
      r.2.mem ((c.tc : Thread Cert.SumdReferenceIdeal.nD Cert.SumdReferenceIdeal.τ).loc Cert.SumdReferenceIdeal.main_arg0) = m ((c.tc : Thread Cert.SumdReferenceIdeal.nD Cert.SumdReferenceIdeal.τ).loc Cert.SumdReferenceIdeal.main_arg0))
      ∧ r.2.sem = fun _ => 0)

def quiescent_HgrnbKernel [hHgrnbKernel : Cert.HgrnbKernel.Facts] : Prop :=
  ∀ (m : (ℓ : Loc Cert.HgrnbKernel.nD Cert.HgrnbKernel.τ Cert.HgrnbKernel.sig) → Buf (Elt Bits) ℓ) (g : Dev Cert.HgrnbKernel.nD → PrngReg), Pre_HgrnbKernel m →
    θ_run (Cert.HgrnbKernel.defs (F := Bits)) (onTc (τ := Cert.HgrnbKernel.τ) (Cert.HgrnbKernel.main (F := Bits))) ⟨m, fun _ => 0, g⟩ (fun r => (∀ c : Dev Cert.HgrnbKernel.nD,
      r.2.mem ((c.tc : Thread Cert.HgrnbKernel.nD Cert.HgrnbKernel.τ).loc Cert.HgrnbKernel.main_arg0) = m ((c.tc : Thread Cert.HgrnbKernel.nD Cert.HgrnbKernel.τ).loc Cert.HgrnbKernel.main_arg0)
      ∧ r.2.mem ((c.tc : Thread Cert.HgrnbKernel.nD Cert.HgrnbKernel.τ).loc Cert.HgrnbKernel.main_arg1) = m ((c.tc : Thread Cert.HgrnbKernel.nD Cert.HgrnbKernel.τ).loc Cert.HgrnbKernel.main_arg1)
      ∧ r.2.mem ((c.tc : Thread Cert.HgrnbKernel.nD Cert.HgrnbKernel.τ).loc Cert.HgrnbKernel.main_arg2) = m ((c.tc : Thread Cert.HgrnbKernel.nD Cert.HgrnbKernel.τ).loc Cert.HgrnbKernel.main_arg2)
      ∧ r.2.mem ((c.tc : Thread Cert.HgrnbKernel.nD Cert.HgrnbKernel.τ).loc Cert.HgrnbKernel.main_arg3) = m ((c.tc : Thread Cert.HgrnbKernel.nD Cert.HgrnbKernel.τ).loc Cert.HgrnbKernel.main_arg3)
      ∧ r.2.mem ((c.tc : Thread Cert.HgrnbKernel.nD Cert.HgrnbKernel.τ).loc Cert.HgrnbKernel.main_arg4) = m ((c.tc : Thread Cert.HgrnbKernel.nD Cert.HgrnbKernel.τ).loc Cert.HgrnbKernel.main_arg4)
      ∧ r.2.mem ((c.tc : Thread Cert.HgrnbKernel.nD Cert.HgrnbKernel.τ).loc Cert.HgrnbKernel.main_arg5) = m ((c.tc : Thread Cert.HgrnbKernel.nD Cert.HgrnbKernel.τ).loc Cert.HgrnbKernel.main_arg5)
      ∧ r.2.mem ((c.tc : Thread Cert.HgrnbKernel.nD Cert.HgrnbKernel.τ).loc Cert.HgrnbKernel.main_arg6) = m ((c.tc : Thread Cert.HgrnbKernel.nD Cert.HgrnbKernel.τ).loc Cert.HgrnbKernel.main_arg6))
      ∧ r.2.sem = fun _ => 0)

def quiescent_HgrnbKernelIdeal [hHgrnbKernelIdeal : Cert.HgrnbKernelIdeal.Facts] : Prop :=
  ∀ (m : (ℓ : Loc Cert.HgrnbKernelIdeal.nD Cert.HgrnbKernelIdeal.τ Cert.HgrnbKernelIdeal.sig) → Buf (Elt Ideal) ℓ) (g : Dev Cert.HgrnbKernelIdeal.nD → PrngReg), Pre_HgrnbKernelIdeal m →
    θ_run (Cert.HgrnbKernelIdeal.defs (F := Ideal)) (onTc (τ := Cert.HgrnbKernelIdeal.τ) (Cert.HgrnbKernelIdeal.main (F := Ideal))) ⟨m, fun _ => 0, g⟩ (fun r => (∀ c : Dev Cert.HgrnbKernelIdeal.nD,
      r.2.mem ((c.tc : Thread Cert.HgrnbKernelIdeal.nD Cert.HgrnbKernelIdeal.τ).loc Cert.HgrnbKernelIdeal.main_arg0) = m ((c.tc : Thread Cert.HgrnbKernelIdeal.nD Cert.HgrnbKernelIdeal.τ).loc Cert.HgrnbKernelIdeal.main_arg0)
      ∧ r.2.mem ((c.tc : Thread Cert.HgrnbKernelIdeal.nD Cert.HgrnbKernelIdeal.τ).loc Cert.HgrnbKernelIdeal.main_arg1) = m ((c.tc : Thread Cert.HgrnbKernelIdeal.nD Cert.HgrnbKernelIdeal.τ).loc Cert.HgrnbKernelIdeal.main_arg1)
      ∧ r.2.mem ((c.tc : Thread Cert.HgrnbKernelIdeal.nD Cert.HgrnbKernelIdeal.τ).loc Cert.HgrnbKernelIdeal.main_arg2) = m ((c.tc : Thread Cert.HgrnbKernelIdeal.nD Cert.HgrnbKernelIdeal.τ).loc Cert.HgrnbKernelIdeal.main_arg2)
      ∧ r.2.mem ((c.tc : Thread Cert.HgrnbKernelIdeal.nD Cert.HgrnbKernelIdeal.τ).loc Cert.HgrnbKernelIdeal.main_arg3) = m ((c.tc : Thread Cert.HgrnbKernelIdeal.nD Cert.HgrnbKernelIdeal.τ).loc Cert.HgrnbKernelIdeal.main_arg3)
      ∧ r.2.mem ((c.tc : Thread Cert.HgrnbKernelIdeal.nD Cert.HgrnbKernelIdeal.τ).loc Cert.HgrnbKernelIdeal.main_arg4) = m ((c.tc : Thread Cert.HgrnbKernelIdeal.nD Cert.HgrnbKernelIdeal.τ).loc Cert.HgrnbKernelIdeal.main_arg4)
      ∧ r.2.mem ((c.tc : Thread Cert.HgrnbKernelIdeal.nD Cert.HgrnbKernelIdeal.τ).loc Cert.HgrnbKernelIdeal.main_arg5) = m ((c.tc : Thread Cert.HgrnbKernelIdeal.nD Cert.HgrnbKernelIdeal.τ).loc Cert.HgrnbKernelIdeal.main_arg5)
      ∧ r.2.mem ((c.tc : Thread Cert.HgrnbKernelIdeal.nD Cert.HgrnbKernelIdeal.τ).loc Cert.HgrnbKernelIdeal.main_arg6) = m ((c.tc : Thread Cert.HgrnbKernelIdeal.nD Cert.HgrnbKernelIdeal.τ).loc Cert.HgrnbKernelIdeal.main_arg6))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v16) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v10_0)) (v1 : (c : Dev Cert.AttnKernelIdeal.nD) → Buf (Elt Ideal) ((c.tc : Thread Cert.AttnKernelIdeal.nD Cert.AttnKernelIdeal.τ).loc Cert.AttnKernelIdeal.main_v10_1)) (v2 : (c : Dev Cert.AttnKernelIdeal.nD) → Buf (Elt Ideal) ((c.tc : Thread Cert.AttnKernelIdeal.nD Cert.AttnKernelIdeal.τ).loc Cert.AttnKernelIdeal.main_v10_2)) (v3 : (c : Dev Cert.AttnKernelIdeal.nD) → Buf (Elt Ideal) ((c.tc : Thread Cert.AttnKernelIdeal.nD Cert.AttnKernelIdeal.τ).loc Cert.AttnKernelIdeal.main_v10_3)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v10_0) = v0 c
          ∧ r.2.mem ((c.tc : Thread Cert.AttnKernelIdeal.nD Cert.AttnKernelIdeal.τ).loc Cert.AttnKernelIdeal.main_v10_1) = v1 c
          ∧ r.2.mem ((c.tc : Thread Cert.AttnKernelIdeal.nD Cert.AttnKernelIdeal.τ).loc Cert.AttnKernelIdeal.main_v10_2) = v2 c
          ∧ r.2.mem ((c.tc : Thread Cert.AttnKernelIdeal.nD Cert.AttnKernelIdeal.τ).loc Cert.AttnKernelIdeal.main_v10_3) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v69) = v0 c
          ∧ r.2.mem ((c.tc : Thread Cert.AttnReferenceIdeal.nD Cert.AttnReferenceIdeal.τ).loc Cert.AttnReferenceIdeal.main_v70) = v1 c
          ∧ r.2.mem ((c.tc : Thread Cert.AttnReferenceIdeal.nD Cert.AttnReferenceIdeal.τ).loc Cert.AttnReferenceIdeal.main_v71) = v2 c
          ∧ r.2.mem ((c.tc : Thread Cert.AttnReferenceIdeal.nD Cert.AttnReferenceIdeal.τ).loc Cert.AttnReferenceIdeal.main_v72) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v6_0)) (v1 : (c : Dev Cert.ConvKernelIdeal.nD) → Buf (Elt Ideal) ((c.tc : Thread Cert.ConvKernelIdeal.nD Cert.ConvKernelIdeal.τ).loc Cert.ConvKernelIdeal.main_v6_1)) (v2 : (c : Dev Cert.ConvKernelIdeal.nD) → Buf (Elt Ideal) ((c.tc : Thread Cert.ConvKernelIdeal.nD Cert.ConvKernelIdeal.τ).loc Cert.ConvKernelIdeal.main_v6_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v6_0) = v0 c
          ∧ r.2.mem ((c.tc : Thread Cert.ConvKernelIdeal.nD Cert.ConvKernelIdeal.τ).loc Cert.ConvKernelIdeal.main_v6_1) = v1 c
          ∧ r.2.mem ((c.tc : Thread Cert.ConvKernelIdeal.nD Cert.ConvKernelIdeal.τ).loc Cert.ConvKernelIdeal.main_v6_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v71) = v0 c
          ∧ r.2.mem ((c.tc : Thread Cert.ConvReferenceIdeal.nD Cert.ConvReferenceIdeal.τ).loc Cert.ConvReferenceIdeal.main_v58) = v1 c
          ∧ r.2.mem ((c.tc : Thread Cert.ConvReferenceIdeal.nD Cert.ConvReferenceIdeal.τ).loc Cert.ConvReferenceIdeal.main_v72) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v42_0)) (v1 : (c : Dev Cert.MergeKernelIdeal.nD) → Buf (Elt Ideal) ((c.tc : Thread Cert.MergeKernelIdeal.nD Cert.MergeKernelIdeal.τ).loc Cert.MergeKernelIdeal.main_v42_1)) (v2 : (c : Dev Cert.MergeKernelIdeal.nD) → Buf (Elt Ideal) ((c.tc : Thread Cert.MergeKernelIdeal.nD Cert.MergeKernelIdeal.τ).loc Cert.MergeKernelIdeal.main_v42_2)) (v3 : (c : Dev Cert.MergeKernelIdeal.nD) → Buf (Elt Ideal) ((c.tc : Thread Cert.MergeKernelIdeal.nD Cert.MergeKernelIdeal.τ).loc Cert.MergeKernelIdeal.main_v42_3)) (v4 : (c : Dev Cert.MergeKernelIdeal.nD) → Buf (Elt Ideal) ((c.tc : Thread Cert.MergeKernelIdeal.nD Cert.MergeKernelIdeal.τ).loc Cert.MergeKernelIdeal.main_v42_4)) (v5 : (c : Dev Cert.MergeKernelIdeal.nD) → Buf (Elt Ideal) ((c.tc : Thread Cert.MergeKernelIdeal.nD Cert.MergeKernelIdeal.τ).loc Cert.MergeKernelIdeal.main_v42_5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v42_0) = v0 c
          ∧ r.2.mem ((c.tc : Thread Cert.MergeKernelIdeal.nD Cert.MergeKernelIdeal.τ).loc Cert.MergeKernelIdeal.main_v42_1) = v1 c
          ∧ r.2.mem ((c.tc : Thread Cert.MergeKernelIdeal.nD Cert.MergeKernelIdeal.τ).loc Cert.MergeKernelIdeal.main_v42_2) = v2 c
          ∧ r.2.mem ((c.tc : Thread Cert.MergeKernelIdeal.nD Cert.MergeKernelIdeal.τ).loc Cert.MergeKernelIdeal.main_v42_3) = v3 c
          ∧ r.2.mem ((c.tc : Thread Cert.MergeKernelIdeal.nD Cert.MergeKernelIdeal.τ).loc Cert.MergeKernelIdeal.main_v42_4) = v4 c
          ∧ r.2.mem ((c.tc : Thread Cert.MergeKernelIdeal.nD Cert.MergeKernelIdeal.τ).loc Cert.MergeKernelIdeal.main_v42_5) = v5 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v96) = v0 c
          ∧ r.2.mem ((c.tc : Thread Cert.MergeReferenceIdeal.nD Cert.MergeReferenceIdeal.τ).loc Cert.MergeReferenceIdeal.main_v98) = v1 c
          ∧ r.2.mem ((c.tc : Thread Cert.MergeReferenceIdeal.nD Cert.MergeReferenceIdeal.τ).loc Cert.MergeReferenceIdeal.main_v100) = v2 c
          ∧ r.2.mem ((c.tc : Thread Cert.MergeReferenceIdeal.nD Cert.MergeReferenceIdeal.τ).loc Cert.MergeReferenceIdeal.main_v102) = v3 c
          ∧ r.2.mem ((c.tc : Thread Cert.MergeReferenceIdeal.nD Cert.MergeReferenceIdeal.τ).loc Cert.MergeReferenceIdeal.main_v103) = v4 c
          ∧ r.2.mem ((c.tc : Thread Cert.MergeReferenceIdeal.nD Cert.MergeReferenceIdeal.τ).loc Cert.MergeReferenceIdeal.main_v104) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Ln1Kernel_Ln1KernelIdeal : Prop :=
  True

def algebraic_Ln1KernelIdeal_Ln1ReferenceIdeal_pre_finite_ln1 [hLn1KernelIdeal : Cert.Ln1KernelIdeal.Facts] [hLn1ReferenceIdeal : Cert.Ln1ReferenceIdeal.Facts] [hPre_finite_ln1 : Cert.Pre_finite_ln1.Facts] : Prop :=
  ∀ (m : (ℓ : Loc Cert.Ln1KernelIdeal.nD Cert.Ln1KernelIdeal.τ Cert.Ln1KernelIdeal.sig) → Buf (Elt Ideal) ℓ) (g : Dev Cert.Ln1KernelIdeal.nD → PrngReg)
    (m' : (ℓ : Loc Cert.Ln1ReferenceIdeal.nD Cert.Ln1ReferenceIdeal.τ Cert.Ln1ReferenceIdeal.sig) → Buf (Elt Ideal) ℓ) (g' : Dev Cert.Ln1ReferenceIdeal.nD → PrngReg), Pre_Ln1KernelIdeal_finite_ln1 m →
    (∀ c : Dev Cert.Ln1KernelIdeal.nD,
      m' ((c.tc : Thread Cert.Ln1ReferenceIdeal.nD Cert.Ln1ReferenceIdeal.τ).loc Cert.Ln1ReferenceIdeal.main_arg0) = m ((c.tc : Thread Cert.Ln1KernelIdeal.nD Cert.Ln1KernelIdeal.τ).loc Cert.Ln1KernelIdeal.main_arg0)
      ∧ m' ((c.tc : Thread Cert.Ln1ReferenceIdeal.nD Cert.Ln1ReferenceIdeal.τ).loc Cert.Ln1ReferenceIdeal.main_arg1) = m ((c.tc : Thread Cert.Ln1KernelIdeal.nD Cert.Ln1KernelIdeal.τ).loc Cert.Ln1KernelIdeal.main_arg1)
      ∧ m' ((c.tc : Thread Cert.Ln1ReferenceIdeal.nD Cert.Ln1ReferenceIdeal.τ).loc Cert.Ln1ReferenceIdeal.main_arg2) = m ((c.tc : Thread Cert.Ln1KernelIdeal.nD Cert.Ln1KernelIdeal.τ).loc Cert.Ln1KernelIdeal.main_arg2)
      ∧ m' ((c.tc : Thread Cert.Ln1ReferenceIdeal.nD Cert.Ln1ReferenceIdeal.τ).loc Cert.Ln1ReferenceIdeal.main_arg3) = m ((c.tc : Thread Cert.Ln1KernelIdeal.nD Cert.Ln1KernelIdeal.τ).loc Cert.Ln1KernelIdeal.main_arg3)
      ∧ m' ((c.tc : Thread Cert.Ln1ReferenceIdeal.nD Cert.Ln1ReferenceIdeal.τ).loc Cert.Ln1ReferenceIdeal.main_arg4) = m ((c.tc : Thread Cert.Ln1KernelIdeal.nD Cert.Ln1KernelIdeal.τ).loc Cert.Ln1KernelIdeal.main_arg4)
      ∧ m' ((c.tc : Thread Cert.Ln1ReferenceIdeal.nD Cert.Ln1ReferenceIdeal.τ).loc Cert.Ln1ReferenceIdeal.main_arg5) = m ((c.tc : Thread Cert.Ln1KernelIdeal.nD Cert.Ln1KernelIdeal.τ).loc Cert.Ln1KernelIdeal.main_arg5)) →
    ∃ (v0 : (c : Dev Cert.Ln1KernelIdeal.nD) → Buf (Elt Ideal) ((c.tc : Thread Cert.Ln1KernelIdeal.nD Cert.Ln1KernelIdeal.τ).loc Cert.Ln1KernelIdeal.main_v10_0)) (v1 : (c : Dev Cert.Ln1KernelIdeal.nD) → Buf (Elt Ideal) ((c.tc : Thread Cert.Ln1KernelIdeal.nD Cert.Ln1KernelIdeal.τ).loc Cert.Ln1KernelIdeal.main_v10_1)) (v2 : (c : Dev Cert.Ln1KernelIdeal.nD) → Buf (Elt Ideal) ((c.tc : Thread Cert.Ln1KernelIdeal.nD Cert.Ln1KernelIdeal.τ).loc Cert.Ln1KernelIdeal.main_v10_2)) (v3 : (c : Dev Cert.Ln1KernelIdeal.nD) → Buf (Elt Ideal) ((c.tc : Thread Cert.Ln1KernelIdeal.nD Cert.Ln1KernelIdeal.τ).loc Cert.Ln1KernelIdeal.main_v10_3)) (v4 : (c : Dev Cert.Ln1KernelIdeal.nD) → Buf (Elt Ideal) ((c.tc : Thread Cert.Ln1KernelIdeal.nD Cert.Ln1KernelIdeal.τ).loc Cert.Ln1KernelIdeal.main_v10_4)) (v5 : (c : Dev Cert.Ln1KernelIdeal.nD) → Buf (Elt Ideal) ((c.tc : Thread Cert.Ln1KernelIdeal.nD Cert.Ln1KernelIdeal.τ).loc Cert.Ln1KernelIdeal.main_v10_5)),
      θ_run (Cert.Ln1KernelIdeal.defs (F := Ideal)) (onTc (τ := Cert.Ln1KernelIdeal.τ) (Cert.Ln1KernelIdeal.main (F := Ideal))) ⟨m, fun _ => 0, g⟩ (fun r => ∀ c : Dev Cert.Ln1KernelIdeal.nD,
          r.2.mem ((c.tc : Thread Cert.Ln1KernelIdeal.nD Cert.Ln1KernelIdeal.τ).loc Cert.Ln1KernelIdeal.main_v10_0) = v0 c
          ∧ r.2.mem ((c.tc : Thread Cert.Ln1KernelIdeal.nD Cert.Ln1KernelIdeal.τ).loc Cert.Ln1KernelIdeal.main_v10_1) = v1 c
          ∧ r.2.mem ((c.tc : Thread Cert.Ln1KernelIdeal.nD Cert.Ln1KernelIdeal.τ).loc Cert.Ln1KernelIdeal.main_v10_2) = v2 c
          ∧ r.2.mem ((c.tc : Thread Cert.Ln1KernelIdeal.nD Cert.Ln1KernelIdeal.τ).loc Cert.Ln1KernelIdeal.main_v10_3) = v3 c
          ∧ r.2.mem ((c.tc : Thread Cert.Ln1KernelIdeal.nD Cert.Ln1KernelIdeal.τ).loc Cert.Ln1KernelIdeal.main_v10_4) = v4 c
          ∧ r.2.mem ((c.tc : Thread Cert.Ln1KernelIdeal.nD Cert.Ln1KernelIdeal.τ).loc Cert.Ln1KernelIdeal.main_v10_5) = v5 c
          ∧ r.2.mem ((c.tc : Thread Cert.Ln1KernelIdeal.nD Cert.Ln1KernelIdeal.τ).loc Cert.Ln1KernelIdeal.main_arg0) = m ((c.tc : Thread Cert.Ln1KernelIdeal.nD Cert.Ln1KernelIdeal.τ).loc Cert.Ln1KernelIdeal.main_arg0)
          ∧ r.2.mem ((c.tc : Thread Cert.Ln1KernelIdeal.nD Cert.Ln1KernelIdeal.τ).loc Cert.Ln1KernelIdeal.main_arg1) = m ((c.tc : Thread Cert.Ln1KernelIdeal.nD Cert.Ln1KernelIdeal.τ).loc Cert.Ln1KernelIdeal.main_arg1)
          ∧ r.2.mem ((c.tc : Thread Cert.Ln1KernelIdeal.nD Cert.Ln1KernelIdeal.τ).loc Cert.Ln1KernelIdeal.main_arg2) = m ((c.tc : Thread Cert.Ln1KernelIdeal.nD Cert.Ln1KernelIdeal.τ).loc Cert.Ln1KernelIdeal.main_arg2)
          ∧ r.2.mem ((c.tc : Thread Cert.Ln1KernelIdeal.nD Cert.Ln1KernelIdeal.τ).loc Cert.Ln1KernelIdeal.main_arg3) = m ((c.tc : Thread Cert.Ln1KernelIdeal.nD Cert.Ln1KernelIdeal.τ).loc Cert.Ln1KernelIdeal.main_arg3)
          ∧ r.2.mem ((c.tc : Thread Cert.Ln1KernelIdeal.nD Cert.Ln1KernelIdeal.τ).loc Cert.Ln1KernelIdeal.main_arg4) = m ((c.tc : Thread Cert.Ln1KernelIdeal.nD Cert.Ln1KernelIdeal.τ).loc Cert.Ln1KernelIdeal.main_arg4)
          ∧ r.2.mem ((c.tc : Thread Cert.Ln1KernelIdeal.nD Cert.Ln1KernelIdeal.τ).loc Cert.Ln1KernelIdeal.main_arg5) = m ((c.tc : Thread Cert.Ln1KernelIdeal.nD Cert.Ln1KernelIdeal.τ).loc Cert.Ln1KernelIdeal.main_arg5))
      ∧ θ_run (Cert.Ln1ReferenceIdeal.defs (F := Ideal)) (onTc (τ := Cert.Ln1ReferenceIdeal.τ) (Cert.Ln1ReferenceIdeal.main (F := Ideal))) ⟨m', fun _ => 0, g'⟩ (fun r => ∀ c : Dev Cert.Ln1ReferenceIdeal.nD,
          r.2.mem ((c.tc : Thread Cert.Ln1ReferenceIdeal.nD Cert.Ln1ReferenceIdeal.τ).loc Cert.Ln1ReferenceIdeal.main_v70) = v0 c
          ∧ r.2.mem ((c.tc : Thread Cert.Ln1ReferenceIdeal.nD Cert.Ln1ReferenceIdeal.τ).loc Cert.Ln1ReferenceIdeal.main_v71) = v1 c
          ∧ r.2.mem ((c.tc : Thread Cert.Ln1ReferenceIdeal.nD Cert.Ln1ReferenceIdeal.τ).loc Cert.Ln1ReferenceIdeal.main_v73) = v2 c
          ∧ r.2.mem ((c.tc : Thread Cert.Ln1ReferenceIdeal.nD Cert.Ln1ReferenceIdeal.τ).loc Cert.Ln1ReferenceIdeal.main_v74) = v3 c
          ∧ r.2.mem ((c.tc : Thread Cert.Ln1ReferenceIdeal.nD Cert.Ln1ReferenceIdeal.τ).loc Cert.Ln1ReferenceIdeal.main_v75) = v4 c
          ∧ r.2.mem ((c.tc : Thread Cert.Ln1ReferenceIdeal.nD Cert.Ln1ReferenceIdeal.τ).loc Cert.Ln1ReferenceIdeal.main_v76) = v5 c
          ∧ r.2.mem ((c.tc : Thread Cert.Ln1ReferenceIdeal.nD Cert.Ln1ReferenceIdeal.τ).loc Cert.Ln1ReferenceIdeal.main_arg0) = m' ((c.tc : Thread Cert.Ln1ReferenceIdeal.nD Cert.Ln1ReferenceIdeal.τ).loc Cert.Ln1ReferenceIdeal.main_arg0)
          ∧ r.2.mem ((c.tc : Thread Cert.Ln1ReferenceIdeal.nD Cert.Ln1ReferenceIdeal.τ).loc Cert.Ln1ReferenceIdeal.main_arg1) = m' ((c.tc : Thread Cert.Ln1ReferenceIdeal.nD Cert.Ln1ReferenceIdeal.τ).loc Cert.Ln1ReferenceIdeal.main_arg1)
          ∧ r.2.mem ((c.tc : Thread Cert.Ln1ReferenceIdeal.nD Cert.Ln1ReferenceIdeal.τ).loc Cert.Ln1ReferenceIdeal.main_arg2) = m' ((c.tc : Thread Cert.Ln1ReferenceIdeal.nD Cert.Ln1ReferenceIdeal.τ).loc Cert.Ln1ReferenceIdeal.main_arg2)
          ∧ r.2.mem ((c.tc : Thread Cert.Ln1ReferenceIdeal.nD Cert.Ln1ReferenceIdeal.τ).loc Cert.Ln1ReferenceIdeal.main_arg3) = m' ((c.tc : Thread Cert.Ln1ReferenceIdeal.nD Cert.Ln1ReferenceIdeal.τ).loc Cert.Ln1ReferenceIdeal.main_arg3)
          ∧ r.2.mem ((c.tc : Thread Cert.Ln1ReferenceIdeal.nD Cert.Ln1ReferenceIdeal.τ).loc Cert.Ln1ReferenceIdeal.main_arg4) = m' ((c.tc : Thread Cert.Ln1ReferenceIdeal.nD Cert.Ln1ReferenceIdeal.τ).loc Cert.Ln1ReferenceIdeal.main_arg4)
          ∧ r.2.mem ((c.tc : Thread Cert.Ln1ReferenceIdeal.nD Cert.Ln1ReferenceIdeal.τ).loc Cert.Ln1ReferenceIdeal.main_arg5) = m' ((c.tc : Thread Cert.Ln1ReferenceIdeal.nD Cert.Ln1ReferenceIdeal.τ).loc Cert.Ln1ReferenceIdeal.main_arg5))

def preserves_Ln2Kernel_Ln2KernelIdeal : Prop :=
  True

def algebraic_Ln2KernelIdeal_Ln2ReferenceIdeal_pre_finite_ln2 [hLn2KernelIdeal : Cert.Ln2KernelIdeal.Facts] [hLn2ReferenceIdeal : Cert.Ln2ReferenceIdeal.Facts] [hPre_finite_ln2 : Cert.Pre_finite_ln2.Facts] : Prop :=
  ∀ (m : (ℓ : Loc Cert.Ln2KernelIdeal.nD Cert.Ln2KernelIdeal.τ Cert.Ln2KernelIdeal.sig) → Buf (Elt Ideal) ℓ) (g : Dev Cert.Ln2KernelIdeal.nD → PrngReg)
    (m' : (ℓ : Loc Cert.Ln2ReferenceIdeal.nD Cert.Ln2ReferenceIdeal.τ Cert.Ln2ReferenceIdeal.sig) → Buf (Elt Ideal) ℓ) (g' : Dev Cert.Ln2ReferenceIdeal.nD → PrngReg), Pre_Ln2KernelIdeal_finite_ln2 m →
    (∀ c : Dev Cert.Ln2KernelIdeal.nD,
      m' ((c.tc : Thread Cert.Ln2ReferenceIdeal.nD Cert.Ln2ReferenceIdeal.τ).loc Cert.Ln2ReferenceIdeal.main_arg0) = m ((c.tc : Thread Cert.Ln2KernelIdeal.nD Cert.Ln2KernelIdeal.τ).loc Cert.Ln2KernelIdeal.main_arg0)
      ∧ m' ((c.tc : Thread Cert.Ln2ReferenceIdeal.nD Cert.Ln2ReferenceIdeal.τ).loc Cert.Ln2ReferenceIdeal.main_arg1) = m ((c.tc : Thread Cert.Ln2KernelIdeal.nD Cert.Ln2KernelIdeal.τ).loc Cert.Ln2KernelIdeal.main_arg1)
      ∧ m' ((c.tc : Thread Cert.Ln2ReferenceIdeal.nD Cert.Ln2ReferenceIdeal.τ).loc Cert.Ln2ReferenceIdeal.main_arg2) = m ((c.tc : Thread Cert.Ln2KernelIdeal.nD Cert.Ln2KernelIdeal.τ).loc Cert.Ln2KernelIdeal.main_arg2)
      ∧ m' ((c.tc : Thread Cert.Ln2ReferenceIdeal.nD Cert.Ln2ReferenceIdeal.τ).loc Cert.Ln2ReferenceIdeal.main_arg3) = m ((c.tc : Thread Cert.Ln2KernelIdeal.nD Cert.Ln2KernelIdeal.τ).loc Cert.Ln2KernelIdeal.main_arg3)
      ∧ m' ((c.tc : Thread Cert.Ln2ReferenceIdeal.nD Cert.Ln2ReferenceIdeal.τ).loc Cert.Ln2ReferenceIdeal.main_arg4) = m ((c.tc : Thread Cert.Ln2KernelIdeal.nD Cert.Ln2KernelIdeal.τ).loc Cert.Ln2KernelIdeal.main_arg4)
      ∧ m' ((c.tc : Thread Cert.Ln2ReferenceIdeal.nD Cert.Ln2ReferenceIdeal.τ).loc Cert.Ln2ReferenceIdeal.main_arg5) = m ((c.tc : Thread Cert.Ln2KernelIdeal.nD Cert.Ln2KernelIdeal.τ).loc Cert.Ln2KernelIdeal.main_arg5)) →
    ∃ (v0 : (c : Dev Cert.Ln2KernelIdeal.nD) → Buf (Elt Ideal) ((c.tc : Thread Cert.Ln2KernelIdeal.nD Cert.Ln2KernelIdeal.τ).loc Cert.Ln2KernelIdeal.main_v12_0)) (v1 : (c : Dev Cert.Ln2KernelIdeal.nD) → Buf (Elt Ideal) ((c.tc : Thread Cert.Ln2KernelIdeal.nD Cert.Ln2KernelIdeal.τ).loc Cert.Ln2KernelIdeal.main_v12_1)) (v2 : (c : Dev Cert.Ln2KernelIdeal.nD) → Buf (Elt Ideal) ((c.tc : Thread Cert.Ln2KernelIdeal.nD Cert.Ln2KernelIdeal.τ).loc Cert.Ln2KernelIdeal.main_v12_2)) (v3 : (c : Dev Cert.Ln2KernelIdeal.nD) → Buf (Elt Ideal) ((c.tc : Thread Cert.Ln2KernelIdeal.nD Cert.Ln2KernelIdeal.τ).loc Cert.Ln2KernelIdeal.main_v12_3)) (v4 : (c : Dev Cert.Ln2KernelIdeal.nD) → Buf (Elt Ideal) ((c.tc : Thread Cert.Ln2KernelIdeal.nD Cert.Ln2KernelIdeal.τ).loc Cert.Ln2KernelIdeal.main_v12_4)),
      θ_run (Cert.Ln2KernelIdeal.defs (F := Ideal)) (onTc (τ := Cert.Ln2KernelIdeal.τ) (Cert.Ln2KernelIdeal.main (F := Ideal))) ⟨m, fun _ => 0, g⟩ (fun r => ∀ c : Dev Cert.Ln2KernelIdeal.nD,
          r.2.mem ((c.tc : Thread Cert.Ln2KernelIdeal.nD Cert.Ln2KernelIdeal.τ).loc Cert.Ln2KernelIdeal.main_v12_0) = v0 c
          ∧ r.2.mem ((c.tc : Thread Cert.Ln2KernelIdeal.nD Cert.Ln2KernelIdeal.τ).loc Cert.Ln2KernelIdeal.main_v12_1) = v1 c
          ∧ r.2.mem ((c.tc : Thread Cert.Ln2KernelIdeal.nD Cert.Ln2KernelIdeal.τ).loc Cert.Ln2KernelIdeal.main_v12_2) = v2 c
          ∧ r.2.mem ((c.tc : Thread Cert.Ln2KernelIdeal.nD Cert.Ln2KernelIdeal.τ).loc Cert.Ln2KernelIdeal.main_v12_3) = v3 c
          ∧ r.2.mem ((c.tc : Thread Cert.Ln2KernelIdeal.nD Cert.Ln2KernelIdeal.τ).loc Cert.Ln2KernelIdeal.main_v12_4) = v4 c
          ∧ r.2.mem ((c.tc : Thread Cert.Ln2KernelIdeal.nD Cert.Ln2KernelIdeal.τ).loc Cert.Ln2KernelIdeal.main_arg0) = m ((c.tc : Thread Cert.Ln2KernelIdeal.nD Cert.Ln2KernelIdeal.τ).loc Cert.Ln2KernelIdeal.main_arg0)
          ∧ r.2.mem ((c.tc : Thread Cert.Ln2KernelIdeal.nD Cert.Ln2KernelIdeal.τ).loc Cert.Ln2KernelIdeal.main_arg1) = m ((c.tc : Thread Cert.Ln2KernelIdeal.nD Cert.Ln2KernelIdeal.τ).loc Cert.Ln2KernelIdeal.main_arg1)
          ∧ r.2.mem ((c.tc : Thread Cert.Ln2KernelIdeal.nD Cert.Ln2KernelIdeal.τ).loc Cert.Ln2KernelIdeal.main_arg2) = m ((c.tc : Thread Cert.Ln2KernelIdeal.nD Cert.Ln2KernelIdeal.τ).loc Cert.Ln2KernelIdeal.main_arg2)
          ∧ r.2.mem ((c.tc : Thread Cert.Ln2KernelIdeal.nD Cert.Ln2KernelIdeal.τ).loc Cert.Ln2KernelIdeal.main_arg3) = m ((c.tc : Thread Cert.Ln2KernelIdeal.nD Cert.Ln2KernelIdeal.τ).loc Cert.Ln2KernelIdeal.main_arg3)
          ∧ r.2.mem ((c.tc : Thread Cert.Ln2KernelIdeal.nD Cert.Ln2KernelIdeal.τ).loc Cert.Ln2KernelIdeal.main_arg4) = m ((c.tc : Thread Cert.Ln2KernelIdeal.nD Cert.Ln2KernelIdeal.τ).loc Cert.Ln2KernelIdeal.main_arg4)
          ∧ r.2.mem ((c.tc : Thread Cert.Ln2KernelIdeal.nD Cert.Ln2KernelIdeal.τ).loc Cert.Ln2KernelIdeal.main_arg5) = m ((c.tc : Thread Cert.Ln2KernelIdeal.nD Cert.Ln2KernelIdeal.τ).loc Cert.Ln2KernelIdeal.main_arg5))
      ∧ θ_run (Cert.Ln2ReferenceIdeal.defs (F := Ideal)) (onTc (τ := Cert.Ln2ReferenceIdeal.τ) (Cert.Ln2ReferenceIdeal.main (F := Ideal))) ⟨m', fun _ => 0, g'⟩ (fun r => ∀ c : Dev Cert.Ln2ReferenceIdeal.nD,
          r.2.mem ((c.tc : Thread Cert.Ln2ReferenceIdeal.nD Cert.Ln2ReferenceIdeal.τ).loc Cert.Ln2ReferenceIdeal.main_v81) = v0 c
          ∧ r.2.mem ((c.tc : Thread Cert.Ln2ReferenceIdeal.nD Cert.Ln2ReferenceIdeal.τ).loc Cert.Ln2ReferenceIdeal.main_v82) = v1 c
          ∧ r.2.mem ((c.tc : Thread Cert.Ln2ReferenceIdeal.nD Cert.Ln2ReferenceIdeal.τ).loc Cert.Ln2ReferenceIdeal.main_v84) = v2 c
          ∧ r.2.mem ((c.tc : Thread Cert.Ln2ReferenceIdeal.nD Cert.Ln2ReferenceIdeal.τ).loc Cert.Ln2ReferenceIdeal.main_v85) = v3 c
          ∧ r.2.mem ((c.tc : Thread Cert.Ln2ReferenceIdeal.nD Cert.Ln2ReferenceIdeal.τ).loc Cert.Ln2ReferenceIdeal.main_v86) = v4 c
          ∧ r.2.mem ((c.tc : Thread Cert.Ln2ReferenceIdeal.nD Cert.Ln2ReferenceIdeal.τ).loc Cert.Ln2ReferenceIdeal.main_arg0) = m' ((c.tc : Thread Cert.Ln2ReferenceIdeal.nD Cert.Ln2ReferenceIdeal.τ).loc Cert.Ln2ReferenceIdeal.main_arg0)
          ∧ r.2.mem ((c.tc : Thread Cert.Ln2ReferenceIdeal.nD Cert.Ln2ReferenceIdeal.τ).loc Cert.Ln2ReferenceIdeal.main_arg1) = m' ((c.tc : Thread Cert.Ln2ReferenceIdeal.nD Cert.Ln2ReferenceIdeal.τ).loc Cert.Ln2ReferenceIdeal.main_arg1)
          ∧ r.2.mem ((c.tc : Thread Cert.Ln2ReferenceIdeal.nD Cert.Ln2ReferenceIdeal.τ).loc Cert.Ln2ReferenceIdeal.main_arg2) = m' ((c.tc : Thread Cert.Ln2ReferenceIdeal.nD Cert.Ln2ReferenceIdeal.τ).loc Cert.Ln2ReferenceIdeal.main_arg2)
          ∧ r.2.mem ((c.tc : Thread Cert.Ln2ReferenceIdeal.nD Cert.Ln2ReferenceIdeal.τ).loc Cert.Ln2ReferenceIdeal.main_arg3) = m' ((c.tc : Thread Cert.Ln2ReferenceIdeal.nD Cert.Ln2ReferenceIdeal.τ).loc Cert.Ln2ReferenceIdeal.main_arg3)
          ∧ r.2.mem ((c.tc : Thread Cert.Ln2ReferenceIdeal.nD Cert.Ln2ReferenceIdeal.τ).loc Cert.Ln2ReferenceIdeal.main_arg4) = m' ((c.tc : Thread Cert.Ln2ReferenceIdeal.nD Cert.Ln2ReferenceIdeal.τ).loc Cert.Ln2ReferenceIdeal.main_arg4)
          ∧ r.2.mem ((c.tc : Thread Cert.Ln2ReferenceIdeal.nD Cert.Ln2ReferenceIdeal.τ).loc Cert.Ln2ReferenceIdeal.main_arg5) = m' ((c.tc : Thread Cert.Ln2ReferenceIdeal.nD Cert.Ln2ReferenceIdeal.τ).loc Cert.Ln2ReferenceIdeal.main_arg5))

def preserves_AttnfKernel_AttnfKernelIdeal : Prop :=
  True

def algebraic_AttnfKernelIdeal_AttnfReferenceIdeal [hAttnfKernelIdeal : Cert.AttnfKernelIdeal.Facts] [hAttnfReferenceIdeal : Cert.AttnfReferenceIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)) →
    ∃ (v0 : (c : Dev Cert.AttnfKernelIdeal.nD) → Buf (Elt Ideal) ((c.tc : Thread Cert.AttnfKernelIdeal.nD Cert.AttnfKernelIdeal.τ).loc Cert.AttnfKernelIdeal.main_v6)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v6) = v0 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v22) = v0 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2))

def preserves_LbKernel_LbKernelIdeal : Prop :=
  True

def algebraic_LbKernelIdeal_LbReferenceIdeal_pre_finite_lb [hLbKernelIdeal : Cert.LbKernelIdeal.Facts] [hLbReferenceIdeal : Cert.LbReferenceIdeal.Facts] [hPre_finite_lb : Cert.Pre_finite_lb.Facts] : Prop :=
  ∀ (m : (ℓ : Loc Cert.LbKernelIdeal.nD Cert.LbKernelIdeal.τ Cert.LbKernelIdeal.sig) → Buf (Elt Ideal) ℓ) (g : Dev Cert.LbKernelIdeal.nD → PrngReg)
    (m' : (ℓ : Loc Cert.LbReferenceIdeal.nD Cert.LbReferenceIdeal.τ Cert.LbReferenceIdeal.sig) → Buf (Elt Ideal) ℓ) (g' : Dev Cert.LbReferenceIdeal.nD → PrngReg), Pre_LbKernelIdeal_finite_lb m →
    (∀ c : Dev Cert.LbKernelIdeal.nD,
      m' ((c.tc : Thread Cert.LbReferenceIdeal.nD Cert.LbReferenceIdeal.τ).loc Cert.LbReferenceIdeal.main_arg0) = m ((c.tc : Thread Cert.LbKernelIdeal.nD Cert.LbKernelIdeal.τ).loc Cert.LbKernelIdeal.main_arg0)
      ∧ m' ((c.tc : Thread Cert.LbReferenceIdeal.nD Cert.LbReferenceIdeal.τ).loc Cert.LbReferenceIdeal.main_arg1) = m ((c.tc : Thread Cert.LbKernelIdeal.nD Cert.LbKernelIdeal.τ).loc Cert.LbKernelIdeal.main_arg1)) →
    ∃ (v0 : (c : Dev Cert.LbKernelIdeal.nD) → Buf (Elt Ideal) ((c.tc : Thread Cert.LbKernelIdeal.nD Cert.LbKernelIdeal.τ).loc Cert.LbKernelIdeal.main_v0)),
      θ_run (Cert.LbKernelIdeal.defs (F := Ideal)) (onTc (τ := Cert.LbKernelIdeal.τ) (Cert.LbKernelIdeal.main (F := Ideal))) ⟨m, fun _ => 0, g⟩ (fun r => ∀ c : Dev Cert.LbKernelIdeal.nD,
          r.2.mem ((c.tc : Thread Cert.LbKernelIdeal.nD Cert.LbKernelIdeal.τ).loc Cert.LbKernelIdeal.main_v0) = v0 c
          ∧ r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
          ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ θ_run (Cert.LbReferenceIdeal.defs (F := Ideal)) (onTc (τ := Cert.LbReferenceIdeal.τ) (Cert.LbReferenceIdeal.main (F := Ideal))) ⟨m', fun _ => 0, g'⟩ (fun r => ∀ c : Dev Cert.LbReferenceIdeal.nD,
          r.2.mem ((c.tc : Thread Cert.LbReferenceIdeal.nD Cert.LbReferenceIdeal.τ).loc Cert.LbReferenceIdeal.main_v50) = v0 c
          ∧ r.2.mem ((c.tc : Thread Cert.LbReferenceIdeal.nD Cert.LbReferenceIdeal.τ).loc Cert.LbReferenceIdeal.main_arg0) = m' ((c.tc : Thread Cert.LbReferenceIdeal.nD Cert.LbReferenceIdeal.τ).loc Cert.LbReferenceIdeal.main_arg0)
          ∧ r.2.mem ((c.tc : Thread Cert.LbReferenceIdeal.nD Cert.LbReferenceIdeal.τ).loc Cert.LbReferenceIdeal.main_arg1) = m' ((c.tc : Thread Cert.LbReferenceIdeal.nD Cert.LbReferenceIdeal.τ).loc Cert.LbReferenceIdeal.main_arg1))

def preserves_WolnKernel_WolnKernelIdeal : Prop :=
  True

def algebraic_WolnKernelIdeal_WolnReferenceIdeal [hWolnKernelIdeal : Cert.WolnKernelIdeal.Facts] [hWolnReferenceIdeal : Cert.WolnReferenceIdeal.Facts] : Prop :=
  ∀ (m : (ℓ : Loc Cert.WolnKernelIdeal.nD Cert.WolnKernelIdeal.τ Cert.WolnKernelIdeal.sig) → Buf (Elt Ideal) ℓ) (g : Dev Cert.WolnKernelIdeal.nD → PrngReg)
    (m' : (ℓ : Loc Cert.WolnReferenceIdeal.nD Cert.WolnReferenceIdeal.τ Cert.WolnReferenceIdeal.sig) → Buf (Elt Ideal) ℓ) (g' : Dev Cert.WolnReferenceIdeal.nD → PrngReg), Pre_WolnKernelIdeal m →
    (∀ c : Dev Cert.WolnKernelIdeal.nD,
      m' ((c.tc : Thread Cert.WolnReferenceIdeal.nD Cert.WolnReferenceIdeal.τ).loc Cert.WolnReferenceIdeal.main_arg0) = m ((c.tc : Thread Cert.WolnKernelIdeal.nD Cert.WolnKernelIdeal.τ).loc Cert.WolnKernelIdeal.main_arg0)
      ∧ m' ((c.tc : Thread Cert.WolnReferenceIdeal.nD Cert.WolnReferenceIdeal.τ).loc Cert.WolnReferenceIdeal.main_arg1) = m ((c.tc : Thread Cert.WolnKernelIdeal.nD Cert.WolnKernelIdeal.τ).loc Cert.WolnKernelIdeal.main_arg1)
      ∧ m' ((c.tc : Thread Cert.WolnReferenceIdeal.nD Cert.WolnReferenceIdeal.τ).loc Cert.WolnReferenceIdeal.main_arg2) = m ((c.tc : Thread Cert.WolnKernelIdeal.nD Cert.WolnKernelIdeal.τ).loc Cert.WolnKernelIdeal.main_arg2)
      ∧ m' ((c.tc : Thread Cert.WolnReferenceIdeal.nD Cert.WolnReferenceIdeal.τ).loc Cert.WolnReferenceIdeal.main_arg3) = m ((c.tc : Thread Cert.WolnKernelIdeal.nD Cert.WolnKernelIdeal.τ).loc Cert.WolnKernelIdeal.main_arg3)
      ∧ m' ((c.tc : Thread Cert.WolnReferenceIdeal.nD Cert.WolnReferenceIdeal.τ).loc Cert.WolnReferenceIdeal.main_arg4) = m ((c.tc : Thread Cert.WolnKernelIdeal.nD Cert.WolnKernelIdeal.τ).loc Cert.WolnKernelIdeal.main_arg4)) →
    ∃ (v0 : (c : Dev Cert.WolnKernelIdeal.nD) → Buf (Elt Ideal) ((c.tc : Thread Cert.WolnKernelIdeal.nD Cert.WolnKernelIdeal.τ).loc Cert.WolnKernelIdeal.main_v6_0)) (v1 : (c : Dev Cert.WolnKernelIdeal.nD) → Buf (Elt Ideal) ((c.tc : Thread Cert.WolnKernelIdeal.nD Cert.WolnKernelIdeal.τ).loc Cert.WolnKernelIdeal.main_v6_1)) (v2 : (c : Dev Cert.WolnKernelIdeal.nD) → Buf (Elt Ideal) ((c.tc : Thread Cert.WolnKernelIdeal.nD Cert.WolnKernelIdeal.τ).loc Cert.WolnKernelIdeal.main_v6_2)),
      θ_run (Cert.WolnKernelIdeal.defs (F := Ideal)) (onTc (τ := Cert.WolnKernelIdeal.τ) (Cert.WolnKernelIdeal.main (F := Ideal))) ⟨m, fun _ => 0, g⟩ (fun r => ∀ c : Dev Cert.WolnKernelIdeal.nD,
          r.2.mem ((c.tc : Thread Cert.WolnKernelIdeal.nD Cert.WolnKernelIdeal.τ).loc Cert.WolnKernelIdeal.main_v6_0) = v0 c
          ∧ r.2.mem ((c.tc : Thread Cert.WolnKernelIdeal.nD Cert.WolnKernelIdeal.τ).loc Cert.WolnKernelIdeal.main_v6_1) = v1 c
          ∧ r.2.mem ((c.tc : Thread Cert.WolnKernelIdeal.nD Cert.WolnKernelIdeal.τ).loc Cert.WolnKernelIdeal.main_v6_2) = v2 c
          ∧ r.2.mem ((c.tc : Thread Cert.WolnKernelIdeal.nD Cert.WolnKernelIdeal.τ).loc Cert.WolnKernelIdeal.main_arg0) = m ((c.tc : Thread Cert.WolnKernelIdeal.nD Cert.WolnKernelIdeal.τ).loc Cert.WolnKernelIdeal.main_arg0)
          ∧ r.2.mem ((c.tc : Thread Cert.WolnKernelIdeal.nD Cert.WolnKernelIdeal.τ).loc Cert.WolnKernelIdeal.main_arg1) = m ((c.tc : Thread Cert.WolnKernelIdeal.nD Cert.WolnKernelIdeal.τ).loc Cert.WolnKernelIdeal.main_arg1)
          ∧ r.2.mem ((c.tc : Thread Cert.WolnKernelIdeal.nD Cert.WolnKernelIdeal.τ).loc Cert.WolnKernelIdeal.main_arg2) = m ((c.tc : Thread Cert.WolnKernelIdeal.nD Cert.WolnKernelIdeal.τ).loc Cert.WolnKernelIdeal.main_arg2)
          ∧ r.2.mem ((c.tc : Thread Cert.WolnKernelIdeal.nD Cert.WolnKernelIdeal.τ).loc Cert.WolnKernelIdeal.main_arg3) = m ((c.tc : Thread Cert.WolnKernelIdeal.nD Cert.WolnKernelIdeal.τ).loc Cert.WolnKernelIdeal.main_arg3)
          ∧ r.2.mem ((c.tc : Thread Cert.WolnKernelIdeal.nD Cert.WolnKernelIdeal.τ).loc Cert.WolnKernelIdeal.main_arg4) = m ((c.tc : Thread Cert.WolnKernelIdeal.nD Cert.WolnKernelIdeal.τ).loc Cert.WolnKernelIdeal.main_arg4))
      ∧ θ_run (Cert.WolnReferenceIdeal.defs (F := Ideal)) (onTc (τ := Cert.WolnReferenceIdeal.τ) (Cert.WolnReferenceIdeal.main (F := Ideal))) ⟨m', fun _ => 0, g'⟩ (fun r => ∀ c : Dev Cert.WolnReferenceIdeal.nD,
          r.2.mem ((c.tc : Thread Cert.WolnReferenceIdeal.nD Cert.WolnReferenceIdeal.τ).loc Cert.WolnReferenceIdeal.main_v29) = v0 c
          ∧ r.2.mem ((c.tc : Thread Cert.WolnReferenceIdeal.nD Cert.WolnReferenceIdeal.τ).loc Cert.WolnReferenceIdeal.main_v28) = v1 c
          ∧ r.2.mem ((c.tc : Thread Cert.WolnReferenceIdeal.nD Cert.WolnReferenceIdeal.τ).loc Cert.WolnReferenceIdeal.main_v30) = v2 c
          ∧ r.2.mem ((c.tc : Thread Cert.WolnReferenceIdeal.nD Cert.WolnReferenceIdeal.τ).loc Cert.WolnReferenceIdeal.main_arg0) = m' ((c.tc : Thread Cert.WolnReferenceIdeal.nD Cert.WolnReferenceIdeal.τ).loc Cert.WolnReferenceIdeal.main_arg0)
          ∧ r.2.mem ((c.tc : Thread Cert.WolnReferenceIdeal.nD Cert.WolnReferenceIdeal.τ).loc Cert.WolnReferenceIdeal.main_arg1) = m' ((c.tc : Thread Cert.WolnReferenceIdeal.nD Cert.WolnReferenceIdeal.τ).loc Cert.WolnReferenceIdeal.main_arg1)
          ∧ r.2.mem ((c.tc : Thread Cert.WolnReferenceIdeal.nD Cert.WolnReferenceIdeal.τ).loc Cert.WolnReferenceIdeal.main_arg2) = m' ((c.tc : Thread Cert.WolnReferenceIdeal.nD Cert.WolnReferenceIdeal.τ).loc Cert.WolnReferenceIdeal.main_arg2)
          ∧ r.2.mem ((c.tc : Thread Cert.WolnReferenceIdeal.nD Cert.WolnReferenceIdeal.τ).loc Cert.WolnReferenceIdeal.main_arg3) = m' ((c.tc : Thread Cert.WolnReferenceIdeal.nD Cert.WolnReferenceIdeal.τ).loc Cert.WolnReferenceIdeal.main_arg3)
          ∧ r.2.mem ((c.tc : Thread Cert.WolnReferenceIdeal.nD Cert.WolnReferenceIdeal.τ).loc Cert.WolnReferenceIdeal.main_arg4) = m' ((c.tc : Thread Cert.WolnReferenceIdeal.nD Cert.WolnReferenceIdeal.τ).loc Cert.WolnReferenceIdeal.main_arg4))

def preserves_DownlnKernel_DownlnKernelIdeal : Prop :=
  True

def algebraic_DownlnKernelIdeal_DownlnReferenceIdeal [hDownlnKernelIdeal : Cert.DownlnKernelIdeal.Facts] [hDownlnReferenceIdeal : Cert.DownlnReferenceIdeal.Facts] : Prop :=
  ∀ (m : (ℓ : Loc Cert.DownlnKernelIdeal.nD Cert.DownlnKernelIdeal.τ Cert.DownlnKernelIdeal.sig) → Buf (Elt Ideal) ℓ) (g : Dev Cert.DownlnKernelIdeal.nD → PrngReg)
    (m' : (ℓ : Loc Cert.DownlnReferenceIdeal.nD Cert.DownlnReferenceIdeal.τ Cert.DownlnReferenceIdeal.sig) → Buf (Elt Ideal) ℓ) (g' : Dev Cert.DownlnReferenceIdeal.nD → PrngReg), Pre_DownlnKernelIdeal m →
    (∀ c : Dev Cert.DownlnKernelIdeal.nD,
      m' ((c.tc : Thread Cert.DownlnReferenceIdeal.nD Cert.DownlnReferenceIdeal.τ).loc Cert.DownlnReferenceIdeal.main_arg0) = m ((c.tc : Thread Cert.DownlnKernelIdeal.nD Cert.DownlnKernelIdeal.τ).loc Cert.DownlnKernelIdeal.main_arg0)
      ∧ m' ((c.tc : Thread Cert.DownlnReferenceIdeal.nD Cert.DownlnReferenceIdeal.τ).loc Cert.DownlnReferenceIdeal.main_arg1) = m ((c.tc : Thread Cert.DownlnKernelIdeal.nD Cert.DownlnKernelIdeal.τ).loc Cert.DownlnKernelIdeal.main_arg1)
      ∧ m' ((c.tc : Thread Cert.DownlnReferenceIdeal.nD Cert.DownlnReferenceIdeal.τ).loc Cert.DownlnReferenceIdeal.main_arg2) = m ((c.tc : Thread Cert.DownlnKernelIdeal.nD Cert.DownlnKernelIdeal.τ).loc Cert.DownlnKernelIdeal.main_arg2)
      ∧ m' ((c.tc : Thread Cert.DownlnReferenceIdeal.nD Cert.DownlnReferenceIdeal.τ).loc Cert.DownlnReferenceIdeal.main_arg3) = m ((c.tc : Thread Cert.DownlnKernelIdeal.nD Cert.DownlnKernelIdeal.τ).loc Cert.DownlnKernelIdeal.main_arg3)
      ∧ m' ((c.tc : Thread Cert.DownlnReferenceIdeal.nD Cert.DownlnReferenceIdeal.τ).loc Cert.DownlnReferenceIdeal.main_arg4) = m ((c.tc : Thread Cert.DownlnKernelIdeal.nD Cert.DownlnKernelIdeal.τ).loc Cert.DownlnKernelIdeal.main_arg4)) →
    ∃ (v0 : (c : Dev Cert.DownlnKernelIdeal.nD) → Buf (Elt Ideal) ((c.tc : Thread Cert.DownlnKernelIdeal.nD Cert.DownlnKernelIdeal.τ).loc Cert.DownlnKernelIdeal.main_v6_0)) (v1 : (c : Dev Cert.DownlnKernelIdeal.nD) → Buf (Elt Ideal) ((c.tc : Thread Cert.DownlnKernelIdeal.nD Cert.DownlnKernelIdeal.τ).loc Cert.DownlnKernelIdeal.main_v6_1)) (v2 : (c : Dev Cert.DownlnKernelIdeal.nD) → Buf (Elt Ideal) ((c.tc : Thread Cert.DownlnKernelIdeal.nD Cert.DownlnKernelIdeal.τ).loc Cert.DownlnKernelIdeal.main_v6_2)),
      θ_run (Cert.DownlnKernelIdeal.defs (F := Ideal)) (onTc (τ := Cert.DownlnKernelIdeal.τ) (Cert.DownlnKernelIdeal.main (F := Ideal))) ⟨m, fun _ => 0, g⟩ (fun r => ∀ c : Dev Cert.DownlnKernelIdeal.nD,
          r.2.mem ((c.tc : Thread Cert.DownlnKernelIdeal.nD Cert.DownlnKernelIdeal.τ).loc Cert.DownlnKernelIdeal.main_v6_0) = v0 c
          ∧ r.2.mem ((c.tc : Thread Cert.DownlnKernelIdeal.nD Cert.DownlnKernelIdeal.τ).loc Cert.DownlnKernelIdeal.main_v6_1) = v1 c
          ∧ r.2.mem ((c.tc : Thread Cert.DownlnKernelIdeal.nD Cert.DownlnKernelIdeal.τ).loc Cert.DownlnKernelIdeal.main_v6_2) = v2 c
          ∧ r.2.mem ((c.tc : Thread Cert.DownlnKernelIdeal.nD Cert.DownlnKernelIdeal.τ).loc Cert.DownlnKernelIdeal.main_arg0) = m ((c.tc : Thread Cert.DownlnKernelIdeal.nD Cert.DownlnKernelIdeal.τ).loc Cert.DownlnKernelIdeal.main_arg0)
          ∧ r.2.mem ((c.tc : Thread Cert.DownlnKernelIdeal.nD Cert.DownlnKernelIdeal.τ).loc Cert.DownlnKernelIdeal.main_arg1) = m ((c.tc : Thread Cert.DownlnKernelIdeal.nD Cert.DownlnKernelIdeal.τ).loc Cert.DownlnKernelIdeal.main_arg1)
          ∧ r.2.mem ((c.tc : Thread Cert.DownlnKernelIdeal.nD Cert.DownlnKernelIdeal.τ).loc Cert.DownlnKernelIdeal.main_arg2) = m ((c.tc : Thread Cert.DownlnKernelIdeal.nD Cert.DownlnKernelIdeal.τ).loc Cert.DownlnKernelIdeal.main_arg2)
          ∧ r.2.mem ((c.tc : Thread Cert.DownlnKernelIdeal.nD Cert.DownlnKernelIdeal.τ).loc Cert.DownlnKernelIdeal.main_arg3) = m ((c.tc : Thread Cert.DownlnKernelIdeal.nD Cert.DownlnKernelIdeal.τ).loc Cert.DownlnKernelIdeal.main_arg3)
          ∧ r.2.mem ((c.tc : Thread Cert.DownlnKernelIdeal.nD Cert.DownlnKernelIdeal.τ).loc Cert.DownlnKernelIdeal.main_arg4) = m ((c.tc : Thread Cert.DownlnKernelIdeal.nD Cert.DownlnKernelIdeal.τ).loc Cert.DownlnKernelIdeal.main_arg4))
      ∧ θ_run (Cert.DownlnReferenceIdeal.defs (F := Ideal)) (onTc (τ := Cert.DownlnReferenceIdeal.τ) (Cert.DownlnReferenceIdeal.main (F := Ideal))) ⟨m', fun _ => 0, g'⟩ (fun r => ∀ c : Dev Cert.DownlnReferenceIdeal.nD,
          r.2.mem ((c.tc : Thread Cert.DownlnReferenceIdeal.nD Cert.DownlnReferenceIdeal.τ).loc Cert.DownlnReferenceIdeal.main_v29) = v0 c
          ∧ r.2.mem ((c.tc : Thread Cert.DownlnReferenceIdeal.nD Cert.DownlnReferenceIdeal.τ).loc Cert.DownlnReferenceIdeal.main_v28) = v1 c
          ∧ r.2.mem ((c.tc : Thread Cert.DownlnReferenceIdeal.nD Cert.DownlnReferenceIdeal.τ).loc Cert.DownlnReferenceIdeal.main_v30) = v2 c
          ∧ r.2.mem ((c.tc : Thread Cert.DownlnReferenceIdeal.nD Cert.DownlnReferenceIdeal.τ).loc Cert.DownlnReferenceIdeal.main_arg0) = m' ((c.tc : Thread Cert.DownlnReferenceIdeal.nD Cert.DownlnReferenceIdeal.τ).loc Cert.DownlnReferenceIdeal.main_arg0)
          ∧ r.2.mem ((c.tc : Thread Cert.DownlnReferenceIdeal.nD Cert.DownlnReferenceIdeal.τ).loc Cert.DownlnReferenceIdeal.main_arg1) = m' ((c.tc : Thread Cert.DownlnReferenceIdeal.nD Cert.DownlnReferenceIdeal.τ).loc Cert.DownlnReferenceIdeal.main_arg1)
          ∧ r.2.mem ((c.tc : Thread Cert.DownlnReferenceIdeal.nD Cert.DownlnReferenceIdeal.τ).loc Cert.DownlnReferenceIdeal.main_arg2) = m' ((c.tc : Thread Cert.DownlnReferenceIdeal.nD Cert.DownlnReferenceIdeal.τ).loc Cert.DownlnReferenceIdeal.main_arg2)
          ∧ r.2.mem ((c.tc : Thread Cert.DownlnReferenceIdeal.nD Cert.DownlnReferenceIdeal.τ).loc Cert.DownlnReferenceIdeal.main_arg3) = m' ((c.tc : Thread Cert.DownlnReferenceIdeal.nD Cert.DownlnReferenceIdeal.τ).loc Cert.DownlnReferenceIdeal.main_arg3)
          ∧ r.2.mem ((c.tc : Thread Cert.DownlnReferenceIdeal.nD Cert.DownlnReferenceIdeal.τ).loc Cert.DownlnReferenceIdeal.main_arg4) = m' ((c.tc : Thread Cert.DownlnReferenceIdeal.nD Cert.DownlnReferenceIdeal.τ).loc Cert.DownlnReferenceIdeal.main_arg4))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v3) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_MergefKernel_MergefKernelIdeal : Prop :=
  True

def algebraic_MergefKernelIdeal_MergefReferenceIdeal [hMergefKernelIdeal : Cert.MergefKernelIdeal.Facts] [hMergefReferenceIdeal : Cert.MergefReferenceIdeal.Facts] : Prop :=
  ∀ (m : (ℓ : Loc Cert.MergefKernelIdeal.nD Cert.MergefKernelIdeal.τ Cert.MergefKernelIdeal.sig) → Buf (Elt Ideal) ℓ) (g : Dev Cert.MergefKernelIdeal.nD → PrngReg)
    (m' : (ℓ : Loc Cert.MergefReferenceIdeal.nD Cert.MergefReferenceIdeal.τ Cert.MergefReferenceIdeal.sig) → Buf (Elt Ideal) ℓ) (g' : Dev Cert.MergefReferenceIdeal.nD → PrngReg), Pre_MergefKernelIdeal m →
    (∀ c : Dev Cert.MergefKernelIdeal.nD,
      m' ((c.tc : Thread Cert.MergefReferenceIdeal.nD Cert.MergefReferenceIdeal.τ).loc Cert.MergefReferenceIdeal.main_arg0) = m ((c.tc : Thread Cert.MergefKernelIdeal.nD Cert.MergefKernelIdeal.τ).loc Cert.MergefKernelIdeal.main_arg0)
      ∧ m' ((c.tc : Thread Cert.MergefReferenceIdeal.nD Cert.MergefReferenceIdeal.τ).loc Cert.MergefReferenceIdeal.main_arg1) = m ((c.tc : Thread Cert.MergefKernelIdeal.nD Cert.MergefKernelIdeal.τ).loc Cert.MergefKernelIdeal.main_arg1)
      ∧ m' ((c.tc : Thread Cert.MergefReferenceIdeal.nD Cert.MergefReferenceIdeal.τ).loc Cert.MergefReferenceIdeal.main_arg2) = m ((c.tc : Thread Cert.MergefKernelIdeal.nD Cert.MergefKernelIdeal.τ).loc Cert.MergefKernelIdeal.main_arg2)
      ∧ m' ((c.tc : Thread Cert.MergefReferenceIdeal.nD Cert.MergefReferenceIdeal.τ).loc Cert.MergefReferenceIdeal.main_arg3) = m ((c.tc : Thread Cert.MergefKernelIdeal.nD Cert.MergefKernelIdeal.τ).loc Cert.MergefKernelIdeal.main_arg3)
      ∧ m' ((c.tc : Thread Cert.MergefReferenceIdeal.nD Cert.MergefReferenceIdeal.τ).loc Cert.MergefReferenceIdeal.main_arg4) = m ((c.tc : Thread Cert.MergefKernelIdeal.nD Cert.MergefKernelIdeal.τ).loc Cert.MergefKernelIdeal.main_arg4)
      ∧ m' ((c.tc : Thread Cert.MergefReferenceIdeal.nD Cert.MergefReferenceIdeal.τ).loc Cert.MergefReferenceIdeal.main_arg5) = m ((c.tc : Thread Cert.MergefKernelIdeal.nD Cert.MergefKernelIdeal.τ).loc Cert.MergefKernelIdeal.main_arg5)) →
    ∃ (v0 : (c : Dev Cert.MergefKernelIdeal.nD) → Buf (Elt Ideal) ((c.tc : Thread Cert.MergefKernelIdeal.nD Cert.MergefKernelIdeal.τ).loc Cert.MergefKernelIdeal.main_v8_0)) (v1 : (c : Dev Cert.MergefKernelIdeal.nD) → Buf (Elt Ideal) ((c.tc : Thread Cert.MergefKernelIdeal.nD Cert.MergefKernelIdeal.τ).loc Cert.MergefKernelIdeal.main_v8_1)) (v2 : (c : Dev Cert.MergefKernelIdeal.nD) → Buf (Elt Ideal) ((c.tc : Thread Cert.MergefKernelIdeal.nD Cert.MergefKernelIdeal.τ).loc Cert.MergefKernelIdeal.main_v8_2)) (v3 : (c : Dev Cert.MergefKernelIdeal.nD) → Buf (Elt Ideal) ((c.tc : Thread Cert.MergefKernelIdeal.nD Cert.MergefKernelIdeal.τ).loc Cert.MergefKernelIdeal.main_v8_3)) (v4 : (c : Dev Cert.MergefKernelIdeal.nD) → Buf (Elt Ideal) ((c.tc : Thread Cert.MergefKernelIdeal.nD Cert.MergefKernelIdeal.τ).loc Cert.MergefKernelIdeal.main_v8_4)) (v5 : (c : Dev Cert.MergefKernelIdeal.nD) → Buf (Elt Ideal) ((c.tc : Thread Cert.MergefKernelIdeal.nD Cert.MergefKernelIdeal.τ).loc Cert.MergefKernelIdeal.main_v8_5)) (v6 : (c : Dev Cert.MergefKernelIdeal.nD) → Buf (Elt Ideal) ((c.tc : Thread Cert.MergefKernelIdeal.nD Cert.MergefKernelIdeal.τ).loc Cert.MergefKernelIdeal.main_v8_6)) (v7 : (c : Dev Cert.MergefKernelIdeal.nD) → Buf (Elt Ideal) ((c.tc : Thread Cert.MergefKernelIdeal.nD Cert.MergefKernelIdeal.τ).loc Cert.MergefKernelIdeal.main_v8_7)),
      θ_run (Cert.MergefKernelIdeal.defs (F := Ideal)) (onTc (τ := Cert.MergefKernelIdeal.τ) (Cert.MergefKernelIdeal.main (F := Ideal))) ⟨m, fun _ => 0, g⟩ (fun r => ∀ c : Dev Cert.MergefKernelIdeal.nD,
          r.2.mem ((c.tc : Thread Cert.MergefKernelIdeal.nD Cert.MergefKernelIdeal.τ).loc Cert.MergefKernelIdeal.main_v8_0) = v0 c
          ∧ r.2.mem ((c.tc : Thread Cert.MergefKernelIdeal.nD Cert.MergefKernelIdeal.τ).loc Cert.MergefKernelIdeal.main_v8_1) = v1 c
          ∧ r.2.mem ((c.tc : Thread Cert.MergefKernelIdeal.nD Cert.MergefKernelIdeal.τ).loc Cert.MergefKernelIdeal.main_v8_2) = v2 c
          ∧ r.2.mem ((c.tc : Thread Cert.MergefKernelIdeal.nD Cert.MergefKernelIdeal.τ).loc Cert.MergefKernelIdeal.main_v8_3) = v3 c
          ∧ r.2.mem ((c.tc : Thread Cert.MergefKernelIdeal.nD Cert.MergefKernelIdeal.τ).loc Cert.MergefKernelIdeal.main_v8_4) = v4 c
          ∧ r.2.mem ((c.tc : Thread Cert.MergefKernelIdeal.nD Cert.MergefKernelIdeal.τ).loc Cert.MergefKernelIdeal.main_v8_5) = v5 c
          ∧ r.2.mem ((c.tc : Thread Cert.MergefKernelIdeal.nD Cert.MergefKernelIdeal.τ).loc Cert.MergefKernelIdeal.main_v8_6) = v6 c
          ∧ r.2.mem ((c.tc : Thread Cert.MergefKernelIdeal.nD Cert.MergefKernelIdeal.τ).loc Cert.MergefKernelIdeal.main_v8_7) = v7 c
          ∧ r.2.mem ((c.tc : Thread Cert.MergefKernelIdeal.nD Cert.MergefKernelIdeal.τ).loc Cert.MergefKernelIdeal.main_arg0) = m ((c.tc : Thread Cert.MergefKernelIdeal.nD Cert.MergefKernelIdeal.τ).loc Cert.MergefKernelIdeal.main_arg0)
          ∧ r.2.mem ((c.tc : Thread Cert.MergefKernelIdeal.nD Cert.MergefKernelIdeal.τ).loc Cert.MergefKernelIdeal.main_arg1) = m ((c.tc : Thread Cert.MergefKernelIdeal.nD Cert.MergefKernelIdeal.τ).loc Cert.MergefKernelIdeal.main_arg1)
          ∧ r.2.mem ((c.tc : Thread Cert.MergefKernelIdeal.nD Cert.MergefKernelIdeal.τ).loc Cert.MergefKernelIdeal.main_arg2) = m ((c.tc : Thread Cert.MergefKernelIdeal.nD Cert.MergefKernelIdeal.τ).loc Cert.MergefKernelIdeal.main_arg2)
          ∧ r.2.mem ((c.tc : Thread Cert.MergefKernelIdeal.nD Cert.MergefKernelIdeal.τ).loc Cert.MergefKernelIdeal.main_arg3) = m ((c.tc : Thread Cert.MergefKernelIdeal.nD Cert.MergefKernelIdeal.τ).loc Cert.MergefKernelIdeal.main_arg3)
          ∧ r.2.mem ((c.tc : Thread Cert.MergefKernelIdeal.nD Cert.MergefKernelIdeal.τ).loc Cert.MergefKernelIdeal.main_arg4) = m ((c.tc : Thread Cert.MergefKernelIdeal.nD Cert.MergefKernelIdeal.τ).loc Cert.MergefKernelIdeal.main_arg4)
          ∧ r.2.mem ((c.tc : Thread Cert.MergefKernelIdeal.nD Cert.MergefKernelIdeal.τ).loc Cert.MergefKernelIdeal.main_arg5) = m ((c.tc : Thread Cert.MergefKernelIdeal.nD Cert.MergefKernelIdeal.τ).loc Cert.MergefKernelIdeal.main_arg5))
      ∧ θ_run (Cert.MergefReferenceIdeal.defs (F := Ideal)) (onTc (τ := Cert.MergefReferenceIdeal.τ) (Cert.MergefReferenceIdeal.main (F := Ideal))) ⟨m', fun _ => 0, g'⟩ (fun r => ∀ c : Dev Cert.MergefReferenceIdeal.nD,
          r.2.mem ((c.tc : Thread Cert.MergefReferenceIdeal.nD Cert.MergefReferenceIdeal.τ).loc Cert.MergefReferenceIdeal.main_v75) = v0 c
          ∧ r.2.mem ((c.tc : Thread Cert.MergefReferenceIdeal.nD Cert.MergefReferenceIdeal.τ).loc Cert.MergefReferenceIdeal.main_v77) = v1 c
          ∧ r.2.mem ((c.tc : Thread Cert.MergefReferenceIdeal.nD Cert.MergefReferenceIdeal.τ).loc Cert.MergefReferenceIdeal.main_v79) = v2 c
          ∧ r.2.mem ((c.tc : Thread Cert.MergefReferenceIdeal.nD Cert.MergefReferenceIdeal.τ).loc Cert.MergefReferenceIdeal.main_v81) = v3 c
          ∧ r.2.mem ((c.tc : Thread Cert.MergefReferenceIdeal.nD Cert.MergefReferenceIdeal.τ).loc Cert.MergefReferenceIdeal.main_v83) = v4 c
          ∧ r.2.mem ((c.tc : Thread Cert.MergefReferenceIdeal.nD Cert.MergefReferenceIdeal.τ).loc Cert.MergefReferenceIdeal.main_v85) = v5 c
          ∧ r.2.mem ((c.tc : Thread Cert.MergefReferenceIdeal.nD Cert.MergefReferenceIdeal.τ).loc Cert.MergefReferenceIdeal.main_v87) = v6 c
          ∧ r.2.mem ((c.tc : Thread Cert.MergefReferenceIdeal.nD Cert.MergefReferenceIdeal.τ).loc Cert.MergefReferenceIdeal.main_v89) = v7 c
          ∧ r.2.mem ((c.tc : Thread Cert.MergefReferenceIdeal.nD Cert.MergefReferenceIdeal.τ).loc Cert.MergefReferenceIdeal.main_arg0) = m' ((c.tc : Thread Cert.MergefReferenceIdeal.nD Cert.MergefReferenceIdeal.τ).loc Cert.MergefReferenceIdeal.main_arg0)
          ∧ r.2.mem ((c.tc : Thread Cert.MergefReferenceIdeal.nD Cert.MergefReferenceIdeal.τ).loc Cert.MergefReferenceIdeal.main_arg1) = m' ((c.tc : Thread Cert.MergefReferenceIdeal.nD Cert.MergefReferenceIdeal.τ).loc Cert.MergefReferenceIdeal.main_arg1)
          ∧ r.2.mem ((c.tc : Thread Cert.MergefReferenceIdeal.nD Cert.MergefReferenceIdeal.τ).loc Cert.MergefReferenceIdeal.main_arg2) = m' ((c.tc : Thread Cert.MergefReferenceIdeal.nD Cert.MergefReferenceIdeal.τ).loc Cert.MergefReferenceIdeal.main_arg2)
          ∧ r.2.mem ((c.tc : Thread Cert.MergefReferenceIdeal.nD Cert.MergefReferenceIdeal.τ).loc Cert.MergefReferenceIdeal.main_arg3) = m' ((c.tc : Thread Cert.MergefReferenceIdeal.nD Cert.MergefReferenceIdeal.τ).loc Cert.MergefReferenceIdeal.main_arg3)
          ∧ r.2.mem ((c.tc : Thread Cert.MergefReferenceIdeal.nD Cert.MergefReferenceIdeal.τ).loc Cert.MergefReferenceIdeal.main_arg4) = m' ((c.tc : Thread Cert.MergefReferenceIdeal.nD Cert.MergefReferenceIdeal.τ).loc Cert.MergefReferenceIdeal.main_arg4)
          ∧ r.2.mem ((c.tc : Thread Cert.MergefReferenceIdeal.nD Cert.MergefReferenceIdeal.τ).loc Cert.MergefReferenceIdeal.main_arg5) = m' ((c.tc : Thread Cert.MergefReferenceIdeal.nD Cert.MergefReferenceIdeal.τ).loc Cert.MergefReferenceIdeal.main_arg5))

def preserves_LbfKernel_LbfKernelIdeal : Prop :=
  True

def algebraic_LbfKernelIdeal_LbfReferenceIdeal [hLbfKernelIdeal : Cert.LbfKernelIdeal.Facts] [hLbfReferenceIdeal : Cert.LbfReferenceIdeal.Facts] : Prop :=
  ∀ (m : (ℓ : Loc Cert.LbfKernelIdeal.nD Cert.LbfKernelIdeal.τ Cert.LbfKernelIdeal.sig) → Buf (Elt Ideal) ℓ) (g : Dev Cert.LbfKernelIdeal.nD → PrngReg)
    (m' : (ℓ : Loc Cert.LbfReferenceIdeal.nD Cert.LbfReferenceIdeal.τ Cert.LbfReferenceIdeal.sig) → Buf (Elt Ideal) ℓ) (g' : Dev Cert.LbfReferenceIdeal.nD → PrngReg), Pre_LbfKernelIdeal m →
    (∀ c : Dev Cert.LbfKernelIdeal.nD,
      m' ((c.tc : Thread Cert.LbfReferenceIdeal.nD Cert.LbfReferenceIdeal.τ).loc Cert.LbfReferenceIdeal.main_arg0) = m ((c.tc : Thread Cert.LbfKernelIdeal.nD Cert.LbfKernelIdeal.τ).loc Cert.LbfKernelIdeal.main_arg0)) →
    ∃ (v0 : (c : Dev Cert.LbfKernelIdeal.nD) → Buf (Elt Ideal) ((c.tc : Thread Cert.LbfKernelIdeal.nD Cert.LbfKernelIdeal.τ).loc Cert.LbfKernelIdeal.main_v0)),
      θ_run (Cert.LbfKernelIdeal.defs (F := Ideal)) (onTc (τ := Cert.LbfKernelIdeal.τ) (Cert.LbfKernelIdeal.main (F := Ideal))) ⟨m, fun _ => 0, g⟩ (fun r => ∀ c : Dev Cert.LbfKernelIdeal.nD,
          r.2.mem ((c.tc : Thread Cert.LbfKernelIdeal.nD Cert.LbfKernelIdeal.τ).loc Cert.LbfKernelIdeal.main_v0) = v0 c
          ∧ r.2.mem ((c.tc : Thread Cert.LbfKernelIdeal.nD Cert.LbfKernelIdeal.τ).loc Cert.LbfKernelIdeal.main_arg0) = m ((c.tc : Thread Cert.LbfKernelIdeal.nD Cert.LbfKernelIdeal.τ).loc Cert.LbfKernelIdeal.main_arg0))
      ∧ θ_run (Cert.LbfReferenceIdeal.defs (F := Ideal)) (onTc (τ := Cert.LbfReferenceIdeal.τ) (Cert.LbfReferenceIdeal.main (F := Ideal))) ⟨m', fun _ => 0, g'⟩ (fun r => ∀ c : Dev Cert.LbfReferenceIdeal.nD,
          r.2.mem ((c.tc : Thread Cert.LbfReferenceIdeal.nD Cert.LbfReferenceIdeal.τ).loc Cert.LbfReferenceIdeal.main_v14) = v0 c
          ∧ r.2.mem ((c.tc : Thread Cert.LbfReferenceIdeal.nD Cert.LbfReferenceIdeal.τ).loc Cert.LbfReferenceIdeal.main_arg0) = m' ((c.tc : Thread Cert.LbfReferenceIdeal.nD Cert.LbfReferenceIdeal.τ).loc Cert.LbfReferenceIdeal.main_arg0))

def preserves_InbKernel_InbKernelIdeal : Prop :=
  True

def algebraic_InbKernelIdeal_InbReferenceIdeal [hInbKernelIdeal : Cert.InbKernelIdeal.Facts] [hInbReferenceIdeal : Cert.InbReferenceIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbKernelIdeal m →
    (∀ c : Dev Cert.InbKernelIdeal.nD,
      m' ((c.tc : Thread Cert.InbReferenceIdeal.nD Cert.InbReferenceIdeal.τ).loc Cert.InbReferenceIdeal.main_arg0) = m ((c.tc : Thread Cert.InbKernelIdeal.nD Cert.InbKernelIdeal.τ).loc Cert.InbKernelIdeal.main_arg0)
      ∧ m' ((c.tc : Thread Cert.InbReferenceIdeal.nD Cert.InbReferenceIdeal.τ).loc Cert.InbReferenceIdeal.main_arg1) = m ((c.tc : Thread Cert.InbKernelIdeal.nD Cert.InbKernelIdeal.τ).loc Cert.InbKernelIdeal.main_arg1)
      ∧ m' ((c.tc : Thread Cert.InbReferenceIdeal.nD Cert.InbReferenceIdeal.τ).loc Cert.InbReferenceIdeal.main_arg2) = m ((c.tc : Thread Cert.InbKernelIdeal.nD Cert.InbKernelIdeal.τ).loc Cert.InbKernelIdeal.main_arg2)
      ∧ m' ((c.tc : Thread Cert.InbReferenceIdeal.nD Cert.InbReferenceIdeal.τ).loc Cert.InbReferenceIdeal.main_arg3) = m ((c.tc : Thread Cert.InbKernelIdeal.nD Cert.InbKernelIdeal.τ).loc Cert.InbKernelIdeal.main_arg3)
      ∧ m' ((c.tc : Thread Cert.InbReferenceIdeal.nD Cert.InbReferenceIdeal.τ).loc Cert.InbReferenceIdeal.main_arg4) = m ((c.tc : Thread Cert.InbKernelIdeal.nD Cert.InbKernelIdeal.τ).loc Cert.InbKernelIdeal.main_arg4)
      ∧ m' ((c.tc : Thread Cert.InbReferenceIdeal.nD Cert.InbReferenceIdeal.τ).loc Cert.InbReferenceIdeal.main_arg5) = m ((c.tc : Thread Cert.InbKernelIdeal.nD Cert.InbKernelIdeal.τ).loc Cert.InbKernelIdeal.main_arg5)) →
    ∃ (v0 : (c : Dev Cert.InbKernelIdeal.nD) → Buf (Elt Ideal) ((c.tc : Thread Cert.InbKernelIdeal.nD Cert.InbKernelIdeal.τ).loc Cert.InbKernelIdeal.main_v10)),
      θ_run (Cert.InbKernelIdeal.defs (F := Ideal)) (onTc (τ := Cert.InbKernelIdeal.τ) (Cert.InbKernelIdeal.main (F := Ideal))) ⟨m, fun _ => 0, g⟩ (fun r => ∀ c : Dev Cert.InbKernelIdeal.nD,
          r.2.mem ((c.tc : Thread Cert.InbKernelIdeal.nD Cert.InbKernelIdeal.τ).loc Cert.InbKernelIdeal.main_v10) = v0 c
          ∧ r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
          ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
          ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2)
          ∧ r.2.mem ((c.tc : Thread Cert.InbKernelIdeal.nD Cert.InbKernelIdeal.τ).loc Cert.InbKernelIdeal.main_arg3) = m ((c.tc : Thread Cert.InbKernelIdeal.nD Cert.InbKernelIdeal.τ).loc Cert.InbKernelIdeal.main_arg3)
          ∧ r.2.mem ((c.tc : Thread Cert.InbKernelIdeal.nD Cert.InbKernelIdeal.τ).loc Cert.InbKernelIdeal.main_arg4) = m ((c.tc : Thread Cert.InbKernelIdeal.nD Cert.InbKernelIdeal.τ).loc Cert.InbKernelIdeal.main_arg4)
          ∧ r.2.mem ((c.tc : Thread Cert.InbKernelIdeal.nD Cert.InbKernelIdeal.τ).loc Cert.InbKernelIdeal.main_arg5) = m ((c.tc : Thread Cert.InbKernelIdeal.nD Cert.InbKernelIdeal.τ).loc Cert.InbKernelIdeal.main_arg5))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v7) = v0 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1)
          ∧ r.2.mem ((c.tc : Thread Cert.InbReferenceIdeal.nD Cert.InbReferenceIdeal.τ).loc Cert.InbReferenceIdeal.main_arg2) = m' ((c.tc : Thread Cert.InbReferenceIdeal.nD Cert.InbReferenceIdeal.τ).loc Cert.InbReferenceIdeal.main_arg2)
          ∧ r.2.mem ((c.tc : Thread Cert.InbReferenceIdeal.nD Cert.InbReferenceIdeal.τ).loc Cert.InbReferenceIdeal.main_arg3) = m' ((c.tc : Thread Cert.InbReferenceIdeal.nD Cert.InbReferenceIdeal.τ).loc Cert.InbReferenceIdeal.main_arg3)
          ∧ r.2.mem ((c.tc : Thread Cert.InbReferenceIdeal.nD Cert.InbReferenceIdeal.τ).loc Cert.InbReferenceIdeal.main_arg4) = m' ((c.tc : Thread Cert.InbReferenceIdeal.nD Cert.InbReferenceIdeal.τ).loc Cert.InbReferenceIdeal.main_arg4)
          ∧ r.2.mem ((c.tc : Thread Cert.InbReferenceIdeal.nD Cert.InbReferenceIdeal.τ).loc Cert.InbReferenceIdeal.main_arg5) = m' ((c.tc : Thread Cert.InbReferenceIdeal.nD Cert.InbReferenceIdeal.τ).loc Cert.InbReferenceIdeal.main_arg5))

def preserves_GupKernel_GupKernelIdeal : Prop :=
  True

def algebraic_GupKernelIdeal_GupReferenceIdeal [hGupKernelIdeal : Cert.GupKernelIdeal.Facts] [hGupReferenceIdeal : Cert.GupReferenceIdeal.Facts] : Prop :=
  ∀ (m : (ℓ : Loc Cert.GupKernelIdeal.nD Cert.GupKernelIdeal.τ Cert.GupKernelIdeal.sig) → Buf (Elt Ideal) ℓ) (g : Dev Cert.GupKernelIdeal.nD → PrngReg)
    (m' : (ℓ : Loc Cert.GupReferenceIdeal.nD Cert.GupReferenceIdeal.τ Cert.GupReferenceIdeal.sig) → Buf (Elt Ideal) ℓ) (g' : Dev Cert.GupReferenceIdeal.nD → PrngReg), Pre_GupKernelIdeal m →
    (∀ c : Dev Cert.GupKernelIdeal.nD,
      m' ((c.tc : Thread Cert.GupReferenceIdeal.nD Cert.GupReferenceIdeal.τ).loc Cert.GupReferenceIdeal.main_arg0) = m ((c.tc : Thread Cert.GupKernelIdeal.nD Cert.GupKernelIdeal.τ).loc Cert.GupKernelIdeal.main_arg0)
      ∧ m' ((c.tc : Thread Cert.GupReferenceIdeal.nD Cert.GupReferenceIdeal.τ).loc Cert.GupReferenceIdeal.main_arg1) = m ((c.tc : Thread Cert.GupKernelIdeal.nD Cert.GupKernelIdeal.τ).loc Cert.GupKernelIdeal.main_arg1)) →
    ∃ (v0 : (c : Dev Cert.GupKernelIdeal.nD) → Buf (Elt Ideal) ((c.tc : Thread Cert.GupKernelIdeal.nD Cert.GupKernelIdeal.τ).loc Cert.GupKernelIdeal.main_v4)),
      θ_run (Cert.GupKernelIdeal.defs (F := Ideal)) (onTc (τ := Cert.GupKernelIdeal.τ) (Cert.GupKernelIdeal.main (F := Ideal))) ⟨m, fun _ => 0, g⟩ (fun r => ∀ c : Dev Cert.GupKernelIdeal.nD,
          r.2.mem ((c.tc : Thread Cert.GupKernelIdeal.nD Cert.GupKernelIdeal.τ).loc Cert.GupKernelIdeal.main_v4) = v0 c
          ∧ r.2.mem ((c.tc : Thread Cert.GupKernelIdeal.nD Cert.GupKernelIdeal.τ).loc Cert.GupKernelIdeal.main_arg0) = m ((c.tc : Thread Cert.GupKernelIdeal.nD Cert.GupKernelIdeal.τ).loc Cert.GupKernelIdeal.main_arg0)
          ∧ r.2.mem ((c.tc : Thread Cert.GupKernelIdeal.nD Cert.GupKernelIdeal.τ).loc Cert.GupKernelIdeal.main_arg1) = m ((c.tc : Thread Cert.GupKernelIdeal.nD Cert.GupKernelIdeal.τ).loc Cert.GupKernelIdeal.main_arg1))
      ∧ θ_run (Cert.GupReferenceIdeal.defs (F := Ideal)) (onTc (τ := Cert.GupReferenceIdeal.τ) (Cert.GupReferenceIdeal.main (F := Ideal))) ⟨m', fun _ => 0, g'⟩ (fun r => ∀ c : Dev Cert.GupReferenceIdeal.nD,
          r.2.mem ((c.tc : Thread Cert.GupReferenceIdeal.nD Cert.GupReferenceIdeal.τ).loc Cert.GupReferenceIdeal.main_v4) = v0 c
          ∧ r.2.mem ((c.tc : Thread Cert.GupReferenceIdeal.nD Cert.GupReferenceIdeal.τ).loc Cert.GupReferenceIdeal.main_arg0) = m' ((c.tc : Thread Cert.GupReferenceIdeal.nD Cert.GupReferenceIdeal.τ).loc Cert.GupReferenceIdeal.main_arg0)
          ∧ r.2.mem ((c.tc : Thread Cert.GupReferenceIdeal.nD Cert.GupReferenceIdeal.τ).loc Cert.GupReferenceIdeal.main_arg1) = m' ((c.tc : Thread Cert.GupReferenceIdeal.nD Cert.GupReferenceIdeal.τ).loc Cert.GupReferenceIdeal.main_arg1))

def preserves_MemkvKernel_MemkvKernelIdeal : Prop :=
  True

def algebraic_MemkvKernelIdeal_MemkvReferenceIdeal [hMemkvKernelIdeal : Cert.MemkvKernelIdeal.Facts] [hMemkvReferenceIdeal : Cert.MemkvReferenceIdeal.Facts] : Prop :=
  ∀ (m : (ℓ : Loc Cert.MemkvKernelIdeal.nD Cert.MemkvKernelIdeal.τ Cert.MemkvKernelIdeal.sig) → Buf (Elt Ideal) ℓ) (g : Dev Cert.MemkvKernelIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvKernelIdeal m →
    (∀ c : Dev Cert.MemkvKernelIdeal.nD,
      m' ((c.tc : Thread Cert.MemkvReferenceIdeal.nD Cert.MemkvReferenceIdeal.τ).loc Cert.MemkvReferenceIdeal.main_arg0) = m ((c.tc : Thread Cert.MemkvKernelIdeal.nD Cert.MemkvKernelIdeal.τ).loc Cert.MemkvKernelIdeal.main_arg0)
      ∧ m' ((c.tc : Thread Cert.MemkvReferenceIdeal.nD Cert.MemkvReferenceIdeal.τ).loc Cert.MemkvReferenceIdeal.main_arg1) = m ((c.tc : Thread Cert.MemkvKernelIdeal.nD Cert.MemkvKernelIdeal.τ).loc Cert.MemkvKernelIdeal.main_arg1)
      ∧ m' ((c.tc : Thread Cert.MemkvReferenceIdeal.nD Cert.MemkvReferenceIdeal.τ).loc Cert.MemkvReferenceIdeal.main_arg2) = m ((c.tc : Thread Cert.MemkvKernelIdeal.nD Cert.MemkvKernelIdeal.τ).loc Cert.MemkvKernelIdeal.main_arg2)) →
    ∃ (v0 : (c : Dev Cert.MemkvKernelIdeal.nD) → Buf (Elt Ideal) ((c.tc : Thread Cert.MemkvKernelIdeal.nD Cert.MemkvKernelIdeal.τ).loc Cert.MemkvKernelIdeal.main_v3_0)) (v1 : (c : Dev Cert.MemkvKernelIdeal.nD) → Buf (Elt Ideal) ((c.tc : Thread Cert.MemkvKernelIdeal.nD Cert.MemkvKernelIdeal.τ).loc Cert.MemkvKernelIdeal.main_v3_1)),
      θ_run (Cert.MemkvKernelIdeal.defs (F := Ideal)) (onTc (τ := Cert.MemkvKernelIdeal.τ) (Cert.MemkvKernelIdeal.main (F := Ideal))) ⟨m, fun _ => 0, g⟩ (fun r => ∀ c : Dev Cert.MemkvKernelIdeal.nD,
          r.2.mem ((c.tc : Thread Cert.MemkvKernelIdeal.nD Cert.MemkvKernelIdeal.τ).loc Cert.MemkvKernelIdeal.main_v3_0) = v0 c
          ∧ r.2.mem ((c.tc : Thread Cert.MemkvKernelIdeal.nD Cert.MemkvKernelIdeal.τ).loc Cert.MemkvKernelIdeal.main_v3_1) = v1 c
          ∧ r.2.mem ((c.tc : Thread Cert.MemkvKernelIdeal.nD Cert.MemkvKernelIdeal.τ).loc Cert.MemkvKernelIdeal.main_arg0) = m ((c.tc : Thread Cert.MemkvKernelIdeal.nD Cert.MemkvKernelIdeal.τ).loc Cert.MemkvKernelIdeal.main_arg0)
          ∧ r.2.mem ((c.tc : Thread Cert.MemkvKernelIdeal.nD Cert.MemkvKernelIdeal.τ).loc Cert.MemkvKernelIdeal.main_arg1) = m ((c.tc : Thread Cert.MemkvKernelIdeal.nD Cert.MemkvKernelIdeal.τ).loc Cert.MemkvKernelIdeal.main_arg1)
          ∧ r.2.mem ((c.tc : Thread Cert.MemkvKernelIdeal.nD Cert.MemkvKernelIdeal.τ).loc Cert.MemkvKernelIdeal.main_arg2) = m ((c.tc : Thread Cert.MemkvKernelIdeal.nD Cert.MemkvKernelIdeal.τ).loc Cert.MemkvKernelIdeal.main_arg2))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v3) = v0 c
          ∧ r.2.mem ((c.tc : Thread Cert.MemkvReferenceIdeal.nD Cert.MemkvReferenceIdeal.τ).loc Cert.MemkvReferenceIdeal.main_v5) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2))

def preserves_AdamsKernel_AdamsKernelIdeal : Prop :=
  True

def algebraic_AdamsKernelIdeal_AdamsReferenceIdeal [hAdamsKernelIdeal : Cert.AdamsKernelIdeal.Facts] [hAdamsReferenceIdeal : Cert.AdamsReferenceIdeal.Facts] : Prop :=
  ∀ (m : (ℓ : Loc Cert.AdamsKernelIdeal.nD Cert.AdamsKernelIdeal.τ Cert.AdamsKernelIdeal.sig) → Buf (Elt Ideal) ℓ) (g : Dev Cert.AdamsKernelIdeal.nD → PrngReg)
    (m' : (ℓ : Loc Cert.AdamsReferenceIdeal.nD Cert.AdamsReferenceIdeal.τ Cert.AdamsReferenceIdeal.sig) → Buf (Elt Ideal) ℓ) (g' : Dev Cert.AdamsReferenceIdeal.nD → PrngReg), Pre_AdamsKernelIdeal m →
    (∀ c : Dev Cert.AdamsKernelIdeal.nD,
      m' ((c.tc : Thread Cert.AdamsReferenceIdeal.nD Cert.AdamsReferenceIdeal.τ).loc Cert.AdamsReferenceIdeal.main_arg0) = m ((c.tc : Thread Cert.AdamsKernelIdeal.nD Cert.AdamsKernelIdeal.τ).loc Cert.AdamsKernelIdeal.main_arg0)
      ∧ m' ((c.tc : Thread Cert.AdamsReferenceIdeal.nD Cert.AdamsReferenceIdeal.τ).loc Cert.AdamsReferenceIdeal.main_arg1) = m ((c.tc : Thread Cert.AdamsKernelIdeal.nD Cert.AdamsKernelIdeal.τ).loc Cert.AdamsKernelIdeal.main_arg1)
      ∧ m' ((c.tc : Thread Cert.AdamsReferenceIdeal.nD Cert.AdamsReferenceIdeal.τ).loc Cert.AdamsReferenceIdeal.main_arg2) = m ((c.tc : Thread Cert.AdamsKernelIdeal.nD Cert.AdamsKernelIdeal.τ).loc Cert.AdamsKernelIdeal.main_arg2)
      ∧ m' ((c.tc : Thread Cert.AdamsReferenceIdeal.nD Cert.AdamsReferenceIdeal.τ).loc Cert.AdamsReferenceIdeal.main_arg3) = m ((c.tc : Thread Cert.AdamsKernelIdeal.nD Cert.AdamsKernelIdeal.τ).loc Cert.AdamsKernelIdeal.main_arg3)) →
    ∃ (v0 : (c : Dev Cert.AdamsKernelIdeal.nD) → Buf (Elt Ideal) ((c.tc : Thread Cert.AdamsKernelIdeal.nD Cert.AdamsKernelIdeal.τ).loc Cert.AdamsKernelIdeal.main_v0_0)) (v1 : (c : Dev Cert.AdamsKernelIdeal.nD) → Buf (Elt Ideal) ((c.tc : Thread Cert.AdamsKernelIdeal.nD Cert.AdamsKernelIdeal.τ).loc Cert.AdamsKernelIdeal.main_v0_1)) (v2 : (c : Dev Cert.AdamsKernelIdeal.nD) → Buf (Elt Ideal) ((c.tc : Thread Cert.AdamsKernelIdeal.nD Cert.AdamsKernelIdeal.τ).loc Cert.AdamsKernelIdeal.main_v0_2)),
      θ_run (Cert.AdamsKernelIdeal.defs (F := Ideal)) (onTc (τ := Cert.AdamsKernelIdeal.τ) (Cert.AdamsKernelIdeal.main (F := Ideal))) ⟨m, fun _ => 0, g⟩ (fun r => ∀ c : Dev Cert.AdamsKernelIdeal.nD,
          r.2.mem ((c.tc : Thread Cert.AdamsKernelIdeal.nD Cert.AdamsKernelIdeal.τ).loc Cert.AdamsKernelIdeal.main_v0_0) = v0 c
          ∧ r.2.mem ((c.tc : Thread Cert.AdamsKernelIdeal.nD Cert.AdamsKernelIdeal.τ).loc Cert.AdamsKernelIdeal.main_v0_1) = v1 c
          ∧ r.2.mem ((c.tc : Thread Cert.AdamsKernelIdeal.nD Cert.AdamsKernelIdeal.τ).loc Cert.AdamsKernelIdeal.main_v0_2) = v2 c
          ∧ r.2.mem ((c.tc : Thread Cert.AdamsKernelIdeal.nD Cert.AdamsKernelIdeal.τ).loc Cert.AdamsKernelIdeal.main_arg0) = m ((c.tc : Thread Cert.AdamsKernelIdeal.nD Cert.AdamsKernelIdeal.τ).loc Cert.AdamsKernelIdeal.main_arg0)
          ∧ r.2.mem ((c.tc : Thread Cert.AdamsKernelIdeal.nD Cert.AdamsKernelIdeal.τ).loc Cert.AdamsKernelIdeal.main_arg1) = m ((c.tc : Thread Cert.AdamsKernelIdeal.nD Cert.AdamsKernelIdeal.τ).loc Cert.AdamsKernelIdeal.main_arg1)
          ∧ r.2.mem ((c.tc : Thread Cert.AdamsKernelIdeal.nD Cert.AdamsKernelIdeal.τ).loc Cert.AdamsKernelIdeal.main_arg2) = m ((c.tc : Thread Cert.AdamsKernelIdeal.nD Cert.AdamsKernelIdeal.τ).loc Cert.AdamsKernelIdeal.main_arg2)
          ∧ r.2.mem ((c.tc : Thread Cert.AdamsKernelIdeal.nD Cert.AdamsKernelIdeal.τ).loc Cert.AdamsKernelIdeal.main_arg3) = m ((c.tc : Thread Cert.AdamsKernelIdeal.nD Cert.AdamsKernelIdeal.τ).loc Cert.AdamsKernelIdeal.main_arg3))
      ∧ θ_run (Cert.AdamsReferenceIdeal.defs (F := Ideal)) (onTc (τ := Cert.AdamsReferenceIdeal.τ) (Cert.AdamsReferenceIdeal.main (F := Ideal))) ⟨m', fun _ => 0, g'⟩ (fun r => ∀ c : Dev Cert.AdamsReferenceIdeal.nD,
          r.2.mem ((c.tc : Thread Cert.AdamsReferenceIdeal.nD Cert.AdamsReferenceIdeal.τ).loc Cert.AdamsReferenceIdeal.main_v23) = v0 c
          ∧ r.2.mem ((c.tc : Thread Cert.AdamsReferenceIdeal.nD Cert.AdamsReferenceIdeal.τ).loc Cert.AdamsReferenceIdeal.main_v4) = v1 c
          ∧ r.2.mem ((c.tc : Thread Cert.AdamsReferenceIdeal.nD Cert.AdamsReferenceIdeal.τ).loc Cert.AdamsReferenceIdeal.main_v10) = v2 c
          ∧ r.2.mem ((c.tc : Thread Cert.AdamsReferenceIdeal.nD Cert.AdamsReferenceIdeal.τ).loc Cert.AdamsReferenceIdeal.main_arg0) = m' ((c.tc : Thread Cert.AdamsReferenceIdeal.nD Cert.AdamsReferenceIdeal.τ).loc Cert.AdamsReferenceIdeal.main_arg0)
          ∧ r.2.mem ((c.tc : Thread Cert.AdamsReferenceIdeal.nD Cert.AdamsReferenceIdeal.τ).loc Cert.AdamsReferenceIdeal.main_arg1) = m' ((c.tc : Thread Cert.AdamsReferenceIdeal.nD Cert.AdamsReferenceIdeal.τ).loc Cert.AdamsReferenceIdeal.main_arg1)
          ∧ r.2.mem ((c.tc : Thread Cert.AdamsReferenceIdeal.nD Cert.AdamsReferenceIdeal.τ).loc Cert.AdamsReferenceIdeal.main_arg2) = m' ((c.tc : Thread Cert.AdamsReferenceIdeal.nD Cert.AdamsReferenceIdeal.τ).loc Cert.AdamsReferenceIdeal.main_arg2)
          ∧ r.2.mem ((c.tc : Thread Cert.AdamsReferenceIdeal.nD Cert.AdamsReferenceIdeal.τ).loc Cert.AdamsReferenceIdeal.main_arg3) = m' ((c.tc : Thread Cert.AdamsReferenceIdeal.nD Cert.AdamsReferenceIdeal.τ).loc Cert.AdamsReferenceIdeal.main_arg3))

def preserves_AdamcKernel_AdamcKernelIdeal : Prop :=
  True

def algebraic_AdamcKernelIdeal_AdamcReferenceIdeal [hAdamcKernelIdeal : Cert.AdamcKernelIdeal.Facts] [hAdamcReferenceIdeal : Cert.AdamcReferenceIdeal.Facts] : Prop :=
  ∀ (m : (ℓ : Loc Cert.AdamcKernelIdeal.nD Cert.AdamcKernelIdeal.τ Cert.AdamcKernelIdeal.sig) → Buf (Elt Ideal) ℓ) (g : Dev Cert.AdamcKernelIdeal.nD → PrngReg)
    (m' : (ℓ : Loc Cert.AdamcReferenceIdeal.nD Cert.AdamcReferenceIdeal.τ Cert.AdamcReferenceIdeal.sig) → Buf (Elt Ideal) ℓ) (g' : Dev Cert.AdamcReferenceIdeal.nD → PrngReg), Pre_AdamcKernelIdeal m →
    (∀ c : Dev Cert.AdamcKernelIdeal.nD,
      m' ((c.tc : Thread Cert.AdamcReferenceIdeal.nD Cert.AdamcReferenceIdeal.τ).loc Cert.AdamcReferenceIdeal.main_arg0) = m ((c.tc : Thread Cert.AdamcKernelIdeal.nD Cert.AdamcKernelIdeal.τ).loc Cert.AdamcKernelIdeal.main_arg0)
      ∧ m' ((c.tc : Thread Cert.AdamcReferenceIdeal.nD Cert.AdamcReferenceIdeal.τ).loc Cert.AdamcReferenceIdeal.main_arg1) = m ((c.tc : Thread Cert.AdamcKernelIdeal.nD Cert.AdamcKernelIdeal.τ).loc Cert.AdamcKernelIdeal.main_arg1)
      ∧ m' ((c.tc : Thread Cert.AdamcReferenceIdeal.nD Cert.AdamcReferenceIdeal.τ).loc Cert.AdamcReferenceIdeal.main_arg2) = m ((c.tc : Thread Cert.AdamcKernelIdeal.nD Cert.AdamcKernelIdeal.τ).loc Cert.AdamcKernelIdeal.main_arg2)
      ∧ m' ((c.tc : Thread Cert.AdamcReferenceIdeal.nD Cert.AdamcReferenceIdeal.τ).loc Cert.AdamcReferenceIdeal.main_arg3) = m ((c.tc : Thread Cert.AdamcKernelIdeal.nD Cert.AdamcKernelIdeal.τ).loc Cert.AdamcKernelIdeal.main_arg3)) →
    ∃ (v0 : (c : Dev Cert.AdamcKernelIdeal.nD) → Buf (Elt Ideal) ((c.tc : Thread Cert.AdamcKernelIdeal.nD Cert.AdamcKernelIdeal.τ).loc Cert.AdamcKernelIdeal.main_v4_0)) (v1 : (c : Dev Cert.AdamcKernelIdeal.nD) → Buf (Elt Ideal) ((c.tc : Thread Cert.AdamcKernelIdeal.nD Cert.AdamcKernelIdeal.τ).loc Cert.AdamcKernelIdeal.main_v4_1)) (v2 : (c : Dev Cert.AdamcKernelIdeal.nD) → Buf (Elt Ideal) ((c.tc : Thread Cert.AdamcKernelIdeal.nD Cert.AdamcKernelIdeal.τ).loc Cert.AdamcKernelIdeal.main_v4_2)),
      θ_run (Cert.AdamcKernelIdeal.defs (F := Ideal)) (onTc (τ := Cert.AdamcKernelIdeal.τ) (Cert.AdamcKernelIdeal.main (F := Ideal))) ⟨m, fun _ => 0, g⟩ (fun r => ∀ c : Dev Cert.AdamcKernelIdeal.nD,
          r.2.mem ((c.tc : Thread Cert.AdamcKernelIdeal.nD Cert.AdamcKernelIdeal.τ).loc Cert.AdamcKernelIdeal.main_v4_0) = v0 c
          ∧ r.2.mem ((c.tc : Thread Cert.AdamcKernelIdeal.nD Cert.AdamcKernelIdeal.τ).loc Cert.AdamcKernelIdeal.main_v4_1) = v1 c
          ∧ r.2.mem ((c.tc : Thread Cert.AdamcKernelIdeal.nD Cert.AdamcKernelIdeal.τ).loc Cert.AdamcKernelIdeal.main_v4_2) = v2 c
          ∧ r.2.mem ((c.tc : Thread Cert.AdamcKernelIdeal.nD Cert.AdamcKernelIdeal.τ).loc Cert.AdamcKernelIdeal.main_arg0) = m ((c.tc : Thread Cert.AdamcKernelIdeal.nD Cert.AdamcKernelIdeal.τ).loc Cert.AdamcKernelIdeal.main_arg0)
          ∧ r.2.mem ((c.tc : Thread Cert.AdamcKernelIdeal.nD Cert.AdamcKernelIdeal.τ).loc Cert.AdamcKernelIdeal.main_arg1) = m ((c.tc : Thread Cert.AdamcKernelIdeal.nD Cert.AdamcKernelIdeal.τ).loc Cert.AdamcKernelIdeal.main_arg1)
          ∧ r.2.mem ((c.tc : Thread Cert.AdamcKernelIdeal.nD Cert.AdamcKernelIdeal.τ).loc Cert.AdamcKernelIdeal.main_arg2) = m ((c.tc : Thread Cert.AdamcKernelIdeal.nD Cert.AdamcKernelIdeal.τ).loc Cert.AdamcKernelIdeal.main_arg2)
          ∧ r.2.mem ((c.tc : Thread Cert.AdamcKernelIdeal.nD Cert.AdamcKernelIdeal.τ).loc Cert.AdamcKernelIdeal.main_arg3) = m ((c.tc : Thread Cert.AdamcKernelIdeal.nD Cert.AdamcKernelIdeal.τ).loc Cert.AdamcKernelIdeal.main_arg3))
      ∧ θ_run (Cert.AdamcReferenceIdeal.defs (F := Ideal)) (onTc (τ := Cert.AdamcReferenceIdeal.τ) (Cert.AdamcReferenceIdeal.main (F := Ideal))) ⟨m', fun _ => 0, g'⟩ (fun r => ∀ c : Dev Cert.AdamcReferenceIdeal.nD,
          r.2.mem ((c.tc : Thread Cert.AdamcReferenceIdeal.nD Cert.AdamcReferenceIdeal.τ).loc Cert.AdamcReferenceIdeal.main_v24) = v0 c
          ∧ r.2.mem ((c.tc : Thread Cert.AdamcReferenceIdeal.nD Cert.AdamcReferenceIdeal.τ).loc Cert.AdamcReferenceIdeal.main_v25) = v1 c
          ∧ r.2.mem ((c.tc : Thread Cert.AdamcReferenceIdeal.nD Cert.AdamcReferenceIdeal.τ).loc Cert.AdamcReferenceIdeal.main_v26) = v2 c
          ∧ r.2.mem ((c.tc : Thread Cert.AdamcReferenceIdeal.nD Cert.AdamcReferenceIdeal.τ).loc Cert.AdamcReferenceIdeal.main_arg0) = m' ((c.tc : Thread Cert.AdamcReferenceIdeal.nD Cert.AdamcReferenceIdeal.τ).loc Cert.AdamcReferenceIdeal.main_arg0)
          ∧ r.2.mem ((c.tc : Thread Cert.AdamcReferenceIdeal.nD Cert.AdamcReferenceIdeal.τ).loc Cert.AdamcReferenceIdeal.main_arg1) = m' ((c.tc : Thread Cert.AdamcReferenceIdeal.nD Cert.AdamcReferenceIdeal.τ).loc Cert.AdamcReferenceIdeal.main_arg1)
          ∧ r.2.mem ((c.tc : Thread Cert.AdamcReferenceIdeal.nD Cert.AdamcReferenceIdeal.τ).loc Cert.AdamcReferenceIdeal.main_arg2) = m' ((c.tc : Thread Cert.AdamcReferenceIdeal.nD Cert.AdamcReferenceIdeal.τ).loc Cert.AdamcReferenceIdeal.main_arg2)
          ∧ r.2.mem ((c.tc : Thread Cert.AdamcReferenceIdeal.nD Cert.AdamcReferenceIdeal.τ).loc Cert.AdamcReferenceIdeal.main_arg3) = m' ((c.tc : Thread Cert.AdamcReferenceIdeal.nD Cert.AdamcReferenceIdeal.τ).loc Cert.AdamcReferenceIdeal.main_arg3))

def preserves_AdamgKernel_AdamgKernelIdeal : Prop :=
  True

def algebraic_AdamgKernelIdeal_AdamgReferenceIdeal [hAdamgKernelIdeal : Cert.AdamgKernelIdeal.Facts] [hAdamgReferenceIdeal : Cert.AdamgReferenceIdeal.Facts] : Prop :=
  ∀ (m : (ℓ : Loc Cert.AdamgKernelIdeal.nD Cert.AdamgKernelIdeal.τ Cert.AdamgKernelIdeal.sig) → Buf (Elt Ideal) ℓ) (g : Dev Cert.AdamgKernelIdeal.nD → PrngReg)
    (m' : (ℓ : Loc Cert.AdamgReferenceIdeal.nD Cert.AdamgReferenceIdeal.τ Cert.AdamgReferenceIdeal.sig) → Buf (Elt Ideal) ℓ) (g' : Dev Cert.AdamgReferenceIdeal.nD → PrngReg), Pre_AdamgKernelIdeal m →
    (∀ c : Dev Cert.AdamgKernelIdeal.nD,
      m' ((c.tc : Thread Cert.AdamgReferenceIdeal.nD Cert.AdamgReferenceIdeal.τ).loc Cert.AdamgReferenceIdeal.main_arg0) = m ((c.tc : Thread Cert.AdamgKernelIdeal.nD Cert.AdamgKernelIdeal.τ).loc Cert.AdamgKernelIdeal.main_arg0)
      ∧ m' ((c.tc : Thread Cert.AdamgReferenceIdeal.nD Cert.AdamgReferenceIdeal.τ).loc Cert.AdamgReferenceIdeal.main_arg1) = m ((c.tc : Thread Cert.AdamgKernelIdeal.nD Cert.AdamgKernelIdeal.τ).loc Cert.AdamgKernelIdeal.main_arg1)
      ∧ m' ((c.tc : Thread Cert.AdamgReferenceIdeal.nD Cert.AdamgReferenceIdeal.τ).loc Cert.AdamgReferenceIdeal.main_arg2) = m ((c.tc : Thread Cert.AdamgKernelIdeal.nD Cert.AdamgKernelIdeal.τ).loc Cert.AdamgKernelIdeal.main_arg2)
      ∧ m' ((c.tc : Thread Cert.AdamgReferenceIdeal.nD Cert.AdamgReferenceIdeal.τ).loc Cert.AdamgReferenceIdeal.main_arg3) = m ((c.tc : Thread Cert.AdamgKernelIdeal.nD Cert.AdamgKernelIdeal.τ).loc Cert.AdamgKernelIdeal.main_arg3)) →
    ∃ (v0 : (c : Dev Cert.AdamgKernelIdeal.nD) → Buf (Elt Ideal) ((c.tc : Thread Cert.AdamgKernelIdeal.nD Cert.AdamgKernelIdeal.τ).loc Cert.AdamgKernelIdeal.main_v0_0)) (v1 : (c : Dev Cert.AdamgKernelIdeal.nD) → Buf (Elt Ideal) ((c.tc : Thread Cert.AdamgKernelIdeal.nD Cert.AdamgKernelIdeal.τ).loc Cert.AdamgKernelIdeal.main_v0_1)) (v2 : (c : Dev Cert.AdamgKernelIdeal.nD) → Buf (Elt Ideal) ((c.tc : Thread Cert.AdamgKernelIdeal.nD Cert.AdamgKernelIdeal.τ).loc Cert.AdamgKernelIdeal.main_v0_2)),
      θ_run (Cert.AdamgKernelIdeal.defs (F := Ideal)) (onTc (τ := Cert.AdamgKernelIdeal.τ) (Cert.AdamgKernelIdeal.main (F := Ideal))) ⟨m, fun _ => 0, g⟩ (fun r => ∀ c : Dev Cert.AdamgKernelIdeal.nD,
          r.2.mem ((c.tc : Thread Cert.AdamgKernelIdeal.nD Cert.AdamgKernelIdeal.τ).loc Cert.AdamgKernelIdeal.main_v0_0) = v0 c
          ∧ r.2.mem ((c.tc : Thread Cert.AdamgKernelIdeal.nD Cert.AdamgKernelIdeal.τ).loc Cert.AdamgKernelIdeal.main_v0_1) = v1 c
          ∧ r.2.mem ((c.tc : Thread Cert.AdamgKernelIdeal.nD Cert.AdamgKernelIdeal.τ).loc Cert.AdamgKernelIdeal.main_v0_2) = v2 c
          ∧ r.2.mem ((c.tc : Thread Cert.AdamgKernelIdeal.nD Cert.AdamgKernelIdeal.τ).loc Cert.AdamgKernelIdeal.main_arg0) = m ((c.tc : Thread Cert.AdamgKernelIdeal.nD Cert.AdamgKernelIdeal.τ).loc Cert.AdamgKernelIdeal.main_arg0)
          ∧ r.2.mem ((c.tc : Thread Cert.AdamgKernelIdeal.nD Cert.AdamgKernelIdeal.τ).loc Cert.AdamgKernelIdeal.main_arg1) = m ((c.tc : Thread Cert.AdamgKernelIdeal.nD Cert.AdamgKernelIdeal.τ).loc Cert.AdamgKernelIdeal.main_arg1)
          ∧ r.2.mem ((c.tc : Thread Cert.AdamgKernelIdeal.nD Cert.AdamgKernelIdeal.τ).loc Cert.AdamgKernelIdeal.main_arg2) = m ((c.tc : Thread Cert.AdamgKernelIdeal.nD Cert.AdamgKernelIdeal.τ).loc Cert.AdamgKernelIdeal.main_arg2)
          ∧ r.2.mem ((c.tc : Thread Cert.AdamgKernelIdeal.nD Cert.AdamgKernelIdeal.τ).loc Cert.AdamgKernelIdeal.main_arg3) = m ((c.tc : Thread Cert.AdamgKernelIdeal.nD Cert.AdamgKernelIdeal.τ).loc Cert.AdamgKernelIdeal.main_arg3))
      ∧ θ_run (Cert.AdamgReferenceIdeal.defs (F := Ideal)) (onTc (τ := Cert.AdamgReferenceIdeal.τ) (Cert.AdamgReferenceIdeal.main (F := Ideal))) ⟨m', fun _ => 0, g'⟩ (fun r => ∀ c : Dev Cert.AdamgReferenceIdeal.nD,
          r.2.mem ((c.tc : Thread Cert.AdamgReferenceIdeal.nD Cert.AdamgReferenceIdeal.τ).loc Cert.AdamgReferenceIdeal.main_v23) = v0 c
          ∧ r.2.mem ((c.tc : Thread Cert.AdamgReferenceIdeal.nD Cert.AdamgReferenceIdeal.τ).loc Cert.AdamgReferenceIdeal.main_v4) = v1 c
          ∧ r.2.mem ((c.tc : Thread Cert.AdamgReferenceIdeal.nD Cert.AdamgReferenceIdeal.τ).loc Cert.AdamgReferenceIdeal.main_v10) = v2 c
          ∧ r.2.mem ((c.tc : Thread Cert.AdamgReferenceIdeal.nD Cert.AdamgReferenceIdeal.τ).loc Cert.AdamgReferenceIdeal.main_arg0) = m' ((c.tc : Thread Cert.AdamgReferenceIdeal.nD Cert.AdamgReferenceIdeal.τ).loc Cert.AdamgReferenceIdeal.main_arg0)
          ∧ r.2.mem ((c.tc : Thread Cert.AdamgReferenceIdeal.nD Cert.AdamgReferenceIdeal.τ).loc Cert.AdamgReferenceIdeal.main_arg1) = m' ((c.tc : Thread Cert.AdamgReferenceIdeal.nD Cert.AdamgReferenceIdeal.τ).loc Cert.AdamgReferenceIdeal.main_arg1)
          ∧ r.2.mem ((c.tc : Thread Cert.AdamgReferenceIdeal.nD Cert.AdamgReferenceIdeal.τ).loc Cert.AdamgReferenceIdeal.main_arg2) = m' ((c.tc : Thread Cert.AdamgReferenceIdeal.nD Cert.AdamgReferenceIdeal.τ).loc Cert.AdamgReferenceIdeal.main_arg2)
          ∧ r.2.mem ((c.tc : Thread Cert.AdamgReferenceIdeal.nD Cert.AdamgReferenceIdeal.τ).loc Cert.AdamgReferenceIdeal.main_arg3) = m' ((c.tc : Thread Cert.AdamgReferenceIdeal.nD Cert.AdamgReferenceIdeal.τ).loc Cert.AdamgReferenceIdeal.main_arg3))

def preserves_AdamlKernel_AdamlKernelIdeal : Prop :=
  True

def algebraic_AdamlKernelIdeal_AdamlReferenceIdeal [hAdamlKernelIdeal : Cert.AdamlKernelIdeal.Facts] [hAdamlReferenceIdeal : Cert.AdamlReferenceIdeal.Facts] : Prop :=
  ∀ (m : (ℓ : Loc Cert.AdamlKernelIdeal.nD Cert.AdamlKernelIdeal.τ Cert.AdamlKernelIdeal.sig) → Buf (Elt Ideal) ℓ) (g : Dev Cert.AdamlKernelIdeal.nD → PrngReg)
    (m' : (ℓ : Loc Cert.AdamlReferenceIdeal.nD Cert.AdamlReferenceIdeal.τ Cert.AdamlReferenceIdeal.sig) → Buf (Elt Ideal) ℓ) (g' : Dev Cert.AdamlReferenceIdeal.nD → PrngReg), Pre_AdamlKernelIdeal m →
    (∀ c : Dev Cert.AdamlKernelIdeal.nD,
      m' ((c.tc : Thread Cert.AdamlReferenceIdeal.nD Cert.AdamlReferenceIdeal.τ).loc Cert.AdamlReferenceIdeal.main_arg0) = m ((c.tc : Thread Cert.AdamlKernelIdeal.nD Cert.AdamlKernelIdeal.τ).loc Cert.AdamlKernelIdeal.main_arg0)
      ∧ m' ((c.tc : Thread Cert.AdamlReferenceIdeal.nD Cert.AdamlReferenceIdeal.τ).loc Cert.AdamlReferenceIdeal.main_arg1) = m ((c.tc : Thread Cert.AdamlKernelIdeal.nD Cert.AdamlKernelIdeal.τ).loc Cert.AdamlKernelIdeal.main_arg1)
      ∧ m' ((c.tc : Thread Cert.AdamlReferenceIdeal.nD Cert.AdamlReferenceIdeal.τ).loc Cert.AdamlReferenceIdeal.main_arg2) = m ((c.tc : Thread Cert.AdamlKernelIdeal.nD Cert.AdamlKernelIdeal.τ).loc Cert.AdamlKernelIdeal.main_arg2)
      ∧ m' ((c.tc : Thread Cert.AdamlReferenceIdeal.nD Cert.AdamlReferenceIdeal.τ).loc Cert.AdamlReferenceIdeal.main_arg3) = m ((c.tc : Thread Cert.AdamlKernelIdeal.nD Cert.AdamlKernelIdeal.τ).loc Cert.AdamlKernelIdeal.main_arg3)) →
    ∃ (v0 : (c : Dev Cert.AdamlKernelIdeal.nD) → Buf (Elt Ideal) ((c.tc : Thread Cert.AdamlKernelIdeal.nD Cert.AdamlKernelIdeal.τ).loc Cert.AdamlKernelIdeal.main_v0_0)) (v1 : (c : Dev Cert.AdamlKernelIdeal.nD) → Buf (Elt Ideal) ((c.tc : Thread Cert.AdamlKernelIdeal.nD Cert.AdamlKernelIdeal.τ).loc Cert.AdamlKernelIdeal.main_v0_1)) (v2 : (c : Dev Cert.AdamlKernelIdeal.nD) → Buf (Elt Ideal) ((c.tc : Thread Cert.AdamlKernelIdeal.nD Cert.AdamlKernelIdeal.τ).loc Cert.AdamlKernelIdeal.main_v0_2)),
      θ_run (Cert.AdamlKernelIdeal.defs (F := Ideal)) (onTc (τ := Cert.AdamlKernelIdeal.τ) (Cert.AdamlKernelIdeal.main (F := Ideal))) ⟨m, fun _ => 0, g⟩ (fun r => ∀ c : Dev Cert.AdamlKernelIdeal.nD,
          r.2.mem ((c.tc : Thread Cert.AdamlKernelIdeal.nD Cert.AdamlKernelIdeal.τ).loc Cert.AdamlKernelIdeal.main_v0_0) = v0 c
          ∧ r.2.mem ((c.tc : Thread Cert.AdamlKernelIdeal.nD Cert.AdamlKernelIdeal.τ).loc Cert.AdamlKernelIdeal.main_v0_1) = v1 c
          ∧ r.2.mem ((c.tc : Thread Cert.AdamlKernelIdeal.nD Cert.AdamlKernelIdeal.τ).loc Cert.AdamlKernelIdeal.main_v0_2) = v2 c
          ∧ r.2.mem ((c.tc : Thread Cert.AdamlKernelIdeal.nD Cert.AdamlKernelIdeal.τ).loc Cert.AdamlKernelIdeal.main_arg0) = m ((c.tc : Thread Cert.AdamlKernelIdeal.nD Cert.AdamlKernelIdeal.τ).loc Cert.AdamlKernelIdeal.main_arg0)
          ∧ r.2.mem ((c.tc : Thread Cert.AdamlKernelIdeal.nD Cert.AdamlKernelIdeal.τ).loc Cert.AdamlKernelIdeal.main_arg1) = m ((c.tc : Thread Cert.AdamlKernelIdeal.nD Cert.AdamlKernelIdeal.τ).loc Cert.AdamlKernelIdeal.main_arg1)
          ∧ r.2.mem ((c.tc : Thread Cert.AdamlKernelIdeal.nD Cert.AdamlKernelIdeal.τ).loc Cert.AdamlKernelIdeal.main_arg2) = m ((c.tc : Thread Cert.AdamlKernelIdeal.nD Cert.AdamlKernelIdeal.τ).loc Cert.AdamlKernelIdeal.main_arg2)
          ∧ r.2.mem ((c.tc : Thread Cert.AdamlKernelIdeal.nD Cert.AdamlKernelIdeal.τ).loc Cert.AdamlKernelIdeal.main_arg3) = m ((c.tc : Thread Cert.AdamlKernelIdeal.nD Cert.AdamlKernelIdeal.τ).loc Cert.AdamlKernelIdeal.main_arg3))
      ∧ θ_run (Cert.AdamlReferenceIdeal.defs (F := Ideal)) (onTc (τ := Cert.AdamlReferenceIdeal.τ) (Cert.AdamlReferenceIdeal.main (F := Ideal))) ⟨m', fun _ => 0, g'⟩ (fun r => ∀ c : Dev Cert.AdamlReferenceIdeal.nD,
          r.2.mem ((c.tc : Thread Cert.AdamlReferenceIdeal.nD Cert.AdamlReferenceIdeal.τ).loc Cert.AdamlReferenceIdeal.main_v23) = v0 c
          ∧ r.2.mem ((c.tc : Thread Cert.AdamlReferenceIdeal.nD Cert.AdamlReferenceIdeal.τ).loc Cert.AdamlReferenceIdeal.main_v4) = v1 c
          ∧ r.2.mem ((c.tc : Thread Cert.AdamlReferenceIdeal.nD Cert.AdamlReferenceIdeal.τ).loc Cert.AdamlReferenceIdeal.main_v10) = v2 c
          ∧ r.2.mem ((c.tc : Thread Cert.AdamlReferenceIdeal.nD Cert.AdamlReferenceIdeal.τ).loc Cert.AdamlReferenceIdeal.main_arg0) = m' ((c.tc : Thread Cert.AdamlReferenceIdeal.nD Cert.AdamlReferenceIdeal.τ).loc Cert.AdamlReferenceIdeal.main_arg0)
          ∧ r.2.mem ((c.tc : Thread Cert.AdamlReferenceIdeal.nD Cert.AdamlReferenceIdeal.τ).loc Cert.AdamlReferenceIdeal.main_arg1) = m' ((c.tc : Thread Cert.AdamlReferenceIdeal.nD Cert.AdamlReferenceIdeal.τ).loc Cert.AdamlReferenceIdeal.main_arg1)
          ∧ r.2.mem ((c.tc : Thread Cert.AdamlReferenceIdeal.nD Cert.AdamlReferenceIdeal.τ).loc Cert.AdamlReferenceIdeal.main_arg2) = m' ((c.tc : Thread Cert.AdamlReferenceIdeal.nD Cert.AdamlReferenceIdeal.τ).loc Cert.AdamlReferenceIdeal.main_arg2)
          ∧ r.2.mem ((c.tc : Thread Cert.AdamlReferenceIdeal.nD Cert.AdamlReferenceIdeal.τ).loc Cert.AdamlReferenceIdeal.main_arg3) = m' ((c.tc : Thread Cert.AdamlReferenceIdeal.nD Cert.AdamlReferenceIdeal.τ).loc Cert.AdamlReferenceIdeal.main_arg3))

def preserves_AdamwKernel_AdamwKernelIdeal : Prop :=
  True

def algebraic_AdamwKernelIdeal_AdamwReferenceIdeal [hAdamwKernelIdeal : Cert.AdamwKernelIdeal.Facts] [hAdamwReferenceIdeal : Cert.AdamwReferenceIdeal.Facts] : Prop :=
  ∀ (m : (ℓ : Loc Cert.AdamwKernelIdeal.nD Cert.AdamwKernelIdeal.τ Cert.AdamwKernelIdeal.sig) → Buf (Elt Ideal) ℓ) (g : Dev Cert.AdamwKernelIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwKernelIdeal m →
    (∀ c : Dev Cert.AdamwKernelIdeal.nD,
      m' ((c.tc : Thread Cert.AdamwReferenceIdeal.nD Cert.AdamwReferenceIdeal.τ).loc Cert.AdamwReferenceIdeal.main_arg0) = m ((c.tc : Thread Cert.AdamwKernelIdeal.nD Cert.AdamwKernelIdeal.τ).loc Cert.AdamwKernelIdeal.main_arg0)
      ∧ m' ((c.tc : Thread Cert.AdamwReferenceIdeal.nD Cert.AdamwReferenceIdeal.τ).loc Cert.AdamwReferenceIdeal.main_arg1) = m ((c.tc : Thread Cert.AdamwKernelIdeal.nD Cert.AdamwKernelIdeal.τ).loc Cert.AdamwKernelIdeal.main_arg1)
      ∧ m' ((c.tc : Thread Cert.AdamwReferenceIdeal.nD Cert.AdamwReferenceIdeal.τ).loc Cert.AdamwReferenceIdeal.main_arg2) = m ((c.tc : Thread Cert.AdamwKernelIdeal.nD Cert.AdamwKernelIdeal.τ).loc Cert.AdamwKernelIdeal.main_arg2)
      ∧ m' ((c.tc : Thread Cert.AdamwReferenceIdeal.nD Cert.AdamwReferenceIdeal.τ).loc Cert.AdamwReferenceIdeal.main_arg3) = m ((c.tc : Thread Cert.AdamwKernelIdeal.nD Cert.AdamwKernelIdeal.τ).loc Cert.AdamwKernelIdeal.main_arg3)
      ∧ m' ((c.tc : Thread Cert.AdamwReferenceIdeal.nD Cert.AdamwReferenceIdeal.τ).loc Cert.AdamwReferenceIdeal.main_arg4) = m ((c.tc : Thread Cert.AdamwKernelIdeal.nD Cert.AdamwKernelIdeal.τ).loc Cert.AdamwKernelIdeal.main_arg4)
      ∧ m' ((c.tc : Thread Cert.AdamwReferenceIdeal.nD Cert.AdamwReferenceIdeal.τ).loc Cert.AdamwReferenceIdeal.main_arg5) = m ((c.tc : Thread Cert.AdamwKernelIdeal.nD Cert.AdamwKernelIdeal.τ).loc Cert.AdamwKernelIdeal.main_arg5)
      ∧ m' ((c.tc : Thread Cert.AdamwReferenceIdeal.nD Cert.AdamwReferenceIdeal.τ).loc Cert.AdamwReferenceIdeal.main_arg6) = m ((c.tc : Thread Cert.AdamwKernelIdeal.nD Cert.AdamwKernelIdeal.τ).loc Cert.AdamwKernelIdeal.main_arg6)) →
    ∃ (v0 : (c : Dev Cert.AdamwKernelIdeal.nD) → Buf (Elt Ideal) ((c.tc : Thread Cert.AdamwKernelIdeal.nD Cert.AdamwKernelIdeal.τ).loc Cert.AdamwKernelIdeal.main_v4_0)) (v1 : (c : Dev Cert.AdamwKernelIdeal.nD) → Buf (Elt Ideal) ((c.tc : Thread Cert.AdamwKernelIdeal.nD Cert.AdamwKernelIdeal.τ).loc Cert.AdamwKernelIdeal.main_v4_1)) (v2 : (c : Dev Cert.AdamwKernelIdeal.nD) → Buf (Elt Ideal) ((c.tc : Thread Cert.AdamwKernelIdeal.nD Cert.AdamwKernelIdeal.τ).loc Cert.AdamwKernelIdeal.main_v4_2)) (v3 : (c : Dev Cert.AdamwKernelIdeal.nD) → Buf (Elt Ideal) ((c.tc : Thread Cert.AdamwKernelIdeal.nD Cert.AdamwKernelIdeal.τ).loc Cert.AdamwKernelIdeal.main_v4_3)),
      θ_run (Cert.AdamwKernelIdeal.defs (F := Ideal)) (onTc (τ := Cert.AdamwKernelIdeal.τ) (Cert.AdamwKernelIdeal.main (F := Ideal))) ⟨m, fun _ => 0, g⟩ (fun r => ∀ c : Dev Cert.AdamwKernelIdeal.nD,
          r.2.mem ((c.tc : Thread Cert.AdamwKernelIdeal.nD Cert.AdamwKernelIdeal.τ).loc Cert.AdamwKernelIdeal.main_v4_0) = v0 c
          ∧ r.2.mem ((c.tc : Thread Cert.AdamwKernelIdeal.nD Cert.AdamwKernelIdeal.τ).loc Cert.AdamwKernelIdeal.main_v4_1) = v1 c
          ∧ r.2.mem ((c.tc : Thread Cert.AdamwKernelIdeal.nD Cert.AdamwKernelIdeal.τ).loc Cert.AdamwKernelIdeal.main_v4_2) = v2 c
          ∧ r.2.mem ((c.tc : Thread Cert.AdamwKernelIdeal.nD Cert.AdamwKernelIdeal.τ).loc Cert.AdamwKernelIdeal.main_v4_3) = v3 c
          ∧ r.2.mem ((c.tc : Thread Cert.AdamwKernelIdeal.nD Cert.AdamwKernelIdeal.τ).loc Cert.AdamwKernelIdeal.main_arg0) = m ((c.tc : Thread Cert.AdamwKernelIdeal.nD Cert.AdamwKernelIdeal.τ).loc Cert.AdamwKernelIdeal.main_arg0)
          ∧ r.2.mem ((c.tc : Thread Cert.AdamwKernelIdeal.nD Cert.AdamwKernelIdeal.τ).loc Cert.AdamwKernelIdeal.main_arg1) = m ((c.tc : Thread Cert.AdamwKernelIdeal.nD Cert.AdamwKernelIdeal.τ).loc Cert.AdamwKernelIdeal.main_arg1)
          ∧ r.2.mem ((c.tc : Thread Cert.AdamwKernelIdeal.nD Cert.AdamwKernelIdeal.τ).loc Cert.AdamwKernelIdeal.main_arg2) = m ((c.tc : Thread Cert.AdamwKernelIdeal.nD Cert.AdamwKernelIdeal.τ).loc Cert.AdamwKernelIdeal.main_arg2)
          ∧ r.2.mem ((c.tc : Thread Cert.AdamwKernelIdeal.nD Cert.AdamwKernelIdeal.τ).loc Cert.AdamwKernelIdeal.main_arg3) = m ((c.tc : Thread Cert.AdamwKernelIdeal.nD Cert.AdamwKernelIdeal.τ).loc Cert.AdamwKernelIdeal.main_arg3)
          ∧ r.2.mem ((c.tc : Thread Cert.AdamwKernelIdeal.nD Cert.AdamwKernelIdeal.τ).loc Cert.AdamwKernelIdeal.main_arg4) = m ((c.tc : Thread Cert.AdamwKernelIdeal.nD Cert.AdamwKernelIdeal.τ).loc Cert.AdamwKernelIdeal.main_arg4)
          ∧ r.2.mem ((c.tc : Thread Cert.AdamwKernelIdeal.nD Cert.AdamwKernelIdeal.τ).loc Cert.AdamwKernelIdeal.main_arg5) = m ((c.tc : Thread Cert.AdamwKernelIdeal.nD Cert.AdamwKernelIdeal.τ).loc Cert.AdamwKernelIdeal.main_arg5)
          ∧ r.2.mem ((c.tc : Thread Cert.AdamwKernelIdeal.nD Cert.AdamwKernelIdeal.τ).loc Cert.AdamwKernelIdeal.main_arg6) = m ((c.tc : Thread Cert.AdamwKernelIdeal.nD Cert.AdamwKernelIdeal.τ).loc Cert.AdamwKernelIdeal.main_arg6))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v8) = v0 c
          ∧ r.2.mem ((c.tc : Thread Cert.AdamwReferenceIdeal.nD Cert.AdamwReferenceIdeal.τ).loc Cert.AdamwReferenceIdeal.main_v32) = v1 c
          ∧ r.2.mem ((c.tc : Thread Cert.AdamwReferenceIdeal.nD Cert.AdamwReferenceIdeal.τ).loc Cert.AdamwReferenceIdeal.main_v13) = v2 c
          ∧ r.2.mem ((c.tc : Thread Cert.AdamwReferenceIdeal.nD Cert.AdamwReferenceIdeal.τ).loc Cert.AdamwReferenceIdeal.main_v19) = v3 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3)
          ∧ r.2.mem ((c.tc : Thread Cert.AdamwReferenceIdeal.nD Cert.AdamwReferenceIdeal.τ).loc Cert.AdamwReferenceIdeal.main_arg4) = m' ((c.tc : Thread Cert.AdamwReferenceIdeal.nD Cert.AdamwReferenceIdeal.τ).loc Cert.AdamwReferenceIdeal.main_arg4)
          ∧ r.2.mem ((c.tc : Thread Cert.AdamwReferenceIdeal.nD Cert.AdamwReferenceIdeal.τ).loc Cert.AdamwReferenceIdeal.main_arg5) = m' ((c.tc : Thread Cert.AdamwReferenceIdeal.nD Cert.AdamwReferenceIdeal.τ).loc Cert.AdamwReferenceIdeal.main_arg5)
          ∧ r.2.mem ((c.tc : Thread Cert.AdamwReferenceIdeal.nD Cert.AdamwReferenceIdeal.τ).loc Cert.AdamwReferenceIdeal.main_arg6) = m' ((c.tc : Thread Cert.AdamwReferenceIdeal.nD Cert.AdamwReferenceIdeal.τ).loc Cert.AdamwReferenceIdeal.main_arg6))

def preserves_AdamuKernel_AdamuKernelIdeal : Prop :=
  True

def algebraic_AdamuKernelIdeal_AdamuReferenceIdeal [hAdamuKernelIdeal : Cert.AdamuKernelIdeal.Facts] [hAdamuReferenceIdeal : Cert.AdamuReferenceIdeal.Facts] : Prop :=
  ∀ (m : (ℓ : Loc Cert.AdamuKernelIdeal.nD Cert.AdamuKernelIdeal.τ Cert.AdamuKernelIdeal.sig) → Buf (Elt Ideal) ℓ) (g : Dev Cert.AdamuKernelIdeal.nD → PrngReg)
    (m' : (ℓ : Loc Cert.AdamuReferenceIdeal.nD Cert.AdamuReferenceIdeal.τ Cert.AdamuReferenceIdeal.sig) → Buf (Elt Ideal) ℓ) (g' : Dev Cert.AdamuReferenceIdeal.nD → PrngReg), Pre_AdamuKernelIdeal m →
    (∀ c : Dev Cert.AdamuKernelIdeal.nD,
      m' ((c.tc : Thread Cert.AdamuReferenceIdeal.nD Cert.AdamuReferenceIdeal.τ).loc Cert.AdamuReferenceIdeal.main_arg0) = m ((c.tc : Thread Cert.AdamuKernelIdeal.nD Cert.AdamuKernelIdeal.τ).loc Cert.AdamuKernelIdeal.main_arg0)
      ∧ m' ((c.tc : Thread Cert.AdamuReferenceIdeal.nD Cert.AdamuReferenceIdeal.τ).loc Cert.AdamuReferenceIdeal.main_arg1) = m ((c.tc : Thread Cert.AdamuKernelIdeal.nD Cert.AdamuKernelIdeal.τ).loc Cert.AdamuKernelIdeal.main_arg1)
      ∧ m' ((c.tc : Thread Cert.AdamuReferenceIdeal.nD Cert.AdamuReferenceIdeal.τ).loc Cert.AdamuReferenceIdeal.main_arg2) = m ((c.tc : Thread Cert.AdamuKernelIdeal.nD Cert.AdamuKernelIdeal.τ).loc Cert.AdamuKernelIdeal.main_arg2)
      ∧ m' ((c.tc : Thread Cert.AdamuReferenceIdeal.nD Cert.AdamuReferenceIdeal.τ).loc Cert.AdamuReferenceIdeal.main_arg3) = m ((c.tc : Thread Cert.AdamuKernelIdeal.nD Cert.AdamuKernelIdeal.τ).loc Cert.AdamuKernelIdeal.main_arg3)
      ∧ m' ((c.tc : Thread Cert.AdamuReferenceIdeal.nD Cert.AdamuReferenceIdeal.τ).loc Cert.AdamuReferenceIdeal.main_arg4) = m ((c.tc : Thread Cert.AdamuKernelIdeal.nD Cert.AdamuKernelIdeal.τ).loc Cert.AdamuKernelIdeal.main_arg4)
      ∧ m' ((c.tc : Thread Cert.AdamuReferenceIdeal.nD Cert.AdamuReferenceIdeal.τ).loc Cert.AdamuReferenceIdeal.main_arg5) = m ((c.tc : Thread Cert.AdamuKernelIdeal.nD Cert.AdamuKernelIdeal.τ).loc Cert.AdamuKernelIdeal.main_arg5)
      ∧ m' ((c.tc : Thread Cert.AdamuReferenceIdeal.nD Cert.AdamuReferenceIdeal.τ).loc Cert.AdamuReferenceIdeal.main_arg6) = m ((c.tc : Thread Cert.AdamuKernelIdeal.nD Cert.AdamuKernelIdeal.τ).loc Cert.AdamuKernelIdeal.main_arg6)) →
    ∃ (v0 : (c : Dev Cert.AdamuKernelIdeal.nD) → Buf (Elt Ideal) ((c.tc : Thread Cert.AdamuKernelIdeal.nD Cert.AdamuKernelIdeal.τ).loc Cert.AdamuKernelIdeal.main_v4_0)) (v1 : (c : Dev Cert.AdamuKernelIdeal.nD) → Buf (Elt Ideal) ((c.tc : Thread Cert.AdamuKernelIdeal.nD Cert.AdamuKernelIdeal.τ).loc Cert.AdamuKernelIdeal.main_v4_1)) (v2 : (c : Dev Cert.AdamuKernelIdeal.nD) → Buf (Elt Ideal) ((c.tc : Thread Cert.AdamuKernelIdeal.nD Cert.AdamuKernelIdeal.τ).loc Cert.AdamuKernelIdeal.main_v4_2)) (v3 : (c : Dev Cert.AdamuKernelIdeal.nD) → Buf (Elt Ideal) ((c.tc : Thread Cert.AdamuKernelIdeal.nD Cert.AdamuKernelIdeal.τ).loc Cert.AdamuKernelIdeal.main_v4_3)),
      θ_run (Cert.AdamuKernelIdeal.defs (F := Ideal)) (onTc (τ := Cert.AdamuKernelIdeal.τ) (Cert.AdamuKernelIdeal.main (F := Ideal))) ⟨m, fun _ => 0, g⟩ (fun r => ∀ c : Dev Cert.AdamuKernelIdeal.nD,
          r.2.mem ((c.tc : Thread Cert.AdamuKernelIdeal.nD Cert.AdamuKernelIdeal.τ).loc Cert.AdamuKernelIdeal.main_v4_0) = v0 c
          ∧ r.2.mem ((c.tc : Thread Cert.AdamuKernelIdeal.nD Cert.AdamuKernelIdeal.τ).loc Cert.AdamuKernelIdeal.main_v4_1) = v1 c
          ∧ r.2.mem ((c.tc : Thread Cert.AdamuKernelIdeal.nD Cert.AdamuKernelIdeal.τ).loc Cert.AdamuKernelIdeal.main_v4_2) = v2 c
          ∧ r.2.mem ((c.tc : Thread Cert.AdamuKernelIdeal.nD Cert.AdamuKernelIdeal.τ).loc Cert.AdamuKernelIdeal.main_v4_3) = v3 c
          ∧ r.2.mem ((c.tc : Thread Cert.AdamuKernelIdeal.nD Cert.AdamuKernelIdeal.τ).loc Cert.AdamuKernelIdeal.main_arg0) = m ((c.tc : Thread Cert.AdamuKernelIdeal.nD Cert.AdamuKernelIdeal.τ).loc Cert.AdamuKernelIdeal.main_arg0)
          ∧ r.2.mem ((c.tc : Thread Cert.AdamuKernelIdeal.nD Cert.AdamuKernelIdeal.τ).loc Cert.AdamuKernelIdeal.main_arg1) = m ((c.tc : Thread Cert.AdamuKernelIdeal.nD Cert.AdamuKernelIdeal.τ).loc Cert.AdamuKernelIdeal.main_arg1)
          ∧ r.2.mem ((c.tc : Thread Cert.AdamuKernelIdeal.nD Cert.AdamuKernelIdeal.τ).loc Cert.AdamuKernelIdeal.main_arg2) = m ((c.tc : Thread Cert.AdamuKernelIdeal.nD Cert.AdamuKernelIdeal.τ).loc Cert.AdamuKernelIdeal.main_arg2)
          ∧ r.2.mem ((c.tc : Thread Cert.AdamuKernelIdeal.nD Cert.AdamuKernelIdeal.τ).loc Cert.AdamuKernelIdeal.main_arg3) = m ((c.tc : Thread Cert.AdamuKernelIdeal.nD Cert.AdamuKernelIdeal.τ).loc Cert.AdamuKernelIdeal.main_arg3)
          ∧ r.2.mem ((c.tc : Thread Cert.AdamuKernelIdeal.nD Cert.AdamuKernelIdeal.τ).loc Cert.AdamuKernelIdeal.main_arg4) = m ((c.tc : Thread Cert.AdamuKernelIdeal.nD Cert.AdamuKernelIdeal.τ).loc Cert.AdamuKernelIdeal.main_arg4)
          ∧ r.2.mem ((c.tc : Thread Cert.AdamuKernelIdeal.nD Cert.AdamuKernelIdeal.τ).loc Cert.AdamuKernelIdeal.main_arg5) = m ((c.tc : Thread Cert.AdamuKernelIdeal.nD Cert.AdamuKernelIdeal.τ).loc Cert.AdamuKernelIdeal.main_arg5)
          ∧ r.2.mem ((c.tc : Thread Cert.AdamuKernelIdeal.nD Cert.AdamuKernelIdeal.τ).loc Cert.AdamuKernelIdeal.main_arg6) = m ((c.tc : Thread Cert.AdamuKernelIdeal.nD Cert.AdamuKernelIdeal.τ).loc Cert.AdamuKernelIdeal.main_arg6))
      ∧ θ_run (Cert.AdamuReferenceIdeal.defs (F := Ideal)) (onTc (τ := Cert.AdamuReferenceIdeal.τ) (Cert.AdamuReferenceIdeal.main (F := Ideal))) ⟨m', fun _ => 0, g'⟩ (fun r => ∀ c : Dev Cert.AdamuReferenceIdeal.nD,
          r.2.mem ((c.tc : Thread Cert.AdamuReferenceIdeal.nD Cert.AdamuReferenceIdeal.τ).loc Cert.AdamuReferenceIdeal.main_v8) = v0 c
          ∧ r.2.mem ((c.tc : Thread Cert.AdamuReferenceIdeal.nD Cert.AdamuReferenceIdeal.τ).loc Cert.AdamuReferenceIdeal.main_v32) = v1 c
          ∧ r.2.mem ((c.tc : Thread Cert.AdamuReferenceIdeal.nD Cert.AdamuReferenceIdeal.τ).loc Cert.AdamuReferenceIdeal.main_v13) = v2 c
          ∧ r.2.mem ((c.tc : Thread Cert.AdamuReferenceIdeal.nD Cert.AdamuReferenceIdeal.τ).loc Cert.AdamuReferenceIdeal.main_v19) = v3 c
          ∧ r.2.mem ((c.tc : Thread Cert.AdamuReferenceIdeal.nD Cert.AdamuReferenceIdeal.τ).loc Cert.AdamuReferenceIdeal.main_arg0) = m' ((c.tc : Thread Cert.AdamuReferenceIdeal.nD Cert.AdamuReferenceIdeal.τ).loc Cert.AdamuReferenceIdeal.main_arg0)
          ∧ r.2.mem ((c.tc : Thread Cert.AdamuReferenceIdeal.nD Cert.AdamuReferenceIdeal.τ).loc Cert.AdamuReferenceIdeal.main_arg1) = m' ((c.tc : Thread Cert.AdamuReferenceIdeal.nD Cert.AdamuReferenceIdeal.τ).loc Cert.AdamuReferenceIdeal.main_arg1)
          ∧ r.2.mem ((c.tc : Thread Cert.AdamuReferenceIdeal.nD Cert.AdamuReferenceIdeal.τ).loc Cert.AdamuReferenceIdeal.main_arg2) = m' ((c.tc : Thread Cert.AdamuReferenceIdeal.nD Cert.AdamuReferenceIdeal.τ).loc Cert.AdamuReferenceIdeal.main_arg2)
          ∧ r.2.mem ((c.tc : Thread Cert.AdamuReferenceIdeal.nD Cert.AdamuReferenceIdeal.τ).loc Cert.AdamuReferenceIdeal.main_arg3) = m' ((c.tc : Thread Cert.AdamuReferenceIdeal.nD Cert.AdamuReferenceIdeal.τ).loc Cert.AdamuReferenceIdeal.main_arg3)
          ∧ r.2.mem ((c.tc : Thread Cert.AdamuReferenceIdeal.nD Cert.AdamuReferenceIdeal.τ).loc Cert.AdamuReferenceIdeal.main_arg4) = m' ((c.tc : Thread Cert.AdamuReferenceIdeal.nD Cert.AdamuReferenceIdeal.τ).loc Cert.AdamuReferenceIdeal.main_arg4)
          ∧ r.2.mem ((c.tc : Thread Cert.AdamuReferenceIdeal.nD Cert.AdamuReferenceIdeal.τ).loc Cert.AdamuReferenceIdeal.main_arg5) = m' ((c.tc : Thread Cert.AdamuReferenceIdeal.nD Cert.AdamuReferenceIdeal.τ).loc Cert.AdamuReferenceIdeal.main_arg5)
          ∧ r.2.mem ((c.tc : Thread Cert.AdamuReferenceIdeal.nD Cert.AdamuReferenceIdeal.τ).loc Cert.AdamuReferenceIdeal.main_arg6) = m' ((c.tc : Thread Cert.AdamuReferenceIdeal.nD Cert.AdamuReferenceIdeal.τ).loc Cert.AdamuReferenceIdeal.main_arg6))

def preserves_AdambKernel_AdambKernelIdeal : Prop :=
  True

def algebraic_AdambKernelIdeal_AdambReferenceIdeal [hAdambKernelIdeal : Cert.AdambKernelIdeal.Facts] [hAdambReferenceIdeal : Cert.AdambReferenceIdeal.Facts] : Prop :=
  ∀ (m : (ℓ : Loc Cert.AdambKernelIdeal.nD Cert.AdambKernelIdeal.τ Cert.AdambKernelIdeal.sig) → Buf (Elt Ideal) ℓ) (g : Dev Cert.AdambKernelIdeal.nD → PrngReg)
    (m' : (ℓ : Loc Cert.AdambReferenceIdeal.nD Cert.AdambReferenceIdeal.τ Cert.AdambReferenceIdeal.sig) → Buf (Elt Ideal) ℓ) (g' : Dev Cert.AdambReferenceIdeal.nD → PrngReg), Pre_AdambKernelIdeal m →
    (∀ c : Dev Cert.AdambKernelIdeal.nD,
      m' ((c.tc : Thread Cert.AdambReferenceIdeal.nD Cert.AdambReferenceIdeal.τ).loc Cert.AdambReferenceIdeal.main_arg0) = m ((c.tc : Thread Cert.AdambKernelIdeal.nD Cert.AdambKernelIdeal.τ).loc Cert.AdambKernelIdeal.main_arg0)
      ∧ m' ((c.tc : Thread Cert.AdambReferenceIdeal.nD Cert.AdambReferenceIdeal.τ).loc Cert.AdambReferenceIdeal.main_arg1) = m ((c.tc : Thread Cert.AdambKernelIdeal.nD Cert.AdambKernelIdeal.τ).loc Cert.AdambKernelIdeal.main_arg1)
      ∧ m' ((c.tc : Thread Cert.AdambReferenceIdeal.nD Cert.AdambReferenceIdeal.τ).loc Cert.AdambReferenceIdeal.main_arg2) = m ((c.tc : Thread Cert.AdambKernelIdeal.nD Cert.AdambKernelIdeal.τ).loc Cert.AdambKernelIdeal.main_arg2)
      ∧ m' ((c.tc : Thread Cert.AdambReferenceIdeal.nD Cert.AdambReferenceIdeal.τ).loc Cert.AdambReferenceIdeal.main_arg3) = m ((c.tc : Thread Cert.AdambKernelIdeal.nD Cert.AdambKernelIdeal.τ).loc Cert.AdambKernelIdeal.main_arg3)
      ∧ m' ((c.tc : Thread Cert.AdambReferenceIdeal.nD Cert.AdambReferenceIdeal.τ).loc Cert.AdambReferenceIdeal.main_arg4) = m ((c.tc : Thread Cert.AdambKernelIdeal.nD Cert.AdambKernelIdeal.τ).loc Cert.AdambKernelIdeal.main_arg4)
      ∧ m' ((c.tc : Thread Cert.AdambReferenceIdeal.nD Cert.AdambReferenceIdeal.τ).loc Cert.AdambReferenceIdeal.main_arg5) = m ((c.tc : Thread Cert.AdambKernelIdeal.nD Cert.AdambKernelIdeal.τ).loc Cert.AdambKernelIdeal.main_arg5)
      ∧ m' ((c.tc : Thread Cert.AdambReferenceIdeal.nD Cert.AdambReferenceIdeal.τ).loc Cert.AdambReferenceIdeal.main_arg6) = m ((c.tc : Thread Cert.AdambKernelIdeal.nD Cert.AdambKernelIdeal.τ).loc Cert.AdambKernelIdeal.main_arg6)) →
    ∃ (v0 : (c : Dev Cert.AdambKernelIdeal.nD) → Buf (Elt Ideal) ((c.tc : Thread Cert.AdambKernelIdeal.nD Cert.AdambKernelIdeal.τ).loc Cert.AdambKernelIdeal.main_v11_0)) (v1 : (c : Dev Cert.AdambKernelIdeal.nD) → Buf (Elt Ideal) ((c.tc : Thread Cert.AdambKernelIdeal.nD Cert.AdambKernelIdeal.τ).loc Cert.AdambKernelIdeal.main_v11_1)) (v2 : (c : Dev Cert.AdambKernelIdeal.nD) → Buf (Elt Ideal) ((c.tc : Thread Cert.AdambKernelIdeal.nD Cert.AdambKernelIdeal.τ).loc Cert.AdambKernelIdeal.main_v11_2)) (v3 : (c : Dev Cert.AdambKernelIdeal.nD) → Buf (Elt Ideal) ((c.tc : Thread Cert.AdambKernelIdeal.nD Cert.AdambKernelIdeal.τ).loc Cert.AdambKernelIdeal.main_v11_3)),
      θ_run (Cert.AdambKernelIdeal.defs (F := Ideal)) (onTc (τ := Cert.AdambKernelIdeal.τ) (Cert.AdambKernelIdeal.main (F := Ideal))) ⟨m, fun _ => 0, g⟩ (fun r => ∀ c : Dev Cert.AdambKernelIdeal.nD,
          r.2.mem ((c.tc : Thread Cert.AdambKernelIdeal.nD Cert.AdambKernelIdeal.τ).loc Cert.AdambKernelIdeal.main_v11_0) = v0 c
          ∧ r.2.mem ((c.tc : Thread Cert.AdambKernelIdeal.nD Cert.AdambKernelIdeal.τ).loc Cert.AdambKernelIdeal.main_v11_1) = v1 c
          ∧ r.2.mem ((c.tc : Thread Cert.AdambKernelIdeal.nD Cert.AdambKernelIdeal.τ).loc Cert.AdambKernelIdeal.main_v11_2) = v2 c
          ∧ r.2.mem ((c.tc : Thread Cert.AdambKernelIdeal.nD Cert.AdambKernelIdeal.τ).loc Cert.AdambKernelIdeal.main_v11_3) = v3 c
          ∧ r.2.mem ((c.tc : Thread Cert.AdambKernelIdeal.nD Cert.AdambKernelIdeal.τ).loc Cert.AdambKernelIdeal.main_arg0) = m ((c.tc : Thread Cert.AdambKernelIdeal.nD Cert.AdambKernelIdeal.τ).loc Cert.AdambKernelIdeal.main_arg0)
          ∧ r.2.mem ((c.tc : Thread Cert.AdambKernelIdeal.nD Cert.AdambKernelIdeal.τ).loc Cert.AdambKernelIdeal.main_arg1) = m ((c.tc : Thread Cert.AdambKernelIdeal.nD Cert.AdambKernelIdeal.τ).loc Cert.AdambKernelIdeal.main_arg1)
          ∧ r.2.mem ((c.tc : Thread Cert.AdambKernelIdeal.nD Cert.AdambKernelIdeal.τ).loc Cert.AdambKernelIdeal.main_arg2) = m ((c.tc : Thread Cert.AdambKernelIdeal.nD Cert.AdambKernelIdeal.τ).loc Cert.AdambKernelIdeal.main_arg2)
          ∧ r.2.mem ((c.tc : Thread Cert.AdambKernelIdeal.nD Cert.AdambKernelIdeal.τ).loc Cert.AdambKernelIdeal.main_arg3) = m ((c.tc : Thread Cert.AdambKernelIdeal.nD Cert.AdambKernelIdeal.τ).loc Cert.AdambKernelIdeal.main_arg3)
          ∧ r.2.mem ((c.tc : Thread Cert.AdambKernelIdeal.nD Cert.AdambKernelIdeal.τ).loc Cert.AdambKernelIdeal.main_arg4) = m ((c.tc : Thread Cert.AdambKernelIdeal.nD Cert.AdambKernelIdeal.τ).loc Cert.AdambKernelIdeal.main_arg4)
          ∧ r.2.mem ((c.tc : Thread Cert.AdambKernelIdeal.nD Cert.AdambKernelIdeal.τ).loc Cert.AdambKernelIdeal.main_arg5) = m ((c.tc : Thread Cert.AdambKernelIdeal.nD Cert.AdambKernelIdeal.τ).loc Cert.AdambKernelIdeal.main_arg5)
          ∧ r.2.mem ((c.tc : Thread Cert.AdambKernelIdeal.nD Cert.AdambKernelIdeal.τ).loc Cert.AdambKernelIdeal.main_arg6) = m ((c.tc : Thread Cert.AdambKernelIdeal.nD Cert.AdambKernelIdeal.τ).loc Cert.AdambKernelIdeal.main_arg6))
      ∧ θ_run (Cert.AdambReferenceIdeal.defs (F := Ideal)) (onTc (τ := Cert.AdambReferenceIdeal.τ) (Cert.AdambReferenceIdeal.main (F := Ideal))) ⟨m', fun _ => 0, g'⟩ (fun r => ∀ c : Dev Cert.AdambReferenceIdeal.nD,
          r.2.mem ((c.tc : Thread Cert.AdambReferenceIdeal.nD Cert.AdambReferenceIdeal.τ).loc Cert.AdambReferenceIdeal.main_v33) = v0 c
          ∧ r.2.mem ((c.tc : Thread Cert.AdambReferenceIdeal.nD Cert.AdambReferenceIdeal.τ).loc Cert.AdambReferenceIdeal.main_v34) = v1 c
          ∧ r.2.mem ((c.tc : Thread Cert.AdambReferenceIdeal.nD Cert.AdambReferenceIdeal.τ).loc Cert.AdambReferenceIdeal.main_v35) = v2 c
          ∧ r.2.mem ((c.tc : Thread Cert.AdambReferenceIdeal.nD Cert.AdambReferenceIdeal.τ).loc Cert.AdambReferenceIdeal.main_v36) = v3 c
          ∧ r.2.mem ((c.tc : Thread Cert.AdambReferenceIdeal.nD Cert.AdambReferenceIdeal.τ).loc Cert.AdambReferenceIdeal.main_arg0) = m' ((c.tc : Thread Cert.AdambReferenceIdeal.nD Cert.AdambReferenceIdeal.τ).loc Cert.AdambReferenceIdeal.main_arg0)
          ∧ r.2.mem ((c.tc : Thread Cert.AdambReferenceIdeal.nD Cert.AdambReferenceIdeal.τ).loc Cert.AdambReferenceIdeal.main_arg1) = m' ((c.tc : Thread Cert.AdambReferenceIdeal.nD Cert.AdambReferenceIdeal.τ).loc Cert.AdambReferenceIdeal.main_arg1)
          ∧ r.2.mem ((c.tc : Thread Cert.AdambReferenceIdeal.nD Cert.AdambReferenceIdeal.τ).loc Cert.AdambReferenceIdeal.main_arg2) = m' ((c.tc : Thread Cert.AdambReferenceIdeal.nD Cert.AdambReferenceIdeal.τ).loc Cert.AdambReferenceIdeal.main_arg2)
          ∧ r.2.mem ((c.tc : Thread Cert.AdambReferenceIdeal.nD Cert.AdambReferenceIdeal.τ).loc Cert.AdambReferenceIdeal.main_arg3) = m' ((c.tc : Thread Cert.AdambReferenceIdeal.nD Cert.AdambReferenceIdeal.τ).loc Cert.AdambReferenceIdeal.main_arg3)
          ∧ r.2.mem ((c.tc : Thread Cert.AdambReferenceIdeal.nD Cert.AdambReferenceIdeal.τ).loc Cert.AdambReferenceIdeal.main_arg4) = m' ((c.tc : Thread Cert.AdambReferenceIdeal.nD Cert.AdambReferenceIdeal.τ).loc Cert.AdambReferenceIdeal.main_arg4)
          ∧ r.2.mem ((c.tc : Thread Cert.AdambReferenceIdeal.nD Cert.AdambReferenceIdeal.τ).loc Cert.AdambReferenceIdeal.main_arg5) = m' ((c.tc : Thread Cert.AdambReferenceIdeal.nD Cert.AdambReferenceIdeal.τ).loc Cert.AdambReferenceIdeal.main_arg5)
          ∧ r.2.mem ((c.tc : Thread Cert.AdambReferenceIdeal.nD Cert.AdambReferenceIdeal.τ).loc Cert.AdambReferenceIdeal.main_arg6) = m' ((c.tc : Thread Cert.AdambReferenceIdeal.nD Cert.AdambReferenceIdeal.τ).loc Cert.AdambReferenceIdeal.main_arg6))

def preserves_SumdKernel_SumdKernelIdeal : Prop :=
  True

def algebraic_SumdKernelIdeal_SumdReferenceIdeal [hSumdKernelIdeal : Cert.SumdKernelIdeal.Facts] [hSumdReferenceIdeal : Cert.SumdReferenceIdeal.Facts] : Prop :=
  ∀ (m : (ℓ : Loc Cert.SumdKernelIdeal.nD Cert.SumdKernelIdeal.τ Cert.SumdKernelIdeal.sig) → Buf (Elt Ideal) ℓ) (g : Dev Cert.SumdKernelIdeal.nD → PrngReg)
    (m' : (ℓ : Loc Cert.SumdReferenceIdeal.nD Cert.SumdReferenceIdeal.τ Cert.SumdReferenceIdeal.sig) → Buf (Elt Ideal) ℓ) (g' : Dev Cert.SumdReferenceIdeal.nD → PrngReg), Pre_SumdKernelIdeal m →
    (∀ c : Dev Cert.SumdKernelIdeal.nD,
      m' ((c.tc : Thread Cert.SumdReferenceIdeal.nD Cert.SumdReferenceIdeal.τ).loc Cert.SumdReferenceIdeal.main_arg0) = m ((c.tc : Thread Cert.SumdKernelIdeal.nD Cert.SumdKernelIdeal.τ).loc Cert.SumdKernelIdeal.main_arg0)) →
    ∃ (v0 : (c : Dev Cert.SumdKernelIdeal.nD) → Buf (Elt Ideal) ((c.tc : Thread Cert.SumdKernelIdeal.nD Cert.SumdKernelIdeal.τ).loc Cert.SumdKernelIdeal.main_v0)),
      θ_run (Cert.SumdKernelIdeal.defs (F := Ideal)) (onTc (τ := Cert.SumdKernelIdeal.τ) (Cert.SumdKernelIdeal.main (F := Ideal))) ⟨m, fun _ => 0, g⟩ (fun r => ∀ c : Dev Cert.SumdKernelIdeal.nD,
          r.2.mem ((c.tc : Thread Cert.SumdKernelIdeal.nD Cert.SumdKernelIdeal.τ).loc Cert.SumdKernelIdeal.main_v0) = v0 c
          ∧ r.2.mem ((c.tc : Thread Cert.SumdKernelIdeal.nD Cert.SumdKernelIdeal.τ).loc Cert.SumdKernelIdeal.main_arg0) = m ((c.tc : Thread Cert.SumdKernelIdeal.nD Cert.SumdKernelIdeal.τ).loc Cert.SumdKernelIdeal.main_arg0))
      ∧ θ_run (Cert.SumdReferenceIdeal.defs (F := Ideal)) (onTc (τ := Cert.SumdReferenceIdeal.τ) (Cert.SumdReferenceIdeal.main (F := Ideal))) ⟨m', fun _ => 0, g'⟩ (fun r => ∀ c : Dev Cert.SumdReferenceIdeal.nD,
          r.2.mem ((c.tc : Thread Cert.SumdReferenceIdeal.nD Cert.SumdReferenceIdeal.τ).loc Cert.SumdReferenceIdeal.main_v0) = v0 c
          ∧ r.2.mem ((c.tc : Thread Cert.SumdReferenceIdeal.nD Cert.SumdReferenceIdeal.τ).loc Cert.SumdReferenceIdeal.main_arg0) = m' ((c.tc : Thread Cert.SumdReferenceIdeal.nD Cert.SumdReferenceIdeal.τ).loc Cert.SumdReferenceIdeal.main_arg0))

def preserves_HgrnbKernel_HgrnbKernelIdeal : Prop :=
  True

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hConvKernel : Cert.ConvKernel.Facts) (hConvKernelIdeal : Cert.ConvKernelIdeal.Facts) (hConvReferenceIdeal : Cert.ConvReferenceIdeal.Facts) (hMergeKernel : Cert.MergeKernel.Facts) (hMergeKernelIdeal : Cert.MergeKernelIdeal.Facts) (hMergeReferenceIdeal : Cert.MergeReferenceIdeal.Facts) (hLn1Kernel : Cert.Ln1Kernel.Facts) (hLn1KernelIdeal : Cert.Ln1KernelIdeal.Facts) (hLn1ReferenceIdeal : Cert.Ln1ReferenceIdeal.Facts) (hLn2Kernel : Cert.Ln2Kernel.Facts) (hLn2KernelIdeal : Cert.Ln2KernelIdeal.Facts) (hLn2ReferenceIdeal : Cert.Ln2ReferenceIdeal.Facts) (hAttnfKernel : Cert.AttnfKernel.Facts) (hAttnfKernelIdeal : Cert.AttnfKernelIdeal.Facts) (hAttnfReferenceIdeal : Cert.AttnfReferenceIdeal.Facts) (hLbKernel : Cert.LbKernel.Facts) (hLbKernelIdeal : Cert.LbKernelIdeal.Facts) (hLbReferenceIdeal : Cert.LbReferenceIdeal.Facts) (hWolnKernel : Cert.WolnKernel.Facts) (hWolnKernelIdeal : Cert.WolnKernelIdeal.Facts) (hWolnReferenceIdeal : Cert.WolnReferenceIdeal.Facts) (hDownlnKernel : Cert.DownlnKernel.Facts) (hDownlnKernelIdeal : Cert.DownlnKernelIdeal.Facts) (hDownlnReferenceIdeal : Cert.DownlnReferenceIdeal.Facts) (hUpKernel : Cert.UpKernel.Facts) (hUpKernelIdeal : Cert.UpKernelIdeal.Facts) (hUpReferenceIdeal : Cert.UpReferenceIdeal.Facts) (hMergefKernel : Cert.MergefKernel.Facts) (hMergefKernelIdeal : Cert.MergefKernelIdeal.Facts) (hMergefReferenceIdeal : Cert.MergefReferenceIdeal.Facts) (hLbfKernel : Cert.LbfKernel.Facts) (hLbfKernelIdeal : Cert.LbfKernelIdeal.Facts) (hLbfReferenceIdeal : Cert.LbfReferenceIdeal.Facts) (hInbKernel : Cert.InbKernel.Facts) (hInbKernelIdeal : Cert.InbKernelIdeal.Facts) (hInbReferenceIdeal : Cert.InbReferenceIdeal.Facts) (hGupKernel : Cert.GupKernel.Facts) (hGupKernelIdeal : Cert.GupKernelIdeal.Facts) (hGupReferenceIdeal : Cert.GupReferenceIdeal.Facts) (hMemkvKernel : Cert.MemkvKernel.Facts) (hMemkvKernelIdeal : Cert.MemkvKernelIdeal.Facts) (hMemkvReferenceIdeal : Cert.MemkvReferenceIdeal.Facts) (hAdamsKernel : Cert.AdamsKernel.Facts) (hAdamsKernelIdeal : Cert.AdamsKernelIdeal.Facts) (hAdamsReferenceIdeal : Cert.AdamsReferenceIdeal.Facts) (hAdamcKernel : Cert.AdamcKernel.Facts) (hAdamcKernelIdeal : Cert.AdamcKernelIdeal.Facts) (hAdamcReferenceIdeal : Cert.AdamcReferenceIdeal.Facts) (hAdamgKernel : Cert.AdamgKernel.Facts) (hAdamgKernelIdeal : Cert.AdamgKernelIdeal.Facts) (hAdamgReferenceIdeal : Cert.AdamgReferenceIdeal.Facts) (hAdamlKernel : Cert.AdamlKernel.Facts) (hAdamlKernelIdeal : Cert.AdamlKernelIdeal.Facts) (hAdamlReferenceIdeal : Cert.AdamlReferenceIdeal.Facts) (hAdamwKernel : Cert.AdamwKernel.Facts) (hAdamwKernelIdeal : Cert.AdamwKernelIdeal.Facts) (hAdamwReferenceIdeal : Cert.AdamwReferenceIdeal.Facts) (hAdamuKernel : Cert.AdamuKernel.Facts) (hAdamuKernelIdeal : Cert.AdamuKernelIdeal.Facts) (hAdamuReferenceIdeal : Cert.AdamuReferenceIdeal.Facts) (hAdambKernel : Cert.AdambKernel.Facts) (hAdambKernelIdeal : Cert.AdambKernelIdeal.Facts) (hAdambReferenceIdeal : Cert.AdambReferenceIdeal.Facts) (hSumdKernel : Cert.SumdKernel.Facts) (hSumdKernelIdeal : Cert.SumdKernelIdeal.Facts) (hSumdReferenceIdeal : Cert.SumdReferenceIdeal.Facts) (hHgrnbKernel : Cert.HgrnbKernel.Facts) (hHgrnbKernelIdeal : Cert.HgrnbKernelIdeal.Facts) (hPre_finite_attn : Cert.Pre_finite_attn.Facts) (hPre_finite_ln1 : Cert.Pre_finite_ln1.Facts) (hPre_finite_ln2 : Cert.Pre_finite_ln2.Facts) (hPre_finite_lb : Cert.Pre_finite_lb.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_Ln1Kernel (hLn1Kernel := hLn1Kernel)
    ∧ quiescent_Ln1KernelIdeal (hLn1KernelIdeal := hLn1KernelIdeal)
    ∧ quiescent_Ln1KernelIdeal_pre_finite_ln1 (hLn1KernelIdeal := hLn1KernelIdeal) (hPre_finite_ln1 := hPre_finite_ln1)
    ∧ quiescent_Ln1ReferenceIdeal (hLn1ReferenceIdeal := hLn1ReferenceIdeal)
    ∧ quiescent_Ln1ReferenceIdeal_pre_finite_ln1 (hLn1ReferenceIdeal := hLn1ReferenceIdeal) (hPre_finite_ln1 := hPre_finite_ln1)
    ∧ quiescent_Ln2Kernel (hLn2Kernel := hLn2Kernel)
    ∧ quiescent_Ln2KernelIdeal (hLn2KernelIdeal := hLn2KernelIdeal)
    ∧ quiescent_Ln2KernelIdeal_pre_finite_ln2 (hLn2KernelIdeal := hLn2KernelIdeal) (hPre_finite_ln2 := hPre_finite_ln2)
    ∧ quiescent_Ln2ReferenceIdeal (hLn2ReferenceIdeal := hLn2ReferenceIdeal)
    ∧ quiescent_Ln2ReferenceIdeal_pre_finite_ln2 (hLn2ReferenceIdeal := hLn2ReferenceIdeal) (hPre_finite_ln2 := hPre_finite_ln2)
    ∧ quiescent_AttnfKernel (hAttnfKernel := hAttnfKernel)
    ∧ quiescent_AttnfKernelIdeal (hAttnfKernelIdeal := hAttnfKernelIdeal)
    ∧ quiescent_AttnfReferenceIdeal (hAttnfReferenceIdeal := hAttnfReferenceIdeal)
    ∧ quiescent_LbKernel (hLbKernel := hLbKernel)
    ∧ quiescent_LbKernelIdeal (hLbKernelIdeal := hLbKernelIdeal)
    ∧ quiescent_LbKernelIdeal_pre_finite_lb (hLbKernelIdeal := hLbKernelIdeal) (hPre_finite_lb := hPre_finite_lb)
    ∧ quiescent_LbReferenceIdeal (hLbReferenceIdeal := hLbReferenceIdeal)
    ∧ quiescent_LbReferenceIdeal_pre_finite_lb (hLbReferenceIdeal := hLbReferenceIdeal) (hPre_finite_lb := hPre_finite_lb)
    ∧ quiescent_WolnKernel (hWolnKernel := hWolnKernel)
    ∧ quiescent_WolnKernelIdeal (hWolnKernelIdeal := hWolnKernelIdeal)
    ∧ quiescent_WolnReferenceIdeal (hWolnReferenceIdeal := hWolnReferenceIdeal)
    ∧ quiescent_DownlnKernel (hDownlnKernel := hDownlnKernel)
    ∧ quiescent_DownlnKernelIdeal (hDownlnKernelIdeal := hDownlnKernelIdeal)
    ∧ quiescent_DownlnReferenceIdeal (hDownlnReferenceIdeal := hDownlnReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_MergefKernel (hMergefKernel := hMergefKernel)
    ∧ quiescent_MergefKernelIdeal (hMergefKernelIdeal := hMergefKernelIdeal)
    ∧ quiescent_MergefReferenceIdeal (hMergefReferenceIdeal := hMergefReferenceIdeal)
    ∧ quiescent_LbfKernel (hLbfKernel := hLbfKernel)
    ∧ quiescent_LbfKernelIdeal (hLbfKernelIdeal := hLbfKernelIdeal)
    ∧ quiescent_LbfReferenceIdeal (hLbfReferenceIdeal := hLbfReferenceIdeal)
    ∧ quiescent_InbKernel (hInbKernel := hInbKernel)
    ∧ quiescent_InbKernelIdeal (hInbKernelIdeal := hInbKernelIdeal)
    ∧ quiescent_InbReferenceIdeal (hInbReferenceIdeal := hInbReferenceIdeal)
    ∧ quiescent_GupKernel (hGupKernel := hGupKernel)
    ∧ quiescent_GupKernelIdeal (hGupKernelIdeal := hGupKernelIdeal)
    ∧ quiescent_GupReferenceIdeal (hGupReferenceIdeal := hGupReferenceIdeal)
    ∧ quiescent_MemkvKernel (hMemkvKernel := hMemkvKernel)
    ∧ quiescent_MemkvKernelIdeal (hMemkvKernelIdeal := hMemkvKernelIdeal)
    ∧ quiescent_MemkvReferenceIdeal (hMemkvReferenceIdeal := hMemkvReferenceIdeal)
    ∧ quiescent_AdamsKernel (hAdamsKernel := hAdamsKernel)
    ∧ quiescent_AdamsKernelIdeal (hAdamsKernelIdeal := hAdamsKernelIdeal)
    ∧ quiescent_AdamsReferenceIdeal (hAdamsReferenceIdeal := hAdamsReferenceIdeal)
    ∧ quiescent_AdamcKernel (hAdamcKernel := hAdamcKernel)
    ∧ quiescent_AdamcKernelIdeal (hAdamcKernelIdeal := hAdamcKernelIdeal)
    ∧ quiescent_AdamcReferenceIdeal (hAdamcReferenceIdeal := hAdamcReferenceIdeal)
    ∧ quiescent_AdamgKernel (hAdamgKernel := hAdamgKernel)
    ∧ quiescent_AdamgKernelIdeal (hAdamgKernelIdeal := hAdamgKernelIdeal)
    ∧ quiescent_AdamgReferenceIdeal (hAdamgReferenceIdeal := hAdamgReferenceIdeal)
    ∧ quiescent_AdamlKernel (hAdamlKernel := hAdamlKernel)
    ∧ quiescent_AdamlKernelIdeal (hAdamlKernelIdeal := hAdamlKernelIdeal)
    ∧ quiescent_AdamlReferenceIdeal (hAdamlReferenceIdeal := hAdamlReferenceIdeal)
    ∧ quiescent_AdamwKernel (hAdamwKernel := hAdamwKernel)
    ∧ quiescent_AdamwKernelIdeal (hAdamwKernelIdeal := hAdamwKernelIdeal)
    ∧ quiescent_AdamwReferenceIdeal (hAdamwReferenceIdeal := hAdamwReferenceIdeal)
    ∧ quiescent_AdamuKernel (hAdamuKernel := hAdamuKernel)
    ∧ quiescent_AdamuKernelIdeal (hAdamuKernelIdeal := hAdamuKernelIdeal)
    ∧ quiescent_AdamuReferenceIdeal (hAdamuReferenceIdeal := hAdamuReferenceIdeal)
    ∧ quiescent_AdambKernel (hAdambKernel := hAdambKernel)
    ∧ quiescent_AdambKernelIdeal (hAdambKernelIdeal := hAdambKernelIdeal)
    ∧ quiescent_AdambReferenceIdeal (hAdambReferenceIdeal := hAdambReferenceIdeal)
    ∧ quiescent_SumdKernel (hSumdKernel := hSumdKernel)
    ∧ quiescent_SumdKernelIdeal (hSumdKernelIdeal := hSumdKernelIdeal)
    ∧ quiescent_SumdReferenceIdeal (hSumdReferenceIdeal := hSumdReferenceIdeal)
    ∧ quiescent_HgrnbKernel (hHgrnbKernel := hHgrnbKernel)
    ∧ quiescent_HgrnbKernelIdeal (hHgrnbKernelIdeal := hHgrnbKernelIdeal)
    ∧ preserves_LossKernel_LossKernelIdeal
    ∧ algebraic_LossKernelIdeal_LossReferenceIdeal (hLossKernelIdeal := hLossKernelIdeal) (hLossReferenceIdeal := hLossReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_ConvKernel_ConvKernelIdeal
    ∧ algebraic_ConvKernelIdeal_ConvReferenceIdeal (hConvKernelIdeal := hConvKernelIdeal) (hConvReferenceIdeal := hConvReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_Ln1Kernel_Ln1KernelIdeal
    ∧ algebraic_Ln1KernelIdeal_Ln1ReferenceIdeal_pre_finite_ln1 (hLn1KernelIdeal := hLn1KernelIdeal) (hLn1ReferenceIdeal := hLn1ReferenceIdeal) (hPre_finite_ln1 := hPre_finite_ln1)
    ∧ preserves_Ln2Kernel_Ln2KernelIdeal
    ∧ algebraic_Ln2KernelIdeal_Ln2ReferenceIdeal_pre_finite_ln2 (hLn2KernelIdeal := hLn2KernelIdeal) (hLn2ReferenceIdeal := hLn2ReferenceIdeal) (hPre_finite_ln2 := hPre_finite_ln2)
    ∧ preserves_AttnfKernel_AttnfKernelIdeal
    ∧ algebraic_AttnfKernelIdeal_AttnfReferenceIdeal (hAttnfKernelIdeal := hAttnfKernelIdeal) (hAttnfReferenceIdeal := hAttnfReferenceIdeal)
    ∧ preserves_LbKernel_LbKernelIdeal
    ∧ algebraic_LbKernelIdeal_LbReferenceIdeal_pre_finite_lb (hLbKernelIdeal := hLbKernelIdeal) (hLbReferenceIdeal := hLbReferenceIdeal) (hPre_finite_lb := hPre_finite_lb)
    ∧ preserves_WolnKernel_WolnKernelIdeal
    ∧ algebraic_WolnKernelIdeal_WolnReferenceIdeal (hWolnKernelIdeal := hWolnKernelIdeal) (hWolnReferenceIdeal := hWolnReferenceIdeal)
    ∧ preserves_DownlnKernel_DownlnKernelIdeal
    ∧ algebraic_DownlnKernelIdeal_DownlnReferenceIdeal (hDownlnKernelIdeal := hDownlnKernelIdeal) (hDownlnReferenceIdeal := hDownlnReferenceIdeal)
    ∧ preserves_UpKernel_UpKernelIdeal
    ∧ algebraic_UpKernelIdeal_UpReferenceIdeal (hUpKernelIdeal := hUpKernelIdeal) (hUpReferenceIdeal := hUpReferenceIdeal)
    ∧ preserves_MergefKernel_MergefKernelIdeal
    ∧ algebraic_MergefKernelIdeal_MergefReferenceIdeal (hMergefKernelIdeal := hMergefKernelIdeal) (hMergefReferenceIdeal := hMergefReferenceIdeal)
    ∧ preserves_LbfKernel_LbfKernelIdeal
    ∧ algebraic_LbfKernelIdeal_LbfReferenceIdeal (hLbfKernelIdeal := hLbfKernelIdeal) (hLbfReferenceIdeal := hLbfReferenceIdeal)
    ∧ preserves_InbKernel_InbKernelIdeal
    ∧ algebraic_InbKernelIdeal_InbReferenceIdeal (hInbKernelIdeal := hInbKernelIdeal) (hInbReferenceIdeal := hInbReferenceIdeal)
    ∧ preserves_GupKernel_GupKernelIdeal
    ∧ algebraic_GupKernelIdeal_GupReferenceIdeal (hGupKernelIdeal := hGupKernelIdeal) (hGupReferenceIdeal := hGupReferenceIdeal)
    ∧ preserves_MemkvKernel_MemkvKernelIdeal
    ∧ algebraic_MemkvKernelIdeal_MemkvReferenceIdeal (hMemkvKernelIdeal := hMemkvKernelIdeal) (hMemkvReferenceIdeal := hMemkvReferenceIdeal)
    ∧ preserves_AdamsKernel_AdamsKernelIdeal
    ∧ algebraic_AdamsKernelIdeal_AdamsReferenceIdeal (hAdamsKernelIdeal := hAdamsKernelIdeal) (hAdamsReferenceIdeal := hAdamsReferenceIdeal)
    ∧ preserves_AdamcKernel_AdamcKernelIdeal
    ∧ algebraic_AdamcKernelIdeal_AdamcReferenceIdeal (hAdamcKernelIdeal := hAdamcKernelIdeal) (hAdamcReferenceIdeal := hAdamcReferenceIdeal)
    ∧ preserves_AdamgKernel_AdamgKernelIdeal
    ∧ algebraic_AdamgKernelIdeal_AdamgReferenceIdeal (hAdamgKernelIdeal := hAdamgKernelIdeal) (hAdamgReferenceIdeal := hAdamgReferenceIdeal)
    ∧ preserves_AdamlKernel_AdamlKernelIdeal
    ∧ algebraic_AdamlKernelIdeal_AdamlReferenceIdeal (hAdamlKernelIdeal := hAdamlKernelIdeal) (hAdamlReferenceIdeal := hAdamlReferenceIdeal)
    ∧ preserves_AdamwKernel_AdamwKernelIdeal
    ∧ algebraic_AdamwKernelIdeal_AdamwReferenceIdeal (hAdamwKernelIdeal := hAdamwKernelIdeal) (hAdamwReferenceIdeal := hAdamwReferenceIdeal)
    ∧ preserves_AdamuKernel_AdamuKernelIdeal
    ∧ algebraic_AdamuKernelIdeal_AdamuReferenceIdeal (hAdamuKernelIdeal := hAdamuKernelIdeal) (hAdamuReferenceIdeal := hAdamuReferenceIdeal)
    ∧ preserves_AdambKernel_AdambKernelIdeal
    ∧ algebraic_AdambKernelIdeal_AdambReferenceIdeal (hAdambKernelIdeal := hAdambKernelIdeal) (hAdambReferenceIdeal := hAdambReferenceIdeal)
    ∧ preserves_SumdKernel_SumdKernelIdeal
    ∧ algebraic_SumdKernelIdeal_SumdReferenceIdeal (hSumdKernelIdeal := hSumdKernelIdeal) (hSumdReferenceIdeal := hSumdReferenceIdeal)
    ∧ preserves_HgrnbKernel_HgrnbKernelIdeal
-- ==== Pre_finite_attn.lean ====
abbrev S2x4096x1024 : Shape := ⟨3, ![2, 4096, 1024]⟩
abbrev S2x4096x7168 : Shape := ⟨3, ![2, 4096, 7168]⟩
abbrev S2x256x512 : Shape := ⟨3, ![2, 256, 512]⟩
abbrev S2x4096x512 : Shape := ⟨3, ![2, 4096, 512]⟩
abbrev S_ : Shape := ⟨0, ![]⟩

class Facts : Prop where
  slices_S2x4096x7168_S2x4096x512_0_0_3584 : S2x4096x7168.Slices ![0, 0, 3584] S2x4096x512
  bcast_S_S2x4096x512 : S_.BroadcastsInDim S2x4096x512 (![] : Fin 0 → Fin S2x4096x512.rank)
  bcast_S_S2x256x512 : S_.BroadcastsInDim S2x256x512 (![] : Fin 0 → Fin S2x256x512.rank)

variable [Facts]

def fn {F : FTy → Type} [FloatOps F] (main_arg0 : FVec F S2x4096x1024 .f32) (main_arg1 : FVec F S2x4096x7168 .f32) (main_arg2 : FVec F S2x256x512 .f32) (main_arg3 : FVec F S2x256x512 .f32) (main_arg4 : FVec F S2x4096x512 .f32) : IVec S2x4096x512 1 × IVec S2x256x512 1 × IVec S2x256x512 1 × IVec S2x4096x512 1 :=
  let main_v0 : FVec F S2x4096x512 .f32 := (extractStridedSlice S2x4096x512 ![0, 0, 3584] · slices_S2x4096x7168_S2x4096x512_0_0_3584) main_arg1
  let main_v1 : FVec F S2x4096x512 .f32 := Host.absf main_v0
  let main_cst : FVec F S_ .f32 := constant S_ .f32 0x7F800000#32
  let main_v2 : FVec F S2x4096x512 .f32 := broadcastInDim S2x4096x512 ![] bcast_S_S2x4096x512 main_cst
  let main_v3 : IVec S2x4096x512 1 := cmpf .olt main_v1 main_v2
  let main_v4 : FVec F S2x256x512 .f32 := Host.absf main_arg2
  let main_cst_0 : FVec F S_ .f32 := constant S_ .f32 0x7F800000#32
  let main_v5 : FVec F S2x256x512 .f32 := broadcastInDim S2x256x512 ![] bcast_S_S2x256x512 main_cst_0
  let main_v6 : IVec S2x256x512 1 := cmpf .olt main_v4 main_v5
  let main_v7 : FVec F S2x256x512 .f32 := Host.absf main_arg3
  let main_cst_1 : FVec F S_ .f32 := constant S_ .f32 0x7F800000#32
  let main_v8 : FVec F S2x256x512 .f32 := broadcastInDim S2x256x512 ![] bcast_S_S2x256x512 main_cst_1
  let main_v9 : IVec S2x256x512 1 := cmpf .olt main_v7 main_v8
  let main_v10 : FVec F S2x4096x512 .f32 := Host.absf main_arg4
  let main_cst_2 : FVec F S_ .f32 := constant S_ .f32 0x7F800000#32
  let main_v11 : FVec F S2x4096x512 .f32 := broadcastInDim S2x4096x512 ![] bcast_S_S2x4096x512 main_cst_2
  let main_v12 : IVec S2x4096x512 1 := cmpf .olt main_v10 main_v11
  (main_v3, main_v6, main_v9, main_v12)
-- ==== Pre_finite_lb.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 × IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  (main_v2, main_v5)
-- ==== Pre_finite_ln1.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S2x4096x1024 .f32) (main_arg2 : FVec F S1024x1024 .f32) (main_arg3 : FVec F S1024 .f32) (main_arg4 : FVec F S1024 .f32) (main_arg5 : FVec F S2x4096x1024 .f32) : IVec S2x4096x1024 1 × IVec S2x4096x1024 1 × IVec S1024x1024 1 × IVec S1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x4096x1024 .f32 := Host.absf main_arg5
  let main_cst_3 : FVec F S_ .f32 := constant S_ .f32 0x7F800000#32
  let main_v13 : FVec F S2x4096x1024 .f32 := broadcastInDim S2x4096x1024 ![] bcast_S_S2x4096x1024 main_cst_3
  let main_v14 : IVec S2x4096x1024 1 := cmpf .olt main_v12 main_v13
  (main_v2, main_v5, main_v8, main_v11, main_v14)
-- ==== Pre_finite_ln2.lean ====
abbrev S2x4096x1024 : Shape := ⟨3, ![2, 4096, 1024]⟩
abbrev S2x4096x4096 : Shape := ⟨3, ![2, 4096, 4096]⟩
abbrev S4096x1024 : Shape := ⟨2, ![4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S2x4096x4096 : S_.BroadcastsInDim S2x4096x4096 (![] : Fin 0 → Fin S2x4096x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S2x4096x4096 .f32) (main_arg2 : FVec F S4096x1024 .f32) (main_arg3 : FVec F S1024 .f32) (main_arg4 : FVec F S1024 .f32) (main_arg5 : FVec F S2x4096x1024 .f32) : IVec S2x4096x1024 1 × IVec S2x4096x4096 1 × IVec S4096x1024 1 × IVec S1024 1 × IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x4096 .f32 := Host.absf main_arg1
  let main_cst_0 : FVec F S_ .f32 := constant S_ .f32 0x7F800000#32
  let main_v4 : FVec F S2x4096x4096 .f32 := broadcastInDim S2x4096x4096 ![] bcast_S_S2x4096x4096 main_cst_0
  let main_v5 : IVec S2x4096x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x4096x1024 .f32 := Host.absf main_arg5
  let main_cst_3 : FVec F S_ .f32 := constant S_ .f32 0x7F800000#32
  let main_v13 : FVec F S2x4096x1024 .f32 := broadcastInDim S2x4096x1024 ![] bcast_S_S2x4096x1024 main_cst_3
  let main_v14 : IVec S2x4096x1024 1 := cmpf .olt main_v12 main_v13
  (main_v2, main_v5, main_v8, main_v11, main_v14)
-- ==== LossKernel.lean ====
abbrev S2x4096x1024 : Shape := ⟨3, ![2, 4096, 1024]⟩
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2x4096x1024 : Shape := ⟨3, ![2, 4096, 1024]⟩
abbrev S_ : Shape := ⟨0, ![]⟩
abbrev S2x4096 : Shape := ⟨2, ![2, 4096]⟩
abbrev S8192x1024 : Shape := ⟨2, ![8192, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S_, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S_, .f32⟩
  | .hbm, ⟨10, _⟩ => ⟨S2x4096, .f32⟩
  | .hbm, ⟨11, _⟩ => ⟨S2x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4096, .f32⟩
  | .hbm, ⟨20, _⟩ => ⟨S_, .f32⟩
  | .hbm, ⟨21, _⟩ => ⟨S2x4096, .f32⟩
  | .hbm, ⟨22, _⟩ => ⟨S2x4096, .f32⟩
  | .hbm, ⟨23, _⟩ => ⟨S2x4096x1024, .f32⟩
  | .hbm, ⟨24, _⟩ => ⟨S2x4096x1024, .f32⟩
  | .hbm, ⟨25, _⟩ => ⟨S8192x1024, .f32⟩
  | .hbm, ⟨26, _⟩ => ⟨S8x128, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== AttnKernel.lean ====
abbrev S2x4096x1024 : Shape := ⟨3, ![2, 4096, 1024]⟩
abbrev S2x4096x7168 : Shape := ⟨3, ![2, 4096, 7168]⟩
abbrev S2x256x512 : Shape := ⟨3, ![2, 256, 512]⟩
abbrev S2x4096x512 : Shape := ⟨3, ![2, 4096, 512]⟩
abbrev S8192x7168 : Shape := ⟨2, ![8192, 7168]⟩
abbrev S512x512 : Shape := ⟨2, ![512, 512]⟩
abbrev S8192x512 : Shape := ⟨2, ![8192, 512]⟩
abbrev S8192x1024 : Shape := ⟨2, ![8192, 1024]⟩
abbrev S1024x512 : Shape := ⟨2, ![1024, 512]⟩
abbrev S256x512 : Shape := ⟨2, ![256, 512]⟩
abbrev S1024x1024 : Shape := ⟨2, ![1024, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x7168, .f32⟩
  | .hbm, ⟨2, _⟩ => ⟨S2x256x512, .f32⟩
  | .hbm, ⟨3, _⟩ => ⟨S2x256x512, .f32⟩
  | .hbm, ⟨4, _⟩ => ⟨S2x4096x512, .f32⟩
  | .hbm, ⟨5, _⟩ => ⟨S2x4096x7168, .bf16⟩
  | .hbm, ⟨6, _⟩ => ⟨S8192x7168, .bf16⟩
  | .hbm, ⟨7, _⟩ => ⟨S2x256x512, .bf16⟩
  | .hbm, ⟨8, _⟩ => ⟨S512x512, .bf16⟩
  | .hbm, ⟨9, _⟩ => ⟨S2x256x512, .bf16⟩
  | .hbm, ⟨10, _⟩ => ⟨S512x512, .bf16⟩
  | .hbm, ⟨11, _⟩ => ⟨S2x4096x512, .bf16⟩
  | .hbm, ⟨12, _⟩ => ⟨S8192x512, .bf16⟩
  | .hbm, ⟨13, _⟩ => ⟨S2x4096x1024, .bf16⟩
  | .hbm, ⟨14, _⟩ => ⟨S8192x1024, .bf16⟩
  | .hbm, ⟨15, _⟩ => ⟨S8192x512, .bf16⟩
  | .hbm, ⟨16, _⟩ => ⟨S512x512, .f32⟩
  | .hbm, ⟨17, _⟩ => ⟨S512x512, .f32⟩
  | .hbm, ⟨18, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1024x512, .bf16⟩
  | .local _ .vmem, ⟨17, _⟩ => ⟨S1024x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v173 : BitVec 1 := Scalar.cmpi .eq arg0 c7_i32
  let v174 : BitVec 32 := Scalar.extui v173
  let c0_i32_91 : BitVec 32 := 0#32
  let v175 : BitVec 1 := Scalar.cmpi .ne v174 c0_i32_91
  v175

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnReferenceIdeal.lean ====
abbrev S2x4096x1024 : Shape := ⟨3, ![2, 4096, 1024]⟩
abbrev S2x4096x7168 : Shape := ⟨3, ![2, 4096, 7168]⟩
abbrev S2x256x512 : Shape := ⟨3, ![2, 256, 512]⟩
abbrev S2x4096x512 : Shape := ⟨3, ![2, 4096, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S2x4x128x256 : Shape := ⟨4, ![2, 4, 128, 256]⟩
abbrev S2x4x256x128 : Shape := ⟨4, ![2, 4, 256, 128]⟩
abbrev S2x4x4096x128 : Shape := ⟨4, ![2, 4, 4096, 128]⟩
abbrev S1024x512 : Shape := ⟨2, ![1024, 512]⟩
abbrev S512x1024 : Shape := ⟨2, ![512, 1024]⟩
abbrev S8192x512 : Shape := ⟨2, ![8192, 512]⟩
abbrev S512x512 : Shape := ⟨2, ![512, 512]⟩

abbrev nBuf : Space → Nat
  | .hbm => 93
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x7168, .f32⟩
  | .hbm, ⟨2, _⟩ => ⟨S2x256x512, .f32⟩
  | .hbm, ⟨3, _⟩ => ⟨S2x256x512, .f32⟩
  | .hbm, ⟨4, _⟩ => ⟨S2x4096x512, .f32⟩
  | .hbm, ⟨5, _⟩ => ⟨S2x4096x512, .f32⟩
  | .hbm, ⟨6, _⟩ => ⟨S2x4096x4x128, .f32⟩
  | .hbm, ⟨7, _⟩ => ⟨S2x256x4x128, .f32⟩
  | .hbm, ⟨8, _⟩ => ⟨S2x256x4x128, .f32⟩
  | .hbm, ⟨9, _⟩ => ⟨S2x4x4096x256, .f32⟩
  | .hbm, ⟨10, _⟩ => ⟨S_, .f32⟩
  | .hbm, ⟨11, _⟩ => ⟨S2x4x4096x256, .f32⟩
  | .hbm, ⟨12, _⟩ => ⟨S2x4x4096x256, .f32⟩
  | .hbm, ⟨13, _⟩ => ⟨S_, .f32⟩
  | .hbm, ⟨14, _⟩ => ⟨S2x4x4096, .f32⟩
  | .hbm, ⟨15, _⟩ => ⟨S2x4x4096x1, .f32⟩
  | .hbm, ⟨16, _⟩ => ⟨S2x4x4096x256, .f32⟩
  | .hbm, ⟨17, _⟩ => ⟨S2x4x4096x256, .i1⟩
  | .hbm, ⟨18, _⟩ => ⟨S2x4x4096x256, .f32⟩
  | .hbm, ⟨19, _⟩ => ⟨S_, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .f32⟩
  | .hbm, ⟨24, _⟩ => ⟨S_, .f32⟩
  | .hbm, ⟨25, _⟩ => ⟨S2x4x4096, .f32⟩
  | .hbm, ⟨26, _⟩ => ⟨S2x4x4096, .i1⟩
  | .hbm, ⟨27, _⟩ => ⟨S_, .f32⟩
  | .hbm, ⟨28, _⟩ => ⟨S2x4x4096, .f32⟩
  | .hbm, ⟨29, _⟩ => ⟨S2x4x4096, .i1⟩
  | .hbm, ⟨30, _⟩ => ⟨S_, .f32⟩
  | .hbm, ⟨31, _⟩ => ⟨S2x4x4096, .f32⟩
  | .hbm, ⟨32, _⟩ => ⟨S_, .f32⟩
  | .hbm, ⟨33, _⟩ => ⟨S2x4x4096, .f32⟩
  | .hbm, ⟨34, _⟩ => ⟨S_, .f32⟩
  | .hbm, ⟨35, _⟩ => ⟨S2x4x4096, .f32⟩
  | .hbm, ⟨36, _⟩ => ⟨S2x4x4096, .f32⟩
  | .hbm, ⟨37, _⟩ => ⟨S2x4x4096, .f32⟩
  | .hbm, ⟨38, _⟩ => ⟨S2x4x4096x1, .f32⟩
  | .hbm, ⟨39, _⟩ => ⟨S2x4x4096x256, .f32⟩
  | .hbm, ⟨40, _⟩ => ⟨S2x4x4096x256, .f32⟩
  | .hbm, ⟨41, _⟩ => ⟨S2x4x4096x256, .f32⟩
  | .hbm, ⟨42, _⟩ => ⟨S_, .f32⟩
  | .hbm, ⟨43, _⟩ => ⟨S2x4x4096, .f32⟩
  | .hbm, ⟨44, _⟩ => ⟨S2x4x4096x1, .f32⟩
  | .hbm, ⟨45, _⟩ => ⟨S2x4x4096x256, .f32⟩
  | .hbm, ⟨46, _⟩ => ⟨S2x4x4096x256, .f32⟩
  | .hbm, ⟨47, _⟩ => ⟨S2x4x4096x1, .f32⟩
  | .hbm, ⟨48, _⟩ => ⟨S_, .f32⟩
  | .hbm, ⟨49, _⟩ => ⟨S2x4x4096x1, .f32⟩
  | .hbm, ⟨50, _⟩ => ⟨S2x4x4096x1, .f32⟩
  | .hbm, ⟨51, _⟩ => ⟨S2x4x128x4096, .f32⟩
  | .hbm, ⟨52, _⟩ => ⟨S2x4096x4x128, .f32⟩
  | .hbm, ⟨53, _⟩ => ⟨S2x4096x512, .f32⟩
  | .hbm, ⟨54, _⟩ => ⟨S2x4096x4x128, .f32⟩
  | .hbm, ⟨55, _⟩ => ⟨S2x4x128x4096, .f32⟩
  | .hbm, ⟨56, _⟩ => ⟨S2x4x4096x256, .f32⟩
  | .hbm, ⟨57, _⟩ => ⟨S2x4x128x256, .f32⟩
  | .hbm, ⟨58, _⟩ => ⟨S2x256x4x128, .f32⟩
  | .hbm, ⟨59, _⟩ => ⟨S2x4x4096x256, .f32⟩
  | .hbm, ⟨60, _⟩ => ⟨S2x4x4096x256, .f32⟩
  | .hbm, ⟨61, _⟩ => ⟨S2x4x4096x256, .f32⟩
  | .hbm, ⟨62, _⟩ => ⟨S_, .f32⟩
  | .hbm, ⟨63, _⟩ => ⟨S2x4x4096, .f32⟩
  | .hbm, ⟨64, _⟩ => ⟨S2x4x4096x1, .f32⟩
  | .hbm, ⟨65, _⟩ => ⟨S2x4x4096x1, .f32⟩
  | .hbm, ⟨66, _⟩ => ⟨S2x4x4096x256, .f32⟩
  | .hbm, ⟨67, _⟩ => ⟨S2x4x4096x256, .f32⟩
  | .hbm, ⟨68, _⟩ => ⟨S_, .f32⟩
  | .hbm, ⟨69, _⟩ => ⟨S2x4x4096, .f32⟩
  | .hbm, ⟨70, _⟩ => ⟨S2x4x4096x256, .f32⟩
  | .hbm, ⟨71, _⟩ => ⟨S2x4x4096x256, .f32⟩
  | .hbm, ⟨72, _⟩ => ⟨S2x4x4096x256, .f32⟩
  | .hbm, ⟨73, _⟩ => ⟨S_, .f32⟩
  | .hbm, ⟨74, _⟩ => ⟨S2x4x4096x256, .f32⟩
  | .hbm, ⟨75, _⟩ => ⟨S2x4x4096x256, .f32⟩
  | .hbm, ⟨76, _⟩ => ⟨S2x4x256x128, .f32⟩
  | .hbm, ⟨77, _⟩ => ⟨S2x256x4x128, .f32⟩
  | .hbm, ⟨78, _⟩ => ⟨S2x4x4096x128, .f32⟩
  | .hbm, ⟨79, _⟩ => ⟨S2x4096x4x128, .f32⟩
  | .hbm, ⟨80, _⟩ => ⟨S2x256x512, .f32⟩
  | .hbm, ⟨81, _⟩ => ⟨S2x256x512, .f32⟩
  | .hbm, ⟨82, _⟩ => ⟨S2x4096x512, .f32⟩
  | .hbm, ⟨83, _⟩ => ⟨S_, .f32⟩
  | .hbm, ⟨84, _⟩ => ⟨S1024x512, .f32⟩
  | .hbm, ⟨85, _⟩ => ⟨S2x4096x512, .f32⟩
  | .hbm, ⟨86, _⟩ => ⟨S512x1024, .f32⟩
  | .hbm, ⟨87, _⟩ => ⟨S1024x512, .f32⟩
  | .hbm, ⟨88, _⟩ => ⟨S8192x512, .f32⟩
  | .hbm, ⟨89, _⟩ => ⟨S8192x512, .bf16⟩
  | .hbm, ⟨90, _⟩ => ⟨S512x512, .f32⟩
  | .hbm, ⟨91, _⟩ => ⟨S512x512, .f32⟩
  | .hbm, ⟨92, _⟩ => ⟨S1024x512, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== ConvKernel.lean ====
abbrev S2x4096x1024 : Shape := ⟨3, ![2, 4096, 1024]⟩
abbrev S2x4096x7168 : Shape := ⟨3, ![2, 4096, 7168]⟩
abbrev S3x512 : Shape := ⟨2, ![3, 512]⟩
abbrev S2x4096x512 : Shape := ⟨3, ![2, 4096, 512]⟩
abbrev S8192x7168 : Shape := ⟨2, ![8192, 7168]⟩
abbrev S8192x512 : Shape := ⟨2, ![8192, 512]⟩
abbrev S8192x1024 : Shape := ⟨2, ![8192, 1024]⟩
abbrev S8192x1536 : Shape := ⟨2, ![8192, 1536]⟩
abbrev S1024x1536 : Shape := ⟨2, ![1024, 1536]⟩
abbrev S1024x512 : Shape := ⟨2, ![1024, 512]⟩
abbrev S16x512 : Shape := ⟨2, ![16, 512]⟩
abbrev S1024x1024 : Shape := ⟨2, ![1024, 1024]⟩
abbrev S1x512 : Shape := ⟨2, ![1, 512]⟩
abbrev S512 : Shape := ⟨1, ![512]⟩

abbrev nBuf : Space → Nat
  | .hbm => 13
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S2x4096x7168, .f32⟩
  | .hbm, ⟨2, _⟩ => ⟨S3x512, .f32⟩
  | .hbm, ⟨3, _⟩ => ⟨S2x4096x512, .f32⟩
  | .hbm, ⟨4, _⟩ => ⟨S2x4096x7168, .bf16⟩
  | .hbm, ⟨5, _⟩ => ⟨S8192x7168, .bf16⟩
  | .hbm, ⟨6, _⟩ => ⟨S2x4096x512, .bf16⟩
  | .hbm, ⟨7, _⟩ => ⟨S8192x512, .bf16⟩
  | .hbm, ⟨8, _⟩ => ⟨S2x4096x1024, .bf16⟩
  | .hbm, ⟨9, _⟩ => ⟨S8192x1024, .bf16⟩
  | .hbm, ⟨10, _⟩ => ⟨S8192x1536, .bf16⟩
  | .hbm, ⟨11, _⟩ => ⟨S3x512, .f32⟩
  | .hbm, ⟨12, _⟩ => ⟨S1024x1536, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S1024x512, .bf16⟩
  | .local _ .vmem, ⟨11, _⟩ => ⟨S1024x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S3x512, .f32⟩
  | .local _ .vmem, ⟨17, _⟩ => ⟨S1024x1024, .bf16⟩
  | .local _ .vmem, ⟨18, _⟩ => ⟨S1024x1024, .bf16⟩
  | .local _ .vmem, ⟨19, _⟩ => ⟨S1024x1536, .bf16⟩
  | .local _ .vmem, ⟨20, _⟩ => ⟨S1024x1536, .bf16⟩
  | .local _ .vmem, ⟨21, _⟩ => ⟨S3x512, .f32⟩
  | .local _ .vmem, ⟨22, _⟩ => ⟨S1024x1536, .bf16⟩
  | .local _ .vmem, ⟨23, _⟩ => ⟨S1024x1536, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v161 : BitVec 1 := Scalar.cmpi .eq arg0 c7_i32
  let v162 : BitVec 32 := Scalar.extui v161
  let c0_i32_63 : BitVec 32 := 0#32
  let v163 : BitVec 1 := Scalar.cmpi .ne v162 c0_i32_63
  v163

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvReferenceIdeal.lean ====
abbrev S2x4096x1024 : Shape := ⟨3, ![2, 4096, 1024]⟩
abbrev S2x4096x7168 : Shape := ⟨3, ![2, 4096, 7168]⟩
abbrev S3x512 : Shape := ⟨2, ![3, 512]⟩
abbrev S2x4096x512 : Shape := ⟨3, ![2, 4096, 512]⟩
abbrev S_ : Shape := ⟨0, ![]⟩
abbrev S2x2x512 : Shape := ⟨3, ![2, 2, 512]⟩
abbrev S2x4098x512 : Shape := ⟨3, ![2, 4098, 512]⟩
abbrev S1x512 : Shape := ⟨2, ![1, 512]⟩
abbrev S512 : Shape := ⟨1, ![512]⟩
abbrev S1x1x512 : Shape := ⟨3, ![1, 1, 512]⟩
abbrev S2x4096x1536 : Shape := ⟨3, ![2, 4096, 1536]⟩
abbrev S1024x1536 : Shape := ⟨2, ![1024, 1536]⟩
abbrev S1536x1024 : Shape := ⟨2, ![1536, 1024]⟩
abbrev S8192x1536 : Shape := ⟨2, ![8192, 1536]⟩

abbrev nBuf : Space → Nat
  | .hbm => 92
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x7168, .f32⟩
  | .hbm, ⟨2, _⟩ => ⟨S3x512, .f32⟩
  | .hbm, ⟨3, _⟩ => ⟨S2x4096x512, .f32⟩
  | .hbm, ⟨4, _⟩ => ⟨S2x4096x512, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S_, .f32⟩
  | .hbm, ⟨9, _⟩ => ⟨S2x2x512, .f32⟩
  | .hbm, ⟨10, _⟩ => ⟨S2x4098x512, .f32⟩
  | .hbm, ⟨11, _⟩ => ⟨S_, .f32⟩
  | .hbm, ⟨12, _⟩ => ⟨S2x2x512, .f32⟩
  | .hbm, ⟨13, _⟩ => ⟨S2x4096x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S2x4096x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S2x4096x512, .f32⟩
  | .hbm, ⟨24, _⟩ => ⟨S2x4096x512, .f32⟩
  | .hbm, ⟨25, _⟩ => ⟨S2x4096x512, .f32⟩
  | .hbm, ⟨26, _⟩ => ⟨S2x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S2x4096x512, .f32⟩
  | .hbm, ⟨31, _⟩ => ⟨S2x4096x512, .f32⟩
  | .hbm, ⟨32, _⟩ => ⟨S2x4096x512, .f32⟩
  | .hbm, ⟨33, _⟩ => ⟨S2x4096x512, .f32⟩
  | .hbm, ⟨34, _⟩ => ⟨S2x4096x512, .f32⟩
  | .hbm, ⟨35, _⟩ => ⟨S2x4096x512, .f32⟩
  | .hbm, ⟨36, _⟩ => ⟨S2x4096x512, .f32⟩
  | .hbm, ⟨37, _⟩ => ⟨S_, .f32⟩
  | .hbm, ⟨38, _⟩ => ⟨S512, .f32⟩
  | .hbm, ⟨39, _⟩ => ⟨S1x1x512, .f32⟩
  | .hbm, ⟨40, _⟩ => ⟨S2x4096x512, .f32⟩
  | .hbm, ⟨41, _⟩ => ⟨S2x4096x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S_, .f32⟩
  | .hbm, ⟨48, _⟩ => ⟨S2x4098x512, .f32⟩
  | .hbm, ⟨49, _⟩ => ⟨S2x4096x512, .f32⟩
  | .hbm, ⟨50, _⟩ => ⟨S_, .f32⟩
  | .hbm, ⟨51, _⟩ => ⟨S512, .f32⟩
  | .hbm, ⟨52, _⟩ => ⟨S1x1x512, .f32⟩
  | .hbm, ⟨53, _⟩ => ⟨S2x4096x512, .f32⟩
  | .hbm, ⟨54, _⟩ => ⟨S2x4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S3x512, .f32⟩
  | .hbm, ⟨60, _⟩ => ⟨S3x512, .f32⟩
  | .hbm, ⟨61, _⟩ => ⟨S_, .f32⟩
  | .hbm, ⟨62, _⟩ => ⟨S2x4098x512, .f32⟩
  | .hbm, ⟨63, _⟩ => ⟨S2x4098x512, .f32⟩
  | .hbm, ⟨64, _⟩ => ⟨S2x4096x512, .f32⟩
  | .hbm, ⟨65, _⟩ => ⟨S_, .f32⟩
  | .hbm, ⟨66, _⟩ => ⟨S512, .f32⟩
  | .hbm, ⟨67, _⟩ => ⟨S1x1x512, .f32⟩
  | .hbm, ⟨68, _⟩ => ⟨S2x4096x512, .f32⟩
  | .hbm, ⟨69, _⟩ => ⟨S2x4096x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S_, .f32⟩
  | .hbm, ⟨77, _⟩ => ⟨S2x4098x512, .f32⟩
  | .hbm, ⟨78, _⟩ => ⟨S2x4098x512, .f32⟩
  | .hbm, ⟨79, _⟩ => ⟨S2x2x512, .f32⟩
  | .hbm, ⟨80, _⟩ => ⟨S2x4096x512, .f32⟩
  | .hbm, ⟨81, _⟩ => ⟨S2x4096x512, .f32⟩
  | .hbm, ⟨82, _⟩ => ⟨S2x4096x512, .f32⟩
  | .hbm, ⟨83, _⟩ => ⟨S2x4096x1536, .f32⟩
  | .hbm, ⟨84, _⟩ => ⟨S_, .f32⟩
  | .hbm, ⟨85, _⟩ => ⟨S1024x1536, .f32⟩
  | .hbm, ⟨86, _⟩ => ⟨S2x4096x1536, .f32⟩
  | .hbm, ⟨87, _⟩ => ⟨S1536x1024, .f32⟩
  | .hbm, ⟨88, _⟩ => ⟨S1024x1536, .f32⟩
  | .hbm, ⟨89, _⟩ => ⟨S8192x1536, .f32⟩
  | .hbm, ⟨90, _⟩ => ⟨S8192x1536, .bf16⟩
  | .hbm, ⟨91, _⟩ => ⟨S1024x1536, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== MergeKernel.lean ====
abbrev S2x4096x3072 : Shape := ⟨3, ![2, 4096, 3072]⟩
abbrev S2x4096x512 : Shape := ⟨3, ![2, 4096, 512]⟩
abbrev S3x512x1024 : Shape := ⟨3, ![3, 512, 1024]⟩
abbrev S3072 : Shape := ⟨1, ![3072]⟩
abbrev S2x4096x1024 : Shape := ⟨3, ![2, 4096, 1024]⟩
abbrev S1x512x1024 : Shape := ⟨3, ![1, 512, 1024]⟩
abbrev S512x1024 : Shape := ⟨2, ![512, 1024]⟩
abbrev S1x1x3072 : Shape := ⟨3, ![1, 1, 3072]⟩
abbrev S_ : Shape := ⟨0, ![]⟩
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x512 : Shape := ⟨2, ![512, 512]⟩
abbrev S512x3072 : Shape := ⟨2, ![512, 3072]⟩
abbrev S1x1024 : Shape := ⟨2, ![1, 1024]⟩
abbrev S1024 : Shape := ⟨1, ![1024]⟩

abbrev nBuf : Space → Nat
  | .hbm => 57
  | .vmem => 32
  | .smem => 0
  | _ => 0

abbrev bufTy : (tb : Table) → Fin (tcTables nBuf tb) → BufTy
  | .hbm, ⟨0, _⟩ => ⟨S2x4096x3072, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S3x512x1024, .f32⟩
  | .hbm, ⟨5, _⟩ => ⟨S3072, .f32⟩
  | .hbm, ⟨6, _⟩ => ⟨S2x4096x1024, .f32⟩
  | .hbm, ⟨7, _⟩ => ⟨S1x512x1024, .f32⟩
  | .hbm, ⟨8, _⟩ => ⟨S512x1024, .f32⟩
  | .hbm, ⟨9, _⟩ => ⟨S2x4096x1024, .f32⟩
  | .hbm, ⟨10, _⟩ => ⟨S1x512x1024, .f32⟩
  | .hbm, ⟨11, _⟩ => ⟨S512x1024, .f32⟩
  | .hbm, ⟨12, _⟩ => ⟨S2x4096x1024, .f32⟩
  | .hbm, ⟨13, _⟩ => ⟨S1x512x1024, .f32⟩
  | .hbm, ⟨14, _⟩ => ⟨S512x1024, .f32⟩
  | .hbm, ⟨15, _⟩ => ⟨S2x4096x1024, .f32⟩
  | .hbm, ⟨16, _⟩ => ⟨S1x1x3072, .f32⟩
  | .hbm, ⟨17, _⟩ => ⟨S2x4096x3072, .f32⟩
  | .hbm, ⟨18, _⟩ => ⟨S2x4096x3072, .f32⟩
  | .hbm, ⟨19, _⟩ => ⟨S2x4096x3072, .f32⟩
  | .hbm, ⟨20, _⟩ => ⟨S2x4096x3072, .f32⟩
  | .hbm, ⟨21, _⟩ => ⟨S_, .f32⟩
  | .hbm, ⟨22, _⟩ => ⟨S2x4096x3072, .f32⟩
  | .hbm, ⟨23, _⟩ => ⟨S2x4096x3072, .f32⟩
  | .hbm, ⟨24, _⟩ => ⟨S_, .f32⟩
  | .hbm, ⟨25, _⟩ => ⟨S2x4096x3072, .f32⟩
  | .hbm, ⟨26, _⟩ => ⟨S2x4096x3072, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .bf16⟩
  | .hbm, ⟨31, _⟩ => ⟨S8192x1024, .bf16⟩
  | .hbm, ⟨32, _⟩ => ⟨S2x4096x1024, .bf16⟩
  | .hbm, ⟨33, _⟩ => ⟨S8192x1024, .bf16⟩
  | .hbm, ⟨34, _⟩ => ⟨S2x4096x1024, .bf16⟩
  | .hbm, ⟨35, _⟩ => ⟨S8192x1024, .bf16⟩
  | .hbm, ⟨36, _⟩ => ⟨S2x4096x1024, .bf16⟩
  | .hbm, ⟨37, _⟩ => ⟨S8192x1024, .bf16⟩
  | .hbm, ⟨38, _⟩ => ⟨S2x4096x1024, .bf16⟩
  | .hbm, ⟨39, _⟩ => ⟨S8192x1024, .bf16⟩
  | .hbm, ⟨40, _⟩ => ⟨S2x4096x1024, .bf16⟩
  | .hbm, ⟨41, _⟩ => ⟨S8192x1024, .bf16⟩
  | .hbm, ⟨42, _⟩ => ⟨S2x4096x1024, .bf16⟩
  | .hbm, ⟨43, _⟩ => ⟨S8192x1024, .bf16⟩
  | .hbm, ⟨44, _⟩ => ⟨S2x4096x512, .bf16⟩
  | .hbm, ⟨45, _⟩ => ⟨S8192x512, .bf16⟩
  | .hbm, ⟨46, _⟩ => ⟨S2x4096x512, .bf16⟩
  | .hbm, ⟨47, _⟩ => ⟨S8192x512, .bf16⟩
  | .hbm, ⟨48, _⟩ => ⟨S2x4096x512, .bf16⟩
  | .hbm, ⟨49, _⟩ => ⟨S8192x512, .bf16⟩
  | .hbm, ⟨50, _⟩ => ⟨S3x512x1024, .bf16⟩
  | .hbm, ⟨51, _⟩ => ⟨S8192x3072, .bf16⟩
  | .hbm, ⟨52, _⟩ => ⟨S8192x512, .bf16⟩
  | .hbm, ⟨53, _⟩ => ⟨S8192x512, .bf16⟩
  | .hbm, ⟨54, _⟩ => ⟨S8192x512, .bf16⟩
  | .hbm, ⟨55, _⟩ => ⟨S1x3072, .f32⟩
  | .hbm, ⟨56, _⟩ => ⟨S3x512x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S3x512x1024, .bf16⟩
  | .local _ .vmem, ⟨21, _⟩ => ⟨S512x3072, .bf16⟩
  | .local _ .vmem, ⟨22, _⟩ => ⟨S512x3072, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S1x3072, .f32⟩
  | .local _ .vmem, ⟨30, _⟩ => ⟨S3x512x1024, .bf16⟩
  | .local _ .vmem, ⟨31, _⟩ => ⟨S3x512x1024, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v42_3 : Ref sig .tc := ⟨.hbm, 54, rfl⟩
abbrev main_v42_4 : Ref sig .tc := ⟨.hbm, 55, rfl⟩
abbrev main_v42_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v108 : BitVec 1 := Scalar.cmpi .eq arg0 c15_i32
  let v109 : BitVec 32 := Scalar.extui v108
  let c0_i32_78 : BitVec 32 := 0#32
  let v110 : BitVec 1 := Scalar.cmpi .ne v109 c0_i32_78
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeReferenceIdeal.lean ====
abbrev S2x4096x3072 : Shape := ⟨3, ![2, 4096, 3072]⟩
abbrev S2x4096x512 : Shape := ⟨3, ![2, 4096, 512]⟩
abbrev S3x512x1024 : Shape := ⟨3, ![3, 512, 1024]⟩
abbrev S3072 : Shape := ⟨1, ![3072]⟩
abbrev S2x4096x1024 : Shape := ⟨3, ![2, 4096, 1024]⟩
abbrev S1024 : Shape := ⟨1, ![1024]⟩
abbrev S1x1x1024 : Shape := ⟨3, ![1, 1, 1024]⟩
abbrev S_ : Shape := ⟨0, ![]⟩
abbrev S1x512x1024 : Shape := ⟨3, ![1, 512, 1024]⟩
abbrev S512x1024 : Shape := ⟨2, ![512, 1024]⟩
abbrev S1024x512 : Shape := ⟨2, ![1024, 512]⟩
abbrev S8192x3072 : Shape := ⟨2, ![8192, 3072]⟩
abbrev S8192x512 : Shape := ⟨2, ![8192, 512]⟩
abbrev S1x3072 : Shape := ⟨2, ![1, 3072]⟩

abbrev nBuf : Space → Nat
  | .hbm => 130
  | .vmem => 0
  | .smem => 0
  | _ => 0

abbrev hbmTy0_0 (i : Nat) : BufTy := match i % 128 with
  | 0 => ⟨S2x4096x3072, .f32⟩
  | 1 => ⟨S2x4096x512, .f32⟩
  | 2 => ⟨S2x4096x512, .f32⟩
  | 3 => ⟨S2x4096x512, .f32⟩
  | 4 => ⟨S3x512x1024, .f32⟩
  | 5 => ⟨S3072, .f32⟩
  | 6 => ⟨S2x4096x1024, .f32⟩
  | 7 => ⟨S2x4096x1024, .f32⟩
  | 8 => ⟨S2x4096x1024, .f32⟩
  | 9 => ⟨S2x4096x1024, .f32⟩
  | 10 => ⟨S1024, .f32⟩
  | 11 => ⟨S1024, .f32⟩
  | 12 => ⟨S1024, .f32⟩
  | 13 => ⟨S1x1x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S_, .f32⟩
  | 19 => ⟨S2x4096x1024, .f32⟩
  | 20 => ⟨S2x4096x1024, .f32⟩
  | 21 => ⟨S_, .f32⟩
  | 22 => ⟨S2x4096x1024, .f32⟩
  | 23 => ⟨S2x4096x1024, .f32⟩
  | 24 => ⟨S_, .f32⟩
  | 25 => ⟨S2x4096x1024, .f32⟩
  | 26 => ⟨S2x4096x1024, .f32⟩
  | 27 => ⟨S2x4096x1024, .f32⟩
  | 28 => ⟨S1x512x1024, .f32⟩
  | 29 => ⟨S512x1024, .f32⟩
  | 30 => ⟨S2x4096x1024, .f32⟩
  | 31 => ⟨S2x4096x1024, .f32⟩
  | 32 => ⟨S1x1x1024, .f32⟩
  | 33 => ⟨S2x4096x1024, .f32⟩
  | 34 => ⟨S2x4096x1024, .f32⟩
  | 35 => ⟨S2x4096x1024, .f32⟩
  | 36 => ⟨S2x4096x1024, .f32⟩
  | 37 => ⟨S_, .f32⟩
  | 38 => ⟨S2x4096x1024, .f32⟩
  | 39 => ⟨S2x4096x1024, .f32⟩
  | 40 => ⟨S_, .f32⟩
  | 41 => ⟨S2x4096x1024, .f32⟩
  | 42 => ⟨S2x4096x1024, .f32⟩
  | 43 => ⟨S_, .f32⟩
  | 44 => ⟨S2x4096x1024, .f32⟩
  | 45 => ⟨S2x4096x1024, .f32⟩
  | 46 => ⟨S2x4096x1024, .f32⟩
  | 47 => ⟨S1x512x1024, .f32⟩
  | 48 => ⟨S512x1024, .f32⟩
  | 49 => ⟨S2x4096x1024, .f32⟩
  | 50 => ⟨S2x4096x1024, .f32⟩
  | 51 => ⟨S2x4096x1024, .f32⟩
  | 52 => ⟨S1x1x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S_, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S_, .f32⟩
  | 64 => ⟨S2x4096x1024, .f32⟩
  | 65 => ⟨S2x4096x1024, .f32⟩
  | 66 => ⟨S2x4096x1024, .f32⟩
  | 67 => ⟨S1x512x1024, .f32⟩
  | 68 => ⟨S512x1024, .f32⟩
  | 69 => ⟨S2x4096x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S1024x512, .f32⟩
  | 77 => ⟨S512x1024, .f32⟩
  | 78 => ⟨S2x4096x512, .f32⟩
  | 79 => ⟨S1x512x1024, .f32⟩
  | 80 => ⟨S_, .f32⟩
  | 81 => ⟨S3x512x1024, .f32⟩
  | 82 => ⟨S2x4096x1024, .f32⟩
  | 83 => ⟨S_, .f32⟩
  | 84 => ⟨S1024, .f32⟩
  | 85 => ⟨S1x1x1024, .f32⟩
  | 86 => ⟨S_, .f32⟩
  | 87 => ⟨S1024, .f32⟩
  | 88 => ⟨S2x4096x1024, .f32⟩
  | 89 => ⟨S2x4096x1024, .f32⟩
  | 90 => ⟨S1024x512, .f32⟩
  | 91 => ⟨S512x1024, .f32⟩
  | 92 => ⟨S2x4096x512, .f32⟩
  | 93 => ⟨S1x512x1024, .f32⟩
  | 94 => ⟨S_, .f32⟩
  | 95 => ⟨S3x512x1024, .f32⟩
  | 96 => ⟨S3x512x1024, .f32⟩
  | 97 => ⟨S2x4096x1024, .f32⟩
  | 98 => ⟨S_, .f32⟩
  | 99 => ⟨S1024, .f32⟩
  | 100 => ⟨S1x1x1024, .f32⟩
  | 101 => ⟨S_, .f32⟩
  | 102 => ⟨S1024, .f32⟩
  | 103 => ⟨S2x4096x1024, .f32⟩
  | 104 => ⟨S2x4096x1024, .f32⟩
  | 105 => ⟨S1024x512, .f32⟩
  | 106 => ⟨S512x1024, .f32⟩
  | 107 => ⟨S2x4096x512, .f32⟩
  | 108 => ⟨S1x512x1024, .f32⟩
  | 109 => ⟨S_, .f32⟩
  | 110 => ⟨S3x512x1024, .f32⟩
  | 111 => ⟨S3x512x1024, .f32⟩
  | 112 => ⟨S2x4096x1024, .f32⟩
  | 113 => ⟨S_, .f32⟩
  | 114 => ⟨S1024, .f32⟩
  | 115 => ⟨S1x1x1024, .f32⟩
  | 116 => ⟨S_, .f32⟩
  | 117 => ⟨S1024, .f32⟩
  | 118 => ⟨S3072, .f32⟩
  | 119 => ⟨S2x4096x3072, .f32⟩
  | 120 => ⟨S8192x3072, .f32⟩
  | 121 => ⟨S8192x3072, .bf16⟩
  | 122 => ⟨S8192x512, .f32⟩
  | 123 => ⟨S8192x512, .bf16⟩
  | 124 => ⟨S8192x512, .f32⟩
  | 125 => ⟨S8192x512, .bf16⟩
  | 126 => ⟨S8192x512, .f32⟩
  | 127 => ⟨S8192x512, .bf16⟩
  | _ => ⟨S2x4096x3072, .f32⟩

abbrev hbmTy0_1 (i : Nat) : BufTy := match i % 128 with
  | 0 => ⟨S1x3072, .f32⟩
  | 1 => ⟨S3x512x1024, .bf16⟩
  | _ => ⟨S2x4096x3072, .f32⟩

abbrev hbmTy (i : Nat) : BufTy := match i / 128 with
  | 0 => hbmTy0_0 i
  | 1 => hbmTy0_1 i
  | _ => ⟨S2x4096x3072, .f32⟩

abbrev bufTy : (tb : Table) → Fin (tcTables nBuf tb) → BufTy
  | .hbm, ⟨i, _⟩ => hbmTy i
  | _, _ => ⟨S2x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_cst_13 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_cst_16 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩

abbrev nD : Nat := 1
abbrev τ : Topo := Topo.v7x

variable {F : FTy → Type} [FloatOps F]
-- ==== Ln1Kernel.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2x4096x1024, .f32⟩
  | .hbm, ⟨6, _⟩ => ⟨S_, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S8192x1024, .f32⟩
  | .hbm, ⟨12, _⟩ => ⟨S8192x1024, .f32⟩
  | .hbm, ⟨13, _⟩ => ⟨S1x1024, .f32⟩
  | .hbm, ⟨14, _⟩ => ⟨S1024x1024, .bf16⟩
  | .hbm, ⟨15, _⟩ => ⟨S2x4096x1024, .bf16⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S1x1024, .f32⟩
  | .hbm, ⟨21, _⟩ => ⟨S1x1024, .f32⟩
  | .hbm, ⟨22, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v127 : BitVec 1 := Scalar.cmpi .eq arg0 c7_i32
  let v128 : BitVec 32 := Scalar.extui v127
  let c0_i32_64 : BitVec 32 := 0#32
  let v129 : BitVec 1 := Scalar.cmpi .ne v128 c0_i32_64
  v129

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln1ReferenceIdeal.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2x4096x1024, .f32⟩
  | .hbm, ⟨6, _⟩ => ⟨S2x4096x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S_, .f32⟩
  | .hbm, ⟨52, _⟩ => ⟨S1024, .f32⟩
  | .hbm, ⟨53, _⟩ => ⟨S2x4096x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S1024, .f32⟩
  | .hbm, ⟨61, _⟩ => ⟨S2x4096x1024, .f32⟩
  | .hbm, ⟨62, _⟩ => ⟨S_, .f32⟩
  | .hbm, ⟨63, _⟩ => ⟨S2x4096, .f32⟩
  | .hbm, ⟨64, _⟩ => ⟨S2x4096x1, .f32⟩
  | .hbm, ⟨65, _⟩ => ⟨S2x4096x1024, .f32⟩
  | .hbm, ⟨66, _⟩ => ⟨S2x4096x1024, .f32⟩
  | .hbm, ⟨67, _⟩ => ⟨S2x4096x1, .f32⟩
  | .hbm, ⟨68, _⟩ => ⟨S2x4096x1024, .f32⟩
  | .hbm, ⟨69, _⟩ => ⟨S_, .f32⟩
  | .hbm, ⟨70, _⟩ => ⟨S2x4096, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S_, .f32⟩
  | .hbm, ⟨76, _⟩ => ⟨S2x4096, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S_, .f32⟩
  | .hbm, ⟨81, _⟩ => ⟨S2x4096, .f32⟩
  | .hbm, ⟨82, _⟩ => ⟨S2x4096x1, .f32⟩
  | .hbm, ⟨83, _⟩ => ⟨S2x4096x1024, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096, .f32⟩
  | .hbm, ⟨90, _⟩ => ⟨S2x4096x1024, .f32⟩
  | .hbm, ⟨91, _⟩ => ⟨S2x4096x1024, .f32⟩
  | .hbm, ⟨92, _⟩ => ⟨S1024x1024, .f32⟩
  | .hbm, ⟨93, _⟩ => ⟨S1024x1024, .f32⟩
  | .hbm, ⟨94, _⟩ => ⟨S2x4096x1024, .f32⟩
  | .hbm, ⟨95, _⟩ => ⟨S8192x1024, .f32⟩
  | .hbm, ⟨96, _⟩ => ⟨S8192x1024, .bf16⟩
  | .hbm, ⟨97, _⟩ => ⟨S8192x1024, .f32⟩
  | .hbm, ⟨98, _⟩ => ⟨S8192x1024, .bf16⟩
  | .hbm, ⟨99, _⟩ => ⟨S1x1024, .f32⟩
  | .hbm, ⟨100, _⟩ => ⟨S1x1024, .f32⟩
  | .hbm, ⟨101, _⟩ => ⟨S1024x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Ln2Kernel.lean ====
abbrev S2x4096x1024 : Shape := ⟨3, ![2, 4096, 1024]⟩
abbrev S2x4096x4096 : Shape := ⟨3, ![2, 4096, 4096]⟩
abbrev S4096x1024 : Shape := ⟨2, ![4096, 1024]⟩
abbrev S1024 : Shape := ⟨1, ![1024]⟩
abbrev S_ : Shape := ⟨0, ![]⟩
abbrev S8192x1024 : Shape := ⟨2, ![8192, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 26
  | .vmem => 16
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2x4096x1024, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S4096x1024, .bf16⟩
  | .hbm, ⟨19, _⟩ => ⟨S2x4096x4096, .bf16⟩
  | .hbm, ⟨20, _⟩ => ⟨S8192x4096, .bf16⟩
  | .hbm, ⟨21, _⟩ => ⟨S8192x1024, .f32⟩
  | .hbm, ⟨22, _⟩ => ⟨S8192x1024, .bf16⟩
  | .hbm, ⟨23, _⟩ => ⟨S8192x4096, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S1x1024, .f32⟩
  | .local _ .vmem, ⟨15, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ln2ReferenceIdeal.lean ====
abbrev S2x4096x1024 : Shape := ⟨3, ![2, 4096, 1024]⟩
abbrev S2x4096x4096 : Shape := ⟨3, ![2, 4096, 4096]⟩
abbrev S4096x1024 : Shape := ⟨2, ![4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S8192x4096 : Shape := ⟨2, ![8192, 4096]⟩
abbrev S1x1024 : Shape := ⟨2, ![1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2x4096x1024, .f32⟩
  | .hbm, ⟨6, _⟩ => ⟨S_, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1024, .f32⟩
  | .hbm, ⟨44, _⟩ => ⟨S2x4096x1024, .f32⟩
  | .hbm, ⟨45, _⟩ => ⟨S1x1x1024, .f32⟩
  | .hbm, ⟨46, _⟩ => ⟨S2x4096x1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S_, .f32⟩
  | .hbm, ⟨56, _⟩ => ⟨S1024, .f32⟩
  | .hbm, ⟨57, _⟩ => ⟨S2x4096x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x4096x1024, .f32⟩
  | .hbm, ⟨62, _⟩ => ⟨S2x4096x1024, .f32⟩
  | .hbm, ⟨63, _⟩ => ⟨S_, .f32⟩
  | .hbm, ⟨64, _⟩ => ⟨S1024, .f32⟩
  | .hbm, ⟨65, _⟩ => ⟨S2x4096x1024, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S2x4096x1024, .f32⟩
  | .hbm, ⟨70, _⟩ => ⟨S2x4096x1024, .f32⟩
  | .hbm, ⟨71, _⟩ => ⟨S2x4096x1, .f32⟩
  | .hbm, ⟨72, _⟩ => ⟨S2x4096x1024, .f32⟩
  | .hbm, ⟨73, _⟩ => ⟨S_, .f32⟩
  | .hbm, ⟨74, _⟩ => ⟨S2x4096, .f32⟩
  | .hbm, ⟨75, _⟩ => ⟨S2x4096x1, .f32⟩
  | .hbm, ⟨76, _⟩ => ⟨S_, .f32⟩
  | .hbm, ⟨77, _⟩ => ⟨S2x4096x1, .f32⟩
  | .hbm, ⟨78, _⟩ => ⟨S2x4096x1, .f32⟩
  | .hbm, ⟨79, _⟩ => ⟨S_, .f32⟩
  | .hbm, ⟨80, _⟩ => ⟨S2x4096, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S_, .f32⟩
  | .hbm, ⟨85, _⟩ => ⟨S2x4096, .f32⟩
  | .hbm, ⟨86, _⟩ => ⟨S2x4096x1, .f32⟩
  | .hbm, ⟨87, _⟩ => ⟨S2x4096x1024, .f32⟩
  | .hbm, ⟨88, _⟩ => ⟨S2x4096x1, .f32⟩
  | .hbm, ⟨89, _⟩ => ⟨S_, .f32⟩
  | .hbm, ⟨90, _⟩ => ⟨S2x4096x1, .f32⟩
  | .hbm, ⟨91, _⟩ => ⟨S2x4096x1, .f32⟩
  | .hbm, ⟨92, _⟩ => ⟨S_, .f32⟩
  | .hbm, ⟨93, _⟩ => ⟨S2x4096, .f32⟩
  | .hbm, ⟨94, _⟩ => ⟨S2x4096x1024, .f32⟩
  | .hbm, ⟨95, _⟩ => ⟨S2x4096x1024, .f32⟩
  | .hbm, ⟨96, _⟩ => ⟨S_, .f32⟩
  | .hbm, ⟨97, _⟩ => ⟨S2x4096x4096, .f32⟩
  | .hbm, ⟨98, _⟩ => ⟨S2x4096x4096, .f32⟩
  | .hbm, ⟨99, _⟩ => ⟨S_, .f32⟩
  | .hbm, ⟨100, _⟩ => ⟨S2x4096x4096, .f32⟩
  | .hbm, ⟨101, _⟩ => ⟨S2x4096x4096, .i1⟩
  | .hbm, ⟨102, _⟩ => ⟨S_, .f32⟩
  | .hbm, ⟨103, _⟩ => ⟨S2x4096x4096, .f32⟩
  | .hbm, ⟨104, _⟩ => ⟨S2x4096x4096, .f32⟩
  | .hbm, ⟨105, _⟩ => ⟨S_, .f32⟩
  | .hbm, ⟨106, _⟩ => ⟨S2x4096x4096, .f32⟩
  | .hbm, ⟨107, _⟩ => ⟨S2x4096x4096, .f32⟩
  | .hbm, ⟨108, _⟩ => ⟨S2x4096x1024, .f32⟩
  | .hbm, ⟨109, _⟩ => ⟨S2x4096x4096, .f32⟩
  | .hbm, ⟨110, _⟩ => ⟨S2x4096x4096, .f32⟩
  | .hbm, ⟨111, _⟩ => ⟨S_, .f32⟩
  | .hbm, ⟨112, _⟩ => ⟨S2x4096x4096, .f32⟩
  | .hbm, ⟨113, _⟩ => ⟨S2x4096x4096, .f32⟩
  | .hbm, ⟨114, _⟩ => ⟨S8192x1024, .f32⟩
  | .hbm, ⟨115, _⟩ => ⟨S8192x1024, .bf16⟩
  | .hbm, ⟨116, _⟩ => ⟨S8192x4096, .f32⟩
  | .hbm, ⟨117, _⟩ => ⟨S8192x4096, .bf16⟩
  | .hbm, ⟨118, _⟩ => ⟨S1x1024, .f32⟩
  | .hbm, ⟨119, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== AttnfKernel.lean ====
abbrev S2x4096x7168 : Shape := ⟨3, ![2, 4096, 7168]⟩
abbrev S2x256x512 : Shape := ⟨3, ![2, 256, 512]⟩
abbrev S8192x7168 : Shape := ⟨2, ![8192, 7168]⟩
abbrev S512x512 : Shape := ⟨2, ![512, 512]⟩
abbrev S8192x512 : Shape := ⟨2, ![8192, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x7168, .f32⟩
  | .hbm, ⟨1, _⟩ => ⟨S2x256x512, .f32⟩
  | .hbm, ⟨2, _⟩ => ⟨S2x256x512, .f32⟩
  | .hbm, ⟨3, _⟩ => ⟨S2x4096x7168, .bf16⟩
  | .hbm, ⟨4, _⟩ => ⟨S8192x7168, .bf16⟩
  | .hbm, ⟨5, _⟩ => ⟨S2x256x512, .bf16⟩
  | .hbm, ⟨6, _⟩ => ⟨S512x512, .bf16⟩
  | .hbm, ⟨7, _⟩ => ⟨S2x256x512, .bf16⟩
  | .hbm, ⟨8, _⟩ => ⟨S512x512, .bf16⟩
  | .hbm, ⟨9, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnfReferenceIdeal.lean ====
abbrev S2x4096x7168 : Shape := ⟨3, ![2, 4096, 7168]⟩
abbrev S2x256x512 : Shape := ⟨3, ![2, 256, 512]⟩
abbrev S2x4096x512 : Shape := ⟨3, ![2, 4096, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S2x256x512, .f32⟩
  | .hbm, ⟨2, _⟩ => ⟨S2x256x512, .f32⟩
  | .hbm, ⟨3, _⟩ => ⟨S2x4096x512, .f32⟩
  | .hbm, ⟨4, _⟩ => ⟨S2x4096x4x128, .f32⟩
  | .hbm, ⟨5, _⟩ => ⟨S2x256x4x128, .f32⟩
  | .hbm, ⟨6, _⟩ => ⟨S2x256x4x128, .f32⟩
  | .hbm, ⟨7, _⟩ => ⟨S2x4x4096x256, .f32⟩
  | .hbm, ⟨8, _⟩ => ⟨S_, .f32⟩
  | .hbm, ⟨9, _⟩ => ⟨S2x4x4096x256, .f32⟩
  | .hbm, ⟨10, _⟩ => ⟨S2x4x4096x256, .f32⟩
  | .hbm, ⟨11, _⟩ => ⟨S_, .f32⟩
  | .hbm, ⟨12, _⟩ => ⟨S2x4x4096, .f32⟩
  | .hbm, ⟨13, _⟩ => ⟨S_, .f32⟩
  | .hbm, ⟨14, _⟩ => ⟨S2x4x4096, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .f32⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x128x4096, .f32⟩
  | .hbm, ⟨26, _⟩ => ⟨S2x4096x4x128, .f32⟩
  | .hbm, ⟨27, _⟩ => ⟨S2x4096x512, .f32⟩
  | .hbm, ⟨28, _⟩ => ⟨S8192x512, .f32⟩
  | .hbm, ⟨29, _⟩ => ⟨S8192x512, .bf16⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== LbKernel.lean ====
abbrev S4x512 : Shape := ⟨2, ![4, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbReferenceIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 71
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S4x512, .f32⟩
  | .hbm, ⟨53, _⟩ => ⟨S_, .f32⟩
  | .hbm, ⟨54, _⟩ => ⟨S_, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S4x512, .f32⟩
  | .hbm, ⟨59, _⟩ => ⟨S4x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S4x512, .f32⟩
  | .hbm, ⟨65, _⟩ => ⟨S4x512, .f32⟩
  | .hbm, ⟨66, _⟩ => ⟨S_, .f32⟩
  | .hbm, ⟨67, _⟩ => ⟨S512, .f32⟩
  | .hbm, ⟨68, _⟩ => ⟨S4x512, .f32⟩
  | .hbm, ⟨69, _⟩ => ⟨S4x512, .f32⟩
  | .hbm, ⟨70, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== WolnKernel.lean ====
abbrev S2x4096x1024 : Shape := ⟨3, ![2, 4096, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2x4096x1024, .bf16⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WolnReferenceIdeal.lean ====
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2x4096x1024, .f32⟩
  | .hbm, ⟨6, _⟩ => ⟨S_, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x1024, .f32⟩
  | .hbm, ⟨32, _⟩ => ⟨S2x4096x1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S1x1x1024, .f32⟩
  | .hbm, ⟨37, _⟩ => ⟨S2x4096x1024, .f32⟩
  | .hbm, ⟨38, _⟩ => ⟨S2x4096x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== DownlnKernel.lean ====
abbrev S2x4096x1024 : Shape := ⟨3, ![2, 4096, 1024]⟩
abbrev S2x4096x4096 : Shape := ⟨3, ![2, 4096, 4096]⟩
abbrev S4096x1024 : Shape := ⟨2, ![4096, 1024]⟩
abbrev S1024 : Shape := ⟨1, ![1024]⟩
abbrev S8192x4096 : Shape := ⟨2, ![8192, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2x4096x4096, .bf16⟩
  | .hbm, ⟨6, _⟩ => ⟨S8192x4096, .bf16⟩
  | .hbm, ⟨7, _⟩ => ⟨S4096x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownlnReferenceIdeal.lean ====
abbrev S2x4096x1024 : Shape := ⟨3, ![2, 4096, 1024]⟩
abbrev S2x4096x4096 : Shape := ⟨3, ![2, 4096, 4096]⟩
abbrev S4096x1024 : Shape := ⟨2, ![4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x1024, .f32⟩
  | .hbm, ⟨32, _⟩ => ⟨S2x4096x1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S1x1x1024, .f32⟩
  | .hbm, ⟨37, _⟩ => ⟨S2x4096x1024, .f32⟩
  | .hbm, ⟨38, _⟩ => ⟨S2x4096x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== UpKernel.lean ====
abbrev S2x4096x1024 : Shape := ⟨3, ![2, 4096, 1024]⟩
abbrev S1024x4096 : Shape := ⟨2, ![1024, 4096]⟩
abbrev S8192x1024 : Shape := ⟨2, ![8192, 1024]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S1024x4096, .f32⟩
  | .hbm, ⟨2, _⟩ => ⟨S2x4096x1024, .bf16⟩
  | .hbm, ⟨3, _⟩ => ⟨S8192x1024, .bf16⟩
  | .hbm, ⟨4, _⟩ => ⟨S1024x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S2x4096x1024 : Shape := ⟨3, ![2, 4096, 1024]⟩
abbrev S1024x4096 : Shape := ⟨2, ![1024, 4096]⟩
abbrev S2x4096x4096 : Shape := ⟨3, ![2, 4096, 4096]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x4096, .f32⟩
  | .hbm, ⟨2, _⟩ => ⟨S2x4096x4096, .f32⟩
  | .hbm, ⟨3, _⟩ => ⟨S_, .f32⟩
  | .hbm, ⟨4, _⟩ => ⟨S2x4096x4096, .f32⟩
  | .hbm, ⟨5, _⟩ => ⟨S2x4096x4096, .f32⟩
  | .hbm, ⟨6, _⟩ => ⟨S2x4096x4096, .f32⟩
  | .hbm, ⟨7, _⟩ => ⟨S8192x4096, .f32⟩
  | .hbm, ⟨8, _⟩ => ⟨S8192x4096, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MergefKernel.lean ====
abbrev S2x4096x7168 : Shape := ⟨3, ![2, 4096, 7168]⟩
abbrev S2x4096x512 : Shape := ⟨3, ![2, 4096, 512]⟩
abbrev S3x512 : Shape := ⟨2, ![3, 512]⟩
abbrev S3x512x1024 : Shape := ⟨3, ![3, 512, 1024]⟩
abbrev S3072 : Shape := ⟨1, ![3072]⟩
abbrev S8192x7168 : Shape := ⟨2, ![8192, 7168]⟩
abbrev S8192x512 : Shape := ⟨2, ![8192, 512]⟩
abbrev S1x3072 : Shape := ⟨2, ![1, 3072]⟩
abbrev S8192x1024 : Shape := ⟨2, ![8192, 1024]⟩
abbrev S512x512 : Shape := ⟨2, ![512, 512]⟩
abbrev S16x512 : Shape := ⟨2, ![16, 512]⟩
abbrev S512x1024 : Shape := ⟨2, ![512, 1024]⟩
abbrev S1x512 : Shape := ⟨2, ![1, 512]⟩
abbrev S1x512x1024 : Shape := ⟨3, ![1, 512, 1024]⟩
abbrev S1x1024 : Shape := ⟨2, ![1, 1024]⟩

abbrev nBuf : Space → Nat
  | .hbm => 22
  | .vmem => 39
  | .smem => 0
  | _ => 0

abbrev bufTy : (tb : Table) → Fin (tcTables nBuf tb) → BufTy
  | .hbm, ⟨0, _⟩ => ⟨S2x4096x7168, .f32⟩
  | .hbm, ⟨1, _⟩ => ⟨S2x4096x512, .f32⟩
  | .hbm, ⟨2, _⟩ => ⟨S2x4096x512, .f32⟩
  | .hbm, ⟨3, _⟩ => ⟨S3x512, .f32⟩
  | .hbm, ⟨4, _⟩ => ⟨S3x512x1024, .f32⟩
  | .hbm, ⟨5, _⟩ => ⟨S3072, .f32⟩
  | .hbm, ⟨6, _⟩ => ⟨S2x4096x7168, .bf16⟩
  | .hbm, ⟨7, _⟩ => ⟨S8192x7168, .bf16⟩
  | .hbm, ⟨8, _⟩ => ⟨S2x4096x512, .bf16⟩
  | .hbm, ⟨9, _⟩ => ⟨S8192x512, .bf16⟩
  | .hbm, ⟨10, _⟩ => ⟨S2x4096x512, .bf16⟩
  | .hbm, ⟨11, _⟩ => ⟨S8192x512, .bf16⟩
  | .hbm, ⟨12, _⟩ => ⟨S3x512x1024, .bf16⟩
  | .hbm, ⟨13, _⟩ => ⟨S1x3072, .f32⟩
  | .hbm, ⟨14, _⟩ => ⟨S8192x512, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S3x512, .f32⟩
  | .local _ .vmem, ⟨21, _⟩ => ⟨S3x512x1024, .bf16⟩
  | .local _ .vmem, ⟨22, _⟩ => ⟨S1x3072, .f32⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | _, _ => ⟨S2x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_v8_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergefReferenceIdeal.lean ====
abbrev S2x4096x7168 : Shape := ⟨3, ![2, 4096, 7168]⟩
abbrev S2x4096x512 : Shape := ⟨3, ![2, 4096, 512]⟩
abbrev S3x512 : Shape := ⟨2, ![3, 512]⟩
abbrev S3x512x1024 : Shape := ⟨3, ![3, 512, 1024]⟩
abbrev S3072 : Shape := ⟨1, ![3072]⟩
abbrev S_ : Shape := ⟨0, ![]⟩
abbrev S2x4098x512 : Shape := ⟨3, ![2, 4098, 512]⟩
abbrev S1x512 : Shape := ⟨2, ![1, 512]⟩
abbrev S512 : Shape := ⟨1, ![512]⟩
abbrev S1x1x512 : Shape := ⟨3, ![1, 1, 512]⟩
abbrev S2x4096x3072 : Shape := ⟨3, ![2, 4096, 3072]⟩
abbrev S2x4096x1024 : Shape := ⟨3, ![2, 4096, 1024]⟩
abbrev S1024 : Shape := ⟨1, ![1024]⟩
abbrev S1x1x1024 : Shape := ⟨3, ![1, 1, 1024]⟩
abbrev S1x512x1024 : Shape := ⟨3, ![1, 512, 1024]⟩
abbrev S512x1024 : Shape := ⟨2, ![512, 1024]⟩
abbrev S8192x512 : Shape := ⟨2, ![8192, 512]⟩
abbrev S8192x1024 : Shape := ⟨2, ![8192, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x4096x7168, .f32⟩
  | .hbm, ⟨1, _⟩ => ⟨S2x4096x512, .f32⟩
  | .hbm, ⟨2, _⟩ => ⟨S2x4096x512, .f32⟩
  | .hbm, ⟨3, _⟩ => ⟨S3x512, .f32⟩
  | .hbm, ⟨4, _⟩ => ⟨S3x512x1024, .f32⟩
  | .hbm, ⟨5, _⟩ => ⟨S3072, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4096x512, .f32⟩
  | .hbm, ⟨10, _⟩ => ⟨S_, .i32⟩
  | .hbm, ⟨11, _⟩ => ⟨S_, .f32⟩
  | .hbm, ⟨12, _⟩ => ⟨S2x4098x512, .f32⟩
  | .hbm, ⟨13, _⟩ => ⟨S2x4096x512, .f32⟩
  | .hbm, ⟨14, _⟩ => ⟨S1x512, .f32⟩
  | .hbm, ⟨15, _⟩ => ⟨S512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S2x4096x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S2x4096x512, .f32⟩
  | .hbm, ⟨24, _⟩ => ⟨S2x4096x512, .f32⟩
  | .hbm, ⟨25, _⟩ => ⟨S2x4096x512, .f32⟩
  | .hbm, ⟨26, _⟩ => ⟨S2x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S2x4096x512, .f32⟩
  | .hbm, ⟨31, _⟩ => ⟨S2x4096x512, .f32⟩
  | .hbm, ⟨32, _⟩ => ⟨S2x4096x512, .f32⟩
  | .hbm, ⟨33, _⟩ => ⟨S2x4096x512, .f32⟩
  | .hbm, ⟨34, _⟩ => ⟨S2x4096x3072, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x4096x1024, .f32⟩
  | .hbm, ⟨48, _⟩ => ⟨S2x4096x1024, .f32⟩
  | .hbm, ⟨49, _⟩ => ⟨S_, .f32⟩
  | .hbm, ⟨50, _⟩ => ⟨S2x4096x1024, .f32⟩
  | .hbm, ⟨51, _⟩ => ⟨S2x4096x1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S2x4096x1024, .f32⟩
  | .hbm, ⟨57, _⟩ => ⟨S_, .f32⟩
  | .hbm, ⟨58, _⟩ => ⟨S2x4096x1024, .f32⟩
  | .hbm, ⟨59, _⟩ => ⟨S2x4096x1024, .f32⟩
  | .hbm, ⟨60, _⟩ => ⟨S_, .f32⟩
  | .hbm, ⟨61, _⟩ => ⟨S2x4096x1024, .f32⟩
  | .hbm, ⟨62, _⟩ => ⟨S2x4096x1024, .f32⟩
  | .hbm, ⟨63, _⟩ => ⟨S1x1x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S_, .f32⟩
  | .hbm, ⟨69, _⟩ => ⟨S2x4096x1024, .f32⟩
  | .hbm, ⟨70, _⟩ => ⟨S2x4096x1024, .f32⟩
  | .hbm, ⟨71, _⟩ => ⟨S_, .f32⟩
  | .hbm, ⟨72, _⟩ => ⟨S2x4096x1024, .f32⟩
  | .hbm, ⟨73, _⟩ => ⟨S2x4096x1024, .f32⟩
  | .hbm, ⟨74, _⟩ => ⟨S1x512x1024, .f32⟩
  | .hbm, ⟨75, _⟩ => ⟨S512x1024, .f32⟩
  | .hbm, ⟨76, _⟩ => ⟨S2x4096x1024, .f32⟩
  | .hbm, ⟨77, _⟩ => ⟨S1x512x1024, .f32⟩
  | .hbm, ⟨78, _⟩ => ⟨S512x1024, .f32⟩
  | .hbm, ⟨79, _⟩ => ⟨S2x4096x1024, .f32⟩
  | .hbm, ⟨80, _⟩ => ⟨S1x512x1024, .f32⟩
  | .hbm, ⟨81, _⟩ => ⟨S512x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S8192x512, .f32⟩
  | .hbm, ⟨89, _⟩ => ⟨S8192x512, .bf16⟩
  | .hbm, ⟨90, _⟩ => ⟨S8192x1024, .f32⟩
  | .hbm, ⟨91, _⟩ => ⟨S8192x1024, .bf16⟩
  | .hbm, ⟨92, _⟩ => ⟨S8192x1024, .f32⟩
  | .hbm, ⟨93, _⟩ => ⟨S8192x1024, .bf16⟩
  | .hbm, ⟨94, _⟩ => ⟨S8192x1024, .f32⟩
  | .hbm, ⟨95, _⟩ => ⟨S8192x1024, .bf16⟩
  | .hbm, ⟨96, _⟩ => ⟨S8192x1024, .f32⟩
  | .hbm, ⟨97, _⟩ => ⟨S8192x1024, .bf16⟩
  | .hbm, ⟨98, _⟩ => ⟨S8192x1024, .f32⟩
  | .hbm, ⟨99, _⟩ => ⟨S8192x1024, .bf16⟩
  | .hbm, ⟨100, _⟩ => ⟨S8192x1024, .f32⟩
  | .hbm, ⟨101, _⟩ => ⟨S8192x1024, .bf16⟩
  | .hbm, ⟨102, _⟩ => ⟨S8192x1024, .f32⟩
  | .hbm, ⟨103, _⟩ => ⟨S8192x1024, .bf16⟩
  | _, _ => ⟨S2x4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩

abbrev nD : Nat := 1
abbrev τ : Topo := Topo.v7x

variable {F : FTy → Type} [FloatOps F]
-- ==== LbfKernel.lean ====
abbrev S4x512 : Shape := ⟨2, ![4, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbfReferenceIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S4x512, .f32⟩
  | .hbm, ⟨20, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InbKernel.lean ====
abbrev S2x4096x1536 : Shape := ⟨3, ![2, 4096, 1536]⟩
abbrev S2x4096x2048 : Shape := ⟨3, ![2, 4096, 2048]⟩
abbrev S2x4096x512 : Shape := ⟨3, ![2, 4096, 512]⟩
abbrev S2x4096x3072 : Shape := ⟨3, ![2, 4096, 3072]⟩
abbrev S1024x7168 : Shape := ⟨2, ![1024, 7168]⟩
abbrev S2x4096x1024 : Shape := ⟨3, ![2, 4096, 1024]⟩
abbrev S8192x1536 : Shape := ⟨2, ![8192, 1536]⟩
abbrev S8192x2048 : Shape := ⟨2, ![8192, 2048]⟩
abbrev S8192x512 : Shape := ⟨2, ![8192, 512]⟩
abbrev S8192x3072 : Shape := ⟨2, ![8192, 3072]⟩
abbrev S8192x1024 : Shape := ⟨2, ![8192, 1024]⟩
abbrev S512x1536 : Shape := ⟨2, ![512, 1536]⟩
abbrev S512x2048 : Shape := ⟨2, ![512, 2048]⟩
abbrev S512x512 : Shape := ⟨2, ![512, 512]⟩
abbrev S512x3072 : Shape := ⟨2, ![512, 3072]⟩
abbrev S512x1024 : Shape := ⟨2, ![512, 1024]⟩
abbrev S1024x1536 : Shape := ⟨2, ![1024, 1536]⟩
abbrev S1024x2048 : Shape := ⟨2, ![1024, 2048]⟩
abbrev S1024x512 : Shape := ⟨2, ![1024, 512]⟩
abbrev S1024x3072 : Shape := ⟨2, ![1024, 3072]⟩

abbrev nBuf : Space → Nat
  | .hbm => 17
  | .vmem => 13
  | .smem => 0
  | _ => 0

abbrev bufTy : (tb : Table) → Fin (tcTables nBuf tb) → BufTy
  | .hbm, ⟨0, _⟩ => ⟨S2x4096x1536, .f32⟩
  | .hbm, ⟨1, _⟩ => ⟨S2x4096x2048, .f32⟩
  | .hbm, ⟨2, _⟩ => ⟨S2x4096x512, .f32⟩
  | .hbm, ⟨3, _⟩ => ⟨S2x4096x3072, .f32⟩
  | .hbm, ⟨4, _⟩ => ⟨S1024x7168, .f32⟩
  | .hbm, ⟨5, _⟩ => ⟨S2x4096x1024, .f32⟩
  | .hbm, ⟨6, _⟩ => ⟨S2x4096x1536, .bf16⟩
  | .hbm, ⟨7, _⟩ => ⟨S8192x1536, .bf16⟩
  | .hbm, ⟨8, _⟩ => ⟨S2x4096x2048, .bf16⟩
  | .hbm, ⟨9, _⟩ => ⟨S8192x2048, .bf16⟩
  | .hbm, ⟨10, _⟩ => ⟨S2x4096x512, .bf16⟩
  | .hbm, ⟨11, _⟩ => ⟨S8192x512, .bf16⟩
  | .hbm, ⟨12, _⟩ => ⟨S2x4096x3072, .bf16⟩
  | .hbm, ⟨13, _⟩ => ⟨S8192x3072, .bf16⟩
  | .hbm, ⟨14, _⟩ => ⟨S1024x7168, .bf16⟩
  | .hbm, ⟨15, _⟩ => ⟨S8192x1024, .f32⟩
  | .hbm, ⟨16, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S1024x7168, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InbReferenceIdeal.lean ====
abbrev S2x4096x1536 : Shape := ⟨3, ![2, 4096, 1536]⟩
abbrev S2x4096x2048 : Shape := ⟨3, ![2, 4096, 2048]⟩
abbrev S2x4096x512 : Shape := ⟨3, ![2, 4096, 512]⟩
abbrev S2x4096x3072 : Shape := ⟨3, ![2, 4096, 3072]⟩
abbrev S1024x7168 : Shape := ⟨2, ![1024, 7168]⟩
abbrev S2x4096x1024 : Shape := ⟨3, ![2, 4096, 1024]⟩
abbrev S2x4096x7168 : Shape := ⟨3, ![2, 4096, 7168]⟩
abbrev S_ : Shape := ⟨0, ![]⟩
abbrev S8192x1024 : Shape := ⟨2, ![8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x2048, .f32⟩
  | .hbm, ⟨2, _⟩ => ⟨S2x4096x512, .f32⟩
  | .hbm, ⟨3, _⟩ => ⟨S2x4096x3072, .f32⟩
  | .hbm, ⟨4, _⟩ => ⟨S1024x7168, .f32⟩
  | .hbm, ⟨5, _⟩ => ⟨S2x4096x1024, .f32⟩
  | .hbm, ⟨6, _⟩ => ⟨S2x4096x7168, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S_, .f32⟩
  | .hbm, ⟨11, _⟩ => ⟨S2x4096x1024, .f32⟩
  | .hbm, ⟨12, _⟩ => ⟨S2x4096x7168, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== GupKernel.lean ====
abbrev S2x4096x1024 : Shape := ⟨3, ![2, 4096, 1024]⟩
abbrev S2x4096x4096 : Shape := ⟨3, ![2, 4096, 4096]⟩
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S2x4096x1024, .bf16⟩
  | .hbm, ⟨3, _⟩ => ⟨S8192x1024, .bf16⟩
  | .hbm, ⟨4, _⟩ => ⟨S2x4096x4096, .bf16⟩
  | .hbm, ⟨5, _⟩ => ⟨S8192x4096, .bf16⟩
  | .hbm, ⟨6, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupReferenceIdeal.lean ====
abbrev S2x4096x1024 : Shape := ⟨3, ![2, 4096, 1024]⟩
abbrev S2x4096x4096 : Shape := ⟨3, ![2, 4096, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x4096, .f32⟩
  | .hbm, ⟨2, _⟩ => ⟨S_, .f32⟩
  | .hbm, ⟨3, _⟩ => ⟨S1024x4096, .f32⟩
  | .hbm, ⟨4, _⟩ => ⟨S2x4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemkvKernel.lean ====
abbrev S2x256x1024 : Shape := ⟨3, ![2, 256, 1024]⟩
abbrev S1024x512 : Shape := ⟨2, ![1024, 512]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1024x512, .f32⟩
  | .hbm, ⟨2, _⟩ => ⟨S1024x512, .f32⟩
  | .hbm, ⟨3, _⟩ => ⟨S512x1024, .f32⟩
  | .hbm, ⟨4, _⟩ => ⟨S1024x512, .bf16⟩
  | .hbm, ⟨5, _⟩ => ⟨S1024x512, .bf16⟩
  | .hbm, ⟨6, _⟩ => ⟨S512x512, .bf16⟩
  | .hbm, ⟨7, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvReferenceIdeal.lean ====
abbrev S2x256x1024 : Shape := ⟨3, ![2, 256, 1024]⟩
abbrev S1024x512 : Shape := ⟨2, ![1024, 512]⟩
abbrev S2x256x512 : Shape := ⟨3, ![2, 256, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x512, .f32⟩
  | .hbm, ⟨2, _⟩ => ⟨S1024x512, .f32⟩
  | .hbm, ⟨3, _⟩ => ⟨S2x256x512, .f32⟩
  | .hbm, ⟨4, _⟩ => ⟨S2x256x512, .f32⟩
  | .hbm, ⟨5, _⟩ => ⟨S512x512, .f32⟩
  | .hbm, ⟨6, _⟩ => ⟨S512x512, .bf16⟩
  | .hbm, ⟨7, _⟩ => ⟨S512x512, .f32⟩
  | .hbm, ⟨8, _⟩ => ⟨S512x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamsKernel.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamsReferenceIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamcKernel.lean ====
abbrev S4x3x64 : Shape := ⟨3, ![4, 3, 64]⟩
abbrev S12x64 : Shape := ⟨2, ![12, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S12x64, .f32⟩
  | .hbm, ⟨5, _⟩ => ⟨S12x64, .f32⟩
  | .hbm, ⟨6, _⟩ => ⟨S12x64, .f32⟩
  | .hbm, ⟨7, _⟩ => ⟨S12x64, .f32⟩
  | .hbm, ⟨8, _⟩ => ⟨S12x64, .f32⟩
  | .hbm, ⟨9, _⟩ => ⟨S12x64, .f32⟩
  | .hbm, ⟨10, _⟩ => ⟨S12x64, .f32⟩
  | .local _ .vmem, ⟨0, _⟩ => ⟨S12x64, .f32⟩
  | .local _ .vmem, ⟨1, _⟩ => ⟨S12x64, .f32⟩
  | .local _ .vmem, ⟨2, _⟩ => ⟨S12x64, .f32⟩
  | .local _ .vmem, ⟨3, _⟩ => ⟨S12x64, .f32⟩
  | .local _ .vmem, ⟨4, _⟩ => ⟨S12x64, .f32⟩
  | .local _ .vmem, ⟨5, _⟩ => ⟨S12x64, .f32⟩
  | .local _ .vmem, ⟨6, _⟩ => ⟨S12x64, .f32⟩
  | _, _ => ⟨S4x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamcReferenceIdeal.lean ====
abbrev S4x3x64 : Shape := ⟨3, ![4, 3, 64]⟩
abbrev S_ : Shape := ⟨0, ![]⟩
abbrev S12x64 : Shape := ⟨2, ![12, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x3x64, .f32⟩
  | .hbm, ⟨1, _⟩ => ⟨S4x3x64, .f32⟩
  | .hbm, ⟨2, _⟩ => ⟨S4x3x64, .f32⟩
  | .hbm, ⟨3, _⟩ => ⟨S4x3x64, .f32⟩
  | .hbm, ⟨4, _⟩ => ⟨S_, .f32⟩
  | .hbm, ⟨5, _⟩ => ⟨S4x3x64, .f32⟩
  | .hbm, ⟨6, _⟩ => ⟨S4x3x64, .f32⟩
  | .hbm, ⟨7, _⟩ => ⟨S_, .f32⟩
  | .hbm, ⟨8, _⟩ => ⟨S4x3x64, .f32⟩
  | .hbm, ⟨9, _⟩ => ⟨S4x3x64, .f32⟩
  | .hbm, ⟨10, _⟩ => ⟨S4x3x64, .f32⟩
  | .hbm, ⟨11, _⟩ => ⟨S_, .f32⟩
  | .hbm, ⟨12, _⟩ => ⟨S4x3x64, .f32⟩
  | .hbm, ⟨13, _⟩ => ⟨S4x3x64, .f32⟩
  | .hbm, ⟨14, _⟩ => ⟨S4x3x64, .f32⟩
  | .hbm, ⟨15, _⟩ => ⟨S_, .f32⟩
  | .hbm, ⟨16, _⟩ => ⟨S4x3x64, .f32⟩
  | .hbm, ⟨17, _⟩ => ⟨S4x3x64, .f32⟩
  | .hbm, ⟨18, _⟩ => ⟨S4x3x64, .f32⟩
  | .hbm, ⟨19, _⟩ => ⟨S_, .f32⟩
  | .hbm, ⟨20, _⟩ => ⟨S4x3x64, .f32⟩
  | .hbm, ⟨21, _⟩ => ⟨S4x3x64, .f32⟩
  | .hbm, ⟨22, _⟩ => ⟨S_, .f32⟩
  | .hbm, ⟨23, _⟩ => ⟨S4x3x64, .f32⟩
  | .hbm, ⟨24, _⟩ => ⟨S4x3x64, .f32⟩
  | .hbm, ⟨25, _⟩ => ⟨S4x3x64, .f32⟩
  | .hbm, ⟨26, _⟩ => ⟨S_, .f32⟩
  | .hbm, ⟨27, _⟩ => ⟨S4x3x64, .f32⟩
  | .hbm, ⟨28, _⟩ => ⟨S4x3x64, .f32⟩
  | .hbm, ⟨29, _⟩ => ⟨S4x3x64, .f32⟩
  | .hbm, ⟨30, _⟩ => ⟨S_, .f32⟩
  | .hbm, ⟨31, _⟩ => ⟨S4x3x64, .f32⟩
  | .hbm, ⟨32, _⟩ => ⟨S4x3x64, .f32⟩
  | .hbm, ⟨33, _⟩ => ⟨S4x3x64, .f32⟩
  | .hbm, ⟨34, _⟩ => ⟨S_, .f32⟩
  | .hbm, ⟨35, _⟩ => ⟨S4x3x64, .f32⟩
  | .hbm, ⟨36, _⟩ => ⟨S4x3x64, .f32⟩
  | .hbm, ⟨37, _⟩ => ⟨S12x64, .f32⟩
  | .hbm, ⟨38, _⟩ => ⟨S12x64, .f32⟩
  | .hbm, ⟨39, _⟩ => ⟨S12x64, .f32⟩
  | _, _ => ⟨S4x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamgKernel.lean ====
abbrev S4x3072 : Shape := ⟨2, ![4, 3072]⟩

abbrev nBuf : Space → Nat
  | .hbm => 7
  | .vmem => 7
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamgReferenceIdeal.lean ====
abbrev S4x3072 : Shape := ⟨2, ![4, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S_, .f32⟩
  | .hbm, ⟨5, _⟩ => ⟨S4x3072, .f32⟩
  | .hbm, ⟨6, _⟩ => ⟨S4x3072, .f32⟩
  | .hbm, ⟨7, _⟩ => ⟨S_, .f32⟩
  | .hbm, ⟨8, _⟩ => ⟨S4x3072, .f32⟩
  | .hbm, ⟨9, _⟩ => ⟨S4x3072, .f32⟩
  | .hbm, ⟨10, _⟩ => ⟨S4x3072, .f32⟩
  | .hbm, ⟨11, _⟩ => ⟨S_, .f32⟩
  | .hbm, ⟨12, _⟩ => ⟨S4x3072, .f32⟩
  | .hbm, ⟨13, _⟩ => ⟨S4x3072, .f32⟩
  | .hbm, ⟨14, _⟩ => ⟨S4x3072, .f32⟩
  | .hbm, ⟨15, _⟩ => ⟨S_, .f32⟩
  | .hbm, ⟨16, _⟩ => ⟨S4x3072, .f32⟩
  | .hbm, ⟨17, _⟩ => ⟨S4x3072, .f32⟩
  | .hbm, ⟨18, _⟩ => ⟨S4x3072, .f32⟩
  | .hbm, ⟨19, _⟩ => ⟨S_, .f32⟩
  | .hbm, ⟨20, _⟩ => ⟨S4x3072, .f32⟩
  | .hbm, ⟨21, _⟩ => ⟨S4x3072, .f32⟩
  | .hbm, ⟨22, _⟩ => ⟨S_, .f32⟩
  | .hbm, ⟨23, _⟩ => ⟨S4x3072, .f32⟩
  | .hbm, ⟨24, _⟩ => ⟨S4x3072, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072, .f32⟩
  | .hbm, ⟨30, _⟩ => ⟨S_, .f32⟩
  | .hbm, ⟨31, _⟩ => ⟨S4x3072, .f32⟩
  | .hbm, ⟨32, _⟩ => ⟨S4x3072, .f32⟩
  | .hbm, ⟨33, _⟩ => ⟨S4x3072, .f32⟩
  | .hbm, ⟨34, _⟩ => ⟨S_, .f32⟩
  | .hbm, ⟨35, _⟩ => ⟨S4x3072, .f32⟩
  | .hbm, ⟨36, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamlKernel.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamlReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwKernel.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 15
  | .vmem => 22
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .bf16⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwReferenceIdeal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S4x128x1024, .f32⟩
  | .hbm, ⟨20, _⟩ => ⟨S_, .f32⟩
  | .hbm, ⟨21, _⟩ => ⟨S4x128x1024, .f32⟩
  | .hbm, ⟨22, _⟩ => ⟨S4x128x1024, .f32⟩
  | .hbm, ⟨23, _⟩ => ⟨S_, .f32⟩
  | .hbm, ⟨24, _⟩ => ⟨S4x128x1024, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamuKernel.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 15
  | .vmem => 22
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .bf16⟩
  | .hbm, ⟨8, _⟩ => ⟨S8x1024x512, .bf16⟩
  | .hbm, ⟨9, _⟩ => ⟨S8x1024x512, .bf16⟩
  | .hbm, ⟨10, _⟩ => ⟨S8x1024x512, .bf16⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamuReferenceIdeal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S4x1024x512, .f32⟩
  | .hbm, ⟨20, _⟩ => ⟨S_, .f32⟩
  | .hbm, ⟨21, _⟩ => ⟨S4x1024x512, .f32⟩
  | .hbm, ⟨22, _⟩ => ⟨S4x1024x512, .f32⟩
  | .hbm, ⟨23, _⟩ => ⟨S_, .f32⟩
  | .hbm, ⟨24, _⟩ => ⟨S4x1024x512, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S_, .f32⟩
  | .hbm, ⟨39, _⟩ => ⟨S4x1024x512, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdambKernel.lean ====
abbrev S8x3x512x128 : Shape := ⟨4, ![8, 3, 512, 128]⟩
abbrev S4x3x512x128 : Shape := ⟨4, ![4, 3, 512, 128]⟩
abbrev S8x1536x128 : Shape := ⟨3, ![8, 1536, 128]⟩
abbrev S4x1536x128 : Shape := ⟨3, ![4, 1536, 128]⟩
abbrev S8x512x128 : Shape := ⟨3, ![8, 512, 128]⟩
abbrev S1x512x128 : Shape := ⟨3, ![1, 512, 128]⟩
abbrev S512x128 : Shape := ⟨2, ![512, 128]⟩

abbrev nBuf : Space → Nat
  | .hbm => 22
  | .vmem => 22
  | .smem => 0
  | _ => 0

abbrev bufTy : (tb : Table) → Fin (tcTables nBuf tb) → BufTy
  | .hbm, ⟨0, _⟩ => ⟨S8x3x512x128, .f32⟩
  | .hbm, ⟨1, _⟩ => ⟨S8x3x512x128, .f32⟩
  | .hbm, ⟨2, _⟩ => ⟨S8x3x512x128, .f32⟩
  | .hbm, ⟨3, _⟩ => ⟨S8x3x512x128, .f32⟩
  | .hbm, ⟨4, _⟩ => ⟨S4x3x512x128, .f32⟩
  | .hbm, ⟨5, _⟩ => ⟨S4x3x512x128, .f32⟩
  | .hbm, ⟨6, _⟩ => ⟨S4x3x512x128, .f32⟩
  | .hbm, ⟨7, _⟩ => ⟨S8x1536x128, .f32⟩
  | .hbm, ⟨8, _⟩ => ⟨S8x1536x128, .bf16⟩
  | .hbm, ⟨9, _⟩ => ⟨S8x1536x128, .f32⟩
  | .hbm, ⟨10, _⟩ => ⟨S8x1536x128, .bf16⟩
  | .hbm, ⟨11, _⟩ => ⟨S8x1536x128, .f32⟩
  | .hbm, ⟨12, _⟩ => ⟨S8x1536x128, .bf16⟩
  | .hbm, ⟨13, _⟩ => ⟨S8x1536x128, .f32⟩
  | .hbm, ⟨14, _⟩ => ⟨S8x1536x128, .bf16⟩
  | .hbm, ⟨15, _⟩ => ⟨S4x1536x128, .f32⟩
  | .hbm, ⟨16, _⟩ => ⟨S4x1536x128, .f32⟩
  | .hbm, ⟨17, _⟩ => ⟨S4x1536x128, .f32⟩
  | .hbm, ⟨18, _⟩ => ⟨S4x1536x128, .f32⟩
  | .hbm, ⟨19, _⟩ => ⟨S4x1536x128, .f32⟩
  | .hbm, ⟨20, _⟩ => ⟨S4x1536x128, .f32⟩
  | .hbm, ⟨21, _⟩ => ⟨S4x1536x128, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | _, _ => ⟨S8x3x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdambReferenceIdeal.lean ====
abbrev S8x3x512x128 : Shape := ⟨4, ![8, 3, 512, 128]⟩
abbrev S4x3x512x128 : Shape := ⟨4, ![4, 3, 512, 128]⟩
abbrev S_ : Shape := ⟨0, ![]⟩
abbrev S3x512x128 : Shape := ⟨3, ![3, 512, 128]⟩
abbrev S1x3x512x128 : Shape := ⟨4, ![1, 3, 512, 128]⟩
abbrev S4x1536x128 : Shape := ⟨3, ![4, 1536, 128]⟩

abbrev nBuf : Space → Nat
  | .hbm => 57
  | .vmem => 0
  | .smem => 0
  | _ => 0

abbrev bufTy : (tb : Table) → Fin (tcTables nBuf tb) → BufTy
  | .hbm, ⟨0, _⟩ => ⟨S8x3x512x128, .f32⟩
  | .hbm, ⟨1, _⟩ => ⟨S8x3x512x128, .f32⟩
  | .hbm, ⟨2, _⟩ => ⟨S8x3x512x128, .f32⟩
  | .hbm, ⟨3, _⟩ => ⟨S8x3x512x128, .f32⟩
  | .hbm, ⟨4, _⟩ => ⟨S4x3x512x128, .f32⟩
  | .hbm, ⟨5, _⟩ => ⟨S4x3x512x128, .f32⟩
  | .hbm, ⟨6, _⟩ => ⟨S4x3x512x128, .f32⟩
  | .hbm, ⟨7, _⟩ => ⟨S_, .f32⟩
  | .hbm, ⟨8, _⟩ => ⟨S3x512x128, .f32⟩
  | .hbm, ⟨9, _⟩ => ⟨S_, .f32⟩
  | .hbm, ⟨10, _⟩ => ⟨S3x512x128, .f32⟩
  | .hbm, ⟨11, _⟩ => ⟨S_, .f32⟩
  | .hbm, ⟨12, _⟩ => ⟨S3x512x128, .f32⟩
  | .hbm, ⟨13, _⟩ => ⟨S_, .f32⟩
  | .hbm, ⟨14, _⟩ => ⟨S3x512x128, .f32⟩
  | .hbm, ⟨15, _⟩ => ⟨S1x3x512x128, .f32⟩
  | .hbm, ⟨16, _⟩ => ⟨S1x3x512x128, .f32⟩
  | .hbm, ⟨17, _⟩ => ⟨S1x3x512x128, .f32⟩
  | .hbm, ⟨18, _⟩ => ⟨S1x3x512x128, .f32⟩
  | .hbm, ⟨19, _⟩ => ⟨S4x3x512x128, .f32⟩
  | .hbm, ⟨20, _⟩ => ⟨S_, .f32⟩
  | .hbm, ⟨21, _⟩ => ⟨S4x3x512x128, .f32⟩
  | .hbm, ⟨22, _⟩ => ⟨S4x3x512x128, .f32⟩
  | .hbm, ⟨23, _⟩ => ⟨S_, .f32⟩
  | .hbm, ⟨24, _⟩ => ⟨S4x3x512x128, .f32⟩
  | .hbm, ⟨25, _⟩ => ⟨S4x3x512x128, .f32⟩
  | .hbm, ⟨26, _⟩ => ⟨S4x3x512x128, .f32⟩
  | .hbm, ⟨27, _⟩ => ⟨S_, .f32⟩
  | .hbm, ⟨28, _⟩ => ⟨S4x3x512x128, .f32⟩
  | .hbm, ⟨29, _⟩ => ⟨S4x3x512x128, .f32⟩
  | .hbm, ⟨30, _⟩ => ⟨S4x3x512x128, .f32⟩
  | .hbm, ⟨31, _⟩ => ⟨S_, .f32⟩
  | .hbm, ⟨32, _⟩ => ⟨S4x3x512x128, .f32⟩
  | .hbm, ⟨33, _⟩ => ⟨S4x3x512x128, .f32⟩
  | .hbm, ⟨34, _⟩ => ⟨S4x3x512x128, .f32⟩
  | .hbm, ⟨35, _⟩ => ⟨S_, .f32⟩
  | .hbm, ⟨36, _⟩ => ⟨S4x3x512x128, .f32⟩
  | .hbm, ⟨37, _⟩ => ⟨S4x3x512x128, .f32⟩
  | .hbm, ⟨38, _⟩ => ⟨S_, .f32⟩
  | .hbm, ⟨39, _⟩ => ⟨S4x3x512x128, .f32⟩
  | .hbm, ⟨40, _⟩ => ⟨S4x3x512x128, .f32⟩
  | .hbm, ⟨41, _⟩ => ⟨S4x3x512x128, .f32⟩
  | .hbm, ⟨42, _⟩ => ⟨S_, .f32⟩
  | .hbm, ⟨43, _⟩ => ⟨S4x3x512x128, .f32⟩
  | .hbm, ⟨44, _⟩ => ⟨S4x3x512x128, .f32⟩
  | .hbm, ⟨45, _⟩ => ⟨S4x3x512x128, .f32⟩
  | .hbm, ⟨46, _⟩ => ⟨S_, .f32⟩
  | .hbm, ⟨47, _⟩ => ⟨S4x3x512x128, .f32⟩
  | .hbm, ⟨48, _⟩ => ⟨S4x3x512x128, .f32⟩
  | .hbm, ⟨49, _⟩ => ⟨S4x3x512x128, .f32⟩
  | .hbm, ⟨50, _⟩ => ⟨S_, .f32⟩
  | .hbm, ⟨51, _⟩ => ⟨S4x3x512x128, .f32⟩
  | .hbm, ⟨52, _⟩ => ⟨S4x3x512x128, .f32⟩
  | .hbm, ⟨53, _⟩ => ⟨S4x1536x128, .f32⟩
  | .hbm, ⟨54, _⟩ => ⟨S4x1536x128, .f32⟩
  | .hbm, ⟨55, _⟩ => ⟨S4x1536x128, .f32⟩
  | .hbm, ⟨56, _⟩ => ⟨S4x1536x128, .f32⟩
  | _, _ => ⟨S8x3x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== SumdKernel.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .local _ .vmem, ⟨0, _⟩ => ⟨S8x48x1024, .f32⟩
  | .local _ .vmem, ⟨1, _⟩ => ⟨S48x1024, .f32⟩
  | _, _ => ⟨S8x48x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumdReferenceIdeal.lean ====
abbrev S8x48x1024 : Shape := ⟨3, ![8, 48, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S_, .f32⟩
  | .hbm, ⟨2, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HgrnbKernel.lean ====
abbrev S8192x7168 : Shape := ⟨2, ![8192, 7168]⟩
abbrev S2x4096x512 : Shape := ⟨3, ![2, 4096, 512]⟩
abbrev S1x512 : Shape := ⟨2, ![1, 512]⟩
abbrev S1x128 : Shape := ⟨2, ![1, 128]⟩
abbrev S4x2x128x128x128 : Shape := ⟨5, ![4, 2, 128, 128, 128]⟩
abbrev S2x4096x7168 : Shape := ⟨3, ![2, 4096, 7168]⟩
abbrev S2x4096x2048 : Shape := ⟨3, ![2, 4096, 2048]⟩
abbrev S2x128x512 : Shape := ⟨3, ![2, 128, 512]⟩
abbrev S4x2x4x128x128 : Shape := ⟨5, ![4, 2, 4, 128, 128]⟩
abbrev S2x128x2048 : Shape := ⟨3, ![2, 128, 2048]⟩
abbrev S8x128x128 : Shape := ⟨3, ![8, 128, 128]⟩
abbrev S128x128 : Shape := ⟨2, ![128, 128]⟩
abbrev S1x128x128 : Shape := ⟨3, ![1, 128, 128]⟩
abbrev S4x32x128 : Shape := ⟨3, ![4, 32, 128]⟩
abbrev S4x1x128 : Shape := ⟨3, ![4, 1, 128]⟩
abbrev S128 : Shape := ⟨1, ![128]⟩
abbrev S128x1 : Shape := ⟨2, ![128, 1]⟩
abbrev S1x1x1x128x128 : Shape := ⟨5, ![1, 1, 1, 128, 128]⟩
abbrev S32x128 : Shape := ⟨2, ![32, 128]⟩
abbrev S4x128 : Shape := ⟨2, ![4, 128]⟩

abbrev nBuf : Space → Nat
  | .hbm => 11
  | .vmem => 21
  | .smem => 0
  | _ => 0

abbrev bufTy : (tb : Table) → Fin (tcTables nBuf tb) → BufTy
  | .hbm, ⟨0, _⟩ => ⟨S8192x7168, .bf16⟩
  | .hbm, ⟨1, _⟩ => ⟨S2x4096x512, .f32⟩
  | .hbm, ⟨2, _⟩ => ⟨S1x512, .f32⟩
  | .hbm, ⟨3, _⟩ => ⟨S1x128, .f32⟩
  | .hbm, ⟨4, _⟩ => ⟨S2x4096x512, .f32⟩
  | .hbm, ⟨5, _⟩ => ⟨S4x2x128x128x128, .bf16⟩
  | .hbm, ⟨6, _⟩ => ⟨S2x4096x512, .bf16⟩
  | .hbm, ⟨7, _⟩ => ⟨S2x4096x7168, .bf16⟩
  | .hbm, ⟨8, _⟩ => ⟨S2x4096x2048, .bf16⟩
  | .hbm, ⟨9, _⟩ => ⟨S1x512, .f32⟩
  | .hbm, ⟨10, _⟩ => ⟨S1x128, .f32⟩
  | .local _ .vmem, ⟨0, _⟩ => ⟨S2x128x512, .bf16⟩
  | .local _ .vmem, ⟨1, _⟩ => ⟨S2x128x512, .bf16⟩
  | .local _ .vmem, ⟨2, _⟩ => ⟨S2x128x512, .f32⟩
  | .local _ .vmem, ⟨3, _⟩ => ⟨S2x128x512, .f32⟩
  | .local _ .vmem, ⟨4, _⟩ => ⟨S2x128x512, .bf16⟩
  | .local _ .vmem, ⟨5, _⟩ => ⟨S2x128x512, .bf16⟩
  | .local _ .vmem, ⟨6, _⟩ => ⟨S2x128x512, .bf16⟩
  | .local _ .vmem, ⟨7, _⟩ => ⟨S2x128x512, .bf16⟩
  | .local _ .vmem, ⟨8, _⟩ => ⟨S1x512, .f32⟩
  | .local _ .vmem, ⟨9, _⟩ => ⟨S1x128, .f32⟩
  | .local _ .vmem, ⟨10, _⟩ => ⟨S2x128x512, .f32⟩
  | .local _ .vmem, ⟨11, _⟩ => ⟨S2x128x512, .f32⟩
  | .local _ .vmem, ⟨12, _⟩ => ⟨S4x2x4x128x128, .bf16⟩
  | .local _ .vmem, ⟨13, _⟩ => ⟨S4x2x4x128x128, .bf16⟩
  | .local _ .vmem, ⟨14, _⟩ => ⟨S2x128x512, .bf16⟩
  | .local _ .vmem, ⟨15, _⟩ => ⟨S2x128x512, .bf16⟩
  | .local _ .vmem, ⟨16, _⟩ => ⟨S2x128x2048, .bf16⟩
  | .local _ .vmem, ⟨17, _⟩ => ⟨S2x128x2048, .bf16⟩
  | .local _ .vmem, ⟨18, _⟩ => ⟨S1x512, .f32⟩
  | .local _ .vmem, ⟨19, _⟩ => ⟨S1x128, .f32⟩
  | .local _ .vmem, ⟨20, _⟩ => ⟨S8x128x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c3_i32 : BitVec 32 := 3#32
  let v1 : BitVec 32 := Scalar.addi c3_i32 arg0
  let c0_i32 : BitVec 32 := 0#32
  let c0_i32_0 : BitVec 32 := 0#32
  ![c0_i32.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c5_i32 : BitVec 32 := 5#32
  let v1 : BitVec 32 := Scalar.addi c5_i32 arg0
  let c0_i32 : BitVec 32 := 0#32
  let c0_i32_0 : BitVec 32 := 0#32
  ![c0_i32.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c6_i32 : BitVec 32 := 6#32
  let v1 : BitVec 32 := Scalar.addi c6_i32 arg0
  let c0_i32 : BitVec 32 := 0#32
  let c0_i32_0 : BitVec 32 := 0#32
  ![c0_i32.toNat, v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_7 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![c0_i32.toNat, v0.toNat, arg0.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Proof.Reals.lean ====
/- Facts about the extended reals that several of the certificate's calculations use: the values of the float
   words the programs spell, and the distribution of a nonnegative real factor over sums. -/
module

public import Idealize.ShloMosaic.Lib.Pipeline.ValueKit
public import Idealize.ShloMosaic.Lib.Claim

@[expose] public section

set_option maxRecDepth 16384

noncomputable section

open Idealize.ShloMosaic

namespace Cert.Reals

theorem word_inv_1024 : Ideal.ofBits .f32 0x3A800000#32 = ((1 / 1024 : ℝ) : EReal) := by
  simp [Ideal.ofBits, Ideal.ieee]; rw [← EReal.coe_mul]; norm_num

theorem word_half : Ideal.ofBits .f32 0x3F000000#32 = ((1 / 2 : ℝ) : EReal) := by
  simp [Ideal.ofBits, Ideal.ieee]; rw [← EReal.coe_mul]; norm_num

theorem word_one : Ideal.ofBits .f32 0x3F800000#32 = (1 : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_1024 : Ideal.ofBits .f32 0x44800000#32 = ((1024 : ℝ) : EReal) := by
  simp [Ideal.ofBits, Ideal.ieee]; rw [← EReal.coe_mul]; norm_num

/-- A nonnegative real factor distributes over a sum, whatever the summands are. -/
theorem coe_mul_add {c : ℝ} (hc : 0 ≤ c) (a b : EReal) : (c : EReal) * (a + b) = c * a + c * b :=
  EReal.left_distrib_of_nonneg_of_ne_top (EReal.coe_nonneg.mpr hc) (EReal.coe_ne_top c) a b

/-- … and over a finite sum. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- The image of a finite sum of reals is the sum of the images. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is real. -/
theorem real_sum {n : ℕ} (f : Fin n → EReal) (h : ∀ i, ∃ x : ℝ, f i = x) : ∃ x : ℝ, ∑ i, f i = x := by
  choose g hg using h
  exact ⟨∑ i, g i, by rw [coe_sum]; exact Finset.sum_congr rfl fun i _ => hg i⟩

/-- A finite sum of products of reals is real. -/
theorem real_dot {n : ℕ} (f g : Fin n → EReal) (hf : ∀ i, ∃ x : ℝ, f i = x) (hg : ∀ i, ∃ x : ℝ, g i = x) :
    ∃ x : ℝ, ∑ i, f i * g i = x :=
  real_sum _ fun i => by
    obtain ⟨a, ha⟩ := hf i
    obtain ⟨b, hb⟩ := hg i
    exact ⟨a * b, by rw [ha, hb, EReal.coe_mul]⟩

/-- A sum over the two outer axes of a three-axis array, at a kept index: the double sum over those axes. -/
theorem sum_outer {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a, ∑ b, v (ix3 a b j) := by
  refine congrArg (init + ·) ((Finset.sum_filter_eq_sum_of_fiber _ (fun k : Fin n0 × Fin n1 => ix3 k.1 k.2 j)
    (fun x y e => Prod.ext (congrFun e 0) (congrFun e 1)) (fun i => ⟨fun e => ⟨(i 0, i 1), ?_⟩, ?_⟩) v).trans
    (Fintype.sum_prod_type _))
  · funext a; apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b; apply Fin.ext
    match b with
    | ⟨0, _⟩ => rfl

/-- A value whose absolute value lies under plus infinity is a real number. -/
theorem real_of_abs_lt {x : EReal} (h : max x (-x) < ⊤) : ∃ y : ℝ, x = y := by
  induction x with
  | bot => simp at h
  | coe y => exact ⟨y, rfl⟩
  | top => simp at h

/-- An absolute value the comparison finds under plus infinity is a real number's. -/
theorem real_of_cmp {x : EReal} (h : BitVec.ofBool (decide (FloatOps.absf (F := Ideal) (φ := .f32) x
    < Ideal.ofBits .f32 2139095040#32)) = 1#1) : ∃ y : ℝ, x = y := by
  refine real_of_abs_lt ?_
  have ht : Ideal.ofBits .f32 2139095040#32 = ⊤ := by simp [Ideal.ofBits, Ideal.ieee]
  rw [ht] at h
  by_contra hn
  have hn' : ¬FloatOps.absf (F := Ideal) (φ := .f32) x < ⊤ := hn
  rw [decide_eq_false hn'] at h
  exact absurd h (by decide)

end Cert.Reals
-- ==== Proof.LossValue.lean ====
/- The loss head: what its two output arrays hold after the run, against the derivative and the value of the
   reference's mean squared error. -/
module

public import proofs.«01_k».proof.Proof.Gen.LossKernelIdeal.Value
public import proofs.«01_k».proof.Proof.Gen.LossReferenceIdeal.Run
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.LossKernelIdeal.LossValue

open Cert.LossKernelIdeal Cert.LossKernelIdeal.Gen Cert.Reals

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- The error of one token and one column. -/
abbrev err (X T : FVec Ideal S2x4096x1024 .f32) (b : Fin 2) (s : Fin 4096) (d : Fin 1024) : EReal :=
  X (ix3 b s d) - T (ix3 b s d)

/-- The gradient with respect to the prediction, row by row: the error over the row length. -/
def grad (X T : FVec Ideal S2x4096x1024 .f32) : FVec Ideal S8192x1024 .f32 := fun j =>
  err X T ⟨(j 0).val / 4096, by have h : (j 0).val < 8192 := (j 0).isLt; omega⟩ ⟨(j 0).val % 4096, by omega⟩ (j 1) * ((1 / 1024 : ℝ) : EReal)

/-- The mean square error of one row of the flattened array. -/
abbrev rowLoss (X T : FVec Ideal S2x4096x1024 .f32) (r : Fin 8192) : EReal :=
  (∑ d : Fin 1024, err X T ⟨r / 4096, by omega⟩ ⟨r % 4096, by omega⟩ d
    * err X T ⟨r / 4096, by omega⟩ ⟨r % 4096, by omega⟩ d) * ((1 / 1024 : ℝ) : EReal)

/-- The loss: half the sum of the rows' mean square errors. -/
def loss (X T : FVec Ideal S2x4096x1024 .f32) : EReal :=
  ((1 / 2 : ℝ) : EReal) * ∑ r : Fin 8192, rowLoss X T r

/-- One grid point adds its half sum of row losses to the accumulator. -/
theorem hpay (acc : FVec Ideal S8x128 .f32) (x1 x0 : FVec Ideal S512x1024 .f32) (j) :
    k0_pay4 (F := Ideal) x0 x1 acc j = acc j + ∑ r : Fin 512, ((1 / 2 : ℝ) : EReal)
      * ((∑ d : Fin 1024, (x0 (ix2 r d) - x1 (ix2 r d)) * (x0 (ix2 r d) - x1 (ix2 r d))) * ((1 / 1024 : ℝ) : EReal)) := by
  rw [← coe_mul_sum (by norm_num)]
  pointwise [k0_pay4, k0_pay2]
  rw [word_half, word_inv_1024]

theorem hzero (j) : k0_pay1 (F := Ideal) j = 0 := by
  pointwise [k0_pay1]

/-- A block of the prediction read at a row and a column: the row of the flattened array it sits at. -/
theorem blk0 (c : Dev nD) (t : Fin cfg0.N) (r : Fin 512) (d : Fin 1024) (h1 : (t.val * 512 + r.val) / 4096 < 2)
    (h2 : (t.val * 512 + r.val) % 4096 < 4096) : iblk m c 0 t (ix2 r d)
      = m ((c : Thread nD τ).loc main_arg0) (ix3 ⟨(t.val * 512 + r.val) / 4096, h1⟩ ⟨(t.val * 512 + r.val) % 4096, h2⟩ d) := by
  blk_point [iblk, V, idx t]

/-- … and of the target. -/
theorem blk1 (c : Dev nD) (t : Fin cfg0.N) (r : Fin 512) (d : Fin 1024) (h1 : (t.val * 512 + r.val) / 4096 < 2)
    (h2 : (t.val * 512 + r.val) % 4096 < 4096) : iblk m c 1 t (ix2 r d)
      = m ((c : Thread nD τ).loc main_arg1) (ix3 ⟨(t.val * 512 + r.val) / 4096, h1⟩ ⟨(t.val * 512 + r.val) % 4096, h2⟩ d) := by
  blk_point [iblk, V, idx t]

/-- A row and a column of a point's block of the gradient sit at that row of the point's stretch. -/
theorem emb2 (t : Fin cfg0.N) (r : Fin 512) (d : Fin 1024) (h : t.val * 512 + r.val < 8192) :
    ((cfg0.win 2).blk t).view.emb (ix2 r d) = ix2 ⟨t.val * 512 + r.val, h⟩ d := by
  blk_ext [idx t]

theorem point_grad (c : Dev nD) (t : Fin cfg0.N) (y) :
    k0_pay3 (F := Ideal) (iblk m c 0 t) (iblk m c 1 t) y
      = grad (m ((c : Thread nD τ).loc main_arg0)) (m ((c : Thread nD τ).loc main_arg1))
        (((cfg0.win 2).blk t).view.emb y) := by
  obtain ⟨r, d, rfl⟩ : ∃ (r : Fin 512) (d : Fin 1024), y = ix2 r d := ⟨_, _, eq_ix2 y⟩
  pointwise [k0_pay3, k0_pay2]
  unfold grad err
  rw [word_inv_1024, emb2 t r d (by have : t.val < 16 := t.isLt; omega), blk0 m c t r d (by have : t.val < 16 := t.isLt; omega) (by omega),
    blk1 m c t r d (by have : t.val < 16 := t.isLt; omega) (by omega)]
  rfl

theorem final_grad (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 16 = 0
  · rw [outsAt0_A m c t h]
    frame_out
    exact point_grad m c t y
  · rw [outsAt0_B m c t h]
    frame_out
    exact point_grad m c t y

theorem final_loss (c : Dev nD) (j) : (dats m 0 c).arrAt 3 (cfgs 0).N j
    = loss (m ((c : Thread nD τ).loc main_arg0)) (m ((c : Thread nD τ).loc main_arg1)) := by
  revert j
  rw [← funext_iff (g := fun _ => _)]
  refine (dats m 0 c).arrAt_eq_of_after_last 3 t0_15 (by decide +kernel) _ fun j => ?_
  blk_simp
  rw [after0_3, Pipeline.eq_sum_fin_of_reset_step_apply_last (f := fun n h => (outsAt0 m c n h).2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  unfold loss
  rw [coe_mul_sum (by norm_num)]
  refine Fin.sum_mul_add_congr (S := 16) fun t k hl => ?_
  unfold rowLoss err
  blk_point [iblk, V, idx t]

theorem ref_grad (X T : FVec Ideal Cert.LossReferenceIdeal.S2x4096x1024 .f32) :
    (shapeCast Cert.LossReferenceIdeal.S8192x1024 (mulf (broadcastInDim Cert.LossReferenceIdeal.S2x4096x1024 ![0, 1] Cert.LossReferenceIdeal.Gen.bcast_S2x4096_S2x4096x1024_0_1 (Host.divf (broadcastInDim Cert.LossReferenceIdeal.S2x4096 ![] Cert.LossReferenceIdeal.Gen.bcast_S_S2x4096 (mulf (constant Cert.LossReferenceIdeal.S_ .f32 0x3F000000#32) (constant Cert.LossReferenceIdeal.S_ .f32 0x3F800000#32))) (broadcastInDim Cert.LossReferenceIdeal.S2x4096 ![] Cert.LossReferenceIdeal.Gen.bcast_S_S2x4096 (constant Cert.LossReferenceIdeal.S_ .f32 0x44800000#32)))) (mulf (broadcastInDim Cert.LossReferenceIdeal.S2x4096x1024 ![] Cert.LossReferenceIdeal.Gen.bcast_S_S2x4096x1024 (constant Cert.LossReferenceIdeal.S_ .f32 0x40000000#32)) (subf X T))) Cert.LossReferenceIdeal.Gen.shapeCasts_S2x4096x1024_S8192x1024 : FVec Ideal Cert.LossReferenceIdeal.S8192x1024 .f32) = grad X T := by
  funext j
  pointwise
  rw [word_half, word_1024, word_two, Ideal.div_coe (by norm_num), ← EReal.coe_mul, ← mul_assoc, ← EReal.coe_mul]
  show _ = err X T _ _ _ * _
  rw [mul_comm]
  norm_num

theorem ref_loss (X T : FVec Ideal Cert.LossReferenceIdeal.S2x4096x1024 .f32) (j) :
    (broadcastInDim Cert.LossReferenceIdeal.S8x128 ![] Cert.LossReferenceIdeal.Gen.bcast_S_S8x128 (mulf (constant Cert.LossReferenceIdeal.S_ .f32 0x3F000000#32) (Host.reduceAdd (Host.divf (Host.reduceAdd (mulf (subf X T) (subf X T)) (constant Cert.LossReferenceIdeal.S_ .f32 0x00000000#32) Cert.LossReferenceIdeal.Gen.reducesTo_S2x4096x1024_S2x4096_d2 Cert.LossReferenceIdeal.Gen.h_S_) (broadcastInDim Cert.LossReferenceIdeal.S2x4096 ![] Cert.LossReferenceIdeal.Gen.bcast_S_S2x4096 (constant Cert.LossReferenceIdeal.S_ .f32 0x44800000#32))) (constant Cert.LossReferenceIdeal.S_ .f32 0x00000000#32) Cert.LossReferenceIdeal.Gen.reducesTo_S2x4096_S_d0_1 Cert.LossReferenceIdeal.Gen.h_S_)) : FVec Ideal Cert.LossReferenceIdeal.S8x128 .f32) j = loss X T := by
  pointwise
  unfold loss
  rw [word_half, word_1024]
  congr 1
  refine (Fin.sum_divmod_congr (S := 4096) (A := 2) (N := 8192) fun r ha hs => ?_).symm
  rw [Ideal.div_coe (by norm_num)]

end Cert.LossKernelIdeal.LossValue
-- ==== Proof.LossClaim.lean ====
/- The five claims about the loss head. -/
module

public import proofs.«01_k».proof.Defs
public import proofs.«01_k».proof.Proof.Gen.LossKernel
public import proofs.«01_k».proof.Proof.Gen.LossKernel.Frame
public import proofs.«01_k».proof.Proof.LossValue

@[expose] public section

noncomputable section

open Idealize.ShloMosaic Idealize.SL.Sem

namespace Cert.Proof

theorem frame_loss : quiescent_LossKernel := fun m ρ _ => Cert.LossKernel.Gen.frame m ρ

theorem frame_lossIdeal : quiescent_LossKernelIdeal := fun m ρ _ => Cert.LossKernelIdeal.Gen.frame m ρ

theorem frame_lossReference : quiescent_LossReferenceIdeal := fun m ρ _ =>
  (θ_run Cert.LossReferenceIdeal.defs _ _).mono
    (fun r h => ⟨fun c => (h c).2.2, sem_eq_zero_of_no_sems (by decide) r.2⟩)
    (Cert.LossReferenceIdeal.Value.run (F := Ideal) m ρ)

/-- Both results: the gradient with respect to the prediction, and the loss on every entry of its tile. -/
theorem algebraic_loss : algebraic_LossKernelIdeal_LossReferenceIdeal := by
  pair_intro
  · run_from Cert.LossKernelIdeal.Value.run_blocks m g
  · run_from Cert.LossReferenceIdeal.Value.run m' g'
    · exact (Cert.LossKernelIdeal.LossValue.ref_grad _ _).trans (Cert.LossKernelIdeal.LossValue.final_grad m c).symm
    · funext j
      exact (Cert.LossKernelIdeal.LossValue.ref_loss _ _ j).trans (Cert.LossKernelIdeal.LossValue.final_loss m c j).symm

end Cert.Proof

end
-- ==== Proof.AttnRow.lean ====
/- One row of softmax attention in one head, over the extended reals: the probabilities, and the derivative with
   respect to the scores in the two shapes the programs spell, equal where the row's data are real numbers. -/
module

public import proofs.«01_k».proof.Proof.Reals

@[expose] public section

set_option maxRecDepth 16384

noncomputable section

open Idealize.ShloMosaic

namespace Cert.AttnRow

open Cert.Reals

/-- The factor on the scores, the float word nearest to one over the square root of 128. -/
abbrev W : EReal := Ideal.ofBits .f32 1035273459#32

/-- Minus infinity, where the row's maximum starts. -/
abbrev NI : EReal := Ideal.ofBits .f32 4286578688#32

theorem NI_eq : NI = ⊥ := by
  simp [NI, Ideal.ofBits, Ideal.ieee]

theorem W_real : ∃ w : ℝ, W = (w : EReal) := by
  simp only [W, Ideal.ofBits, Ideal.ieee]
  simp
  rw [← EReal.coe_mul]
  exact ⟨_, rfl⟩

variable (q dy : Fin 128 → EReal) (k v : Fin 256 → Fin 128 → EReal)

/-- The score of one memory slot. -/
def rs (n : Fin 256) : EReal := (∑ d, q d * k n d) * W

/-- The row's largest score. -/
def rm : EReal := Finset.fold max NI (fun n => rs q k n) Finset.univ

/-- The exponential of a score less the largest. -/
def rx (n : Fin 256) : EReal := Ideal.exp (rs q k n - rm q k)

/-- The probability of one slot. -/
def rp (n : Fin 256) : EReal := Ideal.div (rx q k n) (∑ n', rx q k n')

/-- The derivative with respect to the probability of one slot. -/
def rdp (n : Fin 256) : EReal := ∑ d, dy d * v n d

/-- The derivative with respect to the product of the query and one slot. -/
def rds (n : Fin 256) : EReal :=
  rp q k n * (rdp dy v n - ∑ n', rdp dy v n' * rp q k n') * W

/-- Starting the maximum at minus infinity twice changes nothing. -/
theorem max_rm : max NI (rm q k) = rm q k := by
  rw [NI_eq]; exact max_bot_left _

/-- The two shapes of the derivative with respect to the scores agree on real rows. -/
theorem rds_eq (hq : ∀ d, ∃ x : ℝ, q d = x) (hk : ∀ n d, ∃ x : ℝ, k n d = x)
    (hdy : ∀ d, ∃ x : ℝ, dy d = x) (hv : ∀ n d, ∃ x : ℝ, v n d = x) (n : Fin 256) :
    (Ideal.div (rdp dy v n) (∑ n', rx q k n')
      + -∑ n', rdp dy v n' * Ideal.div 1 ((∑ n', rx q k n') * ∑ n', rx q k n') * rx q k n') * rx q k n * W
    = rds q dy k v n := by
  obtain ⟨w, hw⟩ := W_real
  have hs : ∀ n, ∃ x : ℝ, rs q k n = x := fun n => by
    obtain ⟨a, ha⟩ := real_dot _ _ hq (hk n)
    exact ⟨a * w, by rw [rs, ha, hw, EReal.coe_mul]⟩
  have hp : ∀ n, ∃ x : ℝ, rdp dy v n = x := fun n => real_dot _ _ hdy (hv n)
  choose s hs using hs
  choose p hp using hp
  have hm : ∃ x : ℝ, rm q k = x := by
    have h1 : rm q k < ⊤ := by
      refine Finset.fold_max_lt ⊤ |>.mpr ⟨by rw [NI_eq]; exact bot_lt_top, fun i _ => ?_⟩
      rw [hs i]; exact EReal.coe_lt_top _
    have h2 : ⊥ < rm q k :=
      Finset.lt_fold_max ⊥ |>.mpr (.inr ⟨0, Finset.mem_univ _, by rw [hs 0]; exact EReal.bot_lt_coe _⟩)
    exact ⟨(rm q k).toReal, (EReal.coe_toReal h1.ne h2.ne').symm⟩
  obtain ⟨M, hM⟩ := hm
  have hx : ∀ n, rx q k n = ((Real.exp (s n - M) : ℝ) : EReal) := fun n => by
    rw [rx, hs, hM, ← EReal.coe_sub, Ideal.exp_coe]
  have hz : ∑ n', rx q k n' = ((∑ n', Real.exp (s n' - M) : ℝ) : EReal) := by
    rw [coe_sum]; exact Finset.sum_congr rfl fun i _ => hx i
  have hzp : (∑ n', Real.exp (s n' - M)) ≠ 0 :=
    (Finset.sum_pos (fun i _ => Real.exp_pos _) ⟨0, Finset.mem_univ _⟩).ne'
  unfold rds rp
  simp only [hx, hp, hw, ← coe_sum]
  rw [← EReal.coe_mul]
  simp only [Ideal.div_coe hzp, Ideal.div_coe (mul_ne_zero hzp hzp), one_mul, ← EReal.coe_mul, ← coe_sum,
    ← EReal.coe_neg, ← EReal.coe_add, ← EReal.coe_sub]
  congr 1
  generalize ∑ n', Real.exp (s n' - M) = Z at hzp
  have h1 : ∑ x, p x * (1 / (Z * Z)) * Real.exp (s x - M) = (1 / Z) * ∑ x, p x * (Real.exp (s x - M) * (1 / Z)) := by
    rw [Finset.mul_sum]
    exact Finset.sum_congr rfl fun i _ => by field_simp
  rw [h1]
  ring

end Cert.AttnRow

end
-- ==== Proof.AttnRef.lean ====
/- The reference of the memory attention: its four results in closed form, head by head and row by row. -/
module

public import proofs.«01_k».proof.Proof.Gen.AttnReferenceIdeal.Run
public import proofs.«01_k».proof.Proof.AttnRow

@[expose] public section

set_option maxRecDepth 16384

noncomputable section

open Idealize.ShloMosaic Idealize.ShloMosaic.TcCoe Idealize.SL.Sem Idealize.ShloMosaic.StableHlo

namespace Cert.AttnReferenceIdeal.AttnRef

open Cert.AttnReferenceIdeal Cert.AttnReferenceIdeal.Gen Cert.Reals Cert.AttnRow

/-- The scores of every token against every memory slot. -/
def score (a1 : FVec Ideal S2x4096x7168 .f32) (a2 : FVec Ideal S2x256x512 .f32) : FVec Ideal S2x4x4096x256 .f32 :=
  mulf (Host.dotGeneral dot_S2x4096x4x128_S2x256x4x128_S2x4x4096x256_3_3_1_1_02_02 none (shapeCast S2x4096x4x128 (extractStridedSlice S2x4096x512 ![0, 0, 3584] a1 slices_S2x4096x7168_S2x4096x512_0_0_3584) shapeCasts_S2x4096x512_S2x4096x4x128) (shapeCast S2x256x4x128 a2 shapeCasts_S2x256x512_S2x256x4x128)) (broadcastInDim S2x4x4096x256 ![] bcast_S_S2x4x4096x256 (constant S_ .f32 0x3DB504F3#32))

/-- The largest score of a row. -/
def mx (score_ : FVec Ideal S2x4x4096x256 .f32) : FVec Ideal S2x4x4096 .f32 :=
  Host.reduce FloatOps.maximumf score_ (constant S_ .f32 0xFF800000#32) reducesTo_S2x4x4096x256_S2x4x4096_d3 h_S_

/-- … where the maximum starts at minus infinity once more. -/
def mxx (mx_ : FVec Ideal S2x4x4096 .f32) : FVec Ideal S2x4x4096 .f32 :=
  maximumf (broadcastInDim S2x4x4096 ![] bcast_S_S2x4x4096 (constant S_ .f32 0xFF800000#32)) mx_

/-- The exponentials. -/
def ex (score_ : FVec Ideal S2x4x4096x256 .f32) (mxx_ : FVec Ideal S2x4x4096 .f32) : FVec Ideal S2x4x4096x256 .f32 :=
  Host.exp (subf score_ (broadcastInDim S2x4x4096x256 ![0, 1, 2, 3] bcast_S2x4x4096x1_S2x4x4096x256_0_1_2_3 (broadcastInDim S2x4x4096x1 ![0, 1, 2] bcast_S2x4x4096_S2x4x4096x1_0_1_2 mxx_)))

/-- The sums of a row of exponentials. -/
def tot (ex_ : FVec Ideal S2x4x4096x256 .f32) : FVec Ideal S2x4x4096 .f32 :=
  Host.reduceAdd ex_ (constant S_ .f32 0x00000000#32) reducesTo_S2x4x4096x256_S2x4x4096_d3 h_S_

/-- The probabilities. -/
def pr (ex_ : FVec Ideal S2x4x4096x256 .f32) (tot_ : FVec Ideal S2x4x4096 .f32) : FVec Ideal S2x4x4096x256 .f32 :=
  Host.divf ex_ (broadcastInDim S2x4x4096x256 ![0, 1, 2, 3] bcast_S2x4x4096x1_S2x4x4096x256_0_1_2_3 (broadcastInDim S2x4x4096x1 ![0, 1, 2] bcast_S2x4x4096_S2x4x4096x1_0_1_2 tot_))

/-- The derivative with respect to the probabilities. -/
def dp (a4 : FVec Ideal S2x4096x512 .f32) (a3 : FVec Ideal S2x256x512 .f32) : FVec Ideal S2x4x4096x256 .f32 :=
  Host.dotGeneral dot_S2x4x128x4096_S2x256x4x128_S2x4x4096x256_2_3_3_1_01_02 none (transpose S2x4x128x4096 [0, 2, 3, 1] (shapeCast S2x4096x4x128 a4 shapeCasts_S2x4096x512_S2x4096x4x128) transposes_S2x4096x4x128_S2x4x128x4096_0_2_3_1) (shapeCast S2x256x4x128 a3 shapeCasts_S2x256x512_S2x256x4x128)

/-- The values' gradient. -/
def dv4 (a4 : FVec Ideal S2x4096x512 .f32) (pr_ : FVec Ideal S2x4x4096x256 .f32) : FVec Ideal S2x256x4x128 .f32 :=
  transpose S2x256x4x128 [0, 3, 1, 2] (Host.dotGeneral dot_S2x4x128x4096_S2x4x4096x256_S2x4x128x256_3_2_2_3_01_01 none (transpose S2x4x128x4096 [0, 2, 3, 1] (shapeCast S2x4096x4x128 a4 shapeCasts_S2x4096x512_S2x4096x4x128) transposes_S2x4096x4x128_S2x4x128x4096_0_2_3_1) pr_) transposes_S2x4x128x256_S2x256x4x128_0_3_1_2

/-- The derivative with respect to the products of queries and keys. -/
def ds (dp_ : FVec Ideal S2x4x4096x256 .f32) (tot_ : FVec Ideal S2x4x4096 .f32) (ex_ : FVec Ideal S2x4x4096x256 .f32) : FVec Ideal S2x4x4096x256 .f32 :=
  mulf (mulf (addf (Host.divf dp_ (broadcastInDim S2x4x4096x256 ![0, 1, 2, 3] bcast_S2x4x4096x1_S2x4x4096x256_0_1_2_3 (broadcastInDim S2x4x4096x1 ![0, 1, 2] bcast_S2x4x4096_S2x4x4096x1_0_1_2 tot_))) (broadcastInDim S2x4x4096x256 ![0, 1, 2] bcast_S2x4x4096_S2x4x4096x256_0_1_2 (Host.reduceAdd (Host.negf (shapeCast S2x4x4096x1 (Host.reduceAdd (mulf (mulf dp_ (broadcastInDim S2x4x4096x256 ![0, 1, 2, 3] bcast_S2x4x4096x1_S2x4x4096x256_0_1_2_3 (Host.divf (broadcastInDim S2x4x4096x1 ![] bcast_S_S2x4x4096x1 (constant S_ .f32 0x3F800000#32)) (mulf (broadcastInDim S2x4x4096x1 ![0, 1, 2] bcast_S2x4x4096_S2x4x4096x1_0_1_2 tot_) (broadcastInDim S2x4x4096x1 ![0, 1, 2] bcast_S2x4x4096_S2x4x4096x1_0_1_2 tot_))))) ex_) (constant S_ .f32 0x00000000#32) reducesTo_S2x4x4096x256_S2x4x4096_d3 h_S_) shapeCasts_S2x4x4096_S2x4x4096x1)) (constant S_ .f32 0x00000000#32) reducesTo_S2x4x4096x1_S2x4x4096_d3 h_S_))) ex_) (broadcastInDim S2x4x4096x256 ![] bcast_S_S2x4x4096x256 (constant S_ .f32 0x3DB504F3#32))

/-- The keys' gradient. -/
def dk4 (ds_ : FVec Ideal S2x4x4096x256 .f32) (a1 : FVec Ideal S2x4096x7168 .f32) : FVec Ideal S2x256x4x128 .f32 :=
  transpose S2x256x4x128 [0, 2, 1, 3] (Host.dotGeneral dot_S2x4x4096x256_S2x4096x4x128_S2x4x256x128_2_1_3_3_01_02 none ds_ (shapeCast S2x4096x4x128 (extractStridedSlice S2x4096x512 ![0, 0, 3584] a1 slices_S2x4096x7168_S2x4096x512_0_0_3584) shapeCasts_S2x4096x512_S2x4096x4x128)) transposes_S2x4x256x128_S2x256x4x128_0_2_1_3

/-- The queries' gradient. -/
def dq4 (ds_ : FVec Ideal S2x4x4096x256 .f32) (a2 : FVec Ideal S2x256x512 .f32) : FVec Ideal S2x4096x4x128 .f32 :=
  transpose S2x4096x4x128 [0, 2, 1, 3] (Host.dotGeneral dot_S2x4x4096x256_S2x256x4x128_S2x4x4096x128_3_1_2_3_01_02 none ds_ (shapeCast S2x256x4x128 a2 shapeCasts_S2x256x512_S2x256x4x128)) transposes_S2x4x4096x128_S2x4096x4x128_0_2_1_3

/-- The first result. -/
def oq (dq4_ : FVec Ideal S2x4096x4x128 .f32) : FVec Ideal S8192x512 .bf16 :=
  truncf .bf16 (shapeCast S8192x512 (shapeCast S2x4096x512 dq4_ shapeCasts_S2x4096x4x128_S2x4096x512) shapeCasts_S2x4096x512_S8192x512) bitsLt_bf16_f32

/-- The second result. -/
def ok (dk4_ : FVec Ideal S2x256x4x128 .f32) : FVec Ideal S512x512 .f32 :=
  shapeCast S512x512 (shapeCast S2x256x512 dk4_ shapeCasts_S2x256x4x128_S2x256x512) shapeCasts_S2x256x512_S512x512

/-- The third result. -/
def ov (dv4_ : FVec Ideal S2x256x4x128 .f32) : FVec Ideal S512x512 .f32 :=
  shapeCast S512x512 (shapeCast S2x256x512 dv4_ shapeCasts_S2x256x4x128_S2x256x512) shapeCasts_S2x256x512_S512x512

/-- The fourth result: the weight gradient of the query projection. -/
def ogw (dq4_ : FVec Ideal S2x4096x4x128 .f32) (a0 : FVec Ideal S2x4096x1024 .f32) : FVec Ideal S1024x512 .bf16 :=
  truncf .bf16 (transpose S1024x512 [1, 0] (Host.dotGeneral dot_S2x4096x512_S2x4096x1024_S512x1024_01_01_2_2_n_n none (shapeCast S2x4096x512 dq4_ shapeCasts_S2x4096x4x128_S2x4096x512) a0) transposes_S512x1024_S1024x512_1_0) bitsLt_bf16_f32

theorem score_at (P K b h s n) : score P K (ix4 b h s n)
    = (∑ x : Fin 128, P (ix3 b s ⟨3584 + (h.val * 128 + x.val), by omega⟩) * K (ix3 b n ⟨h.val * 128 + x.val, by omega⟩)) * W := by
  pointwise [score]

theorem mx_at (P b h s) : mx P (ix3 b h s) = Finset.fold max NI (fun x => P (ix4 b h s x)) Finset.univ := by
  pointwise [mx]

theorem mxx_at (P b h s) : mxx P (ix3 b h s) = max NI (P (ix3 b h s)) := by
  pointwise [mxx]

theorem ex_at (P M b h s n) : ex P M (ix4 b h s n) = Ideal.exp (P (ix4 b h s n) - M (ix3 b h s)) := by
  pointwise [ex]

theorem tot_at (P b h s) : tot P (ix3 b h s) = ∑ x, P (ix4 b h s x) := by
  pointwise [tot]

theorem pr_at (P Z b h s n) : pr P Z (ix4 b h s n) = Ideal.div (P (ix4 b h s n)) (Z (ix3 b h s)) := by
  pointwise [pr]

theorem dp_at (P K b h s n) : dp P K (ix4 b h s n)
    = ∑ x : Fin 128, P (ix3 b s ⟨h.val * 128 + x.val, by omega⟩) * K (ix3 b n ⟨h.val * 128 + x.val, by omega⟩) := by
  pointwise [dp]

theorem ds_at (P Z E b h s n) : ds P Z E (ix4 b h s n) = (Ideal.div (P (ix4 b h s n)) (Z (ix3 b h s))
    + -∑ x, P (ix4 b h s x) * Ideal.div 1 (Z (ix3 b h s) * Z (ix3 b h s)) * E (ix4 b h s x)) * E (ix4 b h s n) * W := by
  pointwise [ds]
  rw [Fin.sum_univ_one]

theorem dk4_at (D P b n h d) : dk4 D P (ix4 b n h d)
    = ∑ x : Fin 4096, D (ix4 b h x n) * P (ix3 b x ⟨3584 + (h.val * 128 + d.val), by omega⟩) := by
  pointwise [dk4]

theorem dv4_at (Y P b n h d) : dv4 Y P (ix4 b n h d)
    = ∑ x : Fin 4096, Y (ix3 b x ⟨h.val * 128 + d.val, by omega⟩) * P (ix4 b h x n) := by
  pointwise [dv4]

theorem dq4_at (D K b s h d) : dq4 D K (ix4 b s h d)
    = ∑ x : Fin 256, D (ix4 b h s x) * K (ix3 b x ⟨h.val * 128 + d.val, by omega⟩) := by
  pointwise [dq4]

theorem oq_at (Q r d) : oq Q (ix2 r d)
    = Q (ix4 ⟨r.val / 4096, by omega⟩ ⟨r.val % 4096, by omega⟩ ⟨d.val / 128, by omega⟩ ⟨d.val % 128, by omega⟩) := by
  pointwise [oq]

theorem ok_at (Q r d) : ok Q (ix2 r d)
    = Q (ix4 ⟨r.val / 256, by omega⟩ ⟨r.val % 256, by omega⟩ ⟨d.val / 128, by omega⟩ ⟨d.val % 128, by omega⟩) := by
  pointwise [ok]

theorem ov_at (Q r d) : ov Q (ix2 r d)
    = Q (ix4 ⟨r.val / 256, by omega⟩ ⟨r.val % 256, by omega⟩ ⟨d.val / 128, by omega⟩ ⟨d.val % 128, by omega⟩) := by
  pointwise [ov]

theorem ogw_at (Q X i d) : ogw Q X (ix2 i d)
    = ∑ b : Fin 2, ∑ s : Fin 4096, Q (ix4 b s ⟨d.val / 128, by omega⟩ ⟨d.val % 128, by omega⟩) * X (ix3 b s i) := by
  pointwise [ogw]

/-- The query row of one token in one head. -/
def qrow (P : FVec Ideal S2x4096x7168 .f32) (b : Fin 2) (s : Fin 4096) (h : Fin 4) : Fin 128 → EReal := fun d =>
  P (ix3 b s ⟨3584 + (h.val * 128 + d.val), by omega⟩)

/-- The memory's rows in one head. -/
def krow (K : FVec Ideal S2x256x512 .f32) (b : Fin 2) (h : Fin 4) : Fin 256 → Fin 128 → EReal := fun n d =>
  K (ix3 b n ⟨h.val * 128 + d.val, by omega⟩)

/-- The cotangent's row of one token in one head. -/
def yrow (Y : FVec Ideal S2x4096x512 .f32) (b : Fin 2) (s : Fin 4096) (h : Fin 4) : Fin 128 → EReal := fun d =>
  Y (ix3 b s ⟨h.val * 128 + d.val, by omega⟩)

section Closed

variable (X : FVec Ideal S2x4096x1024 .f32) (P : FVec Ideal S2x4096x7168 .f32) (K V : FVec Ideal S2x256x512 .f32)
  (Y : FVec Ideal S2x4096x512 .f32)

/-- The derivative with respect to the product of one token's query and one memory slot. -/
def DS (b : Fin 2) (s : Fin 4096) (h : Fin 4) (n : Fin 256) : EReal :=
  rds (qrow P b s h) (yrow Y b s h) (krow K b h) (krow V b h) n

/-- The gradient of one token's query. -/
def GQ (b : Fin 2) (s : Fin 4096) (h : Fin 4) (d : Fin 128) : EReal :=
  ∑ n, DS P K V Y b s h n * krow K b h n d

/-- The gradient of one memory key: every token of its sequence adds to it. -/
def GK (b : Fin 2) (n : Fin 256) (h : Fin 4) (d : Fin 128) : EReal :=
  ∑ s, DS P K V Y b s h n * qrow P b s h d

/-- The gradient of one memory value. -/
def GV (b : Fin 2) (n : Fin 256) (h : Fin 4) (d : Fin 128) : EReal :=
  ∑ s, rp (qrow P b s h) (krow K b h) n * yrow Y b s h d

/-- The weight gradient of the query projection: every token of both sequences adds to it. -/
def GW (i : Fin 1024) (h : Fin 4) (d : Fin 128) : EReal :=
  ∑ b : Fin 2, ∑ s : Fin 4096, X (ix3 b s i) * GQ P K V Y b s h d

/-- The arguments are real numbers where the gradients read them. -/
def Real' : Prop :=
  (∀ b s (h : Fin 4) d, ∃ x : ℝ, qrow P b s h d = x) ∧ (∀ b (h : Fin 4) n d, ∃ x : ℝ, krow K b h n d = x)
    ∧ (∀ b (h : Fin 4) n d, ∃ x : ℝ, krow V b h n d = x) ∧ ∀ b s (h : Fin 4) d, ∃ x : ℝ, yrow Y b s h d = x

/-- The reference's exponentials, their sums, the probabilities and the scores' derivative, from the arguments. -/
abbrev E' := ex (score P K) (mxx (mx (score P K)))

abbrev DS' := ds (dp Y V) (tot (E' P K)) (E' P K)

theorem E'_at (b h s n) : E' P K (ix4 b h s n) = rx (qrow P b s h) (krow K b h) n := by
  have hs : ∀ n, score P K (ix4 b h s n) = rs (qrow P b s h) (krow K b h) n := fun n => score_at P K b h s n
  have hm : mxx (mx (score P K)) (ix3 b h s) = rm (qrow P b s h) (krow K b h) := by
    rw [mxx_at, mx_at]
    simp only [hs]
    exact max_rm _ _
  rw [E', ex_at, hs, hm, rx]

theorem tot_E' (b h s) : tot (E' P K) (ix3 b h s) = ∑ n, rx (qrow P b s h) (krow K b h) n := by
  rw [tot_at]
  exact Finset.sum_congr rfl fun n _ => E'_at P K b h s n

theorem DS'_at (hr : Real' P K V Y) (b h s n) : DS' P K V Y (ix4 b h s n) = DS P K V Y b s h n := by
  have hp : ∀ n, dp Y V (ix4 b h s n) = rdp (yrow Y b s h) (krow V b h) n := fun n => dp_at Y V b h s n
  rw [DS', ds_at, tot_E']
  simp only [hp, E'_at]
  exact rds_eq _ _ _ _ (hr.1 b s h) (hr.2.1 b h) (hr.2.2.2 b s h) (hr.2.2.1 b h) n

theorem q_at (hr : Real' P K V Y) (b s h d) : dq4 (DS' P K V Y) K (ix4 b s h d) = GQ P K V Y b s h d := by
  rw [dq4_at]
  exact Finset.sum_congr rfl fun n _ => by rw [DS'_at P K V Y hr]; rfl

theorem k_at (hr : Real' P K V Y) (b n h d) : dk4 (DS' P K V Y) P (ix4 b n h d) = GK P K V Y b n h d := by
  rw [dk4_at]
  exact Finset.sum_congr rfl fun n _ => by rw [DS'_at P K V Y hr]; rfl

theorem v_at (b n h d) : dv4 Y (pr (E' P K) (tot (E' P K))) (ix4 b n h d) = GV P K Y b n h d := by
  rw [dv4_at]
  exact Finset.sum_congr rfl fun n _ => by rw [pr_at, tot_E', E'_at, mul_comm]; rfl

theorem w_at (hr : Real' P K V Y) (i d) : ogw (dq4 (DS' P K V Y) K) X (ix2 i d)
    = GW X P K V Y i ⟨d.val / 128, by omega⟩ ⟨d.val % 128, by omega⟩ := by
  rw [ogw_at]
  exact Finset.sum_congr rfl fun b _ => Finset.sum_congr rfl fun s _ => by rw [q_at P K V Y hr, mul_comm]

end Closed

end Cert.AttnReferenceIdeal.AttnRef

end
-- ==== Proof.AttnValue.lean ====
/- The backward call of the memory attention: what its four output arrays hold after the run — the queries'
   gradient block by block, the keys' and the values' gradients summed over a sequence's blocks, and the weight
   gradient summed over all blocks. -/
module

public import proofs.«01_k».proof.Proof.Gen.AttnKernelIdeal.Value
public import proofs.«01_k».proof.Proof.AttnRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnKernelIdeal.AttnValue

open Cert.AttnKernelIdeal Cert.AttnKernelIdeal.Gen Cert.Reals Cert.AttnRow
open Cert.AttnReferenceIdeal.AttnRef (qrow krow yrow GQ GK GV GW)

theorem idx : ∀ t : Fin cfg0.N, win0_0.index t = ![t.val, 7] ∧ win0_1.index t = ![t.val / 4, 0]
    ∧ win0_2.index t = ![t.val / 4, 0] ∧ win0_3.index t = ![t.val, 0] ∧ win0_4.index t = ![t.val, 0]
    ∧ win0_5.index t = ![t.val, 0] ∧ win0_6.index t = ![t.val / 4, 0] ∧ win0_7.index t = ![t.val / 4, 0]
    ∧ win0_8.index t = ![0, 0] :=
  (by decide +kernel : ∀ t : Fin grid0.N, _)

/-- Head 0's lanes of a block of tokens and of a block of memory slots. -/
def lq0 (x : FVec Ideal S1024x512 .bf16) : FVec Ideal S1024x128 .bf16 :=
  View.ld (Val := Elt Ideal) (e' := .bf16) x (Rect.unit ![0, 0] ![1024, 128] inb_S1024x512_S1024x128_0_0)

def lk0 (x : FVec Ideal S256x512 .bf16) : FVec Ideal S256x128 .bf16 :=
  View.ld (Val := Elt Ideal) (e' := .bf16) x (Rect.unit ![0, 0] ![256, 128] inb_S256x512_S256x128_0_0)

/-- Head 1's lanes of a block of tokens and of a block of memory slots. -/
def lq1 (x : FVec Ideal S1024x512 .bf16) : FVec Ideal S1024x128 .bf16 :=
  View.ld (Val := Elt Ideal) (e' := .bf16) x (Rect.unit ![0, 128] ![1024, 128] inb_S1024x512_S1024x128_0_128)

def lk1 (x : FVec Ideal S256x512 .bf16) : FVec Ideal S256x128 .bf16 :=
  View.ld (Val := Elt Ideal) (e' := .bf16) x (Rect.unit ![0, 128] ![256, 128] inb_S256x512_S256x128_0_128)

/-- Head 2's lanes of a block of tokens and of a block of memory slots. -/
def lq2 (x : FVec Ideal S1024x512 .bf16) : FVec Ideal S1024x128 .bf16 :=
  View.ld (Val := Elt Ideal) (e' := .bf16) x (Rect.unit ![0, 256] ![1024, 128] inb_S1024x512_S1024x128_0_256)

def lk2 (x : FVec Ideal S256x512 .bf16) : FVec Ideal S256x128 .bf16 :=
  View.ld (Val := Elt Ideal) (e' := .bf16) x (Rect.unit ![0, 256] ![256, 128] inb_S256x512_S256x128_0_256)

/-- Head 3's lanes of a block of tokens and of a block of memory slots. -/
def lq3 (x : FVec Ideal S1024x512 .bf16) : FVec Ideal S1024x128 .bf16 :=
  View.ld (Val := Elt Ideal) (e' := .bf16) x (Rect.unit ![0, 384] ![1024, 128] inb_S1024x512_S1024x128_0_384)

def lk3 (x : FVec Ideal S256x512 .bf16) : FVec Ideal S256x128 .bf16 :=
  View.ld (Val := Elt Ideal) (e' := .bf16) x (Rect.unit ![0, 384] ![256, 128] inb_S256x512_S256x128_0_384)

section Tile

variable (x0 x3 : FVec Ideal S1024x512 .bf16) (x1 x2 : FVec Ideal S256x512 .bf16) (x4 : FVec Ideal S1024x1024 .bf16)

/-- One token's row in one head. -/
def tq (x : FVec Ideal S1024x512 .bf16) (r : Fin 1024) (h : Fin 4) : Fin 128 → EReal := fun d =>
  x (ix2 r ⟨h.val * 128 + d.val, by omega⟩)

/-- The memory block's rows in one head. -/
def tk (x : FVec Ideal S256x512 .bf16) (h : Fin 4) : Fin 256 → Fin 128 → EReal := fun n d =>
  x (ix2 n ⟨h.val * 128 + d.val, by omega⟩)

/-- The exponentials (the last head's exponents), head by head, as the kernel builds them. -/
abbrev EX0 := k0_pay21 (F := Ideal) (k0_pay8 (lq0 x0)) (k0_pay12 (lk0 x1))

abbrev EX1 := k0_pay22 (F := Ideal) (k0_pay9 (lq1 x0)) (k0_pay13 (lk1 x1))

abbrev EX2 := k0_pay23 (F := Ideal) (k0_pay10 (lq2 x0)) (k0_pay14 (lk2 x1))

abbrev EX3 := k0_pay20 (F := Ideal) (k0_pay11 (lq3 x0)) (lk3 x1)

/-- The derivatives with respect to the products of queries and keys, head by head. -/
abbrev DS0 := k0_pay43 (F := Ideal) (k0_pay24 (EX0 x0 x1)) (k0_pay32 (k0_pay16 (lk0 x2)) (lq0 x3)) (k0_pay40 (k0_pay16 (lk0 x2)) (EX0 x0 x1) (lq0 x3))

abbrev DS1 := k0_pay44 (F := Ideal) (k0_pay25 (EX1 x0 x1)) (k0_pay33 (k0_pay17 (lk1 x2)) (lq1 x3)) (k0_pay41 (k0_pay17 (lk1 x2)) (EX1 x0 x1) (lq1 x3))

abbrev DS2 := k0_pay45 (F := Ideal) (k0_pay26 (EX2 x0 x1)) (k0_pay34 (k0_pay18 (lk2 x2)) (lq2 x3)) (k0_pay42 (k0_pay18 (lk2 x2)) (EX2 x0 x1) (lq2 x3))

abbrev DS3 := k0_pay46 (F := Ideal) (k0_pay27 (EX3 x0 x1)) (k0_pay35 (k0_pay19 (lk3 x2)) (lq3 x3))

/-- The block of the queries' gradient. -/
abbrev DQ := k0_pay47 (F := Ideal) (k0_pay12 (lk0 x1)) (k0_pay13 (lk1 x1)) (k0_pay14 (lk2 x1)) (k0_pay15 (lk3 x1))
  (k0_pay24 (EX0 x0 x1)) (k0_pay25 (EX1 x0 x1)) (k0_pay26 (EX2 x0 x1)) (k0_pay27 (EX3 x0 x1))
  (k0_pay32 (k0_pay16 (lk0 x2)) (lq0 x3)) (k0_pay33 (k0_pay17 (lk1 x2)) (lq1 x3)) (k0_pay34 (k0_pay18 (lk2 x2)) (lq2 x3)) (k0_pay35 (k0_pay19 (lk3 x2)) (lq3 x3))
  (k0_pay40 (k0_pay16 (lk0 x2)) (EX0 x0 x1) (lq0 x3)) (k0_pay41 (k0_pay17 (lk1 x2)) (EX1 x0 x1) (lq1 x3)) (k0_pay42 (k0_pay18 (lk2 x2)) (EX2 x0 x1) (lq2 x3))

/-- The accumulators' next contents. -/
abbrev KS (acc : FVec Ideal S256x512 .f32) := k0_pay1 (F := Ideal) (k0_pay8 (lq0 x0)) (k0_pay9 (lq1 x0)) (k0_pay10 (lq2 x0)) (k0_pay11 (lq3 x0))
  (DS0 x0 x3 x1 x2) (DS1 x0 x3 x1 x2) (DS2 x0 x3 x1 x2) (DS3 x0 x3 x1 x2) (k0_pay48 acc) (constant S256x128 .f32 0x00000000#32)

abbrev VS (acc : FVec Ideal S256x512 .f32) := k0_pay2 (F := Ideal) (k0_pay36 (EX0 x0 x1) (lq0 x3)) (k0_pay37 (EX1 x0 x1) (lq1 x3))
  (k0_pay38 (EX2 x0 x1) (lq2 x3)) (k0_pay39 (EX3 x0 x1) (lq3 x3)) acc

theorem lq0_at (x r d) : lq0 x (ix2 r d) = tq x r 0 d := by
  unfold tq
  exact congrArg x (by blk_ext <;> simp)

theorem lk0_at (x n d) : lk0 x (ix2 n d) = tk x 0 n d := by
  unfold tk
  exact congrArg x (by blk_ext <;> simp)

theorem pr0 (r n) : k0_pay24 (EX0 x0 x1) (ix2 r n) = rp (tq x0 r 0) (tk x1 0) n := by
  pointwise [k0_pay24, k0_pay21, k0_pay8, k0_pay12]
  simp only [lq0_at, lk0_at]
  rfl

theorem ds0 (r n) : DS0 x0 x3 x1 x2 (ix2 r n) = rds (tq x0 r 0) (tq x3 r 0) (tk x1 0) (tk x2 0) n := by
  pointwise [k0_pay24, k0_pay21, k0_pay8, k0_pay12, k0_pay16, k0_pay32, k0_pay28, k0_pay40, k0_pay43]
  simp only [lq0_at, lk0_at]
  rfl

theorem lq1_at (x r d) : lq1 x (ix2 r d) = tq x r 1 d := by
  unfold tq
  exact congrArg x (by blk_ext <;> simp)

theorem lk1_at (x n d) : lk1 x (ix2 n d) = tk x 1 n d := by
  unfold tk
  exact congrArg x (by blk_ext <;> simp)

theorem pr1 (r n) : k0_pay25 (EX1 x0 x1) (ix2 r n) = rp (tq x0 r 1) (tk x1 1) n := by
  pointwise [k0_pay25, k0_pay22, k0_pay9, k0_pay13]
  simp only [lq1_at, lk1_at]
  rfl

theorem ds1 (r n) : DS1 x0 x3 x1 x2 (ix2 r n) = rds (tq x0 r 1) (tq x3 r 1) (tk x1 1) (tk x2 1) n := by
  pointwise [k0_pay25, k0_pay22, k0_pay9, k0_pay13, k0_pay17, k0_pay33, k0_pay29, k0_pay41, k0_pay44]
  simp only [lq1_at, lk1_at]
  rfl

theorem lq2_at (x r d) : lq2 x (ix2 r d) = tq x r 2 d := by
  unfold tq
  exact congrArg x (by blk_ext <;> simp)

theorem lk2_at (x n d) : lk2 x (ix2 n d) = tk x 2 n d := by
  unfold tk
  exact congrArg x (by blk_ext <;> simp)

theorem pr2 (r n) : k0_pay26 (EX2 x0 x1) (ix2 r n) = rp (tq x0 r 2) (tk x1 2) n := by
  pointwise [k0_pay26, k0_pay23, k0_pay10, k0_pay14]
  simp only [lq2_at, lk2_at]
  rfl

theorem ds2 (r n) : DS2 x0 x3 x1 x2 (ix2 r n) = rds (tq x0 r 2) (tq x3 r 2) (tk x1 2) (tk x2 2) n := by
  pointwise [k0_pay26, k0_pay23, k0_pay10, k0_pay14, k0_pay18, k0_pay34, k0_pay30, k0_pay42, k0_pay45]
  simp only [lq2_at, lk2_at]
  rfl

theorem lq3_at (x r d) : lq3 x (ix2 r d) = tq x r 3 d := by
  unfold tq
  exact congrArg x (by blk_ext <;> simp)

theorem lk3_at (x n d) : lk3 x (ix2 n d) = tk x 3 n d := by
  unfold tk
  exact congrArg x (by blk_ext <;> simp)

theorem pr3 (r n) : k0_pay27 (EX3 x0 x1) (ix2 r n) = rp (tq x0 r 3) (tk x1 3) n := by
  pointwise [k0_pay27, k0_pay20, k0_pay11, k0_pay15]
  simp only [lq3_at, lk3_at]
  rfl

theorem ds3 (r n) : DS3 x0 x3 x1 x2 (ix2 r n) = rds (tq x0 r 3) (tq x3 r 3) (tk x1 3) (tk x2 3) n := by
  pointwise [k0_pay27, k0_pay20, k0_pay11, k0_pay15, k0_pay19, k0_pay35, k0_pay31, k0_pay46]
  simp only [lq3_at, lk3_at]
  rfl

/-- The head of one of the 512 columns, and the column's place in its head. -/
def hd (j : Fin 512) : Fin 4 := ⟨j.val / 128, by omega⟩

def ln (j : Fin 512) : Fin 128 := ⟨j.val % 128, by omega⟩

/-- Four heads set side by side, read at a column. -/
theorem heads (f : Fin 4 → Fin 128 → EReal) (j : Fin 512) :
    (if h1 : j.val < 128 then f 0 ⟨j.val, h1⟩ else if h2 : j.val - 128 < 128 then f 1 ⟨j.val - 128, h2⟩
      else if h3 : j.val - 128 - 128 < 128 then f 2 ⟨j.val - 128 - 128, h3⟩
      else f 3 ⟨j.val - 128 - 128 - 128, by omega⟩) = f (hd j) (ln j) := by
  split_ifs
  all_goals
    refine congrArg₂ f (Fin.ext ?_) (Fin.ext ?_)
    · show _ = j.val / 128
      simp
      omega
    · show _ = j.val % 128
      simp only
      omega

/-- The block of the queries' gradient at a token and a column. -/
theorem DQ_at (r j) : DQ x0 x3 x1 x2 (ix2 r j)
    = ∑ n, rds (tq x0 r (hd j)) (tq x3 r (hd j)) (tk x1 (hd j)) (tk x2 (hd j)) n * tk x1 (hd j) n (ln j) := by
  pointwise [k0_pay47, k0_pay12, k0_pay13, k0_pay14, k0_pay15]
  simp only [ds0, ds1, ds2, ds3, lk0_at, lk1_at, lk2_at, lk3_at]
  exact heads (fun h d => ∑ n, rds (tq x0 r h) (tq x3 r h) (tk x1 h) (tk x2 h) n * tk x1 h n d) j

/-- One point's term of the keys' gradient. -/
def KT (i : S256x512.Idx) : EReal :=
  ∑ r, rds (tq x0 r (hd (i 1))) (tq x3 r (hd (i 1))) (tk x1 (hd (i 1))) (tk x2 (hd (i 1))) (i 0) * tq x0 r (hd (i 1)) (ln (i 1))

theorem KS_at (acc i) : KS x0 x3 x1 x2 acc i = acc i + KT x0 x3 x1 x2 i := by
  obtain ⟨n, j, rfl⟩ : ∃ (n : Fin 256) (j : Fin 512), i = ix2 n j := ⟨_, _, eq_ix2 i⟩
  pointwise [k0_pay1, k0_pay48, k0_pay8, k0_pay9, k0_pay10, k0_pay11]
  simp only [ds0, ds1, ds2, ds3, lq0_at, lq1_at, lq2_at, lq3_at]
  exact congrArg (acc (ix2 n j) + ·)
    (heads (fun h d => ∑ r, rds (tq x0 r h) (tq x3 r h) (tk x1 h) (tk x2 h) n * tq x0 r h d) j)

/-- One point's term of the values' gradient. -/
def VT (i : S256x512.Idx) : EReal :=
  ∑ r, rp (tq x0 r (hd (i 1))) (tk x1 (hd (i 1))) (i 0) * tq x3 r (hd (i 1)) (ln (i 1))

theorem VS_at (acc i) : VS x0 x3 x1 acc i = acc i + VT x0 x3 x1 i := by
  obtain ⟨n, j, rfl⟩ : ∃ (n : Fin 256) (j : Fin 512), i = ix2 n j := ⟨_, _, eq_ix2 i⟩
  pointwise [k0_pay2, k0_pay36, k0_pay37, k0_pay38, k0_pay39, k0_pay28, k0_pay29, k0_pay30, k0_pay31]
  simp only [pr0, pr1, pr2, pr3, lq0_at, lq1_at, lq2_at, lq3_at]
  exact congrArg (acc (ix2 n j) + ·) (heads (fun h d => ∑ r, rp (tq x0 r h) (tk x1 h) n * tq x3 r h d) j)

/-- One point's term of the weight gradient. -/
def WT (i : S1024x512.Idx) : EReal := ∑ r, x4 (ix2 r (i 0)) * DQ x0 x3 x1 x2 (ix2 r (i 1))

theorem WS_at (acc : FVec Ideal S1024x512 .f32) (i) : k0_pay3 (DQ x0 x3 x1 x2) acc x4 i = acc i + WT x0 x3 x1 x2 x4 i := by
  obtain ⟨n, j, rfl⟩ : ∃ (n : Fin 1024) (j : Fin 512), i = ix2 n j := ⟨_, _, eq_ix2 i⟩
  pointwise [k0_pay3]
  rfl

theorem pay4_at (y : FVec Ideal S1024x512 .f32) (i) : (k0_pay4 (F := Ideal) y i : EReal) = y i := by
  pointwise [k0_pay4]

theorem zero5 (i) : k0_pay5 (F := Ideal) i = 0 := by
  pointwise [k0_pay5]

theorem zero6 (i) : k0_pay6 (F := Ideal) i = 0 := by
  pointwise [k0_pay6]

theorem zero7 (i) : k0_pay7 (F := Ideal) i = 0 := by
  pointwise [k0_pay7]

end Tile

variable (m : (ℓ : Loc nD τ sig) → Buf (Elt Ideal) ℓ)

/-- The arguments on one device. -/
abbrev aX (c : Dev nD) : FVec Ideal S2x4096x1024 .f32 := m ((c : Thread nD τ).loc main_arg0)

abbrev aP (c : Dev nD) : FVec Ideal S2x4096x7168 .f32 := m ((c : Thread nD τ).loc main_arg1)

abbrev aK (c : Dev nD) : FVec Ideal S2x256x512 .f32 := m ((c : Thread nD τ).loc main_arg2)

abbrev aV (c : Dev nD) : FVec Ideal S2x256x512 .f32 := m ((c : Thread nD τ).loc main_arg3)

abbrev aY (c : Dev nD) : FVec Ideal S2x4096x512 .f32 := m ((c : Thread nD τ).loc main_arg4)

/-- A point's block of queries is those of its stretch of 1024 tokens. -/
theorem blk0 (c : Dev nD) (t : Fin cfg0.N) (r : Fin 1024) (h : Fin 4) (b : Fin 2) (s : Fin 4096)
    (e : b.val * 4096 + s.val = t.val * 1024 + r.val) : tq (iblk m c 0 t) r h = qrow (aP m c) b s h := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  funext d
  unfold tq qrow
  blk_point [iblk, V, idx t]

/-- … its block of the cotangent likewise. -/
theorem blk3 (c : Dev nD) (t : Fin cfg0.N) (r : Fin 1024) (h : Fin 4) (b : Fin 2) (s : Fin 4096)
    (e : b.val * 4096 + s.val = t.val * 1024 + r.val) : tq (iblk m c 3 t) r h = yrow (aY m c) b s h := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  funext d
  unfold tq yrow
  blk_point [iblk, V, idx t]

/-- … and its block of the layer's input. -/
theorem blk4 (c : Dev nD) (t : Fin cfg0.N) (r i : Fin 1024) (b : Fin 2) (s : Fin 4096)
    (e : b.val * 4096 + s.val = t.val * 1024 + r.val) : iblk m c 4 t (ix2 r i) = aX m c (ix3 b s i) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

/-- A point's memory block is its sequence's. -/
theorem blk1 (c : Dev nD) (t : Fin cfg0.N) (h : Fin 4) (b : Fin 2) (e : b.val = t.val / 4) :
    tk (iblk m c 1 t) h = krow (aK m c) b h := by
  have h1 : t.val / 4 < 2 := by omega
  obtain rfl : b = ⟨t.val / 4, h1⟩ := Fin.ext e
  funext n d
  unfold tk krow
  blk_point [iblk, V, idx t]

theorem blk2 (c : Dev nD) (t : Fin cfg0.N) (h : Fin 4) (b : Fin 2) (e : b.val = t.val / 4) :
    tk (iblk m c 2 t) h = krow (aV m c) b h := by
  have h1 : t.val / 4 < 2 := by omega
  obtain rfl : b = ⟨t.val / 4, h1⟩ := Fin.ext e
  funext n d
  unfold tk krow
  blk_point [iblk, V, idx t]

/-- Where the outputs' blocks sit. -/
theorem emb5 (t : Fin cfg0.N) (r : Fin 1024) (d : Fin 512) (h : t.val * 1024 + r.val < 8192) :
    ((cfg0.win 5).blk t).view.emb (ix2 r d) = ix2 ⟨t.val * 1024 + r.val, h⟩ d := by
  blk_ext [idx t]

theorem emb6 (t : Fin cfg0.N) (r : Fin 256) (d : Fin 512) (h : t.val / 4 * 256 + r.val < 512) :
    ((cfg0.win 6).blk t).view.emb (ix2 r d) = ix2 ⟨t.val / 4 * 256 + r.val, h⟩ d := by
  blk_ext [idx t]

theorem emb7 (t : Fin cfg0.N) (r : Fin 256) (d : Fin 512) (h : t.val / 4 * 256 + r.val < 512) :
    ((cfg0.win 7).blk t).view.emb (ix2 r d) = ix2 ⟨t.val / 4 * 256 + r.val, h⟩ d := by
  blk_ext [idx t]

/-- The four output arrays, from the arguments. -/
def outQ (P : FVec Ideal S2x4096x7168 .f32) (K V : FVec Ideal S2x256x512 .f32) (Y : FVec Ideal S2x4096x512 .f32) :
    FVec Ideal S8192x512 .bf16 := fun i =>
  GQ P K V Y ⟨(i 0).val / 4096, by have : (i 0).val < 8192 := (i 0).isLt; omega⟩ ⟨(i 0).val % 4096, by omega⟩ (hd (i 1)) (ln (i 1))

def outK (P : FVec Ideal S2x4096x7168 .f32) (K V : FVec Ideal S2x256x512 .f32) (Y : FVec Ideal S2x4096x512 .f32) :
    FVec Ideal S512x512 .f32 := fun i =>
  GK P K V Y ⟨(i 0).val / 256, by have : (i 0).val < 512 := (i 0).isLt; omega⟩ ⟨(i 0).val % 256, by omega⟩ (hd (i 1)) (ln (i 1))

def outV (P : FVec Ideal S2x4096x7168 .f32) (K : FVec Ideal S2x256x512 .f32) (Y : FVec Ideal S2x4096x512 .f32) :
    FVec Ideal S512x512 .f32 := fun i =>
  GV P K Y ⟨(i 0).val / 256, by have : (i 0).val < 512 := (i 0).isLt; omega⟩ ⟨(i 0).val % 256, by omega⟩ (hd (i 1)) (ln (i 1))

def outW (X : FVec Ideal S2x4096x1024 .f32) (P : FVec Ideal S2x4096x7168 .f32) (K V : FVec Ideal S2x256x512 .f32)
    (Y : FVec Ideal S2x4096x512 .f32) : FVec Ideal S1024x512 .bf16 := fun i =>
  GW X P K V Y (i 0) (hd (i 1)) (ln (i 1))

/-- What one point computes for a token and a column is the query's gradient there. -/
theorem DQ_blk (c : Dev nD) (t : Fin cfg0.N) (r j) (b : Fin 2) (s : Fin 4096)
    (e : b.val * 4096 + s.val = t.val * 1024 + r.val) :
    DQ (iblk m c 0 t) (iblk m c 3 t) (iblk m c 1 t) (iblk m c 2 t) (ix2 r j)
      = GQ (aP m c) (aK m c) (aV m c) (aY m c) b s (hd j) (ln j) := by
  have eb : b.val = t.val / 4 := by omega
  rw [DQ_at, blk0 m c t r _ b s e, blk3 m c t r _ b s e, blk1 m c t _ b eb, blk2 m c t _ b eb]
  rfl

theorem point_q (c : Dev nD) (t : Fin cfg0.N) (y) :
    DQ (iblk m c 0 t) (iblk m c 3 t) (iblk m c 1 t) (iblk m c 2 t) y
      = outQ (aP m c) (aK m c) (aV m c) (aY m c) (((cfg0.win 5).blk t).view.emb y) := by
  obtain ⟨r, j, rfl⟩ : ∃ (r : Fin 1024) (j : Fin 512), y = ix2 r j := ⟨_, _, eq_ix2 y⟩
  have ht : t.val < 8 := t.isLt
  rw [emb5 t r j (by omega), DQ_blk m c t r j ⟨(t.val * 1024 + r.val) / 4096, by omega⟩ ⟨(t.val * 1024 + r.val) % 4096, by omega⟩
    (by show _ / 4096 * 4096 + _ % 4096 = _; omega)]
  rfl

theorem final_q (c : Dev nD) : (dats m 0 c).arrAt 5 (cfgs 0).N = outQ (aP m c) (aK m c) (aV m c) (aY m c) := by
  refine (dats m 0 c).arrAt_eq_of_covers 5 _ (by decide +kernel) fun t _ y => ?_
  blk_simp
  rw [after0_5]
  by_cases h0 : t.val % 4 = 0
  · by_cases h1 : t.val % 8 = 0
    · rw [outsAt0_A m c t h0 h1 (by omega)]
      frame_out
      exact point_q m c t y
    · rw [outsAt0_C m c t h0 h1 (by omega)]
      frame_out
      exact point_q m c t y
  · by_cases h2 : t.val % 8 = 7
    · rw [outsAt0_D m c t h0 (by omega) h2]
      frame_out
      exact point_q m c t y
    · rw [outsAt0_B m c t h0 (by omega) h2]
      frame_out
      exact point_q m c t y

theorem final_k (c : Dev nD) : (dats m 0 c).arrAt 6 (cfgs 0).N = outK (aP m c) (aK m c) (aV m c) (aY m c) := by
  refine (dats m 0 c).arrAt_eq_of_covers 6 _ (by decide +kernel) fun t hf y => ?_
  blk_simp
  rw [after0_6, Pipeline.eq_sum_fin_of_reset_step_apply_of_flush (f := fun n h => (outsAt0 m c n h).2.1) 4 (fun _ => 0)
    (fun t i => KT (iblk m c 0 t) (iblk m c 3 t) (iblk m c 1 t) (iblk m c 2 t) i)
    (fun t h i => by
      have hk := (KS_at (iblk m c 0 t) (iblk m c 3 t) (iblk m c 1 t) (iblk m c 2 t) k0_pay5 i).trans (by rw [zero5])
      by_cases h1 : t.val % 8 = 0
      · rw [outsAt0_A m c t h h1 (by omega)]; frame_out; exact hk
      · rw [outsAt0_C m c t h h1 (by omega)]; frame_out; exact hk)
    (fun t h i => by
      have hk := fun acc => KS_at (iblk m c 0 t) (iblk m c 3 t) (iblk m c 1 t) (iblk m c 2 t) acc i
      by_cases h2 : t.val % 8 = 7
      · rw [outsAt0_D m c t h (by omega) h2]; frame_out; exact hk _
      · rw [outsAt0_B m c t h (by omega) h2]; frame_out; exact hk _)
    t ((flush0_6 t).mp hf) _, zero_add]
  obtain ⟨n, j, rfl⟩ : ∃ (n : Fin 256) (j : Fin 512), y = ix2 n j := ⟨_, _, eq_ix2 y⟩
  have ht : t.val < 8 := t.isLt
  have h3 := (flush0_6 t).mp hf
  rw [emb6 t n j (by omega)]
  have e1 : (t.val / 4 * 256 + n.val) / 256 = t.val / 4 := by omega
  have e2 : (t.val / 4 * 256 + n.val) % 256 = n.val := by omega
  show _ = GK _ _ _ _ ⟨(t.val / 4 * 256 + n.val) / 256, _⟩ ⟨(t.val / 4 * 256 + n.val) % 256, _⟩ (hd j) (ln j)
  simp only [e1, e2]
  unfold GK KT
  refine Fin.sum_mul_add_congr (S := 4) fun s r hl => ?_
  have hs : s.val < 4 := s.isLt
  rw [blk0 m c _ r _ ⟨t.val / 4, by omega⟩ ⟨s.val * 1024 + r.val, hl⟩ (by show t.val / 4 * 4096 + (s.val * 1024 + r.val) = (4 * (t.val / 4) + s.val) * 1024 + r.val; omega),
    blk3 m c _ r _ ⟨t.val / 4, by omega⟩ ⟨s.val * 1024 + r.val, hl⟩ (by show t.val / 4 * 4096 + (s.val * 1024 + r.val) = (4 * (t.val / 4) + s.val) * 1024 + r.val; omega),
    blk1 m c _ _ ⟨t.val / 4, by omega⟩ (by show t.val / 4 = (4 * (t.val / 4) + s.val) / 4; omega),
    blk2 m c _ _ ⟨t.val / 4, by omega⟩ (by show t.val / 4 = (4 * (t.val / 4) + s.val) / 4; omega)]
  rfl

theorem final_v (c : Dev nD) : (dats m 0 c).arrAt 7 (cfgs 0).N = outV (aP m c) (aK m c) (aY m c) := by
  refine (dats m 0 c).arrAt_eq_of_covers 7 _ (by decide +kernel) fun t hf y => ?_
  blk_simp
  rw [after0_7, Pipeline.eq_sum_fin_of_reset_step_apply_of_flush (f := fun n h => (outsAt0 m c n h).2.2.1) 4 (fun _ => 0)
    (fun t i => VT (iblk m c 0 t) (iblk m c 3 t) (iblk m c 1 t) i)
    (fun t h i => by
      have hk := (VS_at (iblk m c 0 t) (iblk m c 3 t) (iblk m c 1 t) k0_pay6 i).trans (by rw [zero6])
      by_cases h1 : t.val % 8 = 0
      · rw [outsAt0_A m c t h h1 (by omega)]; frame_out; exact hk
      · rw [outsAt0_C m c t h h1 (by omega)]; frame_out; exact hk)
    (fun t h i => by
      have hk := fun acc => VS_at (iblk m c 0 t) (iblk m c 3 t) (iblk m c 1 t) acc i
      by_cases h2 : t.val % 8 = 7
      · rw [outsAt0_D m c t h (by omega) h2]; frame_out; exact hk _
      · rw [outsAt0_B m c t h (by omega) h2]; frame_out; exact hk _)
    t ((flush0_7 t).mp hf) _, zero_add]
  obtain ⟨n, j, rfl⟩ : ∃ (n : Fin 256) (j : Fin 512), y = ix2 n j := ⟨_, _, eq_ix2 y⟩
  have ht : t.val < 8 := t.isLt
  have h3 := (flush0_7 t).mp hf
  rw [emb7 t n j (by omega)]
  have e1 : (t.val / 4 * 256 + n.val) / 256 = t.val / 4 := by omega
  have e2 : (t.val / 4 * 256 + n.val) % 256 = n.val := by omega
  show _ = GV _ _ _ ⟨(t.val / 4 * 256 + n.val) / 256, _⟩ ⟨(t.val / 4 * 256 + n.val) % 256, _⟩ (hd j) (ln j)
  simp only [e1, e2]
  unfold GV VT
  refine Fin.sum_mul_add_congr (S := 4) fun s r hl => ?_
  have hs : s.val < 4 := s.isLt
  rw [blk0 m c _ r _ ⟨t.val / 4, by omega⟩ ⟨s.val * 1024 + r.val, hl⟩ (by show t.val / 4 * 4096 + (s.val * 1024 + r.val) = (4 * (t.val / 4) + s.val) * 1024 + r.val; omega),
    blk3 m c _ r _ ⟨t.val / 4, by omega⟩ ⟨s.val * 1024 + r.val, hl⟩ (by show t.val / 4 * 4096 + (s.val * 1024 + r.val) = (4 * (t.val / 4) + s.val) * 1024 + r.val; omega),
    blk1 m c _ _ ⟨t.val / 4, by omega⟩ (by show t.val / 4 = (4 * (t.val / 4) + s.val) / 4; omega)]
  rfl

/-- After each point the scratch holds the weight gradient's terms so far. -/
theorem acc_w (c : Dev nD) (i) : (outsAt0 m c t0_7.val t0_7.isLt).2.2.2.2 i
    = ∑ t : Fin cfg0.N, WT (iblk m c 0 t) (iblk m c 3 t) (iblk m c 1 t) (iblk m c 2 t) (iblk m c 4 t) i := by
  rw [Pipeline.eq_sum_fin_of_reset_step_apply_last (f := fun n h => (outsAt0 m c n h).2.2.2.2) 8 (fun _ => 0)
    (fun t i => WT (iblk m c 0 t) (iblk m c 3 t) (iblk m c 1 t) (iblk m c 2 t) (iblk m c 4 t) i)
    (fun t h i => by
      rw [outsAt0_A m c t (by omega) h (by omega)]; frame_out
      exact (WS_at (iblk m c 0 t) (iblk m c 3 t) (iblk m c 1 t) (iblk m c 2 t) (iblk m c 4 t) (k0_pay7 (F := Ideal)) i).trans (by rw [zero7]))
    (fun t h i => by
      have hk := fun acc => WS_at (iblk m c 0 t) (iblk m c 3 t) (iblk m c 1 t) (iblk m c 2 t) (iblk m c 4 t) acc i
      by_cases h0 : t.val % 4 = 0
      · rw [outsAt0_C m c t h0 h (by omega)]; frame_out; rw [read_unread_whole]; exact hk _
      · by_cases h2 : t.val % 8 = 7
        · rw [outsAt0_D m c t h0 h h2]; frame_out; rw [read_unread_whole]; exact hk _
        · rw [outsAt0_B m c t h0 h h2]; frame_out; rw [read_unread_whole]; exact hk _)
    (le_of_eq N_0) t0_7 rfl i, zero_add]

theorem final_w (c : Dev nD) : (dats m 0 c).arrAt 8 (cfgs 0).N = outW (aX m c) (aP m c) (aK m c) (aV m c) (aY m c) := by
  refine (dats m 0 c).arrAt_eq_of_after_last 8 t0_7 (by decide +kernel) _ fun i => ?_
  blk_simp
  have hw : ((outsAt0 m c t0_7.val t0_7.isLt).2.2.2.1 i : EReal) = (outsAt0 m c t0_7.val t0_7.isLt).2.2.2.2 i := by
    rw [outsAt0_D m c t0_7 (by decide) (by decide) (by decide)]
    frame_out
    exact pay4_at _ i
  rw [after0_8, hw, acc_w]
  obtain ⟨k, j, rfl⟩ : ∃ (k : Fin 1024) (j : Fin 512), i = ix2 k j := ⟨_, _, eq_ix2 i⟩
  show _ = GW _ _ _ _ _ k (hd j) (ln j)
  unfold GW WT
  refine (Fin.sum_mul_add_congr (L := 8192) (S := 8) (n := 1024) (f := fun l => aX m c (ix3 ⟨l.val / 4096, by omega⟩ ⟨l.val % 4096, by omega⟩ k)
    * GQ (aP m c) (aK m c) (aV m c) (aY m c) ⟨l.val / 4096, by omega⟩ ⟨l.val % 4096, by omega⟩ (hd j) (ln j)) fun t r hl => ?_).trans
    (Fin.sum_divmod_congr (S := 4096) (A := 2) (N := 8192) fun l ha hs => rfl)
  have e : (t.val * 1024 + r.val) / 4096 * 4096 + (t.val * 1024 + r.val) % 4096 = t.val * 1024 + r.val := by omega
  exact congrArg₂ (· * ·)
    (blk4 m c t r k ⟨(t.val * 1024 + r.val) / 4096, by omega⟩ ⟨(t.val * 1024 + r.val) % 4096, by omega⟩ e)
    (DQ_blk m c t r j ⟨(t.val * 1024 + r.val) / 4096, by omega⟩ ⟨(t.val * 1024 + r.val) % 4096, by omega⟩ e)

end Cert.AttnKernelIdeal.AttnValue

end
-- ==== Proof.AttnClaim.lean ====
/- The claims about the backward call of the memory attention. -/
module

public import proofs.«01_k».proof.Defs
public import proofs.«01_k».proof.Proof.Gen.AttnKernel
public import proofs.«01_k».proof.Proof.Gen.AttnKernel.Frame
public import proofs.«01_k».proof.Proof.Gen.AttnReferenceIdeal.Run
public import proofs.«01_k».proof.Proof.AttnValue

@[expose] public section

set_option maxRecDepth 16384

noncomputable section

open Idealize.ShloMosaic Idealize.SL.Sem

namespace Cert.Proof

open Cert.AttnReferenceIdeal.AttnRef Cert.AttnKernelIdeal.AttnValue Cert.Reals

/-- The shapes the precondition compares fit together. -/
instance pre_attn : Cert.Pre_finite_attn.Facts := ⟨by decide, by decide, by decide⟩

theorem frame_attn : quiescent_AttnKernel := fun m ρ _ => Cert.AttnKernel.Gen.frame m ρ

theorem frame_attnIdeal : quiescent_AttnKernelIdeal := fun m ρ _ => Cert.AttnKernelIdeal.Gen.frame m ρ

theorem frame_attnIdeal_pre : quiescent_AttnKernelIdeal_pre_finite_attn := fun m ρ _ => Cert.AttnKernelIdeal.Gen.frame m ρ

theorem frame_attnReference : quiescent_AttnReferenceIdeal := fun m ρ _ =>
  (θ_run Cert.AttnReferenceIdeal.defs _ _).mono
    (fun r h => ⟨fun c => (h c).2.2.2.2, sem_eq_zero_of_no_sems (by decide) r.2⟩)
    (Cert.AttnReferenceIdeal.Value.run (F := Ideal) m ρ)

theorem frame_attnReference_pre : quiescent_AttnReferenceIdeal_pre_finite_attn := fun m ρ _ => frame_attnReference m ρ trivial

/-- Where the precondition holds, the arguments the gradients read are real numbers. -/
theorem real_attn (X : FVec Ideal Cert.Pre_finite_attn.S2x4096x1024 .f32) (P : FVec Ideal Cert.Pre_finite_attn.S2x4096x7168 .f32)
    (K V : FVec Ideal Cert.Pre_finite_attn.S2x256x512 .f32) (Y : FVec Ideal Cert.Pre_finite_attn.S2x4096x512 .f32)
    (h : (Cert.Pre_finite_attn.fn X P K V Y).1 = (fun _ => 1#1) ∧ (Cert.Pre_finite_attn.fn X P K V Y).2.1 = (fun _ => 1#1)
      ∧ (Cert.Pre_finite_attn.fn X P K V Y).2.2.1 = (fun _ => 1#1) ∧ (Cert.Pre_finite_attn.fn X P K V Y).2.2.2 = (fun _ => 1#1)) :
    Real' P K V Y := by
  refine ⟨fun b s h' d => ?_, fun b h' n d => ?_, fun b h' n d => ?_, fun b s h' d => ?_⟩
  · have := congrFun h.1 (ix3 b s ⟨h'.val * 128 + d.val, by omega⟩)
    pointwise [Cert.Pre_finite_attn.fn] at this
    exact real_of_cmp this
  · have := congrFun h.2.1 (ix3 b n ⟨h'.val * 128 + d.val, by omega⟩)
    pointwise [Cert.Pre_finite_attn.fn] at this
    exact real_of_cmp this
  · have := congrFun h.2.2.1 (ix3 b n ⟨h'.val * 128 + d.val, by omega⟩)
    pointwise [Cert.Pre_finite_attn.fn] at this
    exact real_of_cmp this
  · have := congrFun h.2.2.2 (ix3 b s ⟨h'.val * 128 + d.val, by omega⟩)
    pointwise [Cert.Pre_finite_attn.fn] at this
    exact real_of_cmp this

theorem res_q (P K V Y) (hr : Real' P K V Y) : oq (dq4 (DS' P K V Y) K) = outQ P K V Y := by
  funext j
  obtain ⟨r, d, rfl⟩ : ∃ (r : Fin 8192) (d : Fin 512), j = ix2 r d := ⟨_, _, eq_ix2 j⟩
  rw [oq_at, q_at P K V Y hr]
  rfl

theorem res_k (P K V Y) (hr : Real' P K V Y) : ok (dk4 (DS' P K V Y) P) = outK P K V Y := by
  funext j
  obtain ⟨r, d, rfl⟩ : ∃ (r : Fin 512) (d : Fin 512), j = ix2 r d := ⟨_, _, eq_ix2 j⟩
  rw [ok_at, k_at P K V Y hr]
  rfl

theorem res_v (P K Y) : ov (dv4 Y (pr (E' P K) (tot (E' P K)))) = outV P K Y := by
  funext j
  obtain ⟨r, d, rfl⟩ : ∃ (r : Fin 512) (d : Fin 512), j = ix2 r d := ⟨_, _, eq_ix2 j⟩
  rw [ov_at, v_at P K Y]
  rfl

theorem res_w (X P K V Y) (hr : Real' P K V Y) : ogw (dq4 (DS' P K V Y) K) X = outW X P K V Y := by
  funext j
  obtain ⟨r, d, rfl⟩ : ∃ (r : Fin 1024) (d : Fin 512), j = ix2 r d := ⟨_, _, eq_ix2 j⟩
  rw [w_at X P K V Y hr]
  rfl

section Results

open Cert.AttnReferenceIdeal

variable (m : (ℓ : Loc nD τ sig) → Buf (Elt Ideal) ℓ) (c : Dev nD)

/-- The reference's results are its arrays one after the other. -/
theorem v69_eq : Value.res_main_v69 m c
    = oq (dq4 (DS' (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg2))) := by
  unfold Value.res_main_v69 oq dq4 DS' ds tot dp E' ex mxx mx score
  rfl

theorem v70_eq : Value.res_main_v70 m c
    = ok (dk4 (DS' (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg1))) := by
  unfold Value.res_main_v70 ok dk4 DS' ds tot dp E' ex mxx mx score
  rfl

theorem v72_eq : Value.res_main_v72 m c
    = ogw (dq4 (DS' (m ((c.tc : Thread nD τ).loc main_arg1)) (m ((c.tc : Thread nD τ).loc main_arg2))
        (m ((c.tc : Thread nD τ).loc main_arg3)) (m ((c.tc : Thread nD τ).loc main_arg4)))
      (m ((c.tc : Thread nD τ).loc main_arg2))) (m ((c.tc : Thread nD τ).loc main_arg0)) := by
  unfold Value.res_main_v72 ogw dq4 DS' ds tot dp E' ex mxx mx score
  rfl

end Results

set_option maxHeartbeats 2000000 in
/-- All four results: the gradients of the queries, the memory's keys and values, and the query projection's
    weight. -/
theorem algebraic_attn : algebraic_AttnKernelIdeal_AttnReferenceIdeal_pre_finite_attn := by
  pair_intro
  · run_from Cert.AttnKernelIdeal.Value.run_blocks m g
  · have hr := fun c => real_attn _ _ _ _ _ (hpre c)
    run_from Cert.AttnReferenceIdeal.Value.run m' g'
    all_goals obtain ⟨h0, h1, h2, h3, h4⟩ := hagree c
    · rw [v69_eq, h1, h2, h3, h4]
      exact (res_q _ _ _ _ (hr c)).trans (final_q m c).symm
    · rw [v70_eq, h1, h2, h3, h4]
      exact (res_k _ _ _ _ (hr c)).trans (final_k m c).symm
    · refine Eq.trans ?_ ((res_v _ _ _).trans (final_v m c).symm)
      unfold ov dv4 pr tot E' ex mxx mx score
      rfl
    · rw [v72_eq, h0, h1, h2, h3, h4]
      exact (res_w _ _ _ _ _ (hr c)).trans (final_w m c).symm

end Cert.Proof

end
-- ==== Proof.ConvRef.lean ====
/- The reference of the short convolution's backward call: its three results in closed form, token by token. -/
module

public import proofs.«01_k».proof.Proof.Gen.ConvReferenceIdeal.Run
public import proofs.«01_k».proof.Proof.Reals

@[expose] public section

set_option maxRecDepth 16384

noncomputable section

open Idealize.ShloMosaic Idealize.ShloMosaic.TcCoe Idealize.SL.Sem Idealize.ShloMosaic.StableHlo

namespace Cert.ConvReferenceIdeal.ConvRef

open Cert.ConvReferenceIdeal Cert.ConvReferenceIdeal.Gen Cert.ConvReferenceIdeal.Value Cert.Reals

def uu (a1 : FVec Ideal S2x4096x7168 .f32) : FVec Ideal S2x4096x512 .f32 :=
  mulf (extractStridedSlice S2x4096x512 ![0, 0, 512] a1 slices_S2x4096x7168_S2x4096x512_0_0_512) (extractStridedSlice S2x4096x512 ![0, 0, 1024] a1 slices_S2x4096x7168_S2x4096x512_0_0_1024)

def up (uu_ : FVec Ideal S2x4096x512 .f32) : FVec Ideal S2x4098x512 .f32 :=
  fn_main_v5 (F := Ideal) (broadcastInDim S2x2x512 ![] bcast_S_S2x2x512 (constant (F := Ideal) S_ .f32 0x00000000#32)) uu_

def yy (up_ : FVec Ideal S2x4098x512 .f32) (a2 : FVec Ideal S3x512 .f32) : FVec Ideal S2x4096x512 .f32 :=
  addf (addf (mulf (extractStridedSlice S2x4096x512 ![0, 0, 0] up_ slices_S2x4098x512_S2x4096x512_0_0_0) (broadcastInDim S2x4096x512 ![0, 1, 2] bcast_S1x1x512_S2x4096x512_0_1_2 (broadcastInDim S1x1x512 ![2] bcast_S512_S1x1x512_2 (shapeCast S512 (extractStridedSlice S1x512 ![0, 0] a2 slices_S3x512_S1x512_0_0) shapeCasts_S1x512_S512)))) (mulf (extractStridedSlice S2x4096x512 ![0, 1, 0] up_ slices_S2x4098x512_S2x4096x512_0_1_0) (broadcastInDim S2x4096x512 ![0, 1, 2] bcast_S1x1x512_S2x4096x512_0_1_2 (broadcastInDim S1x1x512 ![2] bcast_S512_S1x1x512_2 (shapeCast S512 (extractStridedSlice S1x512 ![1, 0] a2 slices_S3x512_S1x512_1_0) shapeCasts_S1x512_S512))))) (mulf (extractStridedSlice S2x4096x512 ![0, 2, 0] up_ slices_S2x4098x512_S2x4096x512_0_2_0) (broadcastInDim S2x4096x512 ![0, 1, 2] bcast_S1x1x512_S2x4096x512_0_1_2 (broadcastInDim S1x1x512 ![2] bcast_S512_S1x1x512_2 (shapeCast S512 (extractStridedSlice S1x512 ![2, 0] a2 slices_S3x512_S1x512_2_0) shapeCasts_S1x512_S512))))

def dy (a1 : FVec Ideal S2x4096x7168 .f32) (a3 : FVec Ideal S2x4096x512 .f32) : FVec Ideal S2x4096x512 .f32 :=
  mulf (extractStridedSlice S2x4096x512 ![0, 0, 0] a1 slices_S2x4096x7168_S2x4096x512_0_0_0) a3

def cs2 (up_ : FVec Ideal S2x4098x512 .f32) (dy_ : FVec Ideal S2x4096x512 .f32) : FVec Ideal S512 .f32 :=
  Host.reduceAdd (mulf (extractStridedSlice S2x4096x512 ![0, 2, 0] up_ slices_S2x4098x512_S2x4096x512_0_2_0) dy_) (constant S_ .f32 0x00000000#32) reducesTo_S2x4096x512_S512_d0_1 h_S_

def cs1 (up_ : FVec Ideal S2x4098x512 .f32) (dy_ : FVec Ideal S2x4096x512 .f32) : FVec Ideal S512 .f32 :=
  Host.reduceAdd (mulf (extractStridedSlice S2x4096x512 ![0, 1, 0] up_ slices_S2x4098x512_S2x4096x512_0_1_0) dy_) (constant S_ .f32 0x00000000#32) reducesTo_S2x4096x512_S512_d0_1 h_S_

def cs0 (up_ : FVec Ideal S2x4098x512 .f32) (dy_ : FVec Ideal S2x4096x512 .f32) : FVec Ideal S512 .f32 :=
  Host.reduceAdd (mulf (extractStridedSlice S2x4096x512 ![0, 0, 0] up_ slices_S2x4098x512_S2x4096x512_0_0_0) dy_) (constant S_ .f32 0x00000000#32) reducesTo_S2x4096x512_S512_d0_1 h_S_

def ocw (cs2_ : FVec Ideal S512 .f32) (cs1_ : FVec Ideal S512 .f32) (cs0_ : FVec Ideal S512 .f32) : FVec Ideal S3x512 .f32 :=
  addf (addf (pad S3x512 ![2, 0] ![0, 0] ![0, 0] (broadcastInDim S1x512 ![1] bcast_S512_S1x512_1 (Host.reduceAdd (shapeCast S1x1x512 cs2_ shapeCasts_S512_S1x1x512) (constant S_ .f32 0x00000000#32) reducesTo_S1x1x512_S512_d0_1 h_S_)) (constant S_ .f32 0x00000000#32) pads_S1x512_S3x512_200_000 h_S_) (pad S3x512 ![1, 0] ![1, 0] ![0, 0] (broadcastInDim S1x512 ![1] bcast_S512_S1x512_1 (Host.reduceAdd (shapeCast S1x1x512 cs1_ shapeCasts_S512_S1x1x512) (constant S_ .f32 0x00000000#32) reducesTo_S1x1x512_S512_d0_1 h_S_)) (constant S_ .f32 0x00000000#32) pads_S1x512_S3x512_110_000 h_S_)) (pad S3x512 ![0, 0] ![2, 0] ![0, 0] (broadcastInDim S1x512 ![1] bcast_S512_S1x512_1 (Host.reduceAdd (shapeCast S1x1x512 cs0_ shapeCasts_S512_S1x1x512) (constant S_ .f32 0x00000000#32) reducesTo_S1x1x512_S512_d0_1 h_S_)) (constant S_ .f32 0x00000000#32) pads_S1x512_S3x512_020_000 h_S_)

def dup (dy_ : FVec Ideal S2x4096x512 .f32) (a2 : FVec Ideal S3x512 .f32) : FVec Ideal S2x4098x512 .f32 :=
  addf (addf (pad S2x4098x512 ![0, 2, 0] ![0, 0, 0] ![0, 0, 0] (mulf dy_ (broadcastInDim S2x4096x512 ![0, 1, 2] bcast_S1x1x512_S2x4096x512_0_1_2 (broadcastInDim S1x1x512 ![2] bcast_S512_S1x1x512_2 (shapeCast S512 (extractStridedSlice S1x512 ![2, 0] a2 slices_S3x512_S1x512_2_0) shapeCasts_S1x512_S512)))) (constant S_ .f32 0x00000000#32) pads_S2x4096x512_S2x4098x512_000_200_000 h_S_) (pad S2x4098x512 ![0, 1, 0] ![0, 1, 0] ![0, 0, 0] (mulf dy_ (broadcastInDim S2x4096x512 ![0, 1, 2] bcast_S1x1x512_S2x4096x512_0_1_2 (broadcastInDim S1x1x512 ![2] bcast_S512_S1x1x512_2 (shapeCast S512 (extractStridedSlice S1x512 ![1, 0] a2 slices_S3x512_S1x512_1_0) shapeCasts_S1x512_S512)))) (constant S_ .f32 0x00000000#32) pads_S2x4096x512_S2x4098x512_000_110_000 h_S_)) (pad S2x4098x512 ![0, 0, 0] ![0, 2, 0] ![0, 0, 0] (mulf dy_ (broadcastInDim S2x4096x512 ![0, 1, 2] bcast_S1x1x512_S2x4096x512_0_1_2 (broadcastInDim S1x1x512 ![2] bcast_S512_S1x1x512_2 (shapeCast S512 (extractStridedSlice S1x512 ![0, 0] a2 slices_S3x512_S1x512_0_0) shapeCasts_S1x512_S512)))) (constant S_ .f32 0x00000000#32) pads_S2x4096x512_S2x4098x512_000_020_000 h_S_)

def du (dup_ : FVec Ideal S2x4098x512 .f32) : FVec Ideal S2x4096x512 .f32 :=
  extractStridedSlice S2x4096x512 ![0, 2, 0] dup_ slices_S2x4098x512_S2x4096x512_0_2_0

def dd (a3 : FVec Ideal S2x4096x512 .f32) (yy_ : FVec Ideal S2x4096x512 .f32) (du_ : FVec Ideal S2x4096x512 .f32) (a1 : FVec Ideal S2x4096x7168 .f32) : FVec Ideal S2x4096x1536 .f32 :=
  fn_main_v65 (F := Ideal) (mulf a3 yy_) (mulf du_ (extractStridedSlice S2x4096x512 ![0, 0, 1024] a1 slices_S2x4096x7168_S2x4096x512_0_0_1024)) (mulf (extractStridedSlice S2x4096x512 ![0, 0, 512] a1 slices_S2x4096x7168_S2x4096x512_0_0_512) du_)

def od (dd_ : FVec Ideal S2x4096x1536 .f32) : FVec Ideal S8192x1536 .bf16 :=
  truncf .bf16 (shapeCast S8192x1536 dd_ shapeCasts_S2x4096x1536_S8192x1536) bitsLt_bf16_f32

def ogw (dd_ : FVec Ideal S2x4096x1536 .f32) (a0 : FVec Ideal S2x4096x1024 .f32) : FVec Ideal S1024x1536 .bf16 :=
  truncf .bf16 (transpose S1024x1536 [1, 0] (Host.dotGeneral dot_S2x4096x1536_S2x4096x1024_S1536x1024_01_01_2_2_n_n none dd_ a0) transposes_S1536x1024_S1024x1536_1_0) bitsLt_bf16_f32

theorem uu_at (P b s j) : uu P (ix3 b s j) = P (ix3 b s ⟨512 + j.val, by omega⟩) * P (ix3 b s ⟨1024 + j.val, by omega⟩) := by
  pointwise [uu]

/-- The padded sequence, two tokens late. -/
theorem up_at (U b k j) : up U (ix3 b k j) = if h : k.val < 2 then 0 else U (ix3 b ⟨k.val - 2, by omega⟩ j) := by
  pointwise [up, fn_main_v5]

theorem yy_at (Q W b s j) : yy Q W (ix3 b s j)
    = Q (ix3 b ⟨s.val, by omega⟩ j) * W (ix2 0 j) + Q (ix3 b ⟨1 + s.val, by omega⟩ j) * W (ix2 1 j)
      + Q (ix3 b ⟨2 + s.val, by omega⟩ j) * W (ix2 2 j) := by
  pointwise [yy]

theorem dy_at (P Y b s j) : dy P Y (ix3 b s j) = P (ix3 b s ⟨j.val, by omega⟩) * Y (ix3 b s j) := by
  pointwise [dy]

theorem cs2_at (Q Y j) : cs2 Q Y (ix1 j) = ∑ b : Fin 2, ∑ s : Fin 4096, Q (ix3 b ⟨2 + s.val, by omega⟩ j) * Y (ix3 b s j) := by
  pointwise [cs2]
  rw [sum_outer, zero_add]
  pointwise

theorem cs1_at (Q Y j) : cs1 Q Y (ix1 j) = ∑ b : Fin 2, ∑ s : Fin 4096, Q (ix3 b ⟨1 + s.val, by omega⟩ j) * Y (ix3 b s j) := by
  pointwise [cs1]
  rw [sum_outer, zero_add]
  pointwise

theorem cs0_at (Q Y j) : cs0 Q Y (ix1 j) = ∑ b : Fin 2, ∑ s : Fin 4096, Q (ix3 b ⟨s.val, by omega⟩ j) * Y (ix3 b s j) := by
  pointwise [cs0]
  rw [sum_outer, zero_add]
  pointwise

theorem ocw_at0 (a b d j) : ocw a b d (ix2 0 j) = d (ix1 j) := by
  pointwise [ocw]
  rw [sum_outer, zero_add, Fin.sum_univ_one, Fin.sum_univ_one]
  pointwise

theorem ocw_at1 (a b d j) : ocw a b d (ix2 1 j) = b (ix1 j) := by
  pointwise [ocw]
  rw [sum_outer, zero_add, Fin.sum_univ_one, Fin.sum_univ_one]
  pointwise

theorem ocw_at2 (a b d j) : ocw a b d (ix2 2 j) = a (ix1 j) := by
  pointwise [ocw]
  rw [sum_outer, zero_add, Fin.sum_univ_one, Fin.sum_univ_one]
  pointwise

theorem dup_at (Y W b k j) : dup Y W (ix3 b k j)
    = (if h : 2 ≤ k.val then Y (ix3 b ⟨k.val - 2, by omega⟩ j) * W (ix2 2 j) else 0)
      + (if h : 1 ≤ k.val ∧ k.val < 4097 then Y (ix3 b ⟨k.val - 1, by omega⟩ j) * W (ix2 1 j) else 0)
      + (if h : k.val < 4096 then Y (ix3 b ⟨k.val, h⟩ j) * W (ix2 0 j) else 0) := by
  pointwise [dup]
  have e2 : (2 ≤ k.val ∧ k.val - 2 < 4096) = (2 ≤ k.val) := propext (by omega)
  have e1 : (1 ≤ k.val ∧ k.val - 1 < 4096) = (1 ≤ k.val ∧ k.val < 4097) := propext (by omega)
  simp only [e1, e2]

theorem du_at (D b s j) : du D (ix3 b s j) = D (ix3 b ⟨2 + s.val, by omega⟩ j) := by
  pointwise [du]

theorem dd_at (Y Q D P b s) (e : Fin 1536) : dd Y Q D P (ix3 b s e)
    = if h : e.val < 512 then Y (ix3 b s ⟨e.val, h⟩) * Q (ix3 b s ⟨e.val, h⟩)
      else if h' : e.val - 512 < 512 then D (ix3 b s ⟨e.val - 512, h'⟩) * P (ix3 b s ⟨1024 + (e.val - 512), by omega⟩)
      else P (ix3 b s ⟨512 + (e.val - 512 - 512), by omega⟩) * D (ix3 b s ⟨e.val - 512 - 512, by omega⟩) := by
  pointwise [dd, fn_main_v65]

theorem od_at (D r d) : od D (ix2 r d) = D (ix3 ⟨r.val / 4096, by omega⟩ ⟨r.val % 4096, by omega⟩ d) := by
  pointwise [od]

theorem ogw_at (D X i d) : ogw D X (ix2 i d) = ∑ b : Fin 2, ∑ s : Fin 4096, D (ix3 b s d) * X (ix3 b s i) := by
  pointwise [ogw]

section Closed

variable (X : FVec Ideal S2x4096x1024 .f32) (P : FVec Ideal S2x4096x7168 .f32) (W : FVec Ideal S3x512 .f32)
  (Y : FVec Ideal S2x4096x512 .f32)

/-- The gated sequence the convolution reads. -/
def U (b : Fin 2) (s : Fin 4096) (j : Fin 512) : EReal :=
  P (ix3 b s ⟨512 + j.val, by omega⟩) * P (ix3 b s ⟨1024 + j.val, by omega⟩)

/-- … two tokens late, from zeros. -/
def UP (b : Fin 2) (k : Fin 4098) (j : Fin 512) : EReal := if h : k.val < 2 then 0 else U P b ⟨k.val - 2, by omega⟩ j

/-- The cotangent of the convolution's result. -/
def GY (b : Fin 2) (s : Fin 4096) (j : Fin 512) : EReal := P (ix3 b s ⟨j.val, by omega⟩) * Y (ix3 b s j)

/-- The convolution's result. -/
def CV (b : Fin 2) (s : Fin 4096) (j : Fin 512) : EReal :=
  UP P b ⟨s.val, by omega⟩ j * W (ix2 0 j) + UP P b ⟨1 + s.val, by omega⟩ j * W (ix2 1 j)
    + UP P b ⟨2 + s.val, by omega⟩ j * W (ix2 2 j)

/-- The gradient of the gated sequence: the later tokens that read it, inside the sequence. -/
def GU (b : Fin 2) (s : Fin 4096) (j : Fin 512) : EReal :=
  GY P Y b s j * W (ix2 2 j) + (if h : s.val + 1 < 4096 then GY P Y b ⟨s.val + 1, h⟩ j * W (ix2 1 j) else 0)
    + (if h : s.val + 2 < 4096 then GY P Y b ⟨s.val + 2, h⟩ j * W (ix2 0 j) else 0)

/-- The gradient of the three projected gates, one after the other. -/
def GD (b : Fin 2) (s : Fin 4096) (e : Fin 1536) : EReal :=
  if h : e.val < 512 then Y (ix3 b s ⟨e.val, h⟩) * CV P W b s ⟨e.val, h⟩
  else if h' : e.val - 512 < 512 then GU P W Y b s ⟨e.val - 512, h'⟩ * P (ix3 b s ⟨1024 + (e.val - 512), by omega⟩)
  else P (ix3 b s ⟨512 + (e.val - 512 - 512), by omega⟩) * GU P W Y b s ⟨e.val - 512 - 512, by omega⟩

/-- The gradient of the convolution's weight. -/
def GC (k : Fin 3) (j : Fin 512) : EReal :=
  ∑ b : Fin 2, ∑ s : Fin 4096, UP P b ⟨k.val + s.val, by omega⟩ j * GY P Y b s j

/-- The weight gradient of the projection. -/
def GW (i : Fin 1024) (e : Fin 1536) : EReal := ∑ b : Fin 2, ∑ s : Fin 4096, GD P W Y b s e * X (ix3 b s i)

theorem up_eq (b k j) : up (uu P) (ix3 b k j) = UP P b k j := by
  rw [up_at, UP]
  simp only [uu_at, U]

theorem gy_eq (b s j) : dy P Y (ix3 b s j) = GY P Y b s j := dy_at P Y b s j

theorem cv_eq (b s j) : yy (up (uu P)) W (ix3 b s j) = CV P W b s j := by
  rw [yy_at, up_eq, up_eq, up_eq, CV]

theorem gu_eq (b s j) : du (dup (dy P Y) W) (ix3 b s j) = GU P W Y b s j := by
  have e1 : (1 ≤ 2 + s.val ∧ 2 + s.val < 4097) = (s.val + 1 < 4096) := propext (by omega)
  have e2 : (2 + s.val < 4096) = (s.val + 2 < 4096) := propext (by omega)
  rw [du_at, dup_at, GU]
  simp only [gy_eq, e1, e2]
  rw [dif_pos (by omega)]
  simp only [show 2 + s.val - 2 = s.val by omega, show 2 + s.val - 1 = s.val + 1 by omega]
  simp only [Nat.add_comm 2 s.val]

/-- The reference's array of gate gradients. -/
abbrev DD := dd Y (yy (up (uu P)) W) (du (dup (dy P Y) W)) P

theorem gd_eq (b s e) : DD P W Y (ix3 b s e) = GD P W Y b s e := by
  rw [DD, dd_at, GD]
  simp only [cv_eq, gu_eq]

theorem gc_eq (k j) : ocw (cs2 (up (uu P)) (dy P Y)) (cs1 (up (uu P)) (dy P Y)) (cs0 (up (uu P)) (dy P Y)) (ix2 k j)
    = GC P Y k j := by
  unfold GC
  match k with
  | ⟨0, _⟩ => exact (ocw_at0 _ _ _ j).trans ((cs0_at _ _ j).trans (by simp only [up_eq, gy_eq, Nat.zero_add]))
  | ⟨1, _⟩ => exact (ocw_at1 _ _ _ j).trans ((cs1_at _ _ j).trans (by simp only [up_eq, gy_eq]))
  | ⟨2, _⟩ => exact (ocw_at2 _ _ _ j).trans ((cs2_at _ _ j).trans (by simp only [up_eq, gy_eq]))

theorem gw_eq (i e) : ogw (DD P W Y) X (ix2 i e) = GW X P W Y i e := by
  rw [ogw_at, GW]
  simp only [gd_eq]

end Closed

end Cert.ConvReferenceIdeal.ConvRef

end
-- ==== Proof.ConvPoint.lean ====
/- The backward call of the short convolution: what a grid point computes from its blocks, token by token. -/
module

public import proofs.«01_k».proof.Proof.Gen.ConvKernelIdeal.Frame
public import proofs.«01_k».proof.Proof.ConvRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvKernelIdeal.ConvValue

open Cert.ConvKernelIdeal Cert.ConvKernelIdeal.Gen Cert.Reals
open Cert.ConvReferenceIdeal.ConvRef (U UP GY CV GU GD GC GW)

theorem idx : ∀ t : Fin cfg0.N, win0_0.index t = ![t.val, 0] ∧ win0_1.index t = ![t.val, 1]
    ∧ win0_2.index t = ![t.val, 2] ∧ win0_3.index t = ![64 * t.val - 1, 1] ∧ win0_4.index t = ![64 * t.val - 1, 2]
    ∧ win0_5.index t = ![t.val, 0] ∧ win0_6.index t = ![min (64 * (t.val + 1)) 511, 0]
    ∧ win0_7.index t = ![min (64 * (t.val + 1)) 511, 0] ∧ win0_8.index t = ![0, 0] ∧ win0_9.index t = ![t.val, 0]
    ∧ win0_10.index t = ![t.val, 0] ∧ win0_11.index t = ![0, 0] ∧ win0_12.index t = ![0, 0] :=
  (by decide +kernel : ∀ t : Fin grid0.N, _)

/-- Whether a point is the first of its sequence, and whether it is the last, as the kernel computes it. -/
def edge (t : Fin cfg0.N) (k : BitVec 32) : BitVec 1 :=
  Scalar.cmpi .eq (Scalar.select (Scalar.andi (Scalar.xori (Scalar.cmpi .slt (Scalar.remsi (BitVec.ofNat 32 (grid0.coords t 0).val) 4#32) 0#32)
    0#1) (Scalar.cmpi .ne (Scalar.remsi (BitVec.ofNat 32 (grid0.coords t 0).val) 4#32) 0#32))
    (Scalar.addi (Scalar.remsi (BitVec.ofNat 32 (grid0.coords t 0).val) 4#32) 4#32) (Scalar.remsi (BitVec.ofNat 32 (grid0.coords t 0).val) 4#32)) k

theorem edge_first : ∀ t : Fin cfg0.N, edge t 0#32 = if t.val % 4 = 0 then 1#1 else 0#1 :=
  (by decide +kernel : ∀ t : Fin grid0.N, _)

theorem edge_last : ∀ t : Fin cfg0.N, edge t 3#32 = if t.val % 4 = 3 then 1#1 else 0#1 :=
  (by decide +kernel : ∀ t : Fin grid0.N, _)

section Tile

variable (x0 x1 x2 x5 : FVec Ideal S1024x512 .bf16) (x3 x4 x6 x7 : FVec Ideal S16x512 .bf16) (x8 : FVec Ideal S3x512 .f32)

/-- The rows' numbers, as the kernel compares them. -/
abbrev io : IVec S1024x512 32 := iota Kind.tc S1024x512 32 [0] iota_S1024x512_d0_w32

/-- A choice by a row's number. -/
theorem row_sel {α : Type} (r : Fin 1024) (k : Nat) (hk : k < 1024) (a b : α) :
    Scalar.select (IntOp.cmpi CmpIPredicate.eq (BitVec.ofNat 32 r.val) (BitVec.ofNat 32 k)) a b = if r.val = k then a else b := by
  have e : (BitVec.ofNat 32 r.val == BitVec.ofNat 32 k) = decide (r.val = k) := by
    rw [Bool.eq_iff_iff, beq_iff_eq, decide_eq_true_iff]
    constructor
    · intro h
      have h' := congrArg BitVec.toNat h
      simp only [BitVec.toNat_ofNat] at h'
      omega
    · intro h
      rw [h]
  by_cases h : r.val = k
  · simp [Scalar.select, IntOp.cmpi, h]
  · simp [Scalar.select, IntOp.cmpi, e, h]

theorem bit_sel {α : Type} (q : Prop) [Decidable q] (a b : α) : Scalar.select (if q then 1#1 else 0#1) a b = if q then a else b := by
  by_cases h : q <;> simp [Scalar.select, h]

theorem halo_at (t : Fin cfg0.N) (r j) : k0_pay9 (F := Ideal) (grid0.coords t) x3 x4 (ix2 r j)
    = if t.val % 4 = 0 then 0 else (x3 (ix2 r j) : EReal) * x4 (ix2 r j) := by
  have h2 : k0_pay9 (F := Ideal) (grid0.coords t) x3 x4 = Scalar.select (edge t 0#32)
    (broadcast S16x512 (Scalar.ofBits .f32 0x00000000#32)) (mulf (extf .f32 (shapeCast S16x512 x3 shapeCasts_S16x512_S16x512) bitsLt_bf16_f32) (extf .f32 (shapeCast S16x512 x4 shapeCasts_S16x512_S16x512) bitsLt_bf16_f32)) := rfl
  rw [h2, edge_first, bit_sel]
  split
  · pointwise
  · pointwise

theorem u_at (r j) : k0_pay8 (F := Ideal) x1 x2 (ix2 r j) = (x1 (ix2 r j) : EReal) * x2 (ix2 r j) := by
  pointwise [k0_pay8, k0_pay6, k0_pay7]

theorem u1_at (h : FVec Ideal S16x512 .f32) (r j) : k0_pay12 (F := Ideal) io h (k0_pay10 x1 x2) k0_pay11 (ix2 r j)
    = if r.val = 0 then h (ix2 15 j) else (x1 (ix2 ⟨r.val - 1, by omega⟩ j) : EReal) * x2 (ix2 ⟨r.val - 1, by omega⟩ j) := by
  pointwise [k0_pay12, k0_pay10, k0_pay8, k0_pay6, k0_pay7, k0_pay11]
  rw [row_sel r 0 (by decide)]
  split
  · rfl
  · have e : (r.val + 1024 - 1) % 1024 = r.val - 1 := by omega
    simp only [e]

theorem u2_at (h : FVec Ideal S16x512 .f32) (r j) : k0_pay13 (F := Ideal) io (k0_pay8 x1 x2) h (ix2 r j)
    = if r.val = 1 then h (ix2 15 j) else if r.val = 0 then h (ix2 14 j) else (x1 (ix2 ⟨r.val - 2, by omega⟩ j) : EReal) * x2 (ix2 ⟨r.val - 2, by omega⟩ j) := by
  pointwise [k0_pay13, k0_pay8, k0_pay6, k0_pay7]
  rw [row_sel r 1 (by decide), row_sel r 0 (by decide)]
  split
  · rfl
  · split
    · rfl
    · have e : (r.val + 1024 - 2) % 1024 = r.val - 2 := by omega
      simp only [e]

/-- The sum of a row's three terms, the later rows read within the block or from the rows after it. -/
theorem du_at (d : FVec Ideal S1024x512 .f32) (p : BitVec 1) (r j) : k0_pay17 (F := Ideal) io x8 d p x7 x6 (ix2 r j)
    = x8 (ix2 2 j) * d (ix2 r j)
      + x8 (ix2 1 j) * (if h : r.val + 1 < 1024 then d (ix2 ⟨r.val + 1, h⟩ j)
          else Scalar.select p (0 : EReal) (x7 (ix2 0 j) * x6 (ix2 0 j)))
      + x8 (ix2 0 j) * (if h : r.val + 2 < 1024 then d (ix2 ⟨r.val + 2, h⟩ j)
          else if r.val = 1023 then Scalar.select p (0 : EReal) (x7 (ix2 1 j) * x6 (ix2 1 j))
          else Scalar.select p (0 : EReal) (x7 (ix2 0 j) * x6 (ix2 0 j))) := by
  pointwise [k0_pay17]
  rw [row_sel r 1023 (by decide), row_sel r 1023 (by decide), row_sel r 1022 (by decide)]
  have hr : r.val < 1024 := r.isLt
  by_cases h1 : r.val = 1023
  · rw [if_pos h1, if_pos h1, dif_neg (by omega), dif_neg (by omega), if_pos h1]
  · have e1 : (r.val + 1024 - 1023) % 1024 = r.val + 1 := by omega
    rw [if_neg h1, if_neg h1, dif_pos (by omega), if_neg h1]
    simp only [e1]
    by_cases h2 : r.val = 1022
    · rw [if_pos h2, dif_neg (by omega)]
    · have e2 : (r.val + 1024 - 1022) % 1024 = r.val + 2 := by omega
      rw [if_neg h2, dif_pos (by omega)]
      simp only [e2]

theorem dy_at (r j) : k0_pay16 (F := Ideal) (k0_pay5 x0) x5 (ix2 r j) = (x5 (ix2 r j) : EReal) * x0 (ix2 r j) := by
  pointwise [k0_pay16, k0_pay15, k0_pay5]

theorem y_at (h) (r j) : k0_pay14 (F := Ideal) io (k0_pay8 x1 x2) h (k0_pay10 x1 x2) k0_pay11 x8 (ix2 r j)
    = x8 (ix2 0 j) * k0_pay13 (F := Ideal) io (k0_pay8 x1 x2) h (ix2 r j)
      + x8 (ix2 1 j) * k0_pay12 (F := Ideal) io h (k0_pay10 x1 x2) k0_pay11 (ix2 r j) + x8 (ix2 2 j) * k0_pay8 (F := Ideal) x1 x2 (ix2 r j) := by
  pointwise [k0_pay14]

end Tile

variable (m : (ℓ : Loc nD τ sig) → Buf (Elt Ideal) ℓ)

/-- The arguments on one device. -/
abbrev aX (c : Dev nD) : FVec Ideal S2x4096x1024 .f32 := m ((c : Thread nD τ).loc main_arg0)

abbrev aP (c : Dev nD) : FVec Ideal S2x4096x7168 .f32 := m ((c : Thread nD τ).loc main_arg1)

abbrev aW (c : Dev nD) : FVec Ideal S3x512 .f32 := m ((c : Thread nD τ).loc main_arg2)

abbrev aY (c : Dev nD) : FVec Ideal S2x4096x512 .f32 := m ((c : Thread nD τ).loc main_arg3)

/-- A point's blocks of the three gates are those of its stretch of 1024 tokens. -/
theorem blk0 (c : Dev nD) (t : Fin cfg0.N) (r : Fin 1024) (j : Fin 512) (b : Fin 2) (s : Fin 4096)
    (e : b.val * 4096 + s.val = t.val * 1024 + r.val) : iblk m c 0 t (ix2 r j) = aP m c (ix3 b s ⟨j.val, by omega⟩) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

theorem blk1 (c : Dev nD) (t : Fin cfg0.N) (r : Fin 1024) (j : Fin 512) (b : Fin 2) (s : Fin 4096)
    (e : b.val * 4096 + s.val = t.val * 1024 + r.val) : iblk m c 1 t (ix2 r j) = aP m c (ix3 b s ⟨512 + j.val, by omega⟩) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

theorem blk2 (c : Dev nD) (t : Fin cfg0.N) (r : Fin 1024) (j : Fin 512) (b : Fin 2) (s : Fin 4096)
    (e : b.val * 4096 + s.val = t.val * 1024 + r.val) : iblk m c 2 t (ix2 r j) = aP m c (ix3 b s ⟨1024 + j.val, by omega⟩) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

/-- … its block of the cotangent, and of the layer's input. -/
theorem blk5 (c : Dev nD) (t : Fin cfg0.N) (r : Fin 1024) (j : Fin 512) (b : Fin 2) (s : Fin 4096)
    (e : b.val * 4096 + s.val = t.val * 1024 + r.val) : iblk m c 5 t (ix2 r j) = aY m c (ix3 b s j) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

theorem blk9 (c : Dev nD) (t : Fin cfg0.N) (r i : Fin 1024) (b : Fin 2) (s : Fin 4096)
    (e : b.val * 4096 + s.val = t.val * 1024 + r.val) : iblk m c 9 t (ix2 r i) = aX m c (ix3 b s i) := by
  have h1 : (t.val * 1024 + r.val) / 4096 < 2 := by omega
  have h2 : (t.val * 1024 + r.val) % 4096 < 4096 := by omega
  obtain rfl : b = ⟨(t.val * 1024 + r.val) / 4096, h1⟩ := Fin.ext (by show b.val = _ / 4096; omega)
  obtain rfl : s = ⟨(t.val * 1024 + r.val) % 4096, h2⟩ := Fin.ext (by show s.val = _ % 4096; omega)
  blk_point [iblk, V, idx t]

theorem blk8 (c : Dev nD) (t : Fin cfg0.N) (k : Fin 3) (j : Fin 512) : iblk m c 8 t (ix2 k j) = aW m c (ix2 k j) := by
  blk_point [iblk, V, idx t]

/-- The sixteen rows before a point's stretch. -/
theorem blk3 (c : Dev nD) (t : Fin cfg0.N) (r : Fin 16) (j : Fin 512) (b : Fin 2) (s : Fin 4096)
    (e : b.val * 4096 + s.val = (64 * t.val - 1) * 16 + r.val) : iblk m c 3 t (ix2 r j) = aP m c (ix3 b s ⟨512 + j.val, by omega⟩) := by
  have h1 : ((64 * t.val - 1) * 16 + r.val) / 4096 < 2 := by omega
  have h2 : ((64 * t.val - 1) * 16 + r.val) % 4096 < 4096 := by omega
  obtain rfl : b = ⟨((64 * t.val - 1) * 16 + r.val) / 4096, h1⟩ := Fin.ext (by show b.val = _ / 4096; omega)
  obtain rfl : s = ⟨((64 * t.val - 1) * 16 + r.val) % 4096, h2⟩ := Fin.ext (by show s.val = _ % 4096; omega)
  blk_point [iblk, V, idx t]

theorem blk4 (c : Dev nD) (t : Fin cfg0.N) (r : Fin 16) (j : Fin 512) (b : Fin 2) (s : Fin 4096)
    (e : b.val * 4096 + s.val = (64 * t.val - 1) * 16 + r.val) : iblk m c 4 t (ix2 r j) = aP m c (ix3 b s ⟨1024 + j.val, by omega⟩) := by
  have h1 : ((64 * t.val - 1) * 16 + r.val) / 4096 < 2 := by omega
  have h2 : ((64 * t.val - 1) * 16 + r.val) % 4096 < 4096 := by omega
  obtain rfl : b = ⟨((64 * t.val - 1) * 16 + r.val) / 4096, h1⟩ := Fin.ext (by show b.val = _ / 4096; omega)
  obtain rfl : s = ⟨((64 * t.val - 1) * 16 + r.val) % 4096, h2⟩ := Fin.ext (by show s.val = _ % 4096; omega)
  blk_point [iblk, V, idx t]

/-- The sixteen rows after it. -/
theorem blk6 (c : Dev nD) (t : Fin cfg0.N) (r : Fin 16) (j : Fin 512) (b : Fin 2) (s : Fin 4096)
    (e : b.val * 4096 + s.val = min (64 * (t.val + 1)) 511 * 16 + r.val) : iblk m c 6 t (ix2 r j) = aP m c (ix3 b s ⟨j.val, by omega⟩) := by
  have h1 : (min (64 * (t.val + 1)) 511 * 16 + r.val) / 4096 < 2 := by omega
  have h2 : (min (64 * (t.val + 1)) 511 * 16 + r.val) % 4096 < 4096 := by omega
  obtain rfl : b = ⟨(min (64 * (t.val + 1)) 511 * 16 + r.val) / 4096, h1⟩ := Fin.ext (by show b.val = _ / 4096; omega)
  obtain rfl : s = ⟨(min (64 * (t.val + 1)) 511 * 16 + r.val) % 4096, h2⟩ := Fin.ext (by show s.val = _ % 4096; omega)
  blk_point [iblk, V, idx t]

theorem blk7 (c : Dev nD) (t : Fin cfg0.N) (r : Fin 16) (j : Fin 512) (b : Fin 2) (s : Fin 4096)
    (e : b.val * 4096 + s.val = min (64 * (t.val + 1)) 511 * 16 + r.val) : iblk m c 7 t (ix2 r j) = aY m c (ix3 b s j) := by
  have h1 : (min (64 * (t.val + 1)) 511 * 16 + r.val) / 4096 < 2 := by omega
  have h2 : (min (64 * (t.val + 1)) 511 * 16 + r.val) % 4096 < 4096 := by omega
  obtain rfl : b = ⟨(min (64 * (t.val + 1)) 511 * 16 + r.val) / 4096, h1⟩ := Fin.ext (by show b.val = _ / 4096; omega)
  obtain rfl : s = ⟨(min (64 * (t.val + 1)) 511 * 16 + r.val) % 4096, h2⟩ := Fin.ext (by show s.val = _ % 4096; omega)
  blk_point [iblk, V, idx t]

section Point

variable (c : Dev nD) (t : Fin cfg0.N) (b : Fin 2) (s : Fin 4096) (r : Fin 1024) (j : Fin 512)
  (e : b.val * 4096 + s.val = t.val * 1024 + r.val)

include e in
/-- What a point computes for one of its tokens: the gated sequence, … -/
theorem u_pt : k0_pay8 (F := Ideal) (iblk m c 1 t) (iblk m c 2 t) (ix2 r j) = UP (aP m c) b ⟨2 + s.val, by omega⟩ j := by
  rw [u_at, blk1 m c t r j b s e, blk2 m c t r j b s e, UP, dif_neg (by show ¬2 + s.val < 2; omega)]
  have h : 2 + s.val - 2 = s.val := by omega
  simp only [h]
  rfl

abbrev hl := k0_pay9 (F := Ideal) (grid0.coords t) (iblk m c 3 t) (iblk m c 4 t)

/-- … the two rows before its stretch, … -/
theorem halo_pt (q : Fin 16) (k : Fin 4098) (e : b.val * 4096 + k.val + 14 = t.val * 1024 + q.val)
    (hq : 14 ≤ q.val) (hb : b.val = t.val / 4) : hl m c t (ix2 q j) = UP (aP m c) b k j := by
  have ht : t.val < 8 := t.isLt
  rw [hl, halo_at, UP]
  by_cases h : t.val % 4 = 0
  · rw [if_pos h, dif_pos (by omega)]
  · rw [if_neg h, dif_neg (by omega), blk3 m c t q j b ⟨k.val - 2, by omega⟩ (by show b.val * 4096 + (k.val - 2) = _; omega),
      blk4 m c t q j b ⟨k.val - 2, by omega⟩ (by show b.val * 4096 + (k.val - 2) = _; omega)]
    rfl

abbrev u1 := k0_pay12 (F := Ideal) io (hl m c t) (k0_pay10 (iblk m c 1 t) (iblk m c 2 t)) k0_pay11

abbrev u2 := k0_pay13 (F := Ideal) io (k0_pay8 (iblk m c 1 t) (iblk m c 2 t)) (hl m c t)

include e in
/-- … the sequence one and two tokens late, … -/
theorem u1_pt : u1 m c t (ix2 r j) = UP (aP m c) b ⟨1 + s.val, by omega⟩ j := by
  rw [u1, u1_at]
  by_cases h : r.val = 0
  · rw [if_pos h]
    exact halo_pt m c t b j 15 ⟨1 + s.val, by omega⟩ (by show b.val * 4096 + (1 + s.val) + 14 = t.val * 1024 + 15; omega) (by decide) (by omega)
  · have hs : s.val % 1024 ≠ 0 := by omega
    have e' : b.val * 4096 + (⟨s.val - 1, by omega⟩ : Fin 4096).val = t.val * 1024 + (⟨r.val - 1, by omega⟩ : Fin 1024).val := by
      show b.val * 4096 + (s.val - 1) = t.val * 1024 + (r.val - 1); omega
    rw [if_neg h, blk1 m c t _ j b _ e', blk2 m c t _ j b _ e', UP, dif_neg (by show ¬1 + s.val < 2; omega)]
    have h : 1 + s.val - 2 = s.val - 1 := by omega
    simp only [h]
    rfl

include e in
theorem u2_pt : u2 m c t (ix2 r j) = UP (aP m c) b ⟨s.val, by omega⟩ j := by
  rw [u2, u2_at]
  by_cases h1 : r.val = 1
  · rw [if_pos h1]
    exact halo_pt m c t b j 15 ⟨s.val, by omega⟩ (by show b.val * 4096 + s.val + 14 = t.val * 1024 + 15; omega) (by decide) (by omega)
  rw [if_neg h1]
  by_cases h : r.val = 0
  · rw [if_pos h]
    exact halo_pt m c t b j 14 ⟨s.val, by omega⟩ (by show b.val * 4096 + s.val + 14 = t.val * 1024 + 14; omega) (by decide) (by omega)
  · have hs : 2 ≤ s.val % 1024 := by omega
    have e' : b.val * 4096 + (⟨s.val - 2, by omega⟩ : Fin 4096).val = t.val * 1024 + (⟨r.val - 2, by omega⟩ : Fin 1024).val := by
      show b.val * 4096 + (s.val - 2) = t.val * 1024 + (r.val - 2); omega
    rw [if_neg h, blk1 m c t _ j b _ e', blk2 m c t _ j b _ e', UP, dif_neg (by show ¬s.val < 2; omega)]
    rfl

include e in
/-- … the convolution, … -/
theorem y_pt : k0_pay14 (F := Ideal) io (k0_pay8 (iblk m c 1 t) (iblk m c 2 t)) (hl m c t) (k0_pay10 (iblk m c 1 t) (iblk m c 2 t)) k0_pay11 (iblk m c 8 t) (ix2 r j)
    = CV (aP m c) (aW m c) b s j := by
  have h1 := u1_pt m c t b s r j e
  have h2 := u2_pt m c t b s r j e
  rw [u1] at h1
  rw [u2] at h2
  rw [y_at, h1, h2, u_pt m c t b s r j e, blk8, blk8, blk8, CV]
  exact congrArg₂ (· + ·) (congrArg₂ (· + ·) (mul_comm _ _) (mul_comm _ _)) (mul_comm _ _)

abbrev gy := k0_pay16 (F := Ideal) (k0_pay5 (iblk m c 0 t)) (iblk m c 5 t)

include e in
/-- … its cotangent, … -/
theorem gy_pt : gy m c t (ix2 r j) = GY (aP m c) (aY m c) b s j := by
  rw [gy, dy_at, blk0 m c t r j b s e, blk5 m c t r j b s e]
  exact mul_comm _ _

/-- … that of the two tokens after its stretch, … -/
theorem next_pt (q : Fin 16) (k : Nat) (f : EReal) (e : b.val * 4096 + k = (t.val + 1) * 1024 + q.val) (hb : b.val = t.val / 4) :
    Scalar.select (edge t 3#32) (0 : EReal) (@HMul.hMul EReal EReal EReal _ (iblk m c 7 t (ix2 q j)) (iblk m c 6 t (ix2 q j))) * f
      = if h : k < 4096 then GY (aP m c) (aY m c) b ⟨k, h⟩ j * f else 0 := by
  have ht : t.val < 8 := t.isLt
  rw [edge_last, bit_sel]
  by_cases h : t.val % 4 = 3
  · rw [if_pos h, dif_neg (by omega), zero_mul]
  · rw [if_neg h, dif_pos (by omega), blk6 m c t q j b ⟨k, by omega⟩ (by show b.val * 4096 + k = _; omega),
      blk7 m c t q j b ⟨k, by omega⟩ (by show b.val * 4096 + k = _; omega)]
    exact congrArg (· * f) (mul_comm _ _)

abbrev gu := k0_pay17 (F := Ideal) io (iblk m c 8 t) (gy m c t) (edge t 3#32) (iblk m c 7 t) (iblk m c 6 t)

include e in
/-- … and the gradient of the gated sequence. -/
theorem gu_pt : gu m c t (ix2 r j) = GU (aP m c) (aW m c) (aY m c) b s j := by
  have ht : t.val < 8 := t.isLt
  rw [gu, du_at, blk8, blk8, blk8, gy_pt m c t b s r j e, GU, mul_comm (aW m c (ix2 2 j)), mul_comm (aW m c (ix2 1 j)), mul_comm (aW m c (ix2 0 j))]
  congr 1
  · congr 1
    by_cases h : r.val + 1 < 1024
    · rw [dif_pos h, dif_pos (by omega), gy_pt m c t b ⟨s.val + 1, by omega⟩ ⟨r.val + 1, h⟩ j (by show b.val * 4096 + (s.val + 1) = t.val * 1024 + (r.val + 1); omega)]
    · rw [dif_neg h]
      exact next_pt m c t b j 0 (s.val + 1) _ (by show _ = (t.val + 1) * 1024 + 0; omega) (by omega)
  · by_cases h : r.val + 2 < 1024
    · rw [dif_pos h, dif_pos (by omega), gy_pt m c t b ⟨s.val + 2, by omega⟩ ⟨r.val + 2, h⟩ j (by show b.val * 4096 + (s.val + 2) = t.val * 1024 + (r.val + 2); omega)]
    · rw [dif_neg h]
      by_cases h1 : r.val = 1023
      · rw [if_pos h1]
        exact next_pt m c t b j 1 (s.val + 2) _ (by show _ = (t.val + 1) * 1024 + 1; omega) (by omega)
      · rw [if_neg h1]
        exact next_pt m c t b j 0 (s.val + 2) _ (by show _ = (t.val + 1) * 1024 + 0; omega) (by omega)

end Point

end Cert.ConvKernelIdeal.ConvValue

end
-- ==== Proof.ConvValue.lean ====
/- The backward call of the short convolution: what its three output arrays hold after the run — the gates'
   gradient block by block, and the two weight gradients summed over all blocks. -/
module

public import proofs.«01_k».proof.Proof.ConvPoint

@[expose] public section

set_option maxRecDepth 16384

noncomputable section

open Idealize.ShloMosaic Idealize.ShloMosaic.TcCoe Idealize.SL.Sem
open Idealize.ShloMosaic.Pipeline (Dat)

namespace Cert.ConvKernelIdeal.ConvValue

open Cert.ConvKernelIdeal Cert.ConvKernelIdeal.Gen Cert.Reals
open Cert.ConvReferenceIdeal.ConvRef (U UP GY CV GU GD GC GW)

variable (m : (ℓ : Loc nD τ sig) → Buf (Elt Ideal) ℓ)

/-- Three column blocks, and three rows, stored one after the other. -/
def cols (p0 p1 p2 : FVec Ideal S1024x512 .bf16) : FVec Ideal S1024x1536 .bf16 :=
  View.canon (Val := Elt Ideal) (e := .bf16) [⟨Rect.unit ![0, 1024] ![1024, 512] inb_S1024x1536_S1024x512_0_1024, p2⟩,
    ⟨Rect.unit ![0, 512] ![1024, 512] inb_S1024x1536_S1024x512_0_512, p1⟩, ⟨Rect.unit ![0, 0] ![1024, 512] inb_S1024x1536_S1024x512_0_0, p0⟩]

def rows (p0 p1 p2 : FVec Ideal S1x512 .f32) : FVec Ideal S3x512 .f32 :=
  View.canon (Val := Elt Ideal) (e := .f32) [⟨Rect.unit ![2, 0] ![1, 512] inb_S3x512_S1x512_2_0, p2⟩,
    ⟨Rect.unit ![1, 0] ![1, 512] inb_S3x512_S1x512_1_0, p1⟩, ⟨Rect.unit ![0, 0] ![1, 512] inb_S3x512_S1x512_0_0, p0⟩]

theorem cols_at (p0 p1 p2 r) (d : Fin 1536) : cols p0 p1 p2 (ix2 r d)
    = if h : d.val < 512 then p0 (ix2 r ⟨d.val, h⟩) else if h' : d.val - 512 < 512 then p1 (ix2 r ⟨d.val - 512, h'⟩)
      else p2 (ix2 r ⟨d.val - 512 - 512, by omega⟩) := by
  unfold cols
  canon_tiles x h
  · have h0' : r.val = (x 0).val := h0
    have h1' : d.val = 1024 + (x 1).val := h1
    rw [dif_neg (by omega), dif_neg (by omega)]
    exact congrArg p2 (by blk_ext <;> omega)
  · have h0' : r.val = (x 0).val := h0
    have h1' : d.val = 512 + (x 1).val := h1
    rw [dif_neg (by omega), dif_pos (by omega)]
    exact congrArg p1 (by blk_ext <;> omega)
  · have h0' : r.val = (x 0).val := h0
    have h1' : d.val = (x 1).val := h1
    rw [dif_pos (by omega)]
    exact congrArg p0 (by blk_ext <;> omega)

theorem rows_at (p0 p1 p2) (k : Fin 3) (j : Fin 512) : rows p0 p1 p2 (ix2 k j)
    = if k.val = 0 then p0 (ix2 0 j) else if k.val = 1 then p1 (ix2 0 j) else p2 (ix2 0 j) := by
  unfold rows
  canon_tiles x h
  · have h1' : j.val = (x 1).val := h1
    have h0' : k.val = 2 + (x 0).val := h0
    rw [if_neg (by omega), if_neg (by omega)]
    exact congrArg p2 (by blk_ext <;> omega)
  · have h1' : j.val = (x 1).val := h1
    have h0' : k.val = 1 + (x 0).val := h0
    rw [if_neg (by omega), if_pos (by omega)]
    exact congrArg p1 (by blk_ext <;> omega)
  · have h1' : j.val = (x 1).val := h1
    have h0' : k.val = (x 0).val := h0
    rw [if_pos (by omega)]
    exact congrArg p0 (by blk_ext <;> omega)

/-- A row of the convolution weight's gradient so far. -/
def row0 (z : FVec Ideal S3x512 .f32) : FVec Ideal S1x512 .f32 :=
  View.ld (Val := Elt Ideal) (e' := .f32) z (Rect.unit ![0, 0] ![1, 512] inb_S3x512_S1x512_0_0)

def row1 (z : FVec Ideal S3x512 .f32) : FVec Ideal S1x512 .f32 :=
  View.ld (Val := Elt Ideal) (e' := .f32) z (Rect.unit ![1, 0] ![1, 512] inb_S3x512_S1x512_1_0)

def row2 (z : FVec Ideal S3x512 .f32) : FVec Ideal S1x512 .f32 :=
  View.ld (Val := Elt Ideal) (e' := .f32) z (Rect.unit ![2, 0] ![1, 512] inb_S3x512_S1x512_2_0)

theorem row0_at (z j) : row0 z (ix2 0 j) = z (ix2 0 j) := congrArg z (by blk_ext <;> simp)

theorem row1_at (z j) : row1 z (ix2 0 j) = z (ix2 1 j) := congrArg z (by blk_ext <;> simp)

theorem row2_at (z j) : row2 z (ix2 0 j) = z (ix2 2 j) := congrArg z (by blk_ext <;> simp)

/-- The block's and the rows' places. -/
abbrev q0 : Rect S3x512 := Rect.unit ![0, 0] ![1, 512] inb_S3x512_S1x512_0_0

abbrev q1 : Rect S3x512 := Rect.unit ![1, 0] ![1, 512] inb_S3x512_S1x512_1_0

abbrev q2 : Rect S3x512 := Rect.unit ![2, 0] ![1, 512] inb_S3x512_S1x512_2_0

abbrev qa : Rect S3x512 := Rect.unit ![0, 0] ![3, 512] inb_S3x512_S3x512_0_0

/-- A row read back within a point, over the zeros and the earlier rows' stores. -/
theorem rd0 {sp : Space} (v : View sig .tc sp S3x512 .f32) (z : Vec Ideal S3x512 .f32) :
    v.readCov (Val := Elt Ideal) [⟨qa, z⟩] q0.toLoadRect = row0 z := by
  have h := View.readCov_fill (Val := Elt Ideal) (e := .f32) v (off := ![0, 0]) inb_S3x512_S3x512_0_0 z [] q0 (by decide)
  exact h

theorem rd1 {sp : Space} (v : View sig .tc sp S3x512 .f32) (z : Vec Ideal S3x512 .f32) (p : Vec Ideal S1x512 .f32) :
    v.readCov (Val := Elt Ideal) [⟨q0, p⟩, ⟨qa, z⟩] q1.toLoadRect = row1 z := by
  have h := View.readCov_fill (Val := Elt Ideal) (e := .f32) v (off := ![0, 0]) inb_S3x512_S3x512_0_0 z [] q1 (by decide)
  have h' := View.readCov_skip (Val := Elt Ideal) (e := .f32) v q0 p [⟨qa, z⟩] q1.toLoadRect (by decide)
  exact h'.trans h

theorem rd2 {sp : Space} (v : View sig .tc sp S3x512 .f32) (z : Vec Ideal S3x512 .f32) (p q : Vec Ideal S1x512 .f32) :
    v.readCov (Val := Elt Ideal) [⟨q1, q⟩, ⟨q0, p⟩, ⟨qa, z⟩] q2.toLoadRect = row2 z := by
  have h := View.readCov_fill (Val := Elt Ideal) (e := .f32) v (off := ![0, 0]) inb_S3x512_S3x512_0_0 z [] q2 (by decide)
  have h' := View.readCov_skip (Val := Elt Ideal) (e := .f32) v q0 p [⟨qa, z⟩] q2.toLoadRect (by decide)
  have h'' := View.readCov_skip (Val := Elt Ideal) (e := .f32) v q1 q [⟨q0, p⟩, ⟨qa, z⟩] q2.toLoadRect (by decide)
  exact h''.trans (h'.trans h)

theorem q0_at (j : Fin 512) : q0.emb (ix2 0 j) = ix2 (0 : Fin 3) j := by blk_ext <;> simp

theorem q1_at (j : Fin 512) : q1.emb (ix2 0 j) = ix2 (1 : Fin 3) j := by blk_ext <;> simp

theorem q2_at (j : Fin 512) : q2.emb (ix2 0 j) = ix2 (2 : Fin 3) j := by blk_ext <;> simp

theorem one_row (x : S1x512.Idx) : ∃ j : Fin 512, x = ix2 0 j :=
  ⟨x 1, (eq_ix2 x).trans (congrArg (fun a : Fin 1 => (ix2 a (x 1) : S1x512.Idx)) (Subsingleton.elim _ _))⟩

/-- The three rows' stores cover what was there before. -/
theorem rows_over (p0 p1 p2 : Vec Ideal S1x512 .f32) (z : Vec Ideal S3x512 .f32) (i) :
    View.canon (Val := Elt Ideal) (e := .f32) [⟨q2, p2⟩, ⟨q1, p1⟩, ⟨q0, p0⟩, ⟨qa, z⟩] i = rows p0 p1 p2 i := by
  refine View.canon_append_of_piecesOf (Val := Elt Ideal) (e := .f32) (rows p0 p1 p2) [⟨qa, z⟩] [⟨q2, p2⟩, ⟨q1, p1⟩, ⟨q0, p0⟩] ⟨fun x => ?_, fun x => ?_, fun x => ?_, trivial⟩ i ?_
  · obtain ⟨j, rfl⟩ := one_row x
    show p2 (ix2 0 j) = rows p0 p1 p2 (q2.emb (ix2 0 j))
    rw [q2_at, rows_at, if_neg (show ¬((2 : Fin 3) : ℕ) = 0 by decide), if_neg (show ¬((2 : Fin 3) : ℕ) = 1 by decide)]
  · obtain ⟨j, rfl⟩ := one_row x
    show p1 (ix2 0 j) = rows p0 p1 p2 (q1.emb (ix2 0 j))
    rw [q1_at, rows_at, if_neg (show ¬((1 : Fin 3) : ℕ) = 0 by decide), if_pos (show ((1 : Fin 3) : ℕ) = 1 by decide)]
  · obtain ⟨j, rfl⟩ := one_row x
    show p0 (ix2 0 j) = rows p0 p1 p2 (q0.emb (ix2 0 j))
    rw [q0_at, rows_at, if_pos (show ((0 : Fin 3) : ℕ) = 0 by decide)]
  · obtain ⟨k, j, rfl⟩ : ∃ (k : Fin 3) (j : Fin 512), i = ix2 k j := ⟨_, _, eq_ix2 i⟩
    match k with
    | ⟨0, _⟩ => exact ⟨⟨q0, p0⟩, by simp, (q0_at j) ▸ q0.idx_mem (ix2 0 j)⟩
    | ⟨1, _⟩ => exact ⟨⟨q1, p1⟩, by simp, (q1_at j) ▸ q1.idx_mem (ix2 0 j)⟩
    | ⟨2, _⟩ => exact ⟨⟨q2, p2⟩, by simp, (q2_at j) ▸ q2.idx_mem (ix2 0 j)⟩

/-- A load of the whole block reads what its stores left. -/
theorem rdw {sp : Space} (v : View sig .tc sp S1024x1536 .bf16) (p0 p1 p2 : Vec Ideal S1024x512 .bf16) :
    v.readCov (Val := Elt Ideal) [⟨Rect.unit ![0, 1024] ![1024, 512] inb_S1024x1536_S1024x512_0_1024, p2⟩,
      ⟨Rect.unit ![0, 512] ![1024, 512] inb_S1024x1536_S1024x512_0_512, p1⟩, ⟨Rect.unit ![0, 0] ![1024, 512] inb_S1024x1536_S1024x512_0_0, p0⟩]
      (Rect.unit ![0, 0] ![1024, 1536] inb_S1024x1536_S1024x1536_0_0).toLoadRect = cols p0 p1 p2 := by
  rw [View.readCov_eq_canon']
  exact View.ld_unit_lit (Val := Elt Ideal) (e := .bf16) (S := S1024x1536) (off := ![0, 0]) inb_S1024x1536_S1024x1536_0_0 (cols p0 p1 p2) (by decide)

theorem pay21_at (u g : FVec Ideal S1024x512 .f32) (z j) : k0_pay21 (F := Ideal) u g z (ix2 0 j)
    = z (ix2 0 j) + ∑ r : Fin 1024, g (ix2 r j) * u (ix2 r j) := by
  pointwise [k0_pay21]

theorem pay22_at (u g : FVec Ideal S1024x512 .f32) (z j) : k0_pay22 (F := Ideal) u g z (ix2 0 j)
    = z (ix2 0 j) + ∑ r : Fin 1024, g (ix2 r j) * u (ix2 r j) := by
  pointwise [k0_pay22]

theorem pay23_at (u g : FVec Ideal S1024x512 .f32) (z j) : k0_pay23 (F := Ideal) u g z (ix2 0 j)
    = z (ix2 0 j) + ∑ r : Fin 1024, g (ix2 r j) * u (ix2 r j) := by
  pointwise [k0_pay23]

theorem zero3 (i) : k0_pay3 (F := Ideal) i = 0 := by
  pointwise [k0_pay3]

theorem zero4 (i) : k0_pay4 (F := Ideal) i = 0 := by
  pointwise [k0_pay4]

theorem pay2_at (y : FVec Ideal S1024x1536 .f32) (i) : (k0_pay2 (F := Ideal) y i : EReal) = y i := by
  pointwise [k0_pay2]

/-- The block of the gates' gradient one point stores. -/
abbrev DB (c : Dev nD) (t : Fin cfg0.N) : FVec Ideal S1024x1536 .bf16 :=
  cols (k0_pay18 (k0_pay14 io (k0_pay8 (iblk m c 1 t) (iblk m c 2 t)) (hl m c t) (k0_pay10 (iblk m c 1 t) (iblk m c 2 t)) k0_pay11 (iblk m c 8 t)) (k0_pay15 (iblk m c 5 t)))
    (k0_pay19 io (k0_pay7 (iblk m c 2 t)) (iblk m c 8 t) (gy m c t) (edge t 3#32) (iblk m c 7 t) (iblk m c 6 t))
    (k0_pay20 (k0_pay6 (iblk m c 1 t)) (gu m c t))

theorem pay18_at (y : FVec Ideal S1024x512 .f32) (x : FVec Ideal S1024x512 .bf16) (i) : (k0_pay18 (F := Ideal) y (k0_pay15 x) i : EReal) = x i * y i := by
  obtain ⟨r, j, rfl⟩ : ∃ (r : Fin 1024) (j : Fin 512), i = ix2 r j := ⟨_, _, eq_ix2 i⟩
  pointwise [k0_pay18, k0_pay15]

theorem pay19_at (x : FVec Ideal S1024x512 .bf16) (a b c d e) (i) : (k0_pay19 (F := Ideal) io (k0_pay7 x) a b c d e i : EReal)
    = k0_pay17 (F := Ideal) io a b c d e i * x i := by
  obtain ⟨r, j, rfl⟩ : ∃ (r : Fin 1024) (j : Fin 512), i = ix2 r j := ⟨_, _, eq_ix2 i⟩
  pointwise [k0_pay19, k0_pay7]

theorem pay20_at (x : FVec Ideal S1024x512 .bf16) (g : FVec Ideal S1024x512 .f32) (i) : (k0_pay20 (F := Ideal) (k0_pay6 x) g i : EReal) = g i * x i := by
  obtain ⟨r, j, rfl⟩ : ∃ (r : Fin 1024) (j : Fin 512), i = ix2 r j := ⟨_, _, eq_ix2 i⟩
  pointwise [k0_pay20, k0_pay6]

theorem DB_blk (c : Dev nD) (t : Fin cfg0.N) (r) (d : Fin 1536) (b : Fin 2) (s : Fin 4096)
    (e : b.val * 4096 + s.val = t.val * 1024 + r.val) : DB m c t (ix2 r d) = GD (aP m c) (aW m c) (aY m c) b s d := by
  rw [DB, cols_at, GD]
  split
  · exact (pay18_at _ _ _).trans (by rw [y_pt m c t b s r _ e, blk5 m c t r _ b s e])
  · split
    · have h := gu_pt m c t b s r ⟨d.val - 512, by omega⟩ e
      rw [gu] at h
      exact (pay19_at _ _ _ _ _ _ _).trans (by rw [h, blk2 m c t r _ b s e])
    · exact (pay20_at _ _ _).trans (by rw [gu_pt m c t b s r _ e, blk1 m c t r _ b s e, mul_comm])

/-- The convolution weight's gradient after one more point. -/
abbrev CS (c : Dev nD) (t : Fin cfg0.N) (z : FVec Ideal S3x512 .f32) : FVec Ideal S3x512 .f32 :=
  rows (k0_pay21 (u2 m c t) (gy m c t) (row0 z)) (k0_pay22 (u1 m c t) (gy m c t) (row1 z))
    (k0_pay23 (k0_pay8 (iblk m c 1 t) (iblk m c 2 t)) (gy m c t) (row2 z))

/-- A token's term of it. -/
def ct (c : Dev nD) (i : S3x512.Idx) (l : Fin 8192) : EReal :=
  UP (aP m c) ⟨l.val / 4096, by omega⟩ ⟨(i 0).val + l.val % 4096, by have : (i 0).val < 3 := (i 0).isLt; omega⟩ (i 1)
    * GY (aP m c) (aY m c) ⟨l.val / 4096, by omega⟩ ⟨l.val % 4096, by omega⟩ (i 1)

def CT (c : Dev nD) (t : Fin cfg0.N) (i : S3x512.Idx) : EReal :=
  ∑ r : Fin 1024, ct m c i ⟨t.val * 1024 + r.val, by have : t.val < 8 := t.isLt; omega⟩

theorem CS_at (c : Dev nD) (t : Fin cfg0.N) (z i) : CS m c t z i = z i + CT m c t i := by
  obtain ⟨k, j, rfl⟩ : ∃ (k : Fin 3) (j : Fin 512), i = ix2 k j := ⟨_, _, eq_ix2 i⟩
  have ht : t.val < 8 := t.isLt
  have e : ∀ r : Fin 1024, (⟨(t.val * 1024 + r.val) / 4096, by omega⟩ : Fin 2).val * 4096 + (⟨(t.val * 1024 + r.val) % 4096, by omega⟩ : Fin 4096).val
      = t.val * 1024 + r.val := fun r => by show _ / 4096 * 4096 + _ % 4096 = _; omega
  rw [CS, rows_at, CT]
  match k with
  | ⟨0, _⟩ =>
    rw [if_pos rfl, pay21_at, row0_at]
    refine congrArg (z (ix2 0 j) + ·) (Finset.sum_congr rfl fun r _ => ?_)
    rw [gy_pt m c t _ _ r j (e r), u2_pt m c t _ _ r j (e r), mul_comm]
    exact congrArg (fun k => UP (aP m c) _ k j * _) (Fin.ext (Nat.zero_add _).symm)
  | ⟨1, _⟩ =>
    rw [if_neg (show ¬(1 : ℕ) = 0 by decide), if_pos rfl, pay22_at, row1_at]
    refine congrArg (z (ix2 1 j) + ·) (Finset.sum_congr rfl fun r _ => ?_)
    rw [gy_pt m c t _ _ r j (e r), u1_pt m c t _ _ r j (e r), mul_comm]
    rfl
  | ⟨2, _⟩ =>
    rw [if_neg (show ¬(2 : ℕ) = 0 by decide), if_neg (show ¬(2 : ℕ) = 1 by decide), pay23_at, row2_at]
    refine congrArg (z (ix2 2 j) + ·) (Finset.sum_congr rfl fun r _ => ?_)
    rw [gy_pt m c t _ _ r j (e r), u_pt m c t _ _ r j (e r), mul_comm]
    rfl

/-- The projection weight's gradient after one more point, and a point's terms of it. -/
abbrev WS (c : Dev nD) (t : Fin cfg0.N) (z : FVec Ideal S1024x1536 .f32) : FVec Ideal S1024x1536 .f32 :=
  k0_pay1 (F := Ideal) (k0_pay24 z (iblk m c 9 t) (DB m c t))

def wt (c : Dev nD) (i : S1024x1536.Idx) (l : Fin 8192) : EReal :=
  GD (aP m c) (aW m c) (aY m c) ⟨l.val / 4096, by omega⟩ ⟨l.val % 4096, by omega⟩ (i 1)
    * aX m c (ix3 ⟨l.val / 4096, by omega⟩ ⟨l.val % 4096, by omega⟩ (i 0))

def WT (c : Dev nD) (t : Fin cfg0.N) (i : S1024x1536.Idx) : EReal :=
  ∑ r : Fin 1024, wt m c i ⟨t.val * 1024 + r.val, by have : t.val < 8 := t.isLt; omega⟩

theorem pay24_at (z : FVec Ideal S1024x1536 .f32) (x : FVec Ideal S1024x1024 .bf16) (d : FVec Ideal S1024x1536 .bf16) (i j) :
    k0_pay1 (F := Ideal) (k0_pay24 z x d) (ix2 i j) = z (ix2 i j) + ∑ r : Fin 1024, (x (ix2 r i) : EReal) * d (ix2 r j) := by
  pointwise [k0_pay1, k0_pay24]

theorem WS_at (c : Dev nD) (t : Fin cfg0.N) (z i) : WS m c t z i = z i + WT m c t i := by
  obtain ⟨k, j, rfl⟩ : ∃ (k : Fin 1024) (j : Fin 1536), i = ix2 k j := ⟨_, _, eq_ix2 i⟩
  have ht : t.val < 8 := t.isLt
  have e : ∀ r : Fin 1024, (⟨(t.val * 1024 + r.val) / 4096, by omega⟩ : Fin 2).val * 4096 + (⟨(t.val * 1024 + r.val) % 4096, by omega⟩ : Fin 4096).val
      = t.val * 1024 + r.val := fun r => by show _ / 4096 * 4096 + _ % 4096 = _; omega
  rw [WS, pay24_at, WT]
  refine congrArg (z (ix2 k j) + ·) (Finset.sum_congr rfl fun r _ => ?_)
  exact (mul_comm _ _).trans (congrArg₂ (· * ·) (DB_blk m c t r j _ _ (e r)) (blk9 m c t r k _ _ (e r)))

/-- Where the gates' gradient's blocks sit. -/
theorem emb10 (t : Fin cfg0.N) (r : Fin 1024) (d : Fin 1536) (h : t.val * 1024 + r.val < 8192) :
    ((cfg0.win 10).blk t).view.emb (ix2 r d) = ix2 ⟨t.val * 1024 + r.val, h⟩ d := by
  blk_ext [idx t]

/-- The three output arrays, from the arguments. -/
def outD (P : FVec Ideal S2x4096x7168 .f32) (W : FVec Ideal S3x512 .f32) (Y : FVec Ideal S2x4096x512 .f32) :
    FVec Ideal S8192x1536 .bf16 := fun i =>
  GD P W Y ⟨(i 0).val / 4096, by have : (i 0).val < 8192 := (i 0).isLt; omega⟩ ⟨(i 0).val % 4096, by omega⟩ (i 1)

def outC (P : FVec Ideal S2x4096x7168 .f32) (Y : FVec Ideal S2x4096x512 .f32) : FVec Ideal S3x512 .f32 := fun i =>
  GC P Y (i 0) (i 1)

def outW (X : FVec Ideal S2x4096x1024 .f32) (P : FVec Ideal S2x4096x7168 .f32) (W : FVec Ideal S3x512 .f32)
    (Y : FVec Ideal S2x4096x512 .f32) : FVec Ideal S1024x1536 .bf16 := fun i =>
  GW X P W Y (i 0) (i 1)

theorem point_d (c : Dev nD) (t : Fin cfg0.N) (y) :
    DB m c t y = outD (aP m c) (aW m c) (aY m c) (((cfg0.win 10).blk t).view.emb y) := by
  obtain ⟨r, j, rfl⟩ : ∃ (r : Fin 1024) (j : Fin 1536), y = ix2 r j := ⟨_, _, eq_ix2 y⟩
  have ht : t.val < 8 := t.isLt
  rw [emb10 t r j (by omega), DB_blk m c t r j ⟨(t.val * 1024 + r.val) / 4096, by omega⟩ ⟨(t.val * 1024 + r.val) % 4096, by omega⟩
    (by show _ / 4096 * 4096 + _ % 4096 = _; omega)]
  rfl

theorem final_d (c : Dev nD) : (dats m 0 c).arrAt 10 (cfgs 0).N = outD (aP m c) (aW m c) (aY m c) := by
  refine (dats m 0 c).arrAt_eq_of_covers 10 _ (by decide +kernel) fun t _ y => ?_
  blk_simp
  rw [after0_10]
  by_cases h0 : t.val % 8 = 0
  · rw [outsAt0_A m c t h0 (by omega)]
    frame_out
    exact point_d m c t y
  · by_cases h1 : t.val % 8 = 7
    · rw [outsAt0_C m c t h0 h1]
      frame_out
      exact point_d m c t y
    · rw [outsAt0_B m c t h0 h1]
      frame_out
      exact point_d m c t y

/-- After the last point the convolution weight's gradient holds all tokens' terms. -/
theorem acc_c (c : Dev nD) (i) : (outsAt0 m c t0_7.val t0_7.isLt).2.1 i = ∑ t : Fin cfg0.N, CT m c t i := by
  rw [Pipeline.eq_sum_fin_of_reset_step_apply_last (f := fun n h => (outsAt0 m c n h).2.1) 8 (fun _ => 0)
    (fun t i => CT m c t i)
    (fun t h i => by
      rw [outsAt0_A m c t h (by omega)]; frame_out
      simp only [rd0, rd1, rd2]
      rw [rows_over]
      exact (CS_at m c t (k0_pay3 (F := Ideal)) i).trans (by rw [zero3]))
    (fun t h i => by
      have hk := fun z => CS_at m c t z i
      by_cases h2 : t.val % 8 = 7
      · rw [outsAt0_C m c t h h2]; frame_out; exact hk _
      · rw [outsAt0_B m c t h h2]; frame_out; exact hk _)
    (le_of_eq N_0) t0_7 rfl i, zero_add]

theorem acc_w (c : Dev nD) (i) : (outsAt0 m c t0_7.val t0_7.isLt).2.2.2 i = ∑ t : Fin cfg0.N, WT m c t i := by
  rw [Pipeline.eq_sum_fin_of_reset_step_apply_last (f := fun n h => (outsAt0 m c n h).2.2.2) 8 (fun _ => 0)
    (fun t i => WT m c t i)
    (fun t h i => by
      rw [outsAt0_A m c t h (by omega)]; frame_out
      rw [rdw]
      exact (WS_at m c t (k0_pay4 (F := Ideal)) i).trans (by rw [zero4]))
    (fun t h i => by
      have hk := fun z => WS_at m c t z i
      by_cases h2 : t.val % 8 = 7
      · rw [outsAt0_C m c t h h2]; frame_out; rw [read_unread_whole, rdw]; exact hk _
      · rw [outsAt0_B m c t h h2]; frame_out; rw [read_unread_whole, rdw]; exact hk _)
    (le_of_eq N_0) t0_7 rfl i, zero_add]

theorem final_c (c : Dev nD) : (dats m 0 c).arrAt 11 (cfgs 0).N = outC (aP m c) (aY m c) := by
  refine (dats m 0 c).arrAt_eq_of_after_last 11 t0_7 (by decide +kernel) _ fun i => ?_
  blk_simp
  rw [after0_11, acc_c]
  unfold CT outC GC
  exact (Fin.sum_mul_add_congr (L := 8192) (S := 8) (n := 1024) (f := ct m c i) fun t r hl => rfl).trans
    (Fin.sum_divmod_congr (S := 4096) (A := 2) (N := 8192) fun l ha hs => rfl)

theorem final_w (c : Dev nD) : (dats m 0 c).arrAt 12 (cfgs 0).N = outW (aX m c) (aP m c) (aW m c) (aY m c) := by
  refine (dats m 0 c).arrAt_eq_of_after_last 12 t0_7 (by decide +kernel) _ fun i => ?_
  blk_simp
  have hw : ((outsAt0 m c t0_7.val t0_7.isLt).2.2.1 i : EReal) = (outsAt0 m c t0_7.val t0_7.isLt).2.2.2 i := by
    rw [outsAt0_C m c t0_7 (by decide) (by decide)]
    frame_out
    exact pay2_at _ i
  rw [after0_12, hw, acc_w]
  unfold WT outW GW
  exact (Fin.sum_mul_add_congr (L := 8192) (S := 8) (n := 1024) (f := wt m c i) fun t r hl => rfl).trans
    (Fin.sum_divmod_congr (S := 4096) (A := 2) (N := 8192) fun l ha hs => rfl)

end Cert.ConvKernelIdeal.ConvValue

end
-- ==== Proof.ConvClaim.lean ====
/- The claims about the backward call of the short convolution. -/
module

public import proofs.«01_k».proof.Defs
public import proofs.«01_k».proof.Proof.Gen.ConvKernel
public import proofs.«01_k».proof.Proof.Gen.ConvKernel.Frame
public import proofs.«01_k».proof.Proof.Gen.ConvReferenceIdeal.Run
public import proofs.«01_k».proof.Proof.ConvValue

@[expose] public section

set_option maxRecDepth 16384

noncomputable section

open Idealize.ShloMosaic Idealize.ShloMosaic.TcCoe Idealize.SL.Sem

namespace Cert.Proof

open Cert.ConvReferenceIdeal.ConvRef Cert.ConvKernelIdeal.ConvValue

theorem frame_conv : quiescent_ConvKernel := fun m ρ _ => Cert.ConvKernel.Gen.frame m ρ

theorem frame_convIdeal : quiescent_ConvKernelIdeal := fun m ρ _ => Cert.ConvKernelIdeal.Gen.frame m ρ

theorem frame_convReference : quiescent_ConvReferenceIdeal := fun m ρ _ =>
  (θ_run Cert.ConvReferenceIdeal.defs _ _).mono
    (fun r h => ⟨fun c => (h c).2.2.2, sem_eq_zero_of_no_sems (by decide) r.2⟩)
    (Cert.ConvReferenceIdeal.Value.run (F := Ideal) m ρ)

section Kernel

open Cert.ConvKernelIdeal

variable (m : (ℓ : Loc nD τ sig) → Buf (Elt Ideal) ℓ) (ρ)

/-- The run with its three output arrays named and its arguments unchanged. -/
theorem conv_run : θ_run defs (onTc (τ := τ) (main (F := Ideal))) ⟨m, fun _ => 0, ρ⟩ fun r => ∀ c : Dev nD,
    r.2.mem ((c : Thread nD τ).loc main_v6_0) = outD (aP m c) (aW m c) (aY m c)
      ∧ r.2.mem ((c : Thread nD τ).loc main_v6_1) = outC (aP m c) (aY m c)
      ∧ r.2.mem ((c : Thread nD τ).loc main_v6_2) = outW (aX m c) (aP m c) (aW m c) (aY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 10).trans (final_d m c), ((h c).1 11).trans (final_c m c),
    ((h c).1 12).trans (final_w m c),
    ((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).1 8).trans (((Gen.dats m 0 c).arrAt_in 8 rfl _).trans ((Gen.A_eq m c 8).trans (Gen.V_main_arg2 m c))),
    ((h c).2 main_arg3 (Pipeline.mem_restRefs_of main_arg3 (by decide) (by decide))).trans (Gen.V_main_arg3 m c)⟩)
    (Gen.run_main m ρ)

end Kernel

theorem res_d (P W Y) : od (DD P W Y) = outD P W Y := by
  funext j
  obtain ⟨r, d, rfl⟩ : ∃ (r : Fin 8192) (d : Fin 1536), j = ix2 r d := ⟨_, _, eq_ix2 j⟩
  rw [od_at, gd_eq]
  rfl

theorem res_c (P Y) : ocw (cs2 (up (uu P)) (dy P Y)) (cs1 (up (uu P)) (dy P Y)) (cs0 (up (uu P)) (dy P Y)) = outC P Y := by
  funext j
  obtain ⟨k, d, rfl⟩ : ∃ (k : Fin 3) (d : Fin 512), j = ix2 k d := ⟨_, _, eq_ix2 j⟩
  rw [gc_eq]
  rfl

theorem res_gw (X P W Y) : ogw (DD P W Y) X = Cert.ConvKernelIdeal.ConvValue.outW X P W Y := by
  funext j
  obtain ⟨r, d, rfl⟩ : ∃ (r : Fin 1024) (d : Fin 1536), j = ix2 r d := ⟨_, _, eq_ix2 j⟩
  rw [gw_eq]
  rfl

section Results

open Cert.ConvReferenceIdeal Cert.ConvReferenceIdeal.Gen Cert.ConvReferenceIdeal.Value Idealize.ShloMosaic.StableHlo

variable (m : (ℓ : Loc nD τ sig) → Buf (Elt Ideal) ℓ) (c : Dev nD)

/-- The reference's results are its arrays one after the other. -/
theorem conv_v71_eq : Value.res_main_v71 m c
    = od (DD (m ((c.tc : Thread nD τ).loc main_arg1)) (m ((c.tc : Thread nD τ).loc main_arg2)) (m ((c.tc : Thread nD τ).loc main_arg3))) := by
  unfold Value.res_main_v71 DD od dd du dup dy yy up uu
  rfl

theorem conv_v72_eq : Value.res_main_v72 m c
    = ogw (DD (m ((c.tc : Thread nD τ).loc main_arg1)) (m ((c.tc : Thread nD τ).loc main_arg2)) (m ((c.tc : Thread nD τ).loc main_arg3)))
      (m ((c.tc : Thread nD τ).loc main_arg0)) := by
  unfold Value.res_main_v72 DD ogw dd du dup dy yy up uu
  rfl

/-- The gradient of the convolution's weight, as the reference writes it. -/
theorem conv_v58_eq (P : FVec Ideal S2x4096x7168 .f32) (Y : FVec Ideal S2x4096x512 .f32) :
    (addf (addf (pad S3x512 ![2, 0] ![0, 0] ![0, 0] (broadcastInDim S1x512 ![1] bcast_S512_S1x512_1 (Host.reduceAdd (shapeCast _ (Host.reduceAdd (mulf (extractStridedSlice S2x4096x512 ![0, 2, 0] (concatenate S2x4098x512 1 [⟨S2x2x512, (broadcastInDim S2x2x512 ![] bcast_S_S2x2x512 (constant S_ .f32 0x00000000#32))⟩, ⟨S2x4096x512, (mulf (extractStridedSlice S2x4096x512 ![0, 0, 512] P slices_S2x4096x7168_S2x4096x512_0_0_512) (extractStridedSlice S2x4096x512 ![0, 0, 1024] P slices_S2x4096x7168_S2x4096x512_0_0_1024))⟩] concatenates_S2x2x512_S2x4096x512_S2x4098x512_d1) slices_S2x4098x512_S2x4096x512_0_2_0) (mulf (extractStridedSlice S2x4096x512 ![0, 0, 0] P slices_S2x4096x7168_S2x4096x512_0_0_0) Y)) (constant S_ .f32 0x00000000#32) reducesTo_S2x4096x512_S512_d0_1 h_S_) shapeCasts_S512_S1x1x512) (constant S_ .f32 0x00000000#32) reducesTo_S1x1x512_S512_d0_1 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (extractStridedSlice S2x4096x512 ![0, 1, 0] (concatenate S2x4098x512 1 [⟨S2x2x512, (broadcastInDim S2x2x512 ![] bcast_S_S2x2x512 (constant S_ .f32 0x00000000#32))⟩, ⟨S2x4096x512, (mulf (extractStridedSlice S2x4096x512 ![0, 0, 512] P slices_S2x4096x7168_S2x4096x512_0_0_512) (extractStridedSlice S2x4096x512 ![0, 0, 1024] P slices_S2x4096x7168_S2x4096x512_0_0_1024))⟩] concatenates_S2x2x512_S2x4096x512_S2x4098x512_d1) slices_S2x4098x512_S2x4096x512_0_1_0) (mulf (extractStridedSlice S2x4096x512 ![0, 0, 0] P slices_S2x4096x7168_S2x4096x512_0_0_0) Y)) (constant S_ .f32 0x00000000#32) reducesTo_S2x4096x512_S512_d0_1 h_S_) shapeCasts_S512_S1x1x512) (constant S_ .f32 0x00000000#32) reducesTo_S1x1x512_S512_d0_1 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (extractStridedSlice S2x4096x512 ![0, 0, 0] (concatenate S2x4098x512 1 [⟨S2x2x512, (broadcastInDim S2x2x512 ![] bcast_S_S2x2x512 (constant S_ .f32 0x00000000#32))⟩, ⟨S2x4096x512, (mulf (extractStridedSlice S2x4096x512 ![0, 0, 512] P slices_S2x4096x7168_S2x4096x512_0_0_512) (extractStridedSlice S2x4096x512 ![0, 0, 1024] P slices_S2x4096x7168_S2x4096x512_0_0_1024))⟩] concatenates_S2x2x512_S2x4096x512_S2x4098x512_d1) slices_S2x4098x512_S2x4096x512_0_0_0) (mulf (extractStridedSlice S2x4096x512 ![0, 0, 0] P slices_S2x4096x7168_S2x4096x512_0_0_0) Y)) (constant S_ .f32 0x00000000#32) reducesTo_S2x4096x512_S512_d0_1 h_S_) shapeCasts_S512_S1x1x512) (constant S_ .f32 0x00000000#32) reducesTo_S1x1x512_S512_d0_1 h_S_)) (constant S_ .f32 0x00000000#32) pads_S1x512_S3x512_020_000 h_S_)) = outC P Y := by
  refine Eq.trans ?_ (res_c P Y)
  unfold ocw cs2 cs1 cs0 dy up uu fn_main_v5
  rfl

end Results

set_option maxHeartbeats 2000000 in
/-- All three results: the gradients of the three gates, of the convolution's weight and of the projection's
    weight. -/
theorem algebraic_conv : algebraic_ConvKernelIdeal_ConvReferenceIdeal := by
  pair_intro
  · run_from conv_run m g
  · run_from Cert.ConvReferenceIdeal.Value.run m' g'
    all_goals obtain ⟨h0, h1, h2, h3⟩ := hagree c
    · rw [conv_v71_eq, h1, h2, h3]
      exact res_d _ _ _
    · rw [h1]
      exact conv_v58_eq _ _
    · rw [conv_v72_eq, h0, h1, h2, h3]
      exact res_gw _ _ _ _

end Cert.Proof

end
-- ==== Proof.MergeRef.lean ====
/- The reference of the gated merge's backward call: its six results in closed form, token by token. -/
module

public import proofs.«01_k».proof.Proof.Gen.MergeReferenceIdeal.Run
public import proofs.«01_k».proof.Proof.Reals

@[expose] public section

set_option maxRecDepth 16384

noncomputable section

open Idealize.ShloMosaic Idealize.ShloMosaic.TcCoe Idealize.SL.Sem Idealize.ShloMosaic.StableHlo

namespace Cert.MergeReferenceIdeal.MergeRef

open Cert.MergeReferenceIdeal Cert.MergeReferenceIdeal.Gen Cert.MergeReferenceIdeal.Value Cert.Reals

/-- A gate: the logistic function of one third of the gate projection and its bias. -/
def sg (g : FVec Ideal S2x4096x1024 .f32) (b : FVec Ideal S1024 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf g (broadcastInDim S2x4096x1024 ![0, 1, 2] bcast_S1x1x1024_S2x4096x1024_0_1_2 (broadcastInDim S1x1x1024 ![2] bcast_S1024_S1x1x1024_2 b))))))

/-- The three thirds of the gate projection, of its bias, and the three branch weights. -/
def ga (G : FVec Ideal S2x4096x3072 .f32) : FVec Ideal S2x4096x1024 .f32 := extractStridedSlice S2x4096x1024 ![0, 0, 0] G slices_S2x4096x3072_S2x4096x1024_0_0_0

def gb (G : FVec Ideal S2x4096x3072 .f32) : FVec Ideal S2x4096x1024 .f32 := extractStridedSlice S2x4096x1024 ![0, 0, 1024] G slices_S2x4096x3072_S2x4096x1024_0_0_1024

def gc (G : FVec Ideal S2x4096x3072 .f32) : FVec Ideal S2x4096x1024 .f32 := extractStridedSlice S2x4096x1024 ![0, 0, 2048] G slices_S2x4096x3072_S2x4096x1024_0_0_2048

def ba (B : FVec Ideal S3072 .f32) : FVec Ideal S1024 .f32 := extractStridedSlice S1024 ![0] B slices_S3072_S1024_0

def bb (B : FVec Ideal S3072 .f32) : FVec Ideal S1024 .f32 := extractStridedSlice S1024 ![1024] B slices_S3072_S1024_1024

def bc (B : FVec Ideal S3072 .f32) : FVec Ideal S1024 .f32 := extractStridedSlice S1024 ![2048] B slices_S3072_S1024_2048

def wa (W : FVec Ideal S3x512x1024 .f32) : FVec Ideal S512x1024 .f32 := shapeCast S512x1024 (extractStridedSlice S1x512x1024 ![0, 0, 0] W slices_S3x512x1024_S1x512x1024_0_0_0) shapeCasts_S1x512x1024_S512x1024

def wb (W : FVec Ideal S3x512x1024 .f32) : FVec Ideal S512x1024 .f32 := shapeCast S512x1024 (extractStridedSlice S1x512x1024 ![1, 0, 0] W slices_S3x512x1024_S1x512x1024_1_0_0) shapeCasts_S1x512x1024_S512x1024

def wc (W : FVec Ideal S3x512x1024 .f32) : FVec Ideal S512x1024 .f32 := shapeCast S512x1024 (extractStridedSlice S1x512x1024 ![2, 0, 0] W slices_S3x512x1024_S1x512x1024_2_0_0) shapeCasts_S1x512x1024_S512x1024

/-- A branch's projection, and the cotangent reaching it through its gate. -/
def pj (y : FVec Ideal S2x4096x512 .f32) (w : FVec Ideal S512x1024 .f32) : FVec Ideal S2x4096x1024 .f32 :=
  Host.dotGeneral dot_S2x4096x512_S512x1024_S2x4096x1024_2_0_01_1_n_n none y w

def dq (s M : FVec Ideal S2x4096x1024 .f32) : FVec Ideal S2x4096x1024 .f32 :=
  mulf s (shapeCast S2x4096x1024 M shapeCasts_S2x4096x1024_S2x4096x1024)

/-- A gate's gradient. -/
def dg (M p s : FVec Ideal S2x4096x1024 .f32) : FVec Ideal S2x4096x1024 .f32 :=
  mulf (mulf (shapeCast S2x4096x1024 M shapeCasts_S2x4096x1024_S2x4096x1024) p) (mulf s (subf (broadcastInDim S2x4096x1024 ![] bcast_S_S2x4096x1024 (constant S_ .f32 0x3F800000#32)) s))

/-- … summed over all tokens. -/
def rs (d : FVec Ideal S2x4096x1024 .f32) : FVec Ideal S1024 .f32 :=
  Host.reduceAdd (shapeCast S1x1x1024 (Host.reduceAdd d (constant S_ .f32 0x00000000#32) reducesTo_S2x4096x1024_S1024_d0_1 h_S_) shapeCasts_S1024_S1x1x1024) (constant S_ .f32 0x00000000#32) reducesTo_S1x1x1024_S1024_d0_1 h_S_

/-- A branch's input gradient and its weight's gradient. -/
def oy (q : FVec Ideal S2x4096x1024 .f32) (w : FVec Ideal S512x1024 .f32) : FVec Ideal S8192x512 .bf16 :=
  truncf .bf16 (shapeCast S8192x512 (Host.dotGeneral dot_S2x4096x1024_S512x1024_S2x4096x512_2_1_01_0_n_n none q w) shapeCasts_S2x4096x512_S8192x512) bitsLt_bf16_f32

def gw (q : FVec Ideal S2x4096x1024 .f32) (y : FVec Ideal S2x4096x512 .f32) : FVec Ideal S1x512x1024 .f32 :=
  broadcastInDim S1x512x1024 ![1, 2] bcast_S512x1024_S1x512x1024_1_2 (transpose S512x1024 [1, 0] (Host.dotGeneral dot_S2x4096x1024_S2x4096x512_S1024x512_01_01_2_2_n_n none q y) transposes_S1024x512_S512x1024_1_0)

/-- The gates' gradient side by side, its sums, and the three weights' gradients stacked. -/
def og (d0 d1 d2 : FVec Ideal S2x4096x1024 .f32) : FVec Ideal S8192x3072 .bf16 :=
  truncf .bf16 (shapeCast S8192x3072 (fn_main_v94 (F := Ideal) d0 d1 d2) shapeCasts_S2x4096x3072_S8192x3072) bitsLt_bf16_f32

def ob (r0 r1 r2 : FVec Ideal S1024 .f32) : FVec Ideal S1x3072 .f32 :=
  broadcastInDim S1x3072 ![1] bcast_S3072_S1x3072_1 (fn_main_v93 (F := Ideal) r0 r1 r2)

def ow (g0 g1 g2 : FVec Ideal S1x512x1024 .f32) : FVec Ideal S3x512x1024 .bf16 :=
  truncf .bf16 (addf (addf (pad S3x512x1024 ![2, 0, 0] ![0, 0, 0] ![0, 0, 0] g2 (constant S_ .f32 0x00000000#32) pads_S1x512x1024_S3x512x1024_200_000_000 h_S_) (pad S3x512x1024 ![1, 0, 0] ![1, 0, 0] ![0, 0, 0] g1 (constant S_ .f32 0x00000000#32) pads_S1x512x1024_S3x512x1024_110_000_000 h_S_)) (pad S3x512x1024 ![0, 0, 0] ![2, 0, 0] ![0, 0, 0] g0 (constant S_ .f32 0x00000000#32) pads_S1x512x1024_S3x512x1024_020_000_000 h_S_)) bitsLt_bf16_f32

/-- The logistic function, as both programs spell it. -/
def sig (x : EReal) : EReal := Ideal.div 1 (1 + Ideal.exp (-x))

theorem sg_at (g b i s d) : sg g b (ix3 i s d) = sig (g (ix3 i s d) + b (ix1 d)) := by
  pointwise [sg, sig, word_one]

theorem ga_at (G b s d) : ga G (ix3 b s d) = G (ix3 b s ⟨d.val, by omega⟩) := by pointwise [ga]

theorem gb_at (G b s d) : gb G (ix3 b s d) = G (ix3 b s ⟨1024 + d.val, by omega⟩) := by pointwise [gb]

theorem gc_at (G b s d) : gc G (ix3 b s d) = G (ix3 b s ⟨2048 + d.val, by omega⟩) := by pointwise [gc]

theorem ba_at (B d) : ba B (ix1 d) = B (ix1 ⟨d.val, by omega⟩) := by pointwise [ba]

theorem bb_at (B d) : bb B (ix1 d) = B (ix1 ⟨1024 + d.val, by omega⟩) := by pointwise [bb]

theorem bc_at (B d) : bc B (ix1 d) = B (ix1 ⟨2048 + d.val, by omega⟩) := by pointwise [bc]

theorem wa_at (W k d) : wa W (ix2 k d) = W (ix3 0 k d) := by pointwise [wa]

theorem wb_at (W k d) : wb W (ix2 k d) = W (ix3 1 k d) := by pointwise [wb]

theorem wc_at (W k d) : wc W (ix2 k d) = W (ix3 2 k d) := by pointwise [wc]

theorem pj_at (y w b s d) : pj y w (ix3 b s d) = ∑ k : Fin 512, y (ix3 b s k) * w (ix2 k d) := by pointwise [pj]

theorem dq_at (s M b t d) : dq s M (ix3 b t d) = s (ix3 b t d) * M (ix3 b t d) := by pointwise [dq]

theorem dg_at (M p s b t d) : dg M p s (ix3 b t d) = M (ix3 b t d) * p (ix3 b t d) * (s (ix3 b t d) * (1 - s (ix3 b t d))) := by
  pointwise [dg, word_one]

theorem rs_at (D d) : rs D (ix1 d) = ∑ b : Fin 2, ∑ s : Fin 4096, D (ix3 b s d) := by
  pointwise [rs]
  rw [sum_outer, zero_add, Fin.sum_univ_one, Fin.sum_univ_one]
  pointwise
  rw [sum_outer, zero_add]

theorem oy_at (q w r k) : oy q w (ix2 r k) = ∑ d : Fin 1024, q (ix3 ⟨r.val / 4096, by omega⟩ ⟨r.val % 4096, by omega⟩ d) * w (ix2 k d) := by
  pointwise [oy]

theorem gw_at (q y k d) : gw q y (ix3 0 k d) = ∑ b : Fin 2, ∑ s : Fin 4096, q (ix3 b s d) * y (ix3 b s k) := by
  pointwise [gw]

theorem og_at (d0 d1 d2 r) (e : Fin 3072) : og d0 d1 d2 (ix2 r e)
    = if h : e.val < 1024 then d0 (ix3 ⟨r.val / 4096, by omega⟩ ⟨r.val % 4096, by omega⟩ ⟨e.val, h⟩)
      else if h' : e.val - 1024 < 1024 then d1 (ix3 ⟨r.val / 4096, by omega⟩ ⟨r.val % 4096, by omega⟩ ⟨e.val - 1024, h'⟩)
      else d2 (ix3 ⟨r.val / 4096, by omega⟩ ⟨r.val % 4096, by omega⟩ ⟨e.val - 1024 - 1024, by omega⟩) := by
  pointwise [og, fn_main_v94]

theorem ob_at (r0 r1 r2) (e : Fin 3072) : ob r0 r1 r2 (ix2 0 e)
    = if h : e.val < 1024 then r0 (ix1 ⟨e.val, h⟩)
      else if h' : e.val - 1024 < 1024 then r1 (ix1 ⟨e.val - 1024, h'⟩)
      else r2 (ix1 ⟨e.val - 1024 - 1024, by omega⟩) := by
  pointwise [ob, fn_main_v93]

theorem ow_at0 (g0 g1 g2 k d) : ow g0 g1 g2 (ix3 0 k d) = g0 (ix3 0 k d) := by pointwise [ow]

theorem ow_at1 (g0 g1 g2 k d) : ow g0 g1 g2 (ix3 1 k d) = g1 (ix3 0 k d) := by pointwise [ow]

theorem ow_at2 (g0 g1 g2 k d) : ow g0 g1 g2 (ix3 2 k d) = g2 (ix3 0 k d) := by pointwise [ow]

section Closed

variable (G : FVec Ideal S2x4096x3072 .f32) (YA YB YC : FVec Ideal S2x4096x512 .f32) (W : FVec Ideal S3x512x1024 .f32)
  (B : FVec Ideal S3072 .f32) (M : FVec Ideal S2x4096x1024 .f32)

/-- A gate at a column of the gate projection. -/
def S (b : Fin 2) (s : Fin 4096) (e : Fin 3072) : EReal := sig (G (ix3 b s e) + B (ix1 e))

/-- The cotangent reaching a branch through its gate, and a branch's projection. -/
def Q (b : Fin 2) (s : Fin 4096) (e : Fin 3072) (d : Fin 1024) : EReal := M (ix3 b s d) * S G B b s e

def PJ (Y : FVec Ideal S2x4096x512 .f32) (n : Fin 3) (b : Fin 2) (s : Fin 4096) (d : Fin 1024) : EReal :=
  ∑ k : Fin 512, Y (ix3 b s k) * W (ix3 n k d)

/-- One branch's gate gradient. -/
def GG (Y : FVec Ideal S2x4096x512 .f32) (n : Fin 3) (b : Fin 2) (s : Fin 4096) (e : Fin 3072) (d : Fin 1024) : EReal :=
  Q G B M b s e d * PJ W Y n b s d * (1 - S G B b s e)

/-- The gates' gradient, all columns. -/
def GD (b : Fin 2) (s : Fin 4096) (e : Fin 3072) : EReal :=
  if h : e.val < 1024 then GG G W B M YA 0 b s e ⟨e.val, h⟩
  else if h' : e.val - 1024 < 1024 then GG G W B M YB 1 b s e ⟨e.val - 1024, h'⟩
  else GG G W B M YC 2 b s e ⟨e.val - 1024 - 1024, by omega⟩

/-- … summed over the tokens. -/
def GB (e : Fin 3072) : EReal := ∑ b : Fin 2, ∑ s : Fin 4096, GD G YA YB YC W B M b s e

/-- A branch's input gradient. -/
def GY (n : Fin 3) (b : Fin 2) (s : Fin 4096) (k : Fin 512) : EReal :=
  ∑ d : Fin 1024, Q G B M b s ⟨n.val * 1024 + d.val, by omega⟩ d * W (ix3 n k d)

/-- A branch's weight gradient. -/
def GW (n : Fin 3) (k : Fin 512) (d : Fin 1024) : EReal :=
  ∑ b : Fin 2, ∑ s : Fin 4096, (if n.val = 0 then YA else if n.val = 1 then YB else YC) (ix3 b s k)
    * Q G B M b s ⟨n.val * 1024 + d.val, by omega⟩ d

theorem qa_eq (b s d) : dq (sg (ga G) (ba B)) M (ix3 b s d) = Q G B M b s ⟨0 * 1024 + d.val, by omega⟩ d := by
  rw [dq_at, sg_at, ga_at, ba_at, mul_comm]
  simp only [Q, S, Nat.zero_mul, Nat.zero_add]

theorem qb_eq (b s d) : dq (sg (gb G) (bb B)) M (ix3 b s d) = Q G B M b s ⟨1 * 1024 + d.val, by omega⟩ d := by
  rw [dq_at, sg_at, gb_at, bb_at, mul_comm]
  simp only [Q, S, Nat.one_mul]

theorem qc_eq (b s d) : dq (sg (gc G) (bc B)) M (ix3 b s d) = Q G B M b s ⟨2 * 1024 + d.val, by omega⟩ d := by
  rw [dq_at, sg_at, gc_at, bc_at, mul_comm]
  simp only [Q, S, Nat.reduceMul]

theorem swap (x p s t : EReal) : x * p * (s * t) = x * s * p * t := by
  rw [mul_assoc x p, mul_left_comm p s t, ← mul_assoc x s, ← mul_assoc (x * s) p]

theorem da_eq (b s) (e : Fin 3072) (h : e.val < 1024) : dg M (pj YA (wa W)) (sg (ga G) (ba B)) (ix3 b s ⟨e.val, h⟩)
    = GG G W B M YA 0 b s e ⟨e.val, h⟩ := by
  rw [dg_at, swap, pj_at, sg_at, ga_at, ba_at]
  simp only [wa_at, GG, Q, S, PJ]

theorem db_eq (b s) (e : Fin 3072) (h' : ¬e.val < 1024) (h : e.val - 1024 < 1024) :
    dg M (pj YB (wb W)) (sg (gb G) (bb B)) (ix3 b s ⟨e.val - 1024, h⟩) = GG G W B M YB 1 b s e ⟨e.val - 1024, h⟩ := by
  rw [dg_at, swap, pj_at, sg_at, gb_at, bb_at]
  simp only [wb_at, GG, Q, S, PJ, show 1024 + (e.val - 1024) = e.val by omega]

theorem dc_eq (b s) (e : Fin 3072) (h' : ¬e.val - 1024 < 1024) (h : e.val - 1024 - 1024 < 1024) :
    dg M (pj YC (wc W)) (sg (gc G) (bc B)) (ix3 b s ⟨e.val - 1024 - 1024, h⟩) = GG G W B M YC 2 b s e ⟨e.val - 1024 - 1024, h⟩ := by
  rw [dg_at, swap, pj_at, sg_at, gc_at, bc_at]
  simp only [wc_at, GG, Q, S, PJ, show 2048 + (e.val - 1024 - 1024) = e.val by omega]

/-- The reference's three arrays of gate gradients. -/
abbrev DA := dg M (pj YA (wa W)) (sg (ga G) (ba B))

abbrev DB := dg M (pj YB (wb W)) (sg (gb G) (bb B))

abbrev DC := dg M (pj YC (wc W)) (sg (gc G) (bc B))

theorem g_eq (r e) : og (DA G YA W B M) (DB G YB W B M) (DC G YC W B M) (ix2 r e)
    = GD G YA YB YC W B M ⟨r.val / 4096, by omega⟩ ⟨r.val % 4096, by omega⟩ e := by
  rw [og_at, GD]
  split
  · exact da_eq _ _ _ _ _ _ _ _ _
  · split
    · exact db_eq _ _ _ _ _ _ _ _ (by assumption) _
    · exact dc_eq _ _ _ _ _ _ _ _ (by assumption) _

theorem b_eq (e) : ob (rs (DA G YA W B M)) (rs (DB G YB W B M)) (rs (DC G YC W B M)) (ix2 0 e) = GB G YA YB YC W B M e := by
  rw [ob_at, GB]
  split
  · rw [rs_at]
    exact Finset.sum_congr rfl fun b _ => Finset.sum_congr rfl fun s _ =>
      (da_eq _ _ _ _ _ _ _ _ _).trans (by rw [GD, dif_pos (by assumption)])
  · split
    · rw [rs_at]
      exact Finset.sum_congr rfl fun b _ => Finset.sum_congr rfl fun s _ =>
        (db_eq _ _ _ _ _ _ _ _ (by assumption) _).trans (by rw [GD, dif_neg (by assumption), dif_pos (by assumption)])
    · rw [rs_at]
      exact Finset.sum_congr rfl fun b _ => Finset.sum_congr rfl fun s _ =>
        (dc_eq _ _ _ _ _ _ _ _ (by assumption) _).trans (by rw [GD, dif_neg (by assumption), dif_neg (by assumption)])

theorem ya_eq (r k) : oy (dq (sg (ga G) (ba B)) M) (wa W) (ix2 r k) = GY G W B M 0 ⟨r.val / 4096, by omega⟩ ⟨r.val % 4096, by omega⟩ k := by
  rw [oy_at, GY]
  simp only [qa_eq, wa_at]
  rfl

theorem yb_eq (r k) : oy (dq (sg (gb G) (bb B)) M) (wb W) (ix2 r k) = GY G W B M 1 ⟨r.val / 4096, by omega⟩ ⟨r.val % 4096, by omega⟩ k := by
  rw [oy_at, GY]
  simp only [qb_eq, wb_at]
  rfl

theorem yc_eq (r k) : oy (dq (sg (gc G) (bc B)) M) (wc W) (ix2 r k) = GY G W B M 2 ⟨r.val / 4096, by omega⟩ ⟨r.val % 4096, by omega⟩ k := by
  rw [oy_at, GY]
  simp only [qc_eq, wc_at]
  rfl

theorem w_eq (n k d) : ow (gw (dq (sg (ga G) (ba B)) M) YA) (gw (dq (sg (gb G) (bb B)) M) YB) (gw (dq (sg (gc G) (bc B)) M) YC) (ix3 n k d)
    = GW G YA YB YC B M n k d := by
  unfold GW
  match n with
  | ⟨0, _⟩ => exact (ow_at0 _ _ _ k d).trans ((gw_at _ _ k d).trans (Finset.sum_congr rfl fun b _ => Finset.sum_congr rfl fun s _ =>
      (mul_comm _ _).trans (by rw [qa_eq]; rfl)))
  | ⟨1, _⟩ => exact (ow_at1 _ _ _ k d).trans ((gw_at _ _ k d).trans (Finset.sum_congr rfl fun b _ => Finset.sum_congr rfl fun s _ =>
      (mul_comm _ _).trans (by rw [qb_eq]; rfl)))
  | ⟨2, _⟩ => exact (ow_at2 _ _ _ k d).trans ((gw_at _ _ k d).trans (Finset.sum_congr rfl fun b _ => Finset.sum_congr rfl fun s _ =>
      (mul_comm _ _).trans (by rw [qc_eq]; rfl)))

end Closed

end Cert.MergeReferenceIdeal.MergeRef

end
-- ==== Proof.MergePoint.lean ====
/- The gated merge's backward call: what one point computes of its block, against the closed form. -/
module

public import proofs.«01_k».proof.Proof.Gen.MergeKernelIdeal.Frame
public import Idealize.ShloMosaic.Lib.Pipeline.ReadBack
public import proofs.«01_k».proof.Proof.MergeRef

@[expose] public section

set_option maxRecDepth 16384

noncomputable section

open Idealize.ShloMosaic Idealize.ShloMosaic.TcCoe Idealize.SL.Sem
open Idealize.ShloMosaic.Pipeline (Dat)

namespace Cert.MergeKernelIdeal.MergeValue

open Cert.MergeKernelIdeal Cert.MergeKernelIdeal.Gen Cert.Reals
open Cert.MergeReferenceIdeal.MergeRef (sig S Q PJ GG GD GB GY GW)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![0, 0, 0] ∧ win0_11.index t = ![t.val, 0] ∧ win0_12.index t = ![t.val, 0]
    ∧ win0_13.index t = ![t.val, 0] ∧ win0_14.index t = ![t.val, 0] ∧ win0_15.index t = ![0, 0] ∧ win0_16.index t = ![0, 0, 0] :=
  (by decide +kernel : ∀ t : Fin grid0.N, _)

section Tile

variable (d s p : FVec Ideal S512x1024 .bf16)

theorem pay9_at (i) : (k0_pay9 (F := Ideal) d s i : EReal) = @HMul.hMul EReal EReal EReal _ (d i) (s i) := by
  obtain ⟨r, j, rfl⟩ : ∃ (r : Fin 512) (j : Fin 1024), i = ix2 r j := ⟨_, _, eq_ix2 i⟩
  pointwise [k0_pay9, k0_pay8, k0_pay6, k0_pay7]

theorem pay17_at (i) : (k0_pay17 (F := Ideal) (k0_pay6 d) s i : EReal) = @HMul.hMul EReal EReal EReal _ (d i) (s i) := by
  obtain ⟨r, j, rfl⟩ : ∃ (r : Fin 512) (j : Fin 1024), i = ix2 r j := ⟨_, _, eq_ix2 i⟩
  pointwise [k0_pay17, k0_pay16, k0_pay15, k0_pay6]

theorem pay25_at (i) : (k0_pay25 (F := Ideal) (k0_pay6 d) s i : EReal) = @HMul.hMul EReal EReal EReal _ (d i) (s i) := by
  obtain ⟨r, j, rfl⟩ : ∃ (r : Fin 512) (j : Fin 1024), i = ix2 r j := ⟨_, _, eq_ix2 i⟩
  pointwise [k0_pay25, k0_pay24, k0_pay23, k0_pay6]

/-- One element of a gate's gradient. -/
def gate (d s p : EReal) : EReal := d * s * p * (1 - s)

theorem pay10_at (i) : (k0_pay10 (F := Ideal) d s p i : EReal) = gate (d i) (s i) (p i) := by
  obtain ⟨r, j, rfl⟩ : ∃ (r : Fin 512) (j : Fin 1024), i = ix2 r j := ⟨_, _, eq_ix2 i⟩
  pointwise [k0_pay10, k0_pay8, k0_pay6, k0_pay7, gate, word_one]

theorem pay18_at (i) : (k0_pay18 (F := Ideal) (k0_pay6 d) s p i : EReal) = gate (d i) (s i) (p i) := by
  obtain ⟨r, j, rfl⟩ : ∃ (r : Fin 512) (j : Fin 1024), i = ix2 r j := ⟨_, _, eq_ix2 i⟩
  pointwise [k0_pay18, k0_pay16, k0_pay15, k0_pay6, gate, word_one]

theorem pay26_at (i) : (k0_pay26 (F := Ideal) (k0_pay6 d) s p i : EReal) = gate (d i) (s i) (p i) := by
  obtain ⟨r, j, rfl⟩ : ∃ (r : Fin 512) (j : Fin 1024), i = ix2 r j := ⟨_, _, eq_ix2 i⟩
  pointwise [k0_pay26, k0_pay24, k0_pay23, k0_pay6, gate, word_one]

theorem pay11_at (i) : (k0_pay11 (F := Ideal) d s p i : EReal) = gate (d i) (s i) (p i) := pay10_at d s p i

theorem pay19_at (i) : (k0_pay19 (F := Ideal) (k0_pay6 d) s p i : EReal) = gate (d i) (s i) (p i) := pay18_at d s p i

theorem pay27_at (i) : (k0_pay27 (F := Ideal) (k0_pay6 d) s p i : EReal) = gate (d i) (s i) (p i) := pay26_at d s p i

variable (z : FVec Ideal S1x1024 .f32)

theorem pay12_at (j) : k0_pay12 (F := Ideal) d s p z (ix2 0 j) = z (ix2 0 j) + ∑ r : Fin 512, gate (d (ix2 r j)) (s (ix2 r j)) (p (ix2 r j)) := by
  pointwise [k0_pay12]
  simp only [pay10_at]

theorem pay20_at (j) : k0_pay20 (F := Ideal) (k0_pay6 d) s p z (ix2 0 j) = z (ix2 0 j) + ∑ r : Fin 512, gate (d (ix2 r j)) (s (ix2 r j)) (p (ix2 r j)) := by
  pointwise [k0_pay20]
  simp only [pay18_at]

theorem pay28_at (j) : k0_pay28 (F := Ideal) (k0_pay6 d) s p z (ix2 0 j) = z (ix2 0 j) + ∑ r : Fin 512, gate (d (ix2 r j)) (s (ix2 r j)) (p (ix2 r j)) := by
  pointwise [k0_pay28]
  simp only [pay26_at]

variable (w : FVec Ideal S1x512x1024 .bf16)

theorem pay13_at (r k) : (k0_pay13 (F := Ideal) d s w (ix2 r k) : EReal) = ∑ e : Fin 1024, @HMul.hMul EReal EReal EReal _ (@HMul.hMul EReal EReal EReal _ (d (ix2 r e)) (s (ix2 r e))) (w (ix3 0 k e)) := by
  pointwise [k0_pay13]
  simp only [pay9_at]

theorem pay21_at (r k) : (k0_pay21 (F := Ideal) (k0_pay6 d) s w (ix2 r k) : EReal) = ∑ e : Fin 1024, @HMul.hMul EReal EReal EReal _ (@HMul.hMul EReal EReal EReal _ (d (ix2 r e)) (s (ix2 r e))) (w (ix3 0 k e)) := by
  pointwise [k0_pay21]
  simp only [pay17_at]

theorem pay1_at (r k) : (k0_pay1 (F := Ideal) (k0_pay25 (k0_pay6 d) s) w (ix2 r k) : EReal) = ∑ e : Fin 1024, @HMul.hMul EReal EReal EReal _ (@HMul.hMul EReal EReal EReal _ (d (ix2 r e)) (s (ix2 r e))) (w (ix3 0 k e)) := by
  pointwise [k0_pay1]
  simp only [pay25_at]

variable (y : FVec Ideal S512x512 .bf16) (a : FVec Ideal S1x512x1024 .f32)

theorem pay14_at (k e) : k0_pay14 (F := Ideal) (k0_pay9 d s) a y (ix3 0 k e)
    = a (ix3 0 k e) + ∑ r : Fin 512, @HMul.hMul EReal EReal EReal _ (y (ix2 r k)) (@HMul.hMul EReal EReal EReal _ (d (ix2 r e)) (s (ix2 r e))) := by
  pointwise [k0_pay14]
  simp only [pay9_at]

theorem pay22_at (k e) : k0_pay22 (F := Ideal) (k0_pay17 (k0_pay6 d) s) a y (ix3 0 k e)
    = a (ix3 0 k e) + ∑ r : Fin 512, @HMul.hMul EReal EReal EReal _ (y (ix2 r k)) (@HMul.hMul EReal EReal EReal _ (d (ix2 r e)) (s (ix2 r e))) := by
  pointwise [k0_pay22]
  simp only [pay17_at]

theorem pay2_at (k e) : k0_pay2 (F := Ideal) (k0_pay25 (k0_pay6 d) s) a y (ix3 0 k e)
    = a (ix3 0 k e) + ∑ r : Fin 512, @HMul.hMul EReal EReal EReal _ (y (ix2 r k)) (@HMul.hMul EReal EReal EReal _ (d (ix2 r e)) (s (ix2 r e))) := by
  pointwise [k0_pay2]
  simp only [pay25_at]

theorem pay3_at (v : FVec Ideal S3x512x1024 .f32) (i) : (k0_pay3 (F := Ideal) v i : EReal) = v i := by
  pointwise [k0_pay3]

theorem zero4 (i) : k0_pay4 (F := Ideal) i = 0 := by
  pointwise [k0_pay4]

theorem zero5 (i) : k0_pay5 (F := Ideal) i = 0 := by
  obtain ⟨a, r, j, rfl⟩ : ∃ (a : Fin 3) (r : Fin 512) (j : Fin 1024), i = ix3 a r j := ⟨_, _, _, eq_ix3 i⟩
  pointwise [k0_pay5]

end Tile

variable (m : (ℓ : Loc nD τ sig) → Buf (Elt Ideal) ℓ)

/-- The arguments: the gate projection, the three branch inputs, the branch weights, the gate bias, the cotangent. -/
abbrev aG (c : Dev nD) : FVec Ideal S2x4096x3072 .f32 := m ((c : Thread nD τ).loc main_arg0)

abbrev aA (c : Dev nD) : FVec Ideal S2x4096x512 .f32 := m ((c : Thread nD τ).loc main_arg1)

abbrev aB (c : Dev nD) : FVec Ideal S2x4096x512 .f32 := m ((c : Thread nD τ).loc main_arg2)

abbrev aC (c : Dev nD) : FVec Ideal S2x4096x512 .f32 := m ((c : Thread nD τ).loc main_arg3)

abbrev aW (c : Dev nD) : FVec Ideal S3x512x1024 .f32 := m ((c : Thread nD τ).loc main_arg4)

abbrev aV (c : Dev nD) : FVec Ideal S3072 .f32 := m ((c : Thread nD τ).loc main_arg5)

abbrev aM (c : Dev nD) : FVec Ideal S2x4096x1024 .f32 := m ((c : Thread nD τ).loc main_arg6)

/-! What the host lines leave in the arrays the kernel is given, the row of position `(b, s)` being `b * 4096 + s`. -/

section Host

variable (c : Dev nD) (b : Fin 2) (s : Fin 4096) (R : Fin 8192) (e : b.val * 4096 + s.val = R.val)

include e

theorem val22 (j : Fin 1024) : (V m c main_v22 (ix2 R j) : EReal) = aM m c (ix3 b s j) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

theorem val24 (j : Fin 1024) : (V m c main_v24 (ix2 R j) : EReal) = PJ (aW m c) (aA m c) 0 b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [PJ]

theorem val30 (j : Fin 1024) : (V m c main_v30 (ix2 R j) : EReal) = S (aG m c) (aV m c) b s ⟨j.val, by omega⟩ := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [S, sig]
  rfl

theorem val36 (k : Fin 512) : (V m c main_v36 (ix2 R k) : EReal) = aA m c (ix3 b s k) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

theorem val26 (j : Fin 1024) : (V m c main_v26 (ix2 R j) : EReal) = PJ (aW m c) (aB m c) 1 b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [PJ]

theorem val32 (j : Fin 1024) : (V m c main_v32 (ix2 R j) : EReal) = S (aG m c) (aV m c) b s ⟨1024 + j.val, by omega⟩ := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [S, sig]
  rfl

theorem val38 (k : Fin 512) : (V m c main_v38 (ix2 R k) : EReal) = aB m c (ix3 b s k) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

theorem val28 (j : Fin 1024) : (V m c main_v28 (ix2 R j) : EReal) = PJ (aW m c) (aC m c) 2 b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [PJ]

theorem val34 (j : Fin 1024) : (V m c main_v34 (ix2 R j) : EReal) = S (aG m c) (aV m c) b s ⟨2048 + j.val, by omega⟩ := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [S, sig]
  rfl

theorem val40 (k : Fin 512) : (V m c main_v40 (ix2 R k) : EReal) = aC m c (ix3 b s k) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

end Host

theorem val41 (c : Dev nD) (n k j) : (V m c main_v41 (ix3 n k j) : EReal) = aW m c (ix3 n k j) := by
  entry_read
  pointwise

/-- The row of the array that row `r` of block `t` is. -/
def row (t : Fin cfg0.N) (r : Fin 512) : Fin 8192 := ⟨t.val * 512 + r.val, by have : t.val < 16 := t.isLt; omega⟩

section Blocks

variable (c : Dev nD) (t : Fin cfg0.N) (b : Fin 2) (s : Fin 4096) (r : Fin 512) (e : b.val * 4096 + s.val = t.val * 512 + r.val)

include e

theorem blk0 (j : Fin 1024) : (iblk m c 0 t (ix2 r j) : EReal) = aM m c (ix3 b s j) :=
  (congrArg (V m c main_v22) (by blk_ext [idx t, row] <;> omega)).trans (val22 m c b s (row t r) e j)

theorem blk1 (j : Fin 1024) : (iblk m c 1 t (ix2 r j) : EReal) = PJ (aW m c) (aA m c) 0 b s j :=
  (congrArg (V m c main_v24) (by blk_ext [idx t, row] <;> omega)).trans (val24 m c b s (row t r) e j)

theorem blk2 (j : Fin 1024) : (iblk m c 2 t (ix2 r j) : EReal) = PJ (aW m c) (aB m c) 1 b s j :=
  (congrArg (V m c main_v26) (by blk_ext [idx t, row] <;> omega)).trans (val26 m c b s (row t r) e j)

theorem blk3 (j : Fin 1024) : (iblk m c 3 t (ix2 r j) : EReal) = PJ (aW m c) (aC m c) 2 b s j :=
  (congrArg (V m c main_v28) (by blk_ext [idx t, row] <;> omega)).trans (val28 m c b s (row t r) e j)

theorem blk4 (j : Fin 1024) : (iblk m c 4 t (ix2 r j) : EReal) = S (aG m c) (aV m c) b s ⟨j.val, by omega⟩ :=
  (congrArg (V m c main_v30) (by blk_ext [idx t, row] <;> omega)).trans (val30 m c b s (row t r) e j)

theorem blk5 (j : Fin 1024) : (iblk m c 5 t (ix2 r j) : EReal) = S (aG m c) (aV m c) b s ⟨1024 + j.val, by omega⟩ :=
  (congrArg (V m c main_v32) (by blk_ext [idx t, row] <;> omega)).trans (val32 m c b s (row t r) e j)

theorem blk6 (j : Fin 1024) : (iblk m c 6 t (ix2 r j) : EReal) = S (aG m c) (aV m c) b s ⟨2048 + j.val, by omega⟩ :=
  (congrArg (V m c main_v34) (by blk_ext [idx t, row] <;> omega)).trans (val34 m c b s (row t r) e j)

theorem blk7 (k : Fin 512) : (iblk m c 7 t (ix2 r k) : EReal) = aA m c (ix3 b s k) :=
  (congrArg (V m c main_v36) (by blk_ext [idx t, row] <;> omega)).trans (val36 m c b s (row t r) e k)

theorem blk8 (k : Fin 512) : (iblk m c 8 t (ix2 r k) : EReal) = aB m c (ix3 b s k) :=
  (congrArg (V m c main_v38) (by blk_ext [idx t, row] <;> omega)).trans (val38 m c b s (row t r) e k)

theorem blk9 (k : Fin 512) : (iblk m c 9 t (ix2 r k) : EReal) = aC m c (ix3 b s k) :=
  (congrArg (V m c main_v40) (by blk_ext [idx t, row] <;> omega)).trans (val40 m c b s (row t r) e k)

end Blocks

theorem blk10 (c : Dev nD) (t : Fin cfg0.N) (n k j) : (iblk m c 10 t (ix3 n k j) : EReal) = aW m c (ix3 n k j) :=
  (congrArg (V m c main_v41) (by blk_ext [idx t] <;> omega)).trans (val41 m c n k j)

end Cert.MergeKernelIdeal.MergeValue

end
-- ==== Proof.MergeValue.lean ====
/- The gated merge's backward call: what its six output arrays hold after the run — the gates' and the branch inputs'
   gradients block by block, the bias' and the branch weights' gradients summed over all blocks. -/
module

public import proofs.«01_k».proof.Proof.MergePoint

@[expose] public section

set_option maxRecDepth 16384

noncomputable section

open Idealize.ShloMosaic Idealize.ShloMosaic.TcCoe Idealize.SL.Sem
open Idealize.ShloMosaic.Pipeline (Dat)

namespace Cert.MergeKernelIdeal.MergeValue

open Cert.MergeKernelIdeal Cert.MergeKernelIdeal.Gen Cert.Reals
open Cert.MergeReferenceIdeal.MergeRef (S Q PJ GG GD GB GY GW)

variable (m : (ℓ : Loc nD τ sig) → Buf (Elt Ideal) ℓ)

/-- The places of three column blocks in a block, in the bias' gradient, and of the three weights in their stack. -/
abbrev g0 : Rect S512x3072 := Rect.unit ![0, 0] ![512, 1024] inb_S512x3072_S512x1024_0_0

abbrev b0 : Rect S1x3072 := Rect.unit ![0, 0] ![1, 1024] inb_S1x3072_S1x1024_0_0

abbrev w0 : Rect S3x512x1024 := Rect.unit ![0, 0, 0] ![1, 512, 1024] inb_S3x512x1024_S1x512x1024_0_0_0

abbrev g1 : Rect S512x3072 := Rect.unit ![0, 1024] ![512, 1024] inb_S512x3072_S512x1024_0_1024

abbrev b1 : Rect S1x3072 := Rect.unit ![0, 1024] ![1, 1024] inb_S1x3072_S1x1024_0_1024

abbrev w1 : Rect S3x512x1024 := Rect.unit ![1, 0, 0] ![1, 512, 1024] inb_S3x512x1024_S1x512x1024_1_0_0

abbrev g2 : Rect S512x3072 := Rect.unit ![0, 2048] ![512, 1024] inb_S512x3072_S512x1024_0_2048

abbrev b2 : Rect S1x3072 := Rect.unit ![0, 2048] ![1, 1024] inb_S1x3072_S1x1024_0_2048

abbrev w2 : Rect S3x512x1024 := Rect.unit ![2, 0, 0] ![1, 512, 1024] inb_S3x512x1024_S1x512x1024_2_0_0

abbrev ball : Rect S1x3072 := Rect.unit ![0, 0] ![1, 3072] inb_S1x3072_S1x3072_0_0

abbrev wall : Rect S3x512x1024 := Rect.unit ![0, 0, 0] ![3, 512, 1024] inb_S3x512x1024_S3x512x1024_0_0_0

/-- Three column blocks, and three stacked blocks, stored one after the other. -/
def cols (p0 p1 p2 : FVec Ideal S512x1024 .bf16) : FVec Ideal S512x3072 .bf16 :=
  View.canon (Val := Elt Ideal) (e := .bf16) [⟨g2, p2⟩, ⟨g1, p1⟩, ⟨g0, p0⟩]

def line (p0 p1 p2 : FVec Ideal S1x1024 .f32) : FVec Ideal S1x3072 .f32 :=
  View.canon (Val := Elt Ideal) (e := .f32) [⟨b2, p2⟩, ⟨b1, p1⟩, ⟨b0, p0⟩]

def stack (p0 p1 p2 : FVec Ideal S1x512x1024 .f32) : FVec Ideal S3x512x1024 .f32 :=
  View.canon (Val := Elt Ideal) (e := .f32) [⟨w2, p2⟩, ⟨w1, p1⟩, ⟨w0, p0⟩]

theorem cols_at (p0 p1 p2) r (d : Fin 3072) : cols p0 p1 p2 (ix2 r d)
    = if h : d.val < 1024 then p0 (ix2 r ⟨d.val, h⟩) else if h' : d.val - 1024 < 1024 then p1 (ix2 r ⟨d.val - 1024, h'⟩)
      else p2 (ix2 r ⟨d.val - 1024 - 1024, by omega⟩) := by
  unfold cols
  canon_tiles x h
  · have h0' : r.val = (x 0).val := h0
    have h1' : d.val = 2048 + (x 1).val := h1
    rw [dif_neg (by omega), dif_neg (by omega)]
    exact congrArg p2 (by blk_ext <;> omega)
  · have h0' : r.val = (x 0).val := h0
    have h1' : d.val = 1024 + (x 1).val := h1
    rw [dif_neg (by omega), dif_pos (by omega)]
    exact congrArg p1 (by blk_ext <;> omega)
  · have h0' : r.val = (x 0).val := h0
    have h1' : d.val = (x 1).val := h1
    rw [dif_pos (by omega)]
    exact congrArg p0 (by blk_ext <;> omega)

theorem line_at (p0 p1 p2) (d : Fin 3072) : line p0 p1 p2 (ix2 0 d)
    = if h : d.val < 1024 then p0 (ix2 0 ⟨d.val, h⟩) else if h' : d.val - 1024 < 1024 then p1 (ix2 0 ⟨d.val - 1024, h'⟩)
      else p2 (ix2 0 ⟨d.val - 1024 - 1024, by omega⟩) := by
  unfold line
  canon_tiles x h
  · have h0' : 0 = (x 0).val := h0
    have h1' : d.val = 2048 + (x 1).val := h1
    rw [dif_neg (by omega), dif_neg (by omega)]
    exact congrArg p2 (by blk_ext <;> omega)
  · have h0' : 0 = (x 0).val := h0
    have h1' : d.val = 1024 + (x 1).val := h1
    rw [dif_neg (by omega), dif_pos (by omega)]
    exact congrArg p1 (by blk_ext <;> omega)
  · have h0' : 0 = (x 0).val := h0
    have h1' : d.val = (x 1).val := h1
    rw [dif_pos (by omega)]
    exact congrArg p0 (by blk_ext <;> omega)

theorem stack_at (p0 p1 p2) (n : Fin 3) (k : Fin 512) (j : Fin 1024) : stack p0 p1 p2 (ix3 n k j)
    = if n.val = 0 then p0 (ix3 0 k j) else if n.val = 1 then p1 (ix3 0 k j) else p2 (ix3 0 k j) := by
  unfold stack
  canon_tiles x h
  · have h2' : j.val = (x 2).val := h2
    have h1' : k.val = (x 1).val := h1
    have h0' : n.val = 2 + (x 0).val := h0
    rw [if_neg (by omega), if_neg (by omega)]
    exact congrArg p2 (by blk_ext <;> omega)
  · have h2' : j.val = (x 2).val := h2
    have h1' : k.val = (x 1).val := h1
    have h0' : n.val = 1 + (x 0).val := h0
    rw [if_neg (by omega), if_pos (by omega)]
    exact congrArg p1 (by blk_ext <;> omega)
  · have h2' : j.val = (x 2).val := h2
    have h1' : k.val = (x 1).val := h1
    have h0' : n.val = (x 0).val := h0
    rw [if_pos (by omega)]
    exact congrArg p0 (by blk_ext <;> omega)

/-- A third of the bias' gradient so far, a weight, and a weight's gradient so far. -/
def third0 (z : FVec Ideal S1x3072 .f32) : FVec Ideal S1x1024 .f32 := View.ld (Val := Elt Ideal) (e' := .f32) z b0

def wgt0 (z : FVec Ideal S3x512x1024 .bf16) : FVec Ideal S1x512x1024 .bf16 := View.ld (Val := Elt Ideal) (e' := .bf16) z w0

def part0 (z : FVec Ideal S3x512x1024 .f32) : FVec Ideal S1x512x1024 .f32 := View.ld (Val := Elt Ideal) (e' := .f32) z w0

def third1 (z : FVec Ideal S1x3072 .f32) : FVec Ideal S1x1024 .f32 := View.ld (Val := Elt Ideal) (e' := .f32) z b1

def wgt1 (z : FVec Ideal S3x512x1024 .bf16) : FVec Ideal S1x512x1024 .bf16 := View.ld (Val := Elt Ideal) (e' := .bf16) z w1

def part1 (z : FVec Ideal S3x512x1024 .f32) : FVec Ideal S1x512x1024 .f32 := View.ld (Val := Elt Ideal) (e' := .f32) z w1

def third2 (z : FVec Ideal S1x3072 .f32) : FVec Ideal S1x1024 .f32 := View.ld (Val := Elt Ideal) (e' := .f32) z b2

def wgt2 (z : FVec Ideal S3x512x1024 .bf16) : FVec Ideal S1x512x1024 .bf16 := View.ld (Val := Elt Ideal) (e' := .bf16) z w2

def part2 (z : FVec Ideal S3x512x1024 .f32) : FVec Ideal S1x512x1024 .f32 := View.ld (Val := Elt Ideal) (e' := .f32) z w2

theorem third0_at (z) (j : Fin 1024) : third0 z (ix2 0 j) = z (ix2 0 ⟨j.val, by omega⟩) := congrArg z (by blk_ext <;> simp)

theorem wgt0_at (z k j) : wgt0 z (ix3 0 k j) = z (ix3 0 k j) := congrArg z (by blk_ext <;> simp)

theorem part0_at (z k j) : part0 z (ix3 0 k j) = z (ix3 0 k j) := congrArg z (by blk_ext <;> simp)

theorem third1_at (z) (j : Fin 1024) : third1 z (ix2 0 j) = z (ix2 0 ⟨1024 + j.val, by omega⟩) := congrArg z (by blk_ext <;> simp)

theorem wgt1_at (z k j) : wgt1 z (ix3 0 k j) = z (ix3 1 k j) := congrArg z (by blk_ext <;> simp)

theorem part1_at (z k j) : part1 z (ix3 0 k j) = z (ix3 1 k j) := congrArg z (by blk_ext <;> simp)

theorem third2_at (z) (j : Fin 1024) : third2 z (ix2 0 j) = z (ix2 0 ⟨2048 + j.val, by omega⟩) := congrArg z (by blk_ext <;> simp)

theorem wgt2_at (z k j) : wgt2 z (ix3 0 k j) = z (ix3 2 k j) := congrArg z (by blk_ext <;> simp)

theorem part2_at (z k j) : part2 z (ix3 0 k j) = z (ix3 2 k j) := congrArg z (by blk_ext <;> simp)

/-- A third and a weight's gradient read back within a point, over the zeros and the earlier stores. -/
theorem rdb0 {sp : Space} (v : View sig .tc sp S1x3072 .f32) (z : Vec Ideal S1x3072 .f32) :
    v.readCov (Val := Elt Ideal) [⟨ball, z⟩] b0.toLoadRect = third0 z := by
  have h := View.readCov_fill (Val := Elt Ideal) (e := .f32) v (off := ![0, 0]) inb_S1x3072_S1x3072_0_0 z [] b0 (by decide)
  exact h

theorem rdb1 {sp : Space} (v : View sig .tc sp S1x3072 .f32) (z : Vec Ideal S1x3072 .f32) (p : Vec Ideal S1x1024 .f32) :
    v.readCov (Val := Elt Ideal) [⟨b0, p⟩, ⟨ball, z⟩] b1.toLoadRect = third1 z := by
  have h := View.readCov_fill (Val := Elt Ideal) (e := .f32) v (off := ![0, 0]) inb_S1x3072_S1x3072_0_0 z [] b1 (by decide)
  have h0 := View.readCov_skip (Val := Elt Ideal) (e := .f32) v b0 p [⟨ball, z⟩] b1.toLoadRect (by decide)
  exact h0.trans h

theorem rdb2 {sp : Space} (v : View sig .tc sp S1x3072 .f32) (z : Vec Ideal S1x3072 .f32) (p : Vec Ideal S1x1024 .f32) (q : Vec Ideal S1x1024 .f32) :
    v.readCov (Val := Elt Ideal) [⟨b1, q⟩, ⟨b0, p⟩, ⟨ball, z⟩] b2.toLoadRect = third2 z := by
  have h := View.readCov_fill (Val := Elt Ideal) (e := .f32) v (off := ![0, 0]) inb_S1x3072_S1x3072_0_0 z [] b2 (by decide)
  have h0 := View.readCov_skip (Val := Elt Ideal) (e := .f32) v b0 p [⟨ball, z⟩] b2.toLoadRect (by decide)
  have h1 := View.readCov_skip (Val := Elt Ideal) (e := .f32) v b1 q [⟨b0, p⟩, ⟨ball, z⟩] b2.toLoadRect (by decide)
  exact h1.trans (h0.trans h)

theorem rdw0 {sp : Space} (v : View sig .tc sp S3x512x1024 .f32) (z : Vec Ideal S3x512x1024 .f32) :
    v.readCov (Val := Elt Ideal) [⟨wall, z⟩] w0.toLoadRect = part0 z := by
  have h := View.readCov_fill (Val := Elt Ideal) (e := .f32) v (off := ![0, 0, 0]) inb_S3x512x1024_S3x512x1024_0_0_0 z [] w0 (by decide)
  exact h

theorem rdw1 {sp : Space} (v : View sig .tc sp S3x512x1024 .f32) (z : Vec Ideal S3x512x1024 .f32) (p : Vec Ideal S1x512x1024 .f32) :
    v.readCov (Val := Elt Ideal) [⟨w0, p⟩, ⟨wall, z⟩] w1.toLoadRect = part1 z := by
  have h := View.readCov_fill (Val := Elt Ideal) (e := .f32) v (off := ![0, 0, 0]) inb_S3x512x1024_S3x512x1024_0_0_0 z [] w1 (by decide)
  have h0 := View.readCov_skip (Val := Elt Ideal) (e := .f32) v w0 p [⟨wall, z⟩] w1.toLoadRect (by decide)
  exact h0.trans h

theorem rdw2 {sp : Space} (v : View sig .tc sp S3x512x1024 .f32) (z : Vec Ideal S3x512x1024 .f32) (p : Vec Ideal S1x512x1024 .f32) (q : Vec Ideal S1x512x1024 .f32) :
    v.readCov (Val := Elt Ideal) [⟨w1, q⟩, ⟨w0, p⟩, ⟨wall, z⟩] w2.toLoadRect = part2 z := by
  have h := View.readCov_fill (Val := Elt Ideal) (e := .f32) v (off := ![0, 0, 0]) inb_S3x512x1024_S3x512x1024_0_0_0 z [] w2 (by decide)
  have h0 := View.readCov_skip (Val := Elt Ideal) (e := .f32) v w0 p [⟨wall, z⟩] w2.toLoadRect (by decide)
  have h1 := View.readCov_skip (Val := Elt Ideal) (e := .f32) v w1 q [⟨w0, p⟩, ⟨wall, z⟩] w2.toLoadRect (by decide)
  exact h1.trans (h0.trans h)

theorem b0_at (j : Fin 1024) : b0.emb (ix2 0 j) = ix2 (0 : Fin 1) ⟨j.val, by omega⟩ := by blk_ext <;> simp

theorem w0_at (k : Fin 512) (j : Fin 1024) : w0.emb (ix3 0 k j) = ix3 (0 : Fin 3) k j := by blk_ext <;> simp

theorem b1_at (j : Fin 1024) : b1.emb (ix2 0 j) = ix2 (0 : Fin 1) ⟨1024 + j.val, by omega⟩ := by blk_ext <;> simp

theorem w1_at (k : Fin 512) (j : Fin 1024) : w1.emb (ix3 0 k j) = ix3 (1 : Fin 3) k j := by blk_ext <;> simp

theorem b2_at (j : Fin 1024) : b2.emb (ix2 0 j) = ix2 (0 : Fin 1) ⟨2048 + j.val, by omega⟩ := by blk_ext <;> simp

theorem w2_at (k : Fin 512) (j : Fin 1024) : w2.emb (ix3 0 k j) = ix3 (2 : Fin 3) k j := by blk_ext <;> simp

theorem one_line (x : S1x1024.Idx) : ∃ j : Fin 1024, x = ix2 0 j :=
  ⟨x 1, (eq_ix2 x).trans (congrArg (fun a : Fin 1 => (ix2 a (x 1) : S1x1024.Idx)) (Subsingleton.elim _ _))⟩

theorem one_mat (x : S1x512x1024.Idx) : ∃ (k : Fin 512) (j : Fin 1024), x = ix3 0 k j :=
  ⟨x 1, x 2, (eq_ix3 x).trans (congrArg (fun a : Fin 1 => (ix3 a (x 1) (x 2) : S1x512x1024.Idx)) (Subsingleton.elim _ _))⟩

/-- The three stores cover what was there before. -/
theorem line_over (p0 p1 p2 : Vec Ideal S1x1024 .f32) (z : Vec Ideal S1x3072 .f32) (i) :
    View.canon (Val := Elt Ideal) (e := .f32) [⟨b2, p2⟩, ⟨b1, p1⟩, ⟨b0, p0⟩, ⟨ball, z⟩] i = line p0 p1 p2 i := by
  refine View.canon_append_of_piecesOf (Val := Elt Ideal) (e := .f32) (line p0 p1 p2) [⟨ball, z⟩] [⟨b2, p2⟩, ⟨b1, p1⟩, ⟨b0, p0⟩] ⟨fun x => ?_, fun x => ?_, fun x => ?_, trivial⟩ i ?_
  · obtain ⟨j, rfl⟩ := one_line x
    show p2 (ix2 0 j) = line p0 p1 p2 (b2.emb (ix2 0 j))
    rw [b2_at, line_at, dif_neg (show ¬2048 + j.val < 1024 by omega), dif_neg (show ¬2048 + j.val - 1024 < 1024 by omega)]
    exact congrArg p2 (congrArg (ix2 0) (Fin.ext (by show j.val = 2048 + j.val - 1024 - 1024; omega)))
  · obtain ⟨j, rfl⟩ := one_line x
    show p1 (ix2 0 j) = line p0 p1 p2 (b1.emb (ix2 0 j))
    rw [b1_at, line_at, dif_neg (show ¬1024 + j.val < 1024 by omega), dif_pos (show 1024 + j.val - 1024 < 1024 by omega)]
    exact congrArg p1 (congrArg (ix2 0) (Fin.ext (by show j.val = 1024 + j.val - 1024; omega)))
  · obtain ⟨j, rfl⟩ := one_line x
    show p0 (ix2 0 j) = line p0 p1 p2 (b0.emb (ix2 0 j))
    rw [b0_at, line_at, dif_pos (show j.val < 1024 by omega)]
  · obtain ⟨a, d, rfl⟩ : ∃ (a : Fin 1) (d : Fin 3072), i = ix2 a d := ⟨_, _, eq_ix2 i⟩
    obtain rfl : a = 0 := Subsingleton.elim _ _
    by_cases h : d.val < 1024
    · exact ⟨⟨b0, p0⟩, by simp, (b0_at ⟨d.val, h⟩) ▸ b0.idx_mem (ix2 0 ⟨d.val, h⟩)⟩
    · by_cases h' : d.val < 2048
      · have hd : d = ⟨1024 + (⟨d.val - 1024, by omega⟩ : Fin 1024).val, by show 1024 + (d.val - 1024) < 3072; omega⟩ :=
          Fin.ext (by show d.val = 1024 + (d.val - 1024); omega)
        rw [hd]
        exact ⟨⟨b1, p1⟩, by simp, (b1_at ⟨d.val - 1024, by omega⟩) ▸ b1.idx_mem (ix2 0 ⟨d.val - 1024, by omega⟩)⟩
      · have hd : d = ⟨2048 + (⟨d.val - 2048, by omega⟩ : Fin 1024).val, by show 2048 + (d.val - 2048) < 3072; omega⟩ :=
          Fin.ext (by show d.val = 2048 + (d.val - 2048); omega)
        rw [hd]
        exact ⟨⟨b2, p2⟩, by simp, (b2_at ⟨d.val - 2048, by omega⟩) ▸ b2.idx_mem (ix2 0 ⟨d.val - 2048, by omega⟩)⟩

theorem stack_over (p0 p1 p2 : Vec Ideal S1x512x1024 .f32) (z : Vec Ideal S3x512x1024 .f32) (i) :
    View.canon (Val := Elt Ideal) (e := .f32) [⟨w2, p2⟩, ⟨w1, p1⟩, ⟨w0, p0⟩, ⟨wall, z⟩] i = stack p0 p1 p2 i := by
  refine View.canon_append_of_piecesOf (Val := Elt Ideal) (e := .f32) (stack p0 p1 p2) [⟨wall, z⟩] [⟨w2, p2⟩, ⟨w1, p1⟩, ⟨w0, p0⟩] ⟨fun x => ?_, fun x => ?_, fun x => ?_, trivial⟩ i ?_
  · obtain ⟨k, j, rfl⟩ := one_mat x
    show p2 (ix3 0 k j) = stack p0 p1 p2 (w2.emb (ix3 0 k j))
    rw [w2_at, stack_at, if_neg (show ¬((2 : Fin 3) : ℕ) = 0 by decide), if_neg (show ¬((2 : Fin 3) : ℕ) = 1 by decide)]
  · obtain ⟨k, j, rfl⟩ := one_mat x
    show p1 (ix3 0 k j) = stack p0 p1 p2 (w1.emb (ix3 0 k j))
    rw [w1_at, stack_at, if_neg (show ¬((1 : Fin 3) : ℕ) = 0 by decide), if_pos (show ((1 : Fin 3) : ℕ) = 1 by decide)]
  · obtain ⟨k, j, rfl⟩ := one_mat x
    show p0 (ix3 0 k j) = stack p0 p1 p2 (w0.emb (ix3 0 k j))
    rw [w0_at, stack_at, if_pos (show ((0 : Fin 3) : ℕ) = 0 by decide)]
  · obtain ⟨n, k, j, rfl⟩ : ∃ (n : Fin 3) (k : Fin 512) (j : Fin 1024), i = ix3 n k j := ⟨_, _, _, eq_ix3 i⟩
    match n with
    | ⟨0, _⟩ => exact ⟨⟨w0, p0⟩, by simp, (w0_at k j) ▸ w0.idx_mem (ix3 0 k j)⟩
    | ⟨1, _⟩ => exact ⟨⟨w1, p1⟩, by simp, (w1_at k j) ▸ w1.idx_mem (ix3 0 k j)⟩
    | ⟨2, _⟩ => exact ⟨⟨w2, p2⟩, by simp, (w2_at k j) ▸ w2.idx_mem (ix3 0 k j)⟩

/-- A load of the whole stack reads what its stores left. -/
theorem rdall {sp : Space} (v : View sig .tc sp S3x512x1024 .f32) (p0 p1 p2 : Vec Ideal S1x512x1024 .f32) :
    v.readCov (Val := Elt Ideal) [⟨w2, p2⟩, ⟨w1, p1⟩, ⟨w0, p0⟩] wall.toLoadRect = stack p0 p1 p2 := by
  rw [View.readCov_eq_canon']
  exact View.ld_unit_lit (Val := Elt Ideal) (e := .f32) (S := S3x512x1024) (off := ![0, 0, 0]) inb_S3x512x1024_S3x512x1024_0_0_0 (stack p0 p1 p2) (by decide)

/-- The block of the gates' gradient one point stores, and its blocks of the branch inputs' gradients. -/
abbrev DG (c : Dev nD) (t : Fin cfg0.N) : FVec Ideal S512x3072 .bf16 :=
  cols (k0_pay11 (iblk m c 0 t) (iblk m c 4 t) (iblk m c 1 t)) (k0_pay19 (k0_pay6 (iblk m c 0 t)) (iblk m c 5 t) (iblk m c 2 t))
    (k0_pay27 (k0_pay6 (iblk m c 0 t)) (iblk m c 6 t) (iblk m c 3 t))

abbrev Y0 (c : Dev nD) (t : Fin cfg0.N) : FVec Ideal S512x512 .bf16 := k0_pay13 (iblk m c 0 t) (iblk m c 4 t) (wgt0 (iblk m c 10 t))

abbrev Y1 (c : Dev nD) (t : Fin cfg0.N) : FVec Ideal S512x512 .bf16 :=
  k0_pay21 (k0_pay6 (iblk m c 0 t)) (iblk m c 5 t) (wgt1 (iblk m c 10 t))

abbrev Y2 (c : Dev nD) (t : Fin cfg0.N) : FVec Ideal S512x512 .bf16 :=
  k0_pay1 (k0_pay25 (k0_pay6 (iblk m c 0 t)) (iblk m c 6 t)) (wgt2 (iblk m c 10 t))

section Point

variable (c : Dev nD) (t : Fin cfg0.N) (b : Fin 2) (s : Fin 4096) (r : Fin 512) (e : b.val * 4096 + s.val = t.val * 512 + r.val)

include e

theorem gate0 (j : Fin 1024) : gate (iblk m c 0 t (ix2 r j)) (iblk m c 4 t (ix2 r j)) (iblk m c 1 t (ix2 r j))
    = GG (aG m c) (aW m c) (aV m c) (aM m c) (aA m c) 0 b s ⟨j.val, by omega⟩ j := by
  rw [blk0 m c t b s r e, blk4 m c t b s r e, blk1 m c t b s r e]
  rfl

theorem q0 (j : Fin 1024) : @HMul.hMul EReal EReal EReal _ (iblk m c 0 t (ix2 r j)) (iblk m c 4 t (ix2 r j))
    = Q (aG m c) (aV m c) (aM m c) b s ⟨j.val, by omega⟩ j := by
  rw [blk0 m c t b s r e, blk4 m c t b s r e]
  rfl

theorem gate1 (j : Fin 1024) : gate (iblk m c 0 t (ix2 r j)) (iblk m c 5 t (ix2 r j)) (iblk m c 2 t (ix2 r j))
    = GG (aG m c) (aW m c) (aV m c) (aM m c) (aB m c) 1 b s ⟨1024 + j.val, by omega⟩ j := by
  rw [blk0 m c t b s r e, blk5 m c t b s r e, blk2 m c t b s r e]
  rfl

theorem q1 (j : Fin 1024) : @HMul.hMul EReal EReal EReal _ (iblk m c 0 t (ix2 r j)) (iblk m c 5 t (ix2 r j))
    = Q (aG m c) (aV m c) (aM m c) b s ⟨1024 + j.val, by omega⟩ j := by
  rw [blk0 m c t b s r e, blk5 m c t b s r e]
  rfl

theorem gate2 (j : Fin 1024) : gate (iblk m c 0 t (ix2 r j)) (iblk m c 6 t (ix2 r j)) (iblk m c 3 t (ix2 r j))
    = GG (aG m c) (aW m c) (aV m c) (aM m c) (aC m c) 2 b s ⟨2048 + j.val, by omega⟩ j := by
  rw [blk0 m c t b s r e, blk6 m c t b s r e, blk3 m c t b s r e]
  rfl

theorem q2 (j : Fin 1024) : @HMul.hMul EReal EReal EReal _ (iblk m c 0 t (ix2 r j)) (iblk m c 6 t (ix2 r j))
    = Q (aG m c) (aV m c) (aM m c) b s ⟨2048 + j.val, by omega⟩ j := by
  rw [blk0 m c t b s r e, blk6 m c t b s r e]
  rfl

theorem DG_blk (d : Fin 3072) : DG m c t (ix2 r d) = GD (aG m c) (aA m c) (aB m c) (aC m c) (aW m c) (aV m c) (aM m c) b s d := by
  rw [DG, cols_at, GD]
  split
  · exact (pay11_at _ _ _ _).trans (gate0 m c t b s r e _)
  · split
    · refine (pay19_at _ _ _ _).trans ((gate1 m c t b s r e _).trans ?_)
      exact congrArg (fun x => GG _ _ _ _ _ 1 b s x _) (Fin.ext (by show 1024 + (d.val - 1024) = d.val; omega))
    · refine (pay27_at _ _ _ _).trans ((gate2 m c t b s r e _).trans ?_)
      exact congrArg (fun x => GG _ _ _ _ _ 2 b s x _) (Fin.ext (by show 2048 + (d.val - 1024 - 1024) = d.val; omega))

theorem Y0_blk (k : Fin 512) : Y0 m c t (ix2 r k) = GY (aG m c) (aW m c) (aV m c) (aM m c) 0 b s k := by
  refine (pay13_at _ _ _ _ _).trans (Finset.sum_congr rfl fun j _ => ?_)
  rw [q0 m c t b s r e, wgt0_at, blk10]
  exact congrArg (fun x => Q _ _ _ b s x j * _) (Fin.ext (by show j.val = 0 * 1024 + j.val; omega))

theorem Y1_blk (k : Fin 512) : Y1 m c t (ix2 r k) = GY (aG m c) (aW m c) (aV m c) (aM m c) 1 b s k := by
  refine (pay21_at _ _ _ _ _).trans (Finset.sum_congr rfl fun j _ => ?_)
  rw [q1 m c t b s r e, wgt1_at, blk10]
  exact congrArg (fun x => Q _ _ _ b s x j * _) (Fin.ext (by show 1024 + j.val = 1 * 1024 + j.val; omega))

theorem Y2_blk (k : Fin 512) : Y2 m c t (ix2 r k) = GY (aG m c) (aW m c) (aV m c) (aM m c) 2 b s k := by
  refine (pay1_at _ _ _ _ _).trans (Finset.sum_congr rfl fun j _ => ?_)
  rw [q2 m c t b s r e, wgt2_at, blk10]
  exact congrArg (fun x => Q _ _ _ b s x j * _) (Fin.ext (by show 2048 + j.val = 2 * 1024 + j.val; omega))

end Point

/-- The bias' gradient after one more point, and a token's term of it. -/
abbrev BS (c : Dev nD) (t : Fin cfg0.N) (z : FVec Ideal S1x3072 .f32) : FVec Ideal S1x3072 .f32 :=
  line (k0_pay12 (iblk m c 0 t) (iblk m c 4 t) (iblk m c 1 t) (third0 z))
    (k0_pay20 (k0_pay6 (iblk m c 0 t)) (iblk m c 5 t) (iblk m c 2 t) (third1 z))
    (k0_pay28 (k0_pay6 (iblk m c 0 t)) (iblk m c 6 t) (iblk m c 3 t) (third2 z))

def bt (c : Dev nD) (e : Fin 3072) (l : Fin 8192) : EReal :=
  GD (aG m c) (aA m c) (aB m c) (aC m c) (aW m c) (aV m c) (aM m c) ⟨l.val / 4096, by omega⟩ ⟨l.val % 4096, by omega⟩ e

def BT (c : Dev nD) (t : Fin cfg0.N) (e : Fin 3072) : EReal :=
  ∑ r : Fin 512, bt m c e (row t r)

theorem row_eq (t : Fin cfg0.N) (r : Fin 512) : (⟨(row t r).val / 4096, by omega⟩ : Fin 2).val * 4096 + (⟨(row t r).val % 4096, by omega⟩ : Fin 4096).val
    = t.val * 512 + r.val := by
  show (row t r).val / 4096 * 4096 + (row t r).val % 4096 = (row t r).val
  omega

theorem BS_at (c : Dev nD) (t : Fin cfg0.N) (z) (e : Fin 3072) : BS m c t z (ix2 0 e) = z (ix2 0 e) + BT m c t e := by
  rw [BS, line_at, BT]
  split
  · rw [pay12_at, third0_at]
    refine congrArg (z (ix2 0 e) + ·) (Finset.sum_congr rfl fun r _ => ?_)
    rw [gate0 m c t _ _ r (row_eq t r), bt, GD, dif_pos (by assumption)]
  · split
    · rw [pay20_at, third1_at]
      have he : (⟨1024 + (e.val - 1024), by omega⟩ : Fin 3072) = e := Fin.ext (by show 1024 + (e.val - 1024) = e.val; omega)
      refine congrArg₂ (· + ·) (congrArg (fun x => z (ix2 0 x)) he) (Finset.sum_congr rfl fun r _ => ?_)
      rw [gate1 m c t _ _ r (row_eq t r), bt, GD, dif_neg (by assumption), dif_pos (by assumption)]
      exact congrArg (fun x => GG _ _ _ _ _ 1 _ _ x _) he
    · rw [pay28_at, third2_at]
      have he : (⟨2048 + (e.val - 1024 - 1024), by omega⟩ : Fin 3072) = e := Fin.ext (by show 2048 + (e.val - 1024 - 1024) = e.val; omega)
      refine congrArg₂ (· + ·) (congrArg (fun x => z (ix2 0 x)) he) (Finset.sum_congr rfl fun r _ => ?_)
      rw [gate2 m c t _ _ r (row_eq t r), bt, GD, dif_neg (by assumption), dif_neg (by assumption)]
      exact congrArg (fun x => GG _ _ _ _ _ 2 _ _ x _) he

/-- The branch weights' gradients after one more point, and a token's term of them. -/
abbrev WS (c : Dev nD) (t : Fin cfg0.N) (z : FVec Ideal S3x512x1024 .f32) : FVec Ideal S3x512x1024 .f32 :=
  stack (k0_pay14 (k0_pay9 (iblk m c 0 t) (iblk m c 4 t)) (part0 z) (iblk m c 7 t))
    (k0_pay22 (k0_pay17 (k0_pay6 (iblk m c 0 t)) (iblk m c 5 t)) (part1 z) (iblk m c 8 t))
    (k0_pay2 (k0_pay25 (k0_pay6 (iblk m c 0 t)) (iblk m c 6 t)) (part2 z) (iblk m c 9 t))

def wt (c : Dev nD) (i : S3x512x1024.Idx) (l : Fin 8192) : EReal :=
  (if (i 0).val = 0 then aA m c else if (i 0).val = 1 then aB m c else aC m c) (ix3 ⟨l.val / 4096, by omega⟩ ⟨l.val % 4096, by omega⟩ (i 1))
    * Q (aG m c) (aV m c) (aM m c) ⟨l.val / 4096, by omega⟩ ⟨l.val % 4096, by omega⟩
      ⟨(i 0).val * 1024 + (i 2).val, by have h0 : (i 0).val < 3 := (i 0).isLt; have h2 : (i 2).val < 1024 := (i 2).isLt; omega⟩ (i 2)

def WT (c : Dev nD) (t : Fin cfg0.N) (i : S3x512x1024.Idx) : EReal := ∑ r : Fin 512, wt m c i (row t r)

theorem WS_at (c : Dev nD) (t : Fin cfg0.N) (z i) : WS m c t z i = z i + WT m c t i := by
  obtain ⟨n, k, j, rfl⟩ : ∃ (n : Fin 3) (k : Fin 512) (j : Fin 1024), i = ix3 n k j := ⟨_, _, _, eq_ix3 i⟩
  rw [WS, stack_at, WT]
  match n with
  | ⟨0, _⟩ =>
    rw [if_pos rfl, pay14_at, part0_at]
    refine congrArg (z (ix3 0 k j) + ·) (Finset.sum_congr rfl fun r _ => ?_)
    rw [q0 m c t _ _ r (row_eq t r), blk7 m c t _ _ r (row_eq t r)]
    exact congrArg (fun x => _ * Q _ _ _ _ _ x j) (Fin.ext (by show j.val = 0 * 1024 + j.val; omega))
  | ⟨1, _⟩ =>
    rw [if_neg (show ¬(1 : ℕ) = 0 by decide), if_pos rfl, pay22_at, part1_at]
    refine congrArg (z (ix3 1 k j) + ·) (Finset.sum_congr rfl fun r _ => ?_)
    rw [q1 m c t _ _ r (row_eq t r), blk8 m c t _ _ r (row_eq t r)]
    exact congrArg (fun x => _ * Q _ _ _ _ _ x j) (Fin.ext (by show 1024 + j.val = 1 * 1024 + j.val; omega))
  | ⟨2, _⟩ =>
    rw [if_neg (show ¬(2 : ℕ) = 0 by decide), if_neg (show ¬(2 : ℕ) = 1 by decide), pay2_at, part2_at]
    refine congrArg (z (ix3 2 k j) + ·) (Finset.sum_congr rfl fun r _ => ?_)
    rw [q2 m c t _ _ r (row_eq t r), blk9 m c t _ _ r (row_eq t r)]
    exact congrArg (fun x => _ * Q _ _ _ _ _ x j) (Fin.ext (by show 2048 + j.val = 2 * 1024 + j.val; omega))

/-- The six output arrays, from the arguments. -/
def outG (G : FVec Ideal S2x4096x3072 .f32) (YA YB YC : FVec Ideal S2x4096x512 .f32) (W : FVec Ideal S3x512x1024 .f32)
    (B : FVec Ideal S3072 .f32) (M : FVec Ideal S2x4096x1024 .f32) : FVec Ideal S8192x3072 .bf16 := fun i =>
  GD G YA YB YC W B M ⟨(i 0).val / 4096, by have : (i 0).val < 8192 := (i 0).isLt; omega⟩ ⟨(i 0).val % 4096, by omega⟩ (i 1)

def outY (G : FVec Ideal S2x4096x3072 .f32) (W : FVec Ideal S3x512x1024 .f32) (B : FVec Ideal S3072 .f32)
    (M : FVec Ideal S2x4096x1024 .f32) (n : Fin 3) : FVec Ideal S8192x512 .bf16 := fun i =>
  GY G W B M n ⟨(i 0).val / 4096, by have : (i 0).val < 8192 := (i 0).isLt; omega⟩ ⟨(i 0).val % 4096, by omega⟩ (i 1)

def outB (G : FVec Ideal S2x4096x3072 .f32) (YA YB YC : FVec Ideal S2x4096x512 .f32) (W : FVec Ideal S3x512x1024 .f32)
    (B : FVec Ideal S3072 .f32) (M : FVec Ideal S2x4096x1024 .f32) : FVec Ideal S1x3072 .f32 := fun i => GB G YA YB YC W B M (i 1)

def outW (G : FVec Ideal S2x4096x3072 .f32) (YA YB YC : FVec Ideal S2x4096x512 .f32) (B : FVec Ideal S3072 .f32)
    (M : FVec Ideal S2x4096x1024 .f32) : FVec Ideal S3x512x1024 .bf16 := fun i => GW G YA YB YC B M (i 0) (i 1) (i 2)

theorem emb11 (t : Fin cfg0.N) (r : Fin 512) (d : Fin 3072) : ((cfg0.win 11).blk t).view.emb (ix2 r d) = ix2 (row t r) d := by
  blk_ext [idx t, row]

theorem emb12 (t : Fin cfg0.N) (r : Fin 512) (d : Fin 512) : ((cfg0.win 12).blk t).view.emb (ix2 r d) = ix2 (row t r) d := by
  blk_ext [idx t, row]

theorem emb13 (t : Fin cfg0.N) (r : Fin 512) (d : Fin 512) : ((cfg0.win 13).blk t).view.emb (ix2 r d) = ix2 (row t r) d := by
  blk_ext [idx t, row]

theorem emb14 (t : Fin cfg0.N) (r : Fin 512) (d : Fin 512) : ((cfg0.win 14).blk t).view.emb (ix2 r d) = ix2 (row t r) d := by
  blk_ext [idx t, row]

theorem point_g (c : Dev nD) (t : Fin cfg0.N) (y) : DG m c t y = outG (aG m c) (aA m c) (aB m c) (aC m c) (aW m c) (aV m c) (aM m c) (((cfg0.win 11).blk t).view.emb y) := by
  obtain ⟨r, j, rfl⟩ : ∃ (r : Fin 512) (j : Fin 3072), y = ix2 r j := ⟨_, _, eq_ix2 y⟩
  rw [emb11]
  exact DG_blk m c t _ _ r (row_eq t r) j

theorem point_y0 (c : Dev nD) (t : Fin cfg0.N) (y) :
    Y0 m c t y = outY (aG m c) (aW m c) (aV m c) (aM m c) 0 (((cfg0.win 12).blk t).view.emb y) := by
  obtain ⟨r, j, rfl⟩ : ∃ (r : Fin 512) (j : Fin 512), y = ix2 r j := ⟨_, _, eq_ix2 y⟩
  rw [emb12]
  exact Y0_blk m c t _ _ r (row_eq t r) j

theorem point_y1 (c : Dev nD) (t : Fin cfg0.N) (y) :
    Y1 m c t y = outY (aG m c) (aW m c) (aV m c) (aM m c) 1 (((cfg0.win 13).blk t).view.emb y) := by
  obtain ⟨r, j, rfl⟩ : ∃ (r : Fin 512) (j : Fin 512), y = ix2 r j := ⟨_, _, eq_ix2 y⟩
  rw [emb13]
  exact Y1_blk m c t _ _ r (row_eq t r) j

theorem point_y2 (c : Dev nD) (t : Fin cfg0.N) (y) :
    Y2 m c t y = outY (aG m c) (aW m c) (aV m c) (aM m c) 2 (((cfg0.win 14).blk t).view.emb y) := by
  obtain ⟨r, j, rfl⟩ : ∃ (r : Fin 512) (j : Fin 512), y = ix2 r j := ⟨_, _, eq_ix2 y⟩
  rw [emb14]
  exact Y2_blk m c t _ _ r (row_eq t r) j

theorem final_g (c : Dev nD) : (dats m 0 c).arrAt 11 (cfgs 0).N = outG (aG m c) (aA m c) (aB m c) (aC m c) (aW m c) (aV m c) (aM m c) := by
  refine (dats m 0 c).arrAt_eq_of_covers 11 _ (by decide +kernel) fun t _ y => ?_
  blk_simp
  rw [after0_11]
  by_cases h0 : t.val % 16 = 0
  · rw [outsAt0_A m c t h0 (by omega)]
    frame_out
    exact point_g m c t y
  · by_cases h1 : t.val % 16 = 15
    · rw [outsAt0_C m c t h0 h1]
      frame_out
      exact point_g m c t y
    · rw [outsAt0_B m c t h0 h1]
      frame_out
      exact point_g m c t y

theorem final_y0 (c : Dev nD) : (dats m 0 c).arrAt 12 (cfgs 0).N = outY (aG m c) (aW m c) (aV m c) (aM m c) 0 := by
  refine (dats m 0 c).arrAt_eq_of_covers 12 _ (by decide +kernel) fun t _ y => ?_
  blk_simp
  rw [after0_12]
  by_cases h0 : t.val % 16 = 0
  · rw [outsAt0_A m c t h0 (by omega)]
    frame_out
    exact point_y0 m c t y
  · by_cases h1 : t.val % 16 = 15
    · rw [outsAt0_C m c t h0 h1]
      frame_out
      exact point_y0 m c t y
    · rw [outsAt0_B m c t h0 h1]
      frame_out
      exact point_y0 m c t y

theorem final_y1 (c : Dev nD) : (dats m 0 c).arrAt 13 (cfgs 0).N = outY (aG m c) (aW m c) (aV m c) (aM m c) 1 := by
  refine (dats m 0 c).arrAt_eq_of_covers 13 _ (by decide +kernel) fun t _ y => ?_
  blk_simp
  rw [after0_13]
  by_cases h0 : t.val % 16 = 0
  · rw [outsAt0_A m c t h0 (by omega)]
    frame_out
    exact point_y1 m c t y
  · by_cases h1 : t.val % 16 = 15
    · rw [outsAt0_C m c t h0 h1]
      frame_out
      exact point_y1 m c t y
    · rw [outsAt0_B m c t h0 h1]
      frame_out
      exact point_y1 m c t y

theorem final_y2 (c : Dev nD) : (dats m 0 c).arrAt 14 (cfgs 0).N = outY (aG m c) (aW m c) (aV m c) (aM m c) 2 := by
  refine (dats m 0 c).arrAt_eq_of_covers 14 _ (by decide +kernel) fun t _ y => ?_
  blk_simp
  rw [after0_14]
  by_cases h0 : t.val % 16 = 0
  · rw [outsAt0_A m c t h0 (by omega)]
    frame_out
    exact point_y2 m c t y
  · by_cases h1 : t.val % 16 = 15
    · rw [outsAt0_C m c t h0 h1]
      frame_out
      exact point_y2 m c t y
    · rw [outsAt0_B m c t h0 h1]
      frame_out
      exact point_y2 m c t y

/-- After the last point the bias' gradient holds all tokens' terms. -/
theorem acc_b (c : Dev nD) (i) : (outsAt0 m c t0_15.val t0_15.isLt).2.2.2.2.1 i = ∑ t : Fin cfg0.N, BT m c t (i 1) := by
  have hs : ∀ (t : Fin cfg0.N) (z i), BS m c t z i = z i + BT m c t (i 1) := fun t z i => by
    obtain ⟨a, e, rfl⟩ : ∃ (a : Fin 1) (e : Fin 3072), i = ix2 a e := ⟨_, _, eq_ix2 i⟩
    obtain rfl : a = 0 := Subsingleton.elim _ _
    exact BS_at m c t z e
  rw [Pipeline.eq_sum_fin_of_reset_step_apply_last (f := fun n h => (outsAt0 m c n h).2.2.2.2.1) 16 (fun _ => 0)
    (fun t i => BT m c t (i 1))
    (fun t h i => by
      rw [outsAt0_A m c t h (by omega)]; frame_out
      simp only [rdb0, rdb1, rdb2]
      rw [line_over]
      exact (hs t (k0_pay4 (F := Ideal)) i).trans (by rw [zero4]))
    (fun t h i => by
      have hk := fun z => hs t z i
      by_cases h2 : t.val % 16 = 15
      · rw [outsAt0_C m c t h h2]; frame_out; exact hk _
      · rw [outsAt0_B m c t h h2]; frame_out; exact hk _)
    (le_of_eq N_0) t0_15 rfl i, zero_add]

theorem acc_w (c : Dev nD) (i) : (outsAt0 m c t0_15.val t0_15.isLt).2.2.2.2.2.2 i = ∑ t : Fin cfg0.N, WT m c t i := by
  rw [Pipeline.eq_sum_fin_of_reset_step_apply_last (f := fun n h => (outsAt0 m c n h).2.2.2.2.2.2) 16 (fun _ => 0)
    (fun t i => WT m c t i)
    (fun t h i => by
      rw [outsAt0_A m c t h (by omega)]; frame_out
      simp only [rdw0, rdw1, rdw2]
      rw [stack_over]
      exact (WS_at m c t (k0_pay5 (F := Ideal)) i).trans (by rw [zero5]))
    (fun t h i => by
      have hk := fun z => WS_at m c t z i
      by_cases h2 : t.val % 16 = 15
      · rw [outsAt0_C m c t h h2]; frame_out; rw [read_unread_whole]; exact hk _
      · rw [outsAt0_B m c t h h2]; frame_out; rw [read_unread_whole]; exact hk _)
    (le_of_eq N_0) t0_15 rfl i, zero_add]

theorem final_b (c : Dev nD) : (dats m 0 c).arrAt 15 (cfgs 0).N = outB (aG m c) (aA m c) (aB m c) (aC m c) (aW m c) (aV m c) (aM m c) := by
  refine (dats m 0 c).arrAt_eq_of_after_last 15 t0_15 (by decide +kernel) _ fun i => ?_
  blk_simp
  rw [after0_15, acc_b]
  unfold BT outB GB
  exact (Fin.sum_mul_add_congr (L := 8192) (S := 16) (n := 512) (f := bt m c (i 1)) fun t r hl => rfl).trans
    (Fin.sum_divmod_congr (S := 4096) (A := 2) (N := 8192) fun l ha hs => rfl)

theorem final_w (c : Dev nD) : (dats m 0 c).arrAt 16 (cfgs 0).N = outW (aG m c) (aA m c) (aB m c) (aC m c) (aV m c) (aM m c) := by
  refine (dats m 0 c).arrAt_eq_of_after_last 16 t0_15 (by decide +kernel) _ fun i => ?_
  blk_simp
  have hw : ((outsAt0 m c t0_15.val t0_15.isLt).2.2.2.2.2.1 i : EReal) = (outsAt0 m c t0_15.val t0_15.isLt).2.2.2.2.2.2 i := by
    rw [outsAt0_C m c t0_15 (by decide) (by decide)]
    frame_out
    rw [rdall]
    exact pay3_at _ i
  rw [after0_16, hw, acc_w]
  unfold WT outW GW
  exact (Fin.sum_mul_add_congr (L := 8192) (S := 16) (n := 512) (f := wt m c i) fun t r hl => rfl).trans
    (Fin.sum_divmod_congr (S := 4096) (A := 2) (N := 8192) fun l ha hs => rfl)

end Cert.MergeKernelIdeal.MergeValue

end
-- ==== Proof.MergeClaim.lean ====
/- The claims about the gated merge's backward call. -/
module

public import proofs.«01_k».proof.Defs
public import proofs.«01_k».proof.Proof.Gen.MergeKernel
public import proofs.«01_k».proof.Proof.Gen.MergeKernel.Frame
public import proofs.«01_k».proof.Proof.Gen.MergeReferenceIdeal.Run
public import proofs.«01_k».proof.Proof.MergeValue

@[expose] public section

set_option maxRecDepth 16384

noncomputable section

open Idealize.ShloMosaic Idealize.ShloMosaic.TcCoe Idealize.SL.Sem

namespace Cert.Proof

open Cert.MergeReferenceIdeal.MergeRef Cert.MergeKernelIdeal.MergeValue

theorem frame_merge : quiescent_MergeKernel := fun m ρ _ => Cert.MergeKernel.Gen.frame m ρ

theorem frame_mergeIdeal : quiescent_MergeKernelIdeal := fun m ρ _ => Cert.MergeKernelIdeal.Gen.frame m ρ

theorem frame_mergeReference : quiescent_MergeReferenceIdeal := fun m ρ _ =>
  (θ_run Cert.MergeReferenceIdeal.defs _ _).mono
    (fun r h => ⟨fun c => (h c).2.2.2.2.2.2, sem_eq_zero_of_no_sems (by decide) r.2⟩)
    (Cert.MergeReferenceIdeal.Value.run (F := Ideal) m ρ)

section Kernel

open Cert.MergeKernelIdeal

variable (m : (ℓ : Loc nD τ sig) → Buf (Elt Ideal) ℓ) (ρ)

/-- The run with its six output arrays named and its arguments unchanged. -/
theorem merge_run : θ_run defs (onTc (τ := τ) (main (F := Ideal))) ⟨m, fun _ => 0, ρ⟩ fun r => ∀ c : Dev nD,
    r.2.mem ((c : Thread nD τ).loc main_v42_0) = outG (aG m c) (aA m c) (aB m c) (aC m c) (aW m c) (aV m c) (aM m c)
      ∧ r.2.mem ((c : Thread nD τ).loc main_v42_1) = outY (aG m c) (aW m c) (aV m c) (aM m c) 0
      ∧ r.2.mem ((c : Thread nD τ).loc main_v42_2) = outY (aG m c) (aW m c) (aV m c) (aM m c) 1
      ∧ r.2.mem ((c : Thread nD τ).loc main_v42_3) = outY (aG m c) (aW m c) (aV m c) (aM m c) 2
      ∧ r.2.mem ((c : Thread nD τ).loc main_v42_4) = outB (aG m c) (aA m c) (aB m c) (aC m c) (aW m c) (aV m c) (aM m c)
      ∧ r.2.mem ((c : Thread nD τ).loc main_v42_5) = Cert.MergeKernelIdeal.MergeValue.outW (aG m c) (aA m c) (aB m c) (aC m c) (aV m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 11).trans (final_g m c),
    ((h c).1 12).trans (final_y0 m c),
    ((h c).1 13).trans (final_y1 m c),
    ((h c).1 14).trans (final_y2 m c),
    ((h c).1 15).trans (final_b m c),
    ((h c).1 16).trans (final_w m c),
    ((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c),
    ((h c).2 main_arg6 (Pipeline.mem_restRefs_of main_arg6 (by decide) (by decide))).trans (Gen.V_main_arg6 m c)⟩)
    (Gen.run_main m ρ)

end Kernel

theorem merge_g (G YA YB YC W B M) : og (DA G YA W B M) (DB G YB W B M) (DC G YC W B M) = outG G YA YB YC W B M := by
  funext j
  obtain ⟨r, d, rfl⟩ : ∃ (r : Fin 8192) (d : Fin 3072), j = ix2 r d := ⟨_, _, eq_ix2 j⟩
  rw [g_eq]
  rfl

theorem merge_y0 (G W B M) : oy (dq (sg (ga G) (ba B)) M) (wa W) = outY G W B M 0 := by
  funext j
  obtain ⟨r, d, rfl⟩ : ∃ (r : Fin 8192) (d : Fin 512), j = ix2 r d := ⟨_, _, eq_ix2 j⟩
  rw [ya_eq]
  rfl

theorem merge_y1 (G W B M) : oy (dq (sg (gb G) (bb B)) M) (wb W) = outY G W B M 1 := by
  funext j
  obtain ⟨r, d, rfl⟩ : ∃ (r : Fin 8192) (d : Fin 512), j = ix2 r d := ⟨_, _, eq_ix2 j⟩
  rw [yb_eq]
  rfl

theorem merge_y2 (G W B M) : oy (dq (sg (gc G) (bc B)) M) (wc W) = outY G W B M 2 := by
  funext j
  obtain ⟨r, d, rfl⟩ : ∃ (r : Fin 8192) (d : Fin 512), j = ix2 r d := ⟨_, _, eq_ix2 j⟩
  rw [yc_eq]
  rfl

theorem merge_b (G YA YB YC W B M) : ob (rs (DA G YA W B M)) (rs (DB G YB W B M)) (rs (DC G YC W B M)) = outB G YA YB YC W B M := by
  funext j
  obtain ⟨r, d, rfl⟩ : ∃ (r : Fin 1) (d : Fin 3072), j = ix2 r d := ⟨_, _, eq_ix2 j⟩
  obtain rfl : r = 0 := Subsingleton.elim _ _
  rw [b_eq]
  rfl

theorem merge_w (G YA YB YC B M) : ow (gw (dq (sg (ga G) (ba B)) M) YA) (gw (dq (sg (gb G) (bb B)) M) YB) (gw (dq (sg (gc G) (bc B)) M) YC) = Cert.MergeKernelIdeal.MergeValue.outW G YA YB YC B M := by
  funext j
  obtain ⟨n, k, d, rfl⟩ : ∃ (n : Fin 3) (k : Fin 512) (d : Fin 1024), j = ix3 n k d := ⟨_, _, _, eq_ix3 j⟩
  rw [w_eq]
  rfl

section Results

open Cert.MergeReferenceIdeal Cert.MergeReferenceIdeal.Gen Cert.MergeReferenceIdeal.Value Idealize.ShloMosaic.StableHlo

variable (m : (ℓ : Loc nD τ sig) → Buf (Elt Ideal) ℓ) (c : Dev nD)

/-- The reference's results are its arrays one after the other. -/
theorem merge_v96_eq : Value.res_main_v96 m c
    = og (DA (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)))
      (DB (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)))
      (DC (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) := by
  unfold Value.res_main_v96 DA DB DC og dg pj sg ga gb gc ba bb bc wa wb wc
  rfl

theorem merge_v103_eq : Value.res_main_v103 m c
    = ob (rs (DA (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))))
      (rs (DB (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))))
      (rs (DC (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))) := by
  unfold Value.res_main_v103 DA DB DC ob rs dg pj sg ga gb gc ba bb bc wa wb wc
  rfl

end Results

section Terms

open Cert.MergeReferenceIdeal Cert.MergeReferenceIdeal.Gen Cert.MergeReferenceIdeal.Value Idealize.ShloMosaic.StableHlo

variable (G : FVec Ideal S2x4096x3072 .f32) (YA YB YC : FVec Ideal S2x4096x512 .f32) (W : FVec Ideal S3x512x1024 .f32)
  (B : FVec Ideal S3072 .f32) (M : FVec Ideal S2x4096x1024 .f32)

/-- The gradients of the branch inputs and of the branch weights, as the reference writes them. -/
theorem merge_v98_eq : (truncf .bf16 (shapeCast _ (Host.dotGeneral dot_S2x4096x1024_S512x1024_S2x4096x512_2_1_01_0_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 0] G slices_S2x4096x3072_S2x4096x1024_0_0_0) (broadcastInDim S2x4096x1024 ![0, 1, 2] bcast_S1x1x1024_S2x4096x1024_0_1_2 (broadcastInDim S1x1x1024 ![2] bcast_S1024_S1x1x1024_2 (extractStridedSlice S1024 ![0] B slices_S3072_S1024_0)))))))) (shapeCast _ M shapeCasts_S2x4096x1024_S2x4096x1024)) (shapeCast _ (extractStridedSlice S1x512x1024 ![0, 0, 0] W slices_S3x512x1024_S1x512x1024_0_0_0) shapeCasts_S1x512x1024_S512x1024)) shapeCasts_S2x4096x512_S8192x512) bitsLt_bf16_f32 : FVec Ideal S8192x512 .bf16)
    = outY G W B M 0 := by
  refine Eq.trans ?_ (merge_y0 G W B M)
  unfold oy dq sg ga ba wa
  rfl

theorem merge_v100_eq : (truncf .bf16 (shapeCast _ (Host.dotGeneral dot_S2x4096x1024_S512x1024_S2x4096x512_2_1_01_0_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 1024] G slices_S2x4096x3072_S2x4096x1024_0_0_1024) (broadcastInDim S2x4096x1024 ![0, 1, 2] bcast_S1x1x1024_S2x4096x1024_0_1_2 (broadcastInDim S1x1x1024 ![2] bcast_S1024_S1x1x1024_2 (extractStridedSlice S1024 ![1024] B slices_S3072_S1024_1024)))))))) (shapeCast _ M shapeCasts_S2x4096x1024_S2x4096x1024)) (shapeCast _ (extractStridedSlice S1x512x1024 ![1, 0, 0] W slices_S3x512x1024_S1x512x1024_1_0_0) shapeCasts_S1x512x1024_S512x1024)) shapeCasts_S2x4096x512_S8192x512) bitsLt_bf16_f32 : FVec Ideal S8192x512 .bf16)
    = outY G W B M 1 := by
  refine Eq.trans ?_ (merge_y1 G W B M)
  unfold oy dq sg gb bb wb
  rfl

theorem merge_v102_eq : (truncf .bf16 (shapeCast _ (Host.dotGeneral dot_S2x4096x1024_S512x1024_S2x4096x512_2_1_01_0_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 2048] G slices_S2x4096x3072_S2x4096x1024_0_0_2048) (broadcastInDim S2x4096x1024 ![0, 1, 2] bcast_S1x1x1024_S2x4096x1024_0_1_2 (broadcastInDim S1x1x1024 ![2] bcast_S1024_S1x1x1024_2 (extractStridedSlice S1024 ![2048] B slices_S3072_S1024_2048)))))))) (shapeCast _ M shapeCasts_S2x4096x1024_S2x4096x1024)) (shapeCast _ (extractStridedSlice S1x512x1024 ![2, 0, 0] W slices_S3x512x1024_S1x512x1024_2_0_0) shapeCasts_S1x512x1024_S512x1024)) shapeCasts_S2x4096x512_S8192x512) bitsLt_bf16_f32 : FVec Ideal S8192x512 .bf16)
    = outY G W B M 2 := by
  refine Eq.trans ?_ (merge_y2 G W B M)
  unfold oy dq sg gc bc wc
  rfl

theorem merge_v104_eq : (truncf .bf16 (addf (addf (pad S3x512x1024 ![2, 0, 0] ![0, 0, 0] ![0, 0, 0] (broadcastInDim S1x512x1024 ![1, 2] bcast_S512x1024_S1x512x1024_1_2 (transpose S512x1024 [1, 0] (Host.dotGeneral dot_S2x4096x1024_S2x4096x512_S1024x512_01_01_2_2_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 2048] G slices_S2x4096x3072_S2x4096x1024_0_0_2048) (broadcastInDim S2x4096x1024 ![0, 1, 2] bcast_S1x1x1024_S2x4096x1024_0_1_2 (broadcastInDim S1x1x1024 ![2] bcast_S1024_S1x1x1024_2 (extractStridedSlice S1024 ![2048] B slices_S3072_S1024_2048)))))))) (shapeCast _ M shapeCasts_S2x4096x1024_S2x4096x1024)) YC) transposes_S1024x512_S512x1024_1_0)) (constant S_ .f32 0x00000000#32) pads_S1x512x1024_S3x512x1024_200_000_000 h_S_) (pad S3x512x1024 ![1, 0, 0] ![1, 0, 0] ![0, 0, 0] (broadcastInDim S1x512x1024 ![1, 2] bcast_S512x1024_S1x512x1024_1_2 (transpose S512x1024 [1, 0] (Host.dotGeneral dot_S2x4096x1024_S2x4096x512_S1024x512_01_01_2_2_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 1024] G slices_S2x4096x3072_S2x4096x1024_0_0_1024) (broadcastInDim S2x4096x1024 ![0, 1, 2] bcast_S1x1x1024_S2x4096x1024_0_1_2 (broadcastInDim S1x1x1024 ![2] bcast_S1024_S1x1x1024_2 (extractStridedSlice S1024 ![1024] B slices_S3072_S1024_1024)))))))) (shapeCast _ M shapeCasts_S2x4096x1024_S2x4096x1024)) YB) transposes_S1024x512_S512x1024_1_0)) (constant S_ .f32 0x00000000#32) pads_S1x512x1024_S3x512x1024_110_000_000 h_S_)) (pad S3x512x1024 ![0, 0, 0] ![2, 0, 0] ![0, 0, 0] (broadcastInDim S1x512x1024 ![1, 2] bcast_S512x1024_S1x512x1024_1_2 (transpose S512x1024 [1, 0] (Host.dotGeneral dot_S2x4096x1024_S2x4096x512_S1024x512_01_01_2_2_n_n none (mulf (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 0] G slices_S2x4096x3072_S2x4096x1024_0_0_0) (broadcastInDim S2x4096x1024 ![0, 1, 2] bcast_S1x1x1024_S2x4096x1024_0_1_2 (broadcastInDim S1x1x1024 ![2] bcast_S1024_S1x1x1024_2 (extractStridedSlice S1024 ![0] B slices_S3072_S1024_0)))))))) (shapeCast _ M shapeCasts_S2x4096x1024_S2x4096x1024)) YA) transposes_S1024x512_S512x1024_1_0)) (constant S_ .f32 0x00000000#32) pads_S1x512x1024_S3x512x1024_020_000_000 h_S_)) bitsLt_bf16_f32 : FVec Ideal S3x512x1024 .bf16)
    = Cert.MergeKernelIdeal.MergeValue.outW G YA YB YC B M := by
  refine Eq.trans ?_ (merge_w G YA YB YC B M)
  unfold ow gw dq sg ga gb gc ba bb bc
  rfl

end Terms

set_option maxHeartbeats 2000000 in
/-- All six results: the gradients of the gate projection, of the three branch inputs, of the gate bias and of the
    branch weights. -/
theorem algebraic_merge : algebraic_MergeKernelIdeal_MergeReferenceIdeal := by
  pair_intro
  · run_from merge_run m g
  · run_from Cert.MergeReferenceIdeal.Value.run m' g'
    all_goals obtain ⟨h0, h1, h2, h3, h4, h5, h6⟩ := hagree c
    · rw [merge_v96_eq, h0, h1, h2, h3, h4, h5, h6]
      exact merge_g _ _ _ _ _ _ _
    · exact merge_v98_eq _ _ _ _
    · exact merge_v100_eq _ _ _ _
    · exact merge_v102_eq _ _ _ _
    · rw [merge_v103_eq, h0, h1, h2, h3, h4, h5, h6]
      exact merge_b _ _ _ _ _ _ _
    · exact merge_v104_eq _ _ _ _ _ _

end Cert.Proof

end
-- ==== Proof.LnRow.lean ====
/- One row of a layer norm's gradient over the extended reals: the form the kernel computes and the
   derivative of the norm's own lines agree where the row, the gain and the cotangent are real numbers. -/
module

public import proofs.«01_k».proof.Proof.Reals
public import Idealize.ShloMosaic.Lib.Pointwise

@[expose] public section

noncomputable section

open Idealize.ShloMosaic

namespace Cert.Ln

/-- A row of 1024 entries. -/
abbrev Row := Fin 1024 → EReal

/-- The mean of a row. -/
def mean (f : Row) : EReal := Ideal.div (∑ k, f k) (Ideal.ofBits .f32 0x44800000#32)

/-- A row less its mean. -/
def cen (z : Row) (k : Fin 1024) : EReal := z k - mean z

/-- The variance of a row and the small constant under the root. -/
def vare (z : Row) : EReal := mean (fun k => cen z k * cen z k) + Ideal.ofBits .f32 0x3727C5AC#32

/-- One over the root. -/
def rstd (z : Row) : EReal := Ideal.rsqrt (vare z)

/-- The normalised row. -/
def xhat (z : Row) (k : Fin 1024) : EReal := cen z k * rstd z

/-- The row's gradient as the kernel computes it. -/
def dzK (y z g : Row) (j : Fin 1024) : EReal :=
  rstd z * (y j * g j - mean (fun k => y k * g k) - xhat z j * mean (fun k => y k * g k * xhat z k))

/-- The gradient of the variance as the derivative of the norm's lines has it. -/
def dvar (y z g : Row) : EReal :=
  Ideal.div ((∑ k, cen z k * (y k * g k)) * (Ideal.ofBits .f32 0xBF000000#32 * Ideal.div (rstd z) (vare z)))
    (Ideal.ofBits .f32 0x44800000#32)

/-- The row's gradient as the derivative of the norm's lines has it. -/
def dzR (y z g : Row) (j : Fin 1024) : EReal :=
  y j * g j * rstd z + dvar y z g * (Ideal.ofBits .f32 0x40000000#32 * cen z j)
    + Ideal.div ((∑ k, -(y k * g k * rstd z)) + ∑ k, -(dvar y z g * (Ideal.ofBits .f32 0x40000000#32 * cen z k)))
        (Ideal.ofBits .f32 0x44800000#32)

/-- The small constant under the root is a positive real number. -/
theorem word_eps : ∃ e : ℝ, 0 < e ∧ Ideal.ofBits .f32 0x3727C5AC#32 = (e : EReal) :=
  ⟨10995116 / 1099511627776, by norm_num, by simp [Ideal.ofBits, Ideal.ieee, ← EReal.coe_mul]; norm_num⟩

theorem word_alpha : ∃ a : ℝ, Ideal.ofBits .f32 0x3FD744FD#32 = (a : EReal) :=
  ⟨14107901 / 8388608, by simp [Ideal.ofBits, Ideal.ieee, ← EReal.coe_mul]; norm_num⟩

theorem word_neg_half : Ideal.ofBits .f32 0xBF000000#32 = ((-(1 / 2) : ℝ) : EReal) := by
  simp [Ideal.ofBits, Ideal.ieee, ← EReal.coe_mul]; norm_num

/-- A quotient of real numbers. -/
theorem coe_div (a : ℝ) {c : ℝ} (hc : c ≠ 0) : Ideal.div (a : EReal) (c : EReal) = ((a / c : ℝ) : EReal) := by
  rw [Ideal.div_coe hc, ← EReal.coe_mul, mul_one_div]

/-- Over real rows the two forms of the gradient are equal. -/
theorem dz_eq (y z g : Row) (hy : ∀ k, ∃ x : ℝ, y k = x) (hz : ∀ k, ∃ x : ℝ, z k = x) (hg : ∀ k, ∃ x : ℝ, g k = x)
    (j : Fin 1024) : dzR y z g j = dzK y z g j := by
  choose y' hy' using hy
  choose z' hz' using hz
  choose g' hg' using hg
  obtain ⟨e, he, hw⟩ := word_eps
  obtain rfl : y = fun k => (y' k : EReal) := funext hy'
  obtain rfl : z = fun k => (z' k : EReal) := funext hz'
  obtain rfl : g = fun k => (g' k : EReal) := funext hg'
  have hmean : ∀ f : Fin 1024 → ℝ, mean (fun k => (f k : EReal)) = (((∑ k, f k) / 1024 : ℝ) : EReal) := fun f => by
    rw [mean, ← Cert.Reals.coe_sum, Cert.Reals.word_1024, coe_div _ (by norm_num)]
  set μ : ℝ := (∑ k, z' k) / 1024 with hμ
  have hcen : ∀ k, cen (fun k => (z' k : EReal)) k = ((z' k - μ : ℝ) : EReal) := fun k => by
    rw [cen, hmean, EReal.coe_sub]
  have hsum0 : ∑ k, (z' k - μ) = 0 := by
    rw [Finset.sum_sub_distrib, Finset.sum_const, Finset.card_univ, Fintype.card_fin, hμ]
    simp
    ring
  set v : ℝ := (∑ k, (z' k - μ) * (z' k - μ)) / 1024 + e with hv
  have hvpos : 0 < v := add_pos_of_nonneg_of_pos
    (div_nonneg (Finset.sum_nonneg fun k _ => mul_self_nonneg _) (by norm_num)) he
  have hvare : vare (fun k => (z' k : EReal)) = (v : EReal) := by
    rw [vare]
    simp only [hcen, ← EReal.coe_mul]
    rw [hmean (fun k => (z' k - μ) * (z' k - μ)), hw, ← EReal.coe_add]
  set r : ℝ := (Real.sqrt v)⁻¹ with hr
  have hrstd : rstd (fun k => (z' k : EReal)) = (r : EReal) := by
    rw [rstd, hvare, Ideal.rsqrt_coe, if_neg (not_lt.mpr hvpos.le), if_neg hvpos.ne']
  have hrr : r * r = v⁻¹ := by
    rw [hr, ← mul_inv, Real.mul_self_sqrt hvpos.le]
  have hdvar : dvar (fun k => (y' k : EReal)) (fun k => (z' k : EReal)) (fun k => (g' k : EReal))
      = (((∑ k, (z' k - μ) * (y' k * g' k)) * (-(1 / 2) * (r / v)) / 1024 : ℝ) : EReal) := by
    rw [dvar, hrstd, hvare]
    simp only [hcen, ← EReal.coe_mul]
    rw [← Cert.Reals.coe_sum, word_neg_half, Cert.Reals.word_1024, coe_div _ hvpos.ne', ← EReal.coe_mul,
      ← EReal.coe_mul, coe_div _ (by norm_num)]
  set w : ℝ := (∑ k, (z' k - μ) * (y' k * g' k)) * (-(1 / 2) * (r / v)) / 1024 with hw'
  have hl : dzR (fun k => (y' k : EReal)) (fun k => (z' k : EReal)) (fun k => (g' k : EReal)) j
      = ((y' j * g' j * r + w * (2 * (z' j - μ))
          + ((∑ k, -(y' k * g' k * r)) + ∑ k, -(w * (2 * (z' k - μ)))) / 1024 : ℝ) : EReal) := by
    rw [dzR, hdvar, hrstd]
    simp only [hcen, Cert.Reals.word_two, ← EReal.coe_mul, ← EReal.coe_neg]
    rw [← Cert.Reals.coe_sum, ← Cert.Reals.coe_sum, ← EReal.coe_add, ← EReal.coe_add, Cert.Reals.word_1024,
      coe_div _ (by norm_num), ← EReal.coe_add]
  have hk : dzK (fun k => (y' k : EReal)) (fun k => (z' k : EReal)) (fun k => (g' k : EReal)) j
      = ((r * (y' j * g' j - (∑ k, y' k * g' k) / 1024
          - (z' j - μ) * r * ((∑ k, y' k * g' k * ((z' k - μ) * r)) / 1024)) : ℝ) : EReal) := by
    simp only [dzK, xhat]
    rw [hrstd]
    simp only [hcen, ← EReal.coe_mul]
    rw [hmean (fun k => y' k * g' k), hmean (fun k => y' k * g' k * ((z' k - μ) * r)), ← EReal.coe_sub,
      ← EReal.coe_mul, ← EReal.coe_sub, ← EReal.coe_mul]
  rw [hl, hk]
  congr 1
  have e1 : ∑ k, -(y' k * g' k * r) = -(r * ∑ k, y' k * g' k) := by
    rw [Finset.sum_neg_distrib, Finset.mul_sum]
    exact congrArg _ (Finset.sum_congr rfl fun k _ => by ring)
  have e2 : ∑ k, -(w * (2 * (z' k - μ))) = 0 := by
    rw [Finset.sum_neg_distrib, ← Finset.mul_sum, ← Finset.mul_sum, hsum0]
    ring
  have e3 : ∑ k, y' k * g' k * ((z' k - μ) * r) = r * ∑ k, (z' k - μ) * (y' k * g' k) := by
    rw [Finset.mul_sum]
    exact Finset.sum_congr rfl fun k _ => by ring
  rw [e1, e2, e3, hw', div_eq_mul_inv r v, ← hrr]
  ring

end Cert.Ln
end
-- ==== Proof.Ln1Ref.lean ====
/- The reference of the mixing norm's backward call: its results in closed form, token by token. -/
module

public import proofs.«01_k».proof.Proof.Gen.Ln1ReferenceIdeal.Run
public import proofs.«01_k».proof.Proof.LnRow

@[expose] public section

set_option maxRecDepth 16384

noncomputable section

open Idealize.ShloMosaic Idealize.ShloMosaic.TcCoe Idealize.SL.Sem Idealize.ShloMosaic.StableHlo

namespace Cert.Ln1ReferenceIdeal.Ln1Ref

open Cert.Ln1ReferenceIdeal Cert.Ln1ReferenceIdeal.Gen Cert.Ln1ReferenceIdeal.Value Cert.Reals

def z (a0 : FVec Ideal S2x4096x1024 .f32) (a1 : FVec Ideal S2x4096x1024 .f32) (a2 : FVec Ideal S1024x1024 .f32) : FVec Ideal S2x4096x1024 .f32 :=
  addf (mulf (broadcastInDim S2x4096x1024 ![] bcast_S_S2x4096x1024 (constant S_ .f32 0x3FD744FD#32)) a0) (Host.dotGeneral dot_S2x4096x1024_S1024x1024_S2x4096x1024_2_0_01_1_n_n none a1 a2)

def mu (z_ : FVec Ideal S2x4096x1024 .f32) : FVec Ideal S2x4096x1 .f32 :=
  Host.divf (broadcastInDim S2x4096x1 ![0, 1] bcast_S2x4096_S2x4096x1_0_1 (Host.reduceAdd z_ (constant S_ .f32 0x00000000#32) reducesTo_S2x4096x1024_S2x4096_d2 h_S_)) (broadcastInDim S2x4096x1 ![] bcast_S_S2x4096x1 (constant S_ .f32 0x44800000#32))

def ze (z_ : FVec Ideal S2x4096x1024 .f32) (mu_ : FVec Ideal S2x4096x1 .f32) : FVec Ideal S2x4096x1024 .f32 :=
  subf z_ (broadcastInDim S2x4096x1024 ![0, 1, 2] bcast_S2x4096x1_S2x4096x1024_0_1_2 mu_)

def va (z_ : FVec Ideal S2x4096x1024 .f32) (mu_ : FVec Ideal S2x4096x1 .f32) : FVec Ideal S2x4096x1 .f32 :=
  addf (Host.divf (broadcastInDim S2x4096x1 ![0, 1] bcast_S2x4096_S2x4096x1_0_1 (Host.reduceAdd (mulf (subf z_ (broadcastInDim S2x4096x1024 ![0, 1, 2] bcast_S2x4096x1_S2x4096x1024_0_1_2 mu_)) (subf z_ (broadcastInDim S2x4096x1024 ![0, 1, 2] bcast_S2x4096x1_S2x4096x1024_0_1_2 mu_))) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x3727C5AC#32))

def rs (va_ : FVec Ideal S2x4096x1 .f32) : FVec Ideal S2x4096x1 .f32 :=
  Host.rsqrt va_

def rsd (rs_ : FVec Ideal S2x4096x1 .f32) (va_ : FVec Ideal S2x4096x1 .f32) : FVec Ideal S2x4096x1 .f32 :=
  mulf (broadcastInDim S2x4096x1 ![] bcast_S_S2x4096x1 (constant S_ .f32 0xBF000000#32)) (Host.divf rs_ va_)

def xh (ze_ : FVec Ideal S2x4096x1024 .f32) (rs_ : FVec Ideal S2x4096x1 .f32) : FVec Ideal S2x4096x1024 .f32 :=
  mulf ze_ (broadcastInDim S2x4096x1024 ![0, 1, 2] bcast_S2x4096x1_S2x4096x1024_0_1_2 rs_)

def db (a5 : FVec Ideal S2x4096x1024 .f32) : FVec Ideal S1024 .f32 :=
  Host.reduceAdd (shapeCast S1x1x1024 (Host.reduceAdd a5 (constant S_ .f32 0x00000000#32) reducesTo_S2x4096x1024_S1024_d0_1 h_S_) shapeCasts_S1024_S1x1x1024) (constant S_ .f32 0x00000000#32) reducesTo_S1x1x1024_S1024_d0_1 h_S_

def gdy (a5 : FVec Ideal S2x4096x1024 .f32) (a3 : FVec Ideal S1024 .f32) : FVec Ideal S2x4096x1024 .f32 :=
  mulf (shapeCast S2x4096x1024 a5 shapeCasts_S2x4096x1024_S2x4096x1024) (broadcastInDim S2x4096x1024 ![0, 1, 2] bcast_S1x1x1024_S2x4096x1024_0_1_2 (broadcastInDim S1x1x1024 ![2] bcast_S1024_S1x1x1024_2 a3))

def dg (xh_ : FVec Ideal S2x4096x1024 .f32) (a5 : FVec Ideal S2x4096x1024 .f32) : FVec Ideal S1024 .f32 :=
  Host.reduceAdd (shapeCast S1x1x1024 (Host.reduceAdd (mulf xh_ (shapeCast S2x4096x1024 a5 shapeCasts_S2x4096x1024_S2x4096x1024)) (constant S_ .f32 0x00000000#32) reducesTo_S2x4096x1024_S1024_d0_1 h_S_) shapeCasts_S1024_S1x1x1024) (constant S_ .f32 0x00000000#32) reducesTo_S1x1x1024_S1024_d0_1 h_S_

def dxr (gdy_ : FVec Ideal S2x4096x1024 .f32) (rs_ : FVec Ideal S2x4096x1 .f32) : FVec Ideal S2x4096x1024 .f32 :=
  mulf gdy_ (broadcastInDim S2x4096x1024 ![0, 1, 2] bcast_S2x4096x1_S2x4096x1024_0_1_2 rs_)

def dv (ze_ : FVec Ideal S2x4096x1024 .f32) (gdy_ : FVec Ideal S2x4096x1024 .f32) (rsd_ : FVec Ideal S2x4096x1 .f32) : FVec Ideal S2x4096 .f32 :=
  Host.reduceAdd (Host.divf (mulf (shapeCast S2x4096x1 (Host.reduceAdd (mulf ze_ gdy_) (constant S_ .f32 0x00000000#32) reducesTo_S2x4096x1024_S2x4096_d2 h_S_) shapeCasts_S2x4096_S2x4096x1) rsd_) (broadcastInDim S2x4096x1 ![] bcast_S_S2x4096x1 (constant S_ .f32 0x44800000#32))) (constant S_ .f32 0x00000000#32) reducesTo_S2x4096x1_S2x4096_d2 h_S_

def dvz (dv_ : FVec Ideal S2x4096 .f32) (z_ : FVec Ideal S2x4096x1024 .f32) (mu_ : FVec Ideal S2x4096x1 .f32) : FVec Ideal S2x4096x1024 .f32 :=
  mulf (broadcastInDim S2x4096x1024 ![0, 1] bcast_S2x4096_S2x4096x1024_0_1 dv_) (mulf (broadcastInDim S2x4096x1024 ![] bcast_S_S2x4096x1024 (constant S_ .f32 0x40000000#32)) (subf z_ (broadcastInDim S2x4096x1024 ![0, 1, 2] bcast_S2x4096x1_S2x4096x1024_0_1_2 mu_)))

def tail (dxr_ : FVec Ideal S2x4096x1024 .f32) (dvz_ : FVec Ideal S2x4096x1024 .f32) : FVec Ideal S2x4096x1024 .f32 :=
  broadcastInDim S2x4096x1024 ![0, 1] bcast_S2x4096_S2x4096x1024_0_1 (Host.reduceAdd (Host.divf (addf (shapeCast S2x4096x1 (Host.reduceAdd (Host.negf dxr_) (constant S_ .f32 0x00000000#32) reducesTo_S2x4096x1024_S2x4096_d2 h_S_) shapeCasts_S2x4096_S2x4096x1) (shapeCast S2x4096x1 (Host.reduceAdd (Host.negf dvz_) (constant S_ .f32 0x00000000#32) reducesTo_S2x4096x1024_S2x4096_d2 h_S_) shapeCasts_S2x4096_S2x4096x1)) (broadcastInDim S2x4096x1 ![] bcast_S_S2x4096x1 (constant S_ .f32 0x44800000#32))) (constant S_ .f32 0x00000000#32) reducesTo_S2x4096x1_S2x4096_d2 h_S_)

def dz (dxr_ : FVec Ideal S2x4096x1024 .f32) (dvz_ : FVec Ideal S2x4096x1024 .f32) (tail_ : FVec Ideal S2x4096x1024 .f32) : FVec Ideal S2x4096x1024 .f32 :=
  addf (addf dxr_ dvz_) tail_

def dwo (dz_ : FVec Ideal S2x4096x1024 .f32) (a1 : FVec Ideal S2x4096x1024 .f32) : FVec Ideal S1024x1024 .f32 :=
  transpose S1024x1024 [1, 0] (Host.dotGeneral dot_S2x4096x1024_S2x4096x1024_S1024x1024_01_01_2_2_n_n none dz_ a1) transposes_S1024x1024_S1024x1024_1_0

def dm (dz_ : FVec Ideal S2x4096x1024 .f32) (a2 : FVec Ideal S1024x1024 .f32) : FVec Ideal S2x4096x1024 .f32 :=
  Host.dotGeneral dot_S2x4096x1024_S1024x1024_S2x4096x1024_2_1_01_0_n_n none dz_ a2

/-- The row the norm takes at one token. -/
def zrow (X M : FVec Ideal S2x4096x1024 .f32) (W : FVec Ideal S1024x1024 .f32) (b : Fin 2) (s : Fin 4096) (d : Fin 1024) : EReal :=
  Ideal.ofBits .f32 0x3FD744FD#32 * X (ix3 b s d) + ∑ k : Fin 1024, M (ix3 b s k) * W (ix2 k d)

theorem z_at (X M W b s d) : z X M W (ix3 b s d) = zrow X M W b s d := by
  pointwise [z, zrow]

section Row

variable (Z Y : FVec Ideal S2x4096x1024 .f32) (G : FVec Ideal S1024 .f32) (b : Fin 2) (s : Fin 4096)

theorem mu_at : mu Z (ix3 b s 0) = Ln.mean (fun k => Z (ix3 b s k)) := by
  pointwise [mu, Ln.mean]

theorem ze_at (d) : ze Z (mu Z) (ix3 b s d) = Ln.cen (fun k => Z (ix3 b s k)) d := by
  pointwise [ze]
  rw [mu_at, Ln.cen]

theorem va_at : va Z (mu Z) (ix3 b s 0) = Ln.vare (fun k => Z (ix3 b s k)) := by
  pointwise [va]
  simp only [mu_at]
  rfl

theorem rs_at : rs (va Z (mu Z)) (ix3 b s 0) = Ln.rstd (fun k => Z (ix3 b s k)) := by
  pointwise [rs]
  rw [va_at, Ln.rstd]

theorem rsd_at : rsd (rs (va Z (mu Z))) (va Z (mu Z)) (ix3 b s 0)
    = Ideal.ofBits .f32 0xBF000000#32 * Ideal.div (Ln.rstd (fun k => Z (ix3 b s k))) (Ln.vare (fun k => Z (ix3 b s k))) := by
  pointwise [rsd]
  rw [va_at, rs_at]

theorem xh_at (d) : xh (ze Z (mu Z)) (rs (va Z (mu Z))) (ix3 b s d) = Ln.xhat (fun k => Z (ix3 b s k)) d := by
  pointwise [xh]
  rw [ze_at, rs_at, Ln.xhat]

theorem gdy_at (d) : gdy Y G (ix3 b s d) = Y (ix3 b s d) * G (ix1 d) := by
  pointwise [gdy]

theorem dxr_at (d) : dxr (gdy Y G) (rs (va Z (mu Z))) (ix3 b s d)
    = Y (ix3 b s d) * G (ix1 d) * Ln.rstd (fun k => Z (ix3 b s k)) := by
  pointwise [dxr]
  rw [gdy_at, rs_at]

theorem dv_at : dv (ze Z (mu Z)) (gdy Y G) (rsd (rs (va Z (mu Z))) (va Z (mu Z))) (ix2 b s)
    = Ln.dvar (fun k => Y (ix3 b s k)) (fun k => Z (ix3 b s k)) (fun k => G (ix1 k)) := by
  pointwise [dv]
  rw [Fin.sum_univ_one]
  simp only [ze_at, gdy_at]
  rw [rsd_at]
  rfl

theorem dvz_at (D d) : dvz D Z (mu Z) (ix3 b s d)
    = D (ix2 b s) * (Ideal.ofBits .f32 0x40000000#32 * Ln.cen (fun k => Z (ix3 b s k)) d) := by
  pointwise [dvz]
  rw [mu_at, Ln.cen]

theorem tail_at (A B d) : tail A B (ix3 b s d)
    = Ideal.div ((∑ k : Fin 1024, -(A (ix3 b s k))) + ∑ k : Fin 1024, -(B (ix3 b s k))) (Ideal.ofBits .f32 0x44800000#32) := by
  pointwise [tail]
  rw [Fin.sum_univ_one]

/-- The reference's row gradient, from the rows the norm takes. -/
def DZ : FVec Ideal S2x4096x1024 .f32 :=
  dz (dxr (gdy Y G) (rs (va Z (mu Z)))) (dvz (dv (ze Z (mu Z)) (gdy Y G) (rsd (rs (va Z (mu Z))) (va Z (mu Z)))) Z (mu Z))
    (tail (dxr (gdy Y G) (rs (va Z (mu Z)))) (dvz (dv (ze Z (mu Z)) (gdy Y G) (rsd (rs (va Z (mu Z))) (va Z (mu Z)))) Z (mu Z)))

theorem DZ_at (d) : DZ Z Y G (ix3 b s d)
    = Ln.dzR (fun k => Y (ix3 b s k)) (fun k => Z (ix3 b s k)) (fun k => G (ix1 k)) d := by
  unfold DZ
  pointwise [dz]
  rw [tail_at]
  simp only [dxr_at, dvz_at, dv_at]
  rfl

theorem db_at (d) : db Y (ix1 d) = ∑ b : Fin 2, ∑ s : Fin 4096, Y (ix3 b s d) := by
  pointwise [db]
  rw [sum_outer, zero_add, Fin.sum_univ_one, Fin.sum_univ_one]
  pointwise
  rw [sum_outer, zero_add]

theorem dg_at (d) : dg (xh (ze Z (mu Z)) (rs (va Z (mu Z)))) Y (ix1 d)
    = ∑ b : Fin 2, ∑ s : Fin 4096, Ln.xhat (fun k => Z (ix3 b s k)) d * Y (ix3 b s d) := by
  pointwise [dg]
  rw [sum_outer, zero_add, Fin.sum_univ_one, Fin.sum_univ_one]
  pointwise
  rw [sum_outer, zero_add]
  pointwise
  simp only [xh_at]

end Row

theorem dwo_at (D M) (i j : Fin 1024) : dwo D M (ix2 i j) = ∑ b : Fin 2, ∑ s : Fin 4096, D (ix3 b s j) * M (ix3 b s i) := by
  pointwise [dwo]

theorem dm_at (D W b s e) : dm D W (ix3 b s e) = ∑ d : Fin 1024, D (ix3 b s d) * W (ix2 e d) := by
  pointwise [dm]

/-- The arguments the gradients read are real numbers. -/
structure Real' (X M : FVec Ideal S2x4096x1024 .f32) (W : FVec Ideal S1024x1024 .f32) (G : FVec Ideal S1024 .f32)
    (Y : FVec Ideal S2x4096x1024 .f32) : Prop where
  x : ∀ b s d, ∃ x : ℝ, X (ix3 b s d) = x
  m : ∀ b s d, ∃ x : ℝ, M (ix3 b s d) = x
  w : ∀ k d, ∃ x : ℝ, W (ix2 k d) = x
  g : ∀ d, ∃ x : ℝ, G (ix1 d) = x
  y : ∀ b s d, ∃ x : ℝ, Y (ix3 b s d) = x

/-- One token's row gradient as the kernel computes it. -/
def dzk (X M : FVec Ideal S2x4096x1024 .f32) (W : FVec Ideal S1024x1024 .f32) (G : FVec Ideal S1024 .f32) (Y : FVec Ideal S2x4096x1024 .f32) (b : Fin 2) (s : Fin 4096) (d : Fin 1024) : EReal :=
  Ln.dzK (fun k => Y (ix3 b s k)) (zrow X M W b s) (fun k => G (ix1 k)) d

theorem zrow_real {X M W G Y} (h : Real' X M W G Y) (b s d) : ∃ x : ℝ, zrow X M W b s d = x := by
  obtain ⟨x, hx⟩ := h.x b s d
  obtain ⟨y, hy⟩ := real_dot (fun k => M (ix3 b s k)) (fun k => W (ix2 k d)) (fun k => h.m b s k) (fun k => h.w k d)
  obtain ⟨a, ha⟩ : ∃ a : ℝ, Ideal.ofBits .f32 0x3FD744FD#32 = (a : EReal) := Ln.word_alpha
  exact ⟨a * x + y, by rw [zrow, hx, hy, ha, ← EReal.coe_mul, ← EReal.coe_add]⟩

theorem dz_at {X M W G Y} (h : Real' X M W G Y) (b s d) : DZ (z X M W) Y G (ix3 b s d) = dzk X M W G Y b s d := by
  rw [DZ_at]
  simp only [z_at]
  exact Ln.dz_eq _ _ _ (h.y b s) (zrow_real h b s) h.g d

end Cert.Ln1ReferenceIdeal.Ln1Ref
end
-- ==== Proof.Ln1Point.lean ====
/- The mixing norm's backward call: what one point computes of its block, against the closed form. -/
module

public import proofs.«01_k».proof.Proof.Gen.Ln1KernelIdeal.Frame
public import Idealize.ShloMosaic.Lib.Pipeline.ReadBack
public import proofs.«01_k».proof.Proof.Ln1Ref

@[expose] public section

set_option maxRecDepth 16384

noncomputable section

open Idealize.ShloMosaic Idealize.ShloMosaic.TcCoe Idealize.SL.Sem
open Idealize.ShloMosaic.Pipeline (Dat)

namespace Cert.Ln1KernelIdeal.Ln1Value

open Cert.Ln1KernelIdeal Cert.Ln1KernelIdeal.Gen Cert.Reals
open Cert.Ln1ReferenceIdeal.Ln1Ref (zrow dzk)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-- The two halves of a block's rows. -/
abbrev rA : Rect S1024x1024 := Rect.unit ![0, 0] ![512, 1024] inb_S1024x1024_S512x1024_0_0

abbrev rB : Rect S1024x1024 := Rect.unit ![512, 0] ![512, 1024] inb_S1024x1024_S512x1024_512_0

def ldA (x : FVec Ideal S1024x1024 .f32) : FVec Ideal S512x1024 .f32 := View.ld (Val := Elt Ideal) (e' := .f32) x rA

def ldB (x : FVec Ideal S1024x1024 .f32) : FVec Ideal S512x1024 .f32 := View.ld (Val := Elt Ideal) (e' := .f32) x rB

def lfA (x : FVec Ideal S1024x1024 .bf16) : FVec Ideal S512x1024 .bf16 := View.ld (Val := Elt Ideal) (e' := .bf16) x rA

def lfB (x : FVec Ideal S1024x1024 .bf16) : FVec Ideal S512x1024 .bf16 := View.ld (Val := Elt Ideal) (e' := .bf16) x rB

theorem ldA_at (x) (i : Fin 512) (j : Fin 1024) : ldA x (ix2 i j) = x (ix2 ⟨i.val, by omega⟩ j) := congrArg x (by blk_ext <;> simp)

theorem ldB_at (x) (i : Fin 512) (j : Fin 1024) : ldB x (ix2 i j) = x (ix2 ⟨512 + i.val, by omega⟩ j) := congrArg x (by blk_ext <;> simp)

theorem lfA_at (x) (i : Fin 512) (j : Fin 1024) : lfA x (ix2 i j) = x (ix2 ⟨i.val, by omega⟩ j) := congrArg x (by blk_ext <;> simp)

theorem lfB_at (x) (i : Fin 512) (j : Fin 1024) : lfB x (ix2 i j) = x (ix2 ⟨512 + i.val, by omega⟩ j) := congrArg x (by blk_ext <;> simp)

/-- Two halves stored one after the other, in either format. -/
def half (p0 p1 : FVec Ideal S512x1024 .f32) : FVec Ideal S1024x1024 .f32 :=
  View.canon (Val := Elt Ideal) (e := .f32) [⟨rB, p1⟩, ⟨rA, p0⟩]

def halfb (p0 p1 : FVec Ideal S512x1024 .bf16) : FVec Ideal S1024x1024 .bf16 :=
  View.canon (Val := Elt Ideal) (e := .bf16) [⟨rB, p1⟩, ⟨rA, p0⟩]

theorem half_at (p0 p1) (r j : Fin 1024) : half p0 p1 (ix2 r j)
    = if h : r.val < 512 then p0 (ix2 ⟨r.val, h⟩ j) else p1 (ix2 ⟨r.val - 512, by omega⟩ j) := by
  unfold half
  canon_tiles x h
  · have h0' : r.val = 512 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 512 := (x 0).isLt
    rw [dif_pos (by omega)]
    exact congrArg p0 (by blk_ext <;> omega)

theorem halfb_at (p0 p1) (r j : Fin 1024) : halfb p0 p1 (ix2 r j)
    = if h : r.val < 512 then p0 (ix2 ⟨r.val, h⟩ j) else p1 (ix2 ⟨r.val - 512, by omega⟩ j) := by
  unfold halfb
  canon_tiles x h
  · have h0' : r.val = 512 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 512 := (x 0).isLt
    rw [dif_pos (by omega)]
    exact congrArg p0 (by blk_ext <;> omega)

/-- A sum over a block's rows is the sum over its halves. -/
theorem sum_half (f : Fin 1024 → EReal) :
    (∑ i : Fin 512, f ⟨i.val, by omega⟩) + (∑ i : Fin 512, f ⟨512 + i.val, by omega⟩) = ∑ r : Fin 1024, f r :=
  (Fin.sum_univ_add (a := 512) (b := 512) f).symm

section Tile

variable (Y Z : FVec Ideal S512x1024 .f32) (G : FVec Ideal S1x1024 .f32)

theorem pay15_at (j : Fin 1024) : k0_pay15 (F := Ideal) G (ix2 0 j) = G (ix2 0 j) := by
  pointwise [k0_pay15]

theorem pay11_at (i : Fin 512) : k0_pay11 (F := Ideal) Z (ix2 i 0) = Ln.rstd (fun k => Z (ix2 i k)) := by
  pointwise [k0_pay11, k0_pay8]
  rfl

theorem pay12_at (i : Fin 512) : k0_pay12 (F := Ideal) (k0_pay10 Z) (ix2 i 0) = Ln.rstd (fun k => Z (ix2 i k)) := by
  pointwise [k0_pay12, k0_pay10, k0_pay9]
  rfl

theorem xh1_at (i : Fin 512) (j : Fin 1024) : k0_pay13 (F := Ideal) (k0_pay8 Z) (k0_pay11 Z) (ix2 i j) = Ln.xhat (fun k => Z (ix2 i k)) j := by
  pointwise [k0_pay13, k0_pay8]
  rw [pay11_at]
  rfl

theorem xh2_at (i : Fin 512) (j : Fin 1024) : k0_pay14 (F := Ideal) (k0_pay9 Z) (k0_pay10 Z) (ix2 i j) = Ln.xhat (fun k => Z (ix2 i k)) j := by
  pointwise [k0_pay14, k0_pay9]
  rw [pay12_at]
  rfl

theorem pay6_at (i) : k0_pay6 (F := Ideal) Y i = Y i := by
  obtain ⟨r, j, rfl⟩ : ∃ (r : Fin 512) (j : Fin 1024), i = ix2 r j := ⟨_, _, eq_ix2 i⟩
  pointwise [k0_pay6]

theorem pay7_at (i) : k0_pay7 (F := Ideal) Y i = Y i := by
  obtain ⟨r, j, rfl⟩ : ∃ (r : Fin 512) (j : Fin 1024), i = ix2 r j := ⟨_, _, eq_ix2 i⟩
  pointwise [k0_pay7]

theorem dz1_at (i : Fin 512) (j : Fin 1024) : k0_pay16 (F := Ideal) (k0_pay6 Y) (k0_pay8 Z) (k0_pay11 Z) G (ix2 i j)
    = Ln.dzK (fun k => Y (ix2 i k)) (fun k => Z (ix2 i k)) (fun k => G (ix2 0 k)) j := by
  pointwise [k0_pay16]
  simp only [pay11_at, xh1_at, pay15_at, pay6_at]
  rfl

theorem dz2_at (i : Fin 512) (j : Fin 1024) : k0_pay17 (F := Ideal) (k0_pay7 Y) (k0_pay9 Z) (k0_pay10 Z) G (ix2 i j)
    = Ln.dzK (fun k => Y (ix2 i k)) (fun k => Z (ix2 i k)) (fun k => G (ix2 0 k)) j := by
  pointwise [k0_pay17]
  simp only [pay12_at, xh2_at, pay15_at, pay7_at]
  rfl

theorem dzb1_at (i : Fin 512) (j : Fin 1024) : (k0_pay18 (F := Ideal) (k0_pay6 Y) (k0_pay8 Z) (k0_pay11 Z) G (ix2 i j) : EReal)
    = Ln.dzK (fun k => Y (ix2 i k)) (fun k => Z (ix2 i k)) (fun k => G (ix2 0 k)) j := by
  pointwise [k0_pay18]
  exact dz1_at Y Z G i j

theorem dzb2_at (i : Fin 512) (j : Fin 1024) : (k0_pay19 (F := Ideal) (k0_pay7 Y) (k0_pay9 Z) (k0_pay10 Z) G (ix2 i j) : EReal)
    = Ln.dzK (fun k => Y (ix2 i k)) (fun k => Z (ix2 i k)) (fun k => G (ix2 0 k)) j := by
  pointwise [k0_pay19]
  exact dz2_at Y Z G i j

variable (D D' : FVec Ideal S512x1024 .bf16) (W : FVec Ideal S1024x1024 .bf16)

theorem pay23_at (i : Fin 512) (j : Fin 1024) : (k0_pay23 (F := Ideal) D W (ix2 i j) : EReal)
    = ∑ k : Fin 1024, @HMul.hMul EReal EReal EReal _ (D (ix2 i k)) (W (ix2 j k)) := by
  pointwise [k0_pay23, k0_pay22]

theorem pay24_at (i : Fin 512) (j : Fin 1024) : (k0_pay24 (F := Ideal) D W (ix2 i j) : EReal)
    = ∑ k : Fin 1024, @HMul.hMul EReal EReal EReal _ (D (ix2 i k)) (W (ix2 j k)) := by
  pointwise [k0_pay24, k0_pay22]

theorem pay20_at (Y' X X' : FVec Ideal S512x1024 .f32) (z : FVec Ideal S1x1024 .f32) (j : Fin 1024) : k0_pay20 (F := Ideal) Y Y' X X' z (ix2 0 j)
    = z (ix2 0 j) + ((∑ i : Fin 512, Y (ix2 i j) * X (ix2 i j)) + ∑ i : Fin 512, Y' (ix2 i j) * X' (ix2 i j)) := by
  pointwise [k0_pay20]

theorem pay21_at (Y' : FVec Ideal S512x1024 .f32) (z : FVec Ideal S1x1024 .f32) (j : Fin 1024) : k0_pay21 (F := Ideal) Y Y' z (ix2 0 j)
    = z (ix2 0 j) + ((∑ i : Fin 512, Y (ix2 i j)) + ∑ i : Fin 512, Y' (ix2 i j)) := by
  pointwise [k0_pay21]

theorem pay1_at (z : FVec Ideal S1024x1024 .f32) (L L' : FVec Ideal S512x1024 .bf16) (i j : Fin 1024) : k0_pay1 (F := Ideal) D D' z L L' (ix2 i j)
    = z (ix2 i j) + ((∑ k : Fin 512, @HMul.hMul EReal EReal EReal _ (L (ix2 k i)) (D (ix2 k j)))
        + ∑ k : Fin 512, @HMul.hMul EReal EReal EReal _ (L' (ix2 k i)) (D' (ix2 k j))) := by
  pointwise [k0_pay1]

theorem pay2_at (z : FVec Ideal S1024x1024 .f32) (i) : (k0_pay2 (F := Ideal) z i : EReal) = z i := by
  obtain ⟨r, j, rfl⟩ : ∃ (r : Fin 1024) (j : Fin 1024), i = ix2 r j := ⟨_, _, eq_ix2 i⟩
  pointwise [k0_pay2]

end Tile

theorem zero3 (i) : k0_pay3 (F := Ideal) i = 0 := by
  obtain ⟨a, d, rfl⟩ : ∃ (a : Fin 1) (d : Fin 1024), i = ix2 a d := ⟨_, _, eq_ix2 i⟩
  pointwise [k0_pay3]

theorem zero4 (i) : k0_pay4 (F := Ideal) i = 0 := by
  obtain ⟨a, d, rfl⟩ : ∃ (a : Fin 1) (d : Fin 1024), i = ix2 a d := ⟨_, _, eq_ix2 i⟩
  pointwise [k0_pay4]

theorem zero5 (i) : k0_pay5 (F := Ideal) i = 0 := by
  obtain ⟨a, d, rfl⟩ : ∃ (a : Fin 1024) (d : Fin 1024), i = ix2 a d := ⟨_, _, eq_ix2 i⟩
  pointwise [k0_pay5]

section Block

variable (y z : FVec Ideal S1024x1024 .f32) (G : FVec Ideal S1x1024 .f32)

/-- The row gradient of a block, in both formats, and its product with the weight. -/
abbrev D1 : FVec Ideal S512x1024 .bf16 := k0_pay18 (k0_pay6 (ldA y)) (k0_pay8 (ldA z)) (k0_pay11 (ldA z)) G

abbrev D2 : FVec Ideal S512x1024 .bf16 := k0_pay19 (k0_pay7 (ldB y)) (k0_pay9 (ldB z)) (k0_pay10 (ldB z)) G

abbrev BZ : FVec Ideal S1024x1024 .f32 :=
  half (k0_pay16 (k0_pay6 (ldA y)) (k0_pay8 (ldA z)) (k0_pay11 (ldA z)) G) (k0_pay17 (k0_pay7 (ldB y)) (k0_pay9 (ldB z)) (k0_pay10 (ldB z)) G)

abbrev BF : FVec Ideal S1024x1024 .bf16 := halfb (D1 y z G) (D2 y z G)

abbrev BM (W : FVec Ideal S1024x1024 .bf16) : FVec Ideal S1024x1024 .bf16 := halfb (k0_pay23 (D1 y z G) W) (k0_pay24 (D2 y z G) W)

/-- One row's gradient. -/
def dzb (r j : Fin 1024) : EReal := Ln.dzK (fun k => y (ix2 r k)) (fun k => z (ix2 r k)) (fun k => G (ix2 0 k)) j

theorem dz1A (i : Fin 512) (j) : k0_pay16 (F := Ideal) (k0_pay6 (ldA y)) (k0_pay8 (ldA z)) (k0_pay11 (ldA z)) G (ix2 i j) = dzb y z G ⟨i.val, by omega⟩ j := by
  rw [dz1_at, dzb]
  simp only [ldA_at]

theorem dz2B (i : Fin 512) (j) : k0_pay17 (F := Ideal) (k0_pay7 (ldB y)) (k0_pay9 (ldB z)) (k0_pay10 (ldB z)) G (ix2 i j) = dzb y z G ⟨512 + i.val, by omega⟩ j := by
  rw [dz2_at, dzb]
  simp only [ldB_at]

theorem D1_at (i : Fin 512) (j) : (D1 y z G (ix2 i j) : EReal) = dzb y z G ⟨i.val, by omega⟩ j := by
  rw [D1, dzb1_at, dzb]
  simp only [ldA_at]

theorem D2_at (i : Fin 512) (j) : (D2 y z G (ix2 i j) : EReal) = dzb y z G ⟨512 + i.val, by omega⟩ j := by
  rw [D2, dzb2_at, dzb]
  simp only [ldB_at]

theorem back {r : Fin 1024} (h : ¬r.val < 512) : (⟨512 + (r.val - 512), by omega⟩ : Fin 1024) = r :=
  Fin.ext (by show 512 + (r.val - 512) = r.val; omega)

theorem BZ_at (r j) : BZ y z G (ix2 r j) = dzb y z G r j := by
  rw [BZ, half_at]
  split
  · exact dz1A y z G _ j
  · exact (dz2B y z G _ j).trans (congrArg (fun x => dzb y z G x j) (back (by assumption)))

theorem BF_at (r j) : (BF y z G (ix2 r j) : EReal) = dzb y z G r j := by
  rw [BF, halfb_at]
  split
  · exact D1_at y z G _ j
  · exact (D2_at y z G _ j).trans (congrArg (fun x => dzb y z G x j) (back (by assumption)))

theorem BM_at (W r j) : (BM y z G W (ix2 r j) : EReal) = ∑ k : Fin 1024, @HMul.hMul EReal EReal EReal _ (dzb y z G r k) (W (ix2 j k)) := by
  rw [BM, halfb_at]
  split
  · refine (pay23_at _ _ _ j).trans (Finset.sum_congr rfl fun k _ => ?_)
    rw [D1_at]
  · refine (pay24_at _ _ _ j).trans (Finset.sum_congr rfl fun k _ => ?_)
    rw [D2_at, back (by assumption)]

/-- The gain's gradient, the bias' gradient and the weight's gradient after one more block. -/
abbrev SG (u : FVec Ideal S1x1024 .f32) : FVec Ideal S1x1024 .f32 :=
  k0_pay20 (k0_pay6 (ldA y)) (k0_pay7 (ldB y)) (k0_pay13 (k0_pay8 (ldA z)) (k0_pay11 (ldA z))) (k0_pay14 (k0_pay9 (ldB z)) (k0_pay10 (ldB z))) u

abbrev SB (u : FVec Ideal S1x1024 .f32) : FVec Ideal S1x1024 .f32 := k0_pay21 (k0_pay6 (ldA y)) (k0_pay7 (ldB y)) u

abbrev SW (L : FVec Ideal S1024x1024 .bf16) (u : FVec Ideal S1024x1024 .f32) : FVec Ideal S1024x1024 .f32 :=
  k0_pay1 (D1 y z G) (D2 y z G) u (lfA L) (lfB L)

theorem SG_at (u) (j : Fin 1024) : SG y z u (ix2 0 j) = u (ix2 0 j) + ∑ r : Fin 1024, y (ix2 r j) * Ln.xhat (fun k => z (ix2 r k)) j := by
  rw [SG, pay20_at, ← sum_half]
  simp only [pay6_at, pay7_at, xh1_at, xh2_at, ldA_at, ldB_at]

theorem SB_at (u) (j : Fin 1024) : SB y u (ix2 0 j) = u (ix2 0 j) + ∑ r : Fin 1024, y (ix2 r j) := by
  rw [SB, pay21_at, ← sum_half]
  simp only [pay6_at, pay7_at, ldA_at, ldB_at]

theorem SW_at (L u) (i j : Fin 1024) : SW y z G L u (ix2 i j)
    = u (ix2 i j) + ∑ r : Fin 1024, @HMul.hMul EReal EReal EReal _ (L (ix2 r i)) (dzb y z G r j) := by
  rw [SW, pay1_at, ← sum_half]
  simp only [D1_at, D2_at, lfA_at, lfB_at]

end Block

variable (m : (ℓ : Loc nD τ sig) → Buf (Elt Ideal) ℓ)

/-- The arguments at one device. -/
abbrev aX (c : Dev nD) : FVec Ideal S2x4096x1024 .f32 := m ((c : Thread nD τ).loc main_arg0)

abbrev aM (c : Dev nD) : FVec Ideal S2x4096x1024 .f32 := m ((c : Thread nD τ).loc main_arg1)

abbrev aW (c : Dev nD) : FVec Ideal S1024x1024 .f32 := m ((c : Thread nD τ).loc main_arg2)

abbrev aG (c : Dev nD) : FVec Ideal S1024 .f32 := m ((c : Thread nD τ).loc main_arg3)

abbrev aY (c : Dev nD) : FVec Ideal S2x4096x1024 .f32 := m ((c : Thread nD τ).loc main_arg5)

/-- The arrays the windows take, row by row. -/
theorem val4 (c : Dev nD) (b : Fin 2) (s : Fin 4096) (R : Fin 8192) (e : b.val * 4096 + s.val = R.val) (j : Fin 1024) :
    (V m c main_v4 (ix2 R j) : EReal) = aY m c (ix3 b s j) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

theorem val5 (c : Dev nD) (b : Fin 2) (s : Fin 4096) (R : Fin 8192) (e : b.val * 4096 + s.val = R.val) (j : Fin 1024) :
    (V m c main_v5 (ix2 R j) : EReal) = zrow (aX m c) (aM m c) (aW m c) b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise [zrow]

theorem val9 (c : Dev nD) (b : Fin 2) (s : Fin 4096) (R : Fin 8192) (e : b.val * 4096 + s.val = R.val) (j : Fin 1024) :
    (V m c main_v9 (ix2 R j) : EReal) = aM m c (ix3 b s j) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  entry_read
  pointwise

theorem val6 (c : Dev nD) (j : Fin 1024) : V m c main_v6 (ix2 0 j) = aG m c (ix1 j) := by
  entry_read
  pointwise

theorem val7 (c : Dev nD) (i j : Fin 1024) : (V m c main_v7 (ix2 i j) : EReal) = aW m c (ix2 i j) := by
  entry_read
  pointwise

/-- The row of the array that row `r` of block `t` is. -/
def row (t : Fin cfg0.N) (r : Fin 1024) : Fin 8192 := ⟨t.val * 1024 + r.val, by have : t.val < 8 := t.isLt; omega⟩

section Blocks

variable (c : Dev nD) (t : Fin cfg0.N) (b : Fin 2) (s : Fin 4096) (r : Fin 1024) (e : b.val * 4096 + s.val = t.val * 1024 + r.val)

theorem blk2 (j : Fin 1024) : iblk m c 2 t (ix2 0 j) = aG m c (ix1 j) :=
  (congrArg (V m c main_v6) (by blk_ext [idx t] <;> omega)).trans (val6 m c j)

theorem blk3 (i j : Fin 1024) : (iblk m c 3 t (ix2 i j) : EReal) = aW m c (ix2 i j) :=
  (congrArg (V m c main_v7) (by blk_ext [idx t] <;> omega)).trans (val7 m c i j)

include e

theorem blk0 (j : Fin 1024) : iblk m c 0 t (ix2 r j) = aY m c (ix3 b s j) :=
  (congrArg (V m c main_v4) (by blk_ext [idx t, row] <;> omega)).trans (val4 m c b s (row t r) e j)

theorem blk1 (j : Fin 1024) : iblk m c 1 t (ix2 r j) = zrow (aX m c) (aM m c) (aW m c) b s j :=
  (congrArg (V m c main_v5) (by blk_ext [idx t, row] <;> omega)).trans (val5 m c b s (row t r) e j)

theorem blk4 (j : Fin 1024) : (iblk m c 4 t (ix2 r j) : EReal) = aM m c (ix3 b s j) :=
  (congrArg (V m c main_v9) (by blk_ext [idx t, row] <;> omega)).trans (val9 m c b s (row t r) e j)

/-- One row's gradient at its token. -/
theorem dz_blk (j : Fin 1024) : dzb (iblk m c 0 t) (iblk m c 1 t) (iblk m c 2 t) r j = dzk (aX m c) (aM m c) (aW m c) (aG m c) (aY m c) b s j := by
  unfold dzb
  have h0 : (fun k => iblk m c 0 t (ix2 r k)) = fun k => aY m c (ix3 b s k) := funext fun k => blk0 m c t b s r e k
  have h1 : (fun k => iblk m c 1 t (ix2 r k)) = zrow (aX m c) (aM m c) (aW m c) b s := funext fun k => blk1 m c t b s r e k
  have h2 : (fun k => iblk m c 2 t (ix2 0 k)) = fun k => aG m c (ix1 k) := funext fun k => blk2 m c t k
  exact congr (congr (congr (congrArg Ln.dzK h0) h1) h2) rfl

end Blocks

end Cert.Ln1KernelIdeal.Ln1Value
end
-- ==== Proof.Ln1Value.lean ====
/- The mixing norm's backward call: what its six output arrays hold after the run — the rows' gradients block by block,
   the gain's, the bias' and the weight's gradients summed over all blocks. -/
module

public import proofs.«01_k».proof.Proof.Ln1Point

@[expose] public section

set_option maxRecDepth 16384

noncomputable section

open Idealize.ShloMosaic Idealize.ShloMosaic.TcCoe Idealize.SL.Sem
open Idealize.ShloMosaic.Pipeline (Dat)

namespace Cert.Ln1KernelIdeal.Ln1Value

open Cert.Ln1KernelIdeal Cert.Ln1KernelIdeal.Gen Cert.Reals
open Cert.Ln1ReferenceIdeal.Ln1Ref (zrow dzk)

variable (m : (ℓ : Loc nD τ sig) → Buf (Elt Ideal) ℓ)

theorem row_eq (t : Fin cfg0.N) (r : Fin 1024) : (⟨(row t r).val / 4096, by omega⟩ : Fin 2).val * 4096 + (⟨(row t r).val % 4096, by omega⟩ : Fin 4096).val
    = t.val * 1024 + r.val := by
  show (row t r).val / 4096 * 4096 + (row t r).val % 4096 = (row t r).val
  omega

section Out

variable (X M : FVec Ideal S2x4096x1024 .f32) (W : FVec Ideal S1024x1024 .f32) (G : FVec Ideal S1024 .f32) (Y : FVec Ideal S2x4096x1024 .f32)

/-- The six output arrays, from the arguments. -/
def outZ : FVec Ideal S8192x1024 .f32 := fun i =>
  dzk X M W G Y ⟨(i 0).val / 4096, by have : (i 0).val < 8192 := (i 0).isLt; omega⟩ ⟨(i 0).val % 4096, by omega⟩ (i 1)

def outF : FVec Ideal S8192x1024 .bf16 := fun i =>
  dzk X M W G Y ⟨(i 0).val / 4096, by have : (i 0).val < 8192 := (i 0).isLt; omega⟩ ⟨(i 0).val % 4096, by omega⟩ (i 1)

def outM : FVec Ideal S8192x1024 .bf16 := fun i =>
  ∑ k : Fin 1024, dzk X M W G Y ⟨(i 0).val / 4096, by have : (i 0).val < 8192 := (i 0).isLt; omega⟩ ⟨(i 0).val % 4096, by omega⟩ k * W (ix2 (i 1) k)

def outG : FVec Ideal S1x1024 .f32 := fun i =>
  ∑ b : Fin 2, ∑ s : Fin 4096, Y (ix3 b s (i 1)) * Ln.xhat (zrow X M W b s) (i 1)

def outB : FVec Ideal S1x1024 .f32 := fun i => ∑ b : Fin 2, ∑ s : Fin 4096, Y (ix3 b s (i 1))

def outW : FVec Ideal S1024x1024 .bf16 := fun i =>
  ∑ b : Fin 2, ∑ s : Fin 4096, M (ix3 b s (i 0)) * dzk X M W G Y b s (i 1)

/-- A token's terms of the three sums. -/
def gt (j : Fin 1024) (l : Fin 8192) : EReal :=
  Y (ix3 ⟨l.val / 4096, by omega⟩ ⟨l.val % 4096, by omega⟩ j) * Ln.xhat (zrow X M W ⟨l.val / 4096, by omega⟩ ⟨l.val % 4096, by omega⟩) j

def bt (j : Fin 1024) (l : Fin 8192) : EReal := Y (ix3 ⟨l.val / 4096, by omega⟩ ⟨l.val % 4096, by omega⟩ j)

def wt (i j : Fin 1024) (l : Fin 8192) : EReal :=
  M (ix3 ⟨l.val / 4096, by omega⟩ ⟨l.val % 4096, by omega⟩ i) * dzk X M W G Y ⟨l.val / 4096, by omega⟩ ⟨l.val % 4096, by omega⟩ j

end Out

variable (c : Dev nD)

/-- A block's share of the three sums. -/
def GT (t : Fin cfg0.N) (j : Fin 1024) : EReal := ∑ r : Fin 1024, gt (aX m c) (aM m c) (aW m c) (aY m c) j (row t r)

def BT (t : Fin cfg0.N) (j : Fin 1024) : EReal := ∑ r : Fin 1024, bt (aY m c) j (row t r)

def WT (t : Fin cfg0.N) (i j : Fin 1024) : EReal :=
  ∑ r : Fin 1024, wt (aX m c) (aM m c) (aW m c) (aG m c) (aY m c) i j (row t r)

theorem GS_at (t : Fin cfg0.N) (u i) : SG (iblk m c 0 t) (iblk m c 1 t) u i = u i + GT m c t (i 1) := by
  obtain ⟨a, j, rfl⟩ : ∃ (a : Fin 1) (j : Fin 1024), i = ix2 a j := ⟨_, _, eq_ix2 i⟩
  obtain rfl : a = 0 := Subsingleton.elim _ _
  refine (SG_at _ _ u j).trans (congrArg (u (ix2 0 j) + ·) (Finset.sum_congr rfl fun r _ => ?_))
  have h1 : (fun k => iblk m c 1 t (ix2 r k)) = zrow (aX m c) (aM m c) (aW m c) _ _ := funext fun k => blk1 m c t _ _ r (row_eq t r) k
  rw [blk0 m c t _ _ r (row_eq t r)]
  exact congrArg (fun f => _ * Ln.xhat f j) h1

theorem BS_at (t : Fin cfg0.N) (u i) : SB (iblk m c 0 t) u i = u i + BT m c t (i 1) := by
  obtain ⟨a, j, rfl⟩ : ∃ (a : Fin 1) (j : Fin 1024), i = ix2 a j := ⟨_, _, eq_ix2 i⟩
  obtain rfl : a = 0 := Subsingleton.elim _ _
  exact (SB_at _ u j).trans (congrArg (u (ix2 0 j) + ·) (Finset.sum_congr rfl fun r _ => blk0 m c t _ _ r (row_eq t r) j))

theorem WS_at (t : Fin cfg0.N) (u i) : SW (iblk m c 0 t) (iblk m c 1 t) (iblk m c 2 t) (iblk m c 4 t) u i = u i + WT m c t (i 0) (i 1) := by
  obtain ⟨k, j, rfl⟩ : ∃ (k : Fin 1024) (j : Fin 1024), i = ix2 k j := ⟨_, _, eq_ix2 i⟩
  refine (SW_at _ _ _ _ u k j).trans (congrArg (u (ix2 k j) + ·) (Finset.sum_congr rfl fun r _ => ?_))
  rw [dz_blk m c t _ _ r (row_eq t r), blk4 m c t _ _ r (row_eq t r)]
  rfl

theorem emb5 (t : Fin cfg0.N) (r d : Fin 1024) : ((cfg0.win 5).blk t).view.emb (ix2 r d) = ix2 (row t r) d := by
  blk_ext [idx t, row]

theorem emb6 (t : Fin cfg0.N) (r d : Fin 1024) : ((cfg0.win 6).blk t).view.emb (ix2 r d) = ix2 (row t r) d := by
  blk_ext [idx t, row]

theorem emb7 (t : Fin cfg0.N) (r d : Fin 1024) : ((cfg0.win 7).blk t).view.emb (ix2 r d) = ix2 (row t r) d := by
  blk_ext [idx t, row]

theorem point_z (t : Fin cfg0.N) (y) : BZ (iblk m c 0 t) (iblk m c 1 t) (iblk m c 2 t) y = outZ (aX m c) (aM m c) (aW m c) (aG m c) (aY m c) (((cfg0.win 5).blk t).view.emb y) := by
  obtain ⟨r, j, rfl⟩ : ∃ (r : Fin 1024) (j : Fin 1024), y = ix2 r j := ⟨_, _, eq_ix2 y⟩
  rw [emb5]
  exact (BZ_at _ _ _ r j).trans (dz_blk m c t _ _ r (row_eq t r) j)

theorem point_f (t : Fin cfg0.N) (y) : BF (iblk m c 0 t) (iblk m c 1 t) (iblk m c 2 t) y = outF (aX m c) (aM m c) (aW m c) (aG m c) (aY m c) (((cfg0.win 6).blk t).view.emb y) := by
  obtain ⟨r, j, rfl⟩ : ∃ (r : Fin 1024) (j : Fin 1024), y = ix2 r j := ⟨_, _, eq_ix2 y⟩
  rw [emb6]
  exact (BF_at _ _ _ r j).trans (dz_blk m c t _ _ r (row_eq t r) j)

theorem point_m (t : Fin cfg0.N) (y) : BM (iblk m c 0 t) (iblk m c 1 t) (iblk m c 2 t) (iblk m c 3 t) y
    = outM (aX m c) (aM m c) (aW m c) (aG m c) (aY m c) (((cfg0.win 7).blk t).view.emb y) := by
  obtain ⟨r, j, rfl⟩ : ∃ (r : Fin 1024) (j : Fin 1024), y = ix2 r j := ⟨_, _, eq_ix2 y⟩
  rw [emb7]
  refine (BM_at _ _ _ _ r j).trans (Finset.sum_congr rfl fun k _ => ?_)
  rw [dz_blk m c t _ _ r (row_eq t r), blk3]
  rfl

theorem final_z : (dats m 0 c).arrAt 5 (cfgs 0).N = outZ (aX m c) (aM m c) (aW m c) (aG m c) (aY m c) := by
  refine (dats m 0 c).arrAt_eq_of_covers 5 _ (by decide +kernel) fun t _ y => ?_
  blk_simp
  rw [after0_5]
  by_cases h0 : t.val % 8 = 0
  · rw [outsAt0_A m c t h0 (by omega)]
    frame_out
    exact point_z m c t y
  · by_cases h1 : t.val % 8 = 7
    · rw [outsAt0_C m c t h0 h1]
      frame_out
      exact point_z m c t y
    · rw [outsAt0_B m c t h0 h1]
      frame_out
      exact point_z m c t y

theorem final_f : (dats m 0 c).arrAt 6 (cfgs 0).N = outF (aX m c) (aM m c) (aW m c) (aG m c) (aY m c) := by
  refine (dats m 0 c).arrAt_eq_of_covers 6 _ (by decide +kernel) fun t _ y => ?_
  blk_simp
  rw [after0_6]
  by_cases h0 : t.val % 8 = 0
  · rw [outsAt0_A m c t h0 (by omega)]
    frame_out
    exact point_f m c t y
  · by_cases h1 : t.val % 8 = 7
    · rw [outsAt0_C m c t h0 h1]
      frame_out
      exact point_f m c t y
    · rw [outsAt0_B m c t h0 h1]
      frame_out
      exact point_f m c t y

theorem final_m : (dats m 0 c).arrAt 7 (cfgs 0).N = outM (aX m c) (aM m c) (aW m c) (aG m c) (aY m c) := by
  refine (dats m 0 c).arrAt_eq_of_covers 7 _ (by decide +kernel) fun t _ y => ?_
  blk_simp
  rw [after0_7]
  by_cases h0 : t.val % 8 = 0
  · rw [outsAt0_A m c t h0 (by omega)]
    frame_out
    exact point_m m c t y
  · by_cases h1 : t.val % 8 = 7
    · rw [outsAt0_C m c t h0 h1]
      frame_out
      exact point_m m c t y
    · rw [outsAt0_B m c t h0 h1]
      frame_out
      exact point_m m c t y

/-- After the last point the three sums hold all tokens' terms. -/
theorem acc_g (i) : (outsAt0 m c t0_7.val t0_7.isLt).2.2.2.1 i = ∑ t : Fin cfg0.N, GT m c t (i 1) := by
  rw [Pipeline.eq_sum_fin_of_reset_step_apply_last (f := fun n h => (outsAt0 m c n h).2.2.2.1) 8 (fun _ => 0)
    (fun t i => GT m c t (i 1))
    (fun t h i => by
      rw [outsAt0_A m c t h (by omega)]; frame_out
      exact (GS_at m c t (k0_pay3 (F := Ideal)) i).trans (by rw [zero3]))
    (fun t h i => by
      have hk := fun u => GS_at m c t u i
      by_cases h2 : t.val % 8 = 7
      · rw [outsAt0_C m c t h h2]; frame_out; exact hk _
      · rw [outsAt0_B m c t h h2]; frame_out; exact hk _)
    (le_of_eq N_0) t0_7 rfl i, zero_add]

theorem acc_b (i) : (outsAt0 m c t0_7.val t0_7.isLt).2.2.2.2.1 i = ∑ t : Fin cfg0.N, BT m c t (i 1) := by
  rw [Pipeline.eq_sum_fin_of_reset_step_apply_last (f := fun n h => (outsAt0 m c n h).2.2.2.2.1) 8 (fun _ => 0)
    (fun t i => BT m c t (i 1))
    (fun t h i => by
      rw [outsAt0_A m c t h (by omega)]; frame_out
      exact (BS_at m c t (k0_pay4 (F := Ideal)) i).trans (by rw [zero4]))
    (fun t h i => by
      have hk := fun u => BS_at m c t u i
      by_cases h2 : t.val % 8 = 7
      · rw [outsAt0_C m c t h h2]; frame_out; exact hk _
      · rw [outsAt0_B m c t h h2]; frame_out; exact hk _)
    (le_of_eq N_0) t0_7 rfl i, zero_add]

theorem acc_w (i) : (outsAt0 m c t0_7.val t0_7.isLt).2.2.2.2.2.2 i = ∑ t : Fin cfg0.N, WT m c t (i 0) (i 1) := by
  rw [Pipeline.eq_sum_fin_of_reset_step_apply_last (f := fun n h => (outsAt0 m c n h).2.2.2.2.2.2) 8 (fun _ => 0)
    (fun t i => WT m c t (i 0) (i 1))
    (fun t h i => by
      rw [outsAt0_A m c t h (by omega)]; frame_out
      exact (WS_at m c t (k0_pay5 (F := Ideal)) i).trans (by rw [zero5]))
    (fun t h i => by
      have hk := fun u => WS_at m c t u i
      by_cases h2 : t.val % 8 = 7
      · rw [outsAt0_C m c t h h2]; frame_out; rw [read_unread_whole]; exact hk _
      · rw [outsAt0_B m c t h h2]; frame_out; rw [read_unread_whole]; exact hk _)
    (le_of_eq N_0) t0_7 rfl i, zero_add]

theorem final_g : (dats m 0 c).arrAt 8 (cfgs 0).N = outG (aX m c) (aM m c) (aW m c) (aY m c) := by
  refine (dats m 0 c).arrAt_eq_of_after_last 8 t0_7 (by decide +kernel) _ fun i => ?_
  blk_simp
  rw [after0_8, acc_g]
  unfold GT outG
  exact (Fin.sum_mul_add_congr (L := 8192) (S := 8) (n := 1024) (f := gt (aX m c) (aM m c) (aW m c) (aY m c) (i 1)) fun t r hl => rfl).trans
    (Fin.sum_divmod_congr (S := 4096) (A := 2) (N := 8192) fun l ha hs => rfl)

theorem final_b : (dats m 0 c).arrAt 9 (cfgs 0).N = outB (aY m c) := by
  refine (dats m 0 c).arrAt_eq_of_after_last 9 t0_7 (by decide +kernel) _ fun i => ?_
  blk_simp
  rw [after0_9, acc_b]
  unfold BT outB
  exact (Fin.sum_mul_add_congr (L := 8192) (S := 8) (n := 1024) (f := bt (aY m c) (i 1)) fun t r hl => rfl).trans
    (Fin.sum_divmod_congr (S := 4096) (A := 2) (N := 8192) fun l ha hs => rfl)

theorem final_w : (dats m 0 c).arrAt 10 (cfgs 0).N = outW (aX m c) (aM m c) (aW m c) (aG m c) (aY m c) := by
  refine (dats m 0 c).arrAt_eq_of_after_last 10 t0_7 (by decide +kernel) _ fun i => ?_
  blk_simp
  have hw : ((outsAt0 m c t0_7.val t0_7.isLt).2.2.2.2.2.1 i : EReal) = (outsAt0 m c t0_7.val t0_7.isLt).2.2.2.2.2.2 i := by
    rw [outsAt0_C m c t0_7 (by decide) (by decide)]
    frame_out
    exact pay2_at _ i
  rw [after0_10, hw, acc_w]
  unfold WT outW
  exact (Fin.sum_mul_add_congr (L := 8192) (S := 8) (n := 1024) (f := wt (aX m c) (aM m c) (aW m c) (aG m c) (aY m c) (i 0) (i 1)) fun t r hl => rfl).trans
    (Fin.sum_divmod_congr (S := 4096) (A := 2) (N := 8192) fun l ha hs => rfl)

end Cert.Ln1KernelIdeal.Ln1Value
end
-- ==== Proof.Ln1Claim.lean ====
/- The claims about the mixing norm's backward call. -/
module

public import proofs.«01_k».proof.Defs
public import proofs.«01_k».proof.Proof.Gen.Ln1Kernel
public import proofs.«01_k».proof.Proof.Gen.Ln1Kernel.Frame
public import proofs.«01_k».proof.Proof.Gen.Ln1ReferenceIdeal.Run
public import proofs.«01_k».proof.Proof.Ln1Value

@[expose] public section

set_option maxRecDepth 16384

noncomputable section

open Idealize.ShloMosaic Idealize.ShloMosaic.TcCoe Idealize.SL.Sem

namespace Cert.Proof

open Cert.Ln1ReferenceIdeal.Ln1Ref Cert.Ln1KernelIdeal.Ln1Value Cert.Reals

/-- The shapes the precondition compares fit together. -/
instance pre_ln1 : Cert.Pre_finite_ln1.Facts := ⟨by decide, by decide, by decide⟩

theorem frame_ln1 : quiescent_Ln1Kernel := fun m ρ _ => Cert.Ln1Kernel.Gen.frame m ρ

theorem frame_ln1Ideal : quiescent_Ln1KernelIdeal := fun m ρ _ => Cert.Ln1KernelIdeal.Gen.frame m ρ

theorem frame_ln1Ideal_pre : quiescent_Ln1KernelIdeal_pre_finite_ln1 := fun m ρ _ => Cert.Ln1KernelIdeal.Gen.frame m ρ

theorem frame_ln1Reference : quiescent_Ln1ReferenceIdeal := fun m ρ _ =>
  (θ_run Cert.Ln1ReferenceIdeal.defs _ _).mono
    (fun r h => ⟨fun c => (h c).2.2.2.2.2.2, sem_eq_zero_of_no_sems (by decide) r.2⟩)
    (Cert.Ln1ReferenceIdeal.Value.run (F := Ideal) m ρ)

theorem frame_ln1Reference_pre : quiescent_Ln1ReferenceIdeal_pre_finite_ln1 := fun m ρ _ => frame_ln1Reference m ρ trivial

/-- Where the precondition holds, the arguments the gradients read are real numbers. -/
theorem real_ln1 (X M : FVec Ideal Cert.Pre_finite_ln1.S2x4096x1024 .f32) (W : FVec Ideal Cert.Pre_finite_ln1.S1024x1024 .f32)
    (G B : FVec Ideal Cert.Pre_finite_ln1.S1024 .f32) (Y : FVec Ideal Cert.Pre_finite_ln1.S2x4096x1024 .f32)
    (h : (Cert.Pre_finite_ln1.fn X M W G B Y).1 = (fun _ => 1#1) ∧ (Cert.Pre_finite_ln1.fn X M W G B Y).2.1 = (fun _ => 1#1)
      ∧ (Cert.Pre_finite_ln1.fn X M W G B Y).2.2.1 = (fun _ => 1#1) ∧ (Cert.Pre_finite_ln1.fn X M W G B Y).2.2.2.1 = (fun _ => 1#1)
      ∧ (Cert.Pre_finite_ln1.fn X M W G B Y).2.2.2.2 = (fun _ => 1#1)) :
    Cert.Ln1ReferenceIdeal.Ln1Ref.Real' X M W G Y := by
  refine ⟨fun b s d => ?_, fun b s d => ?_, fun k d => ?_, fun d => ?_, fun b s d => ?_⟩
  · have := congrFun h.1 (ix3 b s d)
    pointwise [Cert.Pre_finite_ln1.fn] at this
    exact real_of_cmp this
  · have := congrFun h.2.1 (ix3 b s d)
    pointwise [Cert.Pre_finite_ln1.fn] at this
    exact real_of_cmp this
  · have := congrFun h.2.2.1 (ix2 k d)
    pointwise [Cert.Pre_finite_ln1.fn] at this
    exact real_of_cmp this
  · have := congrFun h.2.2.2.1 (ix1 d)
    pointwise [Cert.Pre_finite_ln1.fn] at this
    exact real_of_cmp this
  · have := congrFun h.2.2.2.2 (ix3 b s d)
    pointwise [Cert.Pre_finite_ln1.fn] at this
    exact real_of_cmp this

section Kernel

open Cert.Ln1KernelIdeal

variable (m : (ℓ : Loc nD τ sig) → Buf (Elt Ideal) ℓ) (ρ)

/-- The run with its six output arrays named and its arguments unchanged. -/
theorem ln1_run : θ_run defs (onTc (τ := τ) (main (F := Ideal))) ⟨m, fun _ => 0, ρ⟩ fun r => ∀ c : Dev nD,
    r.2.mem ((c : Thread nD τ).loc main_v10_0) = Cert.Ln1KernelIdeal.Ln1Value.outZ (aX m c) (aM m c) (aW m c) (aG m c) (aY m c)
      ∧ r.2.mem ((c : Thread nD τ).loc main_v10_1) = outF (aX m c) (aM m c) (aW m c) (aG m c) (aY m c)
      ∧ r.2.mem ((c : Thread nD τ).loc main_v10_2) = outM (aX m c) (aM m c) (aW m c) (aG m c) (aY m c)
      ∧ r.2.mem ((c : Thread nD τ).loc main_v10_3) = outG (aX m c) (aM m c) (aW m c) (aY m c)
      ∧ r.2.mem ((c : Thread nD τ).loc main_v10_4) = outB (aY m c)
      ∧ r.2.mem ((c : Thread nD τ).loc main_v10_5) = outW (aX m c) (aM m c) (aW m c) (aG m c) (aY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final_z m c),
    ((h c).1 6).trans (final_f m c),
    ((h c).1 7).trans (final_m m c),
    ((h c).1 8).trans (final_g m c),
    ((h c).1 9).trans (final_b m c),
    ((h c).1 10).trans (final_w m c),
    ((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c)⟩)
    (Gen.run_main m ρ)

end Kernel

section Terms

open Cert.Ln1ReferenceIdeal Cert.Ln1ReferenceIdeal.Gen Cert.Ln1ReferenceIdeal.Value Idealize.ShloMosaic.StableHlo

variable (X M : FVec Ideal S2x4096x1024 .f32) (W : FVec Ideal S1024x1024 .f32) (G : FVec Ideal S1024 .f32) (Y : FVec Ideal S2x4096x1024 .f32)

/-- The results' last steps: rows, formats, one leading axis. -/
def rows (D : FVec Ideal S2x4096x1024 .f32) : FVec Ideal S8192x1024 .f32 := shapeCast S8192x1024 D shapeCasts_S2x4096x1024_S8192x1024

def rowsb (D : FVec Ideal S2x4096x1024 .f32) : FVec Ideal S8192x1024 .bf16 := truncf .bf16 (shapeCast S8192x1024 D shapeCasts_S2x4096x1024_S8192x1024) bitsLt_bf16_f32

def lead (v : FVec Ideal S1024 .f32) : FVec Ideal S1x1024 .f32 := broadcastInDim S1x1024 ![1] bcast_S1024_S1x1024_1 v

def wb (D : FVec Ideal S1024x1024 .f32) : FVec Ideal S1024x1024 .bf16 := truncf .bf16 D bitsLt_bf16_f32

theorem rows_at (D r d) : rows D (ix2 r d) = D (ix3 ⟨r.val / 4096, by omega⟩ ⟨r.val % 4096, by omega⟩ d) := by
  pointwise [rows]

theorem rowsb_at (D r d) : (rowsb D (ix2 r d) : EReal) = D (ix3 ⟨r.val / 4096, by omega⟩ ⟨r.val % 4096, by omega⟩ d) := by
  pointwise [rowsb]

theorem lead_at (v d) : lead v (ix2 0 d) = v (ix1 d) := by
  pointwise [lead]

theorem wb_at (D i j) : (wb D (ix2 i j) : EReal) = D (ix2 i j) := by
  pointwise [wb]

variable {X M W G Y}

theorem ln1_z (h : Real' X M W G Y) : rows (DZ (z X M W) Y G) = Cert.Ln1KernelIdeal.Ln1Value.outZ X M W G Y := by
  funext j
  obtain ⟨r, d, rfl⟩ : ∃ (r : Fin 8192) (d : Fin 1024), j = ix2 r d := ⟨_, _, eq_ix2 j⟩
  rw [rows_at, dz_at h]
  rfl

theorem ln1_f (h : Real' X M W G Y) : rowsb (DZ (z X M W) Y G) = outF X M W G Y := by
  funext j
  obtain ⟨r, d, rfl⟩ : ∃ (r : Fin 8192) (d : Fin 1024), j = ix2 r d := ⟨_, _, eq_ix2 j⟩
  exact (rowsb_at _ r d).trans (dz_at h _ _ _)

theorem ln1_m (h : Real' X M W G Y) : rowsb (dm (DZ (z X M W) Y G) W) = outM X M W G Y := by
  funext j
  obtain ⟨r, d, rfl⟩ : ∃ (r : Fin 8192) (d : Fin 1024), j = ix2 r d := ⟨_, _, eq_ix2 j⟩
  refine (rowsb_at _ r d).trans ?_
  rw [dm_at]
  simp only [dz_at h]
  rfl

theorem ln1_g : lead (dg (xh (ze (z X M W) (mu (z X M W))) (rs (va (z X M W) (mu (z X M W))))) Y) = outG X M W Y := by
  funext j
  obtain ⟨a, d, rfl⟩ : ∃ (a : Fin 1) (d : Fin 1024), j = ix2 a d := ⟨_, _, eq_ix2 j⟩
  obtain rfl : a = 0 := Subsingleton.elim _ _
  rw [lead_at, dg_at]
  simp only [z_at]
  exact Finset.sum_congr rfl fun b _ => Finset.sum_congr rfl fun s _ => mul_comm _ _

theorem ln1_b : lead (db Y) = outB Y := by
  funext j
  obtain ⟨a, d, rfl⟩ : ∃ (a : Fin 1) (d : Fin 1024), j = ix2 a d := ⟨_, _, eq_ix2 j⟩
  obtain rfl : a = 0 := Subsingleton.elim _ _
  rw [lead_at, db_at]
  rfl

theorem ln1_w (h : Real' X M W G Y) : wb (dwo (DZ (z X M W) Y G) M) = outW X M W G Y := by
  funext j
  obtain ⟨i, d, rfl⟩ : ∃ (i : Fin 1024) (d : Fin 1024), j = ix2 i d := ⟨_, _, eq_ix2 j⟩
  refine (wb_at _ i d).trans ?_
  rw [dwo_at]
  simp only [dz_at h]
  exact Finset.sum_congr rfl fun b _ => Finset.sum_congr rfl fun s _ => mul_comm _ _

variable (X M W Y)

/-- The gradients of the gain and the bias, as the reference writes them. -/
theorem ln1_v74_eq : (broadcastInDim S1x1024 ![1] bcast_S1024_S1x1024_1 (Host.reduceAdd (shapeCast _ (Host.reduceAdd (mulf (mulf (subf (addf (mulf (broadcastInDim S2x4096x1024 ![] bcast_S_S2x4096x1024 (constant S_ .f32 0x3FD744FD#32)) X) (Host.dotGeneral dot_S2x4096x1024_S1024x1024_S2x4096x1024_2_0_01_1_n_n none M W)) (broadcastInDim S2x4096x1024 ![0, 1, 2] bcast_S2x4096x1_S2x4096x1024_0_1_2 (Host.divf (broadcastInDim S2x4096x1 ![0, 1] bcast_S2x4096_S2x4096x1_0_1 (Host.reduceAdd (addf (mulf (broadcastInDim S2x4096x1024 ![] bcast_S_S2x4096x1024 (constant S_ .f32 0x3FD744FD#32)) X) (Host.dotGeneral dot_S2x4096x1024_S1024x1024_S2x4096x1024_2_0_01_1_n_n none M W)) (constant S_ .f32 0x00000000#32) reducesTo_S2x4096x1024_S2x4096_d2 h_S_)) (broadcastInDim S2x4096x1 ![] bcast_S_S2x4096x1 (constant S_ .f32 0x44800000#32))))) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (subf (addf (mulf (broadcastInDim S2x4096x1024 ![] bcast_S_S2x4096x1024 (constant S_ .f32 0x3FD744FD#32)) X) (Host.dotGeneral dot_S2x4096x1024_S1024x1024_S2x4096x1024_2_0_01_1_n_n none M W)) (broadcastInDim S2x4096x1024 ![0, 1, 2] bcast_S2x4096x1_S2x4096x1024_0_1_2 (Host.divf (broadcastInDim S2x4096x1 ![0, 1] bcast_S2x4096_S2x4096x1_0_1 (Host.reduceAdd (addf (mulf (broadcastInDim S2x4096x1024 ![] bcast_S_S2x4096x1024 (constant S_ .f32 0x3FD744FD#32)) X) (Host.dotGeneral dot_S2x4096x1024_S1024x1024_S2x4096x1024_2_0_01_1_n_n none M W)) (constant S_ .f32 0x00000000#32) reducesTo_S2x4096x1024_S2x4096_d2 h_S_)) (broadcastInDim S2x4096x1 ![] bcast_S_S2x4096x1 (constant S_ .f32 0x44800000#32))))) (subf (addf (mulf (broadcastInDim S2x4096x1024 ![] bcast_S_S2x4096x1024 (constant S_ .f32 0x3FD744FD#32)) X) (Host.dotGeneral dot_S2x4096x1024_S1024x1024_S2x4096x1024_2_0_01_1_n_n none M W)) (broadcastInDim S2x4096x1024 ![0, 1, 2] bcast_S2x4096x1_S2x4096x1024_0_1_2 (Host.divf (broadcastInDim S2x4096x1 ![0, 1] bcast_S2x4096_S2x4096x1_0_1 (Host.reduceAdd (addf (mulf (broadcastInDim S2x4096x1024 ![] bcast_S_S2x4096x1024 (constant S_ .f32 0x3FD744FD#32)) X) (Host.dotGeneral dot_S2x4096x1024_S1024x1024_S2x4096x1024_2_0_01_1_n_n none M W)) (constant S_ .f32 0x00000000#32) reducesTo_S2x4096x1024_S2x4096_d2 h_S_)) (broadcastInDim S2x4096x1 ![] bcast_S_S2x4096x1 (constant S_ .f32 0x44800000#32)))))) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x3727C5AC#32)))))) (shapeCast _ Y shapeCasts_S2x4096x1024_S2x4096x1024)) (constant S_ .f32 0x00000000#32) reducesTo_S2x4096x1024_S1024_d0_1 h_S_) shapeCasts_S1024_S1x1x1024) (constant S_ .f32 0x00000000#32) reducesTo_S1x1x1024_S1024_d0_1 h_S_) : FVec Ideal S1x1024 .f32)
    = outG X M W Y := by
  refine Eq.trans ?_ ln1_g
  unfold lead dg xh ze rs va mu z
  rfl

theorem ln1_v75_eq : (broadcastInDim S1x1024 ![1] bcast_S1024_S1x1024_1 (Host.reduceAdd (shapeCast _ (Host.reduceAdd Y (constant S_ .f32 0x00000000#32) reducesTo_S2x4096x1024_S1024_d0_1 h_S_) shapeCasts_S1024_S1x1x1024) (constant S_ .f32 0x00000000#32) reducesTo_S1x1x1024_S1024_d0_1 h_S_) : FVec Ideal S1x1024 .f32)
    = outB Y := by
  refine Eq.trans ?_ ln1_b
  unfold lead db
  rfl

end Terms

section Results

open Cert.Ln1ReferenceIdeal Cert.Ln1ReferenceIdeal.Gen Cert.Ln1ReferenceIdeal.Value Idealize.ShloMosaic.StableHlo

variable (m : (ℓ : Loc nD τ sig) → Buf (Elt Ideal) ℓ) (c : Dev nD)

/-- The reference's other results are its arrays one after the other. -/
theorem ln1_v70_eq : Value.res_main_v70 m c
    = rows (DZ (z (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg3))) := by
  unfold Value.res_main_v70 rows DZ dz tail dvz dv dxr gdy rsd rs va ze mu z
  rfl

theorem ln1_v71_eq : Value.res_main_v71 m c
    = rowsb (DZ (z (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg3))) := by
  unfold Value.res_main_v71 rowsb DZ dz tail dvz dv dxr gdy rsd rs va ze mu z
  rfl

theorem ln1_v73_eq : Value.res_main_v73 m c
    = rowsb (dm (DZ (z (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg3))) (m ((c.tc : Thread nD τ).loc main_arg2))) := by
  unfold Value.res_main_v73 rowsb dm DZ dz tail dvz dv dxr gdy rsd rs va ze mu z
  rfl

theorem ln1_v76_eq : Value.res_main_v76 m c
    = wb (dwo (DZ (z (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg3))) (m ((c.tc : Thread nD τ).loc main_arg1))) := by
  unfold Value.res_main_v76 wb dwo DZ dz tail dvz dv dxr gdy rsd rs va ze mu z
  rfl

end Results

set_option maxHeartbeats 2000000 in
/-- All six results: the gradient of the normalised rows in both formats, of the merged branches, of the gain, of the
    bias and of the projection's weight. -/
theorem algebraic_ln1 : algebraic_Ln1KernelIdeal_Ln1ReferenceIdeal_pre_finite_ln1 := by
  pair_intro
  · run_from ln1_run m g
  · have hr := fun c => real_ln1 _ _ _ _ _ _ (hpre c)
    run_from Cert.Ln1ReferenceIdeal.Value.run m' g'
    all_goals obtain ⟨h0, h1, h2, h3, h4, h5⟩ := hagree c
    · rw [ln1_v70_eq, h0, h1, h2, h3, h5]
      exact ln1_z (hr c)
    · rw [ln1_v71_eq, h0, h1, h2, h3, h5]
      exact ln1_f (hr c)
    · rw [ln1_v73_eq, h0, h1, h2, h3, h5]
      exact ln1_m (hr c)
    · exact ln1_v74_eq _ _ _ _
    · exact ln1_v75_eq _
    · rw [ln1_v76_eq, h0, h1, h2, h3, h5]
      exact ln1_w (hr c)

end Cert.Proof

end
-- ==== Proof.Ln2Ref.lean ====
/- The reference of the feed-forward norm's backward call: its results in closed form, token by token. -/
module

public import proofs.«01_k».proof.Proof.Gen.Ln2ReferenceIdeal.Run
public import proofs.«01_k».proof.Proof.LnRow

@[expose] public section

set_option maxRecDepth 16384

noncomputable section

open Idealize.ShloMosaic Idealize.ShloMosaic.TcCoe Idealize.SL.Sem Idealize.ShloMosaic.StableHlo

namespace Cert.Ln2ReferenceIdeal.Ln2Ref

open Cert.Ln2ReferenceIdeal Cert.Ln2ReferenceIdeal.Gen Cert.Ln2ReferenceIdeal.Value Cert.Reals

def z (a0 : FVec Ideal S2x4096x1024 .f32) (main_v0 : FVec Ideal S2x4096x4096 .f32) (a2 : FVec Ideal S4096x1024 .f32) : FVec Ideal S2x4096x1024 .f32 :=
  addf (mulf (broadcastInDim S2x4096x1024 ![] bcast_S_S2x4096x1024 (constant S_ .f32 0x3FD744FD#32)) a0) (Host.dotGeneral dot_S2x4096x4096_S4096x1024_S2x4096x1024_2_0_01_1_n_n none (mulf main_v0 main_v0) a2)

def mu (z_ : FVec Ideal S2x4096x1024 .f32) : FVec Ideal S2x4096x1 .f32 :=
  Host.divf (broadcastInDim S2x4096x1 ![0, 1] bcast_S2x4096_S2x4096x1_0_1 (Host.reduceAdd z_ (constant S_ .f32 0x00000000#32) reducesTo_S2x4096x1024_S2x4096_d2 h_S_)) (broadcastInDim S2x4096x1 ![] bcast_S_S2x4096x1 (constant S_ .f32 0x44800000#32))

def ze (z_ : FVec Ideal S2x4096x1024 .f32) (mu_ : FVec Ideal S2x4096x1 .f32) : FVec Ideal S2x4096x1024 .f32 :=
  subf z_ (broadcastInDim S2x4096x1024 ![0, 1, 2] bcast_S2x4096x1_S2x4096x1024_0_1_2 mu_)

def va (z_ : FVec Ideal S2x4096x1024 .f32) (mu_ : FVec Ideal S2x4096x1 .f32) : FVec Ideal S2x4096x1 .f32 :=
  addf (Host.divf (broadcastInDim S2x4096x1 ![0, 1] bcast_S2x4096_S2x4096x1_0_1 (Host.reduceAdd (mulf (subf z_ (broadcastInDim S2x4096x1024 ![0, 1, 2] bcast_S2x4096x1_S2x4096x1024_0_1_2 mu_)) (subf z_ (broadcastInDim S2x4096x1024 ![0, 1, 2] bcast_S2x4096x1_S2x4096x1024_0_1_2 mu_))) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x3727C5AC#32))

def rs (va_ : FVec Ideal S2x4096x1 .f32) : FVec Ideal S2x4096x1 .f32 :=
  Host.rsqrt va_

def rsd (rs_ : FVec Ideal S2x4096x1 .f32) (va_ : FVec Ideal S2x4096x1 .f32) : FVec Ideal S2x4096x1 .f32 :=
  mulf (broadcastInDim S2x4096x1 ![] bcast_S_S2x4096x1 (constant S_ .f32 0xBF000000#32)) (Host.divf rs_ va_)

def xh (ze_ : FVec Ideal S2x4096x1024 .f32) (rs_ : FVec Ideal S2x4096x1 .f32) : FVec Ideal S2x4096x1024 .f32 :=
  mulf ze_ (broadcastInDim S2x4096x1024 ![0, 1, 2] bcast_S2x4096x1_S2x4096x1024_0_1_2 rs_)

def db (a5 : FVec Ideal S2x4096x1024 .f32) : FVec Ideal S1024 .f32 :=
  Host.reduceAdd (shapeCast S1x1x1024 (Host.reduceAdd a5 (constant S_ .f32 0x00000000#32) reducesTo_S2x4096x1024_S1024_d0_1 h_S_) shapeCasts_S1024_S1x1x1024) (constant S_ .f32 0x00000000#32) reducesTo_S1x1x1024_S1024_d0_1 h_S_

def gdy (a5 : FVec Ideal S2x4096x1024 .f32) (a3 : FVec Ideal S1024 .f32) : FVec Ideal S2x4096x1024 .f32 :=
  mulf (shapeCast S2x4096x1024 a5 shapeCasts_S2x4096x1024_S2x4096x1024) (broadcastInDim S2x4096x1024 ![0, 1, 2] bcast_S1x1x1024_S2x4096x1024_0_1_2 (broadcastInDim S1x1x1024 ![2] bcast_S1024_S1x1x1024_2 a3))

def dg (xh_ : FVec Ideal S2x4096x1024 .f32) (a5 : FVec Ideal S2x4096x1024 .f32) : FVec Ideal S1024 .f32 :=
  Host.reduceAdd (shapeCast S1x1x1024 (Host.reduceAdd (mulf xh_ (shapeCast S2x4096x1024 a5 shapeCasts_S2x4096x1024_S2x4096x1024)) (constant S_ .f32 0x00000000#32) reducesTo_S2x4096x1024_S1024_d0_1 h_S_) shapeCasts_S1024_S1x1x1024) (constant S_ .f32 0x00000000#32) reducesTo_S1x1x1024_S1024_d0_1 h_S_

def dxr (gdy_ : FVec Ideal S2x4096x1024 .f32) (rs_ : FVec Ideal S2x4096x1 .f32) : FVec Ideal S2x4096x1024 .f32 :=
  mulf gdy_ (broadcastInDim S2x4096x1024 ![0, 1, 2] bcast_S2x4096x1_S2x4096x1024_0_1_2 rs_)

def dv (ze_ : FVec Ideal S2x4096x1024 .f32) (gdy_ : FVec Ideal S2x4096x1024 .f32) (rsd_ : FVec Ideal S2x4096x1 .f32) : FVec Ideal S2x4096 .f32 :=
  Host.reduceAdd (Host.divf (mulf (shapeCast S2x4096x1 (Host.reduceAdd (mulf ze_ gdy_) (constant S_ .f32 0x00000000#32) reducesTo_S2x4096x1024_S2x4096_d2 h_S_) shapeCasts_S2x4096_S2x4096x1) rsd_) (broadcastInDim S2x4096x1 ![] bcast_S_S2x4096x1 (constant S_ .f32 0x44800000#32))) (constant S_ .f32 0x00000000#32) reducesTo_S2x4096x1_S2x4096_d2 h_S_

def dvz (dv_ : FVec Ideal S2x4096 .f32) (z_ : FVec Ideal S2x4096x1024 .f32) (mu_ : FVec Ideal S2x4096x1 .f32) : FVec Ideal S2x4096x1024 .f32 :=
  mulf (broadcastInDim S2x4096x1024 ![0, 1] bcast_S2x4096_S2x4096x1024_0_1 dv_) (mulf (broadcastInDim S2x4096x1024 ![] bcast_S_S2x4096x1024 (constant S_ .f32 0x40000000#32)) (subf z_ (broadcastInDim S2x4096x1024 ![0, 1, 2] bcast_S2x4096x1_S2x4096x1024_0_1_2 mu_)))

def tail (dxr_ : FVec Ideal S2x4096x1024 .f32) (dvz_ : FVec Ideal S2x4096x1024 .f32) : FVec Ideal S2x4096x1024 .f32 :=
  broadcastInDim S2x4096x1024 ![0, 1] bcast_S2x4096_S2x4096x1024_0_1 (Host.reduceAdd (Host.divf (addf (shapeCast S2x4096x1 (Host.reduceAdd (Host.negf dxr_) (constant S_ .f32 0x00000000#32) reducesTo_S2x4096x1024_S2x4096_d2 h_S_) shapeCasts_S2x4096_S2x4096x1) (shapeCast S2x4096x1 (Host.reduceAdd (Host.negf dvz_) (constant S_ .f32 0x00000000#32) reducesTo_S2x4096x1024_S2x4096_d2 h_S_) shapeCasts_S2x4096_S2x4096x1)) (broadcastInDim S2x4096x1 ![] bcast_S_S2x4096x1 (constant S_ .f32 0x44800000#32))) (constant S_ .f32 0x00000000#32) reducesTo_S2x4096x1_S2x4096_d2 h_S_)

def dz (dxr_ : FVec Ideal S2x4096x1024 .f32) (dvz_ : FVec Ideal S2x4096x1024 .f32) (tail_ : FVec Ideal S2x4096x1024 .f32) : FVec Ideal S2x4096x1024 .f32 :=
  addf (addf dxr_ dvz_) tail_

def dpre (a1 : FVec Ideal S2x4096x4096 .f32) (dz_ : FVec Ideal S2x4096x1024 .f32) (a2 : FVec Ideal S4096x1024 .f32) (main_v69 : FVec Ideal S2x4096x4096 .f32) : FVec Ideal S2x4096x4096 .f32 :=
  select (cmpf .ogt a1 (broadcastInDim S2x4096x4096 ![] bcast_S_S2x4096x4096 (constant S_ .f32 0x00000000#32))) (mulf (Host.dotGeneral dot_S2x4096x1024_S4096x1024_S2x4096x4096_2_1_01_0_n_n none dz_ a2) (mulf (broadcastInDim S2x4096x4096 ![] bcast_S_S2x4096x4096 (constant S_ .f32 0x40000000#32)) main_v69)) (broadcastInDim S2x4096x4096 ![] bcast_S_S2x4096x4096 (constant S_ .f32 0x00000000#32))

/-- The hidden row's positive part. -/
def relu (P : FVec Ideal S2x4096x4096 .f32) : FVec Ideal S2x4096x4096 .f32 :=
  maximumf P (broadcastInDim S2x4096x4096 ![] bcast_S_S2x4096x4096 (constant S_ .f32 0x00000000#32))

theorem relu_at (P b s k) : relu P (ix3 b s k) = max (P (ix3 b s k)) 0 := by
  pointwise [relu]

/-- The hidden entry: the square of the positive part. -/
def hsq (P : FVec Ideal S2x4096x4096 .f32) (b : Fin 2) (s k : Fin 4096) : EReal := max (P (ix3 b s k)) 0 * max (P (ix3 b s k)) 0

/-- The row the norm takes at one token. -/
def zrow (X : FVec Ideal S2x4096x1024 .f32) (P : FVec Ideal S2x4096x4096 .f32) (W : FVec Ideal S4096x1024 .f32) (b : Fin 2)
    (s : Fin 4096) (d : Fin 1024) : EReal :=
  Ideal.ofBits .f32 0x3FD744FD#32 * X (ix3 b s d) + ∑ k : Fin 4096, hsq P b s k * W (ix2 k d)

theorem z_at (X P W b s d) : z X (relu P) W (ix3 b s d) = zrow X P W b s d := by
  pointwise [z, zrow, hsq]
  simp only [relu_at]

section Row

variable (Z Y : FVec Ideal S2x4096x1024 .f32) (G : FVec Ideal S1024 .f32) (b : Fin 2) (s : Fin 4096)

theorem mu_at : mu Z (ix3 b s 0) = Ln.mean (fun k => Z (ix3 b s k)) := by
  pointwise [mu, Ln.mean]

theorem ze_at (d) : ze Z (mu Z) (ix3 b s d) = Ln.cen (fun k => Z (ix3 b s k)) d := by
  pointwise [ze]
  rw [mu_at, Ln.cen]

theorem va_at : va Z (mu Z) (ix3 b s 0) = Ln.vare (fun k => Z (ix3 b s k)) := by
  pointwise [va]
  simp only [mu_at]
  rfl

theorem rs_at : rs (va Z (mu Z)) (ix3 b s 0) = Ln.rstd (fun k => Z (ix3 b s k)) := by
  pointwise [rs]
  rw [va_at, Ln.rstd]

theorem rsd_at : rsd (rs (va Z (mu Z))) (va Z (mu Z)) (ix3 b s 0)
    = Ideal.ofBits .f32 0xBF000000#32 * Ideal.div (Ln.rstd (fun k => Z (ix3 b s k))) (Ln.vare (fun k => Z (ix3 b s k))) := by
  pointwise [rsd]
  rw [va_at, rs_at]

theorem xh_at (d) : xh (ze Z (mu Z)) (rs (va Z (mu Z))) (ix3 b s d) = Ln.xhat (fun k => Z (ix3 b s k)) d := by
  pointwise [xh]
  rw [ze_at, rs_at, Ln.xhat]

theorem gdy_at (d) : gdy Y G (ix3 b s d) = Y (ix3 b s d) * G (ix1 d) := by
  pointwise [gdy]

theorem dxr_at (d) : dxr (gdy Y G) (rs (va Z (mu Z))) (ix3 b s d)
    = Y (ix3 b s d) * G (ix1 d) * Ln.rstd (fun k => Z (ix3 b s k)) := by
  pointwise [dxr]
  rw [gdy_at, rs_at]

theorem dv_at : dv (ze Z (mu Z)) (gdy Y G) (rsd (rs (va Z (mu Z))) (va Z (mu Z))) (ix2 b s)
    = Ln.dvar (fun k => Y (ix3 b s k)) (fun k => Z (ix3 b s k)) (fun k => G (ix1 k)) := by
  pointwise [dv]
  rw [Fin.sum_univ_one]
  simp only [ze_at, gdy_at]
  rw [rsd_at]
  rfl

theorem dvz_at (D d) : dvz D Z (mu Z) (ix3 b s d)
    = D (ix2 b s) * (Ideal.ofBits .f32 0x40000000#32 * Ln.cen (fun k => Z (ix3 b s k)) d) := by
  pointwise [dvz]
  rw [mu_at, Ln.cen]

theorem tail_at (A B d) : tail A B (ix3 b s d)
    = Ideal.div ((∑ k : Fin 1024, -(A (ix3 b s k))) + ∑ k : Fin 1024, -(B (ix3 b s k))) (Ideal.ofBits .f32 0x44800000#32) := by
  pointwise [tail]
  rw [Fin.sum_univ_one]

/-- The reference's row gradient, from the rows the norm takes. -/
def DZ : FVec Ideal S2x4096x1024 .f32 :=
  dz (dxr (gdy Y G) (rs (va Z (mu Z)))) (dvz (dv (ze Z (mu Z)) (gdy Y G) (rsd (rs (va Z (mu Z))) (va Z (mu Z)))) Z (mu Z))
    (tail (dxr (gdy Y G) (rs (va Z (mu Z)))) (dvz (dv (ze Z (mu Z)) (gdy Y G) (rsd (rs (va Z (mu Z))) (va Z (mu Z)))) Z (mu Z)))

theorem DZ_at (d) : DZ Z Y G (ix3 b s d)
    = Ln.dzR (fun k => Y (ix3 b s k)) (fun k => Z (ix3 b s k)) (fun k => G (ix1 k)) d := by
  unfold DZ
  pointwise [dz]
  rw [tail_at]
  simp only [dxr_at, dvz_at, dv_at]
  rfl

theorem db_at (d) : db Y (ix1 d) = ∑ b : Fin 2, ∑ s : Fin 4096, Y (ix3 b s d) := by
  pointwise [db]
  rw [sum_outer, zero_add, Fin.sum_univ_one, Fin.sum_univ_one]
  pointwise
  rw [sum_outer, zero_add]

theorem dg_at (d) : dg (xh (ze Z (mu Z)) (rs (va Z (mu Z)))) Y (ix1 d)
    = ∑ b : Fin 2, ∑ s : Fin 4096, Ln.xhat (fun k => Z (ix3 b s k)) d * Y (ix3 b s d) := by
  pointwise [dg]
  rw [sum_outer, zero_add, Fin.sum_univ_one, Fin.sum_univ_one]
  pointwise
  rw [sum_outer, zero_add]
  pointwise
  simp only [xh_at]

end Row

theorem dpre_at (P D W) (R : FVec Ideal S2x4096x4096 .f32) (b : Fin 2) (s q : Fin 4096) : dpre P D W R (ix3 b s q)
    = if 0 < P (ix3 b s q) then (∑ d : Fin 1024, D (ix3 b s d) * W (ix2 q d)) * (Ideal.ofBits .f32 0x40000000#32 * R (ix3 b s q)) else 0 := by
  pointwise [dpre]

/-- The arguments the gradients read are real numbers. -/
structure Real' (X : FVec Ideal S2x4096x1024 .f32) (P : FVec Ideal S2x4096x4096 .f32) (W : FVec Ideal S4096x1024 .f32)
    (G : FVec Ideal S1024 .f32) (Y : FVec Ideal S2x4096x1024 .f32) : Prop where
  x : ∀ b s d, ∃ x : ℝ, X (ix3 b s d) = x
  p : ∀ b s k, ∃ x : ℝ, P (ix3 b s k) = x
  w : ∀ k d, ∃ x : ℝ, W (ix2 k d) = x
  g : ∀ d, ∃ x : ℝ, G (ix1 d) = x
  y : ∀ b s d, ∃ x : ℝ, Y (ix3 b s d) = x

/-- The row gradient at one token, as the kernel computes it. -/
def dzk (X : FVec Ideal S2x4096x1024 .f32) (P : FVec Ideal S2x4096x4096 .f32) (W : FVec Ideal S4096x1024 .f32)
    (G : FVec Ideal S1024 .f32) (Y : FVec Ideal S2x4096x1024 .f32) (b : Fin 2) (s : Fin 4096) (d : Fin 1024) : EReal :=
  Ln.dzK (fun k => Y (ix3 b s k)) (zrow X P W b s) (fun k => G (ix1 k)) d

/-- The hidden gradient from a row gradient, as the kernel computes it: the root of the hidden entry is the positive part. -/
def dpk (D : Fin 1024 → EReal) (P : FVec Ideal S2x4096x4096 .f32) (W : FVec Ideal S4096x1024 .f32) (b : Fin 2) (s q : Fin 4096) : EReal :=
  (∑ d : Fin 1024, D d * W (ix2 q d)) * (Ideal.ofBits .f32 0x40000000#32 * Ideal.sqrt (hsq P b s q))

theorem coe_pos (p : ℝ) : max (p : EReal) 0 = ((max p 0 : ℝ) : EReal) := by
  rw [EReal.coe_strictMono.monotone.map_max, EReal.coe_zero]

theorem hsq_real {X P W G Y} (h : Real' X P W G Y) (b s k) : ∃ x : ℝ, hsq P b s k = x := by
  obtain ⟨p, hp⟩ := h.p b s k
  exact ⟨max p 0 * max p 0, by rw [hsq, hp, coe_pos, EReal.coe_mul]⟩

theorem zrow_real {X P W G Y} (h : Real' X P W G Y) (b s d) : ∃ x : ℝ, zrow X P W b s d = x := by
  obtain ⟨x, hx⟩ := h.x b s d
  obtain ⟨y, hy⟩ := real_dot (fun k => hsq P b s k) (fun k => W (ix2 k d)) (fun k => hsq_real h b s k) (fun k => h.w k d)
  obtain ⟨a, ha⟩ : ∃ a : ℝ, Ideal.ofBits .f32 0x3FD744FD#32 = (a : EReal) := Ln.word_alpha
  exact ⟨a * x + y, by rw [zrow, hx, hy, ha, ← EReal.coe_mul, ← EReal.coe_add]⟩

theorem dz_at {X P W G Y} (h : Real' X P W G Y) (b s d) : DZ (z X (relu P) W) Y G (ix3 b s d) = dzk X P W G Y b s d := by
  rw [DZ_at]
  simp only [z_at]
  exact Ln.dz_eq _ _ _ (h.y b s) (zrow_real h b s) h.g d

/-- The root of the square of the positive part is the positive part. -/
theorem sqrt_hsq {X P W G Y} (h : Real' X P W G Y) (b s k) : Ideal.sqrt (hsq P b s k) = max (P (ix3 b s k)) 0 := by
  obtain ⟨p, hp⟩ := h.p b s k
  rw [hsq, hp, coe_pos, ← EReal.coe_mul, Ideal.sqrt_coe, Real.sqrt_mul_self (le_max_right _ _),
    if_neg (not_lt.mpr (mul_self_nonneg _))]

theorem dp_at {X P W G Y} (h : Real' X P W G Y) (D W' b s q) : dpre P D W' (relu P) (ix3 b s q) = dpk (fun d => D (ix3 b s d)) P W' b s q := by
  rw [dpre_at, dpk, sqrt_hsq h, relu_at]
  split
  · rfl
  · rename_i hn
    rw [max_eq_right (not_lt.mp hn), mul_zero, mul_zero]

end Cert.Ln2ReferenceIdeal.Ln2Ref
end
-- ==== Proof.Ln2Point.lean ====
/- The feed-forward norm's backward call: what one point computes of its block, against the closed form. -/
module

public import proofs.«01_k».proof.Proof.Gen.Ln2KernelIdeal.Frame
public import Idealize.ShloMosaic.Lib.Pipeline.ReadBack
public import proofs.«01_k».proof.Proof.Ln2Ref

@[expose] public section

set_option maxRecDepth 16384

noncomputable section

open Idealize.ShloMosaic Idealize.ShloMosaic.TcCoe Idealize.SL.Sem
open Idealize.ShloMosaic.Pipeline (Dat)

namespace Cert.Ln2KernelIdeal.Ln2Value

open Cert.Ln2KernelIdeal Cert.Ln2KernelIdeal.Gen Cert.Reals
open Cert.Ln2ReferenceIdeal.Ln2Ref (zrow dzk hsq dpk)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- The two halves of a block's rows. -/
abbrev rA : Rect S512x1024 := Rect.unit ![0, 0] ![256, 1024] inb_S512x1024_S256x1024_0_0

abbrev rB : Rect S512x1024 := Rect.unit ![256, 0] ![256, 1024] inb_S512x1024_S256x1024_256_0

def ldA (x : FVec Ideal S512x1024 .f32) : FVec Ideal S256x1024 .f32 := View.ld (Val := Elt Ideal) (e' := .f32) x rA

def ldB (x : FVec Ideal S512x1024 .f32) : FVec Ideal S256x1024 .f32 := View.ld (Val := Elt Ideal) (e' := .f32) x rB

theorem ldA_at (x) (i : Fin 256) (j : Fin 1024) : ldA x (ix2 i j) = x (ix2 ⟨i.val, by omega⟩ j) := congrArg x (by blk_ext <;> simp)

theorem ldB_at (x) (i : Fin 256) (j : Fin 1024) : ldB x (ix2 i j) = x (ix2 ⟨256 + i.val, by omega⟩ j) := congrArg x (by blk_ext <;> simp)

/-- Two halves stored one after the other, in either format. -/
def half (p0 p1 : FVec Ideal S256x1024 .f32) : FVec Ideal S512x1024 .f32 :=
  View.canon (Val := Elt Ideal) (e := .f32) [⟨rB, p1⟩, ⟨rA, p0⟩]

def halfb (p0 p1 : FVec Ideal S256x1024 .bf16) : FVec Ideal S512x1024 .bf16 :=
  View.canon (Val := Elt Ideal) (e := .bf16) [⟨rB, p1⟩, ⟨rA, p0⟩]

theorem half_at (p0 p1) (r : Fin 512) (j : Fin 1024) : half p0 p1 (ix2 r j)
    = if h : r.val < 256 then p0 (ix2 ⟨r.val, h⟩ j) else p1 (ix2 ⟨r.val - 256, by omega⟩ j) := by
  unfold half
  canon_tiles x h
  · have h0' : r.val = 256 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 256 := (x 0).isLt
    rw [dif_pos (by omega)]
    exact congrArg p0 (by blk_ext <;> omega)

theorem halfb_at (p0 p1) (r : Fin 512) (j : Fin 1024) : halfb p0 p1 (ix2 r j)
    = if h : r.val < 256 then p0 (ix2 ⟨r.val, h⟩ j) else p1 (ix2 ⟨r.val - 256, by omega⟩ j) := by
  unfold halfb
  canon_tiles x h
  · have h0' : r.val = 256 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 256 := (x 0).isLt
    rw [dif_pos (by omega)]
    exact congrArg p0 (by blk_ext <;> omega)

/-- A sum over a block's rows is the sum over its halves. -/
theorem sum_half (f : Fin 512 → EReal) :
    (∑ i : Fin 256, f ⟨i.val, by omega⟩) + (∑ i : Fin 256, f ⟨256 + i.val, by omega⟩) = ∑ r : Fin 512, f r :=
  (Fin.sum_univ_add (a := 256) (b := 256) f).symm

/-- A tile of the weight's rows and a tile of the hidden block. -/
def ldW (x : FVec Ideal S4096x1024 .bf16) (o : Nat) (h : ∀ a, (![o, 0] : Fin 2 → Nat) a + S1024x1024.size a ≤ S4096x1024.size a) :
    FVec Ideal S1024x1024 .bf16 := View.ld (Val := Elt Ideal) (e' := .bf16) x (Rect.unit ![o, 0] ![1024, 1024] h)

def ldH (x : FVec Ideal S512x4096 .bf16) (o p : Nat) (h : ∀ a, (![o, p] : Fin 2 → Nat) a + S256x1024.size a ≤ S512x4096.size a) :
    FVec Ideal S256x1024 .bf16 := View.ld (Val := Elt Ideal) (e' := .bf16) x (Rect.unit ![o, p] ![256, 1024] h)

theorem ldW_at (x o h) (i j : Fin 1024) (k : Fin 4096) (e : o + i.val = k.val) : ldW x o h (ix2 i j) = x (ix2 k j) :=
  congrArg x (by blk_ext <;> simp <;> omega)

theorem ldH_at (x o p h) (i : Fin 256) (j : Fin 1024) (r : Fin 512) (k : Fin 4096) (e : o + i.val = r.val) (e' : p + j.val = k.val) :
    ldH x o p h (ix2 i j) = x (ix2 r k) :=
  congrArg x (by blk_ext <;> simp <;> omega)

section Tile

variable (Y Z : FVec Ideal S256x1024 .f32) (G : FVec Ideal S1x1024 .f32)

theorem pay14_at (j : Fin 1024) : k0_pay14 (F := Ideal) G (ix2 0 j) = G (ix2 0 j) := by
  pointwise [k0_pay14]

theorem pay10_at (i : Fin 256) : k0_pay10 (F := Ideal) Z (ix2 i 0) = Ln.rstd (fun k => Z (ix2 i k)) := by
  pointwise [k0_pay10, k0_pay7]
  rfl

theorem pay11_at (i : Fin 256) : k0_pay11 (F := Ideal) (k0_pay9 Z) (ix2 i 0) = Ln.rstd (fun k => Z (ix2 i k)) := by
  pointwise [k0_pay11, k0_pay9, k0_pay8]
  rfl

theorem xh1_at (i : Fin 256) (j : Fin 1024) : k0_pay12 (F := Ideal) (k0_pay7 Z) (k0_pay10 Z) (ix2 i j) = Ln.xhat (fun k => Z (ix2 i k)) j := by
  pointwise [k0_pay12, k0_pay7]
  rw [pay10_at]
  rfl

theorem xh2_at (i : Fin 256) (j : Fin 1024) : k0_pay13 (F := Ideal) (k0_pay8 Z) (k0_pay9 Z) (ix2 i j) = Ln.xhat (fun k => Z (ix2 i k)) j := by
  pointwise [k0_pay13, k0_pay8]
  rw [pay11_at]
  rfl

theorem pay5_at (i) : k0_pay5 (F := Ideal) Y i = Y i := by
  obtain ⟨r, j, rfl⟩ : ∃ (r : Fin 256) (j : Fin 1024), i = ix2 r j := ⟨_, _, eq_ix2 i⟩
  pointwise [k0_pay5]

theorem pay6_at (i) : k0_pay6 (F := Ideal) Y i = Y i := by
  obtain ⟨r, j, rfl⟩ : ∃ (r : Fin 256) (j : Fin 1024), i = ix2 r j := ⟨_, _, eq_ix2 i⟩
  pointwise [k0_pay6]

theorem dz1_at (i : Fin 256) (j : Fin 1024) : k0_pay15 (F := Ideal) (k0_pay5 Y) (k0_pay7 Z) (k0_pay10 Z) G (ix2 i j)
    = Ln.dzK (fun k => Y (ix2 i k)) (fun k => Z (ix2 i k)) (fun k => G (ix2 0 k)) j := by
  pointwise [k0_pay15]
  simp only [pay10_at, xh1_at, pay14_at, pay5_at]
  rfl

theorem dz2_at (i : Fin 256) (j : Fin 1024) : k0_pay16 (F := Ideal) (k0_pay6 Y) (k0_pay8 Z) (k0_pay9 Z) G (ix2 i j)
    = Ln.dzK (fun k => Y (ix2 i k)) (fun k => Z (ix2 i k)) (fun k => G (ix2 0 k)) j := by
  pointwise [k0_pay16]
  simp only [pay11_at, xh2_at, pay14_at, pay6_at]
  rfl

theorem dzb1_at (i : Fin 256) (j : Fin 1024) : (k0_pay17 (F := Ideal) (k0_pay5 Y) (k0_pay7 Z) (k0_pay10 Z) G (ix2 i j) : EReal)
    = Ln.dzK (fun k => Y (ix2 i k)) (fun k => Z (ix2 i k)) (fun k => G (ix2 0 k)) j := by
  pointwise [k0_pay17]
  exact dz1_at Y Z G i j

theorem dzb2_at (i : Fin 256) (j : Fin 1024) : (k0_pay18 (F := Ideal) (k0_pay6 Y) (k0_pay8 Z) (k0_pay9 Z) G (ix2 i j) : EReal)
    = Ln.dzK (fun k => Y (ix2 i k)) (fun k => Z (ix2 i k)) (fun k => G (ix2 0 k)) j := by
  pointwise [k0_pay18]
  exact dz2_at Y Z G i j

theorem pay19_at (Y' X X' : FVec Ideal S256x1024 .f32) (z : FVec Ideal S1x1024 .f32) (j : Fin 1024) : k0_pay19 (F := Ideal) Y Y' X X' z (ix2 0 j)
    = z (ix2 0 j) + ((∑ i : Fin 256, Y (ix2 i j) * X (ix2 i j)) + ∑ i : Fin 256, Y' (ix2 i j) * X' (ix2 i j)) := by
  pointwise [k0_pay19]

theorem pay20_at (Y' : FVec Ideal S256x1024 .f32) (z : FVec Ideal S1x1024 .f32) (j : Fin 1024) : k0_pay20 (F := Ideal) Y Y' z (ix2 0 j)
    = z (ix2 0 j) + ((∑ i : Fin 256, Y (ix2 i j)) + ∑ i : Fin 256, Y' (ix2 i j)) := by
  pointwise [k0_pay20]

variable (D : FVec Ideal S256x1024 .bf16) (W : FVec Ideal S1024x1024 .bf16) (L : FVec Ideal S256x1024 .bf16)

/-- An entry of a hidden tile: a row against a column of the weight, times twice the root of the saved entry. -/
def ht (i : Fin 256) (j : Fin 1024) : EReal :=
  (∑ k : Fin 1024, @HMul.hMul EReal EReal EReal _ (D (ix2 i k)) (W (ix2 j k))) * (Ideal.ofBits .f32 0x40000000#32 * Ideal.sqrt (L (ix2 i j)))

theorem T1_at (i j) : (k0_pay25 (F := Ideal) (k0_pay22 D W) (k0_pay24 L) (ix2 i j) : EReal) = ht D W L i j := by
  pointwise [k0_pay25, k0_pay22, k0_pay21, k0_pay24, ht]

theorem T2_at (i j) : (k0_pay26 (F := Ideal) (k0_pay23 D W) L (ix2 i j) : EReal) = ht D W L i j := by
  pointwise [k0_pay26, k0_pay23, k0_pay21, ht]

theorem T3_at (i j) : (k0_pay28 (F := Ideal) D W L (ix2 i j) : EReal) = ht D W L i j := by
  pointwise [k0_pay28, k0_pay27, ht]

theorem T4_at (i j) : (k0_pay29 (F := Ideal) D W L (ix2 i j) : EReal) = ht D W L i j := by
  pointwise [k0_pay29, k0_pay27, ht]

theorem T5_at (i j) : (k0_pay31 (F := Ideal) D W L (ix2 i j) : EReal) = ht D W L i j := by
  pointwise [k0_pay31, k0_pay30, ht]

theorem T6_at (i j) : (k0_pay32 (F := Ideal) D W L (ix2 i j) : EReal) = ht D W L i j := by
  pointwise [k0_pay32, k0_pay30, ht]

theorem T7_at (i j) : (k0_pay1 (F := Ideal) (k0_pay34 D W) (k0_pay36 L) (FloatOps.ofBits FTy.f32 1073741824#32) (ix2 i j) : EReal) = ht D W L i j := by
  pointwise [k0_pay1, k0_pay34, k0_pay33, k0_pay36, ht]

theorem T8_at (i j) : (k0_pay2 (F := Ideal) (k0_pay35 D W) (k0_pay37 L) (ix2 i j) : EReal) = ht D W L i j := by
  pointwise [k0_pay2, k0_pay35, k0_pay33, k0_pay37, ht]

end Tile

theorem zero3 (i) : k0_pay3 (F := Ideal) i = 0 := by
  obtain ⟨a, d, rfl⟩ : ∃ (a : Fin 1) (d : Fin 1024), i = ix2 a d := ⟨_, _, eq_ix2 i⟩
  pointwise [k0_pay3]

theorem zero4 (i) : k0_pay4 (F := Ideal) i = 0 := by
  obtain ⟨a, d, rfl⟩ : ∃ (a : Fin 1) (d : Fin 1024), i = ix2 a d := ⟨_, _, eq_ix2 i⟩
  pointwise [k0_pay4]

/-- Eight tiles stored one after the other fill a hidden block. -/
def tile8 (p0 p1 p2 p3 p4 p5 p6 p7 : FVec Ideal S256x1024 .bf16) : FVec Ideal S512x4096 .bf16 :=
  View.canon (Val := Elt Ideal) (e := .bf16) [
    ⟨Rect.unit ![256, 3072] ![256, 1024] inb_S512x4096_S256x1024_256_3072, p0⟩,
    ⟨Rect.unit ![0, 3072] ![256, 1024] inb_S512x4096_S256x1024_0_3072, p1⟩,
    ⟨Rect.unit ![256, 2048] ![256, 1024] inb_S512x4096_S256x1024_256_2048, p2⟩,
    ⟨Rect.unit ![0, 2048] ![256, 1024] inb_S512x4096_S256x1024_0_2048, p3⟩,
    ⟨Rect.unit ![256, 1024] ![256, 1024] inb_S512x4096_S256x1024_256_1024, p4⟩,
    ⟨Rect.unit ![0, 1024] ![256, 1024] inb_S512x4096_S256x1024_0_1024, p5⟩,
    ⟨Rect.unit ![256, 0] ![256, 1024] inb_S512x4096_S256x1024_256_0, p6⟩,
    ⟨Rect.unit ![0, 0] ![256, 1024] inb_S512x4096_S256x1024_0_0, p7⟩]

/-- The tile at rows from `o` and columns from `p` holds the entries of `f`. -/
def holds' (f : Fin 512 → Fin 4096 → EReal) (o p : Nat) (P : FVec Ideal S256x1024 .bf16) : Prop :=
  ∀ (i : Fin 256) (j : Fin 1024) (r : Fin 512) (q : Fin 4096), o + i.val = r.val → p + j.val = q.val → P (ix2 i j) = f r q

theorem tile8_at (f) {p0 p1 p2 p3 p4 p5 p6 p7}
    (g0 : holds' f 256 3072 p0)
    (g1 : holds' f 0 3072 p1)
    (g2 : holds' f 256 2048 p2)
    (g3 : holds' f 0 2048 p3)
    (g4 : holds' f 256 1024 p4)
    (g5 : holds' f 0 1024 p5)
    (g6 : holds' f 256 0 p6)
    (g7 : holds' f 0 0 p7)
    (r : Fin 512) (q : Fin 4096) : tile8 p0 p1 p2 p3 p4 p5 p6 p7 (ix2 r q) = f r q := by
  unfold tile8
  canon_tiles x h
  · have e0 : r.val = 256 + (x 0).val := h0
    have e1 : q.val = 3072 + (x 1).val := h1
    exact (congrArg p0 (eq_ix2 x)).trans (g0 _ _ r q (by omega) (by omega))
  · have e0 : r.val = (x 0).val := h0
    have e1 : q.val = 3072 + (x 1).val := h1
    exact (congrArg p1 (eq_ix2 x)).trans (g1 _ _ r q (by omega) (by omega))
  · have e0 : r.val = 256 + (x 0).val := h0
    have e1 : q.val = 2048 + (x 1).val := h1
    exact (congrArg p2 (eq_ix2 x)).trans (g2 _ _ r q (by omega) (by omega))
  · have e0 : r.val = (x 0).val := h0
    have e1 : q.val = 2048 + (x 1).val := h1
    exact (congrArg p3 (eq_ix2 x)).trans (g3 _ _ r q (by omega) (by omega))
  · have e0 : r.val = 256 + (x 0).val := h0
    have e1 : q.val = 1024 + (x 1).val := h1
    exact (congrArg p4 (eq_ix2 x)).trans (g4 _ _ r q (by omega) (by omega))
  · have e0 : r.val = (x 0).val := h0
    have e1 : q.val = 1024 + (x 1).val := h1
    exact (congrArg p5 (eq_ix2 x)).trans (g5 _ _ r q (by omega) (by omega))
  · have e0 : r.val = 256 + (x 0).val := h0
    have e1 : q.val = (x 1).val := h1
    exact (congrArg p6 (eq_ix2 x)).trans (g6 _ _ r q (by omega) (by omega))
  · have e0 : r.val = (x 0).val := h0
    have e1 : q.val = (x 1).val := h1
    exact (congrArg p7 (eq_ix2 x)).trans (g7 _ _ r q (by omega) (by omega))

section Block

variable (y z : FVec Ideal S512x1024 .f32) (G : FVec Ideal S1x1024 .f32)

/-- The row gradient of a block, in both formats, and the hidden gradient. -/
abbrev D1 : FVec Ideal S256x1024 .bf16 := k0_pay17 (k0_pay5 (ldA y)) (k0_pay7 (ldA z)) (k0_pay10 (ldA z)) G

abbrev D2 : FVec Ideal S256x1024 .bf16 := k0_pay18 (k0_pay6 (ldB y)) (k0_pay8 (ldB z)) (k0_pay9 (ldB z)) G

abbrev BZ : FVec Ideal S512x1024 .f32 :=
  half (k0_pay15 (k0_pay5 (ldA y)) (k0_pay7 (ldA z)) (k0_pay10 (ldA z)) G) (k0_pay16 (k0_pay6 (ldB y)) (k0_pay8 (ldB z)) (k0_pay9 (ldB z)) G)

abbrev BF : FVec Ideal S512x1024 .bf16 := halfb (D1 y z G) (D2 y z G)

abbrev BP (W : FVec Ideal S4096x1024 .bf16) (L : FVec Ideal S512x4096 .bf16) : FVec Ideal S512x4096 .bf16 := tile8
  (k0_pay2 (k0_pay35 (D2 y z G) (ldW W 3072 inb_S4096x1024_S1024x1024_3072_0)) (k0_pay37 (ldH L 256 3072 inb_S512x4096_S256x1024_256_3072)))
  (k0_pay1 (k0_pay34 (D1 y z G) (ldW W 3072 inb_S4096x1024_S1024x1024_3072_0)) (k0_pay36 (ldH L 0 3072 inb_S512x4096_S256x1024_0_3072)) (FloatOps.ofBits FTy.f32 1073741824#32))
  (k0_pay32 (D2 y z G) (ldW W 2048 inb_S4096x1024_S1024x1024_2048_0) (ldH L 256 2048 inb_S512x4096_S256x1024_256_2048))
  (k0_pay31 (D1 y z G) (ldW W 2048 inb_S4096x1024_S1024x1024_2048_0) (ldH L 0 2048 inb_S512x4096_S256x1024_0_2048))
  (k0_pay29 (D2 y z G) (ldW W 1024 inb_S4096x1024_S1024x1024_1024_0) (ldH L 256 1024 inb_S512x4096_S256x1024_256_1024))
  (k0_pay28 (D1 y z G) (ldW W 1024 inb_S4096x1024_S1024x1024_1024_0) (ldH L 0 1024 inb_S512x4096_S256x1024_0_1024))
  (k0_pay26 (k0_pay23 (D2 y z G) (ldW W 0 inb_S4096x1024_S1024x1024_0_0)) (ldH L 256 0 inb_S512x4096_S256x1024_256_0))
  (k0_pay25 (k0_pay22 (D1 y z G) (ldW W 0 inb_S4096x1024_S1024x1024_0_0)) (k0_pay24 (ldH L 0 0 inb_S512x4096_S256x1024_0_0)))

/-- One row's gradient. -/
def dzb (r : Fin 512) (j : Fin 1024) : EReal := Ln.dzK (fun k => y (ix2 r k)) (fun k => z (ix2 r k)) (fun k => G (ix2 0 k)) j

theorem dz1A (i : Fin 256) (j) : k0_pay15 (F := Ideal) (k0_pay5 (ldA y)) (k0_pay7 (ldA z)) (k0_pay10 (ldA z)) G (ix2 i j) = dzb y z G ⟨i.val, by omega⟩ j := by
  rw [dz1_at, dzb]
  simp only [ldA_at]

theorem dz2B (i : Fin 256) (j) : k0_pay16 (F := Ideal) (k0_pay6 (ldB y)) (k0_pay8 (ldB z)) (k0_pay9 (ldB z)) G (ix2 i j) = dzb y z G ⟨256 + i.val, by omega⟩ j := by
  rw [dz2_at, dzb]
  simp only [ldB_at]

theorem D1_at (i : Fin 256) (j) : (D1 y z G (ix2 i j) : EReal) = dzb y z G ⟨i.val, by omega⟩ j := by
  rw [D1, dzb1_at, dzb]
  simp only [ldA_at]

theorem D2_at (i : Fin 256) (j) : (D2 y z G (ix2 i j) : EReal) = dzb y z G ⟨256 + i.val, by omega⟩ j := by
  rw [D2, dzb2_at, dzb]
  simp only [ldB_at]

theorem back {r : Fin 512} (h : ¬r.val < 256) : (⟨256 + (r.val - 256), by omega⟩ : Fin 512) = r :=
  Fin.ext (by show 256 + (r.val - 256) = r.val; omega)

theorem BZ_at (r j) : BZ y z G (ix2 r j) = dzb y z G r j := by
  rw [BZ, half_at]
  split
  · exact dz1A y z G _ j
  · exact (dz2B y z G _ j).trans (congrArg (fun x => dzb y z G x j) (back (by assumption)))

theorem BF_at (r j) : (BF y z G (ix2 r j) : EReal) = dzb y z G r j := by
  rw [BF, halfb_at]
  split
  · exact D1_at y z G _ j
  · exact (D2_at y z G _ j).trans (congrArg (fun x => dzb y z G x j) (back (by assumption)))

variable (W : FVec Ideal S4096x1024 .bf16) (L : FVec Ideal S512x4096 .bf16)

/-- An entry of the hidden gradient of a block. -/
def dpb (r : Fin 512) (q : Fin 4096) : EReal :=
  (∑ k : Fin 1024, @HMul.hMul EReal EReal EReal _ (dzb y z G r k) (W (ix2 q k))) * (Ideal.ofBits .f32 0x40000000#32 * Ideal.sqrt (L (ix2 r q)))

theorem ht1 (o p hw hl) (ho : o = 0) (i j r q) (e0 : o + i.val = r.val) (e1 : p + j.val = q.val) :
    ht (D1 y z G) (ldW W p hw) (ldH L o p hl) i j = dpb y z G W L r q := by
  have hi : i.val < 512 := by have := i.isLt; omega
  obtain rfl : (⟨i.val, hi⟩ : Fin 512) = r := Fin.ext (by show i.val = r.val; omega)
  unfold ht dpb
  rw [ldH_at L o p hl i j _ q e0 e1]
  refine congrArg (fun s : EReal => s * _) (Finset.sum_congr rfl fun k _ => ?_)
  rw [D1_at, ldW_at W p hw j k q e1]

theorem ht2 (o p hw hl) (ho : o = 256) (i j r q) (e0 : o + i.val = r.val) (e1 : p + j.val = q.val) :
    ht (D2 y z G) (ldW W p hw) (ldH L o p hl) i j = dpb y z G W L r q := by
  have hi : 256 + i.val < 512 := by have := i.isLt; omega
  obtain rfl : (⟨256 + i.val, hi⟩ : Fin 512) = r := Fin.ext (by show 256 + i.val = r.val; omega)
  unfold ht dpb
  rw [ldH_at L o p hl i j _ q e0 e1]
  refine congrArg (fun s : EReal => s * _) (Finset.sum_congr rfl fun k _ => ?_)
  rw [D2_at, ldW_at W p hw j k q e1]

theorem BP_at (r q) : (BP y z G W L (ix2 r q) : EReal) = dpb y z G W L r q :=
  tile8_at (dpb y z G W L)
    (fun i j r q e0 e1 => (T8_at _ _ _ i j).trans (ht2 y z G W L _ _ _ _ rfl i j r q e0 e1))
    (fun i j r q e0 e1 => (T7_at _ _ _ i j).trans (ht1 y z G W L _ _ _ _ rfl i j r q e0 e1))
    (fun i j r q e0 e1 => (T6_at _ _ _ i j).trans (ht2 y z G W L _ _ _ _ rfl i j r q e0 e1))
    (fun i j r q e0 e1 => (T5_at _ _ _ i j).trans (ht1 y z G W L _ _ _ _ rfl i j r q e0 e1))
    (fun i j r q e0 e1 => (T4_at _ _ _ i j).trans (ht2 y z G W L _ _ _ _ rfl i j r q e0 e1))
    (fun i j r q e0 e1 => (T3_at _ _ _ i j).trans (ht1 y z G W L _ _ _ _ rfl i j r q e0 e1))
    (fun i j r q e0 e1 => (T2_at _ _ _ i j).trans (ht2 y z G W L _ _ _ _ rfl i j r q e0 e1))
    (fun i j r q e0 e1 => (T1_at _ _ _ i j).trans (ht1 y z G W L _ _ _ _ rfl i j r q e0 e1))
    r q

/-- The gain's and the bias' gradients after one more block. -/
abbrev SG (u : FVec Ideal S1x1024 .f32) : FVec Ideal S1x1024 .f32 :=
  k0_pay19 (k0_pay5 (ldA y)) (k0_pay6 (ldB y)) (k0_pay12 (k0_pay7 (ldA z)) (k0_pay10 (ldA z))) (k0_pay13 (k0_pay8 (ldB z)) (k0_pay9 (ldB z))) u

abbrev SB (u : FVec Ideal S1x1024 .f32) : FVec Ideal S1x1024 .f32 := k0_pay20 (k0_pay5 (ldA y)) (k0_pay6 (ldB y)) u

theorem SG_at (u) (j : Fin 1024) : SG y z u (ix2 0 j) = u (ix2 0 j) + ∑ r : Fin 512, y (ix2 r j) * Ln.xhat (fun k => z (ix2 r k)) j := by
  rw [SG, pay19_at, ← sum_half]
  simp only [pay5_at, pay6_at, xh1_at, xh2_at, ldA_at, ldB_at]

theorem SB_at (u) (j : Fin 1024) : SB y u (ix2 0 j) = u (ix2 0 j) + ∑ r : Fin 512, y (ix2 r j) := by
  rw [SB, pay20_at, ← sum_half]
  simp only [pay5_at, pay6_at, ldA_at, ldB_at]

end Block

variable (m : (ℓ : Loc nD τ sig) → Buf (Elt Ideal) ℓ)

/-- The arguments at one device. -/
abbrev aX (c : Dev nD) : FVec Ideal S2x4096x1024 .f32 := m ((c : Thread nD τ).loc main_arg0)

abbrev aP (c : Dev nD) : FVec Ideal S2x4096x4096 .f32 := m ((c : Thread nD τ).loc main_arg1)

abbrev aW (c : Dev nD) : FVec Ideal S4096x1024 .f32 := m ((c : Thread nD τ).loc main_arg2)

abbrev aG (c : Dev nD) : FVec Ideal S1024 .f32 := m ((c : Thread nD τ).loc main_arg3)

abbrev aY (c : Dev nD) : FVec Ideal S2x4096x1024 .f32 := m ((c : Thread nD τ).loc main_arg5)

/-- The arrays the windows take, row by row. -/
theorem val6 (c : Dev nD) (b : Fin 2) (s : Fin 4096) (R : Fin 8192) (e : b.val * 4096 + s.val = R.val) (j : Fin 1024) :
    (V m c main_v6 (ix2 R j) : EReal) = aY m c (ix3 b s j) := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  entry_read
  pointwise

theorem val7 (c : Dev nD) (b : Fin 2) (s : Fin 4096) (R : Fin 8192) (e : b.val * 4096 + s.val = R.val) (j : Fin 1024) :
    (V m c main_v7 (ix2 R j) : EReal) = zrow (aX m c) (aP m c) (aW m c) b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  entry_read
  pointwise [zrow, hsq]

theorem val11 (c : Dev nD) (b : Fin 2) (s : Fin 4096) (R : Fin 8192) (e : b.val * 4096 + s.val = R.val) (j : Fin 4096) :
    (V m c main_v11 (ix2 R j) : EReal) = hsq (aP m c) b s j := by
  have h1 : R.val / 4096 < 2 := by omega
  have h2 : R.val % 4096 < 4096 := by omega
  obtain rfl : b = ⟨R.val / 4096, h1⟩ := Fin.ext (by show b.val = _ / 4096; omega)
  obtain rfl : s = ⟨R.val % 4096, h2⟩ := Fin.ext (by show s.val = _ % 4096; omega)
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  entry_read
  pointwise [hsq]

theorem val8 (c : Dev nD) (j : Fin 1024) : V m c main_v8 (ix2 0 j) = aG m c (ix1 j) := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  entry_read
  pointwise

theorem val9 (c : Dev nD) (i : Fin 4096) (j : Fin 1024) : (V m c main_v9 (ix2 i j) : EReal) = aW m c (ix2 i j) := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  entry_read
  pointwise

/-- The row of the array that row `r` of block `t` is. -/
def row (t : Fin cfg0.N) (r : Fin 512) : Fin 8192 := ⟨t.val * 512 + r.val, by have : t.val < 16 := t.isLt; omega⟩

section Blocks

variable (c : Dev nD) (t : Fin cfg0.N) (b : Fin 2) (s : Fin 4096) (r : Fin 512) (e : b.val * 4096 + s.val = t.val * 512 + r.val)

theorem blk2 (j : Fin 1024) : iblk m c 2 t (ix2 0 j) = aG m c (ix1 j) :=
  (congrArg (V m c main_v8) (by blk_ext [idx t] <;> omega)).trans (val8 m c j)

theorem blk3 (i : Fin 4096) (j : Fin 1024) : (iblk m c 3 t (ix2 i j) : EReal) = aW m c (ix2 i j) :=
  (congrArg (V m c main_v9) (by blk_ext [idx t] <;> omega)).trans (val9 m c i j)

include e

theorem blk0 (j : Fin 1024) : iblk m c 0 t (ix2 r j) = aY m c (ix3 b s j) :=
  (congrArg (V m c main_v6) (by blk_ext [idx t, row] <;> omega)).trans (val6 m c b s (row t r) e j)

theorem blk1 (j : Fin 1024) : iblk m c 1 t (ix2 r j) = zrow (aX m c) (aP m c) (aW m c) b s j :=
  (congrArg (V m c main_v7) (by blk_ext [idx t, row] <;> omega)).trans (val7 m c b s (row t r) e j)

theorem blk4 (j : Fin 4096) : (iblk m c 4 t (ix2 r j) : EReal) = hsq (aP m c) b s j :=
  (congrArg (V m c main_v11) (by blk_ext [idx t, row] <;> omega)).trans (val11 m c b s (row t r) e j)

/-- One row's gradient at its token. -/
theorem dz_blk (j : Fin 1024) : dzb (iblk m c 0 t) (iblk m c 1 t) (iblk m c 2 t) r j = dzk (aX m c) (aP m c) (aW m c) (aG m c) (aY m c) b s j := by
  unfold dzb
  have h0 : (fun k => iblk m c 0 t (ix2 r k)) = fun k => aY m c (ix3 b s k) := funext fun k => blk0 m c t b s r e k
  have h1 : (fun k => iblk m c 1 t (ix2 r k)) = zrow (aX m c) (aP m c) (aW m c) b s := funext fun k => blk1 m c t b s r e k
  have h2 : (fun k => iblk m c 2 t (ix2 0 k)) = fun k => aG m c (ix1 k) := funext fun k => blk2 m c t k
  exact congr (congr (congr (congrArg Ln.dzK h0) h1) h2) rfl

/-- One entry of the hidden gradient at its token. -/
theorem dp_blk (q : Fin 4096) : dpb (iblk m c 0 t) (iblk m c 1 t) (iblk m c 2 t) (iblk m c 3 t) (iblk m c 4 t) r q
    = dpk (dzk (aX m c) (aP m c) (aW m c) (aG m c) (aY m c) b s) (aP m c) (aW m c) b s q := by
  unfold dpb dpk
  rw [blk4 m c t b s r e q]
  refine congrArg (fun s : EReal => s * _) (Finset.sum_congr rfl fun k _ => ?_)
  rw [dz_blk m c t b s r e k, blk3]

end Blocks

end Cert.Ln2KernelIdeal.Ln2Value
end
-- ==== Proof.Ln2Value.lean ====
/- The feed-forward norm's backward call: what its five output arrays hold after the run — the rows' gradients block by block,
   the gain's and the bias' gradients summed over all blocks. -/
module

public import proofs.«01_k».proof.Proof.Ln2Point

@[expose] public section

set_option maxRecDepth 16384

noncomputable section

open Idealize.ShloMosaic Idealize.ShloMosaic.TcCoe Idealize.SL.Sem
open Idealize.ShloMosaic.Pipeline (Dat)

namespace Cert.Ln2KernelIdeal.Ln2Value

open Cert.Ln2KernelIdeal Cert.Ln2KernelIdeal.Gen Cert.Reals
open Cert.Ln2ReferenceIdeal.Ln2Ref (zrow dzk hsq dpk)

variable (m : (ℓ : Loc nD τ sig) → Buf (Elt Ideal) ℓ)

theorem row_eq (t : Fin cfg0.N) (r : Fin 512) : (⟨(row t r).val / 4096, by omega⟩ : Fin 2).val * 4096 + (⟨(row t r).val % 4096, by omega⟩ : Fin 4096).val
    = t.val * 512 + r.val := by
  show (row t r).val / 4096 * 4096 + (row t r).val % 4096 = (row t r).val
  omega

section Out

variable (X : FVec Ideal S2x4096x1024 .f32) (M : FVec Ideal S2x4096x4096 .f32) (W : FVec Ideal S4096x1024 .f32) (G : FVec Ideal S1024 .f32) (Y : FVec Ideal S2x4096x1024 .f32)

/-- The five output arrays, from the arguments. -/
def outZ : FVec Ideal S8192x1024 .f32 := fun i =>
  dzk X M W G Y ⟨(i 0).val / 4096, by have : (i 0).val < 8192 := (i 0).isLt; omega⟩ ⟨(i 0).val % 4096, by omega⟩ (i 1)

def outF : FVec Ideal S8192x1024 .bf16 := fun i =>
  dzk X M W G Y ⟨(i 0).val / 4096, by have : (i 0).val < 8192 := (i 0).isLt; omega⟩ ⟨(i 0).val % 4096, by omega⟩ (i 1)

def outP : FVec Ideal S8192x4096 .bf16 := fun i =>
  dpk (dzk X M W G Y ⟨(i 0).val / 4096, by have : (i 0).val < 8192 := (i 0).isLt; omega⟩ ⟨(i 0).val % 4096, by omega⟩) M W
    ⟨(i 0).val / 4096, by have : (i 0).val < 8192 := (i 0).isLt; omega⟩ ⟨(i 0).val % 4096, by omega⟩ (i 1)

def outG : FVec Ideal S1x1024 .f32 := fun i =>
  ∑ b : Fin 2, ∑ s : Fin 4096, Y (ix3 b s (i 1)) * Ln.xhat (zrow X M W b s) (i 1)

def outB : FVec Ideal S1x1024 .f32 := fun i => ∑ b : Fin 2, ∑ s : Fin 4096, Y (ix3 b s (i 1))

/-- A token's terms of the two sums. -/
def gt (j : Fin 1024) (l : Fin 8192) : EReal :=
  Y (ix3 ⟨l.val / 4096, by omega⟩ ⟨l.val % 4096, by omega⟩ j) * Ln.xhat (zrow X M W ⟨l.val / 4096, by omega⟩ ⟨l.val % 4096, by omega⟩) j

def bt (j : Fin 1024) (l : Fin 8192) : EReal := Y (ix3 ⟨l.val / 4096, by omega⟩ ⟨l.val % 4096, by omega⟩ j)

end Out

variable (c : Dev nD)

/-- A block's share of the two sums. -/
def GT (t : Fin cfg0.N) (j : Fin 1024) : EReal := ∑ r : Fin 512, gt (aX m c) (aP m c) (aW m c) (aY m c) j (row t r)

def BT (t : Fin cfg0.N) (j : Fin 1024) : EReal := ∑ r : Fin 512, bt (aY m c) j (row t r)

theorem GS_at (t : Fin cfg0.N) (u i) : SG (iblk m c 0 t) (iblk m c 1 t) u i = u i + GT m c t (i 1) := by
  obtain ⟨a, j, rfl⟩ : ∃ (a : Fin 1) (j : Fin 1024), i = ix2 a j := ⟨_, _, eq_ix2 i⟩
  obtain rfl : a = 0 := Subsingleton.elim _ _
  refine (SG_at _ _ u j).trans (congrArg (u (ix2 0 j) + ·) (Finset.sum_congr rfl fun r _ => ?_))
  have h1 : (fun k => iblk m c 1 t (ix2 r k)) = zrow (aX m c) (aP m c) (aW m c) _ _ := funext fun k => blk1 m c t _ _ r (row_eq t r) k
  rw [blk0 m c t _ _ r (row_eq t r)]
  exact congrArg (fun f => _ * Ln.xhat f j) h1

theorem BS_at (t : Fin cfg0.N) (u i) : SB (iblk m c 0 t) u i = u i + BT m c t (i 1) := by
  obtain ⟨a, j, rfl⟩ : ∃ (a : Fin 1) (j : Fin 1024), i = ix2 a j := ⟨_, _, eq_ix2 i⟩
  obtain rfl : a = 0 := Subsingleton.elim _ _
  exact (SB_at _ u j).trans (congrArg (u (ix2 0 j) + ·) (Finset.sum_congr rfl fun r _ => blk0 m c t _ _ r (row_eq t r) j))

theorem emb5 (t : Fin cfg0.N) (r : Fin 512) (d : Fin 1024) : ((cfg0.win 5).blk t).view.emb (ix2 r d) = ix2 (row t r) d := by
  blk_ext [idx t, row]

theorem emb6 (t : Fin cfg0.N) (r : Fin 512) (d : Fin 1024) : ((cfg0.win 6).blk t).view.emb (ix2 r d) = ix2 (row t r) d := by
  blk_ext [idx t, row]

theorem emb7 (t : Fin cfg0.N) (r : Fin 512) (d : Fin 4096) : ((cfg0.win 7).blk t).view.emb (ix2 r d) = ix2 (row t r) d := by
  blk_ext [idx t, row]

theorem point_z (t : Fin cfg0.N) (y) : BZ (iblk m c 0 t) (iblk m c 1 t) (iblk m c 2 t) y = outZ (aX m c) (aP m c) (aW m c) (aG m c) (aY m c) (((cfg0.win 5).blk t).view.emb y) := by
  obtain ⟨r, j, rfl⟩ : ∃ (r : Fin 512) (j : Fin 1024), y = ix2 r j := ⟨_, _, eq_ix2 y⟩
  rw [emb5]
  exact (BZ_at _ _ _ r j).trans (dz_blk m c t _ _ r (row_eq t r) j)

theorem point_f (t : Fin cfg0.N) (y) : BF (iblk m c 0 t) (iblk m c 1 t) (iblk m c 2 t) y = outF (aX m c) (aP m c) (aW m c) (aG m c) (aY m c) (((cfg0.win 6).blk t).view.emb y) := by
  obtain ⟨r, j, rfl⟩ : ∃ (r : Fin 512) (j : Fin 1024), y = ix2 r j := ⟨_, _, eq_ix2 y⟩
  rw [emb6]
  exact (BF_at _ _ _ r j).trans (dz_blk m c t _ _ r (row_eq t r) j)

theorem point_p (t : Fin cfg0.N) (y) : BP (iblk m c 0 t) (iblk m c 1 t) (iblk m c 2 t) (iblk m c 3 t) (iblk m c 4 t) y
    = outP (aX m c) (aP m c) (aW m c) (aG m c) (aY m c) (((cfg0.win 7).blk t).view.emb y) := by
  obtain ⟨r, j, rfl⟩ : ∃ (r : Fin 512) (j : Fin 4096), y = ix2 r j := ⟨_, _, eq_ix2 y⟩
  rw [emb7]
  exact (BP_at _ _ _ _ _ r j).trans (dp_blk m c t _ _ r (row_eq t r) j)

theorem final_z : (dats m 0 c).arrAt 5 (cfgs 0).N = outZ (aX m c) (aP m c) (aW m c) (aG m c) (aY m c) := by
  refine (dats m 0 c).arrAt_eq_of_covers 5 _ (by decide +kernel) fun t _ y => ?_
  blk_simp
  rw [after0_5]
  by_cases h0 : t.val % 16 = 0
  · rw [outsAt0_A m c t h0]
    frame_out
    exact point_z m c t y
  · rw [outsAt0_B m c t h0]
    frame_out
    exact point_z m c t y

theorem final_f : (dats m 0 c).arrAt 6 (cfgs 0).N = outF (aX m c) (aP m c) (aW m c) (aG m c) (aY m c) := by
  refine (dats m 0 c).arrAt_eq_of_covers 6 _ (by decide +kernel) fun t _ y => ?_
  blk_simp
  rw [after0_6]
  by_cases h0 : t.val % 16 = 0
  · rw [outsAt0_A m c t h0]
    frame_out
    exact point_f m c t y
  · rw [outsAt0_B m c t h0]
    frame_out
    exact point_f m c t y

theorem final_p : (dats m 0 c).arrAt 7 (cfgs 0).N = outP (aX m c) (aP m c) (aW m c) (aG m c) (aY m c) := by
  refine (dats m 0 c).arrAt_eq_of_covers 7 _ (by decide +kernel) fun t _ y => ?_
  blk_simp
  rw [after0_7]
  by_cases h0 : t.val % 16 = 0
  · rw [outsAt0_A m c t h0]
    frame_out
    exact point_p m c t y
  · rw [outsAt0_B m c t h0]
    frame_out
    exact point_p m c t y

/-- After the last point the two sums hold all tokens' terms. -/
theorem acc_g (i) : (outsAt0 m c t0_15.val t0_15.isLt).2.2.2.1 i = ∑ t : Fin cfg0.N, GT m c t (i 1) := by
  rw [Pipeline.eq_sum_fin_of_reset_step_apply_last (f := fun n h => (outsAt0 m c n h).2.2.2.1) 16 (fun _ => 0)
    (fun t i => GT m c t (i 1))
    (fun t h i => by
      rw [outsAt0_A m c t h]; frame_out
      exact (GS_at m c t (k0_pay3 (F := Ideal)) i).trans (by rw [zero3]))
    (fun t h i => by
      have hk := fun u => GS_at m c t u i
      rw [outsAt0_B m c t h]; frame_out; exact hk _)
    (le_of_eq N_0) t0_15 rfl i, zero_add]

theorem acc_b (i) : (outsAt0 m c t0_15.val t0_15.isLt).2.2.2.2 i = ∑ t : Fin cfg0.N, BT m c t (i 1) := by
  rw [Pipeline.eq_sum_fin_of_reset_step_apply_last (f := fun n h => (outsAt0 m c n h).2.2.2.2) 16 (fun _ => 0)
    (fun t i => BT m c t (i 1))
    (fun t h i => by
      rw [outsAt0_A m c t h]; frame_out
      exact (BS_at m c t (k0_pay4 (F := Ideal)) i).trans (by rw [zero4]))
    (fun t h i => by
      have hk := fun u => BS_at m c t u i
      rw [outsAt0_B m c t h]; frame_out; exact hk _)
    (le_of_eq N_0) t0_15 rfl i, zero_add]

theorem final_g : (dats m 0 c).arrAt 8 (cfgs 0).N = outG (aX m c) (aP m c) (aW m c) (aY m c) := by
  refine (dats m 0 c).arrAt_eq_of_after_last 8 t0_15 (by decide +kernel) _ fun i => ?_
  blk_simp
  rw [after0_8, acc_g]
  unfold GT outG
  exact (Fin.sum_mul_add_congr (L := 8192) (S := 16) (n := 512) (f := gt (aX m c) (aP m c) (aW m c) (aY m c) (i 1)) fun t r hl => rfl).trans
    (Fin.sum_divmod_congr (S := 4096) (A := 2) (N := 8192) fun l ha hs => rfl)

theorem final_b : (dats m 0 c).arrAt 9 (cfgs 0).N = outB (aY m c) := by
  refine (dats m 0 c).arrAt_eq_of_after_last 9 t0_15 (by decide +kernel) _ fun i => ?_
  blk_simp
  rw [after0_9, acc_b]
  unfold BT outB
  exact (Fin.sum_mul_add_congr (L := 8192) (S := 16) (n := 512) (f := bt (aY m c) (i 1)) fun t r hl => rfl).trans
    (Fin.sum_divmod_congr (S := 4096) (A := 2) (N := 8192) fun l ha hs => rfl)

end Cert.Ln2KernelIdeal.Ln2Value
end
-- ==== Proof.Ln2Claim.lean ====
/- The claims about the feed-forward norm's backward call. -/
module

public import proofs.«01_k».proof.Defs
public import proofs.«01_k».proof.Proof.Gen.Ln2Kernel
public import proofs.«01_k».proof.Proof.Gen.Ln2Kernel.Frame
public import proofs.«01_k».proof.Proof.Gen.Ln2ReferenceIdeal.Run
public import proofs.«01_k».proof.Proof.Ln2Value

@[expose] public section

set_option maxRecDepth 16384

noncomputable section

open Idealize.ShloMosaic Idealize.ShloMosaic.TcCoe Idealize.SL.Sem

namespace Cert.Proof

open Cert.Ln2ReferenceIdeal.Ln2Ref Cert.Ln2KernelIdeal.Ln2Value Cert.Reals

/-- The shapes the precondition compares fit together. -/
instance pre_ln2 : Cert.Pre_finite_ln2.Facts := ⟨by decide, by decide, by decide, by decide⟩

theorem frame_ln2 : quiescent_Ln2Kernel := fun m ρ _ => Cert.Ln2Kernel.Gen.frame m ρ

theorem frame_ln2Ideal : quiescent_Ln2KernelIdeal := fun m ρ _ => Cert.Ln2KernelIdeal.Gen.frame m ρ

theorem frame_ln2Ideal_pre : quiescent_Ln2KernelIdeal_pre_finite_ln2 := fun m ρ _ => Cert.Ln2KernelIdeal.Gen.frame m ρ

theorem frame_ln2Reference : quiescent_Ln2ReferenceIdeal := fun m ρ _ =>
  (θ_run Cert.Ln2ReferenceIdeal.defs _ _).mono
    (fun r h => ⟨fun c => (h c).2.2.2.2.2, sem_eq_zero_of_no_sems (by decide) r.2⟩)
    (Cert.Ln2ReferenceIdeal.Value.run (F := Ideal) m ρ)

theorem frame_ln2Reference_pre : quiescent_Ln2ReferenceIdeal_pre_finite_ln2 := fun m ρ _ => frame_ln2Reference m ρ trivial

/-- Where the precondition holds, the arguments the gradients read are real numbers. -/
theorem real_ln2 (X : FVec Ideal Cert.Pre_finite_ln2.S2x4096x1024 .f32) (M : FVec Ideal Cert.Pre_finite_ln2.S2x4096x4096 .f32)
    (W : FVec Ideal Cert.Pre_finite_ln2.S4096x1024 .f32)
    (G B : FVec Ideal Cert.Pre_finite_ln2.S1024 .f32) (Y : FVec Ideal Cert.Pre_finite_ln2.S2x4096x1024 .f32)
    (h : (Cert.Pre_finite_ln2.fn X M W G B Y).1 = (fun _ => 1#1) ∧ (Cert.Pre_finite_ln2.fn X M W G B Y).2.1 = (fun _ => 1#1)
      ∧ (Cert.Pre_finite_ln2.fn X M W G B Y).2.2.1 = (fun _ => 1#1) ∧ (Cert.Pre_finite_ln2.fn X M W G B Y).2.2.2.1 = (fun _ => 1#1)
      ∧ (Cert.Pre_finite_ln2.fn X M W G B Y).2.2.2.2 = (fun _ => 1#1)) :
    Cert.Ln2ReferenceIdeal.Ln2Ref.Real' X M W G Y := by
  refine ⟨fun b s d => ?_, fun b s k => ?_, fun k d => ?_, fun d => ?_, fun b s d => ?_⟩
  · have := congrFun h.1 (ix3 b s d)
    pointwise [Cert.Pre_finite_ln2.fn] at this
    exact real_of_cmp this
  · have := congrFun h.2.1 (ix3 b s k)
    pointwise [Cert.Pre_finite_ln2.fn] at this
    exact real_of_cmp this
  · have := congrFun h.2.2.1 (ix2 k d)
    pointwise [Cert.Pre_finite_ln2.fn] at this
    exact real_of_cmp this
  · have := congrFun h.2.2.2.1 (ix1 d)
    pointwise [Cert.Pre_finite_ln2.fn] at this
    exact real_of_cmp this
  · have := congrFun h.2.2.2.2 (ix3 b s d)
    pointwise [Cert.Pre_finite_ln2.fn] at this
    exact real_of_cmp this

section Kernel

open Cert.Ln2KernelIdeal

variable (m : (ℓ : Loc nD τ sig) → Buf (Elt Ideal) ℓ) (ρ)

/-- The run with its five output arrays named and its arguments unchanged. -/
theorem ln2_run : θ_run defs (onTc (τ := τ) (main (F := Ideal))) ⟨m, fun _ => 0, ρ⟩ fun r => ∀ c : Dev nD,
    r.2.mem ((c : Thread nD τ).loc main_v12_0) = Cert.Ln2KernelIdeal.Ln2Value.outZ (aX m c) (aP m c) (aW m c) (aG m c) (aY m c)
      ∧ r.2.mem ((c : Thread nD τ).loc main_v12_1) = outF (aX m c) (aP m c) (aW m c) (aG m c) (aY m c)
      ∧ r.2.mem ((c : Thread nD τ).loc main_v12_2) = outP (aX m c) (aP m c) (aW m c) (aG m c) (aY m c)
      ∧ r.2.mem ((c : Thread nD τ).loc main_v12_3) = outG (aX m c) (aP m c) (aW m c) (aY m c)
      ∧ r.2.mem ((c : Thread nD τ).loc main_v12_4) = outB (aY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 5).trans (final_z m c),
    ((h c).1 6).trans (final_f m c),
    ((h c).1 7).trans (final_p m c),
    ((h c).1 8).trans (final_g m c),
    ((h c).1 9).trans (final_b m c),
    ((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c)⟩)
    (Gen.run_main m ρ)

end Kernel

section Terms

open Cert.Ln2ReferenceIdeal Cert.Ln2ReferenceIdeal.Gen Cert.Ln2ReferenceIdeal.Value Idealize.ShloMosaic.StableHlo

variable (X : FVec Ideal S2x4096x1024 .f32) (M : FVec Ideal S2x4096x4096 .f32) (W : FVec Ideal S4096x1024 .f32) (G : FVec Ideal S1024 .f32) (Y : FVec Ideal S2x4096x1024 .f32)

/-- The results' last steps: rows, formats, one leading axis. -/
def rowsF (D : FVec Ideal S2x4096x1024 .f32) : FVec Ideal S8192x1024 .f32 := shapeCast S8192x1024 D shapeCasts_S2x4096x1024_S8192x1024

def rowsB (D : FVec Ideal S2x4096x1024 .f32) : FVec Ideal S8192x1024 .bf16 := truncf .bf16 (shapeCast S8192x1024 D shapeCasts_S2x4096x1024_S8192x1024) bitsLt_bf16_f32

def leadF (v : FVec Ideal S1024 .f32) : FVec Ideal S1x1024 .f32 := broadcastInDim S1x1024 ![1] bcast_S1024_S1x1024_1 v

def rowsh (D : FVec Ideal S2x4096x4096 .f32) : FVec Ideal S8192x4096 .bf16 := truncf .bf16 (shapeCast S8192x4096 D shapeCasts_S2x4096x4096_S8192x4096) bitsLt_bf16_f32

theorem rowsF_at (D r d) : rowsF D (ix2 r d) = D (ix3 ⟨r.val / 4096, by omega⟩ ⟨r.val % 4096, by omega⟩ d) := by
  pointwise [rowsF]

theorem rowsB_at (D r d) : (rowsB D (ix2 r d) : EReal) = D (ix3 ⟨r.val / 4096, by omega⟩ ⟨r.val % 4096, by omega⟩ d) := by
  pointwise [rowsB]

theorem leadF_at (v d) : leadF v (ix2 0 d) = v (ix1 d) := by
  pointwise [leadF]

theorem rowsh_at (D r d) : (rowsh D (ix2 r d) : EReal) = D (ix3 ⟨r.val / 4096, by omega⟩ ⟨r.val % 4096, by omega⟩ d) := by
  pointwise [rowsh]

variable {X M W G Y}

theorem ln2_z (h : Real' X M W G Y) : rowsF (DZ (z X (relu M) W) Y G) = Cert.Ln2KernelIdeal.Ln2Value.outZ X M W G Y := by
  funext j
  obtain ⟨r, d, rfl⟩ : ∃ (r : Fin 8192) (d : Fin 1024), j = ix2 r d := ⟨_, _, eq_ix2 j⟩
  rw [rowsF_at, dz_at h]
  rfl

theorem ln2_f (h : Real' X M W G Y) : rowsB (DZ (z X (relu M) W) Y G) = outF X M W G Y := by
  funext j
  obtain ⟨r, d, rfl⟩ : ∃ (r : Fin 8192) (d : Fin 1024), j = ix2 r d := ⟨_, _, eq_ix2 j⟩
  exact (rowsB_at _ r d).trans (dz_at h _ _ _)

theorem ln2_p (h : Real' X M W G Y) : rowsh (dpre M (DZ (z X (relu M) W) Y G) W (relu M)) = outP X M W G Y := by
  funext j
  obtain ⟨r, d, rfl⟩ : ∃ (r : Fin 8192) (d : Fin 4096), j = ix2 r d := ⟨_, _, eq_ix2 j⟩
  refine (rowsh_at _ r d).trans ?_
  rw [dp_at h]
  simp only [dz_at h]
  rfl

theorem ln2_g : leadF (dg (xh (ze (z X (relu M) W) (mu (z X (relu M) W))) (rs (va (z X (relu M) W) (mu (z X (relu M) W))))) Y) = outG X M W Y := by
  funext j
  obtain ⟨a, d, rfl⟩ : ∃ (a : Fin 1) (d : Fin 1024), j = ix2 a d := ⟨_, _, eq_ix2 j⟩
  obtain rfl : a = 0 := Subsingleton.elim _ _
  rw [leadF_at, dg_at]
  simp only [z_at]
  exact Finset.sum_congr rfl fun b _ => Finset.sum_congr rfl fun s _ => mul_comm _ _

theorem ln2_b : leadF (db Y) = outB Y := by
  funext j
  obtain ⟨a, d, rfl⟩ : ∃ (a : Fin 1) (d : Fin 1024), j = ix2 a d := ⟨_, _, eq_ix2 j⟩
  obtain rfl : a = 0 := Subsingleton.elim _ _
  rw [leadF_at, db_at]
  rfl

variable (X M W Y)

/-- The gradient of the bias, as the reference writes it. -/
theorem ln2_v86_eq : (broadcastInDim S1x1024 ![1] bcast_S1024_S1x1024_1 (Host.reduceAdd (shapeCast _ (Host.reduceAdd Y (constant S_ .f32 0x00000000#32) reducesTo_S2x4096x1024_S1024_d0_1 h_S_) shapeCasts_S1024_S1x1x1024) (constant S_ .f32 0x00000000#32) reducesTo_S1x1x1024_S1024_d0_1 h_S_) : FVec Ideal S1x1024 .f32)
    = outB Y := by
  refine Eq.trans ?_ ln2_b
  unfold leadF db
  rfl

end Terms

section Results

open Cert.Ln2ReferenceIdeal Cert.Ln2ReferenceIdeal.Gen Cert.Ln2ReferenceIdeal.Value Idealize.ShloMosaic.StableHlo

variable (m : (ℓ : Loc nD τ sig) → Buf (Elt Ideal) ℓ) (c : Dev nD)

/-- The reference's other results are its arrays one after the other. -/
theorem ln2_v81_eq : Value.res_main_v81 m c
    = rowsF (DZ (z (m ((c.tc : Thread nD τ).loc main_arg0)) (relu (m ((c.tc : Thread nD τ).loc main_arg1))) (m ((c.tc : Thread nD τ).loc main_arg2))) (m ((c.tc : Thread nD τ).loc main_arg5)) (m ((c.tc : Thread nD τ).loc main_arg3))) := by
  unfold Value.res_main_v81 rowsF DZ dz tail dvz dv dxr gdy rsd rs va ze mu z relu
  rfl

theorem ln2_v82_eq : Value.res_main_v82 m c
    = rowsB (DZ (z (m ((c.tc : Thread nD τ).loc main_arg0)) (relu (m ((c.tc : Thread nD τ).loc main_arg1))) (m ((c.tc : Thread nD τ).loc main_arg2))) (m ((c.tc : Thread nD τ).loc main_arg5)) (m ((c.tc : Thread nD τ).loc main_arg3))) := by
  unfold Value.res_main_v82 rowsB DZ dz tail dvz dv dxr gdy rsd rs va ze mu z relu
  rfl

theorem ln2_v84_eq : Value.res_main_v84 m c
    = rowsh (dpre (m ((c.tc : Thread nD τ).loc main_arg1)) (DZ (z (m ((c.tc : Thread nD τ).loc main_arg0)) (relu (m ((c.tc : Thread nD τ).loc main_arg1))) (m ((c.tc : Thread nD τ).loc main_arg2))) (m ((c.tc : Thread nD τ).loc main_arg5)) (m ((c.tc : Thread nD τ).loc main_arg3))) (m ((c.tc : Thread nD τ).loc main_arg2)) (relu (m ((c.tc : Thread nD τ).loc main_arg1)))) := by
  unfold Value.res_main_v84 rowsh dpre DZ dz tail dvz dv dxr gdy rsd rs va ze mu z relu
  rfl

theorem ln2_v85_eq : Value.res_main_v85 m c
    = leadF (dg (xh (ze (z (m ((c.tc : Thread nD τ).loc main_arg0)) (relu (m ((c.tc : Thread nD τ).loc main_arg1))) (m ((c.tc : Thread nD τ).loc main_arg2))) (mu (z (m ((c.tc : Thread nD τ).loc main_arg0)) (relu (m ((c.tc : Thread nD τ).loc main_arg1))) (m ((c.tc : Thread nD τ).loc main_arg2))))) (rs (va (z (m ((c.tc : Thread nD τ).loc main_arg0)) (relu (m ((c.tc : Thread nD τ).loc main_arg1))) (m ((c.tc : Thread nD τ).loc main_arg2))) (mu (z (m ((c.tc : Thread nD τ).loc main_arg0)) (relu (m ((c.tc : Thread nD τ).loc main_arg1))) (m ((c.tc : Thread nD τ).loc main_arg2))))))) (m ((c.tc : Thread nD τ).loc main_arg5))) := by
  unfold Value.res_main_v85 leadF dg xh ze rs va mu z relu
  rfl

end Results

set_option maxHeartbeats 2000000 in
/-- All five results: the gradient of the normalised rows in both formats, of the hidden row, of the gain and of the
    bias. -/
theorem algebraic_ln2 : algebraic_Ln2KernelIdeal_Ln2ReferenceIdeal_pre_finite_ln2 := by
  pair_intro
  · run_from ln2_run m g
  · have hr := fun c => real_ln2 _ _ _ _ _ _ (hpre c)
    run_from Cert.Ln2ReferenceIdeal.Value.run m' g'
    all_goals obtain ⟨h0, h1, h2, h3, h4, h5⟩ := hagree c
    · rw [ln2_v81_eq, h0, h1, h2, h3, h5]
      exact ln2_z (hr c)
    · rw [ln2_v82_eq, h0, h1, h2, h3, h5]
      exact ln2_f (hr c)
    · rw [ln2_v84_eq, h0, h1, h2, h3, h5]
      exact ln2_p (hr c)
    · rw [ln2_v85_eq, h0, h1, h2, h5]
      exact ln2_g
    · exact ln2_v86_eq _

end Cert.Proof

end
-- ==== Proof.AttnfRef.lean ====
/- The reference of the memory attention's forward call: its result in closed form, head by head and row by row. -/
module

public import proofs.«01_k».proof.Proof.Gen.AttnfReferenceIdeal.Run
public import proofs.«01_k».proof.Proof.AttnRow

@[expose] public section

set_option maxRecDepth 16384

noncomputable section

open Idealize.ShloMosaic Idealize.ShloMosaic.TcCoe Idealize.SL.Sem Idealize.ShloMosaic.StableHlo

namespace Cert.AttnfReferenceIdeal.AttnfRef

open Cert.AttnfReferenceIdeal Cert.AttnfReferenceIdeal.Gen Cert.Reals Cert.AttnRow

/-- The scores of every token against every memory slot. -/
def score (a0 : FVec Ideal S2x4096x7168 .f32) (a1 : FVec Ideal S2x256x512 .f32) : FVec Ideal S2x4x4096x256 .f32 :=
  mulf (Host.dotGeneral dot_S2x4096x4x128_S2x256x4x128_S2x4x4096x256_3_3_1_1_02_02 none (shapeCast S2x4096x4x128 (extractStridedSlice S2x4096x512 ![0, 0, 3584] a0 slices_S2x4096x7168_S2x4096x512_0_0_3584) shapeCasts_S2x4096x512_S2x4096x4x128) (shapeCast S2x256x4x128 a1 shapeCasts_S2x256x512_S2x256x4x128)) (broadcastInDim S2x4x4096x256 ![] bcast_S_S2x4x4096x256 (constant S_ .f32 0x3DB504F3#32))

/-- The largest score of a row. -/
def mx (score_ : FVec Ideal S2x4x4096x256 .f32) : FVec Ideal S2x4x4096 .f32 :=
  Host.reduce FloatOps.maximumf score_ (constant S_ .f32 0xFF800000#32) reducesTo_S2x4x4096x256_S2x4x4096_d3 h_S_

/-- … where the maximum starts at minus infinity once more. -/
def mxx (mx_ : FVec Ideal S2x4x4096 .f32) : FVec Ideal S2x4x4096 .f32 :=
  maximumf (broadcastInDim S2x4x4096 ![] bcast_S_S2x4x4096 (constant S_ .f32 0xFF800000#32)) mx_

/-- The exponentials. -/
def ex (score_ : FVec Ideal S2x4x4096x256 .f32) (mxx_ : FVec Ideal S2x4x4096 .f32) : FVec Ideal S2x4x4096x256 .f32 :=
  Host.exp (subf score_ (broadcastInDim S2x4x4096x256 ![0, 1, 2, 3] bcast_S2x4x4096x1_S2x4x4096x256_0_1_2_3 (broadcastInDim S2x4x4096x1 ![0, 1, 2] bcast_S2x4x4096_S2x4x4096x1_0_1_2 mxx_)))

/-- The sums of a row of exponentials. -/
def tot (ex_ : FVec Ideal S2x4x4096x256 .f32) : FVec Ideal S2x4x4096 .f32 :=
  Host.reduceAdd ex_ (constant S_ .f32 0x00000000#32) reducesTo_S2x4x4096x256_S2x4x4096_d3 h_S_

/-- The probabilities. -/
def pr (ex_ : FVec Ideal S2x4x4096x256 .f32) (tot_ : FVec Ideal S2x4x4096 .f32) : FVec Ideal S2x4x4096x256 .f32 :=
  Host.divf ex_ (broadcastInDim S2x4x4096x256 ![0, 1, 2, 3] bcast_S2x4x4096x1_S2x4x4096x256_0_1_2_3 (broadcastInDim S2x4x4096x1 ![0, 1, 2] bcast_S2x4x4096_S2x4x4096x1_0_1_2 tot_))

/-- The attended values, head by head. -/
def o4 (a2 : FVec Ideal S2x256x512 .f32) (pr_ : FVec Ideal S2x4x4096x256 .f32) : FVec Ideal S2x4096x4x128 .f32 :=
  transpose S2x4096x4x128 [0, 3, 1, 2] (Host.dotGeneral dot_S2x256x4x128_S2x4x4096x256_S2x4x128x4096_1_3_3_2_02_01 none (shapeCast S2x256x4x128 a2 shapeCasts_S2x256x512_S2x256x4x128) pr_) transposes_S2x4x128x4096_S2x4096x4x128_0_3_1_2

/-- The result. -/
def oy (o4_ : FVec Ideal S2x4096x4x128 .f32) : FVec Ideal S8192x512 .bf16 :=
  truncf .bf16 (shapeCast S8192x512 (shapeCast S2x4096x512 o4_ shapeCasts_S2x4096x4x128_S2x4096x512) shapeCasts_S2x4096x512_S8192x512) bitsLt_bf16_f32

/-- The query row of one token in one head. -/
def qrow (P : FVec Ideal S2x4096x7168 .f32) (b : Fin 2) (s : Fin 4096) (h : Fin 4) : Fin 128 → EReal := fun d =>
  P (ix3 b s ⟨3584 + (h.val * 128 + d.val), by omega⟩)

/-- The memory's rows in one head. -/
def krow (K : FVec Ideal S2x256x512 .f32) (b : Fin 2) (h : Fin 4) : Fin 256 → Fin 128 → EReal := fun n d =>
  K (ix3 b n ⟨h.val * 128 + d.val, by omega⟩)

/-- One token's attended value in one head. -/
def AY (P : FVec Ideal S2x4096x7168 .f32) (K V : FVec Ideal S2x256x512 .f32) (b : Fin 2) (s : Fin 4096) (h : Fin 4)
    (d : Fin 128) : EReal :=
  ∑ n, rp (qrow P b s h) (krow K b h) n * krow V b h n d

/-- The exponentials from the arguments. -/
abbrev E' (P : FVec Ideal S2x4096x7168 .f32) (K : FVec Ideal S2x256x512 .f32) : FVec Ideal S2x4x4096x256 .f32 :=
  ex (score P K) (mxx (mx (score P K)))

theorem score_at (P K b h s n) : score P K (ix4 b h s n) = rs (qrow P b s h) (krow K b h) n := by
  pointwise [score]
  rfl

theorem mx_at (P b h s) : mx P (ix3 b h s) = Finset.fold max NI (fun x => P (ix4 b h s x)) Finset.univ := by
  pointwise [mx]

theorem mxx_at (P b h s) : mxx P (ix3 b h s) = max NI (P (ix3 b h s)) := by
  pointwise [mxx]

theorem ex_at (P M b h s n) : ex P M (ix4 b h s n) = Ideal.exp (P (ix4 b h s n) - M (ix3 b h s)) := by
  pointwise [ex]

theorem e_at (P K b h s n) : E' P K (ix4 b h s n) = rx (qrow P b s h) (krow K b h) n := by
  refine (ex_at _ _ b h s n).trans ?_
  rw [mxx_at, mx_at]
  simp only [score_at]
  exact congrArg (fun z => Ideal.exp (rs (qrow P b s h) (krow K b h) n - z)) (max_rm _ _)

theorem tot_at (P b h s) : tot P (ix3 b h s) = ∑ x, P (ix4 b h s x) := by
  pointwise [tot]

theorem pr_at (P Z b h s n) : pr P Z (ix4 b h s n) = Ideal.div (P (ix4 b h s n)) (Z (ix3 b h s)) := by
  pointwise [pr]

theorem o4_at (P K V b s h d) : o4 V (pr (E' P K) (tot (E' P K))) (ix4 b s h d) = AY P K V b s h d := by
  have : ∀ Q, o4 V Q (ix4 b s h d) = ∑ x : Fin 256, V (ix3 b x ⟨h.val * 128 + d.val, by omega⟩) * Q (ix4 b h s x) := fun Q => by
    pointwise [o4]
  rw [this]
  simp only [pr_at, tot_at, e_at]
  exact Finset.sum_congr rfl fun x _ => mul_comm _ _

theorem oy_at (Q r d) : oy Q (ix2 r d)
    = Q (ix4 ⟨r.val / 4096, by omega⟩ ⟨r.val % 4096, by omega⟩ ⟨d.val / 128, by omega⟩ ⟨d.val % 128, by omega⟩) := by
  pointwise [oy]

/-- The result in closed form. -/
theorem y_at (P K V r d) : oy (o4 V (pr (E' P K) (tot (E' P K)))) (ix2 r d)
    = AY P K V ⟨r.val / 4096, by omega⟩ ⟨r.val % 4096, by omega⟩ ⟨d.val / 128, by omega⟩ ⟨d.val % 128, by omega⟩ := by
  rw [oy_at, o4_at]

end Cert.AttnfReferenceIdeal.AttnfRef

end
-- ==== Proof.AttnfValue.lean ====
/- The forward call of the memory attention: what its output array holds after the run, block by block. -/
module

public import proofs.«01_k».proof.Proof.Gen.AttnfKernelIdeal.Value
public import proofs.«01_k».proof.Proof.AttnfRef

@[expose] public section

set_option maxRecDepth 16384

noncomputable section

open Idealize.ShloMosaic Idealize.ShloMosaic.TcCoe Idealize.SL.Sem
open Idealize.ShloMosaic.Pipeline (Dat)

namespace Cert.AttnfKernelIdeal.AttnfValue

open Cert.AttnfKernelIdeal Cert.AttnfKernelIdeal.Gen Cert.Reals Cert.AttnRow
open Cert.AttnfReferenceIdeal.AttnfRef (qrow krow AY)

theorem idx : ∀ t : Fin cfg0.N, win0_0.index t = ![t.val, 7] ∧ win0_1.index t = ![t.val / 8, 0]
    ∧ win0_2.index t = ![t.val / 8, 0] ∧ win0_3.index t = ![t.val, 0] :=
  (by decide +kernel : ∀ t : Fin grid0.N, _)

/-- A head's lanes of a block of tokens and of a block of memory slots. -/
def lq (o : Nat) (h : ∀ a, (![0, o] : Fin 2 → Nat) a + S512x128.size a ≤ S512x512.size a) (x : FVec Ideal S512x512 .bf16) :
    FVec Ideal S512x128 .bf16 :=
  View.ld (Val := Elt Ideal) (e' := .bf16) x (Rect.unit ![0, o] ![512, 128] h)

def lk (o : Nat) (h : ∀ a, (![0, o] : Fin 2 → Nat) a + S256x128.size a ≤ S256x512.size a) (x : FVec Ideal S256x512 .bf16) :
    FVec Ideal S256x128 .bf16 :=
  View.ld (Val := Elt Ideal) (e' := .bf16) x (Rect.unit ![0, o] ![256, 128] h)

/-- One token's row in one head. -/
def tq (x : FVec Ideal S512x512 .bf16) (r : Fin 512) (h : Fin 4) : Fin 128 → EReal := fun d =>
  x (ix2 r ⟨h.val * 128 + d.val, by omega⟩)

/-- The memory block's rows in one head. -/
def tk (x : FVec Ideal S256x512 .bf16) (h : Fin 4) : Fin 256 → Fin 128 → EReal := fun n d =>
  x (ix2 n ⟨h.val * 128 + d.val, by omega⟩)

theorem lq_at (h : Fin 4) (o : Nat) (ho : o = h.val * 128) (hh) (x r d) : lq o hh x (ix2 r d) = tq x r h d := by
  subst ho
  unfold tq
  exact congrArg x (by blk_ext <;> simp)

theorem lk_at (h : Fin 4) (o : Nat) (ho : o = h.val * 128) (hh) (x n d) : lk o hh x (ix2 n d) = tk x h n d := by
  subst ho
  unfold tk
  exact congrArg x (by blk_ext <;> simp)

section Tile

variable (x0 : FVec Ideal S512x512 .bf16) (x1 x2 : FVec Ideal S256x512 .bf16)

/-- Head 1's probabilities. -/
abbrev P1 := k0_pay8 (F := Ideal) (k0_pay3 (lq 128 inb_S512x512_S512x128_0_128 x0) (lk 128 inb_S256x512_S256x128_0_128 x1)) (k0_pay7 (lq 128 inb_S512x512_S512x128_0_128 x0) (lk 128 inb_S256x512_S256x128_0_128 x1))

theorem p1 (r n) : P1 x0 x1 (ix2 r n) = rp (tq x0 r 1) (tk x1 1) n := by
  pointwise [k0_pay8, k0_pay3, k0_pay7]
  simp only [lq_at 1 128 rfl, lk_at 1 128 rfl]
  rfl

/-- Head 2's probabilities. -/
abbrev P2 := k0_pay9 (F := Ideal) (k0_pay4 (lq 256 inb_S512x512_S512x128_0_256 x0) (lk 256 inb_S256x512_S256x128_0_256 x1))

theorem p2 (r n) : P2 x0 x1 (ix2 r n) = rp (tq x0 r 2) (tk x1 2) n := by
  pointwise [k0_pay9, k0_pay4]
  simp only [lq_at 2 256 rfl, lk_at 2 256 rfl]
  rfl

/-- Head 3's probabilities. -/
abbrev P3 := k0_pay10 (F := Ideal) (k0_pay5 (lq 384 inb_S512x512_S512x128_0_384 x0) (lk 384 inb_S256x512_S256x128_0_384 x1))

theorem p3 (r n) : P3 x0 x1 (ix2 r n) = rp (tq x0 r 3) (tk x1 3) n := by
  pointwise [k0_pay10, k0_pay5]
  simp only [lq_at 3 384 rfl, lk_at 3 384 rfl]
  rfl

/-- Head 0's attended values. -/
abbrev O0 := k0_pay14 (F := Ideal) (k0_pay2 (lq 0 inb_S512x512_S512x128_0_0 x0) (lk 0 inb_S256x512_S256x128_0_0 x1))
  (k0_pay6 (lq 0 inb_S512x512_S512x128_0_0 x0) (lk 0 inb_S256x512_S256x128_0_0 x1)) (lk 0 inb_S256x512_S256x128_0_0 x2)

theorem o0 (r d) : O0 x0 x1 x2 (ix2 r d) = ∑ n, rp (tq x0 r 0) (tk x1 0) n * tk x2 0 n d := by
  pointwise [k0_pay14, k0_pay2, k0_pay6]
  simp only [lq_at 0 0 rfl, lk_at 0 0 rfl]
  rfl

/-- One point's output block. -/
abbrev OY := k0_pay1 (F := Ideal) (P1 x0 x1) (P2 x0 x1) (P3 x0 x1) (k0_pay11 (lk 128 inb_S256x512_S256x128_0_128 x2))
  (k0_pay12 (lk 256 inb_S256x512_S256x128_0_256 x2)) (k0_pay13 (lk 384 inb_S256x512_S256x128_0_384 x2)) (O0 x0 x1 x2) (constant S512x128 .f32 0x00000000#32)

/-- The head of one of the 512 columns, and the column's place in its head. -/
def hd (j : Fin 512) : Fin 4 := ⟨j.val / 128, by omega⟩

def ln (j : Fin 512) : Fin 128 := ⟨j.val % 128, by omega⟩

/-- Four heads set side by side, read at a column. -/
theorem heads (f : Fin 4 → Fin 128 → EReal) (j : Fin 512) :
    (if h1 : j.val < 128 then f 0 ⟨j.val, h1⟩ else if h2 : j.val - 128 < 128 then f 1 ⟨j.val - 128, h2⟩
      else if h3 : j.val - 128 - 128 < 128 then f 2 ⟨j.val - 128 - 128, h3⟩
      else f 3 ⟨j.val - 128 - 128 - 128, by omega⟩) = f (hd j) (ln j) := by
  split_ifs
  all_goals
    refine congrArg₂ f (Fin.ext ?_) (Fin.ext ?_)
    · show _ = j.val / 128
      simp
      omega
    · show _ = j.val % 128
      simp only
      omega

theorem OY_at (r j) : OY x0 x1 x2 (ix2 r j) = ∑ n, rp (tq x0 r (hd j)) (tk x1 (hd j)) n * tk x2 (hd j) n (ln j) := by
  pointwise [k0_pay1, k0_pay11, k0_pay12, k0_pay13]
  simp only [o0, p1, p2, p3, lk_at 1 128 rfl, lk_at 2 256 rfl, lk_at 3 384 rfl]
  exact heads (fun h d => ∑ n, rp (tq x0 r h) (tk x1 h) n * tk x2 h n d) j

end Tile

variable (m : (ℓ : Loc nD τ sig) → Buf (Elt Ideal) ℓ)

/-- The arguments on one device. -/
abbrev aP (c : Dev nD) : FVec Ideal S2x4096x7168 .f32 := m ((c : Thread nD τ).loc main_arg0)

abbrev aK (c : Dev nD) : FVec Ideal S2x256x512 .f32 := m ((c : Thread nD τ).loc main_arg1)

abbrev aV (c : Dev nD) : FVec Ideal S2x256x512 .f32 := m ((c : Thread nD τ).loc main_arg2)

/-- A point's block of queries is those of its stretch of 512 tokens. -/
theorem blk0 (c : Dev nD) (t : Fin cfg0.N) (r : Fin 512) (h : Fin 4) (b : Fin 2) (s : Fin 4096)
    (e : b.val * 4096 + s.val = t.val * 512 + r.val) : tq (iblk m c 0 t) r h = qrow (aP m c) b s h := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  funext d
  unfold tq qrow
  blk_point [iblk, V, idx t]

/-- A point's memory block is its sequence's. -/
theorem blk1 (c : Dev nD) (t : Fin cfg0.N) (h : Fin 4) (b : Fin 2) (e : b.val = t.val / 8) :
    tk (iblk m c 1 t) h = krow (aK m c) b h := by
  have h1 : t.val / 8 < 2 := by omega
  obtain rfl : b = ⟨t.val / 8, h1⟩ := Fin.ext e
  funext n d
  unfold tk krow
  blk_point [iblk, V, idx t]

theorem blk2 (c : Dev nD) (t : Fin cfg0.N) (h : Fin 4) (b : Fin 2) (e : b.val = t.val / 8) :
    tk (iblk m c 2 t) h = krow (aV m c) b h := by
  have h1 : t.val / 8 < 2 := by omega
  obtain rfl : b = ⟨t.val / 8, h1⟩ := Fin.ext e
  funext n d
  unfold tk krow
  blk_point [iblk, V, idx t]

/-- Where the output's blocks sit. -/
theorem emb3 (t : Fin cfg0.N) (r d : Fin 512) (h : t.val * 512 + r.val < 8192) :
    ((cfg0.win 3).blk t).view.emb (ix2 r d) = ix2 ⟨t.val * 512 + r.val, h⟩ d := by
  blk_ext [idx t]

/-- The output array, from the arguments. -/
def outY (P : FVec Ideal S2x4096x7168 .f32) (K V : FVec Ideal S2x256x512 .f32) : FVec Ideal S8192x512 .bf16 := fun i =>
  AY P K V ⟨(i 0).val / 4096, by have : (i 0).val < 8192 := (i 0).isLt; omega⟩ ⟨(i 0).val % 4096, by omega⟩ (hd (i 1)) (ln (i 1))

theorem point_y (c : Dev nD) (t : Fin cfg0.N) (y) :
    OY (iblk m c 0 t) (iblk m c 1 t) (iblk m c 2 t) y
      = outY (aP m c) (aK m c) (aV m c) (((cfg0.win 3).blk t).view.emb y) := by
  obtain ⟨r, j, rfl⟩ : ∃ (r j : Fin 512), y = ix2 r j := ⟨_, _, eq_ix2 y⟩
  have ht : t.val < 16 := t.isLt
  rw [emb3 t r j (by omega), OY_at, blk0 m c t r _ ⟨(t.val * 512 + r.val) / 4096, by omega⟩ ⟨(t.val * 512 + r.val) % 4096, by omega⟩
    (by show _ / 4096 * 4096 + _ % 4096 = _; omega), blk1 m c t _ ⟨(t.val * 512 + r.val) / 4096, by omega⟩ (by show _ / 4096 = _; omega),
    blk2 m c t _ ⟨(t.val * 512 + r.val) / 4096, by omega⟩ (by show _ / 4096 = _; omega)]
  rfl

theorem final_y (c : Dev nD) : (dats m 0 c).arrAt 3 (cfgs 0).N = outY (aP m c) (aK m c) (aV m c) := by
  refine (dats m 0 c).arrAt_eq_of_covers 3 _ (by decide +kernel) fun t _ y => ?_
  blk_simp
  rw [after0_3]
  frame_out
  exact point_y m c t y

end Cert.AttnfKernelIdeal.AttnfValue

end
-- ==== Proof.AttnfClaim.lean ====
/- The claims about the forward call of the memory attention. -/
module

public import proofs.«01_k».proof.Defs
public import proofs.«01_k».proof.Proof.Gen.AttnfKernel
public import proofs.«01_k».proof.Proof.Gen.AttnfKernel.Frame
public import proofs.«01_k».proof.Proof.Gen.AttnfReferenceIdeal.Run
public import proofs.«01_k».proof.Proof.AttnfValue

@[expose] public section

set_option maxRecDepth 16384

noncomputable section

open Idealize.ShloMosaic Idealize.SL.Sem

namespace Cert.Proof

open Cert.AttnfReferenceIdeal.AttnfRef Cert.AttnfKernelIdeal.AttnfValue

theorem frame_attnf : quiescent_AttnfKernel := fun m ρ _ => Cert.AttnfKernel.Gen.frame m ρ

theorem frame_attnfIdeal : quiescent_AttnfKernelIdeal := fun m ρ _ => Cert.AttnfKernelIdeal.Gen.frame m ρ

theorem frame_attnfReference : quiescent_AttnfReferenceIdeal := fun m ρ _ =>
  (θ_run Cert.AttnfReferenceIdeal.defs _ _).mono
    (fun r h => ⟨fun c => (h c).2, sem_eq_zero_of_no_sems (by decide) r.2⟩)
    (Cert.AttnfReferenceIdeal.Value.run (F := Ideal) m ρ)

theorem res_attnf (P K V) : oy (o4 V (pr (E' P K) (tot (E' P K)))) = outY P K V := by
  funext j
  obtain ⟨r, d, rfl⟩ : ∃ (r : Fin 8192) (d : Fin 512), j = ix2 r d := ⟨_, _, eq_ix2 j⟩
  rw [y_at]
  rfl

set_option maxHeartbeats 2000000 in
/-- The attended values of every token. -/
theorem algebraic_attnf : algebraic_AttnfKernelIdeal_AttnfReferenceIdeal := by
  pair_intro
  · run_from Cert.AttnfKernelIdeal.Value.run_blocks m g
  · run_from Cert.AttnfReferenceIdeal.Value.run m' g'
    refine Eq.trans ?_ ((res_attnf _ _ _).trans (final_y m c).symm)
    unfold oy o4 pr tot E' ex mxx mx score
    rfl

end Cert.Proof

end
-- ==== Proof.LbRow.lean ====
/- One column of the lower bounds' gradient: a softmax over the four layers, its running sum, and the first layer taken
   off. The kernel's form and the derivative of the lines agree where the column is real. -/
module

public import proofs.«01_k».proof.Proof.Reals

@[expose] public section

set_option maxRecDepth 16384

noncomputable section

open Idealize.ShloMosaic

namespace Cert.LbRow

open Cert.Reals

/-- Minus infinity, where the column's maximum starts. -/
abbrev NI : EReal := Ideal.ofBits .f32 4286578688#32

theorem NI_eq : NI = ⊥ := by
  simp [NI, Ideal.ofBits, Ideal.ieee]

variable (l d : Fin 4 → EReal)

/-- The largest entry. -/
def lm : EReal := Finset.fold max NI l Finset.univ

/-- The exponential of an entry less the largest. -/
def lx (n : Fin 4) : EReal := Ideal.exp (l n - lm l)

/-- The probability of a layer. -/
def lp (n : Fin 4) : EReal := Ideal.div (lx l n) (∑ k, lx l k)

/-- The gradient of the probabilities as the kernel adds it up. -/
def gK : Fin 4 → EReal := ![0, d 1 + d 2 + d 3, d 2 + d 3, d 3]

/-- The kernel's gradient of one lower bound. -/
def dlK (j : Fin 4) : EReal :=
  lp l j * (gK d j - (gK d 0 * lp l 0 + gK d 1 * lp l 1 + gK d 2 * lp l 2 + gK d 3 * lp l 3))

/-- The gradient of the probabilities as the derivative of the lines has it. -/
def gR (j : Fin 4) : EReal :=
  (if j.val = 0 then ∑ n, -d n else 0) + ∑ n : Fin 4, if h : j.val + n.val < 4 then d ⟨j.val + n.val, h⟩ else 0

/-- The derivative of the lines with respect to one lower bound. -/
def dlR (j : Fin 4) : EReal :=
  (Ideal.div (gR d j) (∑ k, lx l k)
    + -∑ n, gR d n * Ideal.div 1 ((∑ k, lx l k) * ∑ k, lx l k) * lx l n) * lx l j

/-- Starting the maximum at minus infinity twice changes nothing. -/
theorem max_lm : max NI (lm l) = lm l := by
  rw [NI_eq]; exact max_bot_left _

/-- The two gradients of the probabilities. -/
theorem gR_eq (hd : ∀ n, ∃ x : ℝ, d n = x) (j : Fin 4) : gR d j = gK d j := by
  choose p hp using hd
  obtain rfl : d = fun n => (p n : EReal) := funext hp
  have h4 : ∀ x : Fin 4, x = 0 ∨ x = 1 ∨ x = 2 ∨ x = 3 := by decide
  rcases h4 j with rfl | rfl | rfl | rfl
  · simp only [gR, gK, Fin.sum_univ_four, ← EReal.coe_neg, ← EReal.coe_add]
    simp
    norm_cast
    ring
  · simp [gR, gK, Fin.sum_univ_four]
  · simp [gR, gK, Fin.sum_univ_four]
  · simp [gR, gK, Fin.sum_univ_four]

/-- The two gradients of a lower bound. -/
theorem dl_eq (hl : ∀ n, ∃ x : ℝ, l n = x) (hd : ∀ n, ∃ x : ℝ, d n = x) (j : Fin 4) : dlR l d j = dlK l d j := by
  have hg : ∀ n, ∃ x : ℝ, gK d n = x := by
    choose p hp using hd
    intro n
    have h4 : ∀ x : Fin 4, x = 0 ∨ x = 1 ∨ x = 2 ∨ x = 3 := by decide
    rcases h4 n with rfl | rfl | rfl | rfl
    · exact ⟨0, rfl⟩
    · exact ⟨p 1 + p 2 + p 3, by simp [gK, hp]⟩
    · exact ⟨p 2 + p 3, by simp [gK, hp]⟩
    · exact ⟨p 3, by simp [gK, hp]⟩
  have hr : ∀ n, gR d n = gK d n := gR_eq d hd
  choose s hs using hl
  choose p hp using hg
  have hm : ∃ x : ℝ, lm l = x := by
    have h1 : lm l < ⊤ := by
      refine Finset.fold_max_lt ⊤ |>.mpr ⟨by rw [NI_eq]; exact bot_lt_top, fun i _ => ?_⟩
      rw [hs i]; exact EReal.coe_lt_top _
    have h2 : ⊥ < lm l :=
      Finset.lt_fold_max ⊥ |>.mpr (.inr ⟨0, Finset.mem_univ _, by rw [hs 0]; exact EReal.bot_lt_coe _⟩)
    exact ⟨(lm l).toReal, (EReal.coe_toReal h1.ne h2.ne').symm⟩
  obtain ⟨M, hM⟩ := hm
  have hx : ∀ n, lx l n = ((Real.exp (s n - M) : ℝ) : EReal) := fun n => by
    rw [lx, hs, hM, ← EReal.coe_sub, Ideal.exp_coe]
  have hzp : (∑ n', Real.exp (s n' - M)) ≠ 0 :=
    (Finset.sum_pos (fun i _ => Real.exp_pos _) ⟨0, Finset.mem_univ _⟩).ne'
  unfold dlR dlK lp
  simp only [hr, hx, hp, ← coe_sum]
  rw [← EReal.coe_mul]
  simp only [Ideal.div_coe hzp, Ideal.div_coe (mul_ne_zero hzp hzp), one_mul, ← EReal.coe_mul, ← coe_sum,
    ← EReal.coe_neg, ← EReal.coe_add, ← EReal.coe_sub]
  congr 1
  rw [Fin.sum_univ_four (fun n => p n * (1 / ((∑ n', Real.exp (s n' - M)) * ∑ n', Real.exp (s n' - M))) * Real.exp (s n - M))]
  generalize ∑ n', Real.exp (s n' - M) = Z at hzp
  field_simp
  ring

/-! ## A window over the four layers -/

theorem fold4 (g : Fin 4 → EReal) (v : EReal) : (List.finRange 4).foldl (fun r n => r + g n) v = v + ∑ n, g n := by
  rw [show List.finRange 4 = [0, 1, 2, 3] from rfl]
  simp only [List.foldl_cons, List.foldl_nil, Fin.sum_univ_four, add_assoc]

theorem win0 : ∀ n : Fin 4, ((⟨2, ![4, 1]⟩ : Shape).rowMajor.symm n 0).val = n.val := by decide

theorem win1 : ∀ n : Fin 4, ((⟨2, ![4, 1]⟩ : Shape).rowMajor.symm n 1).val = 0 := by decide

end Cert.LbRow

end
-- ==== Proof.LbRef.lean ====
/- The reference of the lower bounds' gradient: its result in closed form. -/
module

public import proofs.«01_k».proof.Proof.Gen.LbReferenceIdeal.Run
public import proofs.«01_k».proof.Proof.LbRow
public import Idealize.ShloMosaic.Lib.Pointwise

@[expose] public section

set_option maxRecDepth 16384

noncomputable section

open Idealize.ShloMosaic Idealize.ShloMosaic.TcCoe Idealize.SL.Sem Idealize.ShloMosaic.StableHlo

namespace Cert.LbReferenceIdeal.LbRef

open Cert.LbReferenceIdeal Cert.LbReferenceIdeal.Gen Cert.Reals Cert.LbRow

/-- The largest lower bound of a column. -/
def mx (a0 : FVec Ideal S4x512 .f32) : FVec Ideal S512 .f32 :=
  Host.reduce FloatOps.maximumf a0 (constant S_ .f32 0xFF800000#32) reducesTo_S4x512_S512_d0 h_S_

/-- … where the maximum starts at minus infinity once more. -/
def mxx (mx_ : FVec Ideal S512 .f32) : FVec Ideal S512 .f32 :=
  maximumf (broadcastInDim S512 ![] bcast_S_S512 (constant S_ .f32 0xFF800000#32)) mx_

/-- The exponentials. -/
def ex (a0 : FVec Ideal S4x512 .f32) (mxx_ : FVec Ideal S512 .f32) : FVec Ideal S4x512 .f32 :=
  Host.exp (subf a0 (broadcastInDim S4x512 ![0, 1] bcast_S1x512_S4x512_0_1 (broadcastInDim S1x512 ![1] bcast_S512_S1x512_1 mxx_)))

/-- Their sum. -/
def sm (ex_ : FVec Ideal S4x512 .f32) : FVec Ideal S1x512 .f32 :=
  broadcastInDim S1x512 ![1] bcast_S512_S1x512_1 (Host.reduceAdd ex_ (constant S_ .f32 0x00000000#32) reducesTo_S4x512_S512_d0 h_S_)

/-- One over its square. -/
def isq (sm_ : FVec Ideal S1x512 .f32) : FVec Ideal S1x512 .f32 :=
  Host.divf (broadcastInDim S1x512 ![] bcast_S_S1x512 (constant S_ .f32 0x3F800000#32)) (mulf sm_ sm_)

/-- The first layer is taken off everywhere: minus the sum of the cotangents. -/
def nd (a1 : FVec Ideal S4x512 .f32) : FVec Ideal S512 .f32 :=
  Host.reduceAdd (Host.negf a1) (constant S_ .f32 0x00000000#32) reducesTo_S4x512_S512_d0 h_S_

/-- The gradient of the probabilities. -/
def rowg (nd_ : FVec Ideal S512 .f32) (main_v37 : FVec Ideal S4x512 .f32) : FVec Ideal S4x512 .f32 :=
  addf (pad S4x512 ![0, 0] ![3, 0] ![0, 0] (shapeCast S1x512 nd_ shapeCasts_S512_S1x512) (constant S_ .f32 0x00000000#32) pads_S1x512_S4x512_030_000 h_S_) main_v37

/-- The gradient of the sum of exponentials. -/
def dsum (rowg_ : FVec Ideal S4x512 .f32) (isq_ : FVec Ideal S1x512 .f32) (ex_ : FVec Ideal S4x512 .f32) : FVec Ideal S512 .f32 :=
  Host.reduceAdd (mulf (mulf rowg_ (broadcastInDim S4x512 ![0, 1] bcast_S1x512_S4x512_0_1 isq_)) ex_) (constant S_ .f32 0x00000000#32) reducesTo_S4x512_S512_d0 h_S_

/-- … with its sign. -/
def dneg (dsum_ : FVec Ideal S512 .f32) : FVec Ideal S1x512 .f32 :=
  Host.negf (shapeCast S1x512 dsum_ shapeCasts_S512_S1x512)

/-- The gradient through the quotient. -/
def dq (rowg_ : FVec Ideal S4x512 .f32) (sm_ : FVec Ideal S1x512 .f32) : FVec Ideal S4x512 .f32 :=
  Host.divf rowg_ (broadcastInDim S4x512 ![0, 1] bcast_S1x512_S4x512_0_1 sm_)

/-- The gradient of the lower bounds. -/
def dl (dq_ : FVec Ideal S4x512 .f32) (dneg_ : FVec Ideal S1x512 .f32) (ex_ : FVec Ideal S4x512 .f32) : FVec Ideal S4x512 .f32 :=
  mulf (addf dq_ (broadcastInDim S4x512 ![1] bcast_S512_S4x512_1 (Host.reduceAdd dneg_ (constant S_ .f32 0x00000000#32) reducesTo_S1x512_S512_d0 h_S_))) ex_

/-- The running sum from the last layer down. -/
def rev (D : FVec Ideal S4x512 .f32) : FVec Ideal S4x512 .f32 :=
  Host.reduceWindowAdd ![4, 1] ![1, 1] ![0, 0] ![3, 0] (shapeCast _ D shapeCasts_S4x512_S4x512)
    (broadcastInDim S_ ![] bcast_S_S_ (constant S_ .f32 0x00000000#32)) reduceWindows_S4x512_S4x512_w4s1p0_3_w1s1p0_0 h_S_

/-- A column. -/
def col (X : FVec Ideal S4x512 .f32) (c : Fin 512) : Fin 4 → EReal := fun n => X (ix2 n c)

/-- The entry a window position reads: the operand's, or the padding's. -/
def ent (x : S4x512.Idx → EReal) (v : EReal) (j : Fin 4) (c : Fin 512) (n : Fin 4) : EReal :=
  if h : j.val + n.val < 4 then x (ix2 ⟨j.val + n.val, h⟩ c) else v

theorem ent_eq (x : S4x512.Idx → EReal) (v : EReal) (j : Fin 4) (c : Fin 512) (n : Fin 4) (p : Fin 2 → Nat)
    (D : Decidable (∀ a : Fin S4x512.rank, (![0, 0] : Fin 2 → Nat) a ≤ p a ∧ p a - (![0, 0] : Fin 2 → Nat) a < S4x512.size a))
    (h0 : p 0 = j.val + n.val) (h1 : p 1 = c.val) :
    (if hin : ∀ a : Fin S4x512.rank, (![0, 0] : Fin 2 → Nat) a ≤ p a ∧ p a - (![0, 0] : Fin 2 → Nat) a < S4x512.size a then
      x (fun a : Fin S4x512.rank => ⟨p a - (![0, 0] : Fin 2 → Nat) a, (hin a).2⟩) else v) = ent x v j c n := by
  have hc := c.isLt
  unfold ent
  split
  · next hin =>
    have h := (hin 0).2
    change p 0 - 0 < 4 at h
    rw [dif_pos (by omega)]
    refine congrArg x (funext fun a => Fin.ext ?_)
    match a with
    | ⟨0, _⟩ => exact h0
    | ⟨1, _⟩ => exact h1
  · next hin =>
    rw [dif_neg fun hle => hin fun a => by
      match a with
      | ⟨0, _⟩ => exact ⟨Nat.zero_le _, show p 0 - 0 < 4 by omega⟩
      | ⟨1, _⟩ => exact ⟨Nat.zero_le _, show p 1 - 0 < 512 by omega⟩]

theorem rw_at (x : S4x512.Idx → EReal) (v : EReal) (j : Fin 4) (c : Fin 512) :
    Ideal.hostReduceWindowAdd ![4, 1] ![1, 1] ![0, 0] ![3, 0] reduceWindows_S4x512_S4x512_w4s1p0_3_w1s1p0_0 x v (ix2 j c)
      = v + ∑ n, ent x v j c n := by
  refine Eq.trans ?_ (fold4 (ent x v j c) v)
  unfold Ideal.hostReduceWindowAdd Host.reduceWindow
  refine congrArg (fun f : EReal → Fin 4 → EReal => (List.finRange 4).foldl f v) (funext fun r => funext fun n => ?_)
  refine congrArg (r + ·) (ent_eq x v j c n _ _ ?_ ?_)
  · show j.val * 1 + ((⟨2, ![4, 1]⟩ : Shape).rowMajor.symm n 0).val = _
    have := win0 n
    omega
  · show c.val * 1 + ((⟨2, ![4, 1]⟩ : Shape).rowMajor.symm n 1).val = _
    have := win1 n
    omega

theorem rev_at (D j c) : rev D (ix2 j c) = ∑ n : Fin 4, if h : j.val + n.val < 4 then col D c ⟨j.val + n.val, h⟩ else 0 := by
  have hz : (broadcastInDim S_ ![] bcast_S_S_ (constant (F := Ideal) S_ .f32 0x00000000#32)) (Shape.Idx.first h_S_) = (0 : EReal) :=
    show Ideal.ofBits .f32 0x00000000#32 = 0 by simp [Ideal.ofBits, Ideal.ieee]
  have hs : shapeCast S4x512 D shapeCasts_S4x512_S4x512 = D := by
    funext i
    obtain ⟨a, b, rfl⟩ : ∃ (a : Fin 4) (b : Fin 512), i = ix2 a b := ⟨_, _, eq_ix2 i⟩
    pointwise
  refine (rw_at _ _ j c).trans ?_
  rw [hz, zero_add, hs]
  rfl

theorem mx_at (X c) : mx X (ix1 c) = Finset.fold max NI (fun x => X (ix2 x c)) Finset.univ := by
  pointwise [mx]

theorem mxx_at (P c) : mxx P (ix1 c) = max NI (P (ix1 c)) := by
  pointwise [mxx]

theorem ex_at (X M n c) : ex X M (ix2 n c) = Ideal.exp (X (ix2 n c) - M (ix1 c)) := by
  pointwise [ex]

theorem sm_at (P c) : sm P (ix2 0 c) = ∑ x, P (ix2 x c) := by
  pointwise [sm]

theorem isq_at (P c) : isq P (ix2 0 c) = Ideal.div 1 (P (ix2 0 c) * P (ix2 0 c)) := by
  pointwise [isq]

theorem nd_at (D c) : nd D (ix1 c) = ∑ x, -D (ix2 x c) := by
  pointwise [nd]

theorem rowg_at (P R n c) : rowg P R (ix2 n c) = (if n.val = 0 then P (ix1 c) else 0) + R (ix2 n c) := by
  pointwise [rowg]
  simp only [Nat.lt_one_iff, dite_eq_ite]

theorem dsum_at (G Q E c) : dsum G Q E (ix1 c) = ∑ x, G (ix2 x c) * Q (ix2 0 c) * E (ix2 x c) := by
  pointwise [dsum]

theorem dneg_at (P c) : dneg P (ix2 0 c) = -P (ix1 c) := by
  pointwise [dneg]

theorem dq_at (G P n c) : dq G P (ix2 n c) = Ideal.div (G (ix2 n c)) (P (ix2 0 c)) := by
  pointwise [dq]

theorem dl_at (A P E n c) : dl A P E (ix2 n c) = (A (ix2 n c) + P (ix2 0 c)) * E (ix2 n c) := by
  pointwise [dl]
  rw [Fin.sum_univ_one]

/-- The exponentials and the gradient of the probabilities, from the arguments. -/
abbrev E' (X : FVec Ideal S4x512 .f32) : FVec Ideal S4x512 .f32 := ex X (mxx (mx X))

abbrev G' (D : FVec Ideal S4x512 .f32) : FVec Ideal S4x512 .f32 := rowg (nd D) (rev D)

theorem e_at (X n c) : E' X (ix2 n c) = lx (col X c) n := by
  refine (ex_at _ _ n c).trans ?_
  rw [mxx_at, mx_at]
  exact congrArg (fun z => Ideal.exp (X (ix2 n c) - z)) (max_lm (col X c))

theorem g_at (D n c) : G' D (ix2 n c) = gR (col D c) n := by
  refine (rowg_at _ _ n c).trans ?_
  rw [nd_at, rev_at]
  rfl

/-- The result in closed form. -/
theorem d_at (X D n c) : dl (dq (G' D) (sm (E' X))) (dneg (dsum (G' D) (isq (sm (E' X))) (E' X))) (E' X) (ix2 n c)
    = dlR (col X c) (col D c) n := by
  refine (dl_at _ _ _ n c).trans ?_
  rw [dq_at, dneg_at, dsum_at, isq_at, sm_at]
  simp only [e_at, g_at]
  rfl

end Cert.LbReferenceIdeal.LbRef

end
-- ==== Proof.LbValue.lean ====
/- The lower bounds' gradient: what the output array holds after the run. -/
module

public import proofs.«01_k».proof.Proof.Gen.LbKernelIdeal.Value
public import proofs.«01_k».proof.Proof.LbRef

@[expose] public section

set_option maxRecDepth 16384

noncomputable section

open Idealize.ShloMosaic Idealize.ShloMosaic.TcCoe Idealize.SL.Sem

namespace Cert.LbKernelIdeal.LbValue

open Cert.LbKernelIdeal Cert.LbKernelIdeal.Gen Cert.Reals Cert.LbRow
open Cert.LbReferenceIdeal.LbRef (col)

variable (x0 x1 : FVec Ideal S4x512 .f32)

theorem s_at (n c) : k0_pay2 (F := Ideal) x0 (ix2 n c) = lp (col x0 c) n := by
  pointwise [k0_pay2]
  rfl

theorem g1_at (c) : k0_pay4 (F := Ideal) x1 (ix2 0 c) = gK (col x1 c) 1 := by
  pointwise [k0_pay4]
  rfl

theorem g2_at (c) : k0_pay5 (F := Ideal) x1 (ix2 0 c) = gK (col x1 c) 2 := by
  pointwise [k0_pay5]
  rfl

theorem g3_at (c) : k0_pay6 (F := Ideal) x1 (ix2 0 c) = gK (col x1 c) 3 := by
  pointwise [k0_pay6]
  rfl

theorem g0_at (c) : k0_pay3 (F := Ideal) (ix2 0 c) = gK (col x1 c) 0 := by
  pointwise [k0_pay3]
  rfl

theorem inner_at (c) : k0_pay7 (F := Ideal) x0 x1 (ix2 0 c)
    = gK (col x1 c) 0 * lp (col x0 c) 0 + gK (col x1 c) 1 * lp (col x0 c) 1 + gK (col x1 c) 2 * lp (col x0 c) 2
      + gK (col x1 c) 3 * lp (col x0 c) 3 := by
  rw [← s_at, ← s_at, ← s_at, ← s_at, ← g0_at, ← g1_at, ← g2_at, ← g3_at]
  generalize hs : k0_pay2 (F := Ideal) x0 = s
  generalize h1 : k0_pay4 (F := Ideal) x1 = a
  generalize h2 : k0_pay5 (F := Ideal) x1 = b
  generalize h3 : k0_pay6 (F := Ideal) x1 = d
  generalize h0 : k0_pay3 (F := Ideal) = e
  pointwise [k0_pay7, hs, h1, h2, h3, h0]

theorem row0 (c) : (k0_pay8 (F := Ideal) x0 x1) (ix2 0 c) = dlK (col x0 c) (col x1 c) 0 := by
  unfold dlK
  rw [← inner_at, ← s_at, ← g0_at]
  generalize hs : k0_pay2 (F := Ideal) x0 = s
  generalize hi : k0_pay7 (F := Ideal) x0 x1 = i
  generalize hg : k0_pay3 (F := Ideal) = g
  pointwise [k0_pay8, hs, hi, hg]

theorem row1 (c) : (k0_pay9 (F := Ideal) x0 x1) (ix2 0 c) = dlK (col x0 c) (col x1 c) 1 := by
  unfold dlK
  rw [← inner_at, ← s_at, ← g1_at]
  generalize hs : k0_pay2 (F := Ideal) x0 = s
  generalize hi : k0_pay7 (F := Ideal) x0 x1 = i
  generalize hg : k0_pay4 (F := Ideal) x1 = g
  pointwise [k0_pay9, hs, hi, hg]

theorem row2 (c) : (k0_pay10 (F := Ideal) x0 x1) (ix2 0 c) = dlK (col x0 c) (col x1 c) 2 := by
  unfold dlK
  rw [← inner_at, ← s_at, ← g2_at]
  generalize hs : k0_pay2 (F := Ideal) x0 = s
  generalize hi : k0_pay7 (F := Ideal) x0 x1 = i
  generalize hg : k0_pay5 (F := Ideal) x1 = g
  pointwise [k0_pay10, hs, hi, hg]

theorem row3 (c) : (k0_pay1 (F := Ideal) (k0_pay2 x0) (k0_pay6 x1) (k0_pay7 x0 x1)) (ix2 0 c) = dlK (col x0 c) (col x1 c) 3 := by
  unfold dlK
  rw [← inner_at, ← s_at, ← g3_at]
  generalize hs : k0_pay2 (F := Ideal) x0 = s
  generalize hi : k0_pay7 (F := Ideal) x0 x1 = i
  generalize hg : k0_pay6 (F := Ideal) x1 = g
  pointwise [k0_pay1, hs, hi, hg]

/-- The output array, from the arguments. -/
theorem out_at (n c) : Value.G2 (F := Ideal) x0 x1 (ix2 n c) = dlK (col x0 c) (col x1 c) n := by
  unfold Value.G2
  canon_tiles x h
  · have e0 : n.val = 3 + (x 0).val := h0
    have e1 : c.val = (x 1).val := h1
    have hx := (x 0).isLt
    obtain rfl : n = 3 := Fin.ext (by show n.val = 3; change (x 0).val < 1 at hx; omega)
    obtain rfl : x = ix2 0 c := by blk_ext <;> omega
    exact row3 x0 x1 c
  · have e0 : n.val = 2 + (x 0).val := h0
    have e1 : c.val = (x 1).val := h1
    have hx := (x 0).isLt
    obtain rfl : n = 2 := Fin.ext (by show n.val = 2; change (x 0).val < 1 at hx; omega)
    obtain rfl : x = ix2 0 c := by blk_ext <;> omega
    exact row2 x0 x1 c
  · have e0 : n.val = 1 + (x 0).val := h0
    have e1 : c.val = (x 1).val := h1
    have hx := (x 0).isLt
    obtain rfl : n = 1 := Fin.ext (by show n.val = 1; change (x 0).val < 1 at hx; omega)
    obtain rfl : x = ix2 0 c := by blk_ext <;> omega
    exact row1 x0 x1 c
  · have e0 : n.val = (x 0).val := h0
    have e1 : c.val = (x 1).val := h1
    have hx := (x 0).isLt
    obtain rfl : n = 0 := Fin.ext (by show n.val = 0; change (x 0).val < 1 at hx; omega)
    obtain rfl : x = ix2 0 c := by blk_ext <;> omega
    exact row0 x0 x1 c

end Cert.LbKernelIdeal.LbValue

end
-- ==== Proof.LbClaim.lean ====
/- The claims about the lower bounds' gradient. -/
module

public import proofs.«01_k».proof.Defs
public import proofs.«01_k».proof.Proof.Gen.LbKernel
public import proofs.«01_k».proof.Proof.Gen.LbKernel.Frame
public import proofs.«01_k».proof.Proof.Gen.LbReferenceIdeal.Run
public import proofs.«01_k».proof.Proof.LbValue

@[expose] public section

set_option maxRecDepth 16384

noncomputable section

open Idealize.ShloMosaic Idealize.SL.Sem

namespace Cert.Proof

open Cert.LbReferenceIdeal.LbRef Cert.Reals

/-- The shapes the precondition compares fit together. -/
instance pre_lb : Cert.Pre_finite_lb.Facts := ⟨by decide⟩

theorem frame_lb : quiescent_LbKernel := fun m ρ _ => Cert.LbKernel.Gen.frame m ρ

theorem frame_lbIdeal : quiescent_LbKernelIdeal := fun m ρ _ => Cert.LbKernelIdeal.Gen.frame m ρ

theorem frame_lbIdeal_pre : quiescent_LbKernelIdeal_pre_finite_lb := fun m ρ _ => Cert.LbKernelIdeal.Gen.frame m ρ

theorem frame_lbReference : quiescent_LbReferenceIdeal := fun m ρ _ =>
  (θ_run Cert.LbReferenceIdeal.defs _ _).mono
    (fun r h => ⟨fun c => (h c).2, sem_eq_zero_of_no_sems (by decide) r.2⟩)
    (Cert.LbReferenceIdeal.Value.run (F := Ideal) m ρ)

theorem frame_lbReference_pre : quiescent_LbReferenceIdeal_pre_finite_lb := fun m ρ _ => frame_lbReference m ρ trivial

/-- Where the precondition holds, both arguments are real numbers. -/
theorem real_lb (X D : FVec Ideal Cert.Pre_finite_lb.S4x512 .f32)
    (h : (Cert.Pre_finite_lb.fn X D).1 = (fun _ => 1#1) ∧ (Cert.Pre_finite_lb.fn X D).2 = (fun _ => 1#1)) :
    (∀ n c, ∃ x : ℝ, X (ix2 n c) = x) ∧ ∀ n c, ∃ x : ℝ, D (ix2 n c) = x := by
  refine ⟨fun n c => ?_, fun n c => ?_⟩
  · have := congrFun h.1 (ix2 n c)
    pointwise [Cert.Pre_finite_lb.fn] at this
    exact real_of_cmp this
  · have := congrFun h.2 (ix2 n c)
    pointwise [Cert.Pre_finite_lb.fn] at this
    exact real_of_cmp this

theorem res_lb (X D : FVec Ideal Cert.LbReferenceIdeal.S4x512 .f32) (hX : ∀ n c, ∃ x : ℝ, X (ix2 n c) = x) (hD : ∀ n c, ∃ x : ℝ, D (ix2 n c) = x) :
    dl (dq (G' D) (sm (E' X))) (dneg (dsum (G' D) (isq (sm (E' X))) (E' X))) (E' X)
      = Cert.LbKernelIdeal.Value.G2 (F := Ideal) X D := by
  funext j
  obtain ⟨n, c, rfl⟩ : ∃ (n : Fin 4) (c : Fin 512), j = ix2 n c := ⟨_, _, eq_ix2 j⟩
  rw [d_at, Cert.LbKernelIdeal.LbValue.out_at]
  exact Cert.LbRow.dl_eq _ _ (fun k => hX k c) (fun k => hD k c) n

set_option maxHeartbeats 2000000 in
/-- The gradient of the forget gates' lower bounds. -/
theorem algebraic_lb : algebraic_LbKernelIdeal_LbReferenceIdeal_pre_finite_lb := by
  pair_intro
  · run_from Cert.LbKernelIdeal.Value.run m g
  · have hr := fun c => real_lb _ _ (hpre c)
    run_from Cert.LbReferenceIdeal.Value.run m' g'
    refine Eq.trans ?_ (res_lb _ _ (hr c).1 (hr c).2)
    unfold dl dq G' sm E' dneg dsum isq rowg nd rev ex mxx mx
    rfl

end Cert.Proof

end
-- ==== Proof.LnFwd.lean ====
/- One row of a layer norm over the extended reals. -/
module

public import proofs.«01_k».proof.Proof.LnRow

@[expose] public section

noncomputable section

open Idealize.ShloMosaic

namespace Cert.Ln

/-- A row normalised, with its gain and shift. -/
def norm (z g b : Row) (j : Fin 1024) : EReal := xhat z j * g j + b j

/-- The residual row and the row of a product, before the norm. -/
def resid {K : Nat} (x : Row) (a : Fin K → EReal) (w : Fin K → Row) (j : Fin 1024) : EReal :=
  Ideal.ofBits .f32 0x3FD744FD#32 * x j + ∑ k, a k * w k j

end Cert.Ln

end
-- ==== Proof.WolnRef.lean ====
/- The reference of the forward call of the mixing projection, the residual and the norm: its results in closed form, row by row. -/
module

public import proofs.«01_k».proof.Proof.Gen.WolnReferenceIdeal.Run
public import proofs.«01_k».proof.Proof.LnFwd

@[expose] public section

set_option maxRecDepth 16384

noncomputable section

open Idealize.ShloMosaic Idealize.ShloMosaic.TcCoe Idealize.SL.Sem Idealize.ShloMosaic.StableHlo

namespace Cert.WolnReferenceIdeal.WolnRef

open Cert.WolnReferenceIdeal Cert.WolnReferenceIdeal.Gen Cert.Ln

/-- The rows before the norm. -/
def zz (a0 : FVec Ideal S2x4096x1024 .f32) (a1 : FVec Ideal S2x4096x1024 .f32) (a2 : FVec Ideal S1024x1024 .f32) : FVec Ideal S2x4096x1024 .f32 :=
  addf (mulf (broadcastInDim S2x4096x1024 ![] bcast_S_S2x4096x1024 (constant S_ .f32 0x3FD744FD#32)) a0) (Host.dotGeneral dot_S2x4096x1024_S1024x1024_S2x4096x1024_2_0_01_1_n_n none a1 a2)

/-- Their means. -/
def mu (zz_ : FVec Ideal S2x4096x1024 .f32) : FVec Ideal S2x4096x1 .f32 :=
  Host.divf (broadcastInDim S2x4096x1 ![0, 1] bcast_S2x4096_S2x4096x1_0_1 (Host.reduceAdd zz_ (constant S_ .f32 0x00000000#32) reducesTo_S2x4096x1024_S2x4096_d2 h_S_)) (broadcastInDim S2x4096x1 ![] bcast_S_S2x4096x1 (constant S_ .f32 0x44800000#32))

/-- One over the roots of their variances. -/
def sd (zz_ : FVec Ideal S2x4096x1024 .f32) (mu_ : FVec Ideal S2x4096x1 .f32) : FVec Ideal S2x4096x1 .f32 :=
  Host.rsqrt (addf (Host.divf (broadcastInDim S2x4096x1 ![0, 1] bcast_S2x4096_S2x4096x1_0_1 (Host.reduceAdd (mulf (subf zz_ (broadcastInDim S2x4096x1024 ![0, 1, 2] bcast_S2x4096x1_S2x4096x1024_0_1_2 mu_)) (subf zz_ (broadcastInDim S2x4096x1024 ![0, 1, 2] bcast_S2x4096x1_S2x4096x1024_0_1_2 mu_))) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x3727C5AC#32)))

/-- The normalised rows. -/
def yy (zz_ : FVec Ideal S2x4096x1024 .f32) (mu_ : FVec Ideal S2x4096x1 .f32) (sd_ : FVec Ideal S2x4096x1 .f32) (a3 : FVec Ideal S1024 .f32) (a4 : FVec Ideal S1024 .f32) : FVec Ideal S2x4096x1024 .f32 :=
  addf (mulf (mulf (subf zz_ (broadcastInDim S2x4096x1024 ![0, 1, 2] bcast_S2x4096x1_S2x4096x1024_0_1_2 mu_)) (broadcastInDim S2x4096x1024 ![0, 1, 2] bcast_S2x4096x1_S2x4096x1024_0_1_2 sd_)) (broadcastInDim S2x4096x1024 ![0, 1, 2] bcast_S1x1x1024_S2x4096x1024_0_1_2 (broadcastInDim S1x1x1024 ![2] bcast_S1024_S1x1x1024_2 a3))) (broadcastInDim S2x4096x1024 ![0, 1, 2] bcast_S1x1x1024_S2x4096x1024_0_1_2 (broadcastInDim S1x1x1024 ![2] bcast_S1024_S1x1x1024_2 a4))

/-- One row of an array over the two sequences. -/
def rowx {K : Nat} (z : FVec Ideal ⟨3, ![2, 4096, K]⟩ .f32) (b : Fin 2) (s : Fin 4096) (j : Fin K) : EReal := z (ix3 b s j)

/-- A weight by its rows, and a vector as a row. -/
def roww {K : Nat} (w : FVec Ideal ⟨2, ![K, 1024]⟩ .f32) (k : Fin K) : Row := fun j => w (ix2 k j)

def rowg (g : FVec Ideal S1024 .f32) : Row := fun j => g (ix1 j)

theorem zz_at (x a w b s j) : zz x a w (ix3 b s j) = resid (rowx x b s) (rowx a b s) (roww w) j := by
  pointwise [zz]
  rfl

theorem mu_at (z b s k) : mu z (ix3 b s k) = mean (rowx z b s) := by
  pointwise [mu]
  rfl

theorem sd_at (z M b s k) : sd z M (ix3 b s k)
    = Ideal.rsqrt (mean (fun j => (z (ix3 b s j) - M (ix3 b s 0)) * (z (ix3 b s j) - M (ix3 b s 0))) + Ideal.ofBits .f32 0x3727C5AC#32) := by
  pointwise [sd]
  rfl

theorem yy_at (z M S g h b s j) : yy z M S g h (ix3 b s j)
    = (z (ix3 b s j) - M (ix3 b s 0)) * S (ix3 b s 0) * rowg g j + rowg h j := by
  pointwise [yy]
  rfl

theorem y_at (z g h b s j) : yy z (mu z) (sd z (mu z)) g h (ix3 b s j) = norm (rowx z b s) (rowg g) (rowg h) j := by
  rw [yy_at, sd_at, mu_at]
  rfl

/-- The rows of both sequences set one below the other. -/
def flat (f : Fin 2 → Fin 4096 → Row) : FVec Ideal S8192x1024 .f32 := fun i =>
  f ⟨(i 0).val / 4096, by have : (i 0).val < 8192 := (i 0).isLt; omega⟩ ⟨(i 0).val % 4096, by omega⟩ (i 1)

theorem flat_of (z : FVec Ideal S2x4096x1024 .f32) (f : Fin 2 → Fin 4096 → Row) (h : ∀ b s j, z (ix3 b s j) = f b s j) :
    shapeCast S8192x1024 z shapeCasts_S2x4096x1024_S8192x1024 = flat f := by
  funext i
  obtain ⟨r, d, rfl⟩ : ∃ (r : Fin 8192) (d : Fin 1024), i = ix2 r d := ⟨_, _, eq_ix2 i⟩
  refine Eq.trans ?_ (h _ _ _)
  pointwise []

end Cert.WolnReferenceIdeal.WolnRef

end
-- ==== Proof.WolnValue.lean ====
/- The forward call of the mixing projection, the residual and the norm: what the three output arrays hold after the run, block by block. -/
module

public import proofs.«01_k».proof.Proof.Gen.WolnKernelIdeal.Value
public import proofs.«01_k».proof.Proof.WolnRef

@[expose] public section

set_option maxRecDepth 16384

noncomputable section

open Idealize.ShloMosaic Idealize.ShloMosaic.TcCoe Idealize.SL.Sem
open Idealize.ShloMosaic.Pipeline (Dat)

namespace Cert.WolnKernelIdeal.WolnValue

open Cert.WolnKernelIdeal Cert.WolnKernelIdeal.Gen Cert.Ln
open Cert.WolnReferenceIdeal.WolnRef (rowx roww rowg flat)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- One row of a block. -/
def brow {R K : Nat} {e : FTy} (x : FVec Ideal ⟨2, ![R, K]⟩ e) (r : Fin R) (j : Fin K) : EReal := x (ix2 r j)

section Tile

variable (x0 : FVec Ideal S512x1024 .bf16) (x1 : FVec Ideal S1024x1024 .bf16) (x2 : FVec Ideal S512x1024 .f32)
  (x3 x4 : FVec Ideal S1x1024 .f32)

/-- What a point leaves in its blocks. -/
abbrev BZ : FVec Ideal S512x1024 .f32 := k0_pay2 (F := Ideal) x2 x0 x1

abbrev BY : FVec Ideal S512x1024 .f32 := k0_pay3 (F := Ideal) x2 x0 x1 x3 x4

theorem z_at (r j) : BZ x0 x1 x2 (ix2 r j) = resid (brow x2 r) (brow x0 r) (brow x1) j := by
  pointwise [k0_pay2]
  rfl

theorem y_at (r j) : BY x0 x1 x2 x3 x4 (ix2 r j)
    = norm (resid (brow x2 r) (brow x0 r) (brow x1)) (brow x3 0) (brow x4 0) j := by
  pointwise [k0_pay3]
  simp only [z_at]
  rfl

theorem yb_at (r j) : ((k0_pay1 (F := Ideal) (BY x0 x1 x2 x3 x4) (ix2 r j) : Ideal .bf16) : EReal) = BY x0 x1 x2 x3 x4 (ix2 r j) := rfl

end Tile

variable (m : (ℓ : Loc nD τ sig) → Buf (Elt Ideal) ℓ)

/-- The arguments on one device. -/
abbrev aX (c : Dev nD) : FVec Ideal S2x4096x1024 .f32 := m ((c : Thread nD τ).loc main_arg0)

abbrev aA (c : Dev nD) : FVec Ideal S2x4096x1024 .f32 := m ((c : Thread nD τ).loc main_arg1)

abbrev aW (c : Dev nD) : FVec Ideal S1024x1024 .f32 := m ((c : Thread nD τ).loc main_arg2)

abbrev aG (c : Dev nD) : FVec Ideal S1024 .f32 := m ((c : Thread nD τ).loc main_arg3)

abbrev aB (c : Dev nD) : FVec Ideal S1024 .f32 := m ((c : Thread nD τ).loc main_arg4)

/-- A point's blocks are its stretch of 512 rows. -/
theorem blk0 (c : Dev nD) (t : Fin cfg0.N) (r : Fin 512) (b : Fin 2) (s : Fin 4096)
    (e : b.val * 4096 + s.val = t.val * 512 + r.val) : brow (e := .bf16) (iblk m c 0 t) r = rowx (aA m c) b s := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  funext d
  unfold brow rowx
  blk_point [iblk, V, idx t]

theorem blk2 (c : Dev nD) (t : Fin cfg0.N) (r : Fin 512) (b : Fin 2) (s : Fin 4096)
    (e : b.val * 4096 + s.val = t.val * 512 + r.val) : brow (e := .f32) (iblk m c 2 t) r = rowx (aX m c) b s := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  funext d
  unfold brow rowx
  blk_point [iblk, V, idx t]

/-- The weight, the gain and the shift are whole at every point. -/
theorem blk1 (c : Dev nD) (t : Fin cfg0.N) : brow (e := .bf16) (iblk m c 1 t) = roww (aW m c) := by
  funext k d
  unfold brow roww
  blk_point [iblk, V, idx t]

theorem blk3 (c : Dev nD) (t : Fin cfg0.N) : brow (e := .f32) (iblk m c 3 t) 0 = rowg (aG m c) := by
  funext d
  unfold brow rowg
  blk_point [iblk, V, idx t]

theorem blk4 (c : Dev nD) (t : Fin cfg0.N) : brow (e := .f32) (iblk m c 4 t) 0 = rowg (aB m c) := by
  funext d
  unfold brow rowg
  blk_point [iblk, V, idx t]

theorem emb5 (t : Fin cfg0.N) (r : Fin 512) (d : Fin 1024) (h : t.val * 512 + r.val < 8192) :
    ((cfg0.win 5).blk t).view.emb (ix2 r d) = ix2 ⟨t.val * 512 + r.val, h⟩ d := by
  blk_ext [idx t]

theorem emb6 (t : Fin cfg0.N) (r : Fin 512) (d : Fin 1024) (h : t.val * 512 + r.val < 8192) :
    ((cfg0.win 6).blk t).view.emb (ix2 r d) = ix2 ⟨t.val * 512 + r.val, h⟩ d := by
  blk_ext [idx t]

theorem emb7 (t : Fin cfg0.N) (r : Fin 512) (d : Fin 1024) (h : t.val * 512 + r.val < 8192) :
    ((cfg0.win 7).blk t).view.emb (ix2 r d) = ix2 ⟨t.val * 512 + r.val, h⟩ d := by
  blk_ext [idx t]

/-- The row before the norm of each token, and the normalised row. -/
def zrow (X : FVec Ideal S2x4096x1024 .f32) (A : FVec Ideal S2x4096x1024 .f32) (W : FVec Ideal S1024x1024 .f32) (b : Fin 2)
    (s : Fin 4096) : Row :=
  resid (rowx X b s) (rowx A b s) (roww W)

def yrow (X : FVec Ideal S2x4096x1024 .f32) (A : FVec Ideal S2x4096x1024 .f32) (W : FVec Ideal S1024x1024 .f32)
    (G B : FVec Ideal S1024 .f32) (b : Fin 2) (s : Fin 4096) : Row :=
  norm (zrow X A W b s) (rowg G) (rowg B)

theorem point_z (c : Dev nD) (t : Fin cfg0.N) (y) :
    BZ (iblk m c 0 t) (iblk m c 1 t) (iblk m c 2 t) y
      = flat (zrow (aX m c) (aA m c) (aW m c)) (((cfg0.win 5).blk t).view.emb y) := by
  obtain ⟨r, j, rfl⟩ : ∃ (r : Fin 512) (j : Fin 1024), y = ix2 r j := ⟨_, _, eq_ix2 y⟩
  have ht : t.val < 16 := t.isLt
  rw [emb5 t r j (by omega), z_at, blk0 m c t r ⟨(t.val * 512 + r.val) / 4096, by omega⟩ ⟨(t.val * 512 + r.val) % 4096, by omega⟩
    (by show _ / 4096 * 4096 + _ % 4096 = _; omega), blk1, blk2 m c t r ⟨(t.val * 512 + r.val) / 4096, by omega⟩
    ⟨(t.val * 512 + r.val) % 4096, by omega⟩ (by show _ / 4096 * 4096 + _ % 4096 = _; omega)]
  rfl

theorem point_y (c : Dev nD) (t : Fin cfg0.N) (r : Fin 512) (j : Fin 1024) (h : t.val * 512 + r.val < 8192) :
    BY (iblk m c 0 t) (iblk m c 1 t) (iblk m c 2 t) (iblk m c 3 t) (iblk m c 4 t) (ix2 r j)
      = flat (yrow (aX m c) (aA m c) (aW m c) (aG m c) (aB m c)) (ix2 ⟨t.val * 512 + r.val, h⟩ j) := by
  have ht : t.val < 16 := t.isLt
  rw [y_at, blk0 m c t r ⟨(t.val * 512 + r.val) / 4096, by omega⟩ ⟨(t.val * 512 + r.val) % 4096, by omega⟩
    (by show _ / 4096 * 4096 + _ % 4096 = _; omega), blk1, blk2 m c t r ⟨(t.val * 512 + r.val) / 4096, by omega⟩
    ⟨(t.val * 512 + r.val) % 4096, by omega⟩ (by show _ / 4096 * 4096 + _ % 4096 = _; omega), blk3, blk4]
  rfl

theorem final_z (c : Dev nD) : (dats m 0 c).arrAt 5 (cfgs 0).N = flat (zrow (aX m c) (aA m c) (aW m c)) := by
  refine (dats m 0 c).arrAt_eq_of_covers 5 _ (by decide +kernel) fun t _ y => ?_
  blk_simp
  rw [after0_5]
  frame_out
  exact point_z m c t y

theorem final_y (c : Dev nD) :
    (dats m 0 c).arrAt 6 (cfgs 0).N = flat (yrow (aX m c) (aA m c) (aW m c) (aG m c) (aB m c)) := by
  refine (dats m 0 c).arrAt_eq_of_covers 6 _ (by decide +kernel) fun t _ y => ?_
  blk_simp
  rw [after0_6]
  frame_out
  obtain ⟨r, j, rfl⟩ : ∃ (r : Fin 512) (j : Fin 1024), y = ix2 r j := ⟨_, _, eq_ix2 y⟩
  have ht : t.val < 16 := t.isLt
  exact (point_y m c t r j (by omega)).trans (congrArg _ (emb6 t r j (by omega)).symm)

theorem final_b (c : Dev nD) : (dats m 0 c).arrAt 7 (cfgs 0).N
    = truncf .bf16 (flat (yrow (aX m c) (aA m c) (aW m c) (aG m c) (aB m c))) bitsLt_bf16_f32 := by
  refine (dats m 0 c).arrAt_eq_of_covers 7 _ (by decide +kernel) fun t _ y => ?_
  blk_simp
  rw [after0_7]
  frame_out
  obtain ⟨r, j, rfl⟩ : ∃ (r : Fin 512) (j : Fin 1024), y = ix2 r j := ⟨_, _, eq_ix2 y⟩
  have ht : t.val < 16 := t.isLt
  exact (yb_at (iblk m c 0 t) (iblk m c 1 t) (iblk m c 2 t) (iblk m c 3 t) (iblk m c 4 t) r j).trans ((point_y m c t r j (by omega)).trans (congrArg (flat (yrow (aX m c) (aA m c) (aW m c) (aG m c) (aB m c))) (emb7 t r j (by omega)).symm))

end Cert.WolnKernelIdeal.WolnValue

end
-- ==== Proof.WolnClaim.lean ====
/- The claims about the forward call of the mixing projection, the residual and the norm. -/
module

public import proofs.«01_k».proof.Defs
public import proofs.«01_k».proof.Proof.Gen.WolnKernel
public import proofs.«01_k».proof.Proof.Gen.WolnKernel.Frame
public import proofs.«01_k».proof.Proof.Gen.WolnReferenceIdeal.Run
public import proofs.«01_k».proof.Proof.WolnValue

@[expose] public section

set_option maxRecDepth 16384

noncomputable section

open Idealize.ShloMosaic Idealize.ShloMosaic.TcCoe Idealize.SL.Sem

namespace Cert.Proof

open Cert.WolnReferenceIdeal.WolnRef Cert.WolnKernelIdeal.WolnValue Cert.WolnReferenceIdeal.Gen

theorem frame_woln : quiescent_WolnKernel := fun m ρ _ => Cert.WolnKernel.Gen.frame m ρ

theorem frame_wolnIdeal : quiescent_WolnKernelIdeal := fun m ρ _ => Cert.WolnKernelIdeal.Gen.frame m ρ

theorem frame_wolnReference : quiescent_WolnReferenceIdeal := fun m ρ _ =>
  (θ_run Cert.WolnReferenceIdeal.defs _ _).mono
    (fun r h => ⟨fun c => (h c).2.2.2, sem_eq_zero_of_no_sems (by decide) r.2⟩)
    (Cert.WolnReferenceIdeal.Value.run (F := Ideal) m ρ)

theorem woln_z (X A W) : shapeCast Cert.WolnReferenceIdeal.S8192x1024 (zz X A W)
    Cert.WolnReferenceIdeal.Gen.shapeCasts_S2x4096x1024_S8192x1024 = flat (zrow X A W) :=
  flat_of _ _ fun b s j => zz_at X A W b s j

theorem woln_y (X A W G B) :
    shapeCast Cert.WolnReferenceIdeal.S8192x1024 (yy (zz X A W) (mu (zz X A W)) (sd (zz X A W) (mu (zz X A W))) G B)
      Cert.WolnReferenceIdeal.Gen.shapeCasts_S2x4096x1024_S8192x1024 = flat (yrow X A W G B) :=
  flat_of _ _ fun b s j => (y_at _ G B b s j).trans
    (congrArg (fun z => Cert.Ln.norm z (rowg G) (rowg B) j) (funext fun k => zz_at X A W b s k))

set_option maxHeartbeats 2000000 in
/-- The rows before the norm, the normalised rows, and these once more in the narrower format. -/
theorem algebraic_woln : algebraic_WolnKernelIdeal_WolnReferenceIdeal := by
  pair_intro
  · run_from Cert.WolnKernelIdeal.Value.run_blocks m g
  · run_from Cert.WolnReferenceIdeal.Value.run m' g'
    · refine Eq.trans ?_ ((woln_z _ _ _).trans (final_z m c).symm)
      unfold zz
      rfl
    · refine Eq.trans ?_ ((woln_y _ _ _ _ _).trans (final_y m c).symm)
      unfold yy sd mu zz
      rfl
    · refine Eq.trans ?_ ((congrArg (fun z => truncf (F := Ideal) .bf16 z Cert.WolnReferenceIdeal.Gen.bitsLt_bf16_f32) (woln_y _ _ _ _ _)).trans (final_b m c).symm)
      unfold yy sd mu zz
      rfl

end Cert.Proof

end
-- ==== Proof.DownlnRef.lean ====
/- The reference of the forward call of the narrowing product, the residual and the norm: its results in closed form, row by row. -/
module

public import proofs.«01_k».proof.Proof.Gen.DownlnReferenceIdeal.Run
public import proofs.«01_k».proof.Proof.LnFwd

@[expose] public section

set_option maxRecDepth 16384

noncomputable section

open Idealize.ShloMosaic Idealize.ShloMosaic.TcCoe Idealize.SL.Sem Idealize.ShloMosaic.StableHlo

namespace Cert.DownlnReferenceIdeal.DownlnRef

open Cert.DownlnReferenceIdeal Cert.DownlnReferenceIdeal.Gen Cert.Ln

/-- The rows before the norm. -/
def zz (a0 : FVec Ideal S2x4096x1024 .f32) (a1 : FVec Ideal S2x4096x4096 .f32) (a2 : FVec Ideal S4096x1024 .f32) : FVec Ideal S2x4096x1024 .f32 :=
  addf (mulf (broadcastInDim S2x4096x1024 ![] bcast_S_S2x4096x1024 (constant S_ .f32 0x3FD744FD#32)) a0) (Host.dotGeneral dot_S2x4096x4096_S4096x1024_S2x4096x1024_2_0_01_1_n_n none a1 a2)

/-- Their means. -/
def mu (zz_ : FVec Ideal S2x4096x1024 .f32) : FVec Ideal S2x4096x1 .f32 :=
  Host.divf (broadcastInDim S2x4096x1 ![0, 1] bcast_S2x4096_S2x4096x1_0_1 (Host.reduceAdd zz_ (constant S_ .f32 0x00000000#32) reducesTo_S2x4096x1024_S2x4096_d2 h_S_)) (broadcastInDim S2x4096x1 ![] bcast_S_S2x4096x1 (constant S_ .f32 0x44800000#32))

/-- One over the roots of their variances. -/
def sd (zz_ : FVec Ideal S2x4096x1024 .f32) (mu_ : FVec Ideal S2x4096x1 .f32) : FVec Ideal S2x4096x1 .f32 :=
  Host.rsqrt (addf (Host.divf (broadcastInDim S2x4096x1 ![0, 1] bcast_S2x4096_S2x4096x1_0_1 (Host.reduceAdd (mulf (subf zz_ (broadcastInDim S2x4096x1024 ![0, 1, 2] bcast_S2x4096x1_S2x4096x1024_0_1_2 mu_)) (subf zz_ (broadcastInDim S2x4096x1024 ![0, 1, 2] bcast_S2x4096x1_S2x4096x1024_0_1_2 mu_))) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x3727C5AC#32)))

/-- The normalised rows. -/
def yy (zz_ : FVec Ideal S2x4096x1024 .f32) (mu_ : FVec Ideal S2x4096x1 .f32) (sd_ : FVec Ideal S2x4096x1 .f32) (a3 : FVec Ideal S1024 .f32) (a4 : FVec Ideal S1024 .f32) : FVec Ideal S2x4096x1024 .f32 :=
  addf (mulf (mulf (subf zz_ (broadcastInDim S2x4096x1024 ![0, 1, 2] bcast_S2x4096x1_S2x4096x1024_0_1_2 mu_)) (broadcastInDim S2x4096x1024 ![0, 1, 2] bcast_S2x4096x1_S2x4096x1024_0_1_2 sd_)) (broadcastInDim S2x4096x1024 ![0, 1, 2] bcast_S1x1x1024_S2x4096x1024_0_1_2 (broadcastInDim S1x1x1024 ![2] bcast_S1024_S1x1x1024_2 a3))) (broadcastInDim S2x4096x1024 ![0, 1, 2] bcast_S1x1x1024_S2x4096x1024_0_1_2 (broadcastInDim S1x1x1024 ![2] bcast_S1024_S1x1x1024_2 a4))

/-- One row of an array over the two sequences. -/
def rowx {K : Nat} (z : FVec Ideal ⟨3, ![2, 4096, K]⟩ .f32) (b : Fin 2) (s : Fin 4096) (j : Fin K) : EReal := z (ix3 b s j)

/-- A weight by its rows, and a vector as a row. -/
def roww {K : Nat} (w : FVec Ideal ⟨2, ![K, 1024]⟩ .f32) (k : Fin K) : Row := fun j => w (ix2 k j)

def rowg (g : FVec Ideal S1024 .f32) : Row := fun j => g (ix1 j)

theorem zz_at (x a w b s j) : zz x a w (ix3 b s j) = resid (rowx x b s) (rowx a b s) (roww w) j := by
  pointwise [zz]
  rfl

theorem mu_at (z b s k) : mu z (ix3 b s k) = mean (rowx z b s) := by
  pointwise [mu]
  rfl

theorem sd_at (z M b s k) : sd z M (ix3 b s k)
    = Ideal.rsqrt (mean (fun j => (z (ix3 b s j) - M (ix3 b s 0)) * (z (ix3 b s j) - M (ix3 b s 0))) + Ideal.ofBits .f32 0x3727C5AC#32) := by
  pointwise [sd]
  rfl

theorem yy_at (z M S g h b s j) : yy z M S g h (ix3 b s j)
    = (z (ix3 b s j) - M (ix3 b s 0)) * S (ix3 b s 0) * rowg g j + rowg h j := by
  pointwise [yy]
  rfl

theorem y_at (z g h b s j) : yy z (mu z) (sd z (mu z)) g h (ix3 b s j) = norm (rowx z b s) (rowg g) (rowg h) j := by
  rw [yy_at, sd_at, mu_at]
  rfl

/-- The rows of both sequences set one below the other. -/
def flat (f : Fin 2 → Fin 4096 → Row) : FVec Ideal S8192x1024 .f32 := fun i =>
  f ⟨(i 0).val / 4096, by have : (i 0).val < 8192 := (i 0).isLt; omega⟩ ⟨(i 0).val % 4096, by omega⟩ (i 1)

theorem flat_of (z : FVec Ideal S2x4096x1024 .f32) (f : Fin 2 → Fin 4096 → Row) (h : ∀ b s j, z (ix3 b s j) = f b s j) :
    shapeCast S8192x1024 z shapeCasts_S2x4096x1024_S8192x1024 = flat f := by
  funext i
  obtain ⟨r, d, rfl⟩ : ∃ (r : Fin 8192) (d : Fin 1024), i = ix2 r d := ⟨_, _, eq_ix2 i⟩
  refine Eq.trans ?_ (h _ _ _)
  pointwise []

end Cert.DownlnReferenceIdeal.DownlnRef

end
-- ==== Proof.DownlnValue.lean ====
/- The forward call of the narrowing product, the residual and the norm: what the three output arrays hold after the run, block by block. -/
module

public import proofs.«01_k».proof.Proof.Gen.DownlnKernelIdeal.Value
public import proofs.«01_k».proof.Proof.DownlnRef

@[expose] public section

set_option maxRecDepth 16384

noncomputable section

open Idealize.ShloMosaic Idealize.ShloMosaic.TcCoe Idealize.SL.Sem
open Idealize.ShloMosaic.Pipeline (Dat)

namespace Cert.DownlnKernelIdeal.DownlnValue

open Cert.DownlnKernelIdeal Cert.DownlnKernelIdeal.Gen Cert.Ln
open Cert.DownlnReferenceIdeal.DownlnRef (rowx roww rowg flat)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- One row of a block. -/
def brow {R K : Nat} {e : FTy} (x : FVec Ideal ⟨2, ![R, K]⟩ e) (r : Fin R) (j : Fin K) : EReal := x (ix2 r j)

section Tile

/-- Two tiles of 256 rows, one below the other. -/
def half (p0 p1 : FVec Ideal S256x1024 .f32) : FVec Ideal S512x1024 .f32 :=
  View.canon (Val := Elt Ideal) (e := .f32) [⟨r0_1, p1⟩, ⟨r0_0, p0⟩]

def halfb (p0 p1 : FVec Ideal S256x1024 .bf16) : FVec Ideal S512x1024 .bf16 :=
  View.canon (Val := Elt Ideal) (e := .bf16) [⟨r0_1, p1⟩, ⟨r0_0, p0⟩]

theorem half_at (p0 p1) (r : Fin 512) (j : Fin 1024) : half p0 p1 (ix2 r j)
    = if h : r.val < 256 then p0 (ix2 ⟨r.val, h⟩ j) else p1 (ix2 ⟨r.val - 256, by omega⟩ j) := by
  unfold half
  canon_tiles x h
  · have h0' : r.val = 256 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 256 := (x 0).isLt
    rw [dif_pos (by omega)]
    exact congrArg p0 (by blk_ext <;> omega)

theorem halfb_at (p0 p1) (r : Fin 512) (j : Fin 1024) : halfb p0 p1 (ix2 r j)
    = if h : r.val < 256 then p0 (ix2 ⟨r.val, h⟩ j) else p1 (ix2 ⟨r.val - 256, by omega⟩ j) := by
  unfold halfb
  canon_tiles x h
  · have h0' : r.val = 256 + (x 0).val := h0
    have h1' : j.val = (x 1).val := h1
    rw [dif_neg (by omega)]
    exact congrArg p1 (by blk_ext <;> omega)
  · have h0' : r.val = (x 0).val := h0
    have h1' : j.val = (x 1).val := h1
    have h2 : (x 0).val < 256 := (x 0).isLt
    rw [dif_pos (by omega)]
    exact congrArg p0 (by blk_ext <;> omega)

/-- Loads of half a block, and of a whole one. -/
theorem rows0 (o : ℕ) (x : FVec Ideal S512x4096 .bf16) (hh) (q : Fin 256) (r : Fin 512) (h : r.val = o + q.val) :
    brow (e := .bf16) (View.ld (Val := Elt Ideal) (e' := .bf16) x (Rect.unit (s := S512x4096) ![o, 0] ![256, 4096] hh)) q
      = brow x r := by
  funext k
  exact congrArg x (by blk_ext <;> simp [h])

theorem rows2 (o : ℕ) (x : FVec Ideal S512x1024 .f32) (hh) (q : Fin 256) (r : Fin 512) (h : r.val = o + q.val) :
    brow (e := .f32) (View.ld (Val := Elt Ideal) (e' := .f32) x (Rect.unit (s := S512x1024) ![o, 0] ![256, 1024] hh)) q
      = brow x r := by
  funext k
  exact congrArg x (by blk_ext <;> simp [h])

theorem rows1 (x : FVec Ideal S4096x1024 .bf16) :
    brow (e := .bf16) (View.ld (Val := Elt Ideal) (e' := .bf16) x r0_4) = brow x := by
  funext q k
  exact congrArg x (by blk_ext <;> simp)

theorem rows3 (x : FVec Ideal S1x1024 .f32) :
    brow (e := .f32) (View.ld (Val := Elt Ideal) (e' := .f32) x r0_5) = brow x := by
  funext q k
  exact congrArg x (by blk_ext <;> simp)

theorem p8_at (x : FVec Ideal S256x1024 .f32) (a : FVec Ideal S256x4096 .bf16) (w : FVec Ideal S4096x1024 .bf16) (q j) :
    k0_pay8 (F := Ideal) x a w (ix2 q j) = resid (brow x q) (brow a q) (brow w) j := by
  pointwise [k0_pay8, k0_pay7]
  rfl

theorem p9_at (x : FVec Ideal S256x1024 .f32) (a : FVec Ideal S256x4096 .bf16) (w : FVec Ideal S4096x1024 .bf16) (q j) :
    k0_pay9 (F := Ideal) x a w (ix2 q j) = resid (brow x q) (brow a q) (brow w) j := by
  pointwise [k0_pay9, k0_pay7]
  rfl

theorem p3_at (x : FVec Ideal S256x1024 .f32) (a : FVec Ideal S256x4096 .bf16) (w : FVec Ideal S4096x1024 .bf16)
    (g b : FVec Ideal S1x1024 .f32) (q j) :
    k0_pay3 (F := Ideal) (k0_pay10 x a w) (k0_pay12 x a w) g b (ix2 q j)
      = norm (resid (brow x q) (brow a q) (brow w)) (brow g 0) (brow b 0) j := by
  pointwise [k0_pay3, k0_pay1, k0_pay2, k0_pay10, k0_pay12]
  simp only [p8_at]
  rfl

theorem p4_at (x : FVec Ideal S256x1024 .f32) (a : FVec Ideal S256x4096 .bf16) (w : FVec Ideal S4096x1024 .bf16)
    (g b : FVec Ideal S1x1024 .f32) (q j) :
    k0_pay4 (F := Ideal) (k0_pay11 x a w) (k0_pay13 x a w) g b (ix2 q j)
      = norm (resid (brow x q) (brow a q) (brow w)) (brow g 0) (brow b 0) j := by
  pointwise [k0_pay4, k0_pay1, k0_pay2, k0_pay11, k0_pay13]
  simp only [p9_at]
  rfl

variable (x0 : FVec Ideal S512x4096 .bf16) (x1 : FVec Ideal S4096x1024 .bf16) (x2 : FVec Ideal S512x1024 .f32)
  (x3 x4 : FVec Ideal S1x1024 .f32)

/-- What a point leaves in its blocks. -/
abbrev BZ : FVec Ideal S512x1024 .f32 :=
  half (k0_pay8 (F := Ideal) (View.ld x2 r0_0) (View.ld x0 r0_2) (View.ld x1 r0_4))
    (k0_pay9 (F := Ideal) (View.ld x2 r0_1) (View.ld x0 r0_3) (View.ld x1 r0_4))

abbrev YA : FVec Ideal S256x1024 .f32 :=
  k0_pay3 (F := Ideal) (k0_pay10 (View.ld x2 r0_0) (View.ld x0 r0_2) (View.ld x1 r0_4))
    (k0_pay12 (View.ld x2 r0_0) (View.ld x0 r0_2) (View.ld x1 r0_4)) (View.ld x3 r0_5) (View.ld x4 r0_5)

abbrev YB : FVec Ideal S256x1024 .f32 :=
  k0_pay4 (F := Ideal) (k0_pay11 (View.ld x2 r0_1) (View.ld x0 r0_3) (View.ld x1 r0_4))
    (k0_pay13 (View.ld x2 r0_1) (View.ld x0 r0_3) (View.ld x1 r0_4)) (View.ld x3 r0_5) (View.ld x4 r0_5)

abbrev BY : FVec Ideal S512x1024 .f32 := half (YA x0 x1 x2 x3 x4) (YB x0 x1 x2 x3 x4)

abbrev BB : FVec Ideal S512x1024 .bf16 :=
  halfb (truncf (F := Ideal) .bf16 (YA x0 x1 x2 x3 x4) bitsLt_bf16_f32) (truncf (F := Ideal) .bf16 (YB x0 x1 x2 x3 x4) bitsLt_bf16_f32)

theorem z_at (r j) : BZ x0 x1 x2 (ix2 r j) = resid (brow x2 r) (brow x0 r) (brow x1) j := by
  refine (half_at _ _ r j).trans ?_
  split
  · rename_i h
    rw [p8_at]
    exact congr (congr (congr (congrArg resid (rows2 0 x2 _ _ r (Nat.zero_add _).symm)) (rows0 0 x0 _ _ r (Nat.zero_add _).symm))
      (rows1 x1)) rfl
  · rename_i h
    rw [p9_at]
    have e : r.val = 256 + (r.val - 256) := by omega
    exact congr (congr (congr (congrArg resid (rows2 256 x2 _ ⟨r.val - 256, by omega⟩ r e)) (rows0 256 x0 _ ⟨r.val - 256, by omega⟩ r e))
      (rows1 x1)) rfl

theorem y_at (r j) : BY x0 x1 x2 x3 x4 (ix2 r j)
    = norm (resid (brow x2 r) (brow x0 r) (brow x1)) (brow x3 0) (brow x4 0) j := by
  refine (half_at _ _ r j).trans ?_
  split
  · rename_i h
    refine (p3_at _ _ _ _ _ _ j).trans ?_
    exact congr (congr (congr (congrArg norm (congr (congr (congrArg resid (rows2 0 x2 _ _ r (Nat.zero_add _).symm))
      (rows0 0 x0 _ _ r (Nat.zero_add _).symm)) (rows1 x1))) (congrFun (rows3 x3) 0)) (congrFun (rows3 x4) 0)) rfl
  · rename_i h
    refine (p4_at _ _ _ _ _ _ j).trans ?_
    have e : r.val = 256 + (r.val - 256) := by omega
    exact congr (congr (congr (congrArg norm (congr (congr (congrArg resid (rows2 256 x2 _ ⟨r.val - 256, by omega⟩ r e))
      (rows0 256 x0 _ ⟨r.val - 256, by omega⟩ r e)) (rows1 x1))) (congrFun (rows3 x3) 0)) (congrFun (rows3 x4) 0)) rfl

theorem yb_at (r j) : ((BB x0 x1 x2 x3 x4 (ix2 r j) : Ideal .bf16) : EReal) = BY x0 x1 x2 x3 x4 (ix2 r j) := by
  refine (halfb_at _ _ r j).trans (Eq.trans ?_ (half_at _ _ r j).symm)
  split <;> rfl

end Tile

variable (m : (ℓ : Loc nD τ sig) → Buf (Elt Ideal) ℓ)

/-- The arguments on one device. -/
abbrev aX (c : Dev nD) : FVec Ideal S2x4096x1024 .f32 := m ((c : Thread nD τ).loc main_arg0)

abbrev aA (c : Dev nD) : FVec Ideal S2x4096x4096 .f32 := m ((c : Thread nD τ).loc main_arg1)

abbrev aW (c : Dev nD) : FVec Ideal S4096x1024 .f32 := m ((c : Thread nD τ).loc main_arg2)

abbrev aG (c : Dev nD) : FVec Ideal S1024 .f32 := m ((c : Thread nD τ).loc main_arg3)

abbrev aB (c : Dev nD) : FVec Ideal S1024 .f32 := m ((c : Thread nD τ).loc main_arg4)

/-- A point's blocks are its stretch of 512 rows. -/
theorem blk0 (c : Dev nD) (t : Fin cfg0.N) (r : Fin 512) (b : Fin 2) (s : Fin 4096)
    (e : b.val * 4096 + s.val = t.val * 512 + r.val) : brow (e := .bf16) (iblk m c 0 t) r = rowx (aA m c) b s := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  funext d
  unfold brow rowx
  blk_point [iblk, V, idx t]

theorem blk2 (c : Dev nD) (t : Fin cfg0.N) (r : Fin 512) (b : Fin 2) (s : Fin 4096)
    (e : b.val * 4096 + s.val = t.val * 512 + r.val) : brow (e := .f32) (iblk m c 2 t) r = rowx (aX m c) b s := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  funext d
  unfold brow rowx
  blk_point [iblk, V, idx t]

/-- The weight, the gain and the shift are whole at every point. -/
theorem blk1 (c : Dev nD) (t : Fin cfg0.N) : brow (e := .bf16) (iblk m c 1 t) = roww (aW m c) := by
  funext k d
  unfold brow roww
  blk_point [iblk, V, idx t]

theorem blk3 (c : Dev nD) (t : Fin cfg0.N) : brow (e := .f32) (iblk m c 3 t) 0 = rowg (aG m c) := by
  funext d
  unfold brow rowg
  blk_point [iblk, V, idx t]

theorem blk4 (c : Dev nD) (t : Fin cfg0.N) : brow (e := .f32) (iblk m c 4 t) 0 = rowg (aB m c) := by
  funext d
  unfold brow rowg
  blk_point [iblk, V, idx t]

theorem emb5 (t : Fin cfg0.N) (r : Fin 512) (d : Fin 1024) (h : t.val * 512 + r.val < 8192) :
    ((cfg0.win 5).blk t).view.emb (ix2 r d) = ix2 ⟨t.val * 512 + r.val, h⟩ d := by
  blk_ext [idx t]

theorem emb6 (t : Fin cfg0.N) (r : Fin 512) (d : Fin 1024) (h : t.val * 512 + r.val < 8192) :
    ((cfg0.win 6).blk t).view.emb (ix2 r d) = ix2 ⟨t.val * 512 + r.val, h⟩ d := by
  blk_ext [idx t]

theorem emb7 (t : Fin cfg0.N) (r : Fin 512) (d : Fin 1024) (h : t.val * 512 + r.val < 8192) :
    ((cfg0.win 7).blk t).view.emb (ix2 r d) = ix2 ⟨t.val * 512 + r.val, h⟩ d := by
  blk_ext [idx t]

/-- The row before the norm of each token, and the normalised row. -/
def zrow (X : FVec Ideal S2x4096x1024 .f32) (A : FVec Ideal S2x4096x4096 .f32) (W : FVec Ideal S4096x1024 .f32) (b : Fin 2)
    (s : Fin 4096) : Row :=
  resid (rowx X b s) (rowx A b s) (roww W)

def yrow (X : FVec Ideal S2x4096x1024 .f32) (A : FVec Ideal S2x4096x4096 .f32) (W : FVec Ideal S4096x1024 .f32)
    (G B : FVec Ideal S1024 .f32) (b : Fin 2) (s : Fin 4096) : Row :=
  norm (zrow X A W b s) (rowg G) (rowg B)

theorem point_z (c : Dev nD) (t : Fin cfg0.N) (y) :
    BZ (iblk m c 0 t) (iblk m c 1 t) (iblk m c 2 t) y
      = flat (zrow (aX m c) (aA m c) (aW m c)) (((cfg0.win 5).blk t).view.emb y) := by
  obtain ⟨r, j, rfl⟩ : ∃ (r : Fin 512) (j : Fin 1024), y = ix2 r j := ⟨_, _, eq_ix2 y⟩
  have ht : t.val < 16 := t.isLt
  rw [emb5 t r j (by omega), z_at, blk0 m c t r ⟨(t.val * 512 + r.val) / 4096, by omega⟩ ⟨(t.val * 512 + r.val) % 4096, by omega⟩
    (by show _ / 4096 * 4096 + _ % 4096 = _; omega), blk1, blk2 m c t r ⟨(t.val * 512 + r.val) / 4096, by omega⟩
    ⟨(t.val * 512 + r.val) % 4096, by omega⟩ (by show _ / 4096 * 4096 + _ % 4096 = _; omega)]
  rfl

theorem point_y (c : Dev nD) (t : Fin cfg0.N) (r : Fin 512) (j : Fin 1024) (h : t.val * 512 + r.val < 8192) :
    BY (iblk m c 0 t) (iblk m c 1 t) (iblk m c 2 t) (iblk m c 3 t) (iblk m c 4 t) (ix2 r j)
      = flat (yrow (aX m c) (aA m c) (aW m c) (aG m c) (aB m c)) (ix2 ⟨t.val * 512 + r.val, h⟩ j) := by
  have ht : t.val < 16 := t.isLt
  rw [y_at, blk0 m c t r ⟨(t.val * 512 + r.val) / 4096, by omega⟩ ⟨(t.val * 512 + r.val) % 4096, by omega⟩
    (by show _ / 4096 * 4096 + _ % 4096 = _; omega), blk1, blk2 m c t r ⟨(t.val * 512 + r.val) / 4096, by omega⟩
    ⟨(t.val * 512 + r.val) % 4096, by omega⟩ (by show _ / 4096 * 4096 + _ % 4096 = _; omega), blk3, blk4]
  rfl

theorem final_z (c : Dev nD) : (dats m 0 c).arrAt 5 (cfgs 0).N = flat (zrow (aX m c) (aA m c) (aW m c)) := by
  refine (dats m 0 c).arrAt_eq_of_covers 5 _ (by decide +kernel) fun t _ y => ?_
  blk_simp
  rw [after0_5]
  unfold out0_5
  exact point_z m c t y

theorem final_y (c : Dev nD) :
    (dats m 0 c).arrAt 6 (cfgs 0).N = flat (yrow (aX m c) (aA m c) (aW m c) (aG m c) (aB m c)) := by
  refine (dats m 0 c).arrAt_eq_of_covers 6 _ (by decide +kernel) fun t _ y => ?_
  blk_simp
  rw [after0_6]
  unfold out0_6
  obtain ⟨r, j, rfl⟩ : ∃ (r : Fin 512) (j : Fin 1024), y = ix2 r j := ⟨_, _, eq_ix2 y⟩
  have ht : t.val < 16 := t.isLt
  exact (point_y m c t r j (by omega)).trans (congrArg _ (emb6 t r j (by omega)).symm)

theorem final_b (c : Dev nD) : (dats m 0 c).arrAt 7 (cfgs 0).N
    = truncf .bf16 (flat (yrow (aX m c) (aA m c) (aW m c) (aG m c) (aB m c))) bitsLt_bf16_f32 := by
  refine (dats m 0 c).arrAt_eq_of_covers 7 _ (by decide +kernel) fun t _ y => ?_
  blk_simp
  rw [after0_7]
  unfold out0_7
  obtain ⟨r, j, rfl⟩ : ∃ (r : Fin 512) (j : Fin 1024), y = ix2 r j := ⟨_, _, eq_ix2 y⟩
  have ht : t.val < 16 := t.isLt
  exact (yb_at (iblk m c 0 t) (iblk m c 1 t) (iblk m c 2 t) (iblk m c 3 t) (iblk m c 4 t) r j).trans ((point_y m c t r j (by omega)).trans (congrArg (flat (yrow (aX m c) (aA m c) (aW m c) (aG m c) (aB m c))) (emb7 t r j (by omega)).symm))

end Cert.DownlnKernelIdeal.DownlnValue

end
-- ==== Proof.DownlnClaim.lean ====
/- The claims about the forward call of the narrowing product, the residual and the norm. -/
module

public import proofs.«01_k».proof.Defs
public import proofs.«01_k».proof.Proof.Gen.DownlnKernel
public import proofs.«01_k».proof.Proof.Gen.DownlnKernel.Frame
public import proofs.«01_k».proof.Proof.Gen.DownlnReferenceIdeal.Run
public import proofs.«01_k».proof.Proof.DownlnValue

@[expose] public section

set_option maxRecDepth 16384

noncomputable section

open Idealize.ShloMosaic Idealize.ShloMosaic.TcCoe Idealize.SL.Sem

namespace Cert.Proof

open Cert.DownlnReferenceIdeal.DownlnRef Cert.DownlnKernelIdeal.DownlnValue Cert.DownlnReferenceIdeal.Gen

theorem frame_downln : quiescent_DownlnKernel := fun m ρ _ => Cert.DownlnKernel.Gen.frame m ρ

theorem frame_downlnIdeal : quiescent_DownlnKernelIdeal := fun m ρ _ => Cert.DownlnKernelIdeal.Gen.frame m ρ

theorem frame_downlnReference : quiescent_DownlnReferenceIdeal := fun m ρ _ =>
  (θ_run Cert.DownlnReferenceIdeal.defs _ _).mono
    (fun r h => ⟨fun c => (h c).2.2.2, sem_eq_zero_of_no_sems (by decide) r.2⟩)
    (Cert.DownlnReferenceIdeal.Value.run (F := Ideal) m ρ)

theorem downln_z (X A W) : shapeCast Cert.DownlnReferenceIdeal.S8192x1024 (zz X A W)
    Cert.DownlnReferenceIdeal.Gen.shapeCasts_S2x4096x1024_S8192x1024 = flat (zrow X A W) :=
  flat_of _ _ fun b s j => zz_at X A W b s j

theorem downln_y (X A W G B) :
    shapeCast Cert.DownlnReferenceIdeal.S8192x1024 (yy (zz X A W) (mu (zz X A W)) (sd (zz X A W) (mu (zz X A W))) G B)
      Cert.DownlnReferenceIdeal.Gen.shapeCasts_S2x4096x1024_S8192x1024 = flat (yrow X A W G B) :=
  flat_of _ _ fun b s j => (y_at _ G B b s j).trans
    (congrArg (fun z => Cert.Ln.norm z (rowg G) (rowg B) j) (funext fun k => zz_at X A W b s k))

set_option maxHeartbeats 2000000 in
/-- The rows before the norm, the normalised rows, and these once more in the narrower format. -/
theorem algebraic_downln : algebraic_DownlnKernelIdeal_DownlnReferenceIdeal := by
  pair_intro
  · run_from Cert.DownlnKernelIdeal.Value.run_blocks m g
  · run_from Cert.DownlnReferenceIdeal.Value.run m' g'
    · refine Eq.trans ?_ ((downln_z _ _ _).trans (final_z m c).symm)
      unfold zz
      rfl
    · refine Eq.trans ?_ ((downln_y _ _ _ _ _).trans (final_y m c).symm)
      unfold yy sd mu zz
      rfl
    · refine Eq.trans ?_ ((congrArg (fun z => truncf (F := Ideal) .bf16 z Cert.DownlnReferenceIdeal.Gen.bitsLt_bf16_f32) (downln_y _ _ _ _ _)).trans (final_b m c).symm)
      unfold yy sd mu zz
      rfl

end Cert.Proof

end
-- ==== Proof.UpValue.lean ====
/- The squared positive part of the widening product: what its output array holds after the run, block by block. -/
module

public import proofs.«01_k».proof.Proof.Gen.UpKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpKernelIdeal.UpValue

open Cert.UpKernelIdeal Cert.UpKernelIdeal.Gen

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The squared positive part. -/
def sq (p : EReal) : EReal := max p 0 * max p 0

theorem pay_at (x0 : FVec Ideal S1024x1024 .bf16) (x1 : FVec Ideal S1024x2048 .bf16) (r j) :
    k0_pay1 (F := Ideal) x0 x1 (ix2 r j) = sq (∑ k : Fin 1024, x0 (ix2 r k) * x1 (ix2 k j)) := by
  pointwise [k0_pay1]
  rfl

variable (m : (ℓ : Loc nD τ sig) → Buf (Elt Ideal) ℓ)

/-- The arguments on one device. -/
abbrev aX (c : Dev nD) : FVec Ideal S2x4096x1024 .f32 := m ((c : Thread nD τ).loc main_arg0)

abbrev aW (c : Dev nD) : FVec Ideal S1024x4096 .f32 := m ((c : Thread nD τ).loc main_arg1)

/-- The output array, from the arguments. -/
def out (X : FVec Ideal S2x4096x1024 .f32) (W : FVec Ideal S1024x4096 .f32) : FVec Ideal S8192x4096 .bf16 := fun i =>
  sq (∑ k : Fin 1024, X (ix3 ⟨(i 0).val / 4096, by have : (i 0).val < 8192 := (i 0).isLt; omega⟩ ⟨(i 0).val % 4096, by omega⟩ k)
    * W (ix2 k (i 1)))

theorem blk0 (c : Dev nD) (t : Fin cfg0.N) (r k : Fin 1024) (h1 : (t.val / 2 * 1024 + r.val) / 4096 < 2)
    (h2 : (t.val / 2 * 1024 + r.val) % 4096 < 4096) :
    ((iblk m c 0 t : FVec Ideal S1024x1024 .bf16) (ix2 r k) : EReal)
      = aX m c (ix3 ⟨(t.val / 2 * 1024 + r.val) / 4096, h1⟩ ⟨(t.val / 2 * 1024 + r.val) % 4096, h2⟩ k) := by
  blk_point [iblk, V, idx t]

theorem blk1 (c : Dev nD) (t : Fin cfg0.N) (k : Fin 1024) (j : Fin 2048) (h : t.val % 2 * 2048 + j.val < 4096) :
    ((iblk m c 1 t : FVec Ideal S1024x2048 .bf16) (ix2 k j) : EReal) = aW m c (ix2 k ⟨t.val % 2 * 2048 + j.val, h⟩) := by
  blk_point [iblk, V, idx t]

theorem emb2 (t : Fin cfg0.N) (r : Fin 1024) (j : Fin 2048) (h : t.val / 2 * 1024 + r.val < 8192)
    (h' : t.val % 2 * 2048 + j.val < 4096) :
    ((cfg0.win 2).blk t).view.emb (ix2 r j) = ix2 ⟨t.val / 2 * 1024 + r.val, h⟩ ⟨t.val % 2 * 2048 + j.val, h'⟩ := by
  blk_ext [idx t]

theorem point (c : Dev nD) (t : Fin cfg0.N) (y) :
    k0_pay1 (F := Ideal) (iblk m c 0 t) (iblk m c 1 t) y = out (aX m c) (aW m c) (((cfg0.win 2).blk t).view.emb y) := by
  obtain ⟨r, j, rfl⟩ : ∃ (r : Fin 1024) (j : Fin 2048), y = ix2 r j := ⟨_, _, eq_ix2 y⟩
  have ht : t.val < 16 := t.isLt
  rw [emb2 t r j (by omega) (by omega), pay_at]
  refine congrArg sq (Finset.sum_congr rfl fun k _ => ?_)
  rw [blk0 m c t r k (by omega) (by omega), blk1 m c t k j (by omega)]
  rfl

theorem final (c : Dev nD) : (dats m 0 c).arrAt 2 (cfgs 0).N = out (aX m c) (aW m c) := by
  refine (dats m 0 c).arrAt_eq_of_covers 2 _ (by decide +kernel) fun t _ y => ?_
  blk_simp
  rw [after0_2]
  frame_out
  exact point m c t y

end Cert.UpKernelIdeal.UpValue

end
-- ==== Proof.UpClaim.lean ====
/- The claims about the squared positive part of the widening product, forwards. -/
module

public import proofs.«01_k».proof.Defs
public import proofs.«01_k».proof.Proof.Gen.UpKernel
public import proofs.«01_k».proof.Proof.Gen.UpKernel.Frame
public import proofs.«01_k».proof.Proof.Gen.UpReferenceIdeal.Run
public import proofs.«01_k».proof.Proof.UpValue

@[expose] public section

set_option maxRecDepth 16384

noncomputable section

open Idealize.ShloMosaic Idealize.ShloMosaic.TcCoe Idealize.SL.Sem

namespace Cert.Proof

theorem frame_up : quiescent_UpKernel := fun m ρ _ => Cert.UpKernel.Gen.frame m ρ

theorem frame_upIdeal : quiescent_UpKernelIdeal := fun m ρ _ => Cert.UpKernelIdeal.Gen.frame m ρ

theorem frame_upReference : quiescent_UpReferenceIdeal := fun m ρ _ =>
  (θ_run Cert.UpReferenceIdeal.defs _ _).mono
    (fun r h => ⟨fun c => (h c).2, sem_eq_zero_of_no_sems (by decide) r.2⟩)
    (Cert.UpReferenceIdeal.Value.run (F := Ideal) m ρ)

open Cert.UpReferenceIdeal Cert.UpReferenceIdeal.Gen in
/-- The reference's result, from its arguments. -/
def upR (X : FVec Ideal S2x4096x1024 .f32) (W : FVec Ideal S1024x4096 .f32) : FVec Ideal S8192x4096 .bf16 :=
  truncf .bf16 (shapeCast S8192x4096 (mulf
    (maximumf (Host.dotGeneral dot_S2x4096x1024_S1024x4096_S2x4096x4096_2_0_01_1_n_n none X W)
      (broadcastInDim S2x4096x4096 ![] bcast_S_S2x4096x4096 (constant S_ .f32 0x00000000#32)))
    (maximumf (Host.dotGeneral dot_S2x4096x1024_S1024x4096_S2x4096x4096_2_0_01_1_n_n none X W)
      (broadcastInDim S2x4096x4096 ![] bcast_S_S2x4096x4096 (constant S_ .f32 0x00000000#32))))
    shapeCasts_S2x4096x4096_S8192x4096) bitsLt_bf16_f32

theorem up_eq (X W) : upR X W = Cert.UpKernelIdeal.UpValue.out X W := by
  funext j
  obtain ⟨r, d, rfl⟩ : ∃ (r : Fin 8192) (d : Fin 4096), j = ix2 r d := ⟨_, _, eq_ix2 j⟩
  pointwise [upR]
  rfl

set_option maxHeartbeats 2000000 in
/-- The hidden layer of every token. -/
theorem algebraic_up : algebraic_UpKernelIdeal_UpReferenceIdeal := by
  pair_intro
  · run_from Cert.UpKernelIdeal.Value.run_blocks m g
  · run_from Cert.UpReferenceIdeal.Value.run m' g'
    refine Eq.trans ?_ ((up_eq _ _).trans (Cert.UpKernelIdeal.UpValue.final m c).symm)
    unfold upR
    rfl

end Cert.Proof

end
-- ==== Proof.MergefPoint.lean ====
/- The gated merge forwards: what one point of the grid computes. -/
module

public import proofs.«01_k».proof.Proof.Gen.MergefKernelIdeal.Value
public import proofs.«01_k».proof.Proof.Reals
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergefKernelIdeal.MergefValue

open Cert.MergefKernelIdeal Cert.MergefKernelIdeal.Gen

theorem idx : ∀ t : Fin cfg0.N, win0_0.index t = ![t.val, 0] ∧ win0_1.index t = ![t.val, 1]
    ∧ win0_2.index t = ![t.val, 2] ∧ win0_3.index t = ![32 * t.val - 1, 1] ∧ win0_4.index t = ![32 * t.val - 1, 2]
    ∧ win0_5.index t = ![t.val, 4] ∧ win0_6.index t = ![t.val, 5] ∧ win0_7.index t = ![t.val, 6]
    ∧ win0_8.index t = ![t.val, 0] ∧ win0_9.index t = ![t.val, 0] ∧ win0_10.index t = ![0, 0]
    ∧ win0_11.index t = ![0, 0, 0] ∧ win0_12.index t = ![0, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0]
    ∧ win0_20.index t = ![t.val, 0] :=
  (by decide +kernel : ∀ t : Fin grid0.N, _)

/-- Whether a point is the first of its sequence, as the kernel computes it. -/
def edge (t : Fin cfg0.N) : BitVec 1 :=
  let v9 := Scalar.select (Scalar.cmpi .eq 8#32 0#32) 1#32 8#32
  let v10 := Scalar.remsi (BitVec.ofNat 32 (grid0.coords t 0).val) v9
  Scalar.cmpi .eq (Scalar.select (Scalar.andi (Scalar.xori (Scalar.cmpi .slt v10 0#32) (Scalar.cmpi .slt v9 0#32))
    (Scalar.cmpi .ne v10 0#32)) (Scalar.addi v10 v9) v10) 0#32

theorem edge_first : ∀ t : Fin cfg0.N, edge t = if t.val % 8 = 0 then 1#1 else 0#1 :=
  (by decide +kernel : ∀ t : Fin grid0.N, _)

/-! The entries of the results, from the arguments. -/

section Closed

variable (P : FVec Ideal S2x4096x7168 .f32) (CW : FVec Ideal S3x512 .f32) (W : FVec Ideal S3x512x1024 .f32)
  (B : FVec Ideal S3072 .f32)

/-- The gated sequence the convolution reads. -/
def U (b : Fin 2) (s : Fin 4096) (j : Fin 512) : EReal :=
  P (ix3 b s ⟨512 + j.val, by omega⟩) * P (ix3 b s ⟨1024 + j.val, by omega⟩)

/-- … `k` tokens earlier, from zeros. -/
def UL (k : ℕ) (b : Fin 2) (s : Fin 4096) (j : Fin 512) : EReal :=
  if k ≤ s.val then U P b ⟨s.val - k, by omega⟩ j else 0

/-- The first branch: the gated convolution. -/
def YA (b : Fin 2) (s : Fin 4096) (j : Fin 512) : EReal :=
  P (ix3 b s ⟨j.val, by omega⟩) * (CW (ix2 0 j) * UL P 2 b s j + CW (ix2 1 j) * UL P 1 b s j + CW (ix2 2 j) * U P b s j)

/-- A branch's projection. -/
def PR (n : Fin 3) (Y : Fin 2 → Fin 4096 → Fin 512 → EReal) (b : Fin 2) (s : Fin 4096) (d : Fin 1024) : EReal :=
  ∑ k : Fin 512, Y b s k * W (ix3 n k d)

def sgm (x : EReal) : EReal := Ideal.div 1 (1 + Ideal.exp (-x))

/-- A branch's gate, its columns starting at `o` among the three gates' columns. -/
def GT (o : ℕ) (ho : o + 1024 ≤ 3072) (b : Fin 2) (s : Fin 4096) (d : Fin 1024) : EReal :=
  sgm (P (ix3 b s ⟨4096 + o + d.val, by omega⟩) + B (ix1 ⟨o + d.val, by omega⟩))

/-- The merged branches. -/
def MG (Y Z : FVec Ideal S2x4096x512 .f32) (b : Fin 2) (s : Fin 4096) (d : Fin 1024) : EReal :=
  GT P B 0 (by omega) b s d * PR W 0 (YA P CW) b s d + GT P B 1024 (by omega) b s d * PR W 1 (fun b s k => Y (ix3 b s k)) b s d
    + GT P B 2048 (by omega) b s d * PR W 2 (fun b s k => Z (ix3 b s k)) b s d

end Closed

/-- The tokens of both sequences, one after the other. -/
def flat (n : ℕ) (f : Fin 2 → Fin 4096 → Fin n → EReal) : FVec Ideal ⟨2, ![8192, n]⟩ .bf16 := fun i =>
  f ⟨(i 0).val / 4096, by have : (i 0).val < 8192 := (i 0).isLt; omega⟩ ⟨(i 0).val % 4096, by omega⟩ (i 1)

/-! What the kernel computes from a point's blocks. -/

section Tile

variable (x0 x1 x2 : FVec Ideal S512x512 .bf16) (x3 x4 : FVec Ideal S16x512 .bf16) (x10 : FVec Ideal S3x512 .f32)

/-- The rows' numbers, as the kernel compares them. -/
abbrev io : IVec S512x512 32 := iota Kind.tc S512x512 32 [0] iota_S512x512_d0_w32

/-- A choice by a row's number. -/
theorem row_sel {α : Type} (r : Fin 512) (k : Nat) (hk : k < 512) (a b : α) :
    Scalar.select (IntOp.cmpi CmpIPredicate.eq (BitVec.ofNat 32 r.val) (BitVec.ofNat 32 k)) a b = if r.val = k then a else b := by
  have e : (BitVec.ofNat 32 r.val == BitVec.ofNat 32 k) = decide (r.val = k) := by
    rw [Bool.eq_iff_iff, beq_iff_eq, decide_eq_true_iff]
    constructor
    · intro h
      have h' := congrArg BitVec.toNat h
      simp only [BitVec.toNat_ofNat] at h'
      omega
    · intro h
      rw [h]
  by_cases h : r.val = k
  · simp [Scalar.select, IntOp.cmpi, h]
  · simp [Scalar.select, IntOp.cmpi, e, h]

theorem bit_sel {α : Type} (q : Prop) [Decidable q] (a b : α) : Scalar.select (if q then 1#1 else 0#1) a b = if q then a else b := by
  by_cases h : q <;> simp [Scalar.select, h]

/-- The product of the rows before a point's stretch; zero where the sequence begins. -/
theorem halo_at (t : Fin cfg0.N) (r j) : k0_pay7 (F := Ideal) (grid0.coords t) x3 x4 (ix2 r j)
    = if t.val % 8 = 0 then 0 else (x3 (ix2 r j) : EReal) * x4 (ix2 r j) := by
  have h2 : k0_pay7 (F := Ideal) (grid0.coords t) x3 x4 = Scalar.select (edge t)
    (broadcast S16x512 (Scalar.ofBits .f32 0x00000000#32)) (mulf (extf .f32 (shapeCast S16x512 x3 shapeCasts_S16x512_S16x512) bitsLt_bf16_f32) (extf .f32 (shapeCast S16x512 x4 shapeCasts_S16x512_S16x512) bitsLt_bf16_f32)) := rfl
  rw [h2, edge_first, bit_sel]
  split
  · pointwise
  · pointwise

theorem ya_at (h : FVec Ideal S16x512 .f32) (w : FVec Ideal S512x512 .f32) (r j) :
    (k0_pay11 (F := Ideal) io (k0_pay6 x1 x2) h x10 (k0_pay8 x10) w k0_pay10 x0 (ix2 r j) : EReal)
      = x0 (ix2 r j) * (x10 (ix2 0 j) * (if r.val = 1 then h (ix2 15 j) else w (ix2 r j))
        + x10 (ix2 1 j) * (if r.val = 0 then h (ix2 15 j) else x1 (ix2 ⟨r.val - 1, by omega⟩ j) * x2 (ix2 ⟨r.val - 1, by omega⟩ j))
        + x10 (ix2 2 j) * (x1 (ix2 r j) * x2 (ix2 r j))) := by
  pointwise [k0_pay11, k0_pay6, k0_pay8, k0_pay10]
  rw [row_sel r 1 (by decide), row_sel r 0 (by decide)]
  by_cases h0 : r.val = 0
  · simp only [if_pos h0]
  · have e : (r.val + 512 - 1) % 512 = r.val - 1 := by omega
    simp only [if_neg h0, e]

theorem w_at (i : grid0.Coords) (r : Fin 512) (j) (hr : r.val ≠ 1) : k0_pay9 (F := Ideal) i x1 x2 x3 x4 (ix2 r j)
    = if r.val = 0 then k0_pay7 (F := Ideal) i x3 x4 (ix2 14 j)
      else x1 (ix2 ⟨r.val - 2, by omega⟩ j) * x2 (ix2 ⟨r.val - 2, by omega⟩ j) := by
  pointwise [k0_pay9, k0_pay6]
  rw [row_sel r 0 (by decide)]
  by_cases h0 : r.val = 0
  · simp only [if_pos h0]
  · have e : (r.val + 512 - 2) % 512 = r.val - 2 := by omega
    simp only [if_neg h0, e]

end Tile

variable (m : (ℓ : Loc nD τ sig) → Buf (Elt Ideal) ℓ)

/-- The arguments on one device. -/
abbrev aP (c : Dev nD) : FVec Ideal S2x4096x7168 .f32 := m ((c : Thread nD τ).loc main_arg0)

abbrev aB (c : Dev nD) : FVec Ideal S2x4096x512 .f32 := m ((c : Thread nD τ).loc main_arg1)

abbrev aC (c : Dev nD) : FVec Ideal S2x4096x512 .f32 := m ((c : Thread nD τ).loc main_arg2)

abbrev aK (c : Dev nD) : FVec Ideal S3x512 .f32 := m ((c : Thread nD τ).loc main_arg3)

abbrev aW (c : Dev nD) : FVec Ideal S3x512x1024 .f32 := m ((c : Thread nD τ).loc main_arg4)

abbrev aG (c : Dev nD) : FVec Ideal S3072 .f32 := m ((c : Thread nD τ).loc main_arg5)

/-! A point's blocks. -/

theorem blk0 (c : Dev nD) (t : Fin cfg0.N) (r : Fin 512) (j : Fin 512) (b : Fin 2) (s : Fin 4096)
    (e : b.val * 4096 + s.val = t.val * 512 + r.val) :
    ((iblk m c 0 t : FVec Ideal S512x512 .bf16) (ix2 r j) : EReal) = aP m c (ix3 b s ⟨j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk1 (c : Dev nD) (t : Fin cfg0.N) (r : Fin 512) (j : Fin 512) (b : Fin 2) (s : Fin 4096)
    (e : b.val * 4096 + s.val = t.val * 512 + r.val) :
    ((iblk m c 1 t : FVec Ideal S512x512 .bf16) (ix2 r j) : EReal) = aP m c (ix3 b s ⟨512 + j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk2 (c : Dev nD) (t : Fin cfg0.N) (r : Fin 512) (j : Fin 512) (b : Fin 2) (s : Fin 4096)
    (e : b.val * 4096 + s.val = t.val * 512 + r.val) :
    ((iblk m c 2 t : FVec Ideal S512x512 .bf16) (ix2 r j) : EReal) = aP m c (ix3 b s ⟨1024 + j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk3 (c : Dev nD) (t : Fin cfg0.N) (r : Fin 16) (j : Fin 512) (b : Fin 2) (s : Fin 4096)
    (e : b.val * 4096 + s.val = (32 * t.val - 1) * 16 + r.val) :
    ((iblk m c 3 t : FVec Ideal S16x512 .bf16) (ix2 r j) : EReal) = aP m c (ix3 b s ⟨512 + j.val, by omega⟩) := by
  have h1 : ((32 * t.val - 1) * 16 + r.val) / 4096 < 2 := by omega
  have h2 : ((32 * t.val - 1) * 16 + r.val) % 4096 < 4096 := by omega
  obtain rfl : b = ⟨((32 * t.val - 1) * 16 + r.val) / 4096, h1⟩ := Fin.ext (by show b.val = _ / 4096; omega)
  obtain rfl : s = ⟨((32 * t.val - 1) * 16 + r.val) % 4096, h2⟩ := Fin.ext (by show s.val = _ % 4096; omega)
  blk_point [iblk, V, idx t]

theorem blk4 (c : Dev nD) (t : Fin cfg0.N) (r : Fin 16) (j : Fin 512) (b : Fin 2) (s : Fin 4096)
    (e : b.val * 4096 + s.val = (32 * t.val - 1) * 16 + r.val) :
    ((iblk m c 4 t : FVec Ideal S16x512 .bf16) (ix2 r j) : EReal) = aP m c (ix3 b s ⟨1024 + j.val, by omega⟩) := by
  have h1 : ((32 * t.val - 1) * 16 + r.val) / 4096 < 2 := by omega
  have h2 : ((32 * t.val - 1) * 16 + r.val) % 4096 < 4096 := by omega
  obtain rfl : b = ⟨((32 * t.val - 1) * 16 + r.val) / 4096, h1⟩ := Fin.ext (by show b.val = _ / 4096; omega)
  obtain rfl : s = ⟨((32 * t.val - 1) * 16 + r.val) % 4096, h2⟩ := Fin.ext (by show s.val = _ % 4096; omega)
  blk_point [iblk, V, idx t]

theorem blk5 (c : Dev nD) (t : Fin cfg0.N) (r : Fin 512) (j : Fin 1024) (b : Fin 2) (s : Fin 4096)
    (e : b.val * 4096 + s.val = t.val * 512 + r.val) :
    ((iblk m c 5 t : FVec Ideal S512x1024 .bf16) (ix2 r j) : EReal) = aP m c (ix3 b s ⟨4096 + j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk6 (c : Dev nD) (t : Fin cfg0.N) (r : Fin 512) (j : Fin 1024) (b : Fin 2) (s : Fin 4096)
    (e : b.val * 4096 + s.val = t.val * 512 + r.val) :
    ((iblk m c 6 t : FVec Ideal S512x1024 .bf16) (ix2 r j) : EReal) = aP m c (ix3 b s ⟨5120 + j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk7 (c : Dev nD) (t : Fin cfg0.N) (r : Fin 512) (j : Fin 1024) (b : Fin 2) (s : Fin 4096)
    (e : b.val * 4096 + s.val = t.val * 512 + r.val) :
    ((iblk m c 7 t : FVec Ideal S512x1024 .bf16) (ix2 r j) : EReal) = aP m c (ix3 b s ⟨6144 + j.val, by omega⟩) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk8 (c : Dev nD) (t : Fin cfg0.N) (r : Fin 512) (j : Fin 512) (b : Fin 2) (s : Fin 4096)
    (e : b.val * 4096 + s.val = t.val * 512 + r.val) :
    ((iblk m c 8 t : FVec Ideal S512x512 .bf16) (ix2 r j) : EReal) = aB m c (ix3 b s j) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk9 (c : Dev nD) (t : Fin cfg0.N) (r : Fin 512) (j : Fin 512) (b : Fin 2) (s : Fin 4096)
    (e : b.val * 4096 + s.val = t.val * 512 + r.val) :
    ((iblk m c 9 t : FVec Ideal S512x512 .bf16) (ix2 r j) : EReal) = aC m c (ix3 b s j) := by
  have h1 : (t.val * 512 + r.val) / 4096 < 2 := by omega
  have h2 : (t.val * 512 + r.val) % 4096 < 4096 := by omega
  obtain rfl : b = ⟨(t.val * 512 + r.val) / 4096, h1⟩ := Fin.ext (by show b.val = _ / 4096; omega)
  obtain rfl : s = ⟨(t.val * 512 + r.val) % 4096, h2⟩ := Fin.ext (by show s.val = _ % 4096; omega)
  blk_point [iblk, V, idx t]

theorem blk10 (c : Dev nD) (t : Fin cfg0.N) (k : Fin 3) (j : Fin 512) :
    (iblk m c 10 t : FVec Ideal S3x512 .f32) (ix2 k j) = aK m c (ix2 k j) := by
  blk_point [iblk, V, idx t]

theorem blk11 (c : Dev nD) (t : Fin cfg0.N) (n : Fin 3) (k : Fin 512) (d : Fin 1024) :
    ((iblk m c 11 t : FVec Ideal S3x512x1024 .bf16) (ix3 n k d) : EReal) = aW m c (ix3 n k d) := by
  blk_point [iblk, V, idx t]

theorem blk12 (c : Dev nD) (t : Fin cfg0.N) (d : Fin 3072) :
    (iblk m c 12 t : FVec Ideal S1x3072 .f32) (ix2 0 d) = aG m c (ix1 d) := by
  blk_point [iblk, V, idx t]

/-- A load of one branch's weight, and of one gate's bias. -/
theorem wld (n : ℕ) (hn : n < 3) (x : FVec Ideal S3x512x1024 .bf16) (hh) (k : Fin 512) (d : Fin 1024) :
    View.ld (Val := Elt Ideal) (e' := .bf16) x (Rect.unit (s := S3x512x1024) ![n, 0, 0] ![1, 512, 1024] hh) (ix3 0 k d)
      = x (ix3 ⟨n, hn⟩ k d) :=
  congrArg x (by blk_ext <;> simp)

theorem bld (o : ℕ) (x : FVec Ideal S1x3072 .f32) (hh) (d : Fin 1024) (h : o + d.val < 3072) :
    View.ld (Val := Elt Ideal) (e' := .f32) x (Rect.unit (s := S1x3072) ![0, o] ![1, 1024] hh) (ix2 0 d)
      = x (ix2 0 ⟨o + d.val, h⟩) :=
  congrArg x (by blk_ext <;> simp)

theorem emb13 (t : Fin cfg0.N) (r : Fin 512) (d : Fin 512) (h : t.val * 512 + r.val < 8192) :
    ((cfg0.win 13).blk t).view.emb (ix2 r d) = ix2 ⟨t.val * 512 + r.val, h⟩ d := by
  blk_ext [idx t]

theorem emb14 (t : Fin cfg0.N) (r : Fin 512) (d : Fin 1024) (h : t.val * 512 + r.val < 8192) :
    ((cfg0.win 14).blk t).view.emb (ix2 r d) = ix2 ⟨t.val * 512 + r.val, h⟩ d := by
  blk_ext [idx t]

theorem emb15 (t : Fin cfg0.N) (r : Fin 512) (d : Fin 1024) (h : t.val * 512 + r.val < 8192) :
    ((cfg0.win 15).blk t).view.emb (ix2 r d) = ix2 ⟨t.val * 512 + r.val, h⟩ d := by
  blk_ext [idx t]

theorem emb16 (t : Fin cfg0.N) (r : Fin 512) (d : Fin 1024) (h : t.val * 512 + r.val < 8192) :
    ((cfg0.win 16).blk t).view.emb (ix2 r d) = ix2 ⟨t.val * 512 + r.val, h⟩ d := by
  blk_ext [idx t]

theorem emb17 (t : Fin cfg0.N) (r : Fin 512) (d : Fin 1024) (h : t.val * 512 + r.val < 8192) :
    ((cfg0.win 17).blk t).view.emb (ix2 r d) = ix2 ⟨t.val * 512 + r.val, h⟩ d := by
  blk_ext [idx t]

theorem emb18 (t : Fin cfg0.N) (r : Fin 512) (d : Fin 1024) (h : t.val * 512 + r.val < 8192) :
    ((cfg0.win 18).blk t).view.emb (ix2 r d) = ix2 ⟨t.val * 512 + r.val, h⟩ d := by
  blk_ext [idx t]

theorem emb19 (t : Fin cfg0.N) (r : Fin 512) (d : Fin 1024) (h : t.val * 512 + r.val < 8192) :
    ((cfg0.win 19).blk t).view.emb (ix2 r d) = ix2 ⟨t.val * 512 + r.val, h⟩ d := by
  blk_ext [idx t]

theorem emb20 (t : Fin cfg0.N) (r : Fin 512) (d : Fin 1024) (h : t.val * 512 + r.val < 8192) :
    ((cfg0.win 20).blk t).view.emb (ix2 r d) = ix2 ⟨t.val * 512 + r.val, h⟩ d := by
  blk_ext [idx t]

section Point

variable (c : Dev nD) (t : Fin cfg0.N) (r : Fin 512) (b : Fin 2) (s : Fin 4096) (e : b.val * 4096 + s.val = t.val * 512 + r.val)

/-- The rows before a point's stretch, `k` tokens before the token. -/
theorem halo_pt (q : Fin 16) (k : ℕ) (j : Fin 512) (hk : k ≤ 2) (hq : r.val + 16 = q.val + k) (hr : r.val < k)
    (e : b.val * 4096 + s.val = t.val * 512 + r.val) :
    k0_pay7 (F := Ideal) (grid0.coords t) (iblk m c 3 t) (iblk m c 4 t) (ix2 q j) = UL (aP m c) k b s j := by
  have ht : t.val < 16 := t.isLt
  refine (halo_at _ _ t q j).trans ?_
  rw [UL]
  by_cases h : t.val % 8 = 0
  · rw [if_pos h, if_neg (by omega)]
  · rw [if_neg h, if_pos (by omega)]
    have e' : b.val * 4096 + (⟨s.val - k, by omega⟩ : Fin 4096).val = (32 * t.val - 1) * 16 + q.val := by
      show b.val * 4096 + (s.val - k) = (32 * t.val - 1) * 16 + q.val
      omega
    exact congr (congrArg (fun a b : EReal => a * b) (blk3 m c t q j b _ e')) (blk4 m c t q j b _ e')

/-- The convolution's block on a point. -/
abbrev ya := k0_pay11 (F := Ideal) io (k0_pay6 (iblk m c 1 t) (iblk m c 2 t))
  (k0_pay7 (grid0.coords t) (iblk m c 3 t) (iblk m c 4 t)) (iblk m c 10 t) (k0_pay8 (iblk m c 10 t))
  (k0_pay9 (grid0.coords t) (iblk m c 1 t) (iblk m c 2 t) (iblk m c 3 t) (iblk m c 4 t)) k0_pay10 (iblk m c 0 t)

include e

theorem here (k : ℕ) (j : Fin 512) (hk : k ≤ r.val) :
    (@HMul.hMul EReal EReal EReal _ ((iblk m c 1 t : FVec Ideal S512x512 .bf16) (ix2 ⟨r.val - k, by omega⟩ j))
      ((iblk m c 2 t : FVec Ideal S512x512 .bf16) (ix2 ⟨r.val - k, by omega⟩ j))) = UL (aP m c) k b s j := by
  have ht : t.val < 16 := t.isLt
  have e' : b.val * 4096 + (⟨s.val - k, by omega⟩ : Fin 4096).val = t.val * 512 + (⟨r.val - k, by omega⟩ : Fin 512).val := by
    show b.val * 4096 + (s.val - k) = t.val * 512 + (r.val - k)
    omega
  rw [UL, if_pos (by omega)]
  exact congr (congrArg (fun a b : EReal => a * b) (blk1 m c t _ j b _ e')) (blk2 m c t _ j b _ e')

theorem ya_pt (j : Fin 512) : (ya m c t (ix2 r j) : EReal) = YA (aP m c) (aK m c) b s j := by
  have ht : t.val < 16 := t.isLt
  refine (ya_at _ _ _ _ _ _ r j).trans ?_
  have h1 : (if r.val = 0 then k0_pay7 (F := Ideal) (grid0.coords t) (iblk m c 3 t) (iblk m c 4 t) (ix2 15 j)
      else @HMul.hMul EReal EReal EReal _ ((iblk m c 1 t : FVec Ideal S512x512 .bf16) (ix2 ⟨r.val - 1, by omega⟩ j))
        ((iblk m c 2 t : FVec Ideal S512x512 .bf16) (ix2 ⟨r.val - 1, by omega⟩ j))) = UL (aP m c) 1 b s j := by
    split
    · exact halo_pt m c t r b s 15 1 j (by omega) (by show r.val + 16 = 15 + 1; omega) (by omega) e
    · exact here m c t r b s e 1 j (by omega)
  have h2 : (if r.val = 1 then k0_pay7 (F := Ideal) (grid0.coords t) (iblk m c 3 t) (iblk m c 4 t) (ix2 15 j)
      else k0_pay9 (F := Ideal) (grid0.coords t) (iblk m c 1 t) (iblk m c 2 t) (iblk m c 3 t) (iblk m c 4 t) (ix2 r j))
      = UL (aP m c) 2 b s j := by
    by_cases hr : r.val = 1
    · rw [if_pos hr]
      exact halo_pt m c t r b s 15 2 j (by omega) (by show r.val + 16 = 15 + 2; omega) (by omega) e
    · rw [if_neg hr]
      refine (w_at _ _ _ _ _ r j hr).trans ?_
      split
      · exact halo_pt m c t r b s 14 2 j (by omega) (by show r.val + 16 = 14 + 2; omega) (by omega) e
      · exact here m c t r b s e 2 j (by omega)
  have h0 : (@HMul.hMul EReal EReal EReal _ ((iblk m c 1 t : FVec Ideal S512x512 .bf16) (ix2 r j))
      ((iblk m c 2 t : FVec Ideal S512x512 .bf16) (ix2 r j))) = U (aP m c) b s j :=
    congr (congrArg (fun a b : EReal => a * b) (blk1 m c t r j b s e)) (blk2 m c t r j b s e)
  exact congr (congrArg (fun a b : EReal => a * b) (blk0 m c t r j b s e)) (congr (congrArg (fun a b : EReal => a + b)
    (congr (congrArg (fun a b : EReal => a + b) (congr (congrArg (fun a b : EReal => a * b) (blk10 m c t 0 j)) h2))
      (congr (congrArg (fun a b : EReal => a * b) (blk10 m c t 1 j)) h1)))
    (congr (congrArg (fun a b : EReal => a * b) (blk10 m c t 2 j)) h0))

omit e in
/-- A projection of a point's block of a branch. -/
theorem pr_pt (n : ℕ) (hn : n < 3) (y : FVec Ideal S512x512 .bf16) (w : FVec Ideal S1x512x1024 .bf16)
    (Y : Fin 2 → Fin 4096 → Fin 512 → EReal) (d : Fin 1024) (hy : ∀ k, (y (ix2 r k) : EReal) = Y b s k)
    (hw : ∀ k, (w (ix3 0 k d) : EReal) = aW m c (ix3 ⟨n, hn⟩ k d)) :
    ∑ k : Fin 512, (y (ix2 r k) : EReal) * w (ix3 0 k d) = PR (aW m c) ⟨n, hn⟩ Y b s d :=
  Finset.sum_congr rfl fun k _ => congr (congrArg (fun a b : EReal => a * b) (hy k)) (hw k)

omit e in
theorem w_pt (n : ℕ) (hn : n < 3) (hh) (k : Fin 512) (d : Fin 1024) :
    (View.ld (Val := Elt Ideal) (e' := .bf16) (iblk m c 11 t : FVec Ideal S3x512x1024 .bf16)
      (Rect.unit (s := S3x512x1024) ![n, 0, 0] ![1, 512, 1024] hh) (ix3 0 k d) : EReal) = aW m c (ix3 ⟨n, hn⟩ k d) :=
  (wld n hn _ hh k d).trans (blk11 m c t _ k d)

theorem pa_pt (d : Fin 1024) : (∑ k : Fin 512, @HMul.hMul EReal EReal EReal _ (ya m c t (ix2 r k))
      (View.ld (Val := Elt Ideal) (e' := .bf16) (iblk m c 11 t : FVec Ideal S3x512x1024 .bf16) r0_3 (ix3 0 k d)))
    = PR (aW m c) 0 (YA (aP m c) (aK m c)) b s d :=
  pr_pt m c r b s 0 (by omega) (ya m c t) _ _ d (fun k => ya_pt m c t r b s e k) fun k => w_pt m c t 0 (by omega) _ k d

theorem pb_pt (d : Fin 1024) : (∑ k : Fin 512, @HMul.hMul EReal EReal EReal _ ((iblk m c 8 t : FVec Ideal S512x512 .bf16) (ix2 r k))
      (View.ld (Val := Elt Ideal) (e' := .bf16) (iblk m c 11 t : FVec Ideal S3x512x1024 .bf16) r0_6 (ix3 0 k d))) = PR (aW m c) 1 (fun b s k => aB m c (ix3 b s k)) b s d :=
  pr_pt m c r b s 1 (by omega) _ _ _ d (fun k => blk8 m c t r k b s e) fun k => w_pt m c t 1 (by omega) _ k d

theorem pc_pt (d : Fin 1024) : (∑ k : Fin 512, @HMul.hMul EReal EReal EReal _ ((iblk m c 9 t : FVec Ideal S512x512 .bf16) (ix2 r k))
      (View.ld (Val := Elt Ideal) (e' := .bf16) (iblk m c 11 t : FVec Ideal S3x512x1024 .bf16) r0_8 (ix3 0 k d))) = PR (aW m c) 2 (fun b s k => aC m c (ix3 b s k)) b s d :=
  pr_pt m c r b s 2 (by omega) _ _ _ d (fun k => blk9 m c t r k b s e) fun k => w_pt m c t 2 (by omega) _ k d

/-- A point's block of a gate. -/
theorem gt_pt (o : ℕ) (ho : o + 1024 ≤ 3072) (x : FVec Ideal S512x1024 .bf16) (d : Fin 1024) (hh)
    (hx : (x (ix2 r d) : EReal) = aP m c (ix3 b s ⟨4096 + o + d.val, by omega⟩)) :
    sgm (@HAdd.hAdd EReal EReal EReal _ (x (ix2 r d)) (View.ld (Val := Elt Ideal) (e' := .f32) (iblk m c 12 t : FVec Ideal S1x3072 .f32)
      (Rect.unit (s := S1x3072) ![0, o] ![1, 1024] hh) (ix2 0 d))) = GT (aP m c) (aG m c) o ho b s d :=
  congrArg sgm (congr (congrArg (fun a b : EReal => a + b) hx) ((bld o _ hh d (by omega)).trans (blk12 m c t _)))

end Point

section Pay

variable (v0 : IVec S512x512 32) (v7 : FVec Ideal S512x512 .f32) (v27 : FVec Ideal S16x512 .f32) (v28 : FVec Ideal S3x512 .f32)
  (v29 : FVec Ideal S1x512 .f32) (v36 : FVec Ideal S512x512 .f32) (v37 : IVec S512x512 32) (v60 y : FVec Ideal S512x512 .bf16)
  (w : FVec Ideal S1x512x1024 .bf16) (x : FVec Ideal S512x1024 .bf16) (g : FVec Ideal S1x1024 .f32) (r : Fin 512) (d : Fin 1024)

theorem p14 : k0_pay14 (F := Ideal) v0 v7 v27 v28 v29 v36 v37 v60 w (ix2 r d)
    = ∑ k : Fin 512, (k0_pay11 (F := Ideal) v0 v7 v27 v28 v29 v36 v37 v60 (ix2 r k) : EReal) * w (ix3 0 k d) := by
  pointwise [k0_pay14]

theorem p20 : k0_pay20 (F := Ideal) (k0_pay12 y) w (ix2 r d) = ∑ k : Fin 512, (y (ix2 r k) : EReal) * w (ix3 0 k d) := by
  pointwise [k0_pay20, k0_pay12]

theorem p1 : k0_pay1 (F := Ideal) (k0_pay13 y) w (ix2 r d) = ∑ k : Fin 512, (y (ix2 r k) : EReal) * w (ix3 0 k d) := by
  pointwise [k0_pay1, k0_pay13]

theorem p17 : k0_pay17 (F := Ideal) (k0_pay16 x) g (ix2 r d) = sgm (@HAdd.hAdd EReal EReal EReal _ (x (ix2 r d)) (g (ix2 0 d))) := by
  pointwise [k0_pay17, k0_pay16, sgm, Cert.Reals.word_one, zero_sub]

theorem p18 : (k0_pay18 (F := Ideal) (k0_pay16 x) g (ix2 r d) : EReal) = sgm (@HAdd.hAdd EReal EReal EReal _ (x (ix2 r d)) (g (ix2 0 d))) :=
  p17 x g r d

theorem p22 : k0_pay22 (F := Ideal) x g (ix2 r d) = sgm (@HAdd.hAdd EReal EReal EReal _ (x (ix2 r d)) (g (ix2 0 d))) := by
  pointwise [k0_pay22, sgm, Cert.Reals.word_one, zero_sub]

theorem p3 : k0_pay3 (F := Ideal) x g (ix2 r d) = sgm (@HAdd.hAdd EReal EReal EReal _ (x (ix2 r d)) (g (ix2 0 d))) := by
  pointwise [k0_pay3, sgm, Cert.Reals.word_one, zero_sub]

theorem p5 (v69 : FVec Ideal S512x512 .bf16) (v72 v77 v94 v110 : FVec Ideal S512x1024 .f32) (g' : FVec Ideal S1x1024 .f32) :
    (k0_pay5 (F := Ideal) v69 (k0_pay19 v72 v77 g') v94 v110 w x g (ix2 r d) : EReal)
      = k0_pay17 (F := Ideal) v77 g' (ix2 r d) * v72 (ix2 r d) + v110 (ix2 r d) * v94 (ix2 r d)
        + k0_pay3 (F := Ideal) x g (ix2 r d) * k0_pay1 (F := Ideal) v69 w (ix2 r d) := by
  pointwise [k0_pay5, k0_pay19]

end Pay

end Cert.MergefKernelIdeal.MergefValue

end
-- ==== Proof.MergefValue.lean ====
/- The gated merge forwards: what its eight output arrays hold after the run. -/
module

public import proofs.«01_k».proof.Proof.Gen.MergefKernelIdeal.Value
public import proofs.«01_k».proof.Proof.MergefPoint

@[expose] public section

set_option maxRecDepth 16384

noncomputable section

open Idealize.ShloMosaic Idealize.ShloMosaic.TcCoe Idealize.SL.Sem
open Idealize.ShloMosaic.Pipeline (Dat)

namespace Cert.MergefKernelIdeal.MergefValue

open Cert.MergefKernelIdeal Cert.MergefKernelIdeal.Gen

variable (m : (ℓ : Loc nD τ sig) → Buf (Elt Ideal) ℓ)

/-- The first branch, … -/
theorem final13 (c : Dev nD) : (dats m 0 c).arrAt 13 (cfgs 0).N = flat 512 (YA (aP m c) (aK m c)) := by
  refine (dats m 0 c).arrAt_eq_of_covers 13 _ (by decide +kernel) fun t _ y => ?_
  blk_simp
  rw [after0_13]
  unfold_out out0_13
  frame_out
  obtain ⟨r, d, rfl⟩ : ∃ (r : Fin 512) (d : Fin 512), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb13 t r d (by omega)]
  exact ya_pt m c t r _ _ e d

/-- … the three projections, … -/
theorem final14 (c : Dev nD) : (dats m 0 c).arrAt 14 (cfgs 0).N = flat 1024 (PR (aW m c) 0 (YA (aP m c) (aK m c))) := by
  refine (dats m 0 c).arrAt_eq_of_covers 14 _ (by decide +kernel) fun t _ y => ?_
  blk_simp
  rw [after0_14]
  unfold_out out0_14
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb14 t r d (by omega)]
  exact (p14 _ _ _ _ _ _ _ _ _ r d).trans (pa_pt m c t r _ _ e d)

theorem final15 (c : Dev nD) : (dats m 0 c).arrAt 15 (cfgs 0).N = flat 1024 (PR (aW m c) 1 fun b s k => aB m c (ix3 b s k)) := by
  refine (dats m 0 c).arrAt_eq_of_covers 15 _ (by decide +kernel) fun t _ y => ?_
  blk_simp
  rw [after0_15]
  unfold_out out0_15
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb15 t r d (by omega)]
  exact (p20 _ _ r d).trans (pb_pt m c t r _ _ e d)

theorem final16 (c : Dev nD) : (dats m 0 c).arrAt 16 (cfgs 0).N = flat 1024 (PR (aW m c) 2 fun b s k => aC m c (ix3 b s k)) := by
  refine (dats m 0 c).arrAt_eq_of_covers 16 _ (by decide +kernel) fun t _ y => ?_
  blk_simp
  rw [after0_16]
  unfold_out out0_16
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb16 t r d (by omega)]
  exact (p1 _ _ r d).trans (pc_pt m c t r _ _ e d)

/-- … the merged branches, … -/
theorem final17 (c : Dev nD) : (dats m 0 c).arrAt 17 (cfgs 0).N = flat 1024 (MG (aP m c) (aK m c) (aW m c) (aG m c) (aB m c) (aC m c)) := by
  refine (dats m 0 c).arrAt_eq_of_covers 17 _ (by decide +kernel) fun t _ y => ?_
  blk_simp
  rw [after0_17]
  unfold_out out0_17
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb17 t r d (by omega)]
  refine (p5 _ _ _ r d _ _ _ _ _ _).trans ?_
  exact (congr (congrArg (fun a b : EReal => a + b) (congr (congrArg (fun a b : EReal => a + b) (congr (congrArg (fun a b : EReal => a * b) ((p17 _ _ r d).trans (gt_pt m c t r _ _ e 0 (by omega) _ d _ (blk5 m c t r d _ _ e)))) ((p14 _ _ _ _ _ _ _ _ _ r d).trans (pa_pt m c t r _ _ e d))))
    (congr (congrArg (fun a b : EReal => a * b) ((p22 _ _ r d).trans (gt_pt m c t r _ _ e 1024 (by omega) _ d _ (blk6 m c t r d _ _ e)))) ((p20 _ _ r d).trans (pb_pt m c t r _ _ e d)))))
    (congr (congrArg (fun a b : EReal => a * b) ((p3 _ _ r d).trans (gt_pt m c t r _ _ e 2048 (by omega) _ d _ (blk7 m c t r d _ _ e)))) ((p1 _ _ r d).trans (pc_pt m c t r _ _ e d))))

/-- … and the three gates. -/
theorem final18 (c : Dev nD) : (dats m 0 c).arrAt 18 (cfgs 0).N = flat 1024 (GT (aP m c) (aG m c) 0 (by omega)) := by
  refine (dats m 0 c).arrAt_eq_of_covers 18 _ (by decide +kernel) fun t _ y => ?_
  blk_simp
  rw [after0_18]
  unfold_out out0_18
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb18 t r d (by omega)]
  refine (p18 _ _ r d).trans ?_
  exact gt_pt m c t r _ _ e 0 (by omega) _ d _ (blk5 m c t r d _ _ e)

theorem final19 (c : Dev nD) : (dats m 0 c).arrAt 19 (cfgs 0).N = flat 1024 (GT (aP m c) (aG m c) 1024 (by omega)) := by
  refine (dats m 0 c).arrAt_eq_of_covers 19 _ (by decide +kernel) fun t _ y => ?_
  blk_simp
  rw [after0_19]
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb19 t r d (by omega)]
  exact (p22 _ _ r d).trans (gt_pt m c t r _ _ e 1024 (by omega) _ d _ (blk6 m c t r d _ _ e))

theorem final20 (c : Dev nD) : (dats m 0 c).arrAt 20 (cfgs 0).N = flat 1024 (GT (aP m c) (aG m c) 2048 (by omega)) := by
  refine (dats m 0 c).arrAt_eq_of_covers 20 _ (by decide +kernel) fun t _ y => ?_
  blk_simp
  rw [after0_20]
  frame_out
  obtain ⟨r, d, rfl⟩ : ∃ (r : Fin 512) (d : Fin 1024), y = ix2 r d := ⟨_, _, eq_ix2 y⟩
  have ht : t.val < 16 := t.isLt
  have h1 : (t.val * 512 + r.val) / 4096 < 2 := by omega
  have h2 : (t.val * 512 + r.val) % 4096 < 4096 := by omega
  have e : (⟨_, h1⟩ : Fin 2).val * 4096 + (⟨_, h2⟩ : Fin 4096).val = t.val * 512 + r.val := by
    show (t.val * 512 + r.val) / 4096 * 4096 + (t.val * 512 + r.val) % 4096 = _
    omega
  rw [emb20 t r d (by omega)]
  exact (p3 _ _ r d).trans (gt_pt m c t r _ _ e 2048 (by omega) _ d _ (blk7 m c t r d _ _ e))

end Cert.MergefKernelIdeal.MergefValue

end
-- ==== Proof.MergefRef.lean ====
/- The gated merge's forward lines: the reference's results, entry by entry. -/
module

public import proofs.«01_k».proof.Proof.Gen.MergefReferenceIdeal.Run
public import proofs.«01_k».proof.Proof.MergefPoint

@[expose] public section

set_option maxRecDepth 16384

noncomputable section

open Idealize.ShloMosaic Idealize.ShloMosaic.TcCoe Idealize.SL.Sem

namespace Cert.MergefReferenceIdeal.MergefRef

open Cert.MergefReferenceIdeal Cert.MergefReferenceIdeal.Gen
open Cert.MergefKernelIdeal.MergefValue (U UL YA PR GT MG sgm flat)

def fuu (a0 : FVec Ideal S2x4096x7168 .f32) : FVec Ideal S2x4096x512 .f32 :=
  mulf (extractStridedSlice S2x4096x512 ![0, 0, 512] a0 slices_S2x4096x7168_S2x4096x512_0_0_512) (extractStridedSlice S2x4096x512 ![0, 0, 1024] a0 slices_S2x4096x7168_S2x4096x512_0_0_1024)

def fup (fuu_ : FVec Ideal S2x4096x512 .f32) : FVec Ideal S2x4098x512 .f32 :=
  pad S2x4098x512 ![0, 2, 0] ![0, 0, 0] ![0, 0, 0] fuu_ (sitofp (F := Ideal) .f32 (constantI S_ 32 0#32)) pads_S2x4096x512_S2x4098x512_000_200_000 h_S_

def fya (a0 : FVec Ideal S2x4096x7168 .f32) (fup_ : FVec Ideal S2x4098x512 .f32) (a3 : FVec Ideal S3x512 .f32) : FVec Ideal S2x4096x512 .f32 :=
  mulf (extractStridedSlice S2x4096x512 ![0, 0, 0] a0 slices_S2x4096x7168_S2x4096x512_0_0_0) (addf (addf (mulf (extractStridedSlice S2x4096x512 ![0, 0, 0] fup_ slices_S2x4098x512_S2x4096x512_0_0_0) (broadcastInDim S2x4096x512 ![0, 1, 2] bcast_S1x1x512_S2x4096x512_0_1_2 (broadcastInDim S1x1x512 ![2] bcast_S512_S1x1x512_2 (shapeCast S512 (extractStridedSlice S1x512 ![0, 0] a3 slices_S3x512_S1x512_0_0) shapeCasts_S1x512_S512)))) (mulf (extractStridedSlice S2x4096x512 ![0, 1, 0] fup_ slices_S2x4098x512_S2x4096x512_0_1_0) (broadcastInDim S2x4096x512 ![0, 1, 2] bcast_S1x1x512_S2x4096x512_0_1_2 (broadcastInDim S1x1x512 ![2] bcast_S512_S1x1x512_2 (shapeCast S512 (extractStridedSlice S1x512 ![1, 0] a3 slices_S3x512_S1x512_1_0) shapeCasts_S1x512_S512))))) (mulf (extractStridedSlice S2x4096x512 ![0, 2, 0] fup_ slices_S2x4098x512_S2x4096x512_0_2_0) (broadcastInDim S2x4096x512 ![0, 1, 2] bcast_S1x1x512_S2x4096x512_0_1_2 (broadcastInDim S1x1x512 ![2] bcast_S512_S1x1x512_2 (shapeCast S512 (extractStridedSlice S1x512 ![2, 0] a3 slices_S3x512_S1x512_2_0) shapeCasts_S1x512_S512)))))

def fs0 (a0 : FVec Ideal S2x4096x7168 .f32) (a5 : FVec Ideal S3072 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 0] (extractStridedSlice S2x4096x3072 ![0, 0, 4096] a0 slices_S2x4096x7168_S2x4096x3072_0_0_4096) slices_S2x4096x3072_S2x4096x1024_0_0_0) (broadcastInDim S2x4096x1024 ![0, 1, 2] bcast_S1x1x1024_S2x4096x1024_0_1_2 (broadcastInDim S1x1x1024 ![2] bcast_S1024_S1x1x1024_2 (extractStridedSlice S1024 ![0] a5 slices_S3072_S1024_0)))))))

def fs1 (a0 : FVec Ideal S2x4096x7168 .f32) (a5 : FVec Ideal S3072 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 1024] (extractStridedSlice S2x4096x3072 ![0, 0, 4096] a0 slices_S2x4096x7168_S2x4096x3072_0_0_4096) slices_S2x4096x3072_S2x4096x1024_0_0_1024) (broadcastInDim S2x4096x1024 ![0, 1, 2] bcast_S1x1x1024_S2x4096x1024_0_1_2 (broadcastInDim S1x1x1024 ![2] bcast_S1024_S1x1x1024_2 (extractStridedSlice S1024 ![1024] a5 slices_S3072_S1024_1024)))))))

def fs2 (a0 : FVec Ideal S2x4096x7168 .f32) (a5 : FVec Ideal S3072 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (extractStridedSlice S2x4096x1024 ![0, 0, 2048] (extractStridedSlice S2x4096x3072 ![0, 0, 4096] a0 slices_S2x4096x7168_S2x4096x3072_0_0_4096) slices_S2x4096x3072_S2x4096x1024_0_0_2048) (broadcastInDim S2x4096x1024 ![0, 1, 2] bcast_S1x1x1024_S2x4096x1024_0_1_2 (broadcastInDim S1x1x1024 ![2] bcast_S1024_S1x1x1024_2 (extractStridedSlice S1024 ![2048] a5 slices_S3072_S1024_2048)))))))

def fp0 (fya_ : FVec Ideal S2x4096x512 .f32) (a4 : FVec Ideal S3x512x1024 .f32) : FVec Ideal S2x4096x1024 .f32 :=
  Host.dotGeneral dot_S2x4096x512_S512x1024_S2x4096x1024_2_0_01_1_n_n none fya_ (shapeCast S512x1024 (extractStridedSlice S1x512x1024 ![0, 0, 0] a4 slices_S3x512x1024_S1x512x1024_0_0_0) shapeCasts_S1x512x1024_S512x1024)

def fp1 (a1 : FVec Ideal S2x4096x512 .f32) (a4 : FVec Ideal S3x512x1024 .f32) : FVec Ideal S2x4096x1024 .f32 :=
  Host.dotGeneral dot_S2x4096x512_S512x1024_S2x4096x1024_2_0_01_1_n_n none a1 (shapeCast S512x1024 (extractStridedSlice S1x512x1024 ![1, 0, 0] a4 slices_S3x512x1024_S1x512x1024_1_0_0) shapeCasts_S1x512x1024_S512x1024)

def fp2 (a2 : FVec Ideal S2x4096x512 .f32) (a4 : FVec Ideal S3x512x1024 .f32) : FVec Ideal S2x4096x1024 .f32 :=
  Host.dotGeneral dot_S2x4096x512_S512x1024_S2x4096x1024_2_0_01_1_n_n none a2 (shapeCast S512x1024 (extractStridedSlice S1x512x1024 ![2, 0, 0] a4 slices_S3x512x1024_S1x512x1024_2_0_0) shapeCasts_S1x512x1024_S512x1024)

def fmg (fs0_ : FVec Ideal S2x4096x1024 .f32) (fp0_ : FVec Ideal S2x4096x1024 .f32) (fs1_ : FVec Ideal S2x4096x1024 .f32) (fp1_ : FVec Ideal S2x4096x1024 .f32) (fs2_ : FVec Ideal S2x4096x1024 .f32) (fp2_ : FVec Ideal S2x4096x1024 .f32) : FVec Ideal S2x4096x1024 .f32 :=
  addf (addf (mulf fs0_ fp0_) (mulf fs1_ fp1_)) (mulf fs2_ fp2_)

def oya (fya_ : FVec Ideal S2x4096x512 .f32) : FVec Ideal S8192x512 .bf16 :=
  truncf .bf16 (shapeCast S8192x512 fya_ shapeCasts_S2x4096x512_S8192x512) bitsLt_bf16_f32

def opa (fp0_ : FVec Ideal S2x4096x1024 .f32) : FVec Ideal S8192x1024 .bf16 :=
  truncf .bf16 (shapeCast S8192x1024 fp0_ shapeCasts_S2x4096x1024_S8192x1024) bitsLt_bf16_f32

theorem fuu_at (P b s j) : fuu P (ix3 b s j) = U P b s j := by
  pointwise [fuu, U]

/-- The padded sequence, two tokens late. -/
theorem fup_at (Q b k j) : fup Q (ix3 b k j) = if h : k.val < 2 then 0 else Q (ix3 b ⟨k.val - 2, by omega⟩ j) := by
  have z : (FloatOps.sitofp (F := Ideal) FTy.f32 0#32 : EReal) = 0 := by
    show (((0#32 : BitVec 32).toInt : ℝ) : EReal) = 0
    simp
  pointwise [fup]
  rw [z]
  by_cases h : k.val < 2
  · rw [dif_neg (by omega), dif_pos h]
  · rw [dif_pos (by omega), dif_neg h]

theorem tap (P : FVec Ideal S2x4096x7168 .f32) (b : Fin 2) (s : Fin 4096) (j : Fin 512) (k n : ℕ) (hk : k + n = 2) (hh) :
    fup (fuu P) (ix3 b (⟨n + s.val, hh⟩ : Fin 4098) j) = UL P k b s j := by
  rw [fup_at, UL]
  by_cases h : k ≤ s.val
  · rw [if_pos h, dif_neg (by show ¬n + s.val < 2; omega), fuu_at]
    exact congrArg (fun s => U P b s j) (Fin.ext (by show n + s.val - 2 = s.val - k; omega))
  · rw [if_neg h, dif_pos (by show n + s.val < 2; omega)]

theorem fya_at (P Q W b s j) : fya P Q W (ix3 b s j) = P (ix3 b s ⟨j.val, by omega⟩) * (Q (ix3 b ⟨0 + s.val, by omega⟩ j) * W (ix2 0 j)
    + Q (ix3 b ⟨1 + s.val, by omega⟩ j) * W (ix2 1 j) + Q (ix3 b ⟨2 + s.val, by omega⟩ j) * W (ix2 2 j)) := by
  pointwise [fya]

theorem ul_zero (P b s j) : UL P 0 b s j = U P b s j := if_pos (Nat.zero_le _)

/-- The first branch. -/
theorem ya_eq (P W b s j) : fya P (fup (fuu P)) W (ix3 b s j) = YA P W b s j := by
  rw [fya_at, tap P b s j 2 0 rfl, tap P b s j 1 1 rfl, tap P b s j 0 2 rfl, ul_zero, YA]
  exact congrArg (P (ix3 b s ⟨j.val, _⟩) * ·) (congrArg₂ (· + ·) (congrArg₂ (· + ·) (mul_comm _ _) (mul_comm _ _)) (mul_comm _ _))

theorem fs0_at (P B b s d) : fs0 P B (ix3 b s d) = GT P B 0 (by omega) b s d := by
  pointwise [fs0, GT, sgm, Cert.Reals.word_one]

theorem fp0_at (Y W b s d) : fp0 Y W (ix3 b s d) = PR W 0 (fun b s k => Y (ix3 b s k)) b s d := by
  pointwise [fp0, PR]

theorem fs1_at (P B b s d) : fs1 P B (ix3 b s d) = GT P B 1024 (by omega) b s d := by
  pointwise [fs1, GT, sgm, Cert.Reals.word_one]
  have e : 4096 + (1024 + d.val) = 5120 + d.val := by omega
  simp only [e]

theorem fp1_at (Y W b s d) : fp1 Y W (ix3 b s d) = PR W 1 (fun b s k => Y (ix3 b s k)) b s d := by
  pointwise [fp1, PR]

theorem fs2_at (P B b s d) : fs2 P B (ix3 b s d) = GT P B 2048 (by omega) b s d := by
  pointwise [fs2, GT, sgm, Cert.Reals.word_one]
  have e : 4096 + (2048 + d.val) = 6144 + d.val := by omega
  simp only [e]

theorem fp2_at (Y W b s d) : fp2 Y W (ix3 b s d) = PR W 2 (fun b s k => Y (ix3 b s k)) b s d := by
  pointwise [fp2, PR]

theorem fmg_at (s0 p0 s1 p1 s2 p2 i) : fmg s0 p0 s1 p1 s2 p2 i = s0 i * p0 i + s1 i * p1 i + s2 i * p2 i := rfl

theorem oya_eq (Y) (f : Fin 2 → Fin 4096 → Fin 512 → EReal) (h : ∀ b s d, Y (ix3 b s d) = f b s d) : oya Y = flat 512 f := by
  funext i
  obtain ⟨r, d, rfl⟩ : ∃ (r : Fin 8192) (d : Fin 512), i = ix2 r d := ⟨_, _, eq_ix2 i⟩
  pointwise [oya]
  exact h _ _ _

theorem opa_eq (Y) (f : Fin 2 → Fin 4096 → Fin 1024 → EReal) (h : ∀ b s d, Y (ix3 b s d) = f b s d) : opa Y = flat 1024 f := by
  funext i
  obtain ⟨r, d, rfl⟩ : ∃ (r : Fin 8192) (d : Fin 1024), i = ix2 r d := ⟨_, _, eq_ix2 i⟩
  pointwise [opa]
  exact h _ _ _

section Results

variable (P : FVec Ideal S2x4096x7168 .f32) (Y Z : FVec Ideal S2x4096x512 .f32) (CW : FVec Ideal S3x512 .f32)
  (W : FVec Ideal S3x512x1024 .f32) (B : FVec Ideal S3072 .f32)

theorem r0 : oya (fya P (fup (fuu P)) CW) = flat 512 (YA P CW) := oya_eq _ _ (ya_eq P CW)

theorem pa_eq (b s d) : fp0 (fya P (fup (fuu P)) CW) W (ix3 b s d) = PR W 0 (YA P CW) b s d := by
  rw [fp0_at]
  simp only [ya_eq]

theorem r1 : opa (fp0 (fya P (fup (fuu P)) CW) W) = flat 1024 (PR W 0 (YA P CW)) := opa_eq _ _ (pa_eq P CW W)

theorem r2 : opa (fp1 Y W) = flat 1024 (PR W 1 fun b s k => Y (ix3 b s k)) := opa_eq _ _ (fp1_at Y W)

theorem r3 : opa (fp2 Z W) = flat 1024 (PR W 2 fun b s k => Z (ix3 b s k)) := opa_eq _ _ (fp2_at Z W)

theorem r4 : opa (fmg (fs0 P B) (fp0 (fya P (fup (fuu P)) CW) W) (fs1 P B) (fp1 Y W) (fs2 P B) (fp2 Z W))
    = flat 1024 (MG P CW W B Y Z) :=
  opa_eq _ _ fun b s d => by rw [fmg_at, fs0_at, fs1_at, fs2_at, pa_eq, fp1_at, fp2_at, MG]

theorem r5 : opa (fs0 P B) = flat 1024 (GT P B 0 (by omega)) := opa_eq _ _ (fs0_at P B)

theorem r6 : opa (fs1 P B) = flat 1024 (GT P B 1024 (by omega)) := opa_eq _ _ (fs1_at P B)

theorem r7 : opa (fs2 P B) = flat 1024 (GT P B 2048 (by omega)) := opa_eq _ _ (fs2_at P B)

end Results

end Cert.MergefReferenceIdeal.MergefRef

end
-- ==== Proof.MergefClaim.lean ====
/- The claims about the gated merge and the short convolution, forwards. -/
module

public import proofs.«01_k».proof.Defs
public import proofs.«01_k».proof.Proof.Gen.MergefKernel
public import proofs.«01_k».proof.Proof.Gen.MergefKernel.Frame
public import proofs.«01_k».proof.Proof.Gen.MergefReferenceIdeal.Run
public import proofs.«01_k».proof.Proof.MergefValue
public import proofs.«01_k».proof.Proof.MergefRef

@[expose] public section

set_option maxRecDepth 16384

noncomputable section

open Idealize.ShloMosaic Idealize.ShloMosaic.TcCoe Idealize.SL.Sem

namespace Cert.Proof

theorem frame_mergef : quiescent_MergefKernel := fun m ρ _ => Cert.MergefKernel.Gen.frame m ρ

theorem frame_mergefIdeal : quiescent_MergefKernelIdeal := fun m ρ _ => Cert.MergefKernelIdeal.Gen.frame m ρ

theorem frame_mergefReference : quiescent_MergefReferenceIdeal := fun m ρ _ =>
  (θ_run Cert.MergefReferenceIdeal.defs _ _).mono
    (fun r h => ⟨fun c => (h c).2.2.2.2.2.2.2.2, sem_eq_zero_of_no_sems (by decide) r.2⟩)
    (Cert.MergefReferenceIdeal.Value.run (F := Ideal) m ρ)

section Results

open Cert.MergefReferenceIdeal Cert.MergefReferenceIdeal.Gen Cert.MergefReferenceIdeal.Value Cert.MergefReferenceIdeal.MergefRef

variable (m : (ℓ : Loc nD τ sig) → Buf (Elt Ideal) ℓ) (c : Dev nD)

/-- The merged branches, as the reference computes them. -/
theorem mergef_v83_eq : Value.res_main_v83 m c
    = opa (fmg (fs0 (m ((c.tc : Thread nD τ).loc main_arg0)) (m ((c.tc : Thread nD τ).loc main_arg5)))
      (fp0 (fya (m ((c.tc : Thread nD τ).loc main_arg0)) (fup (fuu (m ((c.tc : Thread nD τ).loc main_arg0)))) (m ((c.tc : Thread nD τ).loc main_arg3))) (m ((c.tc : Thread nD τ).loc main_arg4)))
      (fs1 (m ((c.tc : Thread nD τ).loc main_arg0)) (m ((c.tc : Thread nD τ).loc main_arg5))) (fp1 (m ((c.tc : Thread nD τ).loc main_arg1)) (m ((c.tc : Thread nD τ).loc main_arg4)))
      (fs2 (m ((c.tc : Thread nD τ).loc main_arg0)) (m ((c.tc : Thread nD τ).loc main_arg5))) (fp2 (m ((c.tc : Thread nD τ).loc main_arg2)) (m ((c.tc : Thread nD τ).loc main_arg4)))) := by
  unfold Value.res_main_v83 opa fmg fs0 fs1 fs2 fp0 fp1 fp2 fya fup fuu
  rfl

end Results

open Cert.MergefReferenceIdeal.MergefRef in
set_option maxHeartbeats 2000000 in
/-- The first branch, the three projections, the merged branches and the three gates, at every token. -/
theorem algebraic_mergef : algebraic_MergefKernelIdeal_MergefReferenceIdeal := by
  pair_intro
  · run_from Cert.MergefKernelIdeal.Value.run_blocks m g
  · run_from Cert.MergefReferenceIdeal.Value.run m' g'
    · refine Eq.trans ?_ ((r0 _ _).trans (Cert.MergefKernelIdeal.MergefValue.final13 m c).symm)
      unfold oya fya fup fuu
      rfl
    · refine Eq.trans ?_ ((r1 _ _ _).trans (Cert.MergefKernelIdeal.MergefValue.final14 m c).symm)
      unfold opa fp0 fya fup fuu
      rfl
    · refine Eq.trans ?_ ((r2 _ _).trans (Cert.MergefKernelIdeal.MergefValue.final15 m c).symm)
      unfold opa fp1
      rfl
    · refine Eq.trans ?_ ((r3 _ _).trans (Cert.MergefKernelIdeal.MergefValue.final16 m c).symm)
      unfold opa fp2
      rfl
    · obtain ⟨h0, h1, h2, h3, h4, h5⟩ := hagree c
      rw [mergef_v83_eq, h0, h1, h2, h3, h4, h5]
      exact (r4 _ _ _ _ _ _).trans (Cert.MergefKernelIdeal.MergefValue.final17 m c).symm
    · refine Eq.trans ?_ ((r5 _ _).trans (Cert.MergefKernelIdeal.MergefValue.final18 m c).symm)
      unfold opa fs0
      rfl
    · refine Eq.trans ?_ ((r6 _ _).trans (Cert.MergefKernelIdeal.MergefValue.final19 m c).symm)
      unfold opa fs1
      rfl
    · refine Eq.trans ?_ ((r7 _ _).trans (Cert.MergefKernelIdeal.MergefValue.final20 m c).symm)
      unfold opa fs2
      rfl

end Cert.Proof

end
-- ==== Proof.LbfRef.lean ====
/- The reference of the forget gates' lower bounds: its result in closed form. -/
module

public import proofs.«01_k».proof.Proof.Gen.LbfReferenceIdeal.Run
public import proofs.«01_k».proof.Proof.LbRow
public import Idealize.ShloMosaic.Lib.Pointwise

@[expose] public section

set_option maxRecDepth 16384

noncomputable section

open Idealize.ShloMosaic Idealize.ShloMosaic.TcCoe Idealize.SL.Sem Idealize.ShloMosaic.StableHlo

namespace Cert.LbfReferenceIdeal.LbfRef

open Cert.LbfReferenceIdeal Cert.LbfReferenceIdeal.Gen Cert.Reals Cert.LbRow

/-- The largest entry of a column. -/
def mx (a0 : FVec Ideal S4x512 .f32) : FVec Ideal S512 .f32 :=
  Host.reduce FloatOps.maximumf a0 (constant S_ .f32 0xFF800000#32) reducesTo_S4x512_S512_d0 h_S_

/-- … where the maximum starts at minus infinity once more. -/
def mxx (mx_ : FVec Ideal S512 .f32) : FVec Ideal S512 .f32 :=
  maximumf (broadcastInDim S512 ![] bcast_S_S512 (constant S_ .f32 0xFF800000#32)) mx_

/-- The exponentials. -/
def ex (a0 : FVec Ideal S4x512 .f32) (mxx_ : FVec Ideal S512 .f32) : FVec Ideal S4x512 .f32 :=
  Host.exp (subf a0 (broadcastInDim S4x512 ![0, 1] bcast_S1x512_S4x512_0_1 (broadcastInDim S1x512 ![1] bcast_S512_S1x512_1 mxx_)))

/-- Their sums. -/
def sm (ex_ : FVec Ideal S4x512 .f32) : FVec Ideal S4x512 .f32 :=
  broadcastInDim S4x512 ![0, 1] bcast_S1x512_S4x512_0_1 (broadcastInDim S1x512 ![1] bcast_S512_S1x512_1 (Host.reduceAdd ex_ (constant S_ .f32 0x00000000#32) reducesTo_S4x512_S512_d0 h_S_))

/-- The probabilities. -/
def pr (ex_ : FVec Ideal S4x512 .f32) (sm_ : FVec Ideal S4x512 .f32) : FVec Ideal S4x512 .f32 :=
  Host.divf ex_ sm_

/-- The running sums less the first layer. -/
def lo (cs_ : FVec Ideal S4x512 .f32) (pr_ : FVec Ideal S4x512 .f32) : FVec Ideal S4x512 .f32 :=
  subf cs_ (broadcastInDim S4x512 ![0, 1] bcast_S1x512_S4x512_0_1 (extractStridedSlice S1x512 ![0, 0] pr_ slices_S4x512_S1x512_0_0))

/-- The running sum over the layers. -/
def cs (D : FVec Ideal S4x512 .f32) : FVec Ideal S4x512 .f32 :=
  Host.reduceWindowAdd ![4, 1] ![1, 1] ![3, 0] ![0, 0] D (broadcastInDim S_ ![] bcast_S_S_ (constant S_ .f32 0x00000000#32)) reduceWindows_S4x512_S4x512_w4s1p3_0_w1s1p0_0 h_S_

/-- A column. -/
def col (X : FVec Ideal S4x512 .f32) (c : Fin 512) : Fin 4 → EReal := fun n => X (ix2 n c)

/-- The entry a window position reads: the operand's, or the padding's. -/
def ent (x : S4x512.Idx → EReal) (v : EReal) (j : Fin 4) (c : Fin 512) (n : Fin 4) : EReal :=
  if h : 3 ≤ j.val + n.val then x (ix2 ⟨j.val + n.val - 3, by omega⟩ c) else v

theorem ent_eq (x : S4x512.Idx → EReal) (v : EReal) (j : Fin 4) (c : Fin 512) (n : Fin 4) (p : Fin 2 → Nat)
    (D : Decidable (∀ a : Fin S4x512.rank, (![3, 0] : Fin 2 → Nat) a ≤ p a ∧ p a - (![3, 0] : Fin 2 → Nat) a < S4x512.size a))
    (h0 : p 0 = j.val + n.val) (h1 : p 1 = c.val) :
    (if hin : ∀ a : Fin S4x512.rank, (![3, 0] : Fin 2 → Nat) a ≤ p a ∧ p a - (![3, 0] : Fin 2 → Nat) a < S4x512.size a then
      x (fun a : Fin S4x512.rank => ⟨p a - (![3, 0] : Fin 2 → Nat) a, (hin a).2⟩) else v) = ent x v j c n := by
  have hc := c.isLt
  unfold ent
  split
  · next hin =>
    have h := (hin 0).1
    change 3 ≤ p 0 at h
    rw [dif_pos (by omega)]
    refine congrArg x (funext fun a => Fin.ext ?_)
    match a with
    | ⟨0, _⟩ => show p 0 - 3 = _ - 3; omega
    | ⟨1, _⟩ => exact h1
  · next hin =>
    rw [dif_neg fun hle => hin fun a => by
      match a with
      | ⟨0, _⟩ => exact ⟨show 3 ≤ p 0 by omega, show p 0 - 3 < 4 by omega⟩
      | ⟨1, _⟩ => exact ⟨Nat.zero_le _, show p 1 - 0 < 512 by omega⟩]

theorem rw_at (x : S4x512.Idx → EReal) (v : EReal) (j : Fin 4) (c : Fin 512) :
    Ideal.hostReduceWindowAdd ![4, 1] ![1, 1] ![3, 0] ![0, 0] reduceWindows_S4x512_S4x512_w4s1p3_0_w1s1p0_0 x v (ix2 j c)
      = v + ∑ n, ent x v j c n := by
  refine Eq.trans ?_ (fold4 (ent x v j c) v)
  unfold Ideal.hostReduceWindowAdd Host.reduceWindow
  refine congrArg (fun f : EReal → Fin 4 → EReal => (List.finRange 4).foldl f v) (funext fun r => funext fun n => ?_)
  refine congrArg (r + ·) (ent_eq x v j c n _ _ ?_ ?_)
  · show j.val * 1 + ((⟨2, ![4, 1]⟩ : Shape).rowMajor.symm n 0).val = _
    have := win0 n
    omega
  · show c.val * 1 + ((⟨2, ![4, 1]⟩ : Shape).rowMajor.symm n 1).val = _
    have := win1 n
    omega

theorem cs_at (D j c) : cs D (ix2 j c)
    = ∑ n : Fin 4, if h : 3 ≤ j.val + n.val then col D c ⟨j.val + n.val - 3, by omega⟩ else 0 := by
  have hz : (broadcastInDim S_ ![] bcast_S_S_ (constant (F := Ideal) S_ .f32 0x00000000#32)) (Shape.Idx.first h_S_) = (0 : EReal) :=
    show Ideal.ofBits .f32 0x00000000#32 = 0 by simp [Ideal.ofBits, Ideal.ieee]
  refine (rw_at _ _ j c).trans ?_
  rw [hz, zero_add]
  rfl

theorem mx_at (X c) : mx X (ix1 c) = Finset.fold max NI (fun x => X (ix2 x c)) Finset.univ := by
  pointwise [mx]

theorem mxx_at (P c) : mxx P (ix1 c) = max NI (P (ix1 c)) := by
  pointwise [mxx]

theorem ex_at (X M n c) : ex X M (ix2 n c) = Ideal.exp (X (ix2 n c) - M (ix1 c)) := by
  pointwise [ex]

theorem sm_at (P n c) : sm P (ix2 n c) = ∑ x, P (ix2 x c) := by
  pointwise [sm]

theorem pr_at (P S n c) : pr P S (ix2 n c) = Ideal.div (P (ix2 n c)) (S (ix2 n c)) := by
  pointwise [pr]

theorem lo_at (A P n c) : lo A P (ix2 n c) = A (ix2 n c) - P (ix2 0 c) := by
  pointwise [lo]

/-- The exponentials and the probabilities, from the argument. -/
abbrev E' (X : FVec Ideal S4x512 .f32) : FVec Ideal S4x512 .f32 := ex X (mxx (mx X))

abbrev P' (X : FVec Ideal S4x512 .f32) : FVec Ideal S4x512 .f32 := pr (E' X) (sm (E' X))

theorem e_at (X n c) : E' X (ix2 n c) = lx (col X c) n := by
  refine (ex_at _ _ n c).trans ?_
  rw [mxx_at, mx_at]
  exact congrArg (fun z => Ideal.exp (X (ix2 n c) - z)) (max_lm (col X c))

theorem p_at (X n c) : P' X (ix2 n c) = lp (col X c) n := by
  refine (pr_at _ _ n c).trans ?_
  rw [sm_at]
  simp only [e_at]
  rfl

/-- The result in closed form: the layers' probabilities up to this one, less the first. -/
def lo4 (l : Fin 4 → EReal) (j : Fin 4) : EReal :=
  (∑ n : Fin 4, if h : 3 ≤ j.val + n.val then lp l ⟨j.val + n.val - 3, by omega⟩ else 0) - lp l 0

theorem l_at (X n c) : lo (cs (P' X)) (P' X) (ix2 n c) = lo4 (col X c) n := by
  refine (lo_at _ _ n c).trans ?_
  rw [cs_at, p_at]
  simp only [col, p_at]
  rfl

end Cert.LbfReferenceIdeal.LbfRef

end
-- ==== Proof.LbfValue.lean ====
/- The call of the forget gates' lower bounds: what its output array holds after the run. -/
module

public import proofs.«01_k».proof.Proof.Gen.LbfKernelIdeal.Value
public import proofs.«01_k».proof.Proof.LbfRef

@[expose] public section

set_option maxRecDepth 16384

noncomputable section

open Idealize.ShloMosaic Idealize.ShloMosaic.TcCoe Idealize.SL.Sem

namespace Cert.LbfKernelIdeal.LbfValue

open Cert.LbfKernelIdeal Cert.LbfKernelIdeal.Gen Cert.Reals Cert.LbRow
open Cert.LbfReferenceIdeal.LbfRef (col lo4)

variable (x0 : FVec Ideal S4x512 .f32)

theorem s_at (n c) : k0_pay1 (F := Ideal) x0 (ix2 n c) = lp (col x0 c) n := by
  pointwise [k0_pay1]
  rfl

theorem sum0 (c) : k0_pay2 (F := Ideal) x0 (ix2 0 c) = lp (col x0 c) 0 := by
  simp only [← s_at]
  generalize hs : k0_pay1 (F := Ideal) x0 = s
  pointwise [k0_pay2, k0_pay4, k0_pay6, hs]

theorem sum1 (c) : k0_pay4 (F := Ideal) x0 (ix2 0 c) = lp (col x0 c) 0 + lp (col x0 c) 1 := by
  simp only [← s_at]
  generalize hs : k0_pay1 (F := Ideal) x0 = s
  pointwise [k0_pay2, k0_pay4, k0_pay6, hs]

theorem sum2 (c) : k0_pay6 (F := Ideal) x0 (ix2 0 c) = lp (col x0 c) 0 + lp (col x0 c) 1 + lp (col x0 c) 2 := by
  simp only [← s_at]
  generalize hs : k0_pay1 (F := Ideal) x0 = s
  pointwise [k0_pay2, k0_pay4, k0_pay6, hs]

theorem row0 (c) : k0_pay3 (F := Ideal) x0 (ix2 0 c) = lo4 (col x0 c) 0 := by
  have h : k0_pay3 (F := Ideal) x0 (ix2 0 c) = lp (col x0 c) 0 - lp (col x0 c) 0 := by
    simp only [← s_at]
    generalize hs : k0_pay1 (F := Ideal) x0 = s
    pointwise [k0_pay2, k0_pay3, k0_pay4, k0_pay5, k0_pay6, k0_pay7, k0_pay8, hs]
  refine h.trans ?_
  unfold lo4
  rw [Fin.sum_univ_four]
  simp

theorem row1 (c) : k0_pay5 (F := Ideal) x0 (ix2 0 c) = lo4 (col x0 c) 1 := by
  have h : k0_pay5 (F := Ideal) x0 (ix2 0 c) = lp (col x0 c) 0 + lp (col x0 c) 1 - lp (col x0 c) 0 := by
    simp only [← s_at]
    generalize hs : k0_pay1 (F := Ideal) x0 = s
    pointwise [k0_pay2, k0_pay3, k0_pay4, k0_pay5, k0_pay6, k0_pay7, k0_pay8, hs]
  refine h.trans ?_
  unfold lo4
  rw [Fin.sum_univ_four]
  simp

theorem row2 (c) : k0_pay7 (F := Ideal) x0 (ix2 0 c) = lo4 (col x0 c) 2 := by
  have h : k0_pay7 (F := Ideal) x0 (ix2 0 c) = lp (col x0 c) 0 + lp (col x0 c) 1 + lp (col x0 c) 2 - lp (col x0 c) 0 := by
    simp only [← s_at]
    generalize hs : k0_pay1 (F := Ideal) x0 = s
    pointwise [k0_pay2, k0_pay3, k0_pay4, k0_pay5, k0_pay6, k0_pay7, k0_pay8, hs]
  refine h.trans ?_
  unfold lo4
  rw [Fin.sum_univ_four]
  simp

theorem row3 (c) : k0_pay8 (F := Ideal) x0 (ix2 0 c) = lo4 (col x0 c) 3 := by
  have h : k0_pay8 (F := Ideal) x0 (ix2 0 c) = lp (col x0 c) 0 + lp (col x0 c) 1 + lp (col x0 c) 2 + lp (col x0 c) 3 - lp (col x0 c) 0 := by
    simp only [← s_at]
    generalize hs : k0_pay1 (F := Ideal) x0 = s
    pointwise [k0_pay2, k0_pay3, k0_pay4, k0_pay5, k0_pay6, k0_pay7, k0_pay8, hs]
  refine h.trans ?_
  unfold lo4
  rw [Fin.sum_univ_four]
  simp

/-- The output array, from the argument. -/
theorem out_at (n c) : Value.G1 (F := Ideal) x0 (ix2 n c) = lo4 (col x0 c) n := by
  unfold Value.G1
  canon_tiles x h
  · have e0 : n.val = 3 + (x 0).val := h0
    have e1 : c.val = (x 1).val := h1
    have hx := (x 0).isLt
    obtain rfl : n = 3 := Fin.ext (by show n.val = 3; change (x 0).val < 1 at hx; omega)
    obtain rfl : x = ix2 0 c := by blk_ext <;> omega
    exact row3 x0 c
  · have e0 : n.val = 2 + (x 0).val := h0
    have e1 : c.val = (x 1).val := h1
    have hx := (x 0).isLt
    obtain rfl : n = 2 := Fin.ext (by show n.val = 2; change (x 0).val < 1 at hx; omega)
    obtain rfl : x = ix2 0 c := by blk_ext <;> omega
    exact row2 x0 c
  · have e0 : n.val = 1 + (x 0).val := h0
    have e1 : c.val = (x 1).val := h1
    have hx := (x 0).isLt
    obtain rfl : n = 1 := Fin.ext (by show n.val = 1; change (x 0).val < 1 at hx; omega)
    obtain rfl : x = ix2 0 c := by blk_ext <;> omega
    exact row1 x0 c
  · have e0 : n.val = (x 0).val := h0
    have e1 : c.val = (x 1).val := h1
    have hx := (x 0).isLt
    obtain rfl : n = 0 := Fin.ext (by show n.val = 0; change (x 0).val < 1 at hx; omega)
    obtain rfl : x = ix2 0 c := by blk_ext <;> omega
    exact row0 x0 c

end Cert.LbfKernelIdeal.LbfValue

end
-- ==== Proof.LbfClaim.lean ====
/- The claims about the forward call of the forget gates' lower bounds. -/
module

public import proofs.«01_k».proof.Defs
public import proofs.«01_k».proof.Proof.Gen.LbfKernel
public import proofs.«01_k».proof.Proof.Gen.LbfKernel.Frame
public import proofs.«01_k».proof.Proof.Gen.LbfReferenceIdeal.Run
public import proofs.«01_k».proof.Proof.LbfValue

@[expose] public section

set_option maxRecDepth 16384

noncomputable section

open Idealize.ShloMosaic Idealize.ShloMosaic.TcCoe Idealize.SL.Sem

namespace Cert.Proof

open Cert.LbfReferenceIdeal.LbfRef

theorem frame_lbf : quiescent_LbfKernel := fun m ρ _ => Cert.LbfKernel.Gen.frame m ρ

theorem frame_lbfIdeal : quiescent_LbfKernelIdeal := fun m ρ _ => Cert.LbfKernelIdeal.Gen.frame m ρ

theorem frame_lbfReference : quiescent_LbfReferenceIdeal := fun m ρ _ =>
  (θ_run Cert.LbfReferenceIdeal.defs _ _).mono
    (fun r h => ⟨fun c => (h c).2, sem_eq_zero_of_no_sems (by decide) r.2⟩)
    (Cert.LbfReferenceIdeal.Value.run (F := Ideal) m ρ)

theorem res_lbf (X : FVec Ideal Cert.LbfReferenceIdeal.S4x512 .f32) :
    lo (cs (P' X)) (P' X) = Cert.LbfKernelIdeal.Value.G1 (F := Ideal) X := by
  funext j
  obtain ⟨n, c, rfl⟩ : ∃ (n : Fin 4) (c : Fin 512), j = ix2 n c := ⟨_, _, eq_ix2 j⟩
  rw [l_at, Cert.LbfKernelIdeal.LbfValue.out_at]

set_option maxHeartbeats 2000000 in
/-- The forget gates' lower bounds. -/
theorem algebraic_lbf : algebraic_LbfKernelIdeal_LbfReferenceIdeal := by
  pair_intro
  · run_from Cert.LbfKernelIdeal.Value.run m g
  · run_from Cert.LbfReferenceIdeal.Value.run m' g'
    refine Eq.trans ?_ (res_lbf _)
    unfold lo cs P' E' pr sm ex mxx mx
    rfl

end Cert.Proof

end
-- ==== Proof.InbValue.lean ====
/- The input projection's gradient: what the array of the layer's input gradient holds after the run, block by block. -/
module

public import proofs.«01_k».proof.Proof.Gen.InbKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InbKernelIdeal.InbValue

open Cert.InbKernelIdeal Cert.InbKernelIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

/-- The scale of the residual's gradient. -/
abbrev al : EReal := Scalar.ofBits (F := Ideal) .f32 0x3FD744FD#32

variable (m : (ℓ : Loc nD τ sig) → Buf (Elt Ideal) ℓ)

/-- The arguments on one device. -/
abbrev aC (c : Dev nD) : FVec Ideal S2x4096x1536 .f32 := m ((c : Thread nD τ).loc main_arg0)

abbrev aH (c : Dev nD) : FVec Ideal S2x4096x2048 .f32 := m ((c : Thread nD τ).loc main_arg1)

abbrev aQ (c : Dev nD) : FVec Ideal S2x4096x512 .f32 := m ((c : Thread nD τ).loc main_arg2)

abbrev aG (c : Dev nD) : FVec Ideal S2x4096x3072 .f32 := m ((c : Thread nD τ).loc main_arg3)

abbrev aW (c : Dev nD) : FVec Ideal S1024x7168 .f32 := m ((c : Thread nD τ).loc main_arg4)

abbrev aZ (c : Dev nD) : FVec Ideal S2x4096x1024 .f32 := m ((c : Thread nD τ).loc main_arg5)

/-- One of the output's four products, at sequence `b`, position `s` and column `d`: its piece has `n` columns, which
    meet the weight's columns from `o` on. -/
def prod (n o : ℕ) (hn : o + n ≤ 7168) (D : FVec Ideal ⟨3, ![2, 4096, n]⟩ .f32) (W : FVec Ideal S1024x7168 .f32)
    (b : Fin 2) (s : Fin 4096) (d : Fin 1024) : EReal :=
  ∑ k : Fin n, D (ix3 b s k) * W (ix2 d ⟨o + k.val, by omega⟩)

/-- The output's entries. -/
def val (C : FVec Ideal S2x4096x1536 .f32) (H : FVec Ideal S2x4096x2048 .f32) (Q : FVec Ideal S2x4096x512 .f32) (G : FVec Ideal S2x4096x3072 .f32)
    (W : FVec Ideal S1024x7168 .f32) (Z : FVec Ideal S2x4096x1024 .f32)
    (b : Fin 2) (s : Fin 4096) (d : Fin 1024) : EReal :=
  al * Z (ix3 b s d) + prod 1536 0 (by omega) C W b s d + prod 2048 1536 (by omega) H W b s d
    + prod 512 3584 (by omega) Q W b s d + prod 3072 4096 (by omega) G W b s d

/-- The output array, from the arguments. -/
def out (C : FVec Ideal S2x4096x1536 .f32) (H : FVec Ideal S2x4096x2048 .f32) (Q : FVec Ideal S2x4096x512 .f32) (G : FVec Ideal S2x4096x3072 .f32)
    (W : FVec Ideal S1024x7168 .f32) (Z : FVec Ideal S2x4096x1024 .f32) : FVec Ideal S8192x1024 .f32 := fun i =>
  val C H Q G W Z ⟨(i 0).val / 4096, by have : (i 0).val < 8192 := (i 0).isLt; omega⟩ ⟨(i 0).val % 4096, by omega⟩ (i 1)

/-- A load of columns of the weight. -/
theorem wcols (n o : ℕ) (x : FVec Ideal S1024x7168 .bf16) (hh) (d : Fin 1024) (k : Fin n) (h : o + k.val < 7168) :
    View.ld (Val := Elt Ideal) (e' := .bf16) x (Rect.unit (s := S1024x7168) ![0, o] ![1024, n] hh) (ix2 d k)
      = x (ix2 d ⟨o + k.val, h⟩) :=
  congrArg x (by blk_ext <;> simp)

theorem blk0 (c : Dev nD) (t : Fin cfg0.N) (r : Fin 512) (k : Fin 1536) (h1 : (t.val * 512 + r.val) / 4096 < 2)
    (h2 : (t.val * 512 + r.val) % 4096 < 4096) :
    ((iblk m c 0 t : FVec Ideal S512x1536 .bf16) (ix2 r k) : EReal)
      = aC m c (ix3 ⟨(t.val * 512 + r.val) / 4096, h1⟩ ⟨(t.val * 512 + r.val) % 4096, h2⟩ k) := by
  blk_point [iblk, V, idx t]

theorem blk1 (c : Dev nD) (t : Fin cfg0.N) (r : Fin 512) (k : Fin 2048) (h1 : (t.val * 512 + r.val) / 4096 < 2)
    (h2 : (t.val * 512 + r.val) % 4096 < 4096) :
    ((iblk m c 1 t : FVec Ideal S512x2048 .bf16) (ix2 r k) : EReal)
      = aH m c (ix3 ⟨(t.val * 512 + r.val) / 4096, h1⟩ ⟨(t.val * 512 + r.val) % 4096, h2⟩ k) := by
  blk_point [iblk, V, idx t]

theorem blk2 (c : Dev nD) (t : Fin cfg0.N) (r : Fin 512) (k : Fin 512) (h1 : (t.val * 512 + r.val) / 4096 < 2)
    (h2 : (t.val * 512 + r.val) % 4096 < 4096) :
    ((iblk m c 2 t : FVec Ideal S512x512 .bf16) (ix2 r k) : EReal)
      = aQ m c (ix3 ⟨(t.val * 512 + r.val) / 4096, h1⟩ ⟨(t.val * 512 + r.val) % 4096, h2⟩ k) := by
  blk_point [iblk, V, idx t]

theorem blk3 (c : Dev nD) (t : Fin cfg0.N) (r : Fin 512) (k : Fin 3072) (h1 : (t.val * 512 + r.val) / 4096 < 2)
    (h2 : (t.val * 512 + r.val) % 4096 < 4096) :
    ((iblk m c 3 t : FVec Ideal S512x3072 .bf16) (ix2 r k) : EReal)
      = aG m c (ix3 ⟨(t.val * 512 + r.val) / 4096, h1⟩ ⟨(t.val * 512 + r.val) % 4096, h2⟩ k) := by
  blk_point [iblk, V, idx t]

theorem blk5 (c : Dev nD) (t : Fin cfg0.N) (r : Fin 512) (k : Fin 1024) (h1 : (t.val * 512 + r.val) / 4096 < 2)
    (h2 : (t.val * 512 + r.val) % 4096 < 4096) :
    ((iblk m c 5 t : FVec Ideal S512x1024 .f32) (ix2 r k) : EReal)
      = aZ m c (ix3 ⟨(t.val * 512 + r.val) / 4096, h1⟩ ⟨(t.val * 512 + r.val) % 4096, h2⟩ k) := by
  blk_point [iblk, V, idx t]

theorem blk4 (c : Dev nD) (t : Fin cfg0.N) (d : Fin 1024) (k : Fin 7168) :
    ((iblk m c 4 t : FVec Ideal S1024x7168 .bf16) (ix2 d k) : EReal) = aW m c (ix2 d k) := by
  blk_point [iblk, V, idx t]

theorem emb6 (t : Fin cfg0.N) (r : Fin 512) (d : Fin 1024) (h : t.val * 512 + r.val < 8192) :
    ((cfg0.win 6).blk t).view.emb (ix2 r d) = ix2 ⟨t.val * 512 + r.val, h⟩ d := by
  blk_ext [idx t]

theorem pay_at (z : FVec Ideal S512x1024 .f32) (x0 : FVec Ideal S512x1536 .bf16) (w0 : FVec Ideal S1024x1536 .bf16)
    (x1 : FVec Ideal S512x2048 .bf16) (w1 : FVec Ideal S1024x2048 .bf16) (x2 : FVec Ideal S512x512 .bf16)
    (w2 : FVec Ideal S1024x512 .bf16) (x3 : FVec Ideal S512x3072 .bf16) (w3 : FVec Ideal S1024x3072 .bf16) (r d) :
    k0_pay1 (F := Ideal) z x0 w0 x1 w1 x2 w2 x3 w3 (ix2 r d)
      = al * z (ix2 r d) + (∑ k : Fin 1536, x0 (ix2 r k) * w0 (ix2 d k)) + (∑ k : Fin 2048, x1 (ix2 r k) * w1 (ix2 d k))
        + (∑ k : Fin 512, x2 (ix2 r k) * w2 (ix2 d k)) + (∑ k : Fin 3072, x3 (ix2 r k) * w3 (ix2 d k)) := by
  pointwise [k0_pay1]

/-- One product of a point's block. -/
theorem prod_blk (n o : ℕ) (hn : o + n ≤ 7168) (D : FVec Ideal ⟨3, ![2, 4096, n]⟩ .f32) (x : FVec Ideal ⟨2, ![512, n]⟩ .bf16)
    (c : Dev nD) (t : Fin cfg0.N) (r : Fin 512) (d : Fin 1024) (b : Fin 2) (s : Fin 4096)
    (hx : ∀ k : Fin n, (x (ix2 r k) : EReal) = D (ix3 b s k)) (hh) :
    ∑ k : Fin n, (x (ix2 r k) : EReal) * View.ld (Val := Elt Ideal) (e' := .bf16) (iblk m c 4 t : FVec Ideal S1024x7168 .bf16)
        (Rect.unit (s := S1024x7168) ![0, o] ![1024, n] hh) (ix2 d k)
      = prod n o hn D (aW m c) b s d :=
  Finset.sum_congr rfl fun k _ => by
    rw [wcols n o _ hh d k (by omega), hx k]
    exact congrArg (D (ix3 b s k) * ·) (blk4 m c t d _)

theorem point (c : Dev nD) (t : Fin cfg0.N) (y) :
    k0_pay1 (F := Ideal) (iblk m c 5 t) (iblk m c 0 t) (View.ld (iblk m c 4 t) r0_2) (iblk m c 1 t) (View.ld (iblk m c 4 t) r0_4)
        (iblk m c 2 t) (View.ld (iblk m c 4 t) r0_6) (iblk m c 3 t) (View.ld (iblk m c 4 t) r0_8) y
      = out (aC m c) (aH m c) (aQ m c) (aG m c) (aW m c) (aZ m c) (((cfg0.win 6).blk t).view.emb y) := by
  obtain ⟨r, d, rfl⟩ : ∃ (r : Fin 512) (d : Fin 1024), y = ix2 r d := ⟨_, _, eq_ix2 y⟩
  have ht : t.val < 16 := t.isLt
  rw [emb6 t r d (by omega), pay_at]
  have h1 : (t.val * 512 + r.val) / 4096 < 2 := by omega
  have h2 : (t.val * 512 + r.val) % 4096 < 4096 := by omega
  exact congr (congrArg (· + ·) (congr (congrArg (· + ·) (congr (congrArg (· + ·) (congr (congrArg (· + ·)
    (congrArg (al * ·) (blk5 m c t r d h1 h2)))
    (prod_blk m 1536 0 (by omega) (aC m c) (iblk m c 0 t) c t r d _ _ (fun k => blk0 m c t r k h1 h2) _)))
    (prod_blk m 2048 1536 (by omega) (aH m c) (iblk m c 1 t) c t r d _ _ (fun k => blk1 m c t r k h1 h2) _)))
    (prod_blk m 512 3584 (by omega) (aQ m c) (iblk m c 2 t) c t r d _ _ (fun k => blk2 m c t r k h1 h2) _)))
    (prod_blk m 3072 4096 (by omega) (aG m c) (iblk m c 3 t) c t r d _ _ (fun k => blk3 m c t r k h1 h2) _)

theorem final (c : Dev nD) : (dats m 0 c).arrAt 6 (cfgs 0).N
    = out (aC m c) (aH m c) (aQ m c) (aG m c) (aW m c) (aZ m c) := by
  refine (dats m 0 c).arrAt_eq_of_covers 6 _ (by decide +kernel) fun t _ y => ?_
  blk_simp
  rw [after0_6]
  frame_out
  exact point m c t y

end Cert.InbKernelIdeal.InbValue

end
-- ==== Proof.InbClaim.lean ====
/- The claims about the gradient of a layer's input, through the input projection. -/
module

public import proofs.«01_k».proof.Defs
public import proofs.«01_k».proof.Proof.Gen.InbKernel
public import proofs.«01_k».proof.Proof.Gen.InbKernel.Frame
public import proofs.«01_k».proof.Proof.Gen.InbReferenceIdeal.Run
public import proofs.«01_k».proof.Proof.InbValue

@[expose] public section

set_option maxRecDepth 16384

noncomputable section

open Idealize.ShloMosaic Idealize.ShloMosaic.TcCoe Idealize.SL.Sem

namespace Cert.Proof

theorem frame_inb : quiescent_InbKernel := fun m ρ _ => Cert.InbKernel.Gen.frame m ρ

theorem frame_inbIdeal : quiescent_InbKernelIdeal := fun m ρ _ => Cert.InbKernelIdeal.Gen.frame m ρ

theorem frame_inbReference : quiescent_InbReferenceIdeal := fun m ρ _ =>
  (θ_run Cert.InbReferenceIdeal.defs _ _).mono
    (fun r h => ⟨fun c => (h c).2, sem_eq_zero_of_no_sems (by decide) r.2⟩)
    (Cert.InbReferenceIdeal.Value.run (F := Ideal) m ρ)

/-- A sum over the projection's columns, piece by piece. -/
theorem sum_pieces (f : Fin 7168 → EReal) : ∑ k, f k = (∑ k : Fin 1536, f ⟨0 + k.val, by omega⟩)
    + (∑ k : Fin 2048, f ⟨1536 + k.val, by omega⟩) + (∑ k : Fin 512, f ⟨3584 + k.val, by omega⟩)
    + ∑ k : Fin 3072, f ⟨4096 + k.val, by omega⟩ := by
  have e1 : ∑ k, f k = _ := Fin.sum_univ_add (a := 4096) (b := 3072) f
  have e2 := Fin.sum_univ_add (a := 3584) (b := 512) fun k => f (Fin.castAdd 3072 k)
  have e3 := Fin.sum_univ_add (a := 1536) (b := 2048) fun k => f (Fin.castAdd 3072 (Fin.castAdd 512 k))
  refine e1.trans (congrArg (· + _) (e2.trans (congrArg (· + _) (e3.trans (congrArg (· + _) ?_)))))
  exact Finset.sum_congr rfl fun k _ => congrArg f (Fin.ext (by simp))

open Cert.InbReferenceIdeal Cert.InbReferenceIdeal.Gen

/-- The gradients of the projection's columns, side by side. -/
def catR (C : FVec Ideal S2x4096x1536 .f32) (H : FVec Ideal S2x4096x2048 .f32) (Q : FVec Ideal S2x4096x512 .f32)
    (G : FVec Ideal S2x4096x3072 .f32) : FVec Ideal S2x4096x7168 .f32 :=
  concatenate S2x4096x7168 2 [⟨S2x4096x1536, (C : (⟨S2x4096x1536, .f32⟩ : BufTy).Contents (Elt Ideal))⟩,
    ⟨S2x4096x2048, (H : (⟨S2x4096x2048, .f32⟩ : BufTy).Contents (Elt Ideal))⟩,
    ⟨S2x4096x512, (Q : (⟨S2x4096x512, .f32⟩ : BufTy).Contents (Elt Ideal))⟩,
    ⟨S2x4096x3072, (G : (⟨S2x4096x3072, .f32⟩ : BufTy).Contents (Elt Ideal))⟩]
    concatenates_S2x4096x1536_S2x4096x2048_S2x4096x512_S2x4096x3072_S2x4096x7168_d2

theorem cat_C (C H Q G) (b : Fin 2) (s : Fin 4096) (k : Fin 1536) (h : 0 + k.val < 7168) :
    (catR C H Q G (ix3 b s ⟨0 + k.val, h⟩) : EReal) = C (ix3 b s k) := by
  have hk := k.isLt
  pointwise [catR]

theorem cat_H (C H Q G) (b : Fin 2) (s : Fin 4096) (k : Fin 2048) (h : 1536 + k.val < 7168) :
    (catR C H Q G (ix3 b s ⟨1536 + k.val, h⟩) : EReal) = H (ix3 b s k) := by
  have hk := k.isLt
  pointwise [catR]

theorem cat_Q (C H Q G) (b : Fin 2) (s : Fin 4096) (k : Fin 512) (h : 3584 + k.val < 7168) :
    (catR C H Q G (ix3 b s ⟨3584 + k.val, h⟩) : EReal) = Q (ix3 b s k) := by
  have hk := k.isLt
  pointwise [catR]
  rw [dif_neg (by omega), dif_neg (by omega), dif_pos (by omega)]
  exact congrArg (fun z => Q (ix3 b s z)) (Fin.ext (by dsimp only; omega))

theorem cat_G (C H Q G) (b : Fin 2) (s : Fin 4096) (k : Fin 3072) (h : 4096 + k.val < 7168) :
    (catR C H Q G (ix3 b s ⟨4096 + k.val, h⟩) : EReal) = G (ix3 b s k) := by
  have hk := k.isLt
  pointwise [catR]
  rw [dif_neg (by omega), dif_neg (by omega), dif_neg (by omega)]
  exact congrArg (fun z => G (ix3 b s z)) (Fin.ext (by dsimp only; omega))

/-- The reference's result, from its arguments. -/
def inbR (C : FVec Ideal S2x4096x1536 .f32) (H : FVec Ideal S2x4096x2048 .f32) (Q : FVec Ideal S2x4096x512 .f32)
    (G : FVec Ideal S2x4096x3072 .f32) (W : FVec Ideal S1024x7168 .f32) (Z : FVec Ideal S2x4096x1024 .f32) :
    FVec Ideal S8192x1024 .f32 :=
  shapeCast S8192x1024 (addf (mulf (broadcastInDim S2x4096x1024 ![] bcast_S_S2x4096x1024 (constant S_ .f32 0x3FD744FD#32)) Z)
    (Host.dotGeneral dot_S2x4096x7168_S1024x7168_S2x4096x1024_2_1_01_0_n_n none (catR C H Q G) W))
    shapeCasts_S2x4096x1024_S8192x1024

theorem inbR_at (C H Q G W Z) (r d) : inbR C H Q G W Z (ix2 r d)
    = Cert.InbKernelIdeal.InbValue.al * Z (ix3 ⟨r.val / 4096, by omega⟩ ⟨r.val % 4096, by omega⟩ d)
      + ∑ k : Fin 7168, (catR C H Q G (ix3 ⟨r.val / 4096, by omega⟩ ⟨r.val % 4096, by omega⟩ k) : EReal) * W (ix2 d k) := by
  pointwise [inbR]

theorem inb_eq (C H Q G W Z) : inbR C H Q G W Z = Cert.InbKernelIdeal.InbValue.out C H Q G W Z := by
  funext j
  obtain ⟨r, d, rfl⟩ : ∃ (r : Fin 8192) (d : Fin 1024), j = ix2 r d := ⟨_, _, eq_ix2 j⟩
  rw [inbR_at, sum_pieces]
  simp only [cat_C, cat_H, cat_Q, cat_G, ← add_assoc]
  rfl

set_option maxHeartbeats 2000000 in
/-- The gradient of every token's input. -/
theorem algebraic_inb : algebraic_InbKernelIdeal_InbReferenceIdeal := by
  pair_intro
  · run_from Cert.InbKernelIdeal.Value.run_blocks m g
  · run_from Cert.InbReferenceIdeal.Value.run m' g'
    refine Eq.trans ?_ ((inb_eq _ _ _ _ _ _).trans (Cert.InbKernelIdeal.InbValue.final m c).symm)
    unfold inbR catR
    rfl

end Cert.Proof

end
-- ==== Proof.GupValue.lean ====
/- The widening weight's gradient: what its array holds after the run, block by block. -/
module

public import proofs.«01_k».proof.Proof.Gen.GupKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GupKernelIdeal.GupValue

open Cert.GupKernelIdeal Cert.GupKernelIdeal.Gen

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

variable (m : (ℓ : Loc nD τ sig) → Buf (Elt Ideal) ℓ)

/-- The arguments on one device. -/
abbrev aX (c : Dev nD) : FVec Ideal S2x4096x1024 .f32 := m ((c : Thread nD τ).loc main_arg0)

abbrev aD (c : Dev nD) : FVec Ideal S2x4096x4096 .f32 := m ((c : Thread nD τ).loc main_arg1)

/-- A token's term of the gradient. -/
def tok (X : FVec Ideal S2x4096x1024 .f32) (D : FVec Ideal S2x4096x4096 .f32) (i : Fin 1024) (j : Fin 4096) (r : ℕ)
    (hr : r < 8192) : EReal :=
  X (ix3 ⟨r / 4096, by omega⟩ ⟨r % 4096, by omega⟩ i) * D (ix3 ⟨r / 4096, by omega⟩ ⟨r % 4096, by omega⟩ j)

/-- The output array, from the arguments. -/
def out (X : FVec Ideal S2x4096x1024 .f32) (D : FVec Ideal S2x4096x4096 .f32) : FVec Ideal S1024x4096 .bf16 := fun i =>
  ∑ r : Fin 8192, tok X D (i 0) (i 1) r.val r.isLt

theorem blk0 (c : Dev nD) (t : Fin cfg0.N) (k : Fin 2048) (i : Fin 1024) (h1 : (t.val % 4 * 2048 + k.val) / 4096 < 2)
    (h2 : (t.val % 4 * 2048 + k.val) % 4096 < 4096) :
    ((iblk m c 0 t : FVec Ideal S2048x1024 .bf16) (ix2 k i) : EReal)
      = aX m c (ix3 ⟨(t.val % 4 * 2048 + k.val) / 4096, h1⟩ ⟨(t.val % 4 * 2048 + k.val) % 4096, h2⟩ i) := by
  blk_point [iblk, V, idx t]

theorem blk1 (c : Dev nD) (t : Fin cfg0.N) (k : Fin 2048) (j : Fin 2048) (h1 : (t.val % 4 * 2048 + k.val) / 4096 < 2)
    (h2 : (t.val % 4 * 2048 + k.val) % 4096 < 4096) (h : t.val / 4 * 2048 + j.val < 4096) :
    ((iblk m c 1 t : FVec Ideal S2048x2048 .bf16) (ix2 k j) : EReal)
      = aD m c (ix3 ⟨(t.val % 4 * 2048 + k.val) / 4096, h1⟩ ⟨(t.val % 4 * 2048 + k.val) % 4096, h2⟩
          ⟨t.val / 4 * 2048 + j.val, h⟩) := by
  blk_point [iblk, V, idx t]

theorem emb2 (t : Fin cfg0.N) (i : Fin 1024) (j : Fin 2048) (h : t.val / 4 * 2048 + j.val < 4096) :
    ((cfg0.win 2).blk t).view.emb (ix2 i j) = ix2 i ⟨t.val / 4 * 2048 + j.val, h⟩ := by
  blk_ext [idx t]

/-- What one point adds. -/
def add (x0 : FVec Ideal S2048x1024 .bf16) (x1 : FVec Ideal S2048x2048 .bf16) (y : S1024x2048.Idx) : EReal :=
  ∑ k : Fin 2048, x0 (ix2 k (y 0)) * x1 (ix2 k (y 1))

theorem first_at (x0 : FVec Ideal S2048x1024 .bf16) (x1 : FVec Ideal S2048x2048 .bf16) (y) :
    k0_pay2 (F := Ideal) x0 x1 y = 0 + add x0 x1 y := by
  obtain ⟨r, j, rfl⟩ : ∃ (r : Fin 1024) (j : Fin 2048), y = ix2 r j := ⟨_, _, eq_ix2 y⟩
  rw [zero_add]
  pointwise [k0_pay2, k0_pay1]
  rfl

theorem next_at (x0 : FVec Ideal S2048x1024 .bf16) (x1 : FVec Ideal S2048x2048 .bf16) (z : FVec Ideal S1024x2048 .f32) (y) :
    k0_pay3 (F := Ideal) x0 x1 z y = z y + add x0 x1 y := by
  obtain ⟨r, j, rfl⟩ : ∃ (r : Fin 1024) (j : Fin 2048), y = ix2 r j := ⟨_, _, eq_ix2 y⟩
  pointwise [k0_pay3, k0_pay1]
  rfl

/-- At the last point of a run of four the accumulator holds the four points' terms. -/
theorem acc (c : Dev nD) (t : Fin cfg0.N) (ht : t.val % 4 = 3) (y) : (outsAt0 m c t.val t.isLt).2 y
    = ∑ s : Fin 4, add (iblk m c 0 ⟨4 * (t.val / 4) + s.val, Pipeline.run_point_lt_of_flush t ht s⟩)
        (iblk m c 1 ⟨4 * (t.val / 4) + s.val, Pipeline.run_point_lt_of_flush t ht s⟩) y := by
  rw [Pipeline.eq_sum_fin_of_reset_step_apply_of_flush (f := fun n h => (outsAt0 m c n h).2) 4 (fun _ => 0)
    (fun t y => add (iblk m c 0 t) (iblk m c 1 t) y)
    (fun t h y => by
      rw [outsAt0_A m c t h (by omega) (by omega)]; frame_out
      exact first_at _ _ y)
    (fun t h y => by
      by_cases h2 : t.val % 4 = 3
      · rw [outsAt0_C m c t h (by omega) h2]; frame_out
        rw [read_unread_whole]
        exact next_at _ _ _ y
      · rw [outsAt0_B m c t h (by omega) h2]; frame_out
        rw [read_unread_whole]
        exact next_at _ _ _ y)
    t ht y, zero_add]

/-- There the output's block is the accumulator. -/
theorem out_acc (c : Dev nD) (t : Fin cfg0.N) (ht : t.val % 4 = 3) (y) :
    ((outsAt0 m c t.val t.isLt).1 y : EReal) = (outsAt0 m c t.val t.isLt).2 y := by
  rw [outsAt0_C m c t (by omega) (by omega) ht]
  frame_out
  rfl

set_option maxHeartbeats 1000000 in
theorem point (c : Dev nD) (t : Fin cfg0.N) (ht : t.val % 4 = 3) (y) :
    ((outsAt0 m c t.val t.isLt).1 y : EReal) = out (aX m c) (aD m c) (((cfg0.win 2).blk t).view.emb y) := by
  obtain ⟨r, j, rfl⟩ : ∃ (r : Fin 1024) (j : Fin 2048), y = ix2 r j := ⟨_, _, eq_ix2 y⟩
  have h8 : t.val < 8 := t.isLt
  rw [emb2 t r j (by omega), out_acc m c t ht, acc m c t ht]
  unfold out add
  refine Fin.sum_mul_add_congr (S := 4) fun s k hl => ?_
  have e : ∀ h, (⟨4 * (t.val / 4) + s.val, h⟩ : Fin cfg0.N).val % 4 = s.val := fun h => by
    have := s.isLt
    show (4 * (t.val / 4) + s.val) % 4 = s.val
    omega
  have e' : ∀ h, (⟨4 * (t.val / 4) + s.val, h⟩ : Fin cfg0.N).val / 4 = t.val / 4 := fun h => by
    have := s.isLt
    show (4 * (t.val / 4) + s.val) / 4 = t.val / 4
    omega
  have hs := s.isLt
  have hk := k.isLt
  refine (congr (congrArg (fun a b : EReal => a * b)
    (blk0 m c ⟨4 * (t.val / 4) + s.val, Pipeline.run_point_lt_of_flush t ht s⟩ k r (by rw [e]; omega) (by rw [e]; omega)))
    (blk1 m c ⟨4 * (t.val / 4) + s.val, Pipeline.run_point_lt_of_flush t ht s⟩ k j (by rw [e]; omega) (by rw [e]; omega)
      (by rw [e']; omega))).trans ?_
  have f : (4 * (t.val / 4) + s.val) % 4 = s.val := by omega
  have f' : (4 * (t.val / 4) + s.val) / 4 = t.val / 4 := by omega
  simp only [f, f']
  rfl

theorem final (c : Dev nD) : (dats m 0 c).arrAt 2 cfg0.N = out (aX m c) (aD m c) := by
  refine (dats m 0 c).arrAt_eq_of_covers 2 _ (by decide +kernel) fun t ht y => ?_
  blk_simp
  rw [after0_2]
  exact point m c t ((flush0_2 t).mp ht) y

end Cert.GupKernelIdeal.GupValue

end
-- ==== Proof.GupClaim.lean ====
/- The claims about the gradient of the widening weight. -/
module

public import proofs.«01_k».proof.Defs
public import proofs.«01_k».proof.Proof.Gen.GupKernel
public import proofs.«01_k».proof.Proof.Gen.GupKernel.Frame
public import proofs.«01_k».proof.Proof.Gen.GupReferenceIdeal.Run
public import proofs.«01_k».proof.Proof.GupValue

@[expose] public section

set_option maxRecDepth 16384

noncomputable section

open Idealize.ShloMosaic Idealize.ShloMosaic.TcCoe Idealize.SL.Sem

namespace Cert.Proof

theorem frame_gup : quiescent_GupKernel := fun m ρ _ => Cert.GupKernel.Gen.frame m ρ

theorem frame_gupIdeal : quiescent_GupKernelIdeal := fun m ρ _ => Cert.GupKernelIdeal.Gen.frame m ρ

theorem frame_gupReference : quiescent_GupReferenceIdeal := fun m ρ _ =>
  (θ_run Cert.GupReferenceIdeal.defs _ _).mono
    (fun r h => ⟨fun c => (h c).2, sem_eq_zero_of_no_sems (by decide) r.2⟩)
    (Cert.GupReferenceIdeal.Value.run (F := Ideal) m ρ)

open Cert.GupReferenceIdeal Cert.GupReferenceIdeal.Gen in
/-- The reference's result, from its arguments. -/
def gupR (X : FVec Ideal S2x4096x1024 .f32) (D : FVec Ideal S2x4096x4096 .f32) : FVec Ideal S1024x4096 .bf16 :=
  truncf .bf16 (transpose S1024x4096 [1, 0] (Host.dotGeneral dot_S2x4096x4096_S2x4096x1024_S4096x1024_01_01_2_2_n_n none D X)
    transposes_S4096x1024_S1024x4096_1_0) bitsLt_bf16_f32

theorem gup_eq (X D) : gupR X D = Cert.GupKernelIdeal.GupValue.out X D := by
  funext i
  obtain ⟨r, d, rfl⟩ : ∃ (r : Fin 1024) (d : Fin 4096), i = ix2 r d := ⟨_, _, eq_ix2 i⟩
  pointwise [gupR]
  refine (Fin.sum_divmod_congr (S := 4096) (A := 2) (N := 8192) fun r ha hs => ?_).symm
  exact mul_comm _ _

set_option maxHeartbeats 2000000 in
/-- The gradient of the weight. -/
theorem algebraic_gup : algebraic_GupKernelIdeal_GupReferenceIdeal := by
  pair_intro
  · run_from Cert.GupKernelIdeal.Value.run m g
  · run_from Cert.GupReferenceIdeal.Value.run m' g'
    refine Eq.trans ?_ ((gup_eq _ _).trans ((Cert.GupKernelIdeal.GupValue.final m c).symm.trans (Cert.GupKernelIdeal.Value.final2 m c)))
    unfold gupR
    rfl

end Cert.Proof

end
-- ==== Proof.MemkvValue.lean ====
/- The keys and values of the memory: what their arrays hold after the run, block by block. -/
module

public import proofs.«01_k».proof.Proof.Gen.MemkvKernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemkvKernelIdeal.MemkvValue

open Cert.MemkvKernelIdeal Cert.MemkvKernelIdeal.Gen

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ)

/-- The arguments on one device. -/
abbrev aM (c : Dev nD) : FVec Ideal S2x256x1024 .f32 := m ((c : Thread nD τ).loc main_arg0)

abbrev aK (c : Dev nD) : FVec Ideal S1024x512 .f32 := m ((c : Thread nD τ).loc main_arg1)

abbrev aV (c : Dev nD) : FVec Ideal S1024x512 .f32 := m ((c : Thread nD τ).loc main_arg2)

/-- An output array, from the memory and a weight. -/
def out (M : FVec Ideal S2x256x1024 .f32) (W : FVec Ideal S1024x512 .f32) : FVec Ideal S512x512 .bf16 := fun i =>
  ∑ k : Fin 1024, M (ix3 ⟨(i 0).val / 256, by have : (i 0).val < 512 := (i 0).isLt; omega⟩ ⟨(i 0).val % 256, by omega⟩ k)
    * W (ix2 k (i 1))

theorem blk0 (c : Dev nD) (t : Fin cfg0.N) (r : Fin 256) (k : Fin 1024) (h1 : (t.val * 256 + r.val) / 256 < 2)
    (h2 : (t.val * 256 + r.val) % 256 < 256) :
    ((iblk m c 0 t : FVec Ideal S256x1024 .f32) (ix2 r k) : EReal)
      = aM m c (ix3 ⟨(t.val * 256 + r.val) / 256, h1⟩ ⟨(t.val * 256 + r.val) % 256, h2⟩ k) := by
  blk_point [iblk, V, idx t]

theorem emb3 (t : Fin cfg0.N) (r : Fin 256) (j : Fin 512) (h : t.val * 256 + r.val < 512) :
    ((cfg0.win 3).blk t).view.emb (ix2 r j) = ix2 ⟨t.val * 256 + r.val, h⟩ j := by
  blk_ext [idx t]

theorem blk1 (c : Dev nD) (t : Fin cfg0.N) (k : Fin 1024) (j : Fin 512) :
    ((iblk m c 1 t : FVec Ideal S1024x512 .bf16) (ix2 k j) : EReal) = aK m c (ix2 k j) := by
  blk_point [iblk, V, idx t]

theorem pay2_at (x0 : FVec Ideal S256x1024 .f32) (x1 : FVec Ideal S1024x512 .bf16) (r j) :
    k0_pay2 (F := Ideal) x0 x1 (ix2 r j) = ∑ k : Fin 1024, x0 (ix2 r k) * x1 (ix2 k j) := by
  pointwise [k0_pay2, k0_pay1]

theorem point3 (c : Dev nD) (t : Fin cfg0.N) (y) :
    k0_pay2 (F := Ideal) (iblk m c 0 t) (iblk m c 1 t) y
      = out (aM m c) (aK m c) (((cfg0.win 3).blk t).view.emb y) := by
  obtain ⟨r, j, rfl⟩ : ∃ (r : Fin 256) (j : Fin 512), y = ix2 r j := ⟨_, _, eq_ix2 y⟩
  have ht : t.val < 2 := t.isLt
  rw [emb3 t r j (by omega), pay2_at]
  refine Finset.sum_congr rfl fun k _ => ?_
  rw [blk0 m c t r k (by omega) (by omega), blk1 m c t k j]
  rfl

/-- The memory's keys. -/
theorem final3 (c : Dev nD) : (dats m 0 c).arrAt 3 (cfgs 0).N = out (aM m c) (aK m c) := by
  refine (dats m 0 c).arrAt_eq_of_covers 3 _ (by decide +kernel) fun t _ y => ?_
  blk_simp
  rw [after0_3]
  frame_out
  exact point3 m c t y

theorem emb4 (t : Fin cfg0.N) (r : Fin 256) (j : Fin 512) (h : t.val * 256 + r.val < 512) :
    ((cfg0.win 4).blk t).view.emb (ix2 r j) = ix2 ⟨t.val * 256 + r.val, h⟩ j := by
  blk_ext [idx t]

theorem blk2 (c : Dev nD) (t : Fin cfg0.N) (k : Fin 1024) (j : Fin 512) :
    ((iblk m c 2 t : FVec Ideal S1024x512 .bf16) (ix2 k j) : EReal) = aV m c (ix2 k j) := by
  blk_point [iblk, V, idx t]

theorem pay3_at (x0 : FVec Ideal S256x1024 .f32) (x1 : FVec Ideal S1024x512 .bf16) (r j) :
    k0_pay3 (F := Ideal) x0 x1 (ix2 r j) = ∑ k : Fin 1024, x0 (ix2 r k) * x1 (ix2 k j) := by
  pointwise [k0_pay3, k0_pay1]

theorem point4 (c : Dev nD) (t : Fin cfg0.N) (y) :
    k0_pay3 (F := Ideal) (iblk m c 0 t) (iblk m c 2 t) y
      = out (aM m c) (aV m c) (((cfg0.win 4).blk t).view.emb y) := by
  obtain ⟨r, j, rfl⟩ : ∃ (r : Fin 256) (j : Fin 512), y = ix2 r j := ⟨_, _, eq_ix2 y⟩
  have ht : t.val < 2 := t.isLt
  rw [emb4 t r j (by omega), pay3_at]
  refine Finset.sum_congr rfl fun k _ => ?_
  rw [blk0 m c t r k (by omega) (by omega), blk2 m c t k j]
  rfl

/-- The memory's values. -/
theorem final4 (c : Dev nD) : (dats m 0 c).arrAt 4 (cfgs 0).N = out (aM m c) (aV m c) := by
  refine (dats m 0 c).arrAt_eq_of_covers 4 _ (by decide +kernel) fun t _ y => ?_
  blk_simp
  rw [after0_4]
  frame_out
  exact point4 m c t y

end Cert.MemkvKernelIdeal.MemkvValue

end
-- ==== Proof.MemkvClaim.lean ====
/- The claims about the memory's keys and values. -/
module

public import proofs.«01_k».proof.Defs
public import proofs.«01_k».proof.Proof.Gen.MemkvKernel
public import proofs.«01_k».proof.Proof.Gen.MemkvKernel.Frame
public import proofs.«01_k».proof.Proof.Gen.MemkvReferenceIdeal.Run
public import proofs.«01_k».proof.Proof.MemkvValue

@[expose] public section

set_option maxRecDepth 16384

noncomputable section

open Idealize.ShloMosaic Idealize.ShloMosaic.TcCoe Idealize.SL.Sem

namespace Cert.Proof

theorem frame_memkv : quiescent_MemkvKernel := fun m ρ _ => Cert.MemkvKernel.Gen.frame m ρ

theorem frame_memkvIdeal : quiescent_MemkvKernelIdeal := fun m ρ _ => Cert.MemkvKernelIdeal.Gen.frame m ρ

theorem frame_memkvReference : quiescent_MemkvReferenceIdeal := fun m ρ _ =>
  (θ_run Cert.MemkvReferenceIdeal.defs _ _).mono
    (fun r h => ⟨fun c => (h c).2.2, sem_eq_zero_of_no_sems (by decide) r.2⟩)
    (Cert.MemkvReferenceIdeal.Value.run (F := Ideal) m ρ)

open Cert.MemkvReferenceIdeal Cert.MemkvReferenceIdeal.Gen in
/-- A result of the reference, from its arguments. -/
def memR (M : FVec Ideal S2x256x1024 .f32) (W : FVec Ideal S1024x512 .f32) : FVec Ideal S512x512 .bf16 :=
  truncf .bf16 (shapeCast S512x512 (Host.dotGeneral dot_S2x256x1024_S1024x512_S2x256x512_2_0_01_1_n_n none M W)
    shapeCasts_S2x256x512_S512x512) bitsLt_bf16_f32

theorem mem_eq (M W) : memR M W = Cert.MemkvKernelIdeal.MemkvValue.out M W := by
  funext j
  obtain ⟨r, d, rfl⟩ : ∃ (r : Fin 512) (d : Fin 512), j = ix2 r d := ⟨_, _, eq_ix2 j⟩
  pointwise [memR]
  rfl

set_option maxHeartbeats 2000000 in
/-- The keys and the values of every memory slot. -/
theorem algebraic_memkv : algebraic_MemkvKernelIdeal_MemkvReferenceIdeal := by
  pair_intro
  · run_from Cert.MemkvKernelIdeal.Value.run_blocks m g
  · run_from Cert.MemkvReferenceIdeal.Value.run m' g'
    · refine Eq.trans ?_ ((mem_eq _ _).trans (Cert.MemkvKernelIdeal.MemkvValue.final3 m c).symm)
      unfold memR
      rfl
    · refine Eq.trans ?_ ((mem_eq _ _).trans (Cert.MemkvKernelIdeal.MemkvValue.final4 m c).symm)
      unfold memR
      rfl

end Cert.Proof

end
-- ==== Proof.AdamsClaim.lean ====
/- The claims about the optimiser's step of the lower bounds. -/
module

public import proofs.«01_k».proof.Defs
public import proofs.«01_k».proof.Proof.Gen.AdamsKernel
public import proofs.«01_k».proof.Proof.Gen.AdamsKernel.Frame
public import proofs.«01_k».proof.Proof.Gen.AdamsKernelIdeal.Value
public import proofs.«01_k».proof.Proof.Gen.AdamsReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_adams : quiescent_AdamsKernel := fun m ρ _ => Cert.AdamsKernel.Gen.frame m ρ

theorem frame_adamsIdeal : quiescent_AdamsKernelIdeal := fun m ρ _ => Cert.AdamsKernelIdeal.Gen.frame m ρ

theorem frame_adamsReference : quiescent_AdamsReferenceIdeal := fun m ρ _ =>
  (θ_run Cert.AdamsReferenceIdeal.defs _ _).mono
    (fun r h => ⟨fun c => (h c).2.2.2, sem_eq_zero_of_no_sems (by decide) r.2⟩)
    (Cert.AdamsReferenceIdeal.Value.run (F := Ideal) m ρ)

/-- The change of the weight and its two moments. -/
theorem algebraic_adams : algebraic_AdamsKernelIdeal_AdamsReferenceIdeal := by
  pair_intro
  · run_from Cert.AdamsKernelIdeal.Value.run m g
  · run_from Cert.AdamsReferenceIdeal.Value.run m' g'
    · funext i
      pointwise [Cert.AdamsKernelIdeal.Value.G4]
    · rfl
    · rfl

end Cert.Proof

end
-- ==== Proof.AdamStep.lean ====
/- The optimiser's step at one place, and over whole arrays as the reference writes it. -/
module

public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.StableHlo

namespace Cert.AdamStep

/-- Eight parts added up in their order. -/
def gsum (p : Fin 8 → EReal) : EReal := p 0 + p 1 + p 2 + p 3 + p 4 + p 5 + p 6 + p 7

/-- The entry of the layer with number `l`. -/
def pick {α : Type} (l : ℕ) (a b c d : α) : α := if l = 0 then a else if l = 1 then b else if l = 2 then c else d

/-- The first moment's step. -/
def mom (g a : EReal) : EReal :=
  (Scalar.ofBits .f32 0x3F666666#32 : Ideal .f32) * a + (Scalar.ofBits .f32 0x3DCCCCCD#32 : Ideal .f32) * g

/-- The second moment's step. -/
def vel (g a : EReal) : EReal :=
  (Scalar.ofBits .f32 0x3F7FBE77#32 : Ideal .f32) * a + (Scalar.ofBits .f32 0x3A83126F#32 : Ideal .f32) * (g * g)

/-- The weight's change. -/
def chg (g w a b : EReal) : EReal :=
  (Scalar.ofBits .f32 0xBA83126F#32 : Ideal .f32) * (Ideal.div (Ideal.div (mom g a) (Scalar.ofBits .f32 0x3F26BD02#32 : Ideal .f32))
    (Ideal.sqrt (Ideal.div (vel g b) (Scalar.ofBits .f32 0x3C231ACC#32 : Ideal .f32)) + (Scalar.ofBits .f32 0x322BCC77#32 : Ideal .f32))
    + (Scalar.ofBits .f32 0x3C23D70A#32 : Ideal .f32) * w)

/-- The shape of one number. -/
abbrev S0 : Shape := ⟨0, ![]⟩

variable {S : Shape} (h : S0.BroadcastsInDim S (![] : Fin 0 → Fin S.rank)) (G W M U : FVec Ideal S .f32)

/-- A number in every place of an array. -/
abbrev num (b : BitVec 32) : FVec Ideal S .f32 := broadcastInDim S ![] h (constant (F := Ideal) S0 .f32 b)

theorem num_at (b : BitVec 32) (i : S.Idx) : num h b i = (Scalar.ofBits .f32 b : Ideal .f32) := rfl

/-- The first moment over a whole array. -/
abbrev momR : FVec Ideal S .f32 := addf (mulf (num h 0x3F666666#32) M) (mulf (num h 0x3DCCCCCD#32) G)

/-- The second moment over a whole array. -/
abbrev velR : FVec Ideal S .f32 := addf (mulf (num h 0x3F7FBE77#32) U) (mulf (num h 0x3A83126F#32) (mulf G G))

/-- The change over a whole array, from the two moments. -/
abbrev chgR (A B : FVec Ideal S .f32) : FVec Ideal S .f32 :=
  mulf (num h 0xBA83126F#32) (addf (Host.divf (Host.divf A (num h 0x3F26BD02#32))
    (addf (Host.sqrt (Host.divf B (num h 0x3C231ACC#32))) (num h 0x322BCC77#32))) (mulf (num h 0x3C23D70A#32) W))

theorem momR_eq : momR h G M = fun i => mom (G i) (M i) := by
  funext i
  rfl

theorem velR_eq : velR h G U = fun i => vel (G i) (U i) := by
  funext i
  rfl

theorem chgR_eq : chgR h W (momR h G M) (velR h G U) = fun i => chg (G i) (W i) (M i) (U i) := by
  funext i
  rfl

end Cert.AdamStep

end
-- ==== Proof.AdamcValue.lean ====
/- The convolution weight's optimiser step: what the three output arrays hold after the run. -/
module

public import proofs.«01_k».proof.Proof.Gen.AdamcKernelIdeal.Value
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamcKernelIdeal.AdamcValue

open Cert.AdamcKernelIdeal Cert.AdamcKernelIdeal.Gen Cert.AdamStep

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- A weight's entry under a row of its flat form. -/
def fl (A : FVec Ideal S4x3x64 .f32) (r : Fin 12) (q : Fin 64) : EReal :=
  A (ix3 ⟨r.val / 3, by omega⟩ ⟨r.val % 3, by omega⟩ q)

variable (m : (ℓ : Loc nD τ sig) → Buf (Elt Ideal) ℓ)

/-- The arguments on one device. -/
abbrev aw (c : Dev nD) : FVec Ideal S4x3x64 .f32 := m ((c : Thread nD τ).loc main_arg0)

abbrev ag (c : Dev nD) : FVec Ideal S4x3x64 .f32 := m ((c : Thread nD τ).loc main_arg1)

abbrev am (c : Dev nD) : FVec Ideal S4x3x64 .f32 := m ((c : Thread nD τ).loc main_arg2)

abbrev av (c : Dev nD) : FVec Ideal S4x3x64 .f32 := m ((c : Thread nD τ).loc main_arg3)

theorem blk0 (c : Dev nD) (t : Fin cfg0.N) (r q) : (iblk m c 0 t : FVec Ideal S12x64 .f32) (ix2 r q) = fl (ag m c) r q := by
  unfold fl
  blk_point [iblk, V, idx t]

theorem blk1 (c : Dev nD) (t : Fin cfg0.N) (r q) : (iblk m c 1 t : FVec Ideal S12x64 .f32) (ix2 r q) = fl (aw m c) r q := by
  unfold fl
  blk_point [iblk, V, idx t]

theorem blk2 (c : Dev nD) (t : Fin cfg0.N) (r q) : (iblk m c 2 t : FVec Ideal S12x64 .f32) (ix2 r q) = fl (am m c) r q := by
  unfold fl
  blk_point [iblk, V, idx t]

theorem blk3 (c : Dev nD) (t : Fin cfg0.N) (r q) : (iblk m c 3 t : FVec Ideal S12x64 .f32) (ix2 r q) = fl (av m c) r q := by
  unfold fl
  blk_point [iblk, V, idx t]

/-- The three output arrays, from the arguments. -/
def outD (G W M U : FVec Ideal S4x3x64 .f32) : FVec Ideal S12x64 .f32 := fun i =>
  chg (fl G (i 0) (i 1)) (fl W (i 0) (i 1)) (fl M (i 0) (i 1)) (fl U (i 0) (i 1))

def outM (G M : FVec Ideal S4x3x64 .f32) : FVec Ideal S12x64 .f32 := fun i => mom (fl G (i 0) (i 1)) (fl M (i 0) (i 1))

def outU (G U : FVec Ideal S4x3x64 .f32) : FVec Ideal S12x64 .f32 := fun i => vel (fl G (i 0) (i 1)) (fl U (i 0) (i 1))

theorem d_at (w g x z : FVec Ideal S12x64 .f32) (y) : k0_pay4 (F := Ideal) w g x z y = chg (g y) (w y) (x y) (z y) := by
  pointwise [k0_pay4, k0_pay2, k0_pay3, k0_pay1, chg, mom, vel]

theorem m_at (g x : FVec Ideal S12x64 .f32) (y) : k0_pay2 (F := Ideal) g x y = mom (g y) (x y) := by
  pointwise [k0_pay2, k0_pay1, mom]

theorem v_at (g x : FVec Ideal S12x64 .f32) (y) : k0_pay3 (F := Ideal) g x y = vel (g y) (x y) := by
  pointwise [k0_pay3, k0_pay1, vel]

theorem emb4 (t : Fin cfg0.N) (r : Fin 12) (q : Fin 64) : ((cfg0.win 4).blk t).view.emb (ix2 r q) = ix2 r q := by
  blk_ext [idx t]

theorem final4 (c : Dev nD) : (dats m 0 c).arrAt 4 cfg0.N = outD (ag m c) (aw m c) (am m c) (av m c) := by
  refine (dats m 0 c).arrAt_eq_of_covers 4 _ (by decide +kernel) fun t _ y => ?_
  blk_simp
  rw [after0_4]
  obtain ⟨r, q, rfl⟩ : ∃ (r : Fin 12) (q : Fin 64), y = ix2 r q := ⟨_, _, eq_ix2 y⟩
  rw [emb4 t r q]
  frame_out
  refine (d_at _ _ _ _ _).trans ?_
  rw [blk0, blk1, blk2, blk3]
  rfl

theorem emb5 (t : Fin cfg0.N) (r : Fin 12) (q : Fin 64) : ((cfg0.win 5).blk t).view.emb (ix2 r q) = ix2 r q := by
  blk_ext [idx t]

theorem final5 (c : Dev nD) : (dats m 0 c).arrAt 5 cfg0.N = outM (ag m c) (am m c) := by
  refine (dats m 0 c).arrAt_eq_of_covers 5 _ (by decide +kernel) fun t _ y => ?_
  blk_simp
  rw [after0_5]
  obtain ⟨r, q, rfl⟩ : ∃ (r : Fin 12) (q : Fin 64), y = ix2 r q := ⟨_, _, eq_ix2 y⟩
  rw [emb5 t r q]
  frame_out
  refine (m_at _ _ _).trans ?_
  rw [blk0, blk2]
  rfl

theorem emb6 (t : Fin cfg0.N) (r : Fin 12) (q : Fin 64) : ((cfg0.win 6).blk t).view.emb (ix2 r q) = ix2 r q := by
  blk_ext [idx t]

theorem final6 (c : Dev nD) : (dats m 0 c).arrAt 6 cfg0.N = outU (ag m c) (av m c) := by
  refine (dats m 0 c).arrAt_eq_of_covers 6 _ (by decide +kernel) fun t _ y => ?_
  blk_simp
  rw [after0_6]
  obtain ⟨r, q, rfl⟩ : ∃ (r : Fin 12) (q : Fin 64), y = ix2 r q := ⟨_, _, eq_ix2 y⟩
  rw [emb6 t r q]
  frame_out
  refine (v_at _ _ _).trans ?_
  rw [blk0, blk3]
  rfl

end Cert.AdamcKernelIdeal.AdamcValue

end
-- ==== Proof.AdamcClaim.lean ====
/- The claims about the optimiser's step of the convolution weight. -/
module

public import proofs.«01_k».proof.Defs
public import proofs.«01_k».proof.Proof.Gen.AdamcKernel
public import proofs.«01_k».proof.Proof.Gen.AdamcKernel.Frame
public import proofs.«01_k».proof.Proof.AdamcValue
public import proofs.«01_k».proof.Proof.Gen.AdamcReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_adamc : quiescent_AdamcKernel := fun m ρ _ => Cert.AdamcKernel.Gen.frame m ρ

theorem frame_adamcIdeal : quiescent_AdamcKernelIdeal := fun m ρ _ => Cert.AdamcKernelIdeal.Gen.frame m ρ

theorem frame_adamcReference : quiescent_AdamcReferenceIdeal := fun m ρ _ =>
  (θ_run Cert.AdamcReferenceIdeal.defs _ _).mono
    (fun r h => ⟨fun c => (h c).2.2.2, sem_eq_zero_of_no_sems (by decide) r.2⟩)
    (Cert.AdamcReferenceIdeal.Value.run (F := Ideal) m ρ)

open Cert.AdamcReferenceIdeal Cert.AdamcReferenceIdeal.Gen Idealize.ShloMosaic.StableHlo in
open Cert.AdamcKernelIdeal.AdamcValue (fl) in
/-- The flat form of a weight, entry by entry. -/
theorem adamc_flat (A : FVec Ideal S4x3x64 .f32) (r q) : (shapeCast S12x64 A shapeCasts_S4x3x64_S12x64) (ix2 r q) = fl A r q := by
  unfold fl
  pointwise []

set_option maxHeartbeats 2000000 in
/-- The change of the weight and its two moments. -/
theorem algebraic_adamc : algebraic_AdamcKernelIdeal_AdamcReferenceIdeal := by
  pair_intro
  · run_from Cert.AdamcKernelIdeal.Value.run_blocks m g
  · run_from Cert.AdamcReferenceIdeal.Value.run m' g'
    · refine Eq.trans ?_ (Cert.AdamcKernelIdeal.AdamcValue.final4 m c).symm
      funext i
      obtain ⟨r, q, rfl⟩ : ∃ (r : Fin 12) (q : Fin 64), i = ix2 r q := ⟨_, _, eq_ix2 i⟩
      refine (adamc_flat _ r q).trans ?_
      rfl
    · refine Eq.trans ?_ (Cert.AdamcKernelIdeal.AdamcValue.final5 m c).symm
      funext i
      obtain ⟨r, q, rfl⟩ : ∃ (r : Fin 12) (q : Fin 64), i = ix2 r q := ⟨_, _, eq_ix2 i⟩
      refine (adamc_flat _ r q).trans ?_
      rfl
    · refine Eq.trans ?_ (Cert.AdamcKernelIdeal.AdamcValue.final6 m c).symm
      funext i
      obtain ⟨r, q, rfl⟩ : ∃ (r : Fin 12) (q : Fin 64), i = ix2 r q := ⟨_, _, eq_ix2 i⟩
      refine (adamc_flat _ r q).trans ?_
      rfl

end Cert.Proof

end
-- ==== Proof.AdamgClaim.lean ====
/- The claims about the optimiser's step of the gates' bias. -/
module

public import proofs.«01_k».proof.Defs
public import proofs.«01_k».proof.Proof.Gen.AdamgKernel
public import proofs.«01_k».proof.Proof.Gen.AdamgKernel.Frame
public import proofs.«01_k».proof.Proof.Gen.AdamgKernelIdeal.Value
public import proofs.«01_k».proof.Proof.Gen.AdamgReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_adamg : quiescent_AdamgKernel := fun m ρ _ => Cert.AdamgKernel.Gen.frame m ρ

theorem frame_adamgIdeal : quiescent_AdamgKernelIdeal := fun m ρ _ => Cert.AdamgKernelIdeal.Gen.frame m ρ

theorem frame_adamgReference : quiescent_AdamgReferenceIdeal := fun m ρ _ =>
  (θ_run Cert.AdamgReferenceIdeal.defs _ _).mono
    (fun r h => ⟨fun c => (h c).2.2.2, sem_eq_zero_of_no_sems (by decide) r.2⟩)
    (Cert.AdamgReferenceIdeal.Value.run (F := Ideal) m ρ)

/-- The change of the weight and its two moments. -/
theorem algebraic_adamg : algebraic_AdamgKernelIdeal_AdamgReferenceIdeal := by
  pair_intro
  · run_from Cert.AdamgKernelIdeal.Value.run m g
  · run_from Cert.AdamgReferenceIdeal.Value.run m' g'
    · funext i
      pointwise [Cert.AdamgKernelIdeal.Value.G4]
    · rfl
    · rfl

end Cert.Proof

end
-- ==== Proof.AdamlClaim.lean ====
/- The claims about the optimiser's step of the norms' gains and shifts. -/
module

public import proofs.«01_k».proof.Defs
public import proofs.«01_k».proof.Proof.Gen.AdamlKernel
public import proofs.«01_k».proof.Proof.Gen.AdamlKernel.Frame
public import proofs.«01_k».proof.Proof.Gen.AdamlKernelIdeal.Value
public import proofs.«01_k».proof.Proof.Gen.AdamlReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_adaml : quiescent_AdamlKernel := fun m ρ _ => Cert.AdamlKernel.Gen.frame m ρ

theorem frame_adamlIdeal : quiescent_AdamlKernelIdeal := fun m ρ _ => Cert.AdamlKernelIdeal.Gen.frame m ρ

theorem frame_adamlReference : quiescent_AdamlReferenceIdeal := fun m ρ _ =>
  (θ_run Cert.AdamlReferenceIdeal.defs _ _).mono
    (fun r h => ⟨fun c => (h c).2.2.2, sem_eq_zero_of_no_sems (by decide) r.2⟩)
    (Cert.AdamlReferenceIdeal.Value.run (F := Ideal) m ρ)

/-- The change of the weight and its two moments. -/
theorem algebraic_adaml : algebraic_AdamlKernelIdeal_AdamlReferenceIdeal := by
  pair_intro
  · run_from Cert.AdamlKernelIdeal.Value.run m g
  · run_from Cert.AdamlReferenceIdeal.Value.run m' g'
    · funext i
      pointwise [Cert.AdamlKernelIdeal.Value.G4]
    · rfl
    · rfl

end Cert.Proof

end
-- ==== Proof.AdamwValue.lean ====
/- The mixing weight's optimiser step: what the four output arrays hold after the run, layer by layer. -/
module

public import proofs.«01_k».proof.Proof.Gen.AdamwKernelIdeal.Value
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamwKernelIdeal.AdamwValue

open Cert.AdamwKernelIdeal Cert.AdamwKernelIdeal.Gen Cert.AdamStep

theorem idx : ∀ t : Fin cfg0.N, win0_0.index t = ![0, 0, 0] ∧ win0_1.index t = ![0, 0, 0] ∧ win0_2.index t = ![0, 0, 0]
    ∧ win0_3.index t = ![0, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0]
    ∧ win0_9.index t = ![t.val, 0, 0] ∧ win0_10.index t = ![t.val, 0, 0] :=
  (by decide +kernel : ∀ t : Fin grid0.N, _)

/-- The eight devices' parts of one layer's gradient, added up in the order of the devices. -/
def gs (R : S8x128x1024.Idx → EReal) (r : Fin 128) (q : Fin 1024) : EReal :=
  R (ix3 0 r q) + R (ix3 1 r q) + R (ix3 2 r q) + R (ix3 3 r q) + R (ix3 4 r q) + R (ix3 5 r q) + R (ix3 6 r q) + R (ix3 7 r q)

/-- The eight parts' sum, as the body computes it. -/
abbrev sm (R : FVec Ideal S8x128x1024 .bf16) : FVec Ideal S128x1024 .f32 :=
  k0_pay9 (F := Ideal)
    (View.ld (Val := Elt Ideal) (e' := .bf16) R (Rect.unit (s := S8x128x1024) ![0, 0, 0] ![1, 128, 1024] inb_S8x128x1024_S1x128x1024_0_0_0))
    (View.ld (Val := Elt Ideal) (e' := .bf16) R (Rect.unit (s := S8x128x1024) ![1, 0, 0] ![1, 128, 1024] inb_S8x128x1024_S1x128x1024_1_0_0))
    (View.ld (Val := Elt Ideal) (e' := .bf16) R (Rect.unit (s := S8x128x1024) ![2, 0, 0] ![1, 128, 1024] inb_S8x128x1024_S1x128x1024_2_0_0))
    (View.ld (Val := Elt Ideal) (e' := .bf16) R (Rect.unit (s := S8x128x1024) ![3, 0, 0] ![1, 128, 1024] inb_S8x128x1024_S1x128x1024_3_0_0))
    (View.ld (Val := Elt Ideal) (e' := .bf16) R (Rect.unit (s := S8x128x1024) ![4, 0, 0] ![1, 128, 1024] inb_S8x128x1024_S1x128x1024_4_0_0))
    (View.ld (Val := Elt Ideal) (e' := .bf16) R (Rect.unit (s := S8x128x1024) ![5, 0, 0] ![1, 128, 1024] inb_S8x128x1024_S1x128x1024_5_0_0))
    (View.ld (Val := Elt Ideal) (e' := .bf16) R (Rect.unit (s := S8x128x1024) ![6, 0, 0] ![1, 128, 1024] inb_S8x128x1024_S1x128x1024_6_0_0))
    (View.ld (Val := Elt Ideal) (e' := .bf16) R (Rect.unit (s := S8x128x1024) ![7, 0, 0] ![1, 128, 1024] inb_S8x128x1024_S1x128x1024_7_0_0))

theorem sm_at (R : FVec Ideal S8x128x1024 .bf16) (r q) : sm R (ix2 r q) = gs R r q := by
  unfold sm gs
  pointwise [k0_pay9]

theorem g_at (g : FVec Ideal S128x1024 .f32) (r q) : k0_pay13 (F := Ideal) g (ix3 0 r q) = g (ix2 r q) := by
  pointwise [k0_pay13]

theorem m_at (g : FVec Ideal S128x1024 .f32) (x : FVec Ideal S1x128x1024 .f32) (r q) :
    k0_pay1 (F := Ideal) (k0_pay11 g x) (ix3 0 r q) = mom (g (ix2 r q)) (x (ix3 0 r q)) := by
  pointwise [k0_pay1, k0_pay11]
  rfl

theorem v_at (g : FVec Ideal S128x1024 .f32) (x : FVec Ideal S1x128x1024 .f32) (r q) :
    k0_pay2 (F := Ideal) (k0_pay12 g x) (ix3 0 r q) = vel (g (ix2 r q)) (x (ix3 0 r q)) := by
  pointwise [k0_pay2, k0_pay12]
  rfl

theorem d_at (g : FVec Ideal S128x1024 .f32) (w x z : FVec Ideal S1x128x1024 .f32) (r q) :
    k0_pay14 (F := Ideal) g (k0_pay10 w) x z (ix3 0 r q)
      = chg (g (ix2 r q)) (w (ix3 0 r q)) (x (ix3 0 r q)) (z (ix3 0 r q)) := by
  pointwise [k0_pay14, k0_pay10, k0_pay11, k0_pay12]
  rfl

variable (m : (ℓ : Loc nD τ sig) → Buf (Elt Ideal) ℓ)

/-- The arguments on one device. -/
abbrev a0 (c : Dev nD) : FVec Ideal S8x128x1024 .f32 := m ((c : Thread nD τ).loc main_arg0)

abbrev a1 (c : Dev nD) : FVec Ideal S8x128x1024 .f32 := m ((c : Thread nD τ).loc main_arg1)

abbrev a2 (c : Dev nD) : FVec Ideal S8x128x1024 .f32 := m ((c : Thread nD τ).loc main_arg2)

abbrev a3 (c : Dev nD) : FVec Ideal S8x128x1024 .f32 := m ((c : Thread nD τ).loc main_arg3)

abbrev aw (c : Dev nD) : FVec Ideal S4x128x1024 .f32 := m ((c : Thread nD τ).loc main_arg4)

abbrev am (c : Dev nD) : FVec Ideal S4x128x1024 .f32 := m ((c : Thread nD τ).loc main_arg5)

abbrev av (c : Dev nD) : FVec Ideal S4x128x1024 .f32 := m ((c : Thread nD τ).loc main_arg6)

/-- The received parts a point's layer adds up. -/
def rc (c : Dev nD) (t : Fin cfg0.N) : FVec Ideal S8x128x1024 .bf16 :=
  if t.val % 4 = 0 then iblk m c 0 t else if t.val % 4 = 1 then iblk m c 1 t else if t.val % 4 = 2 then iblk m c 2 t
  else iblk m c 3 t

/-- A layer's gradient at one place. -/
def lay (R0 R1 R2 R3 : FVec Ideal S8x128x1024 .f32) (l : ℕ) (r : Fin 128) (q : Fin 1024) : EReal :=
  if l = 0 then gs R0 r q else if l = 1 then gs R1 r q else if l = 2 then gs R2 r q else gs R3 r q

theorem blk0 (c : Dev nD) (t : Fin cfg0.N) (d r q) : ((iblk m c 0 t : FVec Ideal S8x128x1024 .bf16) (ix3 d r q) : EReal)
    = a0 m c (ix3 d r q) := by
  blk_point [iblk, V, idx t]

theorem blk1 (c : Dev nD) (t : Fin cfg0.N) (d r q) : ((iblk m c 1 t : FVec Ideal S8x128x1024 .bf16) (ix3 d r q) : EReal)
    = a1 m c (ix3 d r q) := by
  blk_point [iblk, V, idx t]

theorem blk2 (c : Dev nD) (t : Fin cfg0.N) (d r q) : ((iblk m c 2 t : FVec Ideal S8x128x1024 .bf16) (ix3 d r q) : EReal)
    = a2 m c (ix3 d r q) := by
  blk_point [iblk, V, idx t]

theorem blk3 (c : Dev nD) (t : Fin cfg0.N) (d r q) : ((iblk m c 3 t : FVec Ideal S8x128x1024 .bf16) (ix3 d r q) : EReal)
    = a3 m c (ix3 d r q) := by
  blk_point [iblk, V, idx t]

theorem blk4 (c : Dev nD) (t : Fin cfg0.N) (r q) (h : t.val < 4) : (iblk m c 4 t : FVec Ideal S1x128x1024 .f32) (ix3 0 r q)
    = aw m c (ix3 ⟨t.val, h⟩ r q) := by
  blk_point [iblk, V, idx t]

theorem blk5 (c : Dev nD) (t : Fin cfg0.N) (r q) (h : t.val < 4) : (iblk m c 5 t : FVec Ideal S1x128x1024 .f32) (ix3 0 r q)
    = am m c (ix3 ⟨t.val, h⟩ r q) := by
  blk_point [iblk, V, idx t]

theorem blk6 (c : Dev nD) (t : Fin cfg0.N) (r q) (h : t.val < 4) : (iblk m c 6 t : FVec Ideal S1x128x1024 .f32) (ix3 0 r q)
    = av m c (ix3 ⟨t.val, h⟩ r q) := by
  blk_point [iblk, V, idx t]

theorem rc_at (c : Dev nD) (t : Fin cfg0.N) (r q) :
    gs (rc m c t) r q = lay (a0 m c) (a1 m c) (a2 m c) (a3 m c) t.val r q := by
  have ht : t.val < 4 := t.isLt
  have e : t.val % 4 = t.val := by omega
  unfold rc lay
  rw [e]
  split_ifs <;> unfold gs <;> simp only [blk0, blk1, blk2, blk3]

set_option maxHeartbeats 1000000 in
/-- The gradient's block at a point, whichever layer it is. -/
theorem out7 (c : Dev nD) (t : Fin cfg0.N) (y) : (outsAt0 m c t.val t.isLt).1 y = k0_pay13 (F := Ideal) (sm (rc m c t)) y := by
  unfold rc
  by_cases h0 : t.val % 4 = 0
  · rw [outsAt0_A m c t h0 (by omega) (by omega) (by omega), if_pos h0]; frame_out
  by_cases h1 : t.val % 4 = 1
  · rw [outsAt0_B m c t h0 h1 (by omega) (by omega), if_neg h0, if_pos h1]; frame_out; rfl
  by_cases h2 : t.val % 4 = 2
  · rw [outsAt0_C m c t h0 h1 h2 (by omega), if_neg h0, if_neg h1, if_pos h2]; frame_out; rfl
  · rw [outsAt0_D m c t h0 h1 h2 (by omega), if_neg h0, if_neg h1, if_neg h2]; frame_out; rfl

set_option maxHeartbeats 1000000 in
/-- The change's block. -/
theorem out8 (c : Dev nD) (t : Fin cfg0.N) (y) : (outsAt0 m c t.val t.isLt).2.1 y = k0_pay14 (F := Ideal) (sm (rc m c t)) (k0_pay10 (iblk m c 4 t)) (iblk m c 5 t) (iblk m c 6 t) y := by
  unfold rc
  by_cases h0 : t.val % 4 = 0
  · rw [outsAt0_A m c t h0 (by omega) (by omega) (by omega), if_pos h0]; frame_out
  by_cases h1 : t.val % 4 = 1
  · rw [outsAt0_B m c t h0 h1 (by omega) (by omega), if_neg h0, if_pos h1]; frame_out; rfl
  by_cases h2 : t.val % 4 = 2
  · rw [outsAt0_C m c t h0 h1 h2 (by omega), if_neg h0, if_neg h1, if_pos h2]; frame_out; rfl
  · rw [outsAt0_D m c t h0 h1 h2 (by omega), if_neg h0, if_neg h1, if_neg h2]; frame_out; rfl

set_option maxHeartbeats 1000000 in
/-- The first moment's block. -/
theorem out9 (c : Dev nD) (t : Fin cfg0.N) (y) : (outsAt0 m c t.val t.isLt).2.2.1 y = k0_pay1 (F := Ideal) (k0_pay11 (sm (rc m c t)) (iblk m c 5 t)) y := by
  unfold rc
  by_cases h0 : t.val % 4 = 0
  · rw [outsAt0_A m c t h0 (by omega) (by omega) (by omega), if_pos h0]; frame_out
  by_cases h1 : t.val % 4 = 1
  · rw [outsAt0_B m c t h0 h1 (by omega) (by omega), if_neg h0, if_pos h1]; frame_out; rfl
  by_cases h2 : t.val % 4 = 2
  · rw [outsAt0_C m c t h0 h1 h2 (by omega), if_neg h0, if_neg h1, if_pos h2]; frame_out; rfl
  · rw [outsAt0_D m c t h0 h1 h2 (by omega), if_neg h0, if_neg h1, if_neg h2]; frame_out; rfl

set_option maxHeartbeats 1000000 in
/-- The second moment's block. -/
theorem out10 (c : Dev nD) (t : Fin cfg0.N) (y) : (outsAt0 m c t.val t.isLt).2.2.2 y = k0_pay2 (F := Ideal) (k0_pay12 (sm (rc m c t)) (iblk m c 6 t)) y := by
  unfold rc
  by_cases h0 : t.val % 4 = 0
  · rw [outsAt0_A m c t h0 (by omega) (by omega) (by omega), if_pos h0]; frame_out
  by_cases h1 : t.val % 4 = 1
  · rw [outsAt0_B m c t h0 h1 (by omega) (by omega), if_neg h0, if_pos h1]; frame_out; rfl
  by_cases h2 : t.val % 4 = 2
  · rw [outsAt0_C m c t h0 h1 h2 (by omega), if_neg h0, if_neg h1, if_pos h2]; frame_out; rfl
  · rw [outsAt0_D m c t h0 h1 h2 (by omega), if_neg h0, if_neg h1, if_neg h2]; frame_out; rfl

/-- The four output arrays, from the arguments. -/
def outG (R0 R1 R2 R3 : FVec Ideal S8x128x1024 .f32) : FVec Ideal S4x128x1024 .f32 := fun i =>
  lay R0 R1 R2 R3 (i 0).val (i 1) (i 2)

def outD (R0 R1 R2 R3 : FVec Ideal S8x128x1024 .f32) (W M U : FVec Ideal S4x128x1024 .f32) : FVec Ideal S4x128x1024 .f32 := fun i =>
  chg (lay R0 R1 R2 R3 (i 0).val (i 1) (i 2)) (W i) (M i) (U i)

def outM (R0 R1 R2 R3 : FVec Ideal S8x128x1024 .f32) (M : FVec Ideal S4x128x1024 .f32) : FVec Ideal S4x128x1024 .f32 := fun i =>
  mom (lay R0 R1 R2 R3 (i 0).val (i 1) (i 2)) (M i)

def outU (R0 R1 R2 R3 : FVec Ideal S8x128x1024 .f32) (U : FVec Ideal S4x128x1024 .f32) : FVec Ideal S4x128x1024 .f32 := fun i =>
  vel (lay R0 R1 R2 R3 (i 0).val (i 1) (i 2)) (U i)

theorem emb7 (t : Fin cfg0.N) (r : Fin 128) (q : Fin 1024) (h : t.val < 4) :
    ((cfg0.win 7).blk t).view.emb (ix3 0 r q) = ix3 ⟨t.val, h⟩ r q := by
  blk_ext [idx t]

theorem final7 (c : Dev nD) : (dats m 0 c).arrAt 7 cfg0.N = outG (a0 m c) (a1 m c) (a2 m c) (a3 m c) := by
  refine (dats m 0 c).arrAt_eq_of_covers 7 _ (by decide +kernel) fun t _ y => ?_
  blk_simp
  rw [after0_7]
  obtain ⟨o, r, q, rfl⟩ : ∃ (o : Fin 1) (r : Fin 128) (q : Fin 1024), y = ix3 o r q := ⟨_, _, _, eq_ix3 y⟩
  obtain rfl : o = 0 := Subsingleton.elim _ _
  rw [emb7 t r q t.isLt]
  refine (out7 m c t _).trans ?_
  rw [g_at, sm_at, rc_at]
  rfl

theorem emb8 (t : Fin cfg0.N) (r : Fin 128) (q : Fin 1024) (h : t.val < 4) :
    ((cfg0.win 8).blk t).view.emb (ix3 0 r q) = ix3 ⟨t.val, h⟩ r q := by
  blk_ext [idx t]

theorem final8 (c : Dev nD) : (dats m 0 c).arrAt 8 cfg0.N = outD (a0 m c) (a1 m c) (a2 m c) (a3 m c) (aw m c) (am m c) (av m c) := by
  refine (dats m 0 c).arrAt_eq_of_covers 8 _ (by decide +kernel) fun t _ y => ?_
  blk_simp
  rw [after0_8]
  obtain ⟨o, r, q, rfl⟩ : ∃ (o : Fin 1) (r : Fin 128) (q : Fin 1024), y = ix3 o r q := ⟨_, _, _, eq_ix3 y⟩
  obtain rfl : o = 0 := Subsingleton.elim _ _
  rw [emb8 t r q t.isLt]
  refine (out8 m c t _).trans ?_
  rw [d_at, sm_at, rc_at, blk4 m c t r q t.isLt, blk5 m c t r q t.isLt, blk6 m c t r q t.isLt]
  rfl

theorem emb9 (t : Fin cfg0.N) (r : Fin 128) (q : Fin 1024) (h : t.val < 4) :
    ((cfg0.win 9).blk t).view.emb (ix3 0 r q) = ix3 ⟨t.val, h⟩ r q := by
  blk_ext [idx t]

theorem final9 (c : Dev nD) : (dats m 0 c).arrAt 9 cfg0.N = outM (a0 m c) (a1 m c) (a2 m c) (a3 m c) (am m c) := by
  refine (dats m 0 c).arrAt_eq_of_covers 9 _ (by decide +kernel) fun t _ y => ?_
  blk_simp
  rw [after0_9]
  obtain ⟨o, r, q, rfl⟩ : ∃ (o : Fin 1) (r : Fin 128) (q : Fin 1024), y = ix3 o r q := ⟨_, _, _, eq_ix3 y⟩
  obtain rfl : o = 0 := Subsingleton.elim _ _
  rw [emb9 t r q t.isLt]
  refine (out9 m c t _).trans ?_
  rw [m_at, sm_at, rc_at, blk5 m c t r q t.isLt]
  rfl

theorem emb10 (t : Fin cfg0.N) (r : Fin 128) (q : Fin 1024) (h : t.val < 4) :
    ((cfg0.win 10).blk t).view.emb (ix3 0 r q) = ix3 ⟨t.val, h⟩ r q := by
  blk_ext [idx t]

theorem final10 (c : Dev nD) : (dats m 0 c).arrAt 10 cfg0.N = outU (a0 m c) (a1 m c) (a2 m c) (a3 m c) (av m c) := by
  refine (dats m 0 c).arrAt_eq_of_covers 10 _ (by decide +kernel) fun t _ y => ?_
  blk_simp
  rw [after0_10]
  obtain ⟨o, r, q, rfl⟩ : ∃ (o : Fin 1) (r : Fin 128) (q : Fin 1024), y = ix3 o r q := ⟨_, _, _, eq_ix3 y⟩
  obtain rfl : o = 0 := Subsingleton.elim _ _
  rw [emb10 t r q t.isLt]
  refine (out10 m c t _).trans ?_
  rw [v_at, sm_at, rc_at, blk6 m c t r q t.isLt]
  rfl

end Cert.AdamwKernelIdeal.AdamwValue

end
-- ==== Proof.AdamwClaim.lean ====
/- The claims about the mixing weight's sum over the devices and its optimiser step. -/
module

public import proofs.«01_k».proof.Defs
public import proofs.«01_k».proof.Proof.Gen.AdamwKernel
public import proofs.«01_k».proof.Proof.Gen.AdamwKernel.Frame
public import proofs.«01_k».proof.Proof.AdamwValue
public import proofs.«01_k».proof.Proof.Gen.AdamwReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_adamw : quiescent_AdamwKernel := fun m ρ _ => Cert.AdamwKernel.Gen.frame m ρ

theorem frame_adamwIdeal : quiescent_AdamwKernelIdeal := fun m ρ _ => Cert.AdamwKernelIdeal.Gen.frame m ρ

theorem frame_adamwReference : quiescent_AdamwReferenceIdeal := fun m ρ _ =>
  (θ_run Cert.AdamwReferenceIdeal.defs _ _).mono
    (fun r h => ⟨fun c => (h c).2.2.2.2, sem_eq_zero_of_no_sems (by decide) r.2⟩)
    (Cert.AdamwReferenceIdeal.Value.run (F := Ideal) m ρ)

section Results

open Cert.AdamwReferenceIdeal Cert.AdamwReferenceIdeal.Gen Cert.AdamwReferenceIdeal.Value Idealize.ShloMosaic.StableHlo
open Cert.AdamwKernelIdeal.AdamwValue (lay gs outG outM outU outD)
open Cert.AdamStep (mom vel chg)

variable (R0 R1 R2 R3 : FVec Ideal S8x128x1024 .f32)

/-- One layer's gradient, as the reference adds it up. -/
def wred (R : FVec Ideal S8x128x1024 .f32) : (⟨S1x128x1024, .f32⟩ : BufTy).Contents (Elt Ideal) :=
  broadcastInDim S1x128x1024 ![1, 2] bcast_S128x1024_S1x128x1024_1_2
    (Host.reduceAdd R (constant S_ .f32 0x00000000#32) reducesTo_S8x128x1024_S128x1024_d0 h_S_)

/-- The gradient, as the reference stacks it. -/
def wst : FVec Ideal S4x128x1024 .f32 :=
  (concatenate S4x128x1024 0 [⟨S1x128x1024, wred R0⟩, ⟨S1x128x1024, wred R1⟩, ⟨S1x128x1024, wred R2⟩, ⟨S1x128x1024, wred R3⟩]
    concatenates_S1x128x1024_S1x128x1024_S1x128x1024_S1x128x1024_S4x128x1024_d0 : (⟨S4x128x1024, .f32⟩ : BufTy).Contents (Elt Ideal))

theorem wred_at (R : FVec Ideal S8x128x1024 .f32) (o r q) : wred R (ix3 o r q) = gs R r q := by
  unfold wred gs
  pointwise []
  rw [Fin.sum_univ_eight]

/-- It is the sum over the devices in every layer. -/
theorem wst_eq : wst R0 R1 R2 R3 = outG R0 R1 R2 R3 := by
  funext i
  obtain ⟨l, r, q, rfl⟩ : ∃ (l : Fin 4) (r : Fin 128) (q : Fin 1024), i = ix3 l r q := ⟨_, _, _, eq_ix3 i⟩
  unfold wst
  pointwise []
  simp only [wred_at]
  show _ = lay R0 R1 R2 R3 l.val r q
  unfold lay
  have hl := l.isLt
  split_ifs <;> first | rfl | omega

variable (W M U : FVec Ideal S4x128x1024 .f32)

/-- The first moment. -/
theorem wmom_eq : addf (mulf (broadcastInDim S4x128x1024 ![] bcast_S_S4x128x1024 (constant S_ .f32 0x3F666666#32)) M)
    (mulf (broadcastInDim S4x128x1024 ![] bcast_S_S4x128x1024 (constant S_ .f32 0x3DCCCCCD#32)) (wst R0 R1 R2 R3))
    = outM R0 R1 R2 R3 M := by
  rw [wst_eq]
  funext i
  pointwise [outM, outG, mom]

/-- The second moment. -/
theorem wvel_eq : addf (mulf (broadcastInDim S4x128x1024 ![] bcast_S_S4x128x1024 (constant S_ .f32 0x3F7FBE77#32)) U)
    (mulf (broadcastInDim S4x128x1024 ![] bcast_S_S4x128x1024 (constant S_ .f32 0x3A83126F#32))
      (mulf (wst R0 R1 R2 R3) (wst R0 R1 R2 R3)))
    = outU R0 R1 R2 R3 U := by
  rw [wst_eq]
  funext i
  pointwise [outU, outG, vel]

/-- The weight's change, as the reference computes it from the two moments. -/
def wchg (A B : FVec Ideal S4x128x1024 .f32) : FVec Ideal S4x128x1024 .f32 :=
  mulf (broadcastInDim S4x128x1024 ![] bcast_S_S4x128x1024 (constant S_ .f32 0xBA83126F#32))
    (addf (Host.divf (Host.divf A (broadcastInDim S4x128x1024 ![] bcast_S_S4x128x1024 (constant S_ .f32 0x3F26BD02#32)))
        (addf (Host.sqrt (Host.divf B (broadcastInDim S4x128x1024 ![] bcast_S_S4x128x1024 (constant S_ .f32 0x3C231ACC#32))))
          (broadcastInDim S4x128x1024 ![] bcast_S_S4x128x1024 (constant S_ .f32 0x322BCC77#32))))
      (mulf (broadcastInDim S4x128x1024 ![] bcast_S_S4x128x1024 (constant S_ .f32 0x3C23D70A#32)) W))

theorem wchg_eq : wchg W (outM R0 R1 R2 R3 M) (outU R0 R1 R2 R3 U) = outD R0 R1 R2 R3 W M U := by
  funext i
  unfold wchg
  pointwise [outD, outM, outU, chg]

variable (m : (ℓ : Loc nD τ sig) → Buf (Elt Ideal) ℓ) (c : Dev nD)

theorem adamw_v32_eq : Value.res_main_v32 m c
    = wchg (m ((c.tc : Thread nD τ).loc main_arg4))
      (addf (mulf (broadcastInDim S4x128x1024 ![] bcast_S_S4x128x1024 (constant S_ .f32 0x3F666666#32))
          (m ((c.tc : Thread nD τ).loc main_arg5)))
        (mulf (broadcastInDim S4x128x1024 ![] bcast_S_S4x128x1024 (constant S_ .f32 0x3DCCCCCD#32))
          (wst (m ((c.tc : Thread nD τ).loc main_arg0)) (m ((c.tc : Thread nD τ).loc main_arg1))
            (m ((c.tc : Thread nD τ).loc main_arg2)) (m ((c.tc : Thread nD τ).loc main_arg3)))))
      (addf (mulf (broadcastInDim S4x128x1024 ![] bcast_S_S4x128x1024 (constant S_ .f32 0x3F7FBE77#32))
          (m ((c.tc : Thread nD τ).loc main_arg6)))
        (mulf (broadcastInDim S4x128x1024 ![] bcast_S_S4x128x1024 (constant S_ .f32 0x3A83126F#32))
          (mulf (wst (m ((c.tc : Thread nD τ).loc main_arg0)) (m ((c.tc : Thread nD τ).loc main_arg1))
              (m ((c.tc : Thread nD τ).loc main_arg2)) (m ((c.tc : Thread nD τ).loc main_arg3)))
            (wst (m ((c.tc : Thread nD τ).loc main_arg0)) (m ((c.tc : Thread nD τ).loc main_arg1))
              (m ((c.tc : Thread nD τ).loc main_arg2)) (m ((c.tc : Thread nD τ).loc main_arg3)))))) := by
  unfold Value.res_main_v32 wchg wst wred
  rfl

end Results

set_option maxHeartbeats 2000000 in
/-- The gradient summed over the devices, the change of the weight and its two moments. -/
theorem algebraic_adamw : algebraic_AdamwKernelIdeal_AdamwReferenceIdeal := by
  pair_intro
  · run_from Cert.AdamwKernelIdeal.Value.run_blocks m g
  · run_from Cert.AdamwReferenceIdeal.Value.run m' g'
    · refine Eq.trans ?_ ((wst_eq _ _ _ _).trans (Cert.AdamwKernelIdeal.AdamwValue.final7 m c).symm)
      unfold wst wred
      rfl
    · obtain ⟨h0, h1, h2, h3, h4, h5, h6⟩ := hagree c
      rw [adamw_v32_eq, h0, h1, h2, h3, h4, h5, h6, wmom_eq, wvel_eq, wchg_eq]
      exact (Cert.AdamwKernelIdeal.AdamwValue.final8 m c).symm
    · refine Eq.trans ?_ ((wmom_eq _ _ _ _ _).trans (Cert.AdamwKernelIdeal.AdamwValue.final9 m c).symm)
      unfold wst wred
      rfl
    · refine Eq.trans ?_ ((wvel_eq _ _ _ _ _).trans (Cert.AdamwKernelIdeal.AdamwValue.final10 m c).symm)
      unfold wst wred
      rfl

end Cert.Proof

end
-- ==== Proof.AdamuValue.lean ====
/- The widening weight's optimiser step: what the four output arrays hold after the run, tile by tile. -/
module

public import proofs.«01_k».proof.Proof.Gen.AdamuKernelIdeal.Value
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdamuKernelIdeal.AdamuValue

open Cert.AdamuKernelIdeal Cert.AdamuKernelIdeal.Gen Cert.AdamStep

theorem idx : ∀ t : Fin cfg0.N, win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, t.val % 4, 0] :=
  (by decide +kernel : ∀ t : Fin grid0.N, _)

/-- The received parts of a layer are read at that layer's points. -/
theorem idr : ∀ t : Fin cfg0.N, (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0]) :=
  (by decide +kernel : ∀ t : Fin grid0.N, _)

/-- The eight parts' sum, as the body computes it. -/
abbrev sm (R : FVec Ideal S8x256x512 .bf16) : FVec Ideal S256x512 .f32 :=
  k0_pay9 (F := Ideal)
    (View.ld (Val := Elt Ideal) (e' := .bf16) R (Rect.unit (s := S8x256x512) ![0, 0, 0] ![1, 256, 512] inb_S8x256x512_S1x256x512_0_0_0))
    (View.ld (Val := Elt Ideal) (e' := .bf16) R (Rect.unit (s := S8x256x512) ![1, 0, 0] ![1, 256, 512] inb_S8x256x512_S1x256x512_1_0_0))
    (View.ld (Val := Elt Ideal) (e' := .bf16) R (Rect.unit (s := S8x256x512) ![2, 0, 0] ![1, 256, 512] inb_S8x256x512_S1x256x512_2_0_0))
    (View.ld (Val := Elt Ideal) (e' := .bf16) R (Rect.unit (s := S8x256x512) ![3, 0, 0] ![1, 256, 512] inb_S8x256x512_S1x256x512_3_0_0))
    (View.ld (Val := Elt Ideal) (e' := .bf16) R (Rect.unit (s := S8x256x512) ![4, 0, 0] ![1, 256, 512] inb_S8x256x512_S1x256x512_4_0_0))
    (View.ld (Val := Elt Ideal) (e' := .bf16) R (Rect.unit (s := S8x256x512) ![5, 0, 0] ![1, 256, 512] inb_S8x256x512_S1x256x512_5_0_0))
    (View.ld (Val := Elt Ideal) (e' := .bf16) R (Rect.unit (s := S8x256x512) ![6, 0, 0] ![1, 256, 512] inb_S8x256x512_S1x256x512_6_0_0))
    (View.ld (Val := Elt Ideal) (e' := .bf16) R (Rect.unit (s := S8x256x512) ![7, 0, 0] ![1, 256, 512] inb_S8x256x512_S1x256x512_7_0_0))

theorem sm_at (R : FVec Ideal S8x256x512 .bf16) (r q) : sm R (ix2 r q) = gsum fun d => (R (ix3 d r q) : EReal) := by
  unfold sm gsum
  pointwise [k0_pay9]

theorem g_at (g : FVec Ideal S256x512 .f32) (r q) : k0_pay13 (F := Ideal) g (ix3 0 r q) = g (ix2 r q) := by
  pointwise [k0_pay13]

theorem m_at (g : FVec Ideal S256x512 .f32) (x : FVec Ideal S1x256x512 .f32) (r q) :
    k0_pay1 (F := Ideal) (k0_pay11 g x) (ix3 0 r q) = mom (g (ix2 r q)) (x (ix3 0 r q)) := by
  pointwise [k0_pay1, k0_pay11]
  rfl

theorem v_at (g : FVec Ideal S256x512 .f32) (x : FVec Ideal S1x256x512 .f32) (r q) :
    k0_pay2 (F := Ideal) (k0_pay12 g x) (ix3 0 r q) = vel (g (ix2 r q)) (x (ix3 0 r q)) := by
  pointwise [k0_pay2, k0_pay12]
  rfl

theorem d_at (g : FVec Ideal S256x512 .f32) (w x z : FVec Ideal S1x256x512 .f32) (r q) :
    k0_pay14 (F := Ideal) g (k0_pay10 w) x z (ix3 0 r q)
      = chg (g (ix2 r q)) (w (ix3 0 r q)) (x (ix3 0 r q)) (z (ix3 0 r q)) := by
  pointwise [k0_pay14, k0_pay10, k0_pay11, k0_pay12]
  rfl

variable (m : (ℓ : Loc nD τ sig) → Buf (Elt Ideal) ℓ)

/-- The region's arrays on one device: the parts received of each layer, the weight and its moments. -/
abbrev a0 (c : Dev nD) : FVec Ideal S8x1024x512 .f32 := m ((c : Thread nD τ).loc main_arg0)

abbrev a1 (c : Dev nD) : FVec Ideal S8x1024x512 .f32 := m ((c : Thread nD τ).loc main_arg1)

abbrev a2 (c : Dev nD) : FVec Ideal S8x1024x512 .f32 := m ((c : Thread nD τ).loc main_arg2)

abbrev a3 (c : Dev nD) : FVec Ideal S8x1024x512 .f32 := m ((c : Thread nD τ).loc main_arg3)

abbrev aw (c : Dev nD) : FVec Ideal S4x1024x512 .f32 := m ((c : Thread nD τ).loc main_arg4)

abbrev am (c : Dev nD) : FVec Ideal S4x1024x512 .f32 := m ((c : Thread nD τ).loc main_arg5)

abbrev av (c : Dev nD) : FVec Ideal S4x1024x512 .f32 := m ((c : Thread nD τ).loc main_arg6)

/-- A row of a tile, in its array. -/
abbrev rw (t : Fin cfg0.N) (r : Fin 256) : Fin 1024 := ⟨256 * (t.val % 4) + r.val, by omega⟩

/-- A point's layer. -/
abbrev ly (t : Fin cfg0.N) : Fin 4 := ⟨t.val / 4, by have h : t.val < 16 := t.isLt; omega⟩

/-- The received parts a point adds up. -/
def rc (c : Dev nD) (t : Fin cfg0.N) : FVec Ideal S8x256x512 .bf16 :=
  pick (t.val / 4) (iblk m c 0 t : FVec Ideal S8x256x512 .bf16) (iblk m c 1 t : FVec Ideal S8x256x512 .bf16)
    (iblk m c 2 t : FVec Ideal S8x256x512 .bf16) (iblk m c 3 t : FVec Ideal S8x256x512 .bf16)

theorem blk0 (c : Dev nD) (t : Fin cfg0.N) (h : t.val / 4 = 0) (d r q) : ((iblk m c 0 t : FVec Ideal S8x256x512 .bf16) (ix3 d r q) : EReal)
    = a0 m c (ix3 d (rw t r) q) := by
  blk_point [iblk, V, (idr t).1 h]

theorem blk1 (c : Dev nD) (t : Fin cfg0.N) (h : t.val / 4 = 1) (d r q) : ((iblk m c 1 t : FVec Ideal S8x256x512 .bf16) (ix3 d r q) : EReal)
    = a1 m c (ix3 d (rw t r) q) := by
  blk_point [iblk, V, (idr t).2.1 h]

theorem blk2 (c : Dev nD) (t : Fin cfg0.N) (h : t.val / 4 = 2) (d r q) : ((iblk m c 2 t : FVec Ideal S8x256x512 .bf16) (ix3 d r q) : EReal)
    = a2 m c (ix3 d (rw t r) q) := by
  blk_point [iblk, V, (idr t).2.2.1 h]

theorem blk3 (c : Dev nD) (t : Fin cfg0.N) (h : t.val / 4 = 3) (d r q) : ((iblk m c 3 t : FVec Ideal S8x256x512 .bf16) (ix3 d r q) : EReal)
    = a3 m c (ix3 d (rw t r) q) := by
  blk_point [iblk, V, (idr t).2.2.2 h]

theorem blk4 (c : Dev nD) (t : Fin cfg0.N) (r q) : (iblk m c 4 t : FVec Ideal S1x256x512 .f32) (ix3 0 r q)
    = aw m c (ix3 (ly t) (rw t r) q) := by
  blk_point [iblk, V, idx t]

theorem blk5 (c : Dev nD) (t : Fin cfg0.N) (r q) : (iblk m c 5 t : FVec Ideal S1x256x512 .f32) (ix3 0 r q)
    = am m c (ix3 (ly t) (rw t r) q) := by
  blk_point [iblk, V, idx t]

theorem blk6 (c : Dev nD) (t : Fin cfg0.N) (r q) : (iblk m c 6 t : FVec Ideal S1x256x512 .f32) (ix3 0 r q)
    = av m c (ix3 (ly t) (rw t r) q) := by
  blk_point [iblk, V, idx t]

/-- The gradient at one place. -/
def gr (R0 R1 R2 R3 : FVec Ideal S8x1024x512 .f32) (i : S4x1024x512.Idx) : EReal :=
  gsum fun d => pick (i 0).val (R0 (ix3 d (i 1) (i 2))) (R1 (ix3 d (i 1) (i 2))) (R2 (ix3 d (i 1) (i 2))) (R3 (ix3 d (i 1) (i 2)))

theorem rc_at (c : Dev nD) (t : Fin cfg0.N) (r q) : sm (rc m c t) (ix2 r q)
    = gr (a0 m c) (a1 m c) (a2 m c) (a3 m c) (ix3 (ly t) (rw t r) q) := by
  have ht : t.val < 16 := t.isLt
  rw [sm_at]
  show _ = gsum fun d => pick (t.val / 4) (a0 m c (ix3 d (rw t r) q)) (a1 m c (ix3 d (rw t r) q)) (a2 m c (ix3 d (rw t r) q))
    (a3 m c (ix3 d (rw t r) q))
  congr 1
  funext d
  unfold rc pick
  split_ifs with h0 h1 h2
  · exact blk0 m c t h0 d r q
  · exact blk1 m c t h1 d r q
  · exact blk2 m c t h2 d r q
  · exact blk3 m c t (by omega) d r q

/-- Each point is of one of the four layers, and its payloads are the same at each. -/
theorem layers (t : Fin cfg0.N) {p : Prop}
    (hA : t.val / 4 = 0 → p) (hB : t.val / 4 = 1 → p) (hC : t.val / 4 = 2 → p) (hD : t.val / 4 = 3 → p) : p := by
  have ht : t.val < 16 := t.isLt
  rcases (by omega : t.val / 4 = 0 ∨ t.val / 4 = 1 ∨ t.val / 4 = 2 ∨ t.val / 4 = 3) with h | h | h | h
  exacts [hA h, hB h, hC h, hD h]

theorem rc0 (c : Dev nD) (t : Fin cfg0.N) (h : t.val / 4 = 0) : rc m c t = iblk m c 0 t := by
  unfold rc; rw [h]; rfl

theorem rc1 (c : Dev nD) (t : Fin cfg0.N) (h : t.val / 4 = 1) : rc m c t = iblk m c 1 t := by
  unfold rc; rw [h]; rfl

theorem rc2 (c : Dev nD) (t : Fin cfg0.N) (h : t.val / 4 = 2) : rc m c t = iblk m c 2 t := by
  unfold rc; rw [h]; rfl

theorem rc3 (c : Dev nD) (t : Fin cfg0.N) (h : t.val / 4 = 3) : rc m c t = iblk m c 3 t := by
  unfold rc; rw [h]; rfl

set_option maxHeartbeats 1000000 in
/-- The gradient's block at a point, whichever layer it is. -/
theorem out7 (c : Dev nD) (t : Fin cfg0.N) (y) : (outsAt0 m c t.val t.isLt).1 y
    = k0_pay13 (F := Ideal) (sm (rc m c t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The change's block. -/
theorem out8 (c : Dev nD) (t : Fin cfg0.N) (y) : (outsAt0 m c t.val t.isLt).2.1 y
    = k0_pay14 (F := Ideal) (sm (rc m c t)) (k0_pay10 (iblk m c 4 t)) (iblk m c 5 t) (iblk m c 6 t) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The first moment's block. -/
theorem out9 (c : Dev nD) (t : Fin cfg0.N) (y) : (outsAt0 m c t.val t.isLt).2.2.1 y
    = k0_pay1 (F := Ideal) (k0_pay11 (sm (rc m c t)) (iblk m c 5 t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The second moment's block. -/
theorem out10 (c : Dev nD) (t : Fin cfg0.N) (y) : (outsAt0 m c t.val t.isLt).2.2.2 y
    = k0_pay2 (F := Ideal) (k0_pay12 (sm (rc m c t)) (iblk m c 6 t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

theorem emb7 (t : Fin cfg0.N) (r : Fin 256) (q : Fin 512) :
    ((cfg0.win 7).blk t).view.emb (ix3 0 r q) = ix3 (ly t) (rw t r) q := by
  blk_ext [idx t]

theorem final7 (c : Dev nD) : (dats m 0 c).arrAt 7 cfg0.N
    = (fun i => gr (a0 m c) (a1 m c) (a2 m c) (a3 m c) i : FVec Ideal S4x1024x512 .f32) := by
  refine (dats m 0 c).arrAt_eq_of_covers 7 _ (by decide +kernel) fun t _ y => ?_
  blk_simp
  rw [after0_7]
  obtain ⟨o, r, q, rfl⟩ : ∃ (o : Fin 1) (r : Fin 256) (q : Fin 512), y = ix3 o r q := ⟨_, _, _, eq_ix3 y⟩
  obtain rfl : o = 0 := Subsingleton.elim _ _
  rw [emb7 t r q]
  refine (out7 m c t _).trans ?_
  rw [g_at, rc_at]

theorem emb8 (t : Fin cfg0.N) (r : Fin 256) (q : Fin 512) :
    ((cfg0.win 8).blk t).view.emb (ix3 0 r q) = ix3 (ly t) (rw t r) q := by
  blk_ext [idx t]

theorem final8 (c : Dev nD) : (dats m 0 c).arrAt 8 cfg0.N
    = (fun i => chg (gr (a0 m c) (a1 m c) (a2 m c) (a3 m c) i) (aw m c i) (am m c i) (av m c i) : FVec Ideal S4x1024x512 .f32) := by
  refine (dats m 0 c).arrAt_eq_of_covers 8 _ (by decide +kernel) fun t _ y => ?_
  blk_simp
  rw [after0_8]
  obtain ⟨o, r, q, rfl⟩ : ∃ (o : Fin 1) (r : Fin 256) (q : Fin 512), y = ix3 o r q := ⟨_, _, _, eq_ix3 y⟩
  obtain rfl : o = 0 := Subsingleton.elim _ _
  rw [emb8 t r q]
  refine (out8 m c t _).trans ?_
  rw [d_at, rc_at, blk4, blk5, blk6]

theorem emb9 (t : Fin cfg0.N) (r : Fin 256) (q : Fin 512) :
    ((cfg0.win 9).blk t).view.emb (ix3 0 r q) = ix3 (ly t) (rw t r) q := by
  blk_ext [idx t]

theorem final9 (c : Dev nD) : (dats m 0 c).arrAt 9 cfg0.N
    = (fun i => mom (gr (a0 m c) (a1 m c) (a2 m c) (a3 m c) i) (am m c i) : FVec Ideal S4x1024x512 .f32) := by
  refine (dats m 0 c).arrAt_eq_of_covers 9 _ (by decide +kernel) fun t _ y => ?_
  blk_simp
  rw [after0_9]
  obtain ⟨o, r, q, rfl⟩ : ∃ (o : Fin 1) (r : Fin 256) (q : Fin 512), y = ix3 o r q := ⟨_, _, _, eq_ix3 y⟩
  obtain rfl : o = 0 := Subsingleton.elim _ _
  rw [emb9 t r q]
  refine (out9 m c t _).trans ?_
  rw [m_at, rc_at, blk5]

theorem emb10 (t : Fin cfg0.N) (r : Fin 256) (q : Fin 512) :
    ((cfg0.win 10).blk t).view.emb (ix3 0 r q) = ix3 (ly t) (rw t r) q := by
  blk_ext [idx t]

theorem final10 (c : Dev nD) : (dats m 0 c).arrAt 10 cfg0.N
    = (fun i => vel (gr (a0 m c) (a1 m c) (a2 m c) (a3 m c) i) (av m c i) : FVec Ideal S4x1024x512 .f32) := by
  refine (dats m 0 c).arrAt_eq_of_covers 10 _ (by decide +kernel) fun t _ y => ?_
  blk_simp
  rw [after0_10]
  obtain ⟨o, r, q, rfl⟩ : ∃ (o : Fin 1) (r : Fin 256) (q : Fin 512), y = ix3 o r q := ⟨_, _, _, eq_ix3 y⟩
  obtain rfl : o = 0 := Subsingleton.elim _ _
  rw [emb10 t r q]
  refine (out10 m c t _).trans ?_
  rw [v_at, rc_at, blk6]

end Cert.AdamuKernelIdeal.AdamuValue

end
-- ==== Proof.AdamuClaim.lean ====
/- The claims about the widening weight's sum over the devices and its optimiser step. -/
module

public import proofs.«01_k».proof.Defs
public import proofs.«01_k».proof.Proof.Gen.AdamuKernel
public import proofs.«01_k».proof.Proof.Gen.AdamuKernel.Frame
public import proofs.«01_k».proof.Proof.AdamuValue
public import proofs.«01_k».proof.Proof.Gen.AdamuReferenceIdeal.Run

@[expose] public section

set_option maxRecDepth 16384

noncomputable section

open Idealize.ShloMosaic Idealize.ShloMosaic.TcCoe Idealize.SL.Sem

namespace Cert.Proof

theorem frame_adamu : quiescent_AdamuKernel := fun m ρ _ => Cert.AdamuKernel.Gen.frame m ρ

theorem frame_adamuIdeal : quiescent_AdamuKernelIdeal := fun m ρ _ => Cert.AdamuKernelIdeal.Gen.frame m ρ

theorem frame_adamuReference : quiescent_AdamuReferenceIdeal := fun m ρ _ =>
  (θ_run Cert.AdamuReferenceIdeal.defs _ _).mono
    (fun r h => ⟨fun c => (h c).2.2.2.2, sem_eq_zero_of_no_sems (by decide) r.2⟩)
    (Cert.AdamuReferenceIdeal.Value.run (F := Ideal) m ρ)

section Results

open Cert.AdamuReferenceIdeal Cert.AdamuReferenceIdeal.Gen Cert.AdamuReferenceIdeal.Value Idealize.ShloMosaic.StableHlo
open Cert.AdamuKernelIdeal.AdamuValue (gr)
open Cert.AdamStep

variable (R0 R1 R2 R3 : FVec Ideal S8x1024x512 .f32)

/-- One layer's gradient, as the reference adds it up. -/
def ured (R : FVec Ideal S8x1024x512 .f32) : (⟨S1x1024x512, .f32⟩ : BufTy).Contents (Elt Ideal) :=
  broadcastInDim S1x1024x512 ![1, 2] bcast_S1024x512_S1x1024x512_1_2
    (Host.reduceAdd R (constant S_ .f32 0x00000000#32) reducesTo_S8x1024x512_S1024x512_d0 h_S_)

/-- The gradient, as the reference stacks it. -/
def ust : FVec Ideal S4x1024x512 .f32 :=
  (concatenate S4x1024x512 0 [⟨S1x1024x512, ured R0⟩, ⟨S1x1024x512, ured R1⟩, ⟨S1x1024x512, ured R2⟩, ⟨S1x1024x512, ured R3⟩]
    concatenates_S1x1024x512_S1x1024x512_S1x1024x512_S1x1024x512_S4x1024x512_d0 : (⟨S4x1024x512, .f32⟩ : BufTy).Contents (Elt Ideal))

theorem ured_at (R : FVec Ideal S8x1024x512 .f32) (o r q) : ured R (ix3 o r q) = gsum fun d => R (ix3 d r q) := by
  unfold ured gsum
  pointwise []
  rw [Fin.sum_univ_eight]

/-- It is the sum over the devices in every layer. -/
theorem ust_eq : ust R0 R1 R2 R3 = gr R0 R1 R2 R3 := by
  funext i
  obtain ⟨l, r, q, rfl⟩ : ∃ (l : Fin 4) (r : Fin 1024) (q : Fin 512), i = ix3 l r q := ⟨_, _, _, eq_ix3 i⟩
  unfold ust
  pointwise []
  simp only [ured_at]
  show _ = gsum fun d => pick l.val (R0 (ix3 d r q)) (R1 (ix3 d r q)) (R2 (ix3 d r q)) (R3 (ix3 d r q))
  unfold pick
  have hl := l.isLt
  split_ifs <;> first | rfl | omega

variable (m : (ℓ : Loc nD τ sig) → Buf (Elt Ideal) ℓ) (c : Dev nD)

theorem adamu_v32_eq (W M U : FVec Ideal S4x1024x512 .f32)
    (h0 : m ((c.tc : Thread nD τ).loc main_arg0) = R0) (h1 : m ((c.tc : Thread nD τ).loc main_arg1) = R1)
    (h2 : m ((c.tc : Thread nD τ).loc main_arg2) = R2) (h3 : m ((c.tc : Thread nD τ).loc main_arg3) = R3)
    (h4 : m ((c.tc : Thread nD τ).loc main_arg4) = W) (h5 : m ((c.tc : Thread nD τ).loc main_arg5) = M)
    (h6 : m ((c.tc : Thread nD τ).loc main_arg6) = U) : Value.res_main_v32 m c
    = fun i => chg (gr R0 R1 R2 R3 i) (W i) (M i) (U i) := by
  subst h0 h1 h2 h3 h4 h5 h6
  rw [← ust_eq]
  refine Eq.trans ?_ (chgR_eq bcast_S_S4x1024x512 (ust _ _ _ _) _ _ _)
  unfold Value.res_main_v32 ust ured
  rfl

end Results

set_option maxHeartbeats 2000000 in
/-- The gradient summed over the devices, the change of the weight and its two moments. -/
theorem algebraic_adamu : algebraic_AdamuKernelIdeal_AdamuReferenceIdeal := by
  pair_intro
  · run_from Cert.AdamuKernelIdeal.Value.run_blocks m g
  · run_from Cert.AdamuReferenceIdeal.Value.run m' g'
    · refine Eq.trans ?_ ((ust_eq _ _ _ _).trans (Cert.AdamuKernelIdeal.AdamuValue.final7 m c).symm)
      unfold ust ured
      rfl
    · obtain ⟨h0, h1, h2, h3, h4, h5, h6⟩ := hagree c
      rw [adamu_v32_eq _ _ _ _ m' c _ _ _ h0 h1 h2 h3 h4 h5 h6]
      exact (Cert.AdamuKernelIdeal.AdamuValue.final8 m c).symm
    · rw [Cert.AdamuKernelIdeal.AdamuValue.final9, ← ust_eq]
      refine Eq.trans ?_ (Cert.AdamStep.momR_eq Cert.AdamuReferenceIdeal.Facts₀.bcast_S_S4x1024x512 (ust _ _ _ _) _)
      unfold ust ured
      rfl
    · rw [Cert.AdamuKernelIdeal.AdamuValue.final10, ← ust_eq]
      refine Eq.trans ?_ (Cert.AdamStep.velR_eq Cert.AdamuReferenceIdeal.Facts₀.bcast_S_S4x1024x512 (ust _ _ _ _) _)
      unfold ust ured
      rfl

end Cert.Proof

end
-- ==== Proof.AdambValue.lean ====
/- The branch weights' optimiser step: what the four output arrays hold after the run, tile by tile. -/
module

public import proofs.«01_k».proof.Proof.Gen.AdambKernelIdeal.Value
public import proofs.«01_k».proof.Proof.AdamStep

@[expose] public section

set_option maxRecDepth 16384

noncomputable section

open Idealize.ShloMosaic Idealize.ShloMosaic.TcCoe Idealize.SL.Sem
open Idealize.ShloMosaic.Pipeline (Dat)

namespace Cert.AdambKernelIdeal.AdambValue

open Cert.AdambKernelIdeal Cert.AdambKernelIdeal.Gen Cert.AdamStep

theorem idx : ∀ t : Fin cfg0.N, win0_4.index t = ![t.val / 3, t.val % 3, 0] ∧ win0_5.index t = ![t.val / 3, t.val % 3, 0]
    ∧ win0_6.index t = ![t.val / 3, t.val % 3, 0] ∧ win0_7.index t = ![t.val / 3, t.val % 3, 0]
    ∧ win0_8.index t = ![t.val / 3, t.val % 3, 0] ∧ win0_9.index t = ![t.val / 3, t.val % 3, 0]
    ∧ win0_10.index t = ![t.val / 3, t.val % 3, 0] :=
  (by decide +kernel : ∀ t : Fin grid0.N, _)

/-- The received parts of a layer are read at that layer's points. -/
theorem idr : ∀ t : Fin cfg0.N, (t.val / 3 = 0 → win0_0.index t = ![0, t.val % 3, 0]) ∧ (t.val / 3 = 1 → win0_1.index t = ![0, t.val % 3, 0])
    ∧ (t.val / 3 = 2 → win0_2.index t = ![0, t.val % 3, 0]) ∧ (t.val / 3 = 3 → win0_3.index t = ![0, t.val % 3, 0]) :=
  (by decide +kernel : ∀ t : Fin grid0.N, _)

/-- The eight parts' sum, as the body computes it. -/
abbrev sm (R : FVec Ideal S8x512x128 .bf16) : FVec Ideal S512x128 .f32 :=
  k0_pay9 (F := Ideal)
    (View.ld (Val := Elt Ideal) (e' := .bf16) R (Rect.unit (s := S8x512x128) ![0, 0, 0] ![1, 512, 128] inb_S8x512x128_S1x512x128_0_0_0))
    (View.ld (Val := Elt Ideal) (e' := .bf16) R (Rect.unit (s := S8x512x128) ![1, 0, 0] ![1, 512, 128] inb_S8x512x128_S1x512x128_1_0_0))
    (View.ld (Val := Elt Ideal) (e' := .bf16) R (Rect.unit (s := S8x512x128) ![2, 0, 0] ![1, 512, 128] inb_S8x512x128_S1x512x128_2_0_0))
    (View.ld (Val := Elt Ideal) (e' := .bf16) R (Rect.unit (s := S8x512x128) ![3, 0, 0] ![1, 512, 128] inb_S8x512x128_S1x512x128_3_0_0))
    (View.ld (Val := Elt Ideal) (e' := .bf16) R (Rect.unit (s := S8x512x128) ![4, 0, 0] ![1, 512, 128] inb_S8x512x128_S1x512x128_4_0_0))
    (View.ld (Val := Elt Ideal) (e' := .bf16) R (Rect.unit (s := S8x512x128) ![5, 0, 0] ![1, 512, 128] inb_S8x512x128_S1x512x128_5_0_0))
    (View.ld (Val := Elt Ideal) (e' := .bf16) R (Rect.unit (s := S8x512x128) ![6, 0, 0] ![1, 512, 128] inb_S8x512x128_S1x512x128_6_0_0))
    (View.ld (Val := Elt Ideal) (e' := .bf16) R (Rect.unit (s := S8x512x128) ![7, 0, 0] ![1, 512, 128] inb_S8x512x128_S1x512x128_7_0_0))

theorem sm_at (R : FVec Ideal S8x512x128 .bf16) (r q) : sm R (ix2 r q) = gsum fun d => (R (ix3 d r q) : EReal) := by
  unfold sm gsum
  pointwise [k0_pay9]

theorem g_at (g : FVec Ideal S512x128 .f32) (r q) : k0_pay13 (F := Ideal) g (ix3 0 r q) = g (ix2 r q) := by
  pointwise [k0_pay13]

theorem m_at (g : FVec Ideal S512x128 .f32) (x : FVec Ideal S1x512x128 .f32) (r q) :
    k0_pay1 (F := Ideal) (k0_pay11 g x) (ix3 0 r q) = mom (g (ix2 r q)) (x (ix3 0 r q)) := by
  pointwise [k0_pay1, k0_pay11]
  rfl

theorem v_at (g : FVec Ideal S512x128 .f32) (x : FVec Ideal S1x512x128 .f32) (r q) :
    k0_pay2 (F := Ideal) (k0_pay12 g x) (ix3 0 r q) = vel (g (ix2 r q)) (x (ix3 0 r q)) := by
  pointwise [k0_pay2, k0_pay12]
  rfl

theorem d_at (g : FVec Ideal S512x128 .f32) (w x z : FVec Ideal S1x512x128 .f32) (r q) :
    k0_pay14 (F := Ideal) g (k0_pay10 w) x z (ix3 0 r q)
      = chg (g (ix2 r q)) (w (ix3 0 r q)) (x (ix3 0 r q)) (z (ix3 0 r q)) := by
  pointwise [k0_pay14, k0_pay10, k0_pay11, k0_pay12]
  rfl

variable (m : (ℓ : Loc nD τ sig) → Buf (Elt Ideal) ℓ)

/-- A branch weight's entry under a row of its flat form. -/
def fl8 (A : FVec Ideal S8x3x512x128 .f32) : FVec Ideal S8x1536x128 .f32 := fun i =>
  A (ix4 (i 0) ⟨(i 1).val / 512, by have h : (i 1).val < 1536 := (i 1).isLt; omega⟩ ⟨(i 1).val % 512, by omega⟩ (i 2))

/-- A branch weight's entry under a row of its flat form. -/
def fl4 (A : FVec Ideal S4x3x512x128 .f32) : FVec Ideal S4x1536x128 .f32 := fun i =>
  A (ix4 (i 0) ⟨(i 1).val / 512, by have h : (i 1).val < 1536 := (i 1).isLt; omega⟩ ⟨(i 1).val % 512, by omega⟩ (i 2))

/-- The region's arrays on one device: the parts received of each layer, the weight and its moments. -/
abbrev a0 (c : Dev nD) : FVec Ideal S8x1536x128 .f32 := fl8 (m ((c : Thread nD τ).loc main_arg0))

abbrev a1 (c : Dev nD) : FVec Ideal S8x1536x128 .f32 := fl8 (m ((c : Thread nD τ).loc main_arg1))

abbrev a2 (c : Dev nD) : FVec Ideal S8x1536x128 .f32 := fl8 (m ((c : Thread nD τ).loc main_arg2))

abbrev a3 (c : Dev nD) : FVec Ideal S8x1536x128 .f32 := fl8 (m ((c : Thread nD τ).loc main_arg3))

abbrev aw (c : Dev nD) : FVec Ideal S4x1536x128 .f32 := fl4 (m ((c : Thread nD τ).loc main_arg4))

abbrev am (c : Dev nD) : FVec Ideal S4x1536x128 .f32 := fl4 (m ((c : Thread nD τ).loc main_arg5))

abbrev av (c : Dev nD) : FVec Ideal S4x1536x128 .f32 := fl4 (m ((c : Thread nD τ).loc main_arg6))

/-- A row of a tile, in its array. -/
abbrev rw (t : Fin cfg0.N) (r : Fin 512) : Fin 1536 := ⟨512 * (t.val % 3) + r.val, by omega⟩

/-- A point's layer. -/
abbrev ly (t : Fin cfg0.N) : Fin 4 := ⟨t.val / 3, by have h : t.val < 12 := t.isLt; omega⟩

/-- The received parts a point adds up. -/
def rc (c : Dev nD) (t : Fin cfg0.N) : FVec Ideal S8x512x128 .bf16 :=
  pick (t.val / 3) (iblk m c 0 t : FVec Ideal S8x512x128 .bf16) (iblk m c 1 t : FVec Ideal S8x512x128 .bf16)
    (iblk m c 2 t : FVec Ideal S8x512x128 .bf16) (iblk m c 3 t : FVec Ideal S8x512x128 .bf16)

theorem blk0 (c : Dev nD) (t : Fin cfg0.N) (h : t.val / 3 = 0) (d r q) : ((iblk m c 0 t : FVec Ideal S8x512x128 .bf16) (ix3 d r q) : EReal)
    = a0 m c (ix3 d (rw t r) q) := by
  unfold a0 fl8
  blk_point [iblk, V, (idr t).1 h]

theorem blk1 (c : Dev nD) (t : Fin cfg0.N) (h : t.val / 3 = 1) (d r q) : ((iblk m c 1 t : FVec Ideal S8x512x128 .bf16) (ix3 d r q) : EReal)
    = a1 m c (ix3 d (rw t r) q) := by
  unfold a1 fl8
  blk_point [iblk, V, (idr t).2.1 h]

theorem blk2 (c : Dev nD) (t : Fin cfg0.N) (h : t.val / 3 = 2) (d r q) : ((iblk m c 2 t : FVec Ideal S8x512x128 .bf16) (ix3 d r q) : EReal)
    = a2 m c (ix3 d (rw t r) q) := by
  unfold a2 fl8
  blk_point [iblk, V, (idr t).2.2.1 h]

theorem blk3 (c : Dev nD) (t : Fin cfg0.N) (h : t.val / 3 = 3) (d r q) : ((iblk m c 3 t : FVec Ideal S8x512x128 .bf16) (ix3 d r q) : EReal)
    = a3 m c (ix3 d (rw t r) q) := by
  unfold a3 fl8
  blk_point [iblk, V, (idr t).2.2.2 h]

theorem blk4 (c : Dev nD) (t : Fin cfg0.N) (r q) : (iblk m c 4 t : FVec Ideal S1x512x128 .f32) (ix3 0 r q)
    = aw m c (ix3 (ly t) (rw t r) q) := by
  unfold aw fl4
  blk_point [iblk, V, idx t]

theorem blk5 (c : Dev nD) (t : Fin cfg0.N) (r q) : (iblk m c 5 t : FVec Ideal S1x512x128 .f32) (ix3 0 r q)
    = am m c (ix3 (ly t) (rw t r) q) := by
  unfold am fl4
  blk_point [iblk, V, idx t]

theorem blk6 (c : Dev nD) (t : Fin cfg0.N) (r q) : (iblk m c 6 t : FVec Ideal S1x512x128 .f32) (ix3 0 r q)
    = av m c (ix3 (ly t) (rw t r) q) := by
  unfold av fl4
  blk_point [iblk, V, idx t]

/-- The gradient at one place. -/
def gr (R0 R1 R2 R3 : FVec Ideal S8x1536x128 .f32) (i : S4x1536x128.Idx) : EReal :=
  gsum fun d => pick (i 0).val (R0 (ix3 d (i 1) (i 2))) (R1 (ix3 d (i 1) (i 2))) (R2 (ix3 d (i 1) (i 2))) (R3 (ix3 d (i 1) (i 2)))

theorem rc_at (c : Dev nD) (t : Fin cfg0.N) (r q) : sm (rc m c t) (ix2 r q)
    = gr (a0 m c) (a1 m c) (a2 m c) (a3 m c) (ix3 (ly t) (rw t r) q) := by
  have ht : t.val < 12 := t.isLt
  rw [sm_at]
  show _ = gsum fun d => pick (t.val / 3) (a0 m c (ix3 d (rw t r) q)) (a1 m c (ix3 d (rw t r) q)) (a2 m c (ix3 d (rw t r) q))
    (a3 m c (ix3 d (rw t r) q))
  congr 1
  funext d
  unfold rc pick
  split_ifs with h0 h1 h2
  · exact blk0 m c t h0 d r q
  · exact blk1 m c t h1 d r q
  · exact blk2 m c t h2 d r q
  · exact blk3 m c t (by omega) d r q

/-- Each point is of one of the four layers, and its payloads are the same at each. -/
theorem layers (t : Fin cfg0.N) {p : Prop}
    (hA : t.val / 3 = 0 → p) (hB : t.val / 3 = 1 → p) (hC : t.val / 3 = 2 → p) (hD : t.val / 3 = 3 → p) : p := by
  have ht : t.val < 12 := t.isLt
  rcases (by omega : t.val / 3 = 0 ∨ t.val / 3 = 1 ∨ t.val / 3 = 2 ∨ t.val / 3 = 3) with h | h | h | h
  exacts [hA h, hB h, hC h, hD h]

theorem rc0 (c : Dev nD) (t : Fin cfg0.N) (h : t.val / 3 = 0) : rc m c t = iblk m c 0 t := by
  unfold rc; rw [h]; rfl

theorem rc1 (c : Dev nD) (t : Fin cfg0.N) (h : t.val / 3 = 1) : rc m c t = iblk m c 1 t := by
  unfold rc; rw [h]; rfl

theorem rc2 (c : Dev nD) (t : Fin cfg0.N) (h : t.val / 3 = 2) : rc m c t = iblk m c 2 t := by
  unfold rc; rw [h]; rfl

theorem rc3 (c : Dev nD) (t : Fin cfg0.N) (h : t.val / 3 = 3) : rc m c t = iblk m c 3 t := by
  unfold rc; rw [h]; rfl

set_option maxHeartbeats 1000000 in
/-- The gradient's block at a point, whichever layer it is. -/
theorem out7 (c : Dev nD) (t : Fin cfg0.N) (y) : (outsAt0 m c t.val t.isLt).1 y
    = k0_pay13 (F := Ideal) (sm (rc m c t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The change's block. -/
theorem out8 (c : Dev nD) (t : Fin cfg0.N) (y) : (outsAt0 m c t.val t.isLt).2.1 y
    = k0_pay14 (F := Ideal) (sm (rc m c t)) (k0_pay10 (iblk m c 4 t)) (iblk m c 5 t) (iblk m c 6 t) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The first moment's block. -/
theorem out9 (c : Dev nD) (t : Fin cfg0.N) (y) : (outsAt0 m c t.val t.isLt).2.2.1 y
    = k0_pay1 (F := Ideal) (k0_pay11 (sm (rc m c t)) (iblk m c 5 t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

set_option maxHeartbeats 1000000 in
/-- The second moment's block. -/
theorem out10 (c : Dev nD) (t : Fin cfg0.N) (y) : (outsAt0 m c t.val t.isLt).2.2.2 y
    = k0_pay2 (F := Ideal) (k0_pay12 (sm (rc m c t)) (iblk m c 6 t)) y := by
  refine layers t (fun h => ?_) (fun h => ?_) (fun h => ?_) (fun h => ?_)
  · rw [outsAt0_A m c t (by omega) (by omega) (by omega) (by omega), rc0 m c t h]; frame_out
  · rw [outsAt0_B m c t (by omega) (by omega) (by omega) (by omega), rc1 m c t h]; frame_out; rfl
  · rw [outsAt0_C m c t (by omega) (by omega) (by omega) (by omega), rc2 m c t h]; frame_out; rfl
  · rw [outsAt0_D m c t (by omega) (by omega) (by omega) (by omega), rc3 m c t h]; frame_out; rfl

theorem emb7 (t : Fin cfg0.N) (r : Fin 512) (q : Fin 128) :
    ((cfg0.win 7).blk t).view.emb (ix3 0 r q) = ix3 (ly t) (rw t r) q := by
  blk_ext [idx t]

theorem final7 (c : Dev nD) : (dats m 0 c).arrAt 7 cfg0.N
    = (fun i => gr (a0 m c) (a1 m c) (a2 m c) (a3 m c) i : FVec Ideal S4x1536x128 .f32) := by
  refine (dats m 0 c).arrAt_eq_of_covers 7 _ (by decide +kernel) fun t _ y => ?_
  blk_simp
  rw [after0_7]
  obtain ⟨o, r, q, rfl⟩ : ∃ (o : Fin 1) (r : Fin 512) (q : Fin 128), y = ix3 o r q := ⟨_, _, _, eq_ix3 y⟩
  obtain rfl : o = 0 := Subsingleton.elim _ _
  rw [emb7 t r q]
  refine (out7 m c t _).trans ?_
  rw [g_at, rc_at]

theorem emb8 (t : Fin cfg0.N) (r : Fin 512) (q : Fin 128) :
    ((cfg0.win 8).blk t).view.emb (ix3 0 r q) = ix3 (ly t) (rw t r) q := by
  blk_ext [idx t]

theorem final8 (c : Dev nD) : (dats m 0 c).arrAt 8 cfg0.N
    = (fun i => chg (gr (a0 m c) (a1 m c) (a2 m c) (a3 m c) i) (aw m c i) (am m c i) (av m c i) : FVec Ideal S4x1536x128 .f32) := by
  refine (dats m 0 c).arrAt_eq_of_covers 8 _ (by decide +kernel) fun t _ y => ?_
  blk_simp
  rw [after0_8]
  obtain ⟨o, r, q, rfl⟩ : ∃ (o : Fin 1) (r : Fin 512) (q : Fin 128), y = ix3 o r q := ⟨_, _, _, eq_ix3 y⟩
  obtain rfl : o = 0 := Subsingleton.elim _ _
  rw [emb8 t r q]
  refine (out8 m c t _).trans ?_
  rw [d_at, rc_at, blk4, blk5, blk6]

theorem emb9 (t : Fin cfg0.N) (r : Fin 512) (q : Fin 128) :
    ((cfg0.win 9).blk t).view.emb (ix3 0 r q) = ix3 (ly t) (rw t r) q := by
  blk_ext [idx t]

theorem final9 (c : Dev nD) : (dats m 0 c).arrAt 9 cfg0.N
    = (fun i => mom (gr (a0 m c) (a1 m c) (a2 m c) (a3 m c) i) (am m c i) : FVec Ideal S4x1536x128 .f32) := by
  refine (dats m 0 c).arrAt_eq_of_covers 9 _ (by decide +kernel) fun t _ y => ?_
  blk_simp
  rw [after0_9]
  obtain ⟨o, r, q, rfl⟩ : ∃ (o : Fin 1) (r : Fin 512) (q : Fin 128), y = ix3 o r q := ⟨_, _, _, eq_ix3 y⟩
  obtain rfl : o = 0 := Subsingleton.elim _ _
  rw [emb9 t r q]
  refine (out9 m c t _).trans ?_
  rw [m_at, rc_at, blk5]

theorem emb10 (t : Fin cfg0.N) (r : Fin 512) (q : Fin 128) :
    ((cfg0.win 10).blk t).view.emb (ix3 0 r q) = ix3 (ly t) (rw t r) q := by
  blk_ext [idx t]

theorem final10 (c : Dev nD) : (dats m 0 c).arrAt 10 cfg0.N
    = (fun i => vel (gr (a0 m c) (a1 m c) (a2 m c) (a3 m c) i) (av m c i) : FVec Ideal S4x1536x128 .f32) := by
  refine (dats m 0 c).arrAt_eq_of_covers 10 _ (by decide +kernel) fun t _ y => ?_
  blk_simp
  rw [after0_10]
  obtain ⟨o, r, q, rfl⟩ : ∃ (o : Fin 1) (r : Fin 512) (q : Fin 128), y = ix3 o r q := ⟨_, _, _, eq_ix3 y⟩
  obtain rfl : o = 0 := Subsingleton.elim _ _
  rw [emb10 t r q]
  refine (out10 m c t _).trans ?_
  rw [v_at, rc_at, blk6]

end Cert.AdambKernelIdeal.AdambValue

end
-- ==== Proof.AdambClaim.lean ====
/- The claims about the branch weights's sum over the devices and their optimiser step. -/
module

public import proofs.«01_k».proof.Defs
public import proofs.«01_k».proof.Proof.Gen.AdambKernel
public import proofs.«01_k».proof.Proof.Gen.AdambKernel.Frame
public import proofs.«01_k».proof.Proof.AdambValue
public import proofs.«01_k».proof.Proof.Gen.AdambReferenceIdeal.Run

@[expose] public section

set_option maxRecDepth 16384

noncomputable section

open Idealize.ShloMosaic Idealize.ShloMosaic.TcCoe Idealize.SL.Sem

namespace Cert.Proof

theorem frame_adamb : quiescent_AdambKernel := fun m ρ _ => Cert.AdambKernel.Gen.frame m ρ

theorem frame_adambIdeal : quiescent_AdambKernelIdeal := fun m ρ _ => Cert.AdambKernelIdeal.Gen.frame m ρ

theorem frame_adambReference : quiescent_AdambReferenceIdeal := fun m ρ _ =>
  (θ_run Cert.AdambReferenceIdeal.defs _ _).mono
    (fun r h => ⟨fun c => (h c).2.2.2.2, sem_eq_zero_of_no_sems (by decide) r.2⟩)
    (Cert.AdambReferenceIdeal.Value.run (F := Ideal) m ρ)

section Results

open Cert.AdambReferenceIdeal Cert.AdambReferenceIdeal.Gen Cert.AdambReferenceIdeal.Value Idealize.ShloMosaic.StableHlo
open Cert.AdambKernelIdeal.AdambValue (gr fl4 fl8)
open Cert.AdamStep

variable (R0 R1 R2 R3 : FVec Ideal S8x3x512x128 .f32)

/-- One layer's gradient, as the reference adds it up. -/
def bred (R : FVec Ideal S8x3x512x128 .f32) : (⟨S1x3x512x128, .f32⟩ : BufTy).Contents (Elt Ideal) :=
  broadcastInDim S1x3x512x128 ![1, 2, 3] bcast_S3x512x128_S1x3x512x128_1_2_3
    (Host.reduceAdd R (constant S_ .f32 0x00000000#32) reducesTo_S8x3x512x128_S3x512x128_d0 h_S_)

/-- The gradient, as the reference stacks it. -/
def bst : FVec Ideal S4x3x512x128 .f32 :=
  (concatenate S4x3x512x128 0 [⟨S1x3x512x128, bred R0⟩, ⟨S1x3x512x128, bred R1⟩, ⟨S1x3x512x128, bred R2⟩, ⟨S1x3x512x128, bred R3⟩]
    concatenates_S1x3x512x128_S1x3x512x128_S1x3x512x128_S1x3x512x128_S4x3x512x128_d0 : (⟨S4x3x512x128, .f32⟩ : BufTy).Contents (Elt Ideal))

theorem bred_at (R : FVec Ideal S8x3x512x128 .f32) (o k r q) : bred R (ix4 o k r q) = gsum fun d => R (ix4 d k r q) := by
  unfold bred gsum
  pointwise []
  rw [Fin.sum_univ_eight]

/-- It is the sum over the devices in every layer. -/
theorem bst_at (l k r q) : bst R0 R1 R2 R3 (ix4 l k r q)
    = gsum fun d => pick l.val (R0 (ix4 d k r q)) (R1 (ix4 d k r q)) (R2 (ix4 d k r q)) (R3 (ix4 d k r q)) := by
  unfold bst
  pointwise []
  simp only [bred_at]
  unfold pick
  have hl := l.isLt
  split_ifs <;> first | rfl | omega

/-- The results are returned in the flat form. -/
theorem flat_eq (X : FVec Ideal S4x3x512x128 .f32) : shapeCast S4x1536x128 X shapeCasts_S4x3x512x128_S4x1536x128 = fl4 X := by
  funext i
  obtain ⟨l, r, q, rfl⟩ : ∃ (l : Fin 4) (r : Fin 1536) (q : Fin 128), i = ix3 l r q := ⟨_, _, _, eq_ix3 i⟩
  unfold fl4
  pointwise []

theorem bst_flat : fl4 (bst R0 R1 R2 R3) = gr (fl8 R0) (fl8 R1) (fl8 R2) (fl8 R3) := by
  funext i
  exact bst_at R0 R1 R2 R3 _ _ _ _

variable (m : (ℓ : Loc nD τ sig) → Buf (Elt Ideal) ℓ) (c : Dev nD)

theorem adamb_v34_eq (W M U : FVec Ideal S4x3x512x128 .f32)
    (h0 : m ((c.tc : Thread nD τ).loc main_arg0) = R0) (h1 : m ((c.tc : Thread nD τ).loc main_arg1) = R1)
    (h2 : m ((c.tc : Thread nD τ).loc main_arg2) = R2) (h3 : m ((c.tc : Thread nD τ).loc main_arg3) = R3)
    (h4 : m ((c.tc : Thread nD τ).loc main_arg4) = W) (h5 : m ((c.tc : Thread nD τ).loc main_arg5) = M)
    (h6 : m ((c.tc : Thread nD τ).loc main_arg6) = U) : Value.res_main_v34 m c
    = fun i => chg (gr (fl8 R0) (fl8 R1) (fl8 R2) (fl8 R3) i) (fl4 W i) (fl4 M i) (fl4 U i) := by
  subst h0 h1 h2 h3 h4 h5 h6
  rw [← bst_flat]
  refine Eq.trans ?_ ((flat_eq _).trans (congrArg fl4 (chgR_eq bcast_S_S4x3x512x128 (bst _ _ _ _) _ _ _)))
  unfold Value.res_main_v34 bst bred
  rfl

end Results

set_option maxHeartbeats 2000000 in
/-- The gradient summed over the devices, the change of the weight and its two moments. -/
theorem algebraic_adamb : algebraic_AdambKernelIdeal_AdambReferenceIdeal := by
  pair_intro
  · run_from Cert.AdambKernelIdeal.Value.run_blocks m g
  · run_from Cert.AdambReferenceIdeal.Value.run m' g'
    · refine Eq.trans ?_ ((flat_eq _).trans ((bst_flat _ _ _ _).trans (Cert.AdambKernelIdeal.AdambValue.final7 m c).symm))
      unfold bst bred
      rfl
    · obtain ⟨h0, h1, h2, h3, h4, h5, h6⟩ := hagree c
      rw [adamb_v34_eq _ _ _ _ m' c _ _ _ h0 h1 h2 h3 h4 h5 h6]
      exact (Cert.AdambKernelIdeal.AdambValue.final8 m c).symm
    · rw [Cert.AdambKernelIdeal.AdambValue.final9, ← bst_flat]
      refine Eq.trans ?_ ((flat_eq _).trans (congrArg Cert.AdambKernelIdeal.AdambValue.fl4
        (Cert.AdamStep.momR_eq Cert.AdambReferenceIdeal.Facts₀.bcast_S_S4x3x512x128 (bst _ _ _ _) _)))
      unfold bst bred
      rfl
    · rw [Cert.AdambKernelIdeal.AdambValue.final10, ← bst_flat]
      refine Eq.trans ?_ ((flat_eq _).trans (congrArg Cert.AdambKernelIdeal.AdambValue.fl4
        (Cert.AdamStep.velR_eq Cert.AdambReferenceIdeal.Facts₀.bcast_S_S4x3x512x128 (bst _ _ _ _) _)))
      unfold bst bred
      rfl

end Cert.Proof

end
-- ==== Proof.SumdClaim.lean ====
/- The claims about the sum of the small gradients over the devices. -/
module

public import proofs.«01_k».proof.Defs
public import proofs.«01_k».proof.Proof.Gen.SumdKernel
public import proofs.«01_k».proof.Proof.Gen.SumdKernel.Frame
public import proofs.«01_k».proof.Proof.Gen.SumdKernelIdeal.Value
public import proofs.«01_k».proof.Proof.Gen.SumdReferenceIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof

theorem frame_sumd : quiescent_SumdKernel := fun m ρ _ => Cert.SumdKernel.Gen.frame m ρ

theorem frame_sumdIdeal : quiescent_SumdKernelIdeal := fun m ρ _ => Cert.SumdKernelIdeal.Gen.frame m ρ

theorem frame_sumdReference : quiescent_SumdReferenceIdeal := fun m ρ _ =>
  (θ_run Cert.SumdReferenceIdeal.defs _ _).mono
    (fun r h => ⟨fun c => (h c).2, sem_eq_zero_of_no_sems (by decide) r.2⟩)
    (Cert.SumdReferenceIdeal.Value.run (F := Ideal) m ρ)

open Cert.SumdReferenceIdeal Cert.SumdReferenceIdeal.Gen in
/-- Summing over the devices at once and adding one device after the other give the same. -/
theorem sumd_eq (X : FVec Ideal S8x48x1024 .f32) :
    Host.reduceAdd X (constant S_ .f32 0x00000000#32) reducesTo_S8x48x1024_S48x1024_d0 h_S_
      = (Cert.SumdKernelIdeal.Value.G1 (F := Ideal) X : FVec Ideal Cert.SumdKernelIdeal.S48x1024 .f32) := by
  funext j
  obtain ⟨r, d, rfl⟩ : ∃ (r : Fin 48) (d : Fin 1024), j = ix2 r d := ⟨_, _, eq_ix2 j⟩
  pointwise [Cert.SumdKernelIdeal.Value.G1, Cert.SumdKernelIdeal.Gen.k0_pay1]
  exact Fin.sum_univ_eight _

set_option maxHeartbeats 2000000 in
/-- The summed rows. -/
theorem algebraic_sumd : algebraic_SumdKernelIdeal_SumdReferenceIdeal := by
  pair_intro
  · run_from Cert.SumdKernelIdeal.Value.run m g
  · run_from Cert.SumdReferenceIdeal.Value.run m' g'
    exact sumd_eq (m ((c : Thread Cert.SumdKernelIdeal.nD Cert.SumdKernelIdeal.τ).loc Cert.SumdKernelIdeal.main_arg0))

end Cert.Proof

end
-- ==== Proof.lean ====
/- The proof of everything the certificate claims: per call of the step, its frames, that nothing was rewritten,
   and that the kernel's results are the reference's over the extended reals. -/
module

public import proofs.«01_k».proof.Defs
public import proofs.«01_k».proof.Proof.Gen.LossKernelIdeal.Value
public import proofs.«01_k».proof.Proof.Gen.LossReferenceIdeal.Run
public import proofs.«01_k».proof.Proof.LossClaim
public import proofs.«01_k».proof.Proof.Gen.AttnKernelIdeal.Value
public import proofs.«01_k».proof.Proof.Gen.AttnReferenceIdeal.Run
public import proofs.«01_k».proof.Proof.AttnClaim
public import proofs.«01_k».proof.Proof.Gen.ConvReferenceIdeal.Run
public import proofs.«01_k».proof.Proof.ConvClaim
public import proofs.«01_k».proof.Proof.Gen.MergeReferenceIdeal.Run
public import proofs.«01_k».proof.Proof.MergeClaim
public import proofs.«01_k».proof.Proof.Gen.Ln1ReferenceIdeal.Run
public import proofs.«01_k».proof.Proof.Ln1Claim
public import proofs.«01_k».proof.Proof.Gen.Ln2ReferenceIdeal.Run
public import proofs.«01_k».proof.Proof.Ln2Claim
public import proofs.«01_k».proof.Proof.Gen.AttnfKernelIdeal.Value
public import proofs.«01_k».proof.Proof.Gen.AttnfReferenceIdeal.Run
public import proofs.«01_k».proof.Proof.AttnfClaim
public import proofs.«01_k».proof.Proof.Gen.LbKernelIdeal.Value
public import proofs.«01_k».proof.Proof.Gen.LbReferenceIdeal.Run
public import proofs.«01_k».proof.Proof.LbClaim
public import proofs.«01_k».proof.Proof.Gen.WolnKernelIdeal.Value
public import proofs.«01_k».proof.Proof.Gen.WolnReferenceIdeal.Run
public import proofs.«01_k».proof.Proof.WolnClaim
public import proofs.«01_k».proof.Proof.Gen.DownlnKernelIdeal.Value
public import proofs.«01_k».proof.Proof.Gen.DownlnReferenceIdeal.Run
public import proofs.«01_k».proof.Proof.DownlnClaim
public import proofs.«01_k».proof.Proof.Gen.UpKernelIdeal.Value
public import proofs.«01_k».proof.Proof.Gen.UpReferenceIdeal.Run
public import proofs.«01_k».proof.Proof.UpClaim
public import proofs.«01_k».proof.Proof.Gen.MergefKernelIdeal.Value
public import proofs.«01_k».proof.Proof.Gen.MergefReferenceIdeal.Run
public import proofs.«01_k».proof.Proof.MergefClaim
public import proofs.«01_k».proof.Proof.Gen.LbfKernelIdeal.Value
public import proofs.«01_k».proof.Proof.Gen.LbfReferenceIdeal.Run
public import proofs.«01_k».proof.Proof.LbfClaim
public import proofs.«01_k».proof.Proof.Gen.InbKernelIdeal.Value
public import proofs.«01_k».proof.Proof.Gen.InbReferenceIdeal.Run
public import proofs.«01_k».proof.Proof.InbClaim
public import proofs.«01_k».proof.Proof.Gen.GupKernelIdeal.Value
public import proofs.«01_k».proof.Proof.Gen.GupReferenceIdeal.Run
public import proofs.«01_k».proof.Proof.GupClaim
public import proofs.«01_k».proof.Proof.Gen.MemkvKernelIdeal.Value
public import proofs.«01_k».proof.Proof.Gen.MemkvReferenceIdeal.Run
public import proofs.«01_k».proof.Proof.MemkvClaim
public import proofs.«01_k».proof.Proof.Gen.AdamsKernelIdeal.Value
public import proofs.«01_k».proof.Proof.Gen.AdamsReferenceIdeal.Run
public import proofs.«01_k».proof.Proof.AdamsClaim
public import proofs.«01_k».proof.Proof.Gen.AdamcKernelIdeal.Value
public import proofs.«01_k».proof.Proof.Gen.AdamcReferenceIdeal.Run
public import proofs.«01_k».proof.Proof.AdamcClaim
public import proofs.«01_k».proof.Proof.Gen.AdamgKernelIdeal.Value
public import proofs.«01_k».proof.Proof.Gen.AdamgReferenceIdeal.Run
public import proofs.«01_k».proof.Proof.AdamgClaim
public import proofs.«01_k».proof.Proof.Gen.AdamlKernelIdeal.Value
public import proofs.«01_k».proof.Proof.Gen.AdamlReferenceIdeal.Run
public import proofs.«01_k».proof.Proof.AdamlClaim
public import proofs.«01_k».proof.Proof.Gen.AdamwKernelIdeal.Value
public import proofs.«01_k».proof.Proof.Gen.AdamwReferenceIdeal.Run
public import proofs.«01_k».proof.Proof.AdamwClaim
public import proofs.«01_k».proof.Proof.Gen.AdamuKernelIdeal.Value
public import proofs.«01_k».proof.Proof.Gen.AdamuReferenceIdeal.Run
public import proofs.«01_k».proof.Proof.AdamuClaim
public import proofs.«01_k».proof.Proof.Gen.AdambKernelIdeal.Value
public import proofs.«01_k».proof.Proof.Gen.AdambReferenceIdeal.Run
public import proofs.«01_k».proof.Proof.AdambClaim
public import proofs.«01_k».proof.Proof.Gen.SumdKernelIdeal.Value
public import proofs.«01_k».proof.Proof.Gen.SumdReferenceIdeal.Run
public import proofs.«01_k».proof.Proof.SumdClaim
public import proofs.«01_k».proof.Proof.Gen.HgrnbKernel.Frame
public import proofs.«01_k».proof.Proof.Gen.HgrnbKernelIdeal.Frame
public import Idealize.ShloMosaic.Adequacy
public import Idealize.ShloMosaic.Init

@[expose] public section

noncomputable section

namespace Cert.Proof

open Idealize.ShloMosaic Idealize.SL.Sem

theorem claim : Cert.Claim := ⟨Cert.LossKernel.Gen.facts, Cert.LossKernelIdeal.Gen.facts, Cert.LossReferenceIdeal.Gen.facts,
  Cert.AttnKernel.Gen.facts, Cert.AttnKernelIdeal.Gen.facts, Cert.AttnReferenceIdeal.Gen.facts,
  Cert.ConvKernel.Gen.facts, Cert.ConvKernelIdeal.Gen.facts, Cert.ConvReferenceIdeal.Gen.facts,
  Cert.MergeKernel.Gen.facts, Cert.MergeKernelIdeal.Gen.facts, Cert.MergeReferenceIdeal.Gen.facts,
  Cert.Ln1Kernel.Gen.facts, Cert.Ln1KernelIdeal.Gen.facts, Cert.Ln1ReferenceIdeal.Gen.facts,
  Cert.Ln2Kernel.Gen.facts, Cert.Ln2KernelIdeal.Gen.facts, Cert.Ln2ReferenceIdeal.Gen.facts,
  Cert.AttnfKernel.Gen.facts, Cert.AttnfKernelIdeal.Gen.facts, Cert.AttnfReferenceIdeal.Gen.facts,
  Cert.LbKernel.Gen.facts, Cert.LbKernelIdeal.Gen.facts, Cert.LbReferenceIdeal.Gen.facts,
  Cert.WolnKernel.Gen.facts, Cert.WolnKernelIdeal.Gen.facts, Cert.WolnReferenceIdeal.Gen.facts,
  Cert.DownlnKernel.Gen.facts, Cert.DownlnKernelIdeal.Gen.facts, Cert.DownlnReferenceIdeal.Gen.facts,
  Cert.UpKernel.Gen.facts, Cert.UpKernelIdeal.Gen.facts, Cert.UpReferenceIdeal.Gen.facts,
  Cert.MergefKernel.Gen.facts, Cert.MergefKernelIdeal.Gen.facts, Cert.MergefReferenceIdeal.Gen.facts,
  Cert.LbfKernel.Gen.facts, Cert.LbfKernelIdeal.Gen.facts, Cert.LbfReferenceIdeal.Gen.facts,
  Cert.InbKernel.Gen.facts, Cert.InbKernelIdeal.Gen.facts, Cert.InbReferenceIdeal.Gen.facts,
  Cert.GupKernel.Gen.facts, Cert.GupKernelIdeal.Gen.facts, Cert.GupReferenceIdeal.Gen.facts,
  Cert.MemkvKernel.Gen.facts, Cert.MemkvKernelIdeal.Gen.facts, Cert.MemkvReferenceIdeal.Gen.facts,
  Cert.AdamsKernel.Gen.facts, Cert.AdamsKernelIdeal.Gen.facts, Cert.AdamsReferenceIdeal.Gen.facts,
  Cert.AdamcKernel.Gen.facts, Cert.AdamcKernelIdeal.Gen.facts, Cert.AdamcReferenceIdeal.Gen.facts,
  Cert.AdamgKernel.Gen.facts, Cert.AdamgKernelIdeal.Gen.facts, Cert.AdamgReferenceIdeal.Gen.facts,
  Cert.AdamlKernel.Gen.facts, Cert.AdamlKernelIdeal.Gen.facts, Cert.AdamlReferenceIdeal.Gen.facts,
  Cert.AdamwKernel.Gen.facts, Cert.AdamwKernelIdeal.Gen.facts, Cert.AdamwReferenceIdeal.Gen.facts,
  Cert.AdamuKernel.Gen.facts, Cert.AdamuKernelIdeal.Gen.facts, Cert.AdamuReferenceIdeal.Gen.facts,
  Cert.AdambKernel.Gen.facts, Cert.AdambKernelIdeal.Gen.facts, Cert.AdambReferenceIdeal.Gen.facts,
  Cert.SumdKernel.Gen.facts, Cert.SumdKernelIdeal.Gen.facts, Cert.SumdReferenceIdeal.Gen.facts,
  Cert.HgrnbKernel.Gen.facts, Cert.HgrnbKernelIdeal.Gen.facts,
  pre_attn,
  pre_ln1,
  pre_ln2,
  pre_lb,
  frame_loss, frame_lossIdeal, frame_lossReference,
  frame_attn, frame_attnIdeal, frame_attnIdeal_pre, frame_attnReference, frame_attnReference_pre,
  frame_conv, frame_convIdeal, frame_convReference,
  frame_merge, frame_mergeIdeal, frame_mergeReference,
  frame_ln1, frame_ln1Ideal, frame_ln1Ideal_pre, frame_ln1Reference, frame_ln1Reference_pre,
  frame_ln2, frame_ln2Ideal, frame_ln2Ideal_pre, frame_ln2Reference, frame_ln2Reference_pre,
  frame_attnf, frame_attnfIdeal, frame_attnfReference,
  frame_lb, frame_lbIdeal, frame_lbIdeal_pre, frame_lbReference, frame_lbReference_pre,
  frame_woln, frame_wolnIdeal, frame_wolnReference,
  frame_downln, frame_downlnIdeal, frame_downlnReference,
  frame_up, frame_upIdeal, frame_upReference,
  frame_mergef, frame_mergefIdeal, frame_mergefReference,
  frame_lbf, frame_lbfIdeal, frame_lbfReference,
  frame_inb, frame_inbIdeal, frame_inbReference,
  frame_gup, frame_gupIdeal, frame_gupReference,
  frame_memkv, frame_memkvIdeal, frame_memkvReference,
  frame_adams, frame_adamsIdeal, frame_adamsReference,
  frame_adamc, frame_adamcIdeal, frame_adamcReference,
  frame_adamg, frame_adamgIdeal, frame_adamgReference,
  frame_adaml, frame_adamlIdeal, frame_adamlReference,
  frame_adamw, frame_adamwIdeal, frame_adamwReference,
  frame_adamu, frame_adamuIdeal, frame_adamuReference,
  frame_adamb, frame_adambIdeal, frame_adambReference,
  frame_sumd, frame_sumdIdeal, frame_sumdReference,
  fun m ρ _ => Cert.HgrnbKernel.Gen.frame m ρ, fun m ρ _ => Cert.HgrnbKernelIdeal.Gen.frame m ρ,
  (trivial : preserves_LossKernel_LossKernelIdeal), algebraic_loss,
  (trivial : preserves_AttnKernel_AttnKernelIdeal), algebraic_attn,
  (trivial : preserves_ConvKernel_ConvKernelIdeal), algebraic_conv,
  (trivial : preserves_MergeKernel_MergeKernelIdeal), algebraic_merge,
  (trivial : preserves_Ln1Kernel_Ln1KernelIdeal), algebraic_ln1,
  (trivial : preserves_Ln2Kernel_Ln2KernelIdeal), algebraic_ln2,
  (trivial : preserves_AttnfKernel_AttnfKernelIdeal), algebraic_attnf,
  (trivial : preserves_LbKernel_LbKernelIdeal), algebraic_lb,
  (trivial : preserves_WolnKernel_WolnKernelIdeal), algebraic_woln,
  (trivial : preserves_DownlnKernel_DownlnKernelIdeal), algebraic_downln,
  (trivial : preserves_UpKernel_UpKernelIdeal), algebraic_up,
  (trivial : preserves_MergefKernel_MergefKernelIdeal), algebraic_mergef,
  (trivial : preserves_LbfKernel_LbfKernelIdeal), algebraic_lbf,
  (trivial : preserves_InbKernel_InbKernelIdeal), algebraic_inb,
  (trivial : preserves_GupKernel_GupKernelIdeal), algebraic_gup,
  (trivial : preserves_MemkvKernel_MemkvKernelIdeal), algebraic_memkv,
  (trivial : preserves_AdamsKernel_AdamsKernelIdeal), algebraic_adams,
  (trivial : preserves_AdamcKernel_AdamcKernelIdeal), algebraic_adamc,
  (trivial : preserves_AdamgKernel_AdamgKernelIdeal), algebraic_adamg,
  (trivial : preserves_AdamlKernel_AdamlKernelIdeal), algebraic_adaml,
  (trivial : preserves_AdamwKernel_AdamwKernelIdeal), algebraic_adamw,
  (trivial : preserves_AdamuKernel_AdamuKernelIdeal), algebraic_adamu,
  (trivial : preserves_AdambKernel_AdambKernelIdeal), algebraic_adamb,
  (trivial : preserves_SumdKernel_SumdKernelIdeal), algebraic_sumd,
  (trivial : preserves_HgrnbKernel_HgrnbKernelIdeal)⟩

end Cert.Proof

end
